-- ==== Defs.lean ====
def Pre_ConvIn (m : (ℓ : Loc Cert.ConvIn.nD Cert.ConvIn.τ Cert.ConvIn.sig) → Buf (Elt Bits) ℓ) : Prop :=
  True

def Pre_ConvInIdeal (m : (ℓ : Loc Cert.ConvInIdeal.nD Cert.ConvInIdeal.τ Cert.ConvInIdeal.sig) → Buf (Elt Ideal) ℓ) : Prop :=
  True

def Pre_ConvInRefIdeal (m : (ℓ : Loc Cert.ConvInRefIdeal.nD Cert.ConvInRefIdeal.τ Cert.ConvInRefIdeal.sig) → Buf (Elt Ideal) ℓ) : Prop :=
  True

def Pre_UpWeight (m : (ℓ : Loc Cert.UpWeight.nD Cert.UpWeight.τ Cert.UpWeight.sig) → Buf (Elt Bits) ℓ) : Prop :=
  True

def Pre_UpWeightIdeal (m : (ℓ : Loc Cert.UpWeightIdeal.nD Cert.UpWeightIdeal.τ Cert.UpWeightIdeal.sig) → Buf (Elt Ideal) ℓ) : Prop :=
  True

def Pre_UpWeightRefIdeal (m : (ℓ : Loc Cert.UpWeightRefIdeal.nD Cert.UpWeightRefIdeal.τ Cert.UpWeightRefIdeal.sig) → Buf (Elt Ideal) ℓ) : Prop :=
  True

def Pre_DownWeight (m : (ℓ : Loc Cert.DownWeight.nD Cert.DownWeight.τ Cert.DownWeight.sig) → Buf (Elt Bits) ℓ) : Prop :=
  True

def Pre_DownWeightIdeal (m : (ℓ : Loc Cert.DownWeightIdeal.nD Cert.DownWeightIdeal.τ Cert.DownWeightIdeal.sig) → Buf (Elt Ideal) ℓ) : Prop :=
  True

def Pre_DownWeightRefIdeal (m : (ℓ : Loc Cert.DownWeightRefIdeal.nD Cert.DownWeightRefIdeal.τ Cert.DownWeightRefIdeal.sig) → Buf (Elt Ideal) ℓ) : Prop :=
  True

def Pre_DownInput (m : (ℓ : Loc Cert.DownInput.nD Cert.DownInput.τ Cert.DownInput.sig) → Buf (Elt Bits) ℓ) : Prop :=
  True

def Pre_DownInputIdeal (m : (ℓ : Loc Cert.DownInputIdeal.nD Cert.DownInputIdeal.τ Cert.DownInputIdeal.sig) → Buf (Elt Ideal) ℓ) : Prop :=
  True

def Pre_DownInputRefIdeal (m : (ℓ : Loc Cert.DownInputRefIdeal.nD Cert.DownInputRefIdeal.τ Cert.DownInputRefIdeal.sig) → Buf (Elt Ideal) ℓ) : Prop :=
  True

def Pre_UpInput (m : (ℓ : Loc Cert.UpInput.nD Cert.UpInput.τ Cert.UpInput.sig) → Buf (Elt Bits) ℓ) : Prop :=
  True

def Pre_UpInputIdeal (m : (ℓ : Loc Cert.UpInputIdeal.nD Cert.UpInputIdeal.τ Cert.UpInputIdeal.sig) → Buf (Elt Ideal) ℓ) : Prop :=
  True

def Pre_UpInputRefIdeal (m : (ℓ : Loc Cert.UpInputRefIdeal.nD Cert.UpInputRefIdeal.τ Cert.UpInputRefIdeal.sig) → Buf (Elt Ideal) ℓ) : Prop :=
  True

def Pre_UpInputSum (m : (ℓ : Loc Cert.UpInputSum.nD Cert.UpInputSum.τ Cert.UpInputSum.sig) → Buf (Elt Bits) ℓ) : Prop :=
  True

def Pre_UpInputSumIdeal (m : (ℓ : Loc Cert.UpInputSumIdeal.nD Cert.UpInputSumIdeal.τ Cert.UpInputSumIdeal.sig) → Buf (Elt Ideal) ℓ) : Prop :=
  True

def Pre_UpInputSumRefIdeal (m : (ℓ : Loc Cert.UpInputSumRefIdeal.nD Cert.UpInputSumRefIdeal.τ Cert.UpInputSumRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_ProjInput (m : (ℓ : Loc Cert.ProjInput.nD Cert.ProjInput.τ Cert.ProjInput.sig) → Buf (Elt Bits) ℓ) : Prop :=
  True

def Pre_ProjInputIdeal (m : (ℓ : Loc Cert.ProjInputIdeal.nD Cert.ProjInputIdeal.τ Cert.ProjInputIdeal.sig) → Buf (Elt Ideal) ℓ) : Prop :=
  True

def Pre_ProjInputRefIdeal (m : (ℓ : Loc Cert.ProjInputRefIdeal.nD Cert.ProjInputRefIdeal.τ Cert.ProjInputRefIdeal.sig) → Buf (Elt Ideal) ℓ) : Prop :=
  True

def Pre_ProjWeight (m : (ℓ : Loc Cert.ProjWeight.nD Cert.ProjWeight.τ Cert.ProjWeight.sig) → Buf (Elt Bits) ℓ) : Prop :=
  True

def Pre_ProjWeightIdeal (m : (ℓ : Loc Cert.ProjWeightIdeal.nD Cert.ProjWeightIdeal.τ Cert.ProjWeightIdeal.sig) → Buf (Elt Ideal) ℓ) : Prop :=
  True

def Pre_ProjWeightRefIdeal (m : (ℓ : Loc Cert.ProjWeightRefIdeal.nD Cert.ProjWeightRefIdeal.τ Cert.ProjWeightRefIdeal.sig) → Buf (Elt Ideal) ℓ) : Prop :=
  True

def Pre_OutInput (m : (ℓ : Loc Cert.OutInput.nD Cert.OutInput.τ Cert.OutInput.sig) → Buf (Elt Bits) ℓ) : Prop :=
  True

def Pre_OutInputIdeal (m : (ℓ : Loc Cert.OutInputIdeal.nD Cert.OutInputIdeal.τ Cert.OutInputIdeal.sig) → Buf (Elt Ideal) ℓ) : Prop :=
  True

def Pre_OutInputRefIdeal (m : (ℓ : Loc Cert.OutInputRefIdeal.nD Cert.OutInputRefIdeal.τ Cert.OutInputRefIdeal.sig) → Buf (Elt Ideal) ℓ) : Prop :=
  True

def Pre_OutWeight (m : (ℓ : Loc Cert.OutWeight.nD Cert.OutWeight.τ Cert.OutWeight.sig) → Buf (Elt Bits) ℓ) : Prop :=
  True

def Pre_OutWeightIdeal (m : (ℓ : Loc Cert.OutWeightIdeal.nD Cert.OutWeightIdeal.τ Cert.OutWeightIdeal.sig) → Buf (Elt Ideal) ℓ) : Prop :=
  True

def Pre_OutWeightRefIdeal (m : (ℓ : Loc Cert.OutWeightRefIdeal.nD Cert.OutWeightRefIdeal.τ Cert.OutWeightRefIdeal.sig) → Buf (Elt Ideal) ℓ) : Prop :=
  True

def Pre_ProjConv (m : (ℓ : Loc Cert.ProjConv.nD Cert.ProjConv.τ Cert.ProjConv.sig) → Buf (Elt Bits) ℓ) : Prop :=
  True

def Pre_ProjConvIdeal (m : (ℓ : Loc Cert.ProjConvIdeal.nD Cert.ProjConvIdeal.τ Cert.ProjConvIdeal.sig) → Buf (Elt Ideal) ℓ) : Prop :=
  True

def Pre_ProjConvRefIdeal (m : (ℓ : Loc Cert.ProjConvRefIdeal.nD Cert.ProjConvRefIdeal.τ Cert.ProjConvRefIdeal.sig) → Buf (Elt Ideal) ℓ) : Prop :=
  True

def Pre_ProjQkv (m : (ℓ : Loc Cert.ProjQkv.nD Cert.ProjQkv.τ Cert.ProjQkv.sig) → Buf (Elt Bits) ℓ) : Prop :=
  True

def Pre_ProjQkvIdeal (m : (ℓ : Loc Cert.ProjQkvIdeal.nD Cert.ProjQkvIdeal.τ Cert.ProjQkvIdeal.sig) → Buf (Elt Ideal) ℓ) : Prop :=
  True

def Pre_ProjQkvRefIdeal (m : (ℓ : Loc Cert.ProjQkvRefIdeal.nD Cert.ProjQkvRefIdeal.τ Cert.ProjQkvRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_ConvOutInput (m : (ℓ : Loc Cert.ConvOutInput.nD Cert.ConvOutInput.τ Cert.ConvOutInput.sig) → Buf (Elt Bits) ℓ) : Prop :=
  True

def Pre_ConvOutInputIdeal (m : (ℓ : Loc Cert.ConvOutInputIdeal.nD Cert.ConvOutInputIdeal.τ Cert.ConvOutInputIdeal.sig) → Buf (Elt Ideal) ℓ) : Prop :=
  True

def Pre_ConvOutInputRefIdeal (m : (ℓ : Loc Cert.ConvOutInputRefIdeal.nD Cert.ConvOutInputRefIdeal.τ Cert.ConvOutInputRefIdeal.sig) → Buf (Elt Ideal) ℓ) : Prop :=
  True

def Pre_AttnOutInput (m : (ℓ : Loc Cert.AttnOutInput.nD Cert.AttnOutInput.τ Cert.AttnOutInput.sig) → Buf (Elt Bits) ℓ) : Prop :=
  True

def Pre_AttnOutInputIdeal (m : (ℓ : Loc Cert.AttnOutInputIdeal.nD Cert.AttnOutInputIdeal.τ Cert.AttnOutInputIdeal.sig) → Buf (Elt Ideal) ℓ) : Prop :=
  True

def Pre_AttnOutInputRefIdeal (m : (ℓ : Loc Cert.AttnOutInputRefIdeal.nD Cert.AttnOutInputRefIdeal.τ Cert.AttnOutInputRefIdeal.sig) → Buf (Elt Ideal) ℓ) : Prop :=
  True

def Pre_ConvOutWeight (m : (ℓ : Loc Cert.ConvOutWeight.nD Cert.ConvOutWeight.τ Cert.ConvOutWeight.sig) → Buf (Elt Bits) ℓ) : Prop :=
  True

def Pre_ConvOutWeightIdeal (m : (ℓ : Loc Cert.ConvOutWeightIdeal.nD Cert.ConvOutWeightIdeal.τ Cert.ConvOutWeightIdeal.sig) → Buf (Elt Ideal) ℓ) : Prop :=
  True

def Pre_ConvOutWeightRefIdeal (m : (ℓ : Loc Cert.ConvOutWeightRefIdeal.nD Cert.ConvOutWeightRefIdeal.τ Cert.ConvOutWeightRefIdeal.sig) → Buf (Elt Ideal) ℓ) : Prop :=
  True

def Pre_AttnOutWeight (m : (ℓ : Loc Cert.AttnOutWeight.nD Cert.AttnOutWeight.τ Cert.AttnOutWeight.sig) → Buf (Elt Bits) ℓ) : Prop :=
  True

def Pre_AttnOutWeightIdeal (m : (ℓ : Loc Cert.AttnOutWeightIdeal.nD Cert.AttnOutWeightIdeal.τ Cert.AttnOutWeightIdeal.sig) → Buf (Elt Ideal) ℓ) : Prop :=
  True

def Pre_AttnOutWeightRefIdeal (m : (ℓ : Loc Cert.AttnOutWeightRefIdeal.nD Cert.AttnOutWeightRefIdeal.τ Cert.AttnOutWeightRefIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RmsBwdRefIdeal (m : (ℓ : Loc Cert.RmsBwdRefIdeal.nD Cert.RmsBwdRefIdeal.τ Cert.RmsBwdRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_UpdateShard (m : (ℓ : Loc Cert.UpdateShard.nD Cert.UpdateShard.τ Cert.UpdateShard.sig) → Buf (Elt Bits) ℓ) : Prop :=
  True

def Pre_UpdateShardIdeal (m : (ℓ : Loc Cert.UpdateShardIdeal.nD Cert.UpdateShardIdeal.τ Cert.UpdateShardIdeal.sig) → Buf (Elt Ideal) ℓ) : Prop :=
  True

def Pre_UpdateShardRefIdeal (m : (ℓ : Loc Cert.UpdateShardRefIdeal.nD Cert.UpdateShardRefIdeal.τ Cert.UpdateShardRefIdeal.sig) → Buf (Elt Ideal) ℓ) : Prop :=
  True

def Pre_UpdateWhole (m : (ℓ : Loc Cert.UpdateWhole.nD Cert.UpdateWhole.τ Cert.UpdateWhole.sig) → Buf (Elt Bits) ℓ) : Prop :=
  True

def Pre_UpdateWholeIdeal (m : (ℓ : Loc Cert.UpdateWholeIdeal.nD Cert.UpdateWholeIdeal.τ Cert.UpdateWholeIdeal.sig) → Buf (Elt Ideal) ℓ) : Prop :=
  True

def Pre_UpdateWholeRefIdeal (m : (ℓ : Loc Cert.UpdateWholeRefIdeal.nD Cert.UpdateWholeRefIdeal.τ Cert.UpdateWholeRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_PoolBwd (m : (ℓ : Loc Cert.PoolBwd.nD Cert.PoolBwd.τ Cert.PoolBwd.sig) → Buf (Elt Bits) ℓ) : Prop :=
  True

def Pre_PoolBwdIdeal (m : (ℓ : Loc Cert.PoolBwdIdeal.nD Cert.PoolBwdIdeal.τ Cert.PoolBwdIdeal.sig) → Buf (Elt Ideal) ℓ) : Prop :=
  True

def Pre_PoolBwdRefIdeal (m : (ℓ : Loc Cert.PoolBwdRefIdeal.nD Cert.PoolBwdRefIdeal.τ Cert.PoolBwdRefIdeal.sig) → Buf (Elt Ideal) ℓ) : Prop :=
  True

def Pre_PoolFwd (m : (ℓ : Loc Cert.PoolFwd.nD Cert.PoolFwd.τ Cert.PoolFwd.sig) → Buf (Elt Bits) ℓ) : Prop :=
  True

def Pre_PoolFwdIdeal (m : (ℓ : Loc Cert.PoolFwdIdeal.nD Cert.PoolFwdIdeal.τ Cert.PoolFwdIdeal.sig) → Buf (Elt Ideal) ℓ) : Prop :=
  True

def Pre_PoolFwdRefIdeal (m : (ℓ : Loc Cert.PoolFwdRefIdeal.nD Cert.PoolFwdRefIdeal.τ Cert.PoolFwdRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def quiescent_ConvIn [hConvIn : Cert.ConvIn.Facts] : Prop :=
  ∀ (m : (ℓ : Loc Cert.ConvIn.nD Cert.ConvIn.τ Cert.ConvIn.sig) → Buf (Elt Bits) ℓ) (g : Dev Cert.ConvIn.nD → PrngReg), Pre_ConvIn m →
    θ_run (Cert.ConvIn.defs (F := Bits)) (onTc (τ := Cert.ConvIn.τ) (Cert.ConvIn.main (F := Bits))) ⟨m, fun _ => 0, g⟩ (fun r => (∀ c : Dev Cert.ConvIn.nD,
      r.2.mem ((c.tc : Thread Cert.ConvIn.nD Cert.ConvIn.τ).loc Cert.ConvIn.main_arg0) = m ((c.tc : Thread Cert.ConvIn.nD Cert.ConvIn.τ).loc Cert.ConvIn.main_arg0)
      ∧ r.2.mem ((c.tc : Thread Cert.ConvIn.nD Cert.ConvIn.τ).loc Cert.ConvIn.main_arg1) = m ((c.tc : Thread Cert.ConvIn.nD Cert.ConvIn.τ).loc Cert.ConvIn.main_arg1)
      ∧ r.2.mem ((c.tc : Thread Cert.ConvIn.nD Cert.ConvIn.τ).loc Cert.ConvIn.main_arg2) = m ((c.tc : Thread Cert.ConvIn.nD Cert.ConvIn.τ).loc Cert.ConvIn.main_arg2))
      ∧ r.2.sem = fun _ => 0)

def quiescent_ConvInIdeal [hConvInIdeal : Cert.ConvInIdeal.Facts] : Prop :=
  ∀ (m : (ℓ : Loc Cert.ConvInIdeal.nD Cert.ConvInIdeal.τ Cert.ConvInIdeal.sig) → Buf (Elt Ideal) ℓ) (g : Dev Cert.ConvInIdeal.nD → PrngReg), Pre_ConvInIdeal m →
    θ_run (Cert.ConvInIdeal.defs (F := Ideal)) (onTc (τ := Cert.ConvInIdeal.τ) (Cert.ConvInIdeal.main (F := Ideal))) ⟨m, fun _ => 0, g⟩ (fun r => (∀ c : Dev Cert.ConvInIdeal.nD,
      r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
      ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1)
      ∧ r.2.mem ((c.tc : Thread Cert.ConvInIdeal.nD Cert.ConvInIdeal.τ).loc Cert.ConvInIdeal.main_arg2) = m ((c.tc : Thread Cert.ConvInIdeal.nD Cert.ConvInIdeal.τ).loc Cert.ConvInIdeal.main_arg2))
      ∧ r.2.sem = fun _ => 0)

def quiescent_ConvInRefIdeal [hConvInRefIdeal : Cert.ConvInRefIdeal.Facts] : Prop :=
  ∀ (m : (ℓ : Loc Cert.ConvInRefIdeal.nD Cert.ConvInRefIdeal.τ Cert.ConvInRefIdeal.sig) → Buf (Elt Ideal) ℓ) (g : Dev Cert.ConvInRefIdeal.nD → PrngReg), Pre_ConvInRefIdeal m →
    θ_run (Cert.ConvInRefIdeal.defs (F := Ideal)) (onTc (τ := Cert.ConvInRefIdeal.τ) (Cert.ConvInRefIdeal.main (F := Ideal))) ⟨m, fun _ => 0, g⟩ (fun r => (∀ c : Dev Cert.ConvInRefIdeal.nD,
      r.2.mem ((c.tc : Thread Cert.ConvInRefIdeal.nD Cert.ConvInRefIdeal.τ).loc Cert.ConvInRefIdeal.main_arg0) = m ((c.tc : Thread Cert.ConvInRefIdeal.nD Cert.ConvInRefIdeal.τ).loc Cert.ConvInRefIdeal.main_arg0)
      ∧ r.2.mem ((c.tc : Thread Cert.ConvInRefIdeal.nD Cert.ConvInRefIdeal.τ).loc Cert.ConvInRefIdeal.main_arg1) = m ((c.tc : Thread Cert.ConvInRefIdeal.nD Cert.ConvInRefIdeal.τ).loc Cert.ConvInRefIdeal.main_arg1)
      ∧ r.2.mem ((c.tc : Thread Cert.ConvInRefIdeal.nD Cert.ConvInRefIdeal.τ).loc Cert.ConvInRefIdeal.main_arg2) = m ((c.tc : Thread Cert.ConvInRefIdeal.nD Cert.ConvInRefIdeal.τ).loc Cert.ConvInRefIdeal.main_arg2))
      ∧ r.2.sem = fun _ => 0)

def quiescent_UpWeight [hUpWeight : Cert.UpWeight.Facts] : Prop :=
  ∀ (m : (ℓ : Loc Cert.UpWeight.nD Cert.UpWeight.τ Cert.UpWeight.sig) → Buf (Elt Bits) ℓ) (g : Dev Cert.UpWeight.nD → PrngReg), Pre_UpWeight m →
    θ_run (Cert.UpWeight.defs (F := Bits)) (onTc (τ := Cert.UpWeight.τ) (Cert.UpWeight.main (F := Bits))) ⟨m, fun _ => 0, g⟩ (fun r => (∀ c : Dev Cert.UpWeight.nD,
      r.2.mem ((c.tc : Thread Cert.UpWeight.nD Cert.UpWeight.τ).loc Cert.UpWeight.main_arg0) = m ((c.tc : Thread Cert.UpWeight.nD Cert.UpWeight.τ).loc Cert.UpWeight.main_arg0)
      ∧ r.2.mem ((c.tc : Thread Cert.UpWeight.nD Cert.UpWeight.τ).loc Cert.UpWeight.main_arg1) = m ((c.tc : Thread Cert.UpWeight.nD Cert.UpWeight.τ).loc Cert.UpWeight.main_arg1))
      ∧ r.2.sem = fun _ => 0)

def quiescent_UpWeightIdeal [hUpWeightIdeal : Cert.UpWeightIdeal.Facts] : Prop :=
  ∀ (m : (ℓ : Loc Cert.UpWeightIdeal.nD Cert.UpWeightIdeal.τ Cert.UpWeightIdeal.sig) → Buf (Elt Ideal) ℓ) (g : Dev Cert.UpWeightIdeal.nD → PrngReg), Pre_UpWeightIdeal m →
    θ_run (Cert.UpWeightIdeal.defs (F := Ideal)) (onTc (τ := Cert.UpWeightIdeal.τ) (Cert.UpWeightIdeal.main (F := Ideal))) ⟨m, fun _ => 0, g⟩ (fun r => (∀ c : Dev Cert.UpWeightIdeal.nD,
      r.2.mem ((c.tc : Thread Cert.UpWeightIdeal.nD Cert.UpWeightIdeal.τ).loc Cert.UpWeightIdeal.main_arg0) = m ((c.tc : Thread Cert.UpWeightIdeal.nD Cert.UpWeightIdeal.τ).loc Cert.UpWeightIdeal.main_arg0)
      ∧ r.2.mem ((c.tc : Thread Cert.UpWeightIdeal.nD Cert.UpWeightIdeal.τ).loc Cert.UpWeightIdeal.main_arg1) = m ((c.tc : Thread Cert.UpWeightIdeal.nD Cert.UpWeightIdeal.τ).loc Cert.UpWeightIdeal.main_arg1))
      ∧ r.2.sem = fun _ => 0)

def quiescent_UpWeightRefIdeal [hUpWeightRefIdeal : Cert.UpWeightRefIdeal.Facts] : Prop :=
  ∀ (m : (ℓ : Loc Cert.UpWeightRefIdeal.nD Cert.UpWeightRefIdeal.τ Cert.UpWeightRefIdeal.sig) → Buf (Elt Ideal) ℓ) (g : Dev Cert.UpWeightRefIdeal.nD → PrngReg), Pre_UpWeightRefIdeal m →
    θ_run (Cert.UpWeightRefIdeal.defs (F := Ideal)) (onTc (τ := Cert.UpWeightRefIdeal.τ) (Cert.UpWeightRefIdeal.main (F := Ideal))) ⟨m, fun _ => 0, g⟩ (fun r => (∀ c : Dev Cert.UpWeightRefIdeal.nD,
      r.2.mem ((c.tc : Thread Cert.UpWeightRefIdeal.nD Cert.UpWeightRefIdeal.τ).loc Cert.UpWeightRefIdeal.main_arg0) = m ((c.tc : Thread Cert.UpWeightRefIdeal.nD Cert.UpWeightRefIdeal.τ).loc Cert.UpWeightRefIdeal.main_arg0)
      ∧ r.2.mem ((c.tc : Thread Cert.UpWeightRefIdeal.nD Cert.UpWeightRefIdeal.τ).loc Cert.UpWeightRefIdeal.main_arg1) = m ((c.tc : Thread Cert.UpWeightRefIdeal.nD Cert.UpWeightRefIdeal.τ).loc Cert.UpWeightRefIdeal.main_arg1))
      ∧ r.2.sem = fun _ => 0)

def quiescent_DownWeight [hDownWeight : Cert.DownWeight.Facts] : Prop :=
  ∀ (m : (ℓ : Loc Cert.DownWeight.nD Cert.DownWeight.τ Cert.DownWeight.sig) → Buf (Elt Bits) ℓ) (g : Dev Cert.DownWeight.nD → PrngReg), Pre_DownWeight m →
    θ_run (Cert.DownWeight.defs (F := Bits)) (onTc (τ := Cert.DownWeight.τ) (Cert.DownWeight.main (F := Bits))) ⟨m, fun _ => 0, g⟩ (fun r => (∀ c : Dev Cert.DownWeight.nD,
      r.2.mem ((c.tc : Thread Cert.DownWeight.nD Cert.DownWeight.τ).loc Cert.DownWeight.main_arg0) = m ((c.tc : Thread Cert.DownWeight.nD Cert.DownWeight.τ).loc Cert.DownWeight.main_arg0)
      ∧ r.2.mem ((c.tc : Thread Cert.DownWeight.nD Cert.DownWeight.τ).loc Cert.DownWeight.main_arg1) = m ((c.tc : Thread Cert.DownWeight.nD Cert.DownWeight.τ).loc Cert.DownWeight.main_arg1))
      ∧ r.2.sem = fun _ => 0)

def quiescent_DownWeightIdeal [hDownWeightIdeal : Cert.DownWeightIdeal.Facts] : Prop :=
  ∀ (m : (ℓ : Loc Cert.DownWeightIdeal.nD Cert.DownWeightIdeal.τ Cert.DownWeightIdeal.sig) → Buf (Elt Ideal) ℓ) (g : Dev Cert.DownWeightIdeal.nD → PrngReg), Pre_DownWeightIdeal m →
    θ_run (Cert.DownWeightIdeal.defs (F := Ideal)) (onTc (τ := Cert.DownWeightIdeal.τ) (Cert.DownWeightIdeal.main (F := Ideal))) ⟨m, fun _ => 0, g⟩ (fun r => (∀ c : Dev Cert.DownWeightIdeal.nD,
      r.2.mem ((c.tc : Thread Cert.DownWeightIdeal.nD Cert.DownWeightIdeal.τ).loc Cert.DownWeightIdeal.main_arg0) = m ((c.tc : Thread Cert.DownWeightIdeal.nD Cert.DownWeightIdeal.τ).loc Cert.DownWeightIdeal.main_arg0)
      ∧ r.2.mem ((c.tc : Thread Cert.DownWeightIdeal.nD Cert.DownWeightIdeal.τ).loc Cert.DownWeightIdeal.main_arg1) = m ((c.tc : Thread Cert.DownWeightIdeal.nD Cert.DownWeightIdeal.τ).loc Cert.DownWeightIdeal.main_arg1))
      ∧ r.2.sem = fun _ => 0)

def quiescent_DownWeightRefIdeal [hDownWeightRefIdeal : Cert.DownWeightRefIdeal.Facts] : Prop :=
  ∀ (m : (ℓ : Loc Cert.DownWeightRefIdeal.nD Cert.DownWeightRefIdeal.τ Cert.DownWeightRefIdeal.sig) → Buf (Elt Ideal) ℓ) (g : Dev Cert.DownWeightRefIdeal.nD → PrngReg), Pre_DownWeightRefIdeal m →
    θ_run (Cert.DownWeightRefIdeal.defs (F := Ideal)) (onTc (τ := Cert.DownWeightRefIdeal.τ) (Cert.DownWeightRefIdeal.main (F := Ideal))) ⟨m, fun _ => 0, g⟩ (fun r => (∀ c : Dev Cert.DownWeightRefIdeal.nD,
      r.2.mem ((c.tc : Thread Cert.DownWeightRefIdeal.nD Cert.DownWeightRefIdeal.τ).loc Cert.DownWeightRefIdeal.main_arg0) = m ((c.tc : Thread Cert.DownWeightRefIdeal.nD Cert.DownWeightRefIdeal.τ).loc Cert.DownWeightRefIdeal.main_arg0)
      ∧ r.2.mem ((c.tc : Thread Cert.DownWeightRefIdeal.nD Cert.DownWeightRefIdeal.τ).loc Cert.DownWeightRefIdeal.main_arg1) = m ((c.tc : Thread Cert.DownWeightRefIdeal.nD Cert.DownWeightRefIdeal.τ).loc Cert.DownWeightRefIdeal.main_arg1))
      ∧ r.2.sem = fun _ => 0)

def quiescent_DownInput [hDownInput : Cert.DownInput.Facts] : Prop :=
  ∀ (m : (ℓ : Loc Cert.DownInput.nD Cert.DownInput.τ Cert.DownInput.sig) → Buf (Elt Bits) ℓ) (g : Dev Cert.DownInput.nD → PrngReg), Pre_DownInput m →
    θ_run (Cert.DownInput.defs (F := Bits)) (onTc (τ := Cert.DownInput.τ) (Cert.DownInput.main (F := Bits))) ⟨m, fun _ => 0, g⟩ (fun r => (∀ c : Dev Cert.DownInput.nD,
      r.2.mem ((c.tc : Thread Cert.DownInput.nD Cert.DownInput.τ).loc Cert.DownInput.main_arg0) = m ((c.tc : Thread Cert.DownInput.nD Cert.DownInput.τ).loc Cert.DownInput.main_arg0)
      ∧ r.2.mem ((c.tc : Thread Cert.DownInput.nD Cert.DownInput.τ).loc Cert.DownInput.main_arg1) = m ((c.tc : Thread Cert.DownInput.nD Cert.DownInput.τ).loc Cert.DownInput.main_arg1))
      ∧ r.2.sem = fun _ => 0)

def quiescent_DownInputIdeal [hDownInputIdeal : Cert.DownInputIdeal.Facts] : Prop :=
  ∀ (m : (ℓ : Loc Cert.DownInputIdeal.nD Cert.DownInputIdeal.τ Cert.DownInputIdeal.sig) → Buf (Elt Ideal) ℓ) (g : Dev Cert.DownInputIdeal.nD → PrngReg), Pre_DownInputIdeal m →
    θ_run (Cert.DownInputIdeal.defs (F := Ideal)) (onTc (τ := Cert.DownInputIdeal.τ) (Cert.DownInputIdeal.main (F := Ideal))) ⟨m, fun _ => 0, g⟩ (fun r => (∀ c : Dev Cert.DownInputIdeal.nD,
      r.2.mem ((c.tc : Thread Cert.DownInputIdeal.nD Cert.DownInputIdeal.τ).loc Cert.DownInputIdeal.main_arg0) = m ((c.tc : Thread Cert.DownInputIdeal.nD Cert.DownInputIdeal.τ).loc Cert.DownInputIdeal.main_arg0)
      ∧ r.2.mem ((c.tc : Thread Cert.DownInputIdeal.nD Cert.DownInputIdeal.τ).loc Cert.DownInputIdeal.main_arg1) = m ((c.tc : Thread Cert.DownInputIdeal.nD Cert.DownInputIdeal.τ).loc Cert.DownInputIdeal.main_arg1))
      ∧ r.2.sem = fun _ => 0)

def quiescent_DownInputRefIdeal [hDownInputRefIdeal : Cert.DownInputRefIdeal.Facts] : Prop :=
  ∀ (m : (ℓ : Loc Cert.DownInputRefIdeal.nD Cert.DownInputRefIdeal.τ Cert.DownInputRefIdeal.sig) → Buf (Elt Ideal) ℓ) (g : Dev Cert.DownInputRefIdeal.nD → PrngReg), Pre_DownInputRefIdeal m →
    θ_run (Cert.DownInputRefIdeal.defs (F := Ideal)) (onTc (τ := Cert.DownInputRefIdeal.τ) (Cert.DownInputRefIdeal.main (F := Ideal))) ⟨m, fun _ => 0, g⟩ (fun r => (∀ c : Dev Cert.DownInputRefIdeal.nD,
      r.2.mem ((c.tc : Thread Cert.DownInputRefIdeal.nD Cert.DownInputRefIdeal.τ).loc Cert.DownInputRefIdeal.main_arg0) = m ((c.tc : Thread Cert.DownInputRefIdeal.nD Cert.DownInputRefIdeal.τ).loc Cert.DownInputRefIdeal.main_arg0)
      ∧ r.2.mem ((c.tc : Thread Cert.DownInputRefIdeal.nD Cert.DownInputRefIdeal.τ).loc Cert.DownInputRefIdeal.main_arg1) = m ((c.tc : Thread Cert.DownInputRefIdeal.nD Cert.DownInputRefIdeal.τ).loc Cert.DownInputRefIdeal.main_arg1))
      ∧ r.2.sem = fun _ => 0)

def quiescent_UpInput [hUpInput : Cert.UpInput.Facts] : Prop :=
  ∀ (m : (ℓ : Loc Cert.UpInput.nD Cert.UpInput.τ Cert.UpInput.sig) → Buf (Elt Bits) ℓ) (g : Dev Cert.UpInput.nD → PrngReg), Pre_UpInput m →
    θ_run (Cert.UpInput.defs (F := Bits)) (onTc (τ := Cert.UpInput.τ) (Cert.UpInput.main (F := Bits))) ⟨m, fun _ => 0, g⟩ (fun r => (∀ c : Dev Cert.UpInput.nD,
      r.2.mem ((c.tc : Thread Cert.UpInput.nD Cert.UpInput.τ).loc Cert.UpInput.main_arg0) = m ((c.tc : Thread Cert.UpInput.nD Cert.UpInput.τ).loc Cert.UpInput.main_arg0)
      ∧ r.2.mem ((c.tc : Thread Cert.UpInput.nD Cert.UpInput.τ).loc Cert.UpInput.main_arg1) = m ((c.tc : Thread Cert.UpInput.nD Cert.UpInput.τ).loc Cert.UpInput.main_arg1))
      ∧ r.2.sem = fun _ => 0)

def quiescent_UpInputIdeal [hUpInputIdeal : Cert.UpInputIdeal.Facts] : Prop :=
  ∀ (m : (ℓ : Loc Cert.UpInputIdeal.nD Cert.UpInputIdeal.τ Cert.UpInputIdeal.sig) → Buf (Elt Ideal) ℓ) (g : Dev Cert.UpInputIdeal.nD → PrngReg), Pre_UpInputIdeal m →
    θ_run (Cert.UpInputIdeal.defs (F := Ideal)) (onTc (τ := Cert.UpInputIdeal.τ) (Cert.UpInputIdeal.main (F := Ideal))) ⟨m, fun _ => 0, g⟩ (fun r => (∀ c : Dev Cert.UpInputIdeal.nD,
      r.2.mem ((c.tc : Thread Cert.UpInputIdeal.nD Cert.UpInputIdeal.τ).loc Cert.UpInputIdeal.main_arg0) = m ((c.tc : Thread Cert.UpInputIdeal.nD Cert.UpInputIdeal.τ).loc Cert.UpInputIdeal.main_arg0)
      ∧ r.2.mem ((c.tc : Thread Cert.UpInputIdeal.nD Cert.UpInputIdeal.τ).loc Cert.UpInputIdeal.main_arg1) = m ((c.tc : Thread Cert.UpInputIdeal.nD Cert.UpInputIdeal.τ).loc Cert.UpInputIdeal.main_arg1))
      ∧ r.2.sem = fun _ => 0)

def quiescent_UpInputRefIdeal [hUpInputRefIdeal : Cert.UpInputRefIdeal.Facts] : Prop :=
  ∀ (m : (ℓ : Loc Cert.UpInputRefIdeal.nD Cert.UpInputRefIdeal.τ Cert.UpInputRefIdeal.sig) → Buf (Elt Ideal) ℓ) (g : Dev Cert.UpInputRefIdeal.nD → PrngReg), Pre_UpInputRefIdeal m →
    θ_run (Cert.UpInputRefIdeal.defs (F := Ideal)) (onTc (τ := Cert.UpInputRefIdeal.τ) (Cert.UpInputRefIdeal.main (F := Ideal))) ⟨m, fun _ => 0, g⟩ (fun r => (∀ c : Dev Cert.UpInputRefIdeal.nD,
      r.2.mem ((c.tc : Thread Cert.UpInputRefIdeal.nD Cert.UpInputRefIdeal.τ).loc Cert.UpInputRefIdeal.main_arg0) = m ((c.tc : Thread Cert.UpInputRefIdeal.nD Cert.UpInputRefIdeal.τ).loc Cert.UpInputRefIdeal.main_arg0)
      ∧ r.2.mem ((c.tc : Thread Cert.UpInputRefIdeal.nD Cert.UpInputRefIdeal.τ).loc Cert.UpInputRefIdeal.main_arg1) = m ((c.tc : Thread Cert.UpInputRefIdeal.nD Cert.UpInputRefIdeal.τ).loc Cert.UpInputRefIdeal.main_arg1))
      ∧ r.2.sem = fun _ => 0)

def quiescent_UpInputSum [hUpInputSum : Cert.UpInputSum.Facts] : Prop :=
  ∀ (m : (ℓ : Loc Cert.UpInputSum.nD Cert.UpInputSum.τ Cert.UpInputSum.sig) → Buf (Elt Bits) ℓ) (g : Dev Cert.UpInputSum.nD → PrngReg), Pre_UpInputSum m →
    θ_run (Cert.UpInputSum.defs (F := Bits)) (onTc (τ := Cert.UpInputSum.τ) (Cert.UpInputSum.main (F := Bits))) ⟨m, fun _ => 0, g⟩ (fun r => (∀ c : Dev Cert.UpInputSum.nD,
      r.2.mem ((c.tc : Thread Cert.UpInputSum.nD Cert.UpInputSum.τ).loc Cert.UpInputSum.main_arg0) = m ((c.tc : Thread Cert.UpInputSum.nD Cert.UpInputSum.τ).loc Cert.UpInputSum.main_arg0)
      ∧ r.2.mem ((c.tc : Thread Cert.UpInputSum.nD Cert.UpInputSum.τ).loc Cert.UpInputSum.main_arg1) = m ((c.tc : Thread Cert.UpInputSum.nD Cert.UpInputSum.τ).loc Cert.UpInputSum.main_arg1)
      ∧ r.2.mem ((c.tc : Thread Cert.UpInputSum.nD Cert.UpInputSum.τ).loc Cert.UpInputSum.main_arg2) = m ((c.tc : Thread Cert.UpInputSum.nD Cert.UpInputSum.τ).loc Cert.UpInputSum.main_arg2))
      ∧ r.2.sem = fun _ => 0)

def quiescent_UpInputSumIdeal [hUpInputSumIdeal : Cert.UpInputSumIdeal.Facts] : Prop :=
  ∀ (m : (ℓ : Loc Cert.UpInputSumIdeal.nD Cert.UpInputSumIdeal.τ Cert.UpInputSumIdeal.sig) → Buf (Elt Ideal) ℓ) (g : Dev Cert.UpInputSumIdeal.nD → PrngReg), Pre_UpInputSumIdeal m →
    θ_run (Cert.UpInputSumIdeal.defs (F := Ideal)) (onTc (τ := Cert.UpInputSumIdeal.τ) (Cert.UpInputSumIdeal.main (F := Ideal))) ⟨m, fun _ => 0, g⟩ (fun r => (∀ c : Dev Cert.UpInputSumIdeal.nD,
      r.2.mem ((c.tc : Thread Cert.UpInputSumIdeal.nD Cert.UpInputSumIdeal.τ).loc Cert.UpInputSumIdeal.main_arg0) = m ((c.tc : Thread Cert.UpInputSumIdeal.nD Cert.UpInputSumIdeal.τ).loc Cert.UpInputSumIdeal.main_arg0)
      ∧ r.2.mem ((c.tc : Thread Cert.UpInputSumIdeal.nD Cert.UpInputSumIdeal.τ).loc Cert.UpInputSumIdeal.main_arg1) = m ((c.tc : Thread Cert.UpInputSumIdeal.nD Cert.UpInputSumIdeal.τ).loc Cert.UpInputSumIdeal.main_arg1)
      ∧ r.2.mem ((c.tc : Thread Cert.UpInputSumIdeal.nD Cert.UpInputSumIdeal.τ).loc Cert.UpInputSumIdeal.main_arg2) = m ((c.tc : Thread Cert.UpInputSumIdeal.nD Cert.UpInputSumIdeal.τ).loc Cert.UpInputSumIdeal.main_arg2))
      ∧ r.2.sem = fun _ => 0)

def quiescent_UpInputSumRefIdeal [hUpInputSumRefIdeal : Cert.UpInputSumRefIdeal.Facts] : Prop :=
  ∀ (m : (ℓ : Loc Cert.UpInputSumRefIdeal.nD Cert.UpInputSumRefIdeal.τ Cert.UpInputSumRefIdeal.sig) → Buf (Elt Ideal) ℓ) (g : Dev Cert.UpInputSumRefIdeal.nD → PrngReg), Pre_UpInputSumRefIdeal m →
    θ_run (Cert.UpInputSumRefIdeal.defs (F := Ideal)) (onTc (τ := Cert.UpInputSumRefIdeal.τ) (Cert.UpInputSumRefIdeal.main (F := Ideal))) ⟨m, fun _ => 0, g⟩ (fun r => (∀ c : Dev Cert.UpInputSumRefIdeal.nD,
      r.2.mem ((c.tc : Thread Cert.UpInputSumRefIdeal.nD Cert.UpInputSumRefIdeal.τ).loc Cert.UpInputSumRefIdeal.main_arg0) = m ((c.tc : Thread Cert.UpInputSumRefIdeal.nD Cert.UpInputSumRefIdeal.τ).loc Cert.UpInputSumRefIdeal.main_arg0)
      ∧ r.2.mem ((c.tc : Thread Cert.UpInputSumRefIdeal.nD Cert.UpInputSumRefIdeal.τ).loc Cert.UpInputSumRefIdeal.main_arg1) = m ((c.tc : Thread Cert.UpInputSumRefIdeal.nD Cert.UpInputSumRefIdeal.τ).loc Cert.UpInputSumRefIdeal.main_arg1)
      ∧ r.2.mem ((c.tc : Thread Cert.UpInputSumRefIdeal.nD Cert.UpInputSumRefIdeal.τ).loc Cert.UpInputSumRefIdeal.main_arg2) = m ((c.tc : Thread Cert.UpInputSumRefIdeal.nD Cert.UpInputSumRefIdeal.τ).loc Cert.UpInputSumRefIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_ProjInput [hProjInput : Cert.ProjInput.Facts] : Prop :=
  ∀ (m : (ℓ : Loc Cert.ProjInput.nD Cert.ProjInput.τ Cert.ProjInput.sig) → Buf (Elt Bits) ℓ) (g : Dev Cert.ProjInput.nD → PrngReg), Pre_ProjInput m →
    θ_run (Cert.ProjInput.defs (F := Bits)) (onTc (τ := Cert.ProjInput.τ) (Cert.ProjInput.main (F := Bits))) ⟨m, fun _ => 0, g⟩ (fun r => (∀ c : Dev Cert.ProjInput.nD,
      r.2.mem ((c.tc : Thread Cert.ProjInput.nD Cert.ProjInput.τ).loc Cert.ProjInput.main_arg0) = m ((c.tc : Thread Cert.ProjInput.nD Cert.ProjInput.τ).loc Cert.ProjInput.main_arg0)
      ∧ r.2.mem ((c.tc : Thread Cert.ProjInput.nD Cert.ProjInput.τ).loc Cert.ProjInput.main_arg1) = m ((c.tc : Thread Cert.ProjInput.nD Cert.ProjInput.τ).loc Cert.ProjInput.main_arg1))
      ∧ r.2.sem = fun _ => 0)

def quiescent_ProjInputIdeal [hProjInputIdeal : Cert.ProjInputIdeal.Facts] : Prop :=
  ∀ (m : (ℓ : Loc Cert.ProjInputIdeal.nD Cert.ProjInputIdeal.τ Cert.ProjInputIdeal.sig) → Buf (Elt Ideal) ℓ) (g : Dev Cert.ProjInputIdeal.nD → PrngReg), Pre_ProjInputIdeal m →
    θ_run (Cert.ProjInputIdeal.defs (F := Ideal)) (onTc (τ := Cert.ProjInputIdeal.τ) (Cert.ProjInputIdeal.main (F := Ideal))) ⟨m, fun _ => 0, g⟩ (fun r => (∀ c : Dev Cert.ProjInputIdeal.nD,
      r.2.mem ((c.tc : Thread Cert.ProjInputIdeal.nD Cert.ProjInputIdeal.τ).loc Cert.ProjInputIdeal.main_arg0) = m ((c.tc : Thread Cert.ProjInputIdeal.nD Cert.ProjInputIdeal.τ).loc Cert.ProjInputIdeal.main_arg0)
      ∧ r.2.mem ((c.tc : Thread Cert.ProjInputIdeal.nD Cert.ProjInputIdeal.τ).loc Cert.ProjInputIdeal.main_arg1) = m ((c.tc : Thread Cert.ProjInputIdeal.nD Cert.ProjInputIdeal.τ).loc Cert.ProjInputIdeal.main_arg1))
      ∧ r.2.sem = fun _ => 0)

def quiescent_ProjInputRefIdeal [hProjInputRefIdeal : Cert.ProjInputRefIdeal.Facts] : Prop :=
  ∀ (m : (ℓ : Loc Cert.ProjInputRefIdeal.nD Cert.ProjInputRefIdeal.τ Cert.ProjInputRefIdeal.sig) → Buf (Elt Ideal) ℓ) (g : Dev Cert.ProjInputRefIdeal.nD → PrngReg), Pre_ProjInputRefIdeal m →
    θ_run (Cert.ProjInputRefIdeal.defs (F := Ideal)) (onTc (τ := Cert.ProjInputRefIdeal.τ) (Cert.ProjInputRefIdeal.main (F := Ideal))) ⟨m, fun _ => 0, g⟩ (fun r => (∀ c : Dev Cert.ProjInputRefIdeal.nD,
      r.2.mem ((c.tc : Thread Cert.ProjInputRefIdeal.nD Cert.ProjInputRefIdeal.τ).loc Cert.ProjInputRefIdeal.main_arg0) = m ((c.tc : Thread Cert.ProjInputRefIdeal.nD Cert.ProjInputRefIdeal.τ).loc Cert.ProjInputRefIdeal.main_arg0)
      ∧ r.2.mem ((c.tc : Thread Cert.ProjInputRefIdeal.nD Cert.ProjInputRefIdeal.τ).loc Cert.ProjInputRefIdeal.main_arg1) = m ((c.tc : Thread Cert.ProjInputRefIdeal.nD Cert.ProjInputRefIdeal.τ).loc Cert.ProjInputRefIdeal.main_arg1))
      ∧ r.2.sem = fun _ => 0)

def quiescent_ProjWeight [hProjWeight : Cert.ProjWeight.Facts] : Prop :=
  ∀ (m : (ℓ : Loc Cert.ProjWeight.nD Cert.ProjWeight.τ Cert.ProjWeight.sig) → Buf (Elt Bits) ℓ) (g : Dev Cert.ProjWeight.nD → PrngReg), Pre_ProjWeight m →
    θ_run (Cert.ProjWeight.defs (F := Bits)) (onTc (τ := Cert.ProjWeight.τ) (Cert.ProjWeight.main (F := Bits))) ⟨m, fun _ => 0, g⟩ (fun r => (∀ c : Dev Cert.ProjWeight.nD,
      r.2.mem ((c.tc : Thread Cert.ProjWeight.nD Cert.ProjWeight.τ).loc Cert.ProjWeight.main_arg0) = m ((c.tc : Thread Cert.ProjWeight.nD Cert.ProjWeight.τ).loc Cert.ProjWeight.main_arg0)
      ∧ r.2.mem ((c.tc : Thread Cert.ProjWeight.nD Cert.ProjWeight.τ).loc Cert.ProjWeight.main_arg1) = m ((c.tc : Thread Cert.ProjWeight.nD Cert.ProjWeight.τ).loc Cert.ProjWeight.main_arg1))
      ∧ r.2.sem = fun _ => 0)

def quiescent_ProjWeightIdeal [hProjWeightIdeal : Cert.ProjWeightIdeal.Facts] : Prop :=
  ∀ (m : (ℓ : Loc Cert.ProjWeightIdeal.nD Cert.ProjWeightIdeal.τ Cert.ProjWeightIdeal.sig) → Buf (Elt Ideal) ℓ) (g : Dev Cert.ProjWeightIdeal.nD → PrngReg), Pre_ProjWeightIdeal m →
    θ_run (Cert.ProjWeightIdeal.defs (F := Ideal)) (onTc (τ := Cert.ProjWeightIdeal.τ) (Cert.ProjWeightIdeal.main (F := Ideal))) ⟨m, fun _ => 0, g⟩ (fun r => (∀ c : Dev Cert.ProjWeightIdeal.nD,
      r.2.mem ((c.tc : Thread Cert.ProjWeightIdeal.nD Cert.ProjWeightIdeal.τ).loc Cert.ProjWeightIdeal.main_arg0) = m ((c.tc : Thread Cert.ProjWeightIdeal.nD Cert.ProjWeightIdeal.τ).loc Cert.ProjWeightIdeal.main_arg0)
      ∧ r.2.mem ((c.tc : Thread Cert.ProjWeightIdeal.nD Cert.ProjWeightIdeal.τ).loc Cert.ProjWeightIdeal.main_arg1) = m ((c.tc : Thread Cert.ProjWeightIdeal.nD Cert.ProjWeightIdeal.τ).loc Cert.ProjWeightIdeal.main_arg1))
      ∧ r.2.sem = fun _ => 0)

def quiescent_ProjWeightRefIdeal [hProjWeightRefIdeal : Cert.ProjWeightRefIdeal.Facts] : Prop :=
  ∀ (m : (ℓ : Loc Cert.ProjWeightRefIdeal.nD Cert.ProjWeightRefIdeal.τ Cert.ProjWeightRefIdeal.sig) → Buf (Elt Ideal) ℓ) (g : Dev Cert.ProjWeightRefIdeal.nD → PrngReg), Pre_ProjWeightRefIdeal m →
    θ_run (Cert.ProjWeightRefIdeal.defs (F := Ideal)) (onTc (τ := Cert.ProjWeightRefIdeal.τ) (Cert.ProjWeightRefIdeal.main (F := Ideal))) ⟨m, fun _ => 0, g⟩ (fun r => (∀ c : Dev Cert.ProjWeightRefIdeal.nD,
      r.2.mem ((c.tc : Thread Cert.ProjWeightRefIdeal.nD Cert.ProjWeightRefIdeal.τ).loc Cert.ProjWeightRefIdeal.main_arg0) = m ((c.tc : Thread Cert.ProjWeightRefIdeal.nD Cert.ProjWeightRefIdeal.τ).loc Cert.ProjWeightRefIdeal.main_arg0)
      ∧ r.2.mem ((c.tc : Thread Cert.ProjWeightRefIdeal.nD Cert.ProjWeightRefIdeal.τ).loc Cert.ProjWeightRefIdeal.main_arg1) = m ((c.tc : Thread Cert.ProjWeightRefIdeal.nD Cert.ProjWeightRefIdeal.τ).loc Cert.ProjWeightRefIdeal.main_arg1))
      ∧ r.2.sem = fun _ => 0)

def quiescent_OutInput [hOutInput : Cert.OutInput.Facts] : Prop :=
  ∀ (m : (ℓ : Loc Cert.OutInput.nD Cert.OutInput.τ Cert.OutInput.sig) → Buf (Elt Bits) ℓ) (g : Dev Cert.OutInput.nD → PrngReg), Pre_OutInput m →
    θ_run (Cert.OutInput.defs (F := Bits)) (onTc (τ := Cert.OutInput.τ) (Cert.OutInput.main (F := Bits))) ⟨m, fun _ => 0, g⟩ (fun r => (∀ c : Dev Cert.OutInput.nD,
      r.2.mem ((c.tc : Thread Cert.OutInput.nD Cert.OutInput.τ).loc Cert.OutInput.main_arg0) = m ((c.tc : Thread Cert.OutInput.nD Cert.OutInput.τ).loc Cert.OutInput.main_arg0)
      ∧ r.2.mem ((c.tc : Thread Cert.OutInput.nD Cert.OutInput.τ).loc Cert.OutInput.main_arg1) = m ((c.tc : Thread Cert.OutInput.nD Cert.OutInput.τ).loc Cert.OutInput.main_arg1))
      ∧ r.2.sem = fun _ => 0)

def quiescent_OutInputIdeal [hOutInputIdeal : Cert.OutInputIdeal.Facts] : Prop :=
  ∀ (m : (ℓ : Loc Cert.OutInputIdeal.nD Cert.OutInputIdeal.τ Cert.OutInputIdeal.sig) → Buf (Elt Ideal) ℓ) (g : Dev Cert.OutInputIdeal.nD → PrngReg), Pre_OutInputIdeal m →
    θ_run (Cert.OutInputIdeal.defs (F := Ideal)) (onTc (τ := Cert.OutInputIdeal.τ) (Cert.OutInputIdeal.main (F := Ideal))) ⟨m, fun _ => 0, g⟩ (fun r => (∀ c : Dev Cert.OutInputIdeal.nD,
      r.2.mem ((c.tc : Thread Cert.OutInputIdeal.nD Cert.OutInputIdeal.τ).loc Cert.OutInputIdeal.main_arg0) = m ((c.tc : Thread Cert.OutInputIdeal.nD Cert.OutInputIdeal.τ).loc Cert.OutInputIdeal.main_arg0)
      ∧ r.2.mem ((c.tc : Thread Cert.OutInputIdeal.nD Cert.OutInputIdeal.τ).loc Cert.OutInputIdeal.main_arg1) = m ((c.tc : Thread Cert.OutInputIdeal.nD Cert.OutInputIdeal.τ).loc Cert.OutInputIdeal.main_arg1))
      ∧ r.2.sem = fun _ => 0)

def quiescent_OutInputRefIdeal [hOutInputRefIdeal : Cert.OutInputRefIdeal.Facts] : Prop :=
  ∀ (m : (ℓ : Loc Cert.OutInputRefIdeal.nD Cert.OutInputRefIdeal.τ Cert.OutInputRefIdeal.sig) → Buf (Elt Ideal) ℓ) (g : Dev Cert.OutInputRefIdeal.nD → PrngReg), Pre_OutInputRefIdeal m →
    θ_run (Cert.OutInputRefIdeal.defs (F := Ideal)) (onTc (τ := Cert.OutInputRefIdeal.τ) (Cert.OutInputRefIdeal.main (F := Ideal))) ⟨m, fun _ => 0, g⟩ (fun r => (∀ c : Dev Cert.OutInputRefIdeal.nD,
      r.2.mem ((c.tc : Thread Cert.OutInputRefIdeal.nD Cert.OutInputRefIdeal.τ).loc Cert.OutInputRefIdeal.main_arg0) = m ((c.tc : Thread Cert.OutInputRefIdeal.nD Cert.OutInputRefIdeal.τ).loc Cert.OutInputRefIdeal.main_arg0)
      ∧ r.2.mem ((c.tc : Thread Cert.OutInputRefIdeal.nD Cert.OutInputRefIdeal.τ).loc Cert.OutInputRefIdeal.main_arg1) = m ((c.tc : Thread Cert.OutInputRefIdeal.nD Cert.OutInputRefIdeal.τ).loc Cert.OutInputRefIdeal.main_arg1))
      ∧ r.2.sem = fun _ => 0)

def quiescent_OutWeight [hOutWeight : Cert.OutWeight.Facts] : Prop :=
  ∀ (m : (ℓ : Loc Cert.OutWeight.nD Cert.OutWeight.τ Cert.OutWeight.sig) → Buf (Elt Bits) ℓ) (g : Dev Cert.OutWeight.nD → PrngReg), Pre_OutWeight m →
    θ_run (Cert.OutWeight.defs (F := Bits)) (onTc (τ := Cert.OutWeight.τ) (Cert.OutWeight.main (F := Bits))) ⟨m, fun _ => 0, g⟩ (fun r => (∀ c : Dev Cert.OutWeight.nD,
      r.2.mem ((c.tc : Thread Cert.OutWeight.nD Cert.OutWeight.τ).loc Cert.OutWeight.main_arg0) = m ((c.tc : Thread Cert.OutWeight.nD Cert.OutWeight.τ).loc Cert.OutWeight.main_arg0)
      ∧ r.2.mem ((c.tc : Thread Cert.OutWeight.nD Cert.OutWeight.τ).loc Cert.OutWeight.main_arg1) = m ((c.tc : Thread Cert.OutWeight.nD Cert.OutWeight.τ).loc Cert.OutWeight.main_arg1))
      ∧ r.2.sem = fun _ => 0)

def quiescent_OutWeightIdeal [hOutWeightIdeal : Cert.OutWeightIdeal.Facts] : Prop :=
  ∀ (m : (ℓ : Loc Cert.OutWeightIdeal.nD Cert.OutWeightIdeal.τ Cert.OutWeightIdeal.sig) → Buf (Elt Ideal) ℓ) (g : Dev Cert.OutWeightIdeal.nD → PrngReg), Pre_OutWeightIdeal m →
    θ_run (Cert.OutWeightIdeal.defs (F := Ideal)) (onTc (τ := Cert.OutWeightIdeal.τ) (Cert.OutWeightIdeal.main (F := Ideal))) ⟨m, fun _ => 0, g⟩ (fun r => (∀ c : Dev Cert.OutWeightIdeal.nD,
      r.2.mem ((c.tc : Thread Cert.OutWeightIdeal.nD Cert.OutWeightIdeal.τ).loc Cert.OutWeightIdeal.main_arg0) = m ((c.tc : Thread Cert.OutWeightIdeal.nD Cert.OutWeightIdeal.τ).loc Cert.OutWeightIdeal.main_arg0)
      ∧ r.2.mem ((c.tc : Thread Cert.OutWeightIdeal.nD Cert.OutWeightIdeal.τ).loc Cert.OutWeightIdeal.main_arg1) = m ((c.tc : Thread Cert.OutWeightIdeal.nD Cert.OutWeightIdeal.τ).loc Cert.OutWeightIdeal.main_arg1))
      ∧ r.2.sem = fun _ => 0)

def quiescent_OutWeightRefIdeal [hOutWeightRefIdeal : Cert.OutWeightRefIdeal.Facts] : Prop :=
  ∀ (m : (ℓ : Loc Cert.OutWeightRefIdeal.nD Cert.OutWeightRefIdeal.τ Cert.OutWeightRefIdeal.sig) → Buf (Elt Ideal) ℓ) (g : Dev Cert.OutWeightRefIdeal.nD → PrngReg), Pre_OutWeightRefIdeal m →
    θ_run (Cert.OutWeightRefIdeal.defs (F := Ideal)) (onTc (τ := Cert.OutWeightRefIdeal.τ) (Cert.OutWeightRefIdeal.main (F := Ideal))) ⟨m, fun _ => 0, g⟩ (fun r => (∀ c : Dev Cert.OutWeightRefIdeal.nD,
      r.2.mem ((c.tc : Thread Cert.OutWeightRefIdeal.nD Cert.OutWeightRefIdeal.τ).loc Cert.OutWeightRefIdeal.main_arg0) = m ((c.tc : Thread Cert.OutWeightRefIdeal.nD Cert.OutWeightRefIdeal.τ).loc Cert.OutWeightRefIdeal.main_arg0)
      ∧ r.2.mem ((c.tc : Thread Cert.OutWeightRefIdeal.nD Cert.OutWeightRefIdeal.τ).loc Cert.OutWeightRefIdeal.main_arg1) = m ((c.tc : Thread Cert.OutWeightRefIdeal.nD Cert.OutWeightRefIdeal.τ).loc Cert.OutWeightRefIdeal.main_arg1))
      ∧ r.2.sem = fun _ => 0)

def quiescent_ProjConv [hProjConv : Cert.ProjConv.Facts] : Prop :=
  ∀ (m : (ℓ : Loc Cert.ProjConv.nD Cert.ProjConv.τ Cert.ProjConv.sig) → Buf (Elt Bits) ℓ) (g : Dev Cert.ProjConv.nD → PrngReg), Pre_ProjConv m →
    θ_run (Cert.ProjConv.defs (F := Bits)) (onTc (τ := Cert.ProjConv.τ) (Cert.ProjConv.main (F := Bits))) ⟨m, fun _ => 0, g⟩ (fun r => (∀ c : Dev Cert.ProjConv.nD,
      r.2.mem ((c.tc : Thread Cert.ProjConv.nD Cert.ProjConv.τ).loc Cert.ProjConv.main_arg0) = m ((c.tc : Thread Cert.ProjConv.nD Cert.ProjConv.τ).loc Cert.ProjConv.main_arg0)
      ∧ r.2.mem ((c.tc : Thread Cert.ProjConv.nD Cert.ProjConv.τ).loc Cert.ProjConv.main_arg1) = m ((c.tc : Thread Cert.ProjConv.nD Cert.ProjConv.τ).loc Cert.ProjConv.main_arg1))
      ∧ r.2.sem = fun _ => 0)

def quiescent_ProjConvIdeal [hProjConvIdeal : Cert.ProjConvIdeal.Facts] : Prop :=
  ∀ (m : (ℓ : Loc Cert.ProjConvIdeal.nD Cert.ProjConvIdeal.τ Cert.ProjConvIdeal.sig) → Buf (Elt Ideal) ℓ) (g : Dev Cert.ProjConvIdeal.nD → PrngReg), Pre_ProjConvIdeal m →
    θ_run (Cert.ProjConvIdeal.defs (F := Ideal)) (onTc (τ := Cert.ProjConvIdeal.τ) (Cert.ProjConvIdeal.main (F := Ideal))) ⟨m, fun _ => 0, g⟩ (fun r => (∀ c : Dev Cert.ProjConvIdeal.nD,
      r.2.mem ((c.tc : Thread Cert.ProjConvIdeal.nD Cert.ProjConvIdeal.τ).loc Cert.ProjConvIdeal.main_arg0) = m ((c.tc : Thread Cert.ProjConvIdeal.nD Cert.ProjConvIdeal.τ).loc Cert.ProjConvIdeal.main_arg0)
      ∧ r.2.mem ((c.tc : Thread Cert.ProjConvIdeal.nD Cert.ProjConvIdeal.τ).loc Cert.ProjConvIdeal.main_arg1) = m ((c.tc : Thread Cert.ProjConvIdeal.nD Cert.ProjConvIdeal.τ).loc Cert.ProjConvIdeal.main_arg1))
      ∧ r.2.sem = fun _ => 0)

def quiescent_ProjConvRefIdeal [hProjConvRefIdeal : Cert.ProjConvRefIdeal.Facts] : Prop :=
  ∀ (m : (ℓ : Loc Cert.ProjConvRefIdeal.nD Cert.ProjConvRefIdeal.τ Cert.ProjConvRefIdeal.sig) → Buf (Elt Ideal) ℓ) (g : Dev Cert.ProjConvRefIdeal.nD → PrngReg), Pre_ProjConvRefIdeal m →
    θ_run (Cert.ProjConvRefIdeal.defs (F := Ideal)) (onTc (τ := Cert.ProjConvRefIdeal.τ) (Cert.ProjConvRefIdeal.main (F := Ideal))) ⟨m, fun _ => 0, g⟩ (fun r => (∀ c : Dev Cert.ProjConvRefIdeal.nD,
      r.2.mem ((c.tc : Thread Cert.ProjConvRefIdeal.nD Cert.ProjConvRefIdeal.τ).loc Cert.ProjConvRefIdeal.main_arg0) = m ((c.tc : Thread Cert.ProjConvRefIdeal.nD Cert.ProjConvRefIdeal.τ).loc Cert.ProjConvRefIdeal.main_arg0)
      ∧ r.2.mem ((c.tc : Thread Cert.ProjConvRefIdeal.nD Cert.ProjConvRefIdeal.τ).loc Cert.ProjConvRefIdeal.main_arg1) = m ((c.tc : Thread Cert.ProjConvRefIdeal.nD Cert.ProjConvRefIdeal.τ).loc Cert.ProjConvRefIdeal.main_arg1))
      ∧ r.2.sem = fun _ => 0)

def quiescent_ProjQkv [hProjQkv : Cert.ProjQkv.Facts] : Prop :=
  ∀ (m : (ℓ : Loc Cert.ProjQkv.nD Cert.ProjQkv.τ Cert.ProjQkv.sig) → Buf (Elt Bits) ℓ) (g : Dev Cert.ProjQkv.nD → PrngReg), Pre_ProjQkv m →
    θ_run (Cert.ProjQkv.defs (F := Bits)) (onTc (τ := Cert.ProjQkv.τ) (Cert.ProjQkv.main (F := Bits))) ⟨m, fun _ => 0, g⟩ (fun r => (∀ c : Dev Cert.ProjQkv.nD,
      r.2.mem ((c.tc : Thread Cert.ProjQkv.nD Cert.ProjQkv.τ).loc Cert.ProjQkv.main_arg0) = m ((c.tc : Thread Cert.ProjQkv.nD Cert.ProjQkv.τ).loc Cert.ProjQkv.main_arg0)
      ∧ r.2.mem ((c.tc : Thread Cert.ProjQkv.nD Cert.ProjQkv.τ).loc Cert.ProjQkv.main_arg1) = m ((c.tc : Thread Cert.ProjQkv.nD Cert.ProjQkv.τ).loc Cert.ProjQkv.main_arg1))
      ∧ r.2.sem = fun _ => 0)

def quiescent_ProjQkvIdeal [hProjQkvIdeal : Cert.ProjQkvIdeal.Facts] : Prop :=
  ∀ (m : (ℓ : Loc Cert.ProjQkvIdeal.nD Cert.ProjQkvIdeal.τ Cert.ProjQkvIdeal.sig) → Buf (Elt Ideal) ℓ) (g : Dev Cert.ProjQkvIdeal.nD → PrngReg), Pre_ProjQkvIdeal m →
    θ_run (Cert.ProjQkvIdeal.defs (F := Ideal)) (onTc (τ := Cert.ProjQkvIdeal.τ) (Cert.ProjQkvIdeal.main (F := Ideal))) ⟨m, fun _ => 0, g⟩ (fun r => (∀ c : Dev Cert.ProjQkvIdeal.nD,
      r.2.mem ((c.tc : Thread Cert.ProjQkvIdeal.nD Cert.ProjQkvIdeal.τ).loc Cert.ProjQkvIdeal.main_arg0) = m ((c.tc : Thread Cert.ProjQkvIdeal.nD Cert.ProjQkvIdeal.τ).loc Cert.ProjQkvIdeal.main_arg0)
      ∧ r.2.mem ((c.tc : Thread Cert.ProjQkvIdeal.nD Cert.ProjQkvIdeal.τ).loc Cert.ProjQkvIdeal.main_arg1) = m ((c.tc : Thread Cert.ProjQkvIdeal.nD Cert.ProjQkvIdeal.τ).loc Cert.ProjQkvIdeal.main_arg1))
      ∧ r.2.sem = fun _ => 0)

def quiescent_ProjQkvRefIdeal [hProjQkvRefIdeal : Cert.ProjQkvRefIdeal.Facts] : Prop :=
  ∀ (m : (ℓ : Loc Cert.ProjQkvRefIdeal.nD Cert.ProjQkvRefIdeal.τ Cert.ProjQkvRefIdeal.sig) → Buf (Elt Ideal) ℓ) (g : Dev Cert.ProjQkvRefIdeal.nD → PrngReg), Pre_ProjQkvRefIdeal m →
    θ_run (Cert.ProjQkvRefIdeal.defs (F := Ideal)) (onTc (τ := Cert.ProjQkvRefIdeal.τ) (Cert.ProjQkvRefIdeal.main (F := Ideal))) ⟨m, fun _ => 0, g⟩ (fun r => (∀ c : Dev Cert.ProjQkvRefIdeal.nD,
      r.2.mem ((c.tc : Thread Cert.ProjQkvRefIdeal.nD Cert.ProjQkvRefIdeal.τ).loc Cert.ProjQkvRefIdeal.main_arg0) = m ((c.tc : Thread Cert.ProjQkvRefIdeal.nD Cert.ProjQkvRefIdeal.τ).loc Cert.ProjQkvRefIdeal.main_arg0)
      ∧ r.2.mem ((c.tc : Thread Cert.ProjQkvRefIdeal.nD Cert.ProjQkvRefIdeal.τ).loc Cert.ProjQkvRefIdeal.main_arg1) = m ((c.tc : Thread Cert.ProjQkvRefIdeal.nD Cert.ProjQkvRefIdeal.τ).loc Cert.ProjQkvRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_ConvOutInput [hConvOutInput : Cert.ConvOutInput.Facts] : Prop :=
  ∀ (m : (ℓ : Loc Cert.ConvOutInput.nD Cert.ConvOutInput.τ Cert.ConvOutInput.sig) → Buf (Elt Bits) ℓ) (g : Dev Cert.ConvOutInput.nD → PrngReg), Pre_ConvOutInput m →
    θ_run (Cert.ConvOutInput.defs (F := Bits)) (onTc (τ := Cert.ConvOutInput.τ) (Cert.ConvOutInput.main (F := Bits))) ⟨m, fun _ => 0, g⟩ (fun r => (∀ c : Dev Cert.ConvOutInput.nD,
      r.2.mem ((c.tc : Thread Cert.ConvOutInput.nD Cert.ConvOutInput.τ).loc Cert.ConvOutInput.main_arg0) = m ((c.tc : Thread Cert.ConvOutInput.nD Cert.ConvOutInput.τ).loc Cert.ConvOutInput.main_arg0)
      ∧ r.2.mem ((c.tc : Thread Cert.ConvOutInput.nD Cert.ConvOutInput.τ).loc Cert.ConvOutInput.main_arg1) = m ((c.tc : Thread Cert.ConvOutInput.nD Cert.ConvOutInput.τ).loc Cert.ConvOutInput.main_arg1))
      ∧ r.2.sem = fun _ => 0)

def quiescent_ConvOutInputIdeal [hConvOutInputIdeal : Cert.ConvOutInputIdeal.Facts] : Prop :=
  ∀ (m : (ℓ : Loc Cert.ConvOutInputIdeal.nD Cert.ConvOutInputIdeal.τ Cert.ConvOutInputIdeal.sig) → Buf (Elt Ideal) ℓ) (g : Dev Cert.ConvOutInputIdeal.nD → PrngReg), Pre_ConvOutInputIdeal m →
    θ_run (Cert.ConvOutInputIdeal.defs (F := Ideal)) (onTc (τ := Cert.ConvOutInputIdeal.τ) (Cert.ConvOutInputIdeal.main (F := Ideal))) ⟨m, fun _ => 0, g⟩ (fun r => (∀ c : Dev Cert.ConvOutInputIdeal.nD,
      r.2.mem ((c.tc : Thread Cert.ConvOutInputIdeal.nD Cert.ConvOutInputIdeal.τ).loc Cert.ConvOutInputIdeal.main_arg0) = m ((c.tc : Thread Cert.ConvOutInputIdeal.nD Cert.ConvOutInputIdeal.τ).loc Cert.ConvOutInputIdeal.main_arg0)
      ∧ r.2.mem ((c.tc : Thread Cert.ConvOutInputIdeal.nD Cert.ConvOutInputIdeal.τ).loc Cert.ConvOutInputIdeal.main_arg1) = m ((c.tc : Thread Cert.ConvOutInputIdeal.nD Cert.ConvOutInputIdeal.τ).loc Cert.ConvOutInputIdeal.main_arg1))
      ∧ r.2.sem = fun _ => 0)

def quiescent_ConvOutInputRefIdeal [hConvOutInputRefIdeal : Cert.ConvOutInputRefIdeal.Facts] : Prop :=
  ∀ (m : (ℓ : Loc Cert.ConvOutInputRefIdeal.nD Cert.ConvOutInputRefIdeal.τ Cert.ConvOutInputRefIdeal.sig) → Buf (Elt Ideal) ℓ) (g : Dev Cert.ConvOutInputRefIdeal.nD → PrngReg), Pre_ConvOutInputRefIdeal m →
    θ_run (Cert.ConvOutInputRefIdeal.defs (F := Ideal)) (onTc (τ := Cert.ConvOutInputRefIdeal.τ) (Cert.ConvOutInputRefIdeal.main (F := Ideal))) ⟨m, fun _ => 0, g⟩ (fun r => (∀ c : Dev Cert.ConvOutInputRefIdeal.nD,
      r.2.mem ((c.tc : Thread Cert.ConvOutInputRefIdeal.nD Cert.ConvOutInputRefIdeal.τ).loc Cert.ConvOutInputRefIdeal.main_arg0) = m ((c.tc : Thread Cert.ConvOutInputRefIdeal.nD Cert.ConvOutInputRefIdeal.τ).loc Cert.ConvOutInputRefIdeal.main_arg0)
      ∧ r.2.mem ((c.tc : Thread Cert.ConvOutInputRefIdeal.nD Cert.ConvOutInputRefIdeal.τ).loc Cert.ConvOutInputRefIdeal.main_arg1) = m ((c.tc : Thread Cert.ConvOutInputRefIdeal.nD Cert.ConvOutInputRefIdeal.τ).loc Cert.ConvOutInputRefIdeal.main_arg1))
      ∧ r.2.sem = fun _ => 0)

def quiescent_AttnOutInput [hAttnOutInput : Cert.AttnOutInput.Facts] : Prop :=
  ∀ (m : (ℓ : Loc Cert.AttnOutInput.nD Cert.AttnOutInput.τ Cert.AttnOutInput.sig) → Buf (Elt Bits) ℓ) (g : Dev Cert.AttnOutInput.nD → PrngReg), Pre_AttnOutInput m →
    θ_run (Cert.AttnOutInput.defs (F := Bits)) (onTc (τ := Cert.AttnOutInput.τ) (Cert.AttnOutInput.main (F := Bits))) ⟨m, fun _ => 0, g⟩ (fun r => (∀ c : Dev Cert.AttnOutInput.nD,
      r.2.mem ((c.tc : Thread Cert.AttnOutInput.nD Cert.AttnOutInput.τ).loc Cert.AttnOutInput.main_arg0) = m ((c.tc : Thread Cert.AttnOutInput.nD Cert.AttnOutInput.τ).loc Cert.AttnOutInput.main_arg0)
      ∧ r.2.mem ((c.tc : Thread Cert.AttnOutInput.nD Cert.AttnOutInput.τ).loc Cert.AttnOutInput.main_arg1) = m ((c.tc : Thread Cert.AttnOutInput.nD Cert.AttnOutInput.τ).loc Cert.AttnOutInput.main_arg1))
      ∧ r.2.sem = fun _ => 0)

def quiescent_AttnOutInputIdeal [hAttnOutInputIdeal : Cert.AttnOutInputIdeal.Facts] : Prop :=
  ∀ (m : (ℓ : Loc Cert.AttnOutInputIdeal.nD Cert.AttnOutInputIdeal.τ Cert.AttnOutInputIdeal.sig) → Buf (Elt Ideal) ℓ) (g : Dev Cert.AttnOutInputIdeal.nD → PrngReg), Pre_AttnOutInputIdeal m →
    θ_run (Cert.AttnOutInputIdeal.defs (F := Ideal)) (onTc (τ := Cert.AttnOutInputIdeal.τ) (Cert.AttnOutInputIdeal.main (F := Ideal))) ⟨m, fun _ => 0, g⟩ (fun r => (∀ c : Dev Cert.AttnOutInputIdeal.nD,
      r.2.mem ((c.tc : Thread Cert.AttnOutInputIdeal.nD Cert.AttnOutInputIdeal.τ).loc Cert.AttnOutInputIdeal.main_arg0) = m ((c.tc : Thread Cert.AttnOutInputIdeal.nD Cert.AttnOutInputIdeal.τ).loc Cert.AttnOutInputIdeal.main_arg0)
      ∧ r.2.mem ((c.tc : Thread Cert.AttnOutInputIdeal.nD Cert.AttnOutInputIdeal.τ).loc Cert.AttnOutInputIdeal.main_arg1) = m ((c.tc : Thread Cert.AttnOutInputIdeal.nD Cert.AttnOutInputIdeal.τ).loc Cert.AttnOutInputIdeal.main_arg1))
      ∧ r.2.sem = fun _ => 0)

def quiescent_AttnOutInputRefIdeal [hAttnOutInputRefIdeal : Cert.AttnOutInputRefIdeal.Facts] : Prop :=
  ∀ (m : (ℓ : Loc Cert.AttnOutInputRefIdeal.nD Cert.AttnOutInputRefIdeal.τ Cert.AttnOutInputRefIdeal.sig) → Buf (Elt Ideal) ℓ) (g : Dev Cert.AttnOutInputRefIdeal.nD → PrngReg), Pre_AttnOutInputRefIdeal m →
    θ_run (Cert.AttnOutInputRefIdeal.defs (F := Ideal)) (onTc (τ := Cert.AttnOutInputRefIdeal.τ) (Cert.AttnOutInputRefIdeal.main (F := Ideal))) ⟨m, fun _ => 0, g⟩ (fun r => (∀ c : Dev Cert.AttnOutInputRefIdeal.nD,
      r.2.mem ((c.tc : Thread Cert.AttnOutInputRefIdeal.nD Cert.AttnOutInputRefIdeal.τ).loc Cert.AttnOutInputRefIdeal.main_arg0) = m ((c.tc : Thread Cert.AttnOutInputRefIdeal.nD Cert.AttnOutInputRefIdeal.τ).loc Cert.AttnOutInputRefIdeal.main_arg0)
      ∧ r.2.mem ((c.tc : Thread Cert.AttnOutInputRefIdeal.nD Cert.AttnOutInputRefIdeal.τ).loc Cert.AttnOutInputRefIdeal.main_arg1) = m ((c.tc : Thread Cert.AttnOutInputRefIdeal.nD Cert.AttnOutInputRefIdeal.τ).loc Cert.AttnOutInputRefIdeal.main_arg1))
      ∧ r.2.sem = fun _ => 0)

def quiescent_ConvOutWeight [hConvOutWeight : Cert.ConvOutWeight.Facts] : Prop :=
  ∀ (m : (ℓ : Loc Cert.ConvOutWeight.nD Cert.ConvOutWeight.τ Cert.ConvOutWeight.sig) → Buf (Elt Bits) ℓ) (g : Dev Cert.ConvOutWeight.nD → PrngReg), Pre_ConvOutWeight m →
    θ_run (Cert.ConvOutWeight.defs (F := Bits)) (onTc (τ := Cert.ConvOutWeight.τ) (Cert.ConvOutWeight.main (F := Bits))) ⟨m, fun _ => 0, g⟩ (fun r => (∀ c : Dev Cert.ConvOutWeight.nD,
      r.2.mem ((c.tc : Thread Cert.ConvOutWeight.nD Cert.ConvOutWeight.τ).loc Cert.ConvOutWeight.main_arg0) = m ((c.tc : Thread Cert.ConvOutWeight.nD Cert.ConvOutWeight.τ).loc Cert.ConvOutWeight.main_arg0)
      ∧ r.2.mem ((c.tc : Thread Cert.ConvOutWeight.nD Cert.ConvOutWeight.τ).loc Cert.ConvOutWeight.main_arg1) = m ((c.tc : Thread Cert.ConvOutWeight.nD Cert.ConvOutWeight.τ).loc Cert.ConvOutWeight.main_arg1))
      ∧ r.2.sem = fun _ => 0)

def quiescent_ConvOutWeightIdeal [hConvOutWeightIdeal : Cert.ConvOutWeightIdeal.Facts] : Prop :=
  ∀ (m : (ℓ : Loc Cert.ConvOutWeightIdeal.nD Cert.ConvOutWeightIdeal.τ Cert.ConvOutWeightIdeal.sig) → Buf (Elt Ideal) ℓ) (g : Dev Cert.ConvOutWeightIdeal.nD → PrngReg), Pre_ConvOutWeightIdeal m →
    θ_run (Cert.ConvOutWeightIdeal.defs (F := Ideal)) (onTc (τ := Cert.ConvOutWeightIdeal.τ) (Cert.ConvOutWeightIdeal.main (F := Ideal))) ⟨m, fun _ => 0, g⟩ (fun r => (∀ c : Dev Cert.ConvOutWeightIdeal.nD,
      r.2.mem ((c.tc : Thread Cert.ConvOutWeightIdeal.nD Cert.ConvOutWeightIdeal.τ).loc Cert.ConvOutWeightIdeal.main_arg0) = m ((c.tc : Thread Cert.ConvOutWeightIdeal.nD Cert.ConvOutWeightIdeal.τ).loc Cert.ConvOutWeightIdeal.main_arg0)
      ∧ r.2.mem ((c.tc : Thread Cert.ConvOutWeightIdeal.nD Cert.ConvOutWeightIdeal.τ).loc Cert.ConvOutWeightIdeal.main_arg1) = m ((c.tc : Thread Cert.ConvOutWeightIdeal.nD Cert.ConvOutWeightIdeal.τ).loc Cert.ConvOutWeightIdeal.main_arg1))
      ∧ r.2.sem = fun _ => 0)

def quiescent_ConvOutWeightRefIdeal [hConvOutWeightRefIdeal : Cert.ConvOutWeightRefIdeal.Facts] : Prop :=
  ∀ (m : (ℓ : Loc Cert.ConvOutWeightRefIdeal.nD Cert.ConvOutWeightRefIdeal.τ Cert.ConvOutWeightRefIdeal.sig) → Buf (Elt Ideal) ℓ) (g : Dev Cert.ConvOutWeightRefIdeal.nD → PrngReg), Pre_ConvOutWeightRefIdeal m →
    θ_run (Cert.ConvOutWeightRefIdeal.defs (F := Ideal)) (onTc (τ := Cert.ConvOutWeightRefIdeal.τ) (Cert.ConvOutWeightRefIdeal.main (F := Ideal))) ⟨m, fun _ => 0, g⟩ (fun r => (∀ c : Dev Cert.ConvOutWeightRefIdeal.nD,
      r.2.mem ((c.tc : Thread Cert.ConvOutWeightRefIdeal.nD Cert.ConvOutWeightRefIdeal.τ).loc Cert.ConvOutWeightRefIdeal.main_arg0) = m ((c.tc : Thread Cert.ConvOutWeightRefIdeal.nD Cert.ConvOutWeightRefIdeal.τ).loc Cert.ConvOutWeightRefIdeal.main_arg0)
      ∧ r.2.mem ((c.tc : Thread Cert.ConvOutWeightRefIdeal.nD Cert.ConvOutWeightRefIdeal.τ).loc Cert.ConvOutWeightRefIdeal.main_arg1) = m ((c.tc : Thread Cert.ConvOutWeightRefIdeal.nD Cert.ConvOutWeightRefIdeal.τ).loc Cert.ConvOutWeightRefIdeal.main_arg1))
      ∧ r.2.sem = fun _ => 0)

def quiescent_AttnOutWeight [hAttnOutWeight : Cert.AttnOutWeight.Facts] : Prop :=
  ∀ (m : (ℓ : Loc Cert.AttnOutWeight.nD Cert.AttnOutWeight.τ Cert.AttnOutWeight.sig) → Buf (Elt Bits) ℓ) (g : Dev Cert.AttnOutWeight.nD → PrngReg), Pre_AttnOutWeight m →
    θ_run (Cert.AttnOutWeight.defs (F := Bits)) (onTc (τ := Cert.AttnOutWeight.τ) (Cert.AttnOutWeight.main (F := Bits))) ⟨m, fun _ => 0, g⟩ (fun r => (∀ c : Dev Cert.AttnOutWeight.nD,
      r.2.mem ((c.tc : Thread Cert.AttnOutWeight.nD Cert.AttnOutWeight.τ).loc Cert.AttnOutWeight.main_arg0) = m ((c.tc : Thread Cert.AttnOutWeight.nD Cert.AttnOutWeight.τ).loc Cert.AttnOutWeight.main_arg0)
      ∧ r.2.mem ((c.tc : Thread Cert.AttnOutWeight.nD Cert.AttnOutWeight.τ).loc Cert.AttnOutWeight.main_arg1) = m ((c.tc : Thread Cert.AttnOutWeight.nD Cert.AttnOutWeight.τ).loc Cert.AttnOutWeight.main_arg1))
      ∧ r.2.sem = fun _ => 0)

def quiescent_AttnOutWeightIdeal [hAttnOutWeightIdeal : Cert.AttnOutWeightIdeal.Facts] : Prop :=
  ∀ (m : (ℓ : Loc Cert.AttnOutWeightIdeal.nD Cert.AttnOutWeightIdeal.τ Cert.AttnOutWeightIdeal.sig) → Buf (Elt Ideal) ℓ) (g : Dev Cert.AttnOutWeightIdeal.nD → PrngReg), Pre_AttnOutWeightIdeal m →
    θ_run (Cert.AttnOutWeightIdeal.defs (F := Ideal)) (onTc (τ := Cert.AttnOutWeightIdeal.τ) (Cert.AttnOutWeightIdeal.main (F := Ideal))) ⟨m, fun _ => 0, g⟩ (fun r => (∀ c : Dev Cert.AttnOutWeightIdeal.nD,
      r.2.mem ((c.tc : Thread Cert.AttnOutWeightIdeal.nD Cert.AttnOutWeightIdeal.τ).loc Cert.AttnOutWeightIdeal.main_arg0) = m ((c.tc : Thread Cert.AttnOutWeightIdeal.nD Cert.AttnOutWeightIdeal.τ).loc Cert.AttnOutWeightIdeal.main_arg0)
      ∧ r.2.mem ((c.tc : Thread Cert.AttnOutWeightIdeal.nD Cert.AttnOutWeightIdeal.τ).loc Cert.AttnOutWeightIdeal.main_arg1) = m ((c.tc : Thread Cert.AttnOutWeightIdeal.nD Cert.AttnOutWeightIdeal.τ).loc Cert.AttnOutWeightIdeal.main_arg1))
      ∧ r.2.sem = fun _ => 0)

def quiescent_AttnOutWeightRefIdeal [hAttnOutWeightRefIdeal : Cert.AttnOutWeightRefIdeal.Facts] : Prop :=
  ∀ (m : (ℓ : Loc Cert.AttnOutWeightRefIdeal.nD Cert.AttnOutWeightRefIdeal.τ Cert.AttnOutWeightRefIdeal.sig) → Buf (Elt Ideal) ℓ) (g : Dev Cert.AttnOutWeightRefIdeal.nD → PrngReg), Pre_AttnOutWeightRefIdeal m →
    θ_run (Cert.AttnOutWeightRefIdeal.defs (F := Ideal)) (onTc (τ := Cert.AttnOutWeightRefIdeal.τ) (Cert.AttnOutWeightRefIdeal.main (F := Ideal))) ⟨m, fun _ => 0, g⟩ (fun r => (∀ c : Dev Cert.AttnOutWeightRefIdeal.nD,
      r.2.mem ((c.tc : Thread Cert.AttnOutWeightRefIdeal.nD Cert.AttnOutWeightRefIdeal.τ).loc Cert.AttnOutWeightRefIdeal.main_arg0) = m ((c.tc : Thread Cert.AttnOutWeightRefIdeal.nD Cert.AttnOutWeightRefIdeal.τ).loc Cert.AttnOutWeightRefIdeal.main_arg0)
      ∧ r.2.mem ((c.tc : Thread Cert.AttnOutWeightRefIdeal.nD Cert.AttnOutWeightRefIdeal.τ).loc Cert.AttnOutWeightRefIdeal.main_arg1) = m ((c.tc : Thread Cert.AttnOutWeightRefIdeal.nD Cert.AttnOutWeightRefIdeal.τ).loc Cert.AttnOutWeightRefIdeal.main_arg1))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsBwdRefIdeal [hRmsBwdRefIdeal : Cert.RmsBwdRefIdeal.Facts] : Prop :=
  ∀ (m : (ℓ : Loc Cert.RmsBwdRefIdeal.nD Cert.RmsBwdRefIdeal.τ Cert.RmsBwdRefIdeal.sig) → Buf (Elt Ideal) ℓ) (g : Dev Cert.RmsBwdRefIdeal.nD → PrngReg), Pre_RmsBwdRefIdeal m →
    θ_run (Cert.RmsBwdRefIdeal.defs (F := Ideal)) (onTc (τ := Cert.RmsBwdRefIdeal.τ) (Cert.RmsBwdRefIdeal.main (F := Ideal))) ⟨m, fun _ => 0, g⟩ (fun r => (∀ c : Dev Cert.RmsBwdRefIdeal.nD,
      r.2.mem ((c.tc : Thread Cert.RmsBwdRefIdeal.nD Cert.RmsBwdRefIdeal.τ).loc Cert.RmsBwdRefIdeal.main_arg0) = m ((c.tc : Thread Cert.RmsBwdRefIdeal.nD Cert.RmsBwdRefIdeal.τ).loc Cert.RmsBwdRefIdeal.main_arg0)
      ∧ r.2.mem ((c.tc : Thread Cert.RmsBwdRefIdeal.nD Cert.RmsBwdRefIdeal.τ).loc Cert.RmsBwdRefIdeal.main_arg1) = m ((c.tc : Thread Cert.RmsBwdRefIdeal.nD Cert.RmsBwdRefIdeal.τ).loc Cert.RmsBwdRefIdeal.main_arg1)
      ∧ r.2.mem ((c.tc : Thread Cert.RmsBwdRefIdeal.nD Cert.RmsBwdRefIdeal.τ).loc Cert.RmsBwdRefIdeal.main_arg2) = m ((c.tc : Thread Cert.RmsBwdRefIdeal.nD Cert.RmsBwdRefIdeal.τ).loc Cert.RmsBwdRefIdeal.main_arg2)
      ∧ r.2.mem ((c.tc : Thread Cert.RmsBwdRefIdeal.nD Cert.RmsBwdRefIdeal.τ).loc Cert.RmsBwdRefIdeal.main_arg3) = m ((c.tc : Thread Cert.RmsBwdRefIdeal.nD Cert.RmsBwdRefIdeal.τ).loc Cert.RmsBwdRefIdeal.main_arg3))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_UpdateShard [hUpdateShard : Cert.UpdateShard.Facts] : Prop :=
  ∀ (m : (ℓ : Loc Cert.UpdateShard.nD Cert.UpdateShard.τ Cert.UpdateShard.sig) → Buf (Elt Bits) ℓ) (g : Dev Cert.UpdateShard.nD → PrngReg), Pre_UpdateShard m →
    θ_run (Cert.UpdateShard.defs (F := Bits)) (onTc (τ := Cert.UpdateShard.τ) (Cert.UpdateShard.main (F := Bits))) ⟨m, fun _ => 0, g⟩ (fun r => (∀ c : Dev Cert.UpdateShard.nD,
      r.2.mem ((c.tc : Thread Cert.UpdateShard.nD Cert.UpdateShard.τ).loc Cert.UpdateShard.main_arg0) = m ((c.tc : Thread Cert.UpdateShard.nD Cert.UpdateShard.τ).loc Cert.UpdateShard.main_arg0)
      ∧ r.2.mem ((c.tc : Thread Cert.UpdateShard.nD Cert.UpdateShard.τ).loc Cert.UpdateShard.main_arg1) = m ((c.tc : Thread Cert.UpdateShard.nD Cert.UpdateShard.τ).loc Cert.UpdateShard.main_arg1)
      ∧ r.2.mem ((c.tc : Thread Cert.UpdateShard.nD Cert.UpdateShard.τ).loc Cert.UpdateShard.main_arg2) = m ((c.tc : Thread Cert.UpdateShard.nD Cert.UpdateShard.τ).loc Cert.UpdateShard.main_arg2)
      ∧ r.2.mem ((c.tc : Thread Cert.UpdateShard.nD Cert.UpdateShard.τ).loc Cert.UpdateShard.main_arg3) = m ((c.tc : Thread Cert.UpdateShard.nD Cert.UpdateShard.τ).loc Cert.UpdateShard.main_arg3))
      ∧ r.2.sem = fun _ => 0)

def quiescent_UpdateShardIdeal [hUpdateShardIdeal : Cert.UpdateShardIdeal.Facts] : Prop :=
  ∀ (m : (ℓ : Loc Cert.UpdateShardIdeal.nD Cert.UpdateShardIdeal.τ Cert.UpdateShardIdeal.sig) → Buf (Elt Ideal) ℓ) (g : Dev Cert.UpdateShardIdeal.nD → PrngReg), Pre_UpdateShardIdeal m →
    θ_run (Cert.UpdateShardIdeal.defs (F := Ideal)) (onTc (τ := Cert.UpdateShardIdeal.τ) (Cert.UpdateShardIdeal.main (F := Ideal))) ⟨m, fun _ => 0, g⟩ (fun r => (∀ c : Dev Cert.UpdateShardIdeal.nD,
      r.2.mem ((c.tc : Thread Cert.UpdateShardIdeal.nD Cert.UpdateShardIdeal.τ).loc Cert.UpdateShardIdeal.main_arg0) = m ((c.tc : Thread Cert.UpdateShardIdeal.nD Cert.UpdateShardIdeal.τ).loc Cert.UpdateShardIdeal.main_arg0)
      ∧ r.2.mem ((c.tc : Thread Cert.UpdateShardIdeal.nD Cert.UpdateShardIdeal.τ).loc Cert.UpdateShardIdeal.main_arg1) = m ((c.tc : Thread Cert.UpdateShardIdeal.nD Cert.UpdateShardIdeal.τ).loc Cert.UpdateShardIdeal.main_arg1)
      ∧ r.2.mem ((c.tc : Thread Cert.UpdateShardIdeal.nD Cert.UpdateShardIdeal.τ).loc Cert.UpdateShardIdeal.main_arg2) = m ((c.tc : Thread Cert.UpdateShardIdeal.nD Cert.UpdateShardIdeal.τ).loc Cert.UpdateShardIdeal.main_arg2)
      ∧ r.2.mem ((c.tc : Thread Cert.UpdateShardIdeal.nD Cert.UpdateShardIdeal.τ).loc Cert.UpdateShardIdeal.main_arg3) = m ((c.tc : Thread Cert.UpdateShardIdeal.nD Cert.UpdateShardIdeal.τ).loc Cert.UpdateShardIdeal.main_arg3))
      ∧ r.2.sem = fun _ => 0)

def quiescent_UpdateShardRefIdeal [hUpdateShardRefIdeal : Cert.UpdateShardRefIdeal.Facts] : Prop :=
  ∀ (m : (ℓ : Loc Cert.UpdateShardRefIdeal.nD Cert.UpdateShardRefIdeal.τ Cert.UpdateShardRefIdeal.sig) → Buf (Elt Ideal) ℓ) (g : Dev Cert.UpdateShardRefIdeal.nD → PrngReg), Pre_UpdateShardRefIdeal m →
    θ_run (Cert.UpdateShardRefIdeal.defs (F := Ideal)) (onTc (τ := Cert.UpdateShardRefIdeal.τ) (Cert.UpdateShardRefIdeal.main (F := Ideal))) ⟨m, fun _ => 0, g⟩ (fun r => (∀ c : Dev Cert.UpdateShardRefIdeal.nD,
      r.2.mem ((c.tc : Thread Cert.UpdateShardRefIdeal.nD Cert.UpdateShardRefIdeal.τ).loc Cert.UpdateShardRefIdeal.main_arg0) = m ((c.tc : Thread Cert.UpdateShardRefIdeal.nD Cert.UpdateShardRefIdeal.τ).loc Cert.UpdateShardRefIdeal.main_arg0)
      ∧ r.2.mem ((c.tc : Thread Cert.UpdateShardRefIdeal.nD Cert.UpdateShardRefIdeal.τ).loc Cert.UpdateShardRefIdeal.main_arg1) = m ((c.tc : Thread Cert.UpdateShardRefIdeal.nD Cert.UpdateShardRefIdeal.τ).loc Cert.UpdateShardRefIdeal.main_arg1)
      ∧ r.2.mem ((c.tc : Thread Cert.UpdateShardRefIdeal.nD Cert.UpdateShardRefIdeal.τ).loc Cert.UpdateShardRefIdeal.main_arg2) = m ((c.tc : Thread Cert.UpdateShardRefIdeal.nD Cert.UpdateShardRefIdeal.τ).loc Cert.UpdateShardRefIdeal.main_arg2)
      ∧ r.2.mem ((c.tc : Thread Cert.UpdateShardRefIdeal.nD Cert.UpdateShardRefIdeal.τ).loc Cert.UpdateShardRefIdeal.main_arg3) = m ((c.tc : Thread Cert.UpdateShardRefIdeal.nD Cert.UpdateShardRefIdeal.τ).loc Cert.UpdateShardRefIdeal.main_arg3))
      ∧ r.2.sem = fun _ => 0)

def quiescent_UpdateWhole [hUpdateWhole : Cert.UpdateWhole.Facts] : Prop :=
  ∀ (m : (ℓ : Loc Cert.UpdateWhole.nD Cert.UpdateWhole.τ Cert.UpdateWhole.sig) → Buf (Elt Bits) ℓ) (g : Dev Cert.UpdateWhole.nD → PrngReg), Pre_UpdateWhole m →
    θ_run (Cert.UpdateWhole.defs (F := Bits)) (onTc (τ := Cert.UpdateWhole.τ) (Cert.UpdateWhole.main (F := Bits))) ⟨m, fun _ => 0, g⟩ (fun r => (∀ c : Dev Cert.UpdateWhole.nD,
      r.2.mem ((c.tc : Thread Cert.UpdateWhole.nD Cert.UpdateWhole.τ).loc Cert.UpdateWhole.main_arg0) = m ((c.tc : Thread Cert.UpdateWhole.nD Cert.UpdateWhole.τ).loc Cert.UpdateWhole.main_arg0)
      ∧ r.2.mem ((c.tc : Thread Cert.UpdateWhole.nD Cert.UpdateWhole.τ).loc Cert.UpdateWhole.main_arg1) = m ((c.tc : Thread Cert.UpdateWhole.nD Cert.UpdateWhole.τ).loc Cert.UpdateWhole.main_arg1)
      ∧ r.2.mem ((c.tc : Thread Cert.UpdateWhole.nD Cert.UpdateWhole.τ).loc Cert.UpdateWhole.main_arg2) = m ((c.tc : Thread Cert.UpdateWhole.nD Cert.UpdateWhole.τ).loc Cert.UpdateWhole.main_arg2)
      ∧ r.2.mem ((c.tc : Thread Cert.UpdateWhole.nD Cert.UpdateWhole.τ).loc Cert.UpdateWhole.main_arg3) = m ((c.tc : Thread Cert.UpdateWhole.nD Cert.UpdateWhole.τ).loc Cert.UpdateWhole.main_arg3))
      ∧ r.2.sem = fun _ => 0)

def quiescent_UpdateWholeIdeal [hUpdateWholeIdeal : Cert.UpdateWholeIdeal.Facts] : Prop :=
  ∀ (m : (ℓ : Loc Cert.UpdateWholeIdeal.nD Cert.UpdateWholeIdeal.τ Cert.UpdateWholeIdeal.sig) → Buf (Elt Ideal) ℓ) (g : Dev Cert.UpdateWholeIdeal.nD → PrngReg), Pre_UpdateWholeIdeal m →
    θ_run (Cert.UpdateWholeIdeal.defs (F := Ideal)) (onTc (τ := Cert.UpdateWholeIdeal.τ) (Cert.UpdateWholeIdeal.main (F := Ideal))) ⟨m, fun _ => 0, g⟩ (fun r => (∀ c : Dev Cert.UpdateWholeIdeal.nD,
      r.2.mem ((c.tc : Thread Cert.UpdateWholeIdeal.nD Cert.UpdateWholeIdeal.τ).loc Cert.UpdateWholeIdeal.main_arg0) = m ((c.tc : Thread Cert.UpdateWholeIdeal.nD Cert.UpdateWholeIdeal.τ).loc Cert.UpdateWholeIdeal.main_arg0)
      ∧ r.2.mem ((c.tc : Thread Cert.UpdateWholeIdeal.nD Cert.UpdateWholeIdeal.τ).loc Cert.UpdateWholeIdeal.main_arg1) = m ((c.tc : Thread Cert.UpdateWholeIdeal.nD Cert.UpdateWholeIdeal.τ).loc Cert.UpdateWholeIdeal.main_arg1)
      ∧ r.2.mem ((c.tc : Thread Cert.UpdateWholeIdeal.nD Cert.UpdateWholeIdeal.τ).loc Cert.UpdateWholeIdeal.main_arg2) = m ((c.tc : Thread Cert.UpdateWholeIdeal.nD Cert.UpdateWholeIdeal.τ).loc Cert.UpdateWholeIdeal.main_arg2)
      ∧ r.2.mem ((c.tc : Thread Cert.UpdateWholeIdeal.nD Cert.UpdateWholeIdeal.τ).loc Cert.UpdateWholeIdeal.main_arg3) = m ((c.tc : Thread Cert.UpdateWholeIdeal.nD Cert.UpdateWholeIdeal.τ).loc Cert.UpdateWholeIdeal.main_arg3))
      ∧ r.2.sem = fun _ => 0)

def quiescent_UpdateWholeRefIdeal [hUpdateWholeRefIdeal : Cert.UpdateWholeRefIdeal.Facts] : Prop :=
  ∀ (m : (ℓ : Loc Cert.UpdateWholeRefIdeal.nD Cert.UpdateWholeRefIdeal.τ Cert.UpdateWholeRefIdeal.sig) → Buf (Elt Ideal) ℓ) (g : Dev Cert.UpdateWholeRefIdeal.nD → PrngReg), Pre_UpdateWholeRefIdeal m →
    θ_run (Cert.UpdateWholeRefIdeal.defs (F := Ideal)) (onTc (τ := Cert.UpdateWholeRefIdeal.τ) (Cert.UpdateWholeRefIdeal.main (F := Ideal))) ⟨m, fun _ => 0, g⟩ (fun r => (∀ c : Dev Cert.UpdateWholeRefIdeal.nD,
      r.2.mem ((c.tc : Thread Cert.UpdateWholeRefIdeal.nD Cert.UpdateWholeRefIdeal.τ).loc Cert.UpdateWholeRefIdeal.main_arg0) = m ((c.tc : Thread Cert.UpdateWholeRefIdeal.nD Cert.UpdateWholeRefIdeal.τ).loc Cert.UpdateWholeRefIdeal.main_arg0)
      ∧ r.2.mem ((c.tc : Thread Cert.UpdateWholeRefIdeal.nD Cert.UpdateWholeRefIdeal.τ).loc Cert.UpdateWholeRefIdeal.main_arg1) = m ((c.tc : Thread Cert.UpdateWholeRefIdeal.nD Cert.UpdateWholeRefIdeal.τ).loc Cert.UpdateWholeRefIdeal.main_arg1)
      ∧ r.2.mem ((c.tc : Thread Cert.UpdateWholeRefIdeal.nD Cert.UpdateWholeRefIdeal.τ).loc Cert.UpdateWholeRefIdeal.main_arg2) = m ((c.tc : Thread Cert.UpdateWholeRefIdeal.nD Cert.UpdateWholeRefIdeal.τ).loc Cert.UpdateWholeRefIdeal.main_arg2)
      ∧ r.2.mem ((c.tc : Thread Cert.UpdateWholeRefIdeal.nD Cert.UpdateWholeRefIdeal.τ).loc Cert.UpdateWholeRefIdeal.main_arg3) = m ((c.tc : Thread Cert.UpdateWholeRefIdeal.nD Cert.UpdateWholeRefIdeal.τ).loc Cert.UpdateWholeRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8))
      ∧ r.2.sem = fun _ => 0)

def quiescent_PoolBwd [hPoolBwd : Cert.PoolBwd.Facts] : Prop :=
  ∀ (m : (ℓ : Loc Cert.PoolBwd.nD Cert.PoolBwd.τ Cert.PoolBwd.sig) → Buf (Elt Bits) ℓ) (g : Dev Cert.PoolBwd.nD → PrngReg), Pre_PoolBwd m →
    θ_run (Cert.PoolBwd.defs (F := Bits)) (onTc (τ := Cert.PoolBwd.τ) (Cert.PoolBwd.main (F := Bits))) ⟨m, fun _ => 0, g⟩ (fun r => (∀ c : Dev Cert.PoolBwd.nD,
      r.2.mem ((c.tc : Thread Cert.PoolBwd.nD Cert.PoolBwd.τ).loc Cert.PoolBwd.main_arg0) = m ((c.tc : Thread Cert.PoolBwd.nD Cert.PoolBwd.τ).loc Cert.PoolBwd.main_arg0))
      ∧ r.2.sem = fun _ => 0)

def quiescent_PoolBwdIdeal [hPoolBwdIdeal : Cert.PoolBwdIdeal.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0))
      ∧ r.2.sem = fun _ => 0)

def quiescent_PoolBwdRefIdeal [hPoolBwdRefIdeal : Cert.PoolBwdRefIdeal.Facts] : Prop :=
  ∀ (m : (ℓ : Loc Cert.PoolBwdRefIdeal.nD Cert.PoolBwdRefIdeal.τ Cert.PoolBwdRefIdeal.sig) → Buf (Elt Ideal) ℓ) (g : Dev Cert.PoolBwdRefIdeal.nD → PrngReg), Pre_PoolBwdRefIdeal m →
    θ_run (Cert.PoolBwdRefIdeal.defs (F := Ideal)) (onTc (τ := Cert.PoolBwdRefIdeal.τ) (Cert.PoolBwdRefIdeal.main (F := Ideal))) ⟨m, fun _ => 0, g⟩ (fun r => (∀ c : Dev Cert.PoolBwdRefIdeal.nD,
      r.2.mem ((c.tc : Thread Cert.PoolBwdRefIdeal.nD Cert.PoolBwdRefIdeal.τ).loc Cert.PoolBwdRefIdeal.main_arg0) = m ((c.tc : Thread Cert.PoolBwdRefIdeal.nD Cert.PoolBwdRefIdeal.τ).loc Cert.PoolBwdRefIdeal.main_arg0))
      ∧ r.2.sem = fun _ => 0)

def quiescent_PoolFwd [hPoolFwd : Cert.PoolFwd.Facts] : Prop :=
  ∀ (m : (ℓ : Loc Cert.PoolFwd.nD Cert.PoolFwd.τ Cert.PoolFwd.sig) → Buf (Elt Bits) ℓ) (g : Dev Cert.PoolFwd.nD → PrngReg), Pre_PoolFwd m →
    θ_run (Cert.PoolFwd.defs (F := Bits)) (onTc (τ := Cert.PoolFwd.τ) (Cert.PoolFwd.main (F := Bits))) ⟨m, fun _ => 0, g⟩ (fun r => (∀ c : Dev Cert.PoolFwd.nD,
      r.2.mem ((c.tc : Thread Cert.PoolFwd.nD Cert.PoolFwd.τ).loc Cert.PoolFwd.main_arg0) = m ((c.tc : Thread Cert.PoolFwd.nD Cert.PoolFwd.τ).loc Cert.PoolFwd.main_arg0))
      ∧ r.2.sem = fun _ => 0)

def quiescent_PoolFwdIdeal [hPoolFwdIdeal : Cert.PoolFwdIdeal.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0))
      ∧ r.2.sem = fun _ => 0)

def quiescent_PoolFwdRefIdeal [hPoolFwdRefIdeal : Cert.PoolFwdRefIdeal.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2)
      ∧ r.2.mem ((c.tc : Thread Cert.ConvFwd.nD Cert.ConvFwd.τ).loc Cert.ConvFwd.main_arg3) = m ((c.tc : Thread Cert.ConvFwd.nD Cert.ConvFwd.τ).loc Cert.ConvFwd.main_arg3)
      ∧ r.2.mem ((c.tc : Thread Cert.ConvFwd.nD Cert.ConvFwd.τ).loc Cert.ConvFwd.main_arg4) = m ((c.tc : Thread Cert.ConvFwd.nD Cert.ConvFwd.τ).loc Cert.ConvFwd.main_arg4))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
      ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3)
      ∧ r.2.mem ((c.tc : Thread Cert.ConvFwdIdeal.nD Cert.ConvFwdIdeal.τ).loc Cert.ConvFwdIdeal.main_arg4) = m ((c.tc : Thread Cert.ConvFwdIdeal.nD Cert.ConvFwdIdeal.τ).loc Cert.ConvFwdIdeal.main_arg4))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2)
      ∧ r.2.mem ((c.tc : Thread Cert.ConvFwdRefIdeal.nD Cert.ConvFwdRefIdeal.τ).loc Cert.ConvFwdRefIdeal.main_arg3) = m ((c.tc : Thread Cert.ConvFwdRefIdeal.nD Cert.ConvFwdRefIdeal.τ).loc Cert.ConvFwdRefIdeal.main_arg3)
      ∧ r.2.mem ((c.tc : Thread Cert.ConvFwdRefIdeal.nD Cert.ConvFwdRefIdeal.τ).loc Cert.ConvFwdRefIdeal.main_arg4) = m ((c.tc : Thread Cert.ConvFwdRefIdeal.nD Cert.ConvFwdRefIdeal.τ).loc Cert.ConvFwdRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def preserves_ConvIn_ConvInIdeal : Prop :=
  True

def algebraic_ConvInIdeal_ConvInRefIdeal [hConvInIdeal : Cert.ConvInIdeal.Facts] [hConvInRefIdeal : Cert.ConvInRefIdeal.Facts] : Prop :=
  ∀ (m : (ℓ : Loc Cert.ConvInIdeal.nD Cert.ConvInIdeal.τ Cert.ConvInIdeal.sig) → Buf (Elt Ideal) ℓ) (g : Dev Cert.ConvInIdeal.nD → PrngReg)
    (m' : (ℓ : Loc Cert.ConvInRefIdeal.nD Cert.ConvInRefIdeal.τ Cert.ConvInRefIdeal.sig) → Buf (Elt Ideal) ℓ) (g' : Dev Cert.ConvInRefIdeal.nD → PrngReg), Pre_ConvInIdeal m →
    (∀ c : Dev Cert.ConvInIdeal.nD,
      m' ((c.tc : Thread Cert.ConvInRefIdeal.nD Cert.ConvInRefIdeal.τ).loc Cert.ConvInRefIdeal.main_arg0) = m ((c.tc : Thread Cert.ConvInIdeal.nD Cert.ConvInIdeal.τ).loc Cert.ConvInIdeal.main_arg0)
      ∧ m' ((c.tc : Thread Cert.ConvInRefIdeal.nD Cert.ConvInRefIdeal.τ).loc Cert.ConvInRefIdeal.main_arg1) = m ((c.tc : Thread Cert.ConvInIdeal.nD Cert.ConvInIdeal.τ).loc Cert.ConvInIdeal.main_arg1)
      ∧ m' ((c.tc : Thread Cert.ConvInRefIdeal.nD Cert.ConvInRefIdeal.τ).loc Cert.ConvInRefIdeal.main_arg2) = m ((c.tc : Thread Cert.ConvInIdeal.nD Cert.ConvInIdeal.τ).loc Cert.ConvInIdeal.main_arg2)) →
    ∃ (v0 : (c : Dev Cert.ConvInIdeal.nD) → Buf (Elt Ideal) ((c.tc : Thread Cert.ConvInIdeal.nD Cert.ConvInIdeal.τ).loc Cert.ConvInIdeal.main_v0)),
      θ_run (Cert.ConvInIdeal.defs (F := Ideal)) (onTc (τ := Cert.ConvInIdeal.τ) (Cert.ConvInIdeal.main (F := Ideal))) ⟨m, fun _ => 0, g⟩ (fun r => ∀ c : Dev Cert.ConvInIdeal.nD,
          r.2.mem ((c.tc : Thread Cert.ConvInIdeal.nD Cert.ConvInIdeal.τ).loc Cert.ConvInIdeal.main_v0) = v0 c
          ∧ r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
          ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1)
          ∧ r.2.mem ((c.tc : Thread Cert.ConvInIdeal.nD Cert.ConvInIdeal.τ).loc Cert.ConvInIdeal.main_arg2) = m ((c.tc : Thread Cert.ConvInIdeal.nD Cert.ConvInIdeal.τ).loc Cert.ConvInIdeal.main_arg2))
      ∧ θ_run (Cert.ConvInRefIdeal.defs (F := Ideal)) (onTc (τ := Cert.ConvInRefIdeal.τ) (Cert.ConvInRefIdeal.main (F := Ideal))) ⟨m', fun _ => 0, g'⟩ (fun r => ∀ c : Dev Cert.ConvInRefIdeal.nD,
          r.2.mem ((c.tc : Thread Cert.ConvInRefIdeal.nD Cert.ConvInRefIdeal.τ).loc Cert.ConvInRefIdeal.main_v367) = v0 c
          ∧ r.2.mem ((c.tc : Thread Cert.ConvInRefIdeal.nD Cert.ConvInRefIdeal.τ).loc Cert.ConvInRefIdeal.main_arg0) = m' ((c.tc : Thread Cert.ConvInRefIdeal.nD Cert.ConvInRefIdeal.τ).loc Cert.ConvInRefIdeal.main_arg0)
          ∧ r.2.mem ((c.tc : Thread Cert.ConvInRefIdeal.nD Cert.ConvInRefIdeal.τ).loc Cert.ConvInRefIdeal.main_arg1) = m' ((c.tc : Thread Cert.ConvInRefIdeal.nD Cert.ConvInRefIdeal.τ).loc Cert.ConvInRefIdeal.main_arg1)
          ∧ r.2.mem ((c.tc : Thread Cert.ConvInRefIdeal.nD Cert.ConvInRefIdeal.τ).loc Cert.ConvInRefIdeal.main_arg2) = m' ((c.tc : Thread Cert.ConvInRefIdeal.nD Cert.ConvInRefIdeal.τ).loc Cert.ConvInRefIdeal.main_arg2))

def preserves_UpWeight_UpWeightIdeal : Prop :=
  True

def algebraic_UpWeightIdeal_UpWeightRefIdeal [hUpWeightIdeal : Cert.UpWeightIdeal.Facts] [hUpWeightRefIdeal : Cert.UpWeightRefIdeal.Facts] : Prop :=
  ∀ (m : (ℓ : Loc Cert.UpWeightIdeal.nD Cert.UpWeightIdeal.τ Cert.UpWeightIdeal.sig) → Buf (Elt Ideal) ℓ) (g : Dev Cert.UpWeightIdeal.nD → PrngReg)
    (m' : (ℓ : Loc Cert.UpWeightRefIdeal.nD Cert.UpWeightRefIdeal.τ Cert.UpWeightRefIdeal.sig) → Buf (Elt Ideal) ℓ) (g' : Dev Cert.UpWeightRefIdeal.nD → PrngReg), Pre_UpWeightIdeal m →
    (∀ c : Dev Cert.UpWeightIdeal.nD,
      m' ((c.tc : Thread Cert.UpWeightRefIdeal.nD Cert.UpWeightRefIdeal.τ).loc Cert.UpWeightRefIdeal.main_arg0) = m ((c.tc : Thread Cert.UpWeightIdeal.nD Cert.UpWeightIdeal.τ).loc Cert.UpWeightIdeal.main_arg0)
      ∧ m' ((c.tc : Thread Cert.UpWeightRefIdeal.nD Cert.UpWeightRefIdeal.τ).loc Cert.UpWeightRefIdeal.main_arg1) = m ((c.tc : Thread Cert.UpWeightIdeal.nD Cert.UpWeightIdeal.τ).loc Cert.UpWeightIdeal.main_arg1)) →
    ∃ (v0 : (c : Dev Cert.UpWeightIdeal.nD) → Buf (Elt Ideal) ((c.tc : Thread Cert.UpWeightIdeal.nD Cert.UpWeightIdeal.τ).loc Cert.UpWeightIdeal.main_v0)),
      θ_run (Cert.UpWeightIdeal.defs (F := Ideal)) (onTc (τ := Cert.UpWeightIdeal.τ) (Cert.UpWeightIdeal.main (F := Ideal))) ⟨m, fun _ => 0, g⟩ (fun r => ∀ c : Dev Cert.UpWeightIdeal.nD,
          r.2.mem ((c.tc : Thread Cert.UpWeightIdeal.nD Cert.UpWeightIdeal.τ).loc Cert.UpWeightIdeal.main_v0) = v0 c
          ∧ r.2.mem ((c.tc : Thread Cert.UpWeightIdeal.nD Cert.UpWeightIdeal.τ).loc Cert.UpWeightIdeal.main_arg0) = m ((c.tc : Thread Cert.UpWeightIdeal.nD Cert.UpWeightIdeal.τ).loc Cert.UpWeightIdeal.main_arg0)
          ∧ r.2.mem ((c.tc : Thread Cert.UpWeightIdeal.nD Cert.UpWeightIdeal.τ).loc Cert.UpWeightIdeal.main_arg1) = m ((c.tc : Thread Cert.UpWeightIdeal.nD Cert.UpWeightIdeal.τ).loc Cert.UpWeightIdeal.main_arg1))
      ∧ θ_run (Cert.UpWeightRefIdeal.defs (F := Ideal)) (onTc (τ := Cert.UpWeightRefIdeal.τ) (Cert.UpWeightRefIdeal.main (F := Ideal))) ⟨m', fun _ => 0, g'⟩ (fun r => ∀ c : Dev Cert.UpWeightRefIdeal.nD,
          r.2.mem ((c.tc : Thread Cert.UpWeightRefIdeal.nD Cert.UpWeightRefIdeal.τ).loc Cert.UpWeightRefIdeal.main_v5) = v0 c
          ∧ r.2.mem ((c.tc : Thread Cert.UpWeightRefIdeal.nD Cert.UpWeightRefIdeal.τ).loc Cert.UpWeightRefIdeal.main_arg0) = m' ((c.tc : Thread Cert.UpWeightRefIdeal.nD Cert.UpWeightRefIdeal.τ).loc Cert.UpWeightRefIdeal.main_arg0)
          ∧ r.2.mem ((c.tc : Thread Cert.UpWeightRefIdeal.nD Cert.UpWeightRefIdeal.τ).loc Cert.UpWeightRefIdeal.main_arg1) = m' ((c.tc : Thread Cert.UpWeightRefIdeal.nD Cert.UpWeightRefIdeal.τ).loc Cert.UpWeightRefIdeal.main_arg1))

def preserves_DownWeight_DownWeightIdeal : Prop :=
  True

def algebraic_DownWeightIdeal_DownWeightRefIdeal [hDownWeightIdeal : Cert.DownWeightIdeal.Facts] [hDownWeightRefIdeal : Cert.DownWeightRefIdeal.Facts] : Prop :=
  ∀ (m : (ℓ : Loc Cert.DownWeightIdeal.nD Cert.DownWeightIdeal.τ Cert.DownWeightIdeal.sig) → Buf (Elt Ideal) ℓ) (g : Dev Cert.DownWeightIdeal.nD → PrngReg)
    (m' : (ℓ : Loc Cert.DownWeightRefIdeal.nD Cert.DownWeightRefIdeal.τ Cert.DownWeightRefIdeal.sig) → Buf (Elt Ideal) ℓ) (g' : Dev Cert.DownWeightRefIdeal.nD → PrngReg), Pre_DownWeightIdeal m →
    (∀ c : Dev Cert.DownWeightIdeal.nD,
      m' ((c.tc : Thread Cert.DownWeightRefIdeal.nD Cert.DownWeightRefIdeal.τ).loc Cert.DownWeightRefIdeal.main_arg0) = m ((c.tc : Thread Cert.DownWeightIdeal.nD Cert.DownWeightIdeal.τ).loc Cert.DownWeightIdeal.main_arg0)
      ∧ m' ((c.tc : Thread Cert.DownWeightRefIdeal.nD Cert.DownWeightRefIdeal.τ).loc Cert.DownWeightRefIdeal.main_arg1) = m ((c.tc : Thread Cert.DownWeightIdeal.nD Cert.DownWeightIdeal.τ).loc Cert.DownWeightIdeal.main_arg1)) →
    ∃ (v0 : (c : Dev Cert.DownWeightIdeal.nD) → Buf (Elt Ideal) ((c.tc : Thread Cert.DownWeightIdeal.nD Cert.DownWeightIdeal.τ).loc Cert.DownWeightIdeal.main_v0)),
      θ_run (Cert.DownWeightIdeal.defs (F := Ideal)) (onTc (τ := Cert.DownWeightIdeal.τ) (Cert.DownWeightIdeal.main (F := Ideal))) ⟨m, fun _ => 0, g⟩ (fun r => ∀ c : Dev Cert.DownWeightIdeal.nD,
          r.2.mem ((c.tc : Thread Cert.DownWeightIdeal.nD Cert.DownWeightIdeal.τ).loc Cert.DownWeightIdeal.main_v0) = v0 c
          ∧ r.2.mem ((c.tc : Thread Cert.DownWeightIdeal.nD Cert.DownWeightIdeal.τ).loc Cert.DownWeightIdeal.main_arg0) = m ((c.tc : Thread Cert.DownWeightIdeal.nD Cert.DownWeightIdeal.τ).loc Cert.DownWeightIdeal.main_arg0)
          ∧ r.2.mem ((c.tc : Thread Cert.DownWeightIdeal.nD Cert.DownWeightIdeal.τ).loc Cert.DownWeightIdeal.main_arg1) = m ((c.tc : Thread Cert.DownWeightIdeal.nD Cert.DownWeightIdeal.τ).loc Cert.DownWeightIdeal.main_arg1))
      ∧ θ_run (Cert.DownWeightRefIdeal.defs (F := Ideal)) (onTc (τ := Cert.DownWeightRefIdeal.τ) (Cert.DownWeightRefIdeal.main (F := Ideal))) ⟨m', fun _ => 0, g'⟩ (fun r => ∀ c : Dev Cert.DownWeightRefIdeal.nD,
          r.2.mem ((c.tc : Thread Cert.DownWeightRefIdeal.nD Cert.DownWeightRefIdeal.τ).loc Cert.DownWeightRefIdeal.main_v5) = v0 c
          ∧ r.2.mem ((c.tc : Thread Cert.DownWeightRefIdeal.nD Cert.DownWeightRefIdeal.τ).loc Cert.DownWeightRefIdeal.main_arg0) = m' ((c.tc : Thread Cert.DownWeightRefIdeal.nD Cert.DownWeightRefIdeal.τ).loc Cert.DownWeightRefIdeal.main_arg0)
          ∧ r.2.mem ((c.tc : Thread Cert.DownWeightRefIdeal.nD Cert.DownWeightRefIdeal.τ).loc Cert.DownWeightRefIdeal.main_arg1) = m' ((c.tc : Thread Cert.DownWeightRefIdeal.nD Cert.DownWeightRefIdeal.τ).loc Cert.DownWeightRefIdeal.main_arg1))

def preserves_DownInput_DownInputIdeal : Prop :=
  True

def algebraic_DownInputIdeal_DownInputRefIdeal [hDownInputIdeal : Cert.DownInputIdeal.Facts] [hDownInputRefIdeal : Cert.DownInputRefIdeal.Facts] : Prop :=
  ∀ (m : (ℓ : Loc Cert.DownInputIdeal.nD Cert.DownInputIdeal.τ Cert.DownInputIdeal.sig) → Buf (Elt Ideal) ℓ) (g : Dev Cert.DownInputIdeal.nD → PrngReg)
    (m' : (ℓ : Loc Cert.DownInputRefIdeal.nD Cert.DownInputRefIdeal.τ Cert.DownInputRefIdeal.sig) → Buf (Elt Ideal) ℓ) (g' : Dev Cert.DownInputRefIdeal.nD → PrngReg), Pre_DownInputIdeal m →
    (∀ c : Dev Cert.DownInputIdeal.nD,
      m' ((c.tc : Thread Cert.DownInputRefIdeal.nD Cert.DownInputRefIdeal.τ).loc Cert.DownInputRefIdeal.main_arg0) = m ((c.tc : Thread Cert.DownInputIdeal.nD Cert.DownInputIdeal.τ).loc Cert.DownInputIdeal.main_arg0)
      ∧ m' ((c.tc : Thread Cert.DownInputRefIdeal.nD Cert.DownInputRefIdeal.τ).loc Cert.DownInputRefIdeal.main_arg1) = m ((c.tc : Thread Cert.DownInputIdeal.nD Cert.DownInputIdeal.τ).loc Cert.DownInputIdeal.main_arg1)) →
    ∃ (v0 : (c : Dev Cert.DownInputIdeal.nD) → Buf (Elt Ideal) ((c.tc : Thread Cert.DownInputIdeal.nD Cert.DownInputIdeal.τ).loc Cert.DownInputIdeal.main_v1)),
      θ_run (Cert.DownInputIdeal.defs (F := Ideal)) (onTc (τ := Cert.DownInputIdeal.τ) (Cert.DownInputIdeal.main (F := Ideal))) ⟨m, fun _ => 0, g⟩ (fun r => ∀ c : Dev Cert.DownInputIdeal.nD,
          r.2.mem ((c.tc : Thread Cert.DownInputIdeal.nD Cert.DownInputIdeal.τ).loc Cert.DownInputIdeal.main_v1) = v0 c
          ∧ r.2.mem ((c.tc : Thread Cert.DownInputIdeal.nD Cert.DownInputIdeal.τ).loc Cert.DownInputIdeal.main_arg0) = m ((c.tc : Thread Cert.DownInputIdeal.nD Cert.DownInputIdeal.τ).loc Cert.DownInputIdeal.main_arg0)
          ∧ r.2.mem ((c.tc : Thread Cert.DownInputIdeal.nD Cert.DownInputIdeal.τ).loc Cert.DownInputIdeal.main_arg1) = m ((c.tc : Thread Cert.DownInputIdeal.nD Cert.DownInputIdeal.τ).loc Cert.DownInputIdeal.main_arg1))
      ∧ θ_run (Cert.DownInputRefIdeal.defs (F := Ideal)) (onTc (τ := Cert.DownInputRefIdeal.τ) (Cert.DownInputRefIdeal.main (F := Ideal))) ⟨m', fun _ => 0, g'⟩ (fun r => ∀ c : Dev Cert.DownInputRefIdeal.nD,
          r.2.mem ((c.tc : Thread Cert.DownInputRefIdeal.nD Cert.DownInputRefIdeal.τ).loc Cert.DownInputRefIdeal.main_v5) = v0 c
          ∧ r.2.mem ((c.tc : Thread Cert.DownInputRefIdeal.nD Cert.DownInputRefIdeal.τ).loc Cert.DownInputRefIdeal.main_arg0) = m' ((c.tc : Thread Cert.DownInputRefIdeal.nD Cert.DownInputRefIdeal.τ).loc Cert.DownInputRefIdeal.main_arg0)
          ∧ r.2.mem ((c.tc : Thread Cert.DownInputRefIdeal.nD Cert.DownInputRefIdeal.τ).loc Cert.DownInputRefIdeal.main_arg1) = m' ((c.tc : Thread Cert.DownInputRefIdeal.nD Cert.DownInputRefIdeal.τ).loc Cert.DownInputRefIdeal.main_arg1))

def preserves_UpInput_UpInputIdeal : Prop :=
  True

def algebraic_UpInputIdeal_UpInputRefIdeal [hUpInputIdeal : Cert.UpInputIdeal.Facts] [hUpInputRefIdeal : Cert.UpInputRefIdeal.Facts] : Prop :=
  ∀ (m : (ℓ : Loc Cert.UpInputIdeal.nD Cert.UpInputIdeal.τ Cert.UpInputIdeal.sig) → Buf (Elt Ideal) ℓ) (g : Dev Cert.UpInputIdeal.nD → PrngReg)
    (m' : (ℓ : Loc Cert.UpInputRefIdeal.nD Cert.UpInputRefIdeal.τ Cert.UpInputRefIdeal.sig) → Buf (Elt Ideal) ℓ) (g' : Dev Cert.UpInputRefIdeal.nD → PrngReg), Pre_UpInputIdeal m →
    (∀ c : Dev Cert.UpInputIdeal.nD,
      m' ((c.tc : Thread Cert.UpInputRefIdeal.nD Cert.UpInputRefIdeal.τ).loc Cert.UpInputRefIdeal.main_arg0) = m ((c.tc : Thread Cert.UpInputIdeal.nD Cert.UpInputIdeal.τ).loc Cert.UpInputIdeal.main_arg0)
      ∧ m' ((c.tc : Thread Cert.UpInputRefIdeal.nD Cert.UpInputRefIdeal.τ).loc Cert.UpInputRefIdeal.main_arg1) = m ((c.tc : Thread Cert.UpInputIdeal.nD Cert.UpInputIdeal.τ).loc Cert.UpInputIdeal.main_arg1)) →
    ∃ (v0 : (c : Dev Cert.UpInputIdeal.nD) → Buf (Elt Ideal) ((c.tc : Thread Cert.UpInputIdeal.nD Cert.UpInputIdeal.τ).loc Cert.UpInputIdeal.main_v1)),
      θ_run (Cert.UpInputIdeal.defs (F := Ideal)) (onTc (τ := Cert.UpInputIdeal.τ) (Cert.UpInputIdeal.main (F := Ideal))) ⟨m, fun _ => 0, g⟩ (fun r => ∀ c : Dev Cert.UpInputIdeal.nD,
          r.2.mem ((c.tc : Thread Cert.UpInputIdeal.nD Cert.UpInputIdeal.τ).loc Cert.UpInputIdeal.main_v1) = v0 c
          ∧ r.2.mem ((c.tc : Thread Cert.UpInputIdeal.nD Cert.UpInputIdeal.τ).loc Cert.UpInputIdeal.main_arg0) = m ((c.tc : Thread Cert.UpInputIdeal.nD Cert.UpInputIdeal.τ).loc Cert.UpInputIdeal.main_arg0)
          ∧ r.2.mem ((c.tc : Thread Cert.UpInputIdeal.nD Cert.UpInputIdeal.τ).loc Cert.UpInputIdeal.main_arg1) = m ((c.tc : Thread Cert.UpInputIdeal.nD Cert.UpInputIdeal.τ).loc Cert.UpInputIdeal.main_arg1))
      ∧ θ_run (Cert.UpInputRefIdeal.defs (F := Ideal)) (onTc (τ := Cert.UpInputRefIdeal.τ) (Cert.UpInputRefIdeal.main (F := Ideal))) ⟨m', fun _ => 0, g'⟩ (fun r => ∀ c : Dev Cert.UpInputRefIdeal.nD,
          r.2.mem ((c.tc : Thread Cert.UpInputRefIdeal.nD Cert.UpInputRefIdeal.τ).loc Cert.UpInputRefIdeal.main_v4) = v0 c
          ∧ r.2.mem ((c.tc : Thread Cert.UpInputRefIdeal.nD Cert.UpInputRefIdeal.τ).loc Cert.UpInputRefIdeal.main_arg0) = m' ((c.tc : Thread Cert.UpInputRefIdeal.nD Cert.UpInputRefIdeal.τ).loc Cert.UpInputRefIdeal.main_arg0)
          ∧ r.2.mem ((c.tc : Thread Cert.UpInputRefIdeal.nD Cert.UpInputRefIdeal.τ).loc Cert.UpInputRefIdeal.main_arg1) = m' ((c.tc : Thread Cert.UpInputRefIdeal.nD Cert.UpInputRefIdeal.τ).loc Cert.UpInputRefIdeal.main_arg1))

def preserves_UpInputSum_UpInputSumIdeal : Prop :=
  True

def algebraic_UpInputSumIdeal_UpInputSumRefIdeal [hUpInputSumIdeal : Cert.UpInputSumIdeal.Facts] [hUpInputSumRefIdeal : Cert.UpInputSumRefIdeal.Facts] : Prop :=
  ∀ (m : (ℓ : Loc Cert.UpInputSumIdeal.nD Cert.UpInputSumIdeal.τ Cert.UpInputSumIdeal.sig) → Buf (Elt Ideal) ℓ) (g : Dev Cert.UpInputSumIdeal.nD → PrngReg)
    (m' : (ℓ : Loc Cert.UpInputSumRefIdeal.nD Cert.UpInputSumRefIdeal.τ Cert.UpInputSumRefIdeal.sig) → Buf (Elt Ideal) ℓ) (g' : Dev Cert.UpInputSumRefIdeal.nD → PrngReg), Pre_UpInputSumIdeal m →
    (∀ c : Dev Cert.UpInputSumIdeal.nD,
      m' ((c.tc : Thread Cert.UpInputSumRefIdeal.nD Cert.UpInputSumRefIdeal.τ).loc Cert.UpInputSumRefIdeal.main_arg0) = m ((c.tc : Thread Cert.UpInputSumIdeal.nD Cert.UpInputSumIdeal.τ).loc Cert.UpInputSumIdeal.main_arg0)
      ∧ m' ((c.tc : Thread Cert.UpInputSumRefIdeal.nD Cert.UpInputSumRefIdeal.τ).loc Cert.UpInputSumRefIdeal.main_arg1) = m ((c.tc : Thread Cert.UpInputSumIdeal.nD Cert.UpInputSumIdeal.τ).loc Cert.UpInputSumIdeal.main_arg1)
      ∧ m' ((c.tc : Thread Cert.UpInputSumRefIdeal.nD Cert.UpInputSumRefIdeal.τ).loc Cert.UpInputSumRefIdeal.main_arg2) = m ((c.tc : Thread Cert.UpInputSumIdeal.nD Cert.UpInputSumIdeal.τ).loc Cert.UpInputSumIdeal.main_arg2)) →
    ∃ (v0 : (c : Dev Cert.UpInputSumIdeal.nD) → Buf (Elt Ideal) ((c.tc : Thread Cert.UpInputSumIdeal.nD Cert.UpInputSumIdeal.τ).loc Cert.UpInputSumIdeal.main_v1)),
      θ_run (Cert.UpInputSumIdeal.defs (F := Ideal)) (onTc (τ := Cert.UpInputSumIdeal.τ) (Cert.UpInputSumIdeal.main (F := Ideal))) ⟨m, fun _ => 0, g⟩ (fun r => ∀ c : Dev Cert.UpInputSumIdeal.nD,
          r.2.mem ((c.tc : Thread Cert.UpInputSumIdeal.nD Cert.UpInputSumIdeal.τ).loc Cert.UpInputSumIdeal.main_v1) = v0 c
          ∧ r.2.mem ((c.tc : Thread Cert.UpInputSumIdeal.nD Cert.UpInputSumIdeal.τ).loc Cert.UpInputSumIdeal.main_arg0) = m ((c.tc : Thread Cert.UpInputSumIdeal.nD Cert.UpInputSumIdeal.τ).loc Cert.UpInputSumIdeal.main_arg0)
          ∧ r.2.mem ((c.tc : Thread Cert.UpInputSumIdeal.nD Cert.UpInputSumIdeal.τ).loc Cert.UpInputSumIdeal.main_arg1) = m ((c.tc : Thread Cert.UpInputSumIdeal.nD Cert.UpInputSumIdeal.τ).loc Cert.UpInputSumIdeal.main_arg1)
          ∧ r.2.mem ((c.tc : Thread Cert.UpInputSumIdeal.nD Cert.UpInputSumIdeal.τ).loc Cert.UpInputSumIdeal.main_arg2) = m ((c.tc : Thread Cert.UpInputSumIdeal.nD Cert.UpInputSumIdeal.τ).loc Cert.UpInputSumIdeal.main_arg2))
      ∧ θ_run (Cert.UpInputSumRefIdeal.defs (F := Ideal)) (onTc (τ := Cert.UpInputSumRefIdeal.τ) (Cert.UpInputSumRefIdeal.main (F := Ideal))) ⟨m', fun _ => 0, g'⟩ (fun r => ∀ c : Dev Cert.UpInputSumRefIdeal.nD,
          r.2.mem ((c.tc : Thread Cert.UpInputSumRefIdeal.nD Cert.UpInputSumRefIdeal.τ).loc Cert.UpInputSumRefIdeal.main_v6) = v0 c
          ∧ r.2.mem ((c.tc : Thread Cert.UpInputSumRefIdeal.nD Cert.UpInputSumRefIdeal.τ).loc Cert.UpInputSumRefIdeal.main_arg0) = m' ((c.tc : Thread Cert.UpInputSumRefIdeal.nD Cert.UpInputSumRefIdeal.τ).loc Cert.UpInputSumRefIdeal.main_arg0)
          ∧ r.2.mem ((c.tc : Thread Cert.UpInputSumRefIdeal.nD Cert.UpInputSumRefIdeal.τ).loc Cert.UpInputSumRefIdeal.main_arg1) = m' ((c.tc : Thread Cert.UpInputSumRefIdeal.nD Cert.UpInputSumRefIdeal.τ).loc Cert.UpInputSumRefIdeal.main_arg1)
          ∧ r.2.mem ((c.tc : Thread Cert.UpInputSumRefIdeal.nD Cert.UpInputSumRefIdeal.τ).loc Cert.UpInputSumRefIdeal.main_arg2) = m' ((c.tc : Thread Cert.UpInputSumRefIdeal.nD Cert.UpInputSumRefIdeal.τ).loc Cert.UpInputSumRefIdeal.main_arg2))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v3) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v6) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_ProjInput_ProjInputIdeal : Prop :=
  True

def algebraic_ProjInputIdeal_ProjInputRefIdeal [hProjInputIdeal : Cert.ProjInputIdeal.Facts] [hProjInputRefIdeal : Cert.ProjInputRefIdeal.Facts] : Prop :=
  ∀ (m : (ℓ : Loc Cert.ProjInputIdeal.nD Cert.ProjInputIdeal.τ Cert.ProjInputIdeal.sig) → Buf (Elt Ideal) ℓ) (g : Dev Cert.ProjInputIdeal.nD → PrngReg)
    (m' : (ℓ : Loc Cert.ProjInputRefIdeal.nD Cert.ProjInputRefIdeal.τ Cert.ProjInputRefIdeal.sig) → Buf (Elt Ideal) ℓ) (g' : Dev Cert.ProjInputRefIdeal.nD → PrngReg), Pre_ProjInputIdeal m →
    (∀ c : Dev Cert.ProjInputIdeal.nD,
      m' ((c.tc : Thread Cert.ProjInputRefIdeal.nD Cert.ProjInputRefIdeal.τ).loc Cert.ProjInputRefIdeal.main_arg0) = m ((c.tc : Thread Cert.ProjInputIdeal.nD Cert.ProjInputIdeal.τ).loc Cert.ProjInputIdeal.main_arg0)
      ∧ m' ((c.tc : Thread Cert.ProjInputRefIdeal.nD Cert.ProjInputRefIdeal.τ).loc Cert.ProjInputRefIdeal.main_arg1) = m ((c.tc : Thread Cert.ProjInputIdeal.nD Cert.ProjInputIdeal.τ).loc Cert.ProjInputIdeal.main_arg1)) →
    ∃ (v0 : (c : Dev Cert.ProjInputIdeal.nD) → Buf (Elt Ideal) ((c.tc : Thread Cert.ProjInputIdeal.nD Cert.ProjInputIdeal.τ).loc Cert.ProjInputIdeal.main_v1)),
      θ_run (Cert.ProjInputIdeal.defs (F := Ideal)) (onTc (τ := Cert.ProjInputIdeal.τ) (Cert.ProjInputIdeal.main (F := Ideal))) ⟨m, fun _ => 0, g⟩ (fun r => ∀ c : Dev Cert.ProjInputIdeal.nD,
          r.2.mem ((c.tc : Thread Cert.ProjInputIdeal.nD Cert.ProjInputIdeal.τ).loc Cert.ProjInputIdeal.main_v1) = v0 c
          ∧ r.2.mem ((c.tc : Thread Cert.ProjInputIdeal.nD Cert.ProjInputIdeal.τ).loc Cert.ProjInputIdeal.main_arg0) = m ((c.tc : Thread Cert.ProjInputIdeal.nD Cert.ProjInputIdeal.τ).loc Cert.ProjInputIdeal.main_arg0)
          ∧ r.2.mem ((c.tc : Thread Cert.ProjInputIdeal.nD Cert.ProjInputIdeal.τ).loc Cert.ProjInputIdeal.main_arg1) = m ((c.tc : Thread Cert.ProjInputIdeal.nD Cert.ProjInputIdeal.τ).loc Cert.ProjInputIdeal.main_arg1))
      ∧ θ_run (Cert.ProjInputRefIdeal.defs (F := Ideal)) (onTc (τ := Cert.ProjInputRefIdeal.τ) (Cert.ProjInputRefIdeal.main (F := Ideal))) ⟨m', fun _ => 0, g'⟩ (fun r => ∀ c : Dev Cert.ProjInputRefIdeal.nD,
          r.2.mem ((c.tc : Thread Cert.ProjInputRefIdeal.nD Cert.ProjInputRefIdeal.τ).loc Cert.ProjInputRefIdeal.main_v4) = v0 c
          ∧ r.2.mem ((c.tc : Thread Cert.ProjInputRefIdeal.nD Cert.ProjInputRefIdeal.τ).loc Cert.ProjInputRefIdeal.main_arg0) = m' ((c.tc : Thread Cert.ProjInputRefIdeal.nD Cert.ProjInputRefIdeal.τ).loc Cert.ProjInputRefIdeal.main_arg0)
          ∧ r.2.mem ((c.tc : Thread Cert.ProjInputRefIdeal.nD Cert.ProjInputRefIdeal.τ).loc Cert.ProjInputRefIdeal.main_arg1) = m' ((c.tc : Thread Cert.ProjInputRefIdeal.nD Cert.ProjInputRefIdeal.τ).loc Cert.ProjInputRefIdeal.main_arg1))

def preserves_ProjWeight_ProjWeightIdeal : Prop :=
  True

def algebraic_ProjWeightIdeal_ProjWeightRefIdeal [hProjWeightIdeal : Cert.ProjWeightIdeal.Facts] [hProjWeightRefIdeal : Cert.ProjWeightRefIdeal.Facts] : Prop :=
  ∀ (m : (ℓ : Loc Cert.ProjWeightIdeal.nD Cert.ProjWeightIdeal.τ Cert.ProjWeightIdeal.sig) → Buf (Elt Ideal) ℓ) (g : Dev Cert.ProjWeightIdeal.nD → PrngReg)
    (m' : (ℓ : Loc Cert.ProjWeightRefIdeal.nD Cert.ProjWeightRefIdeal.τ Cert.ProjWeightRefIdeal.sig) → Buf (Elt Ideal) ℓ) (g' : Dev Cert.ProjWeightRefIdeal.nD → PrngReg), Pre_ProjWeightIdeal m →
    (∀ c : Dev Cert.ProjWeightIdeal.nD,
      m' ((c.tc : Thread Cert.ProjWeightRefIdeal.nD Cert.ProjWeightRefIdeal.τ).loc Cert.ProjWeightRefIdeal.main_arg0) = m ((c.tc : Thread Cert.ProjWeightIdeal.nD Cert.ProjWeightIdeal.τ).loc Cert.ProjWeightIdeal.main_arg0)
      ∧ m' ((c.tc : Thread Cert.ProjWeightRefIdeal.nD Cert.ProjWeightRefIdeal.τ).loc Cert.ProjWeightRefIdeal.main_arg1) = m ((c.tc : Thread Cert.ProjWeightIdeal.nD Cert.ProjWeightIdeal.τ).loc Cert.ProjWeightIdeal.main_arg1)) →
    ∃ (v0 : (c : Dev Cert.ProjWeightIdeal.nD) → Buf (Elt Ideal) ((c.tc : Thread Cert.ProjWeightIdeal.nD Cert.ProjWeightIdeal.τ).loc Cert.ProjWeightIdeal.main_v0)),
      θ_run (Cert.ProjWeightIdeal.defs (F := Ideal)) (onTc (τ := Cert.ProjWeightIdeal.τ) (Cert.ProjWeightIdeal.main (F := Ideal))) ⟨m, fun _ => 0, g⟩ (fun r => ∀ c : Dev Cert.ProjWeightIdeal.nD,
          r.2.mem ((c.tc : Thread Cert.ProjWeightIdeal.nD Cert.ProjWeightIdeal.τ).loc Cert.ProjWeightIdeal.main_v0) = v0 c
          ∧ r.2.mem ((c.tc : Thread Cert.ProjWeightIdeal.nD Cert.ProjWeightIdeal.τ).loc Cert.ProjWeightIdeal.main_arg0) = m ((c.tc : Thread Cert.ProjWeightIdeal.nD Cert.ProjWeightIdeal.τ).loc Cert.ProjWeightIdeal.main_arg0)
          ∧ r.2.mem ((c.tc : Thread Cert.ProjWeightIdeal.nD Cert.ProjWeightIdeal.τ).loc Cert.ProjWeightIdeal.main_arg1) = m ((c.tc : Thread Cert.ProjWeightIdeal.nD Cert.ProjWeightIdeal.τ).loc Cert.ProjWeightIdeal.main_arg1))
      ∧ θ_run (Cert.ProjWeightRefIdeal.defs (F := Ideal)) (onTc (τ := Cert.ProjWeightRefIdeal.τ) (Cert.ProjWeightRefIdeal.main (F := Ideal))) ⟨m', fun _ => 0, g'⟩ (fun r => ∀ c : Dev Cert.ProjWeightRefIdeal.nD,
          r.2.mem ((c.tc : Thread Cert.ProjWeightRefIdeal.nD Cert.ProjWeightRefIdeal.τ).loc Cert.ProjWeightRefIdeal.main_v5) = v0 c
          ∧ r.2.mem ((c.tc : Thread Cert.ProjWeightRefIdeal.nD Cert.ProjWeightRefIdeal.τ).loc Cert.ProjWeightRefIdeal.main_arg0) = m' ((c.tc : Thread Cert.ProjWeightRefIdeal.nD Cert.ProjWeightRefIdeal.τ).loc Cert.ProjWeightRefIdeal.main_arg0)
          ∧ r.2.mem ((c.tc : Thread Cert.ProjWeightRefIdeal.nD Cert.ProjWeightRefIdeal.τ).loc Cert.ProjWeightRefIdeal.main_arg1) = m' ((c.tc : Thread Cert.ProjWeightRefIdeal.nD Cert.ProjWeightRefIdeal.τ).loc Cert.ProjWeightRefIdeal.main_arg1))

def preserves_OutInput_OutInputIdeal : Prop :=
  True

def algebraic_OutInputIdeal_OutInputRefIdeal [hOutInputIdeal : Cert.OutInputIdeal.Facts] [hOutInputRefIdeal : Cert.OutInputRefIdeal.Facts] : Prop :=
  ∀ (m : (ℓ : Loc Cert.OutInputIdeal.nD Cert.OutInputIdeal.τ Cert.OutInputIdeal.sig) → Buf (Elt Ideal) ℓ) (g : Dev Cert.OutInputIdeal.nD → PrngReg)
    (m' : (ℓ : Loc Cert.OutInputRefIdeal.nD Cert.OutInputRefIdeal.τ Cert.OutInputRefIdeal.sig) → Buf (Elt Ideal) ℓ) (g' : Dev Cert.OutInputRefIdeal.nD → PrngReg), Pre_OutInputIdeal m →
    (∀ c : Dev Cert.OutInputIdeal.nD,
      m' ((c.tc : Thread Cert.OutInputRefIdeal.nD Cert.OutInputRefIdeal.τ).loc Cert.OutInputRefIdeal.main_arg0) = m ((c.tc : Thread Cert.OutInputIdeal.nD Cert.OutInputIdeal.τ).loc Cert.OutInputIdeal.main_arg0)
      ∧ m' ((c.tc : Thread Cert.OutInputRefIdeal.nD Cert.OutInputRefIdeal.τ).loc Cert.OutInputRefIdeal.main_arg1) = m ((c.tc : Thread Cert.OutInputIdeal.nD Cert.OutInputIdeal.τ).loc Cert.OutInputIdeal.main_arg1)) →
    ∃ (v0 : (c : Dev Cert.OutInputIdeal.nD) → Buf (Elt Ideal) ((c.tc : Thread Cert.OutInputIdeal.nD Cert.OutInputIdeal.τ).loc Cert.OutInputIdeal.main_v1)),
      θ_run (Cert.OutInputIdeal.defs (F := Ideal)) (onTc (τ := Cert.OutInputIdeal.τ) (Cert.OutInputIdeal.main (F := Ideal))) ⟨m, fun _ => 0, g⟩ (fun r => ∀ c : Dev Cert.OutInputIdeal.nD,
          r.2.mem ((c.tc : Thread Cert.OutInputIdeal.nD Cert.OutInputIdeal.τ).loc Cert.OutInputIdeal.main_v1) = v0 c
          ∧ r.2.mem ((c.tc : Thread Cert.OutInputIdeal.nD Cert.OutInputIdeal.τ).loc Cert.OutInputIdeal.main_arg0) = m ((c.tc : Thread Cert.OutInputIdeal.nD Cert.OutInputIdeal.τ).loc Cert.OutInputIdeal.main_arg0)
          ∧ r.2.mem ((c.tc : Thread Cert.OutInputIdeal.nD Cert.OutInputIdeal.τ).loc Cert.OutInputIdeal.main_arg1) = m ((c.tc : Thread Cert.OutInputIdeal.nD Cert.OutInputIdeal.τ).loc Cert.OutInputIdeal.main_arg1))
      ∧ θ_run (Cert.OutInputRefIdeal.defs (F := Ideal)) (onTc (τ := Cert.OutInputRefIdeal.τ) (Cert.OutInputRefIdeal.main (F := Ideal))) ⟨m', fun _ => 0, g'⟩ (fun r => ∀ c : Dev Cert.OutInputRefIdeal.nD,
          r.2.mem ((c.tc : Thread Cert.OutInputRefIdeal.nD Cert.OutInputRefIdeal.τ).loc Cert.OutInputRefIdeal.main_v5) = v0 c
          ∧ r.2.mem ((c.tc : Thread Cert.OutInputRefIdeal.nD Cert.OutInputRefIdeal.τ).loc Cert.OutInputRefIdeal.main_arg0) = m' ((c.tc : Thread Cert.OutInputRefIdeal.nD Cert.OutInputRefIdeal.τ).loc Cert.OutInputRefIdeal.main_arg0)
          ∧ r.2.mem ((c.tc : Thread Cert.OutInputRefIdeal.nD Cert.OutInputRefIdeal.τ).loc Cert.OutInputRefIdeal.main_arg1) = m' ((c.tc : Thread Cert.OutInputRefIdeal.nD Cert.OutInputRefIdeal.τ).loc Cert.OutInputRefIdeal.main_arg1))

def preserves_OutWeight_OutWeightIdeal : Prop :=
  True

def algebraic_OutWeightIdeal_OutWeightRefIdeal [hOutWeightIdeal : Cert.OutWeightIdeal.Facts] [hOutWeightRefIdeal : Cert.OutWeightRefIdeal.Facts] : Prop :=
  ∀ (m : (ℓ : Loc Cert.OutWeightIdeal.nD Cert.OutWeightIdeal.τ Cert.OutWeightIdeal.sig) → Buf (Elt Ideal) ℓ) (g : Dev Cert.OutWeightIdeal.nD → PrngReg)
    (m' : (ℓ : Loc Cert.OutWeightRefIdeal.nD Cert.OutWeightRefIdeal.τ Cert.OutWeightRefIdeal.sig) → Buf (Elt Ideal) ℓ) (g' : Dev Cert.OutWeightRefIdeal.nD → PrngReg), Pre_OutWeightIdeal m →
    (∀ c : Dev Cert.OutWeightIdeal.nD,
      m' ((c.tc : Thread Cert.OutWeightRefIdeal.nD Cert.OutWeightRefIdeal.τ).loc Cert.OutWeightRefIdeal.main_arg0) = m ((c.tc : Thread Cert.OutWeightIdeal.nD Cert.OutWeightIdeal.τ).loc Cert.OutWeightIdeal.main_arg0)
      ∧ m' ((c.tc : Thread Cert.OutWeightRefIdeal.nD Cert.OutWeightRefIdeal.τ).loc Cert.OutWeightRefIdeal.main_arg1) = m ((c.tc : Thread Cert.OutWeightIdeal.nD Cert.OutWeightIdeal.τ).loc Cert.OutWeightIdeal.main_arg1)) →
    ∃ (v0 : (c : Dev Cert.OutWeightIdeal.nD) → Buf (Elt Ideal) ((c.tc : Thread Cert.OutWeightIdeal.nD Cert.OutWeightIdeal.τ).loc Cert.OutWeightIdeal.main_v0)),
      θ_run (Cert.OutWeightIdeal.defs (F := Ideal)) (onTc (τ := Cert.OutWeightIdeal.τ) (Cert.OutWeightIdeal.main (F := Ideal))) ⟨m, fun _ => 0, g⟩ (fun r => ∀ c : Dev Cert.OutWeightIdeal.nD,
          r.2.mem ((c.tc : Thread Cert.OutWeightIdeal.nD Cert.OutWeightIdeal.τ).loc Cert.OutWeightIdeal.main_v0) = v0 c
          ∧ r.2.mem ((c.tc : Thread Cert.OutWeightIdeal.nD Cert.OutWeightIdeal.τ).loc Cert.OutWeightIdeal.main_arg0) = m ((c.tc : Thread Cert.OutWeightIdeal.nD Cert.OutWeightIdeal.τ).loc Cert.OutWeightIdeal.main_arg0)
          ∧ r.2.mem ((c.tc : Thread Cert.OutWeightIdeal.nD Cert.OutWeightIdeal.τ).loc Cert.OutWeightIdeal.main_arg1) = m ((c.tc : Thread Cert.OutWeightIdeal.nD Cert.OutWeightIdeal.τ).loc Cert.OutWeightIdeal.main_arg1))
      ∧ θ_run (Cert.OutWeightRefIdeal.defs (F := Ideal)) (onTc (τ := Cert.OutWeightRefIdeal.τ) (Cert.OutWeightRefIdeal.main (F := Ideal))) ⟨m', fun _ => 0, g'⟩ (fun r => ∀ c : Dev Cert.OutWeightRefIdeal.nD,
          r.2.mem ((c.tc : Thread Cert.OutWeightRefIdeal.nD Cert.OutWeightRefIdeal.τ).loc Cert.OutWeightRefIdeal.main_v5) = v0 c
          ∧ r.2.mem ((c.tc : Thread Cert.OutWeightRefIdeal.nD Cert.OutWeightRefIdeal.τ).loc Cert.OutWeightRefIdeal.main_arg0) = m' ((c.tc : Thread Cert.OutWeightRefIdeal.nD Cert.OutWeightRefIdeal.τ).loc Cert.OutWeightRefIdeal.main_arg0)
          ∧ r.2.mem ((c.tc : Thread Cert.OutWeightRefIdeal.nD Cert.OutWeightRefIdeal.τ).loc Cert.OutWeightRefIdeal.main_arg1) = m' ((c.tc : Thread Cert.OutWeightRefIdeal.nD Cert.OutWeightRefIdeal.τ).loc Cert.OutWeightRefIdeal.main_arg1))

def preserves_ProjConv_ProjConvIdeal : Prop :=
  True

def algebraic_ProjConvIdeal_ProjConvRefIdeal [hProjConvIdeal : Cert.ProjConvIdeal.Facts] [hProjConvRefIdeal : Cert.ProjConvRefIdeal.Facts] : Prop :=
  ∀ (m : (ℓ : Loc Cert.ProjConvIdeal.nD Cert.ProjConvIdeal.τ Cert.ProjConvIdeal.sig) → Buf (Elt Ideal) ℓ) (g : Dev Cert.ProjConvIdeal.nD → PrngReg)
    (m' : (ℓ : Loc Cert.ProjConvRefIdeal.nD Cert.ProjConvRefIdeal.τ Cert.ProjConvRefIdeal.sig) → Buf (Elt Ideal) ℓ) (g' : Dev Cert.ProjConvRefIdeal.nD → PrngReg), Pre_ProjConvIdeal m →
    (∀ c : Dev Cert.ProjConvIdeal.nD,
      m' ((c.tc : Thread Cert.ProjConvRefIdeal.nD Cert.ProjConvRefIdeal.τ).loc Cert.ProjConvRefIdeal.main_arg0) = m ((c.tc : Thread Cert.ProjConvIdeal.nD Cert.ProjConvIdeal.τ).loc Cert.ProjConvIdeal.main_arg0)
      ∧ m' ((c.tc : Thread Cert.ProjConvRefIdeal.nD Cert.ProjConvRefIdeal.τ).loc Cert.ProjConvRefIdeal.main_arg1) = m ((c.tc : Thread Cert.ProjConvIdeal.nD Cert.ProjConvIdeal.τ).loc Cert.ProjConvIdeal.main_arg1)) →
    ∃ (v0 : (c : Dev Cert.ProjConvIdeal.nD) → Buf (Elt Ideal) ((c.tc : Thread Cert.ProjConvIdeal.nD Cert.ProjConvIdeal.τ).loc Cert.ProjConvIdeal.main_v0)),
      θ_run (Cert.ProjConvIdeal.defs (F := Ideal)) (onTc (τ := Cert.ProjConvIdeal.τ) (Cert.ProjConvIdeal.main (F := Ideal))) ⟨m, fun _ => 0, g⟩ (fun r => ∀ c : Dev Cert.ProjConvIdeal.nD,
          r.2.mem ((c.tc : Thread Cert.ProjConvIdeal.nD Cert.ProjConvIdeal.τ).loc Cert.ProjConvIdeal.main_v0) = v0 c
          ∧ r.2.mem ((c.tc : Thread Cert.ProjConvIdeal.nD Cert.ProjConvIdeal.τ).loc Cert.ProjConvIdeal.main_arg0) = m ((c.tc : Thread Cert.ProjConvIdeal.nD Cert.ProjConvIdeal.τ).loc Cert.ProjConvIdeal.main_arg0)
          ∧ r.2.mem ((c.tc : Thread Cert.ProjConvIdeal.nD Cert.ProjConvIdeal.τ).loc Cert.ProjConvIdeal.main_arg1) = m ((c.tc : Thread Cert.ProjConvIdeal.nD Cert.ProjConvIdeal.τ).loc Cert.ProjConvIdeal.main_arg1))
      ∧ θ_run (Cert.ProjConvRefIdeal.defs (F := Ideal)) (onTc (τ := Cert.ProjConvRefIdeal.τ) (Cert.ProjConvRefIdeal.main (F := Ideal))) ⟨m', fun _ => 0, g'⟩ (fun r => ∀ c : Dev Cert.ProjConvRefIdeal.nD,
          r.2.mem ((c.tc : Thread Cert.ProjConvRefIdeal.nD Cert.ProjConvRefIdeal.τ).loc Cert.ProjConvRefIdeal.main_v2) = v0 c
          ∧ r.2.mem ((c.tc : Thread Cert.ProjConvRefIdeal.nD Cert.ProjConvRefIdeal.τ).loc Cert.ProjConvRefIdeal.main_arg0) = m' ((c.tc : Thread Cert.ProjConvRefIdeal.nD Cert.ProjConvRefIdeal.τ).loc Cert.ProjConvRefIdeal.main_arg0)
          ∧ r.2.mem ((c.tc : Thread Cert.ProjConvRefIdeal.nD Cert.ProjConvRefIdeal.τ).loc Cert.ProjConvRefIdeal.main_arg1) = m' ((c.tc : Thread Cert.ProjConvRefIdeal.nD Cert.ProjConvRefIdeal.τ).loc Cert.ProjConvRefIdeal.main_arg1))

def preserves_ProjQkv_ProjQkvIdeal : Prop :=
  True

def algebraic_ProjQkvIdeal_ProjQkvRefIdeal [hProjQkvIdeal : Cert.ProjQkvIdeal.Facts] [hProjQkvRefIdeal : Cert.ProjQkvRefIdeal.Facts] : Prop :=
  ∀ (m : (ℓ : Loc Cert.ProjQkvIdeal.nD Cert.ProjQkvIdeal.τ Cert.ProjQkvIdeal.sig) → Buf (Elt Ideal) ℓ) (g : Dev Cert.ProjQkvIdeal.nD → PrngReg)
    (m' : (ℓ : Loc Cert.ProjQkvRefIdeal.nD Cert.ProjQkvRefIdeal.τ Cert.ProjQkvRefIdeal.sig) → Buf (Elt Ideal) ℓ) (g' : Dev Cert.ProjQkvRefIdeal.nD → PrngReg), Pre_ProjQkvIdeal m →
    (∀ c : Dev Cert.ProjQkvIdeal.nD,
      m' ((c.tc : Thread Cert.ProjQkvRefIdeal.nD Cert.ProjQkvRefIdeal.τ).loc Cert.ProjQkvRefIdeal.main_arg0) = m ((c.tc : Thread Cert.ProjQkvIdeal.nD Cert.ProjQkvIdeal.τ).loc Cert.ProjQkvIdeal.main_arg0)
      ∧ m' ((c.tc : Thread Cert.ProjQkvRefIdeal.nD Cert.ProjQkvRefIdeal.τ).loc Cert.ProjQkvRefIdeal.main_arg1) = m ((c.tc : Thread Cert.ProjQkvIdeal.nD Cert.ProjQkvIdeal.τ).loc Cert.ProjQkvIdeal.main_arg1)) →
    ∃ (v0 : (c : Dev Cert.ProjQkvIdeal.nD) → Buf (Elt Ideal) ((c.tc : Thread Cert.ProjQkvIdeal.nD Cert.ProjQkvIdeal.τ).loc Cert.ProjQkvIdeal.main_v4)),
      θ_run (Cert.ProjQkvIdeal.defs (F := Ideal)) (onTc (τ := Cert.ProjQkvIdeal.τ) (Cert.ProjQkvIdeal.main (F := Ideal))) ⟨m, fun _ => 0, g⟩ (fun r => ∀ c : Dev Cert.ProjQkvIdeal.nD,
          r.2.mem ((c.tc : Thread Cert.ProjQkvIdeal.nD Cert.ProjQkvIdeal.τ).loc Cert.ProjQkvIdeal.main_v4) = v0 c
          ∧ r.2.mem ((c.tc : Thread Cert.ProjQkvIdeal.nD Cert.ProjQkvIdeal.τ).loc Cert.ProjQkvIdeal.main_arg0) = m ((c.tc : Thread Cert.ProjQkvIdeal.nD Cert.ProjQkvIdeal.τ).loc Cert.ProjQkvIdeal.main_arg0)
          ∧ r.2.mem ((c.tc : Thread Cert.ProjQkvIdeal.nD Cert.ProjQkvIdeal.τ).loc Cert.ProjQkvIdeal.main_arg1) = m ((c.tc : Thread Cert.ProjQkvIdeal.nD Cert.ProjQkvIdeal.τ).loc Cert.ProjQkvIdeal.main_arg1))
      ∧ θ_run (Cert.ProjQkvRefIdeal.defs (F := Ideal)) (onTc (τ := Cert.ProjQkvRefIdeal.τ) (Cert.ProjQkvRefIdeal.main (F := Ideal))) ⟨m', fun _ => 0, g'⟩ (fun r => ∀ c : Dev Cert.ProjQkvRefIdeal.nD,
          r.2.mem ((c.tc : Thread Cert.ProjQkvRefIdeal.nD Cert.ProjQkvRefIdeal.τ).loc Cert.ProjQkvRefIdeal.main_v8) = v0 c
          ∧ r.2.mem ((c.tc : Thread Cert.ProjQkvRefIdeal.nD Cert.ProjQkvRefIdeal.τ).loc Cert.ProjQkvRefIdeal.main_arg0) = m' ((c.tc : Thread Cert.ProjQkvRefIdeal.nD Cert.ProjQkvRefIdeal.τ).loc Cert.ProjQkvRefIdeal.main_arg0)
          ∧ r.2.mem ((c.tc : Thread Cert.ProjQkvRefIdeal.nD Cert.ProjQkvRefIdeal.τ).loc Cert.ProjQkvRefIdeal.main_arg1) = m' ((c.tc : Thread Cert.ProjQkvRefIdeal.nD Cert.ProjQkvRefIdeal.τ).loc Cert.ProjQkvRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v6) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_ConvOutInput_ConvOutInputIdeal : Prop :=
  True

def algebraic_ConvOutInputIdeal_ConvOutInputRefIdeal [hConvOutInputIdeal : Cert.ConvOutInputIdeal.Facts] [hConvOutInputRefIdeal : Cert.ConvOutInputRefIdeal.Facts] : Prop :=
  ∀ (m : (ℓ : Loc Cert.ConvOutInputIdeal.nD Cert.ConvOutInputIdeal.τ Cert.ConvOutInputIdeal.sig) → Buf (Elt Ideal) ℓ) (g : Dev Cert.ConvOutInputIdeal.nD → PrngReg)
    (m' : (ℓ : Loc Cert.ConvOutInputRefIdeal.nD Cert.ConvOutInputRefIdeal.τ Cert.ConvOutInputRefIdeal.sig) → Buf (Elt Ideal) ℓ) (g' : Dev Cert.ConvOutInputRefIdeal.nD → PrngReg), Pre_ConvOutInputIdeal m →
    (∀ c : Dev Cert.ConvOutInputIdeal.nD,
      m' ((c.tc : Thread Cert.ConvOutInputRefIdeal.nD Cert.ConvOutInputRefIdeal.τ).loc Cert.ConvOutInputRefIdeal.main_arg0) = m ((c.tc : Thread Cert.ConvOutInputIdeal.nD Cert.ConvOutInputIdeal.τ).loc Cert.ConvOutInputIdeal.main_arg0)
      ∧ m' ((c.tc : Thread Cert.ConvOutInputRefIdeal.nD Cert.ConvOutInputRefIdeal.τ).loc Cert.ConvOutInputRefIdeal.main_arg1) = m ((c.tc : Thread Cert.ConvOutInputIdeal.nD Cert.ConvOutInputIdeal.τ).loc Cert.ConvOutInputIdeal.main_arg1)) →
    ∃ (v0 : (c : Dev Cert.ConvOutInputIdeal.nD) → Buf (Elt Ideal) ((c.tc : Thread Cert.ConvOutInputIdeal.nD Cert.ConvOutInputIdeal.τ).loc Cert.ConvOutInputIdeal.main_v1)),
      θ_run (Cert.ConvOutInputIdeal.defs (F := Ideal)) (onTc (τ := Cert.ConvOutInputIdeal.τ) (Cert.ConvOutInputIdeal.main (F := Ideal))) ⟨m, fun _ => 0, g⟩ (fun r => ∀ c : Dev Cert.ConvOutInputIdeal.nD,
          r.2.mem ((c.tc : Thread Cert.ConvOutInputIdeal.nD Cert.ConvOutInputIdeal.τ).loc Cert.ConvOutInputIdeal.main_v1) = v0 c
          ∧ r.2.mem ((c.tc : Thread Cert.ConvOutInputIdeal.nD Cert.ConvOutInputIdeal.τ).loc Cert.ConvOutInputIdeal.main_arg0) = m ((c.tc : Thread Cert.ConvOutInputIdeal.nD Cert.ConvOutInputIdeal.τ).loc Cert.ConvOutInputIdeal.main_arg0)
          ∧ r.2.mem ((c.tc : Thread Cert.ConvOutInputIdeal.nD Cert.ConvOutInputIdeal.τ).loc Cert.ConvOutInputIdeal.main_arg1) = m ((c.tc : Thread Cert.ConvOutInputIdeal.nD Cert.ConvOutInputIdeal.τ).loc Cert.ConvOutInputIdeal.main_arg1))
      ∧ θ_run (Cert.ConvOutInputRefIdeal.defs (F := Ideal)) (onTc (τ := Cert.ConvOutInputRefIdeal.τ) (Cert.ConvOutInputRefIdeal.main (F := Ideal))) ⟨m', fun _ => 0, g'⟩ (fun r => ∀ c : Dev Cert.ConvOutInputRefIdeal.nD,
          r.2.mem ((c.tc : Thread Cert.ConvOutInputRefIdeal.nD Cert.ConvOutInputRefIdeal.τ).loc Cert.ConvOutInputRefIdeal.main_v4) = v0 c
          ∧ r.2.mem ((c.tc : Thread Cert.ConvOutInputRefIdeal.nD Cert.ConvOutInputRefIdeal.τ).loc Cert.ConvOutInputRefIdeal.main_arg0) = m' ((c.tc : Thread Cert.ConvOutInputRefIdeal.nD Cert.ConvOutInputRefIdeal.τ).loc Cert.ConvOutInputRefIdeal.main_arg0)
          ∧ r.2.mem ((c.tc : Thread Cert.ConvOutInputRefIdeal.nD Cert.ConvOutInputRefIdeal.τ).loc Cert.ConvOutInputRefIdeal.main_arg1) = m' ((c.tc : Thread Cert.ConvOutInputRefIdeal.nD Cert.ConvOutInputRefIdeal.τ).loc Cert.ConvOutInputRefIdeal.main_arg1))

def preserves_AttnOutInput_AttnOutInputIdeal : Prop :=
  True

def algebraic_AttnOutInputIdeal_AttnOutInputRefIdeal [hAttnOutInputIdeal : Cert.AttnOutInputIdeal.Facts] [hAttnOutInputRefIdeal : Cert.AttnOutInputRefIdeal.Facts] : Prop :=
  ∀ (m : (ℓ : Loc Cert.AttnOutInputIdeal.nD Cert.AttnOutInputIdeal.τ Cert.AttnOutInputIdeal.sig) → Buf (Elt Ideal) ℓ) (g : Dev Cert.AttnOutInputIdeal.nD → PrngReg)
    (m' : (ℓ : Loc Cert.AttnOutInputRefIdeal.nD Cert.AttnOutInputRefIdeal.τ Cert.AttnOutInputRefIdeal.sig) → Buf (Elt Ideal) ℓ) (g' : Dev Cert.AttnOutInputRefIdeal.nD → PrngReg), Pre_AttnOutInputIdeal m →
    (∀ c : Dev Cert.AttnOutInputIdeal.nD,
      m' ((c.tc : Thread Cert.AttnOutInputRefIdeal.nD Cert.AttnOutInputRefIdeal.τ).loc Cert.AttnOutInputRefIdeal.main_arg0) = m ((c.tc : Thread Cert.AttnOutInputIdeal.nD Cert.AttnOutInputIdeal.τ).loc Cert.AttnOutInputIdeal.main_arg0)
      ∧ m' ((c.tc : Thread Cert.AttnOutInputRefIdeal.nD Cert.AttnOutInputRefIdeal.τ).loc Cert.AttnOutInputRefIdeal.main_arg1) = m ((c.tc : Thread Cert.AttnOutInputIdeal.nD Cert.AttnOutInputIdeal.τ).loc Cert.AttnOutInputIdeal.main_arg1)) →
    ∃ (v0 : (c : Dev Cert.AttnOutInputIdeal.nD) → Buf (Elt Ideal) ((c.tc : Thread Cert.AttnOutInputIdeal.nD Cert.AttnOutInputIdeal.τ).loc Cert.AttnOutInputIdeal.main_v1)),
      θ_run (Cert.AttnOutInputIdeal.defs (F := Ideal)) (onTc (τ := Cert.AttnOutInputIdeal.τ) (Cert.AttnOutInputIdeal.main (F := Ideal))) ⟨m, fun _ => 0, g⟩ (fun r => ∀ c : Dev Cert.AttnOutInputIdeal.nD,
          r.2.mem ((c.tc : Thread Cert.AttnOutInputIdeal.nD Cert.AttnOutInputIdeal.τ).loc Cert.AttnOutInputIdeal.main_v1) = v0 c
          ∧ r.2.mem ((c.tc : Thread Cert.AttnOutInputIdeal.nD Cert.AttnOutInputIdeal.τ).loc Cert.AttnOutInputIdeal.main_arg0) = m ((c.tc : Thread Cert.AttnOutInputIdeal.nD Cert.AttnOutInputIdeal.τ).loc Cert.AttnOutInputIdeal.main_arg0)
          ∧ r.2.mem ((c.tc : Thread Cert.AttnOutInputIdeal.nD Cert.AttnOutInputIdeal.τ).loc Cert.AttnOutInputIdeal.main_arg1) = m ((c.tc : Thread Cert.AttnOutInputIdeal.nD Cert.AttnOutInputIdeal.τ).loc Cert.AttnOutInputIdeal.main_arg1))
      ∧ θ_run (Cert.AttnOutInputRefIdeal.defs (F := Ideal)) (onTc (τ := Cert.AttnOutInputRefIdeal.τ) (Cert.AttnOutInputRefIdeal.main (F := Ideal))) ⟨m', fun _ => 0, g'⟩ (fun r => ∀ c : Dev Cert.AttnOutInputRefIdeal.nD,
          r.2.mem ((c.tc : Thread Cert.AttnOutInputRefIdeal.nD Cert.AttnOutInputRefIdeal.τ).loc Cert.AttnOutInputRefIdeal.main_v5) = v0 c
          ∧ r.2.mem ((c.tc : Thread Cert.AttnOutInputRefIdeal.nD Cert.AttnOutInputRefIdeal.τ).loc Cert.AttnOutInputRefIdeal.main_arg0) = m' ((c.tc : Thread Cert.AttnOutInputRefIdeal.nD Cert.AttnOutInputRefIdeal.τ).loc Cert.AttnOutInputRefIdeal.main_arg0)
          ∧ r.2.mem ((c.tc : Thread Cert.AttnOutInputRefIdeal.nD Cert.AttnOutInputRefIdeal.τ).loc Cert.AttnOutInputRefIdeal.main_arg1) = m' ((c.tc : Thread Cert.AttnOutInputRefIdeal.nD Cert.AttnOutInputRefIdeal.τ).loc Cert.AttnOutInputRefIdeal.main_arg1))

def preserves_ConvOutWeight_ConvOutWeightIdeal : Prop :=
  True

def algebraic_ConvOutWeightIdeal_ConvOutWeightRefIdeal [hConvOutWeightIdeal : Cert.ConvOutWeightIdeal.Facts] [hConvOutWeightRefIdeal : Cert.ConvOutWeightRefIdeal.Facts] : Prop :=
  ∀ (m : (ℓ : Loc Cert.ConvOutWeightIdeal.nD Cert.ConvOutWeightIdeal.τ Cert.ConvOutWeightIdeal.sig) → Buf (Elt Ideal) ℓ) (g : Dev Cert.ConvOutWeightIdeal.nD → PrngReg)
    (m' : (ℓ : Loc Cert.ConvOutWeightRefIdeal.nD Cert.ConvOutWeightRefIdeal.τ Cert.ConvOutWeightRefIdeal.sig) → Buf (Elt Ideal) ℓ) (g' : Dev Cert.ConvOutWeightRefIdeal.nD → PrngReg), Pre_ConvOutWeightIdeal m →
    (∀ c : Dev Cert.ConvOutWeightIdeal.nD,
      m' ((c.tc : Thread Cert.ConvOutWeightRefIdeal.nD Cert.ConvOutWeightRefIdeal.τ).loc Cert.ConvOutWeightRefIdeal.main_arg0) = m ((c.tc : Thread Cert.ConvOutWeightIdeal.nD Cert.ConvOutWeightIdeal.τ).loc Cert.ConvOutWeightIdeal.main_arg0)
      ∧ m' ((c.tc : Thread Cert.ConvOutWeightRefIdeal.nD Cert.ConvOutWeightRefIdeal.τ).loc Cert.ConvOutWeightRefIdeal.main_arg1) = m ((c.tc : Thread Cert.ConvOutWeightIdeal.nD Cert.ConvOutWeightIdeal.τ).loc Cert.ConvOutWeightIdeal.main_arg1)) →
    ∃ (v0 : (c : Dev Cert.ConvOutWeightIdeal.nD) → Buf (Elt Ideal) ((c.tc : Thread Cert.ConvOutWeightIdeal.nD Cert.ConvOutWeightIdeal.τ).loc Cert.ConvOutWeightIdeal.main_v0)),
      θ_run (Cert.ConvOutWeightIdeal.defs (F := Ideal)) (onTc (τ := Cert.ConvOutWeightIdeal.τ) (Cert.ConvOutWeightIdeal.main (F := Ideal))) ⟨m, fun _ => 0, g⟩ (fun r => ∀ c : Dev Cert.ConvOutWeightIdeal.nD,
          r.2.mem ((c.tc : Thread Cert.ConvOutWeightIdeal.nD Cert.ConvOutWeightIdeal.τ).loc Cert.ConvOutWeightIdeal.main_v0) = v0 c
          ∧ r.2.mem ((c.tc : Thread Cert.ConvOutWeightIdeal.nD Cert.ConvOutWeightIdeal.τ).loc Cert.ConvOutWeightIdeal.main_arg0) = m ((c.tc : Thread Cert.ConvOutWeightIdeal.nD Cert.ConvOutWeightIdeal.τ).loc Cert.ConvOutWeightIdeal.main_arg0)
          ∧ r.2.mem ((c.tc : Thread Cert.ConvOutWeightIdeal.nD Cert.ConvOutWeightIdeal.τ).loc Cert.ConvOutWeightIdeal.main_arg1) = m ((c.tc : Thread Cert.ConvOutWeightIdeal.nD Cert.ConvOutWeightIdeal.τ).loc Cert.ConvOutWeightIdeal.main_arg1))
      ∧ θ_run (Cert.ConvOutWeightRefIdeal.defs (F := Ideal)) (onTc (τ := Cert.ConvOutWeightRefIdeal.τ) (Cert.ConvOutWeightRefIdeal.main (F := Ideal))) ⟨m', fun _ => 0, g'⟩ (fun r => ∀ c : Dev Cert.ConvOutWeightRefIdeal.nD,
          r.2.mem ((c.tc : Thread Cert.ConvOutWeightRefIdeal.nD Cert.ConvOutWeightRefIdeal.τ).loc Cert.ConvOutWeightRefIdeal.main_v5) = v0 c
          ∧ r.2.mem ((c.tc : Thread Cert.ConvOutWeightRefIdeal.nD Cert.ConvOutWeightRefIdeal.τ).loc Cert.ConvOutWeightRefIdeal.main_arg0) = m' ((c.tc : Thread Cert.ConvOutWeightRefIdeal.nD Cert.ConvOutWeightRefIdeal.τ).loc Cert.ConvOutWeightRefIdeal.main_arg0)
          ∧ r.2.mem ((c.tc : Thread Cert.ConvOutWeightRefIdeal.nD Cert.ConvOutWeightRefIdeal.τ).loc Cert.ConvOutWeightRefIdeal.main_arg1) = m' ((c.tc : Thread Cert.ConvOutWeightRefIdeal.nD Cert.ConvOutWeightRefIdeal.τ).loc Cert.ConvOutWeightRefIdeal.main_arg1))

def preserves_AttnOutWeight_AttnOutWeightIdeal : Prop :=
  True

def algebraic_AttnOutWeightIdeal_AttnOutWeightRefIdeal [hAttnOutWeightIdeal : Cert.AttnOutWeightIdeal.Facts] [hAttnOutWeightRefIdeal : Cert.AttnOutWeightRefIdeal.Facts] : Prop :=
  ∀ (m : (ℓ : Loc Cert.AttnOutWeightIdeal.nD Cert.AttnOutWeightIdeal.τ Cert.AttnOutWeightIdeal.sig) → Buf (Elt Ideal) ℓ) (g : Dev Cert.AttnOutWeightIdeal.nD → PrngReg)
    (m' : (ℓ : Loc Cert.AttnOutWeightRefIdeal.nD Cert.AttnOutWeightRefIdeal.τ Cert.AttnOutWeightRefIdeal.sig) → Buf (Elt Ideal) ℓ) (g' : Dev Cert.AttnOutWeightRefIdeal.nD → PrngReg), Pre_AttnOutWeightIdeal m →
    (∀ c : Dev Cert.AttnOutWeightIdeal.nD,
      m' ((c.tc : Thread Cert.AttnOutWeightRefIdeal.nD Cert.AttnOutWeightRefIdeal.τ).loc Cert.AttnOutWeightRefIdeal.main_arg0) = m ((c.tc : Thread Cert.AttnOutWeightIdeal.nD Cert.AttnOutWeightIdeal.τ).loc Cert.AttnOutWeightIdeal.main_arg0)
      ∧ m' ((c.tc : Thread Cert.AttnOutWeightRefIdeal.nD Cert.AttnOutWeightRefIdeal.τ).loc Cert.AttnOutWeightRefIdeal.main_arg1) = m ((c.tc : Thread Cert.AttnOutWeightIdeal.nD Cert.AttnOutWeightIdeal.τ).loc Cert.AttnOutWeightIdeal.main_arg1)) →
    ∃ (v0 : (c : Dev Cert.AttnOutWeightIdeal.nD) → Buf (Elt Ideal) ((c.tc : Thread Cert.AttnOutWeightIdeal.nD Cert.AttnOutWeightIdeal.τ).loc Cert.AttnOutWeightIdeal.main_v0)),
      θ_run (Cert.AttnOutWeightIdeal.defs (F := Ideal)) (onTc (τ := Cert.AttnOutWeightIdeal.τ) (Cert.AttnOutWeightIdeal.main (F := Ideal))) ⟨m, fun _ => 0, g⟩ (fun r => ∀ c : Dev Cert.AttnOutWeightIdeal.nD,
          r.2.mem ((c.tc : Thread Cert.AttnOutWeightIdeal.nD Cert.AttnOutWeightIdeal.τ).loc Cert.AttnOutWeightIdeal.main_v0) = v0 c
          ∧ r.2.mem ((c.tc : Thread Cert.AttnOutWeightIdeal.nD Cert.AttnOutWeightIdeal.τ).loc Cert.AttnOutWeightIdeal.main_arg0) = m ((c.tc : Thread Cert.AttnOutWeightIdeal.nD Cert.AttnOutWeightIdeal.τ).loc Cert.AttnOutWeightIdeal.main_arg0)
          ∧ r.2.mem ((c.tc : Thread Cert.AttnOutWeightIdeal.nD Cert.AttnOutWeightIdeal.τ).loc Cert.AttnOutWeightIdeal.main_arg1) = m ((c.tc : Thread Cert.AttnOutWeightIdeal.nD Cert.AttnOutWeightIdeal.τ).loc Cert.AttnOutWeightIdeal.main_arg1))
      ∧ θ_run (Cert.AttnOutWeightRefIdeal.defs (F := Ideal)) (onTc (τ := Cert.AttnOutWeightRefIdeal.τ) (Cert.AttnOutWeightRefIdeal.main (F := Ideal))) ⟨m', fun _ => 0, g'⟩ (fun r => ∀ c : Dev Cert.AttnOutWeightRefIdeal.nD,
          r.2.mem ((c.tc : Thread Cert.AttnOutWeightRefIdeal.nD Cert.AttnOutWeightRefIdeal.τ).loc Cert.AttnOutWeightRefIdeal.main_v5) = v0 c
          ∧ r.2.mem ((c.tc : Thread Cert.AttnOutWeightRefIdeal.nD Cert.AttnOutWeightRefIdeal.τ).loc Cert.AttnOutWeightRefIdeal.main_arg0) = m' ((c.tc : Thread Cert.AttnOutWeightRefIdeal.nD Cert.AttnOutWeightRefIdeal.τ).loc Cert.AttnOutWeightRefIdeal.main_arg0)
          ∧ r.2.mem ((c.tc : Thread Cert.AttnOutWeightRefIdeal.nD Cert.AttnOutWeightRefIdeal.τ).loc Cert.AttnOutWeightRefIdeal.main_arg1) = m' ((c.tc : Thread Cert.AttnOutWeightRefIdeal.nD Cert.AttnOutWeightRefIdeal.τ).loc Cert.AttnOutWeightRefIdeal.main_arg1))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v1)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v1) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v13) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_RmsBwd_RmsBwdIdeal : Prop :=
  True

def algebraic_RmsBwdIdeal_RmsBwdRefIdeal [hRmsBwdIdeal : Cert.RmsBwdIdeal.Facts] [hRmsBwdRefIdeal : Cert.RmsBwdRefIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RmsBwdRefIdeal.nD Cert.RmsBwdRefIdeal.τ Cert.RmsBwdRefIdeal.sig) → Buf (Elt Ideal) ℓ) (g' : Dev Cert.RmsBwdRefIdeal.nD → PrngReg), Pre_RmsBwdIdeal m →
    (∀ c : Dev Cert.RmsBwdIdeal.nD,
      m' ((c.tc : Thread Cert.RmsBwdRefIdeal.nD Cert.RmsBwdRefIdeal.τ).loc Cert.RmsBwdRefIdeal.main_arg0) = m ((c.tc : Thread Cert.RmsBwdIdeal.nD Cert.RmsBwdIdeal.τ).loc Cert.RmsBwdIdeal.main_arg0)
      ∧ m' ((c.tc : Thread Cert.RmsBwdRefIdeal.nD Cert.RmsBwdRefIdeal.τ).loc Cert.RmsBwdRefIdeal.main_arg1) = m ((c.tc : Thread Cert.RmsBwdIdeal.nD Cert.RmsBwdIdeal.τ).loc Cert.RmsBwdIdeal.main_arg1)
      ∧ m' ((c.tc : Thread Cert.RmsBwdRefIdeal.nD Cert.RmsBwdRefIdeal.τ).loc Cert.RmsBwdRefIdeal.main_arg2) = m ((c.tc : Thread Cert.RmsBwdIdeal.nD Cert.RmsBwdIdeal.τ).loc Cert.RmsBwdIdeal.main_arg2)
      ∧ m' ((c.tc : Thread Cert.RmsBwdRefIdeal.nD Cert.RmsBwdRefIdeal.τ).loc Cert.RmsBwdRefIdeal.main_arg3) = m ((c.tc : Thread Cert.RmsBwdIdeal.nD Cert.RmsBwdIdeal.τ).loc Cert.RmsBwdIdeal.main_arg3)) →
    ∃ (v0 : (c : Dev Cert.RmsBwdIdeal.nD) → Buf (Elt Ideal) ((c.tc : Thread Cert.RmsBwdIdeal.nD Cert.RmsBwdIdeal.τ).loc Cert.RmsBwdIdeal.main_v1_0)) (v1 : (c : Dev Cert.RmsBwdIdeal.nD) → Buf (Elt Ideal) ((c.tc : Thread Cert.RmsBwdIdeal.nD Cert.RmsBwdIdeal.τ).loc Cert.RmsBwdIdeal.main_v1_1)) (v2 : (c : Dev Cert.RmsBwdIdeal.nD) → Buf (Elt Ideal) ((c.tc : Thread Cert.RmsBwdIdeal.nD Cert.RmsBwdIdeal.τ).loc Cert.RmsBwdIdeal.main_v1_2)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v1_0) = v0 c
          ∧ r.2.mem ((c.tc : Thread Cert.RmsBwdIdeal.nD Cert.RmsBwdIdeal.τ).loc Cert.RmsBwdIdeal.main_v1_1) = v1 c
          ∧ r.2.mem ((c.tc : Thread Cert.RmsBwdIdeal.nD Cert.RmsBwdIdeal.τ).loc Cert.RmsBwdIdeal.main_v1_2) = v2 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ θ_run (Cert.RmsBwdRefIdeal.defs (F := Ideal)) (onTc (τ := Cert.RmsBwdRefIdeal.τ) (Cert.RmsBwdRefIdeal.main (F := Ideal))) ⟨m', fun _ => 0, g'⟩ (fun r => ∀ c : Dev Cert.RmsBwdRefIdeal.nD,
          r.2.mem ((c.tc : Thread Cert.RmsBwdRefIdeal.nD Cert.RmsBwdRefIdeal.τ).loc Cert.RmsBwdRefIdeal.main_v40) = v0 c
          ∧ r.2.mem ((c.tc : Thread Cert.RmsBwdRefIdeal.nD Cert.RmsBwdRefIdeal.τ).loc Cert.RmsBwdRefIdeal.main_v41) = v1 c
          ∧ r.2.mem ((c.tc : Thread Cert.RmsBwdRefIdeal.nD Cert.RmsBwdRefIdeal.τ).loc Cert.RmsBwdRefIdeal.main_v44) = v2 c
          ∧ r.2.mem ((c.tc : Thread Cert.RmsBwdRefIdeal.nD Cert.RmsBwdRefIdeal.τ).loc Cert.RmsBwdRefIdeal.main_arg0) = m' ((c.tc : Thread Cert.RmsBwdRefIdeal.nD Cert.RmsBwdRefIdeal.τ).loc Cert.RmsBwdRefIdeal.main_arg0)
          ∧ r.2.mem ((c.tc : Thread Cert.RmsBwdRefIdeal.nD Cert.RmsBwdRefIdeal.τ).loc Cert.RmsBwdRefIdeal.main_arg1) = m' ((c.tc : Thread Cert.RmsBwdRefIdeal.nD Cert.RmsBwdRefIdeal.τ).loc Cert.RmsBwdRefIdeal.main_arg1)
          ∧ r.2.mem ((c.tc : Thread Cert.RmsBwdRefIdeal.nD Cert.RmsBwdRefIdeal.τ).loc Cert.RmsBwdRefIdeal.main_arg2) = m' ((c.tc : Thread Cert.RmsBwdRefIdeal.nD Cert.RmsBwdRefIdeal.τ).loc Cert.RmsBwdRefIdeal.main_arg2)
          ∧ r.2.mem ((c.tc : Thread Cert.RmsBwdRefIdeal.nD Cert.RmsBwdRefIdeal.τ).loc Cert.RmsBwdRefIdeal.main_arg3) = m' ((c.tc : Thread Cert.RmsBwdRefIdeal.nD Cert.RmsBwdRefIdeal.τ).loc Cert.RmsBwdRefIdeal.main_arg3))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v1_0)) (v1 : (c : Dev Cert.LossHeadIdeal.nD) → Buf (Elt Ideal) ((c.tc : Thread Cert.LossHeadIdeal.nD Cert.LossHeadIdeal.τ).loc Cert.LossHeadIdeal.main_v1_1)) (v2 : (c : Dev Cert.LossHeadIdeal.nD) → Buf (Elt Ideal) ((c.tc : Thread Cert.LossHeadIdeal.nD Cert.LossHeadIdeal.τ).loc Cert.LossHeadIdeal.main_v1_2)) (v3 : (c : Dev Cert.LossHeadIdeal.nD) → Buf (Elt Ideal) ((c.tc : Thread Cert.LossHeadIdeal.nD Cert.LossHeadIdeal.τ).loc Cert.LossHeadIdeal.main_v1_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v1_0) = v0 c
          ∧ r.2.mem ((c.tc : Thread Cert.LossHeadIdeal.nD Cert.LossHeadIdeal.τ).loc Cert.LossHeadIdeal.main_v1_1) = v1 c
          ∧ r.2.mem ((c.tc : Thread Cert.LossHeadIdeal.nD Cert.LossHeadIdeal.τ).loc Cert.LossHeadIdeal.main_v1_2) = v2 c
          ∧ r.2.mem ((c.tc : Thread Cert.LossHeadIdeal.nD Cert.LossHeadIdeal.τ).loc Cert.LossHeadIdeal.main_v1_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v53) = v0 c
          ∧ r.2.mem ((c.tc : Thread Cert.LossHeadRefIdeal.nD Cert.LossHeadRefIdeal.τ).loc Cert.LossHeadRefIdeal.main_v54) = v1 c
          ∧ r.2.mem ((c.tc : Thread Cert.LossHeadRefIdeal.nD Cert.LossHeadRefIdeal.τ).loc Cert.LossHeadRefIdeal.main_v55) = v2 c
          ∧ r.2.mem ((c.tc : Thread Cert.LossHeadRefIdeal.nD Cert.LossHeadRefIdeal.τ).loc Cert.LossHeadRefIdeal.main_v58) = v3 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_UpdateShard_UpdateShardIdeal : Prop :=
  IdealRules.named_const.Statement Cert.UpdateShardIdeal.κ "c1" .f32 0x3FC48605#32 ((8388608 / 5463681 : ℝ) : EReal)
  ∧ IdealRules.named_const.Statement Cert.UpdateShardIdeal.κ "c2" .f32 0x42C8E6D3#32 ((268435456 / 2672307 : ℝ) : EReal)

def algebraic_UpdateShardIdeal_UpdateShardRefIdeal [hUpdateShardIdeal : Cert.UpdateShardIdeal.Facts] [hUpdateShardRefIdeal : Cert.UpdateShardRefIdeal.Facts] : Prop :=
  ∀ (m : (ℓ : Loc Cert.UpdateShardIdeal.nD Cert.UpdateShardIdeal.τ Cert.UpdateShardIdeal.sig) → Buf (Elt Ideal) ℓ) (g : Dev Cert.UpdateShardIdeal.nD → PrngReg)
    (m' : (ℓ : Loc Cert.UpdateShardRefIdeal.nD Cert.UpdateShardRefIdeal.τ Cert.UpdateShardRefIdeal.sig) → Buf (Elt Ideal) ℓ) (g' : Dev Cert.UpdateShardRefIdeal.nD → PrngReg), Pre_UpdateShardIdeal m →
    (∀ c : Dev Cert.UpdateShardIdeal.nD,
      m' ((c.tc : Thread Cert.UpdateShardRefIdeal.nD Cert.UpdateShardRefIdeal.τ).loc Cert.UpdateShardRefIdeal.main_arg0) = m ((c.tc : Thread Cert.UpdateShardIdeal.nD Cert.UpdateShardIdeal.τ).loc Cert.UpdateShardIdeal.main_arg0)
      ∧ m' ((c.tc : Thread Cert.UpdateShardRefIdeal.nD Cert.UpdateShardRefIdeal.τ).loc Cert.UpdateShardRefIdeal.main_arg1) = m ((c.tc : Thread Cert.UpdateShardIdeal.nD Cert.UpdateShardIdeal.τ).loc Cert.UpdateShardIdeal.main_arg1)
      ∧ m' ((c.tc : Thread Cert.UpdateShardRefIdeal.nD Cert.UpdateShardRefIdeal.τ).loc Cert.UpdateShardRefIdeal.main_arg2) = m ((c.tc : Thread Cert.UpdateShardIdeal.nD Cert.UpdateShardIdeal.τ).loc Cert.UpdateShardIdeal.main_arg2)
      ∧ m' ((c.tc : Thread Cert.UpdateShardRefIdeal.nD Cert.UpdateShardRefIdeal.τ).loc Cert.UpdateShardRefIdeal.main_arg3) = m ((c.tc : Thread Cert.UpdateShardIdeal.nD Cert.UpdateShardIdeal.τ).loc Cert.UpdateShardIdeal.main_arg3)) →
    ∃ (v0 : (c : Dev Cert.UpdateShardIdeal.nD) → Buf (Elt Ideal) ((c.tc : Thread Cert.UpdateShardIdeal.nD Cert.UpdateShardIdeal.τ).loc Cert.UpdateShardIdeal.main_v0_0)) (v1 : (c : Dev Cert.UpdateShardIdeal.nD) → Buf (Elt Ideal) ((c.tc : Thread Cert.UpdateShardIdeal.nD Cert.UpdateShardIdeal.τ).loc Cert.UpdateShardIdeal.main_v0_1)) (v2 : (c : Dev Cert.UpdateShardIdeal.nD) → Buf (Elt Ideal) ((c.tc : Thread Cert.UpdateShardIdeal.nD Cert.UpdateShardIdeal.τ).loc Cert.UpdateShardIdeal.main_v0_2)) (v3 : (c : Dev Cert.UpdateShardIdeal.nD) → Buf (Elt Ideal) ((c.tc : Thread Cert.UpdateShardIdeal.nD Cert.UpdateShardIdeal.τ).loc Cert.UpdateShardIdeal.main_v0_3)),
      θ_run (Cert.UpdateShardIdeal.defs (F := Ideal)) (onTc (τ := Cert.UpdateShardIdeal.τ) (Cert.UpdateShardIdeal.main (F := Ideal))) ⟨m, fun _ => 0, g⟩ (fun r => ∀ c : Dev Cert.UpdateShardIdeal.nD,
          r.2.mem ((c.tc : Thread Cert.UpdateShardIdeal.nD Cert.UpdateShardIdeal.τ).loc Cert.UpdateShardIdeal.main_v0_0) = v0 c
          ∧ r.2.mem ((c.tc : Thread Cert.UpdateShardIdeal.nD Cert.UpdateShardIdeal.τ).loc Cert.UpdateShardIdeal.main_v0_1) = v1 c
          ∧ r.2.mem ((c.tc : Thread Cert.UpdateShardIdeal.nD Cert.UpdateShardIdeal.τ).loc Cert.UpdateShardIdeal.main_v0_2) = v2 c
          ∧ r.2.mem ((c.tc : Thread Cert.UpdateShardIdeal.nD Cert.UpdateShardIdeal.τ).loc Cert.UpdateShardIdeal.main_v0_3) = v3 c
          ∧ r.2.mem ((c.tc : Thread Cert.UpdateShardIdeal.nD Cert.UpdateShardIdeal.τ).loc Cert.UpdateShardIdeal.main_arg0) = m ((c.tc : Thread Cert.UpdateShardIdeal.nD Cert.UpdateShardIdeal.τ).loc Cert.UpdateShardIdeal.main_arg0)
          ∧ r.2.mem ((c.tc : Thread Cert.UpdateShardIdeal.nD Cert.UpdateShardIdeal.τ).loc Cert.UpdateShardIdeal.main_arg1) = m ((c.tc : Thread Cert.UpdateShardIdeal.nD Cert.UpdateShardIdeal.τ).loc Cert.UpdateShardIdeal.main_arg1)
          ∧ r.2.mem ((c.tc : Thread Cert.UpdateShardIdeal.nD Cert.UpdateShardIdeal.τ).loc Cert.UpdateShardIdeal.main_arg2) = m ((c.tc : Thread Cert.UpdateShardIdeal.nD Cert.UpdateShardIdeal.τ).loc Cert.UpdateShardIdeal.main_arg2)
          ∧ r.2.mem ((c.tc : Thread Cert.UpdateShardIdeal.nD Cert.UpdateShardIdeal.τ).loc Cert.UpdateShardIdeal.main_arg3) = m ((c.tc : Thread Cert.UpdateShardIdeal.nD Cert.UpdateShardIdeal.τ).loc Cert.UpdateShardIdeal.main_arg3))
      ∧ θ_run (Cert.UpdateShardRefIdeal.defs (F := Ideal)) (onTc (τ := Cert.UpdateShardRefIdeal.τ) (Cert.UpdateShardRefIdeal.main (F := Ideal))) ⟨m', fun _ => 0, g'⟩ (fun r => ∀ c : Dev Cert.UpdateShardRefIdeal.nD,
          r.2.mem ((c.tc : Thread Cert.UpdateShardRefIdeal.nD Cert.UpdateShardRefIdeal.τ).loc Cert.UpdateShardRefIdeal.main_v1) = v0 c
          ∧ r.2.mem ((c.tc : Thread Cert.UpdateShardRefIdeal.nD Cert.UpdateShardRefIdeal.τ).loc Cert.UpdateShardRefIdeal.main_v25) = v1 c
          ∧ r.2.mem ((c.tc : Thread Cert.UpdateShardRefIdeal.nD Cert.UpdateShardRefIdeal.τ).loc Cert.UpdateShardRefIdeal.main_v6) = v2 c
          ∧ r.2.mem ((c.tc : Thread Cert.UpdateShardRefIdeal.nD Cert.UpdateShardRefIdeal.τ).loc Cert.UpdateShardRefIdeal.main_v12) = v3 c
          ∧ r.2.mem ((c.tc : Thread Cert.UpdateShardRefIdeal.nD Cert.UpdateShardRefIdeal.τ).loc Cert.UpdateShardRefIdeal.main_arg0) = m' ((c.tc : Thread Cert.UpdateShardRefIdeal.nD Cert.UpdateShardRefIdeal.τ).loc Cert.UpdateShardRefIdeal.main_arg0)
          ∧ r.2.mem ((c.tc : Thread Cert.UpdateShardRefIdeal.nD Cert.UpdateShardRefIdeal.τ).loc Cert.UpdateShardRefIdeal.main_arg1) = m' ((c.tc : Thread Cert.UpdateShardRefIdeal.nD Cert.UpdateShardRefIdeal.τ).loc Cert.UpdateShardRefIdeal.main_arg1)
          ∧ r.2.mem ((c.tc : Thread Cert.UpdateShardRefIdeal.nD Cert.UpdateShardRefIdeal.τ).loc Cert.UpdateShardRefIdeal.main_arg2) = m' ((c.tc : Thread Cert.UpdateShardRefIdeal.nD Cert.UpdateShardRefIdeal.τ).loc Cert.UpdateShardRefIdeal.main_arg2)
          ∧ r.2.mem ((c.tc : Thread Cert.UpdateShardRefIdeal.nD Cert.UpdateShardRefIdeal.τ).loc Cert.UpdateShardRefIdeal.main_arg3) = m' ((c.tc : Thread Cert.UpdateShardRefIdeal.nD Cert.UpdateShardRefIdeal.τ).loc Cert.UpdateShardRefIdeal.main_arg3))

def preserves_UpdateWhole_UpdateWholeIdeal : Prop :=
  IdealRules.named_const.Statement Cert.UpdateWholeIdeal.κ "c1" .f32 0x3FC48605#32 ((8388608 / 5463681 : ℝ) : EReal)
  ∧ IdealRules.named_const.Statement Cert.UpdateWholeIdeal.κ "c2" .f32 0x42C8E6D3#32 ((268435456 / 2672307 : ℝ) : EReal)

def algebraic_UpdateWholeIdeal_UpdateWholeRefIdeal [hUpdateWholeIdeal : Cert.UpdateWholeIdeal.Facts] [hUpdateWholeRefIdeal : Cert.UpdateWholeRefIdeal.Facts] : Prop :=
  ∀ (m : (ℓ : Loc Cert.UpdateWholeIdeal.nD Cert.UpdateWholeIdeal.τ Cert.UpdateWholeIdeal.sig) → Buf (Elt Ideal) ℓ) (g : Dev Cert.UpdateWholeIdeal.nD → PrngReg)
    (m' : (ℓ : Loc Cert.UpdateWholeRefIdeal.nD Cert.UpdateWholeRefIdeal.τ Cert.UpdateWholeRefIdeal.sig) → Buf (Elt Ideal) ℓ) (g' : Dev Cert.UpdateWholeRefIdeal.nD → PrngReg), Pre_UpdateWholeIdeal m →
    (∀ c : Dev Cert.UpdateWholeIdeal.nD,
      m' ((c.tc : Thread Cert.UpdateWholeRefIdeal.nD Cert.UpdateWholeRefIdeal.τ).loc Cert.UpdateWholeRefIdeal.main_arg0) = m ((c.tc : Thread Cert.UpdateWholeIdeal.nD Cert.UpdateWholeIdeal.τ).loc Cert.UpdateWholeIdeal.main_arg0)
      ∧ m' ((c.tc : Thread Cert.UpdateWholeRefIdeal.nD Cert.UpdateWholeRefIdeal.τ).loc Cert.UpdateWholeRefIdeal.main_arg1) = m ((c.tc : Thread Cert.UpdateWholeIdeal.nD Cert.UpdateWholeIdeal.τ).loc Cert.UpdateWholeIdeal.main_arg1)
      ∧ m' ((c.tc : Thread Cert.UpdateWholeRefIdeal.nD Cert.UpdateWholeRefIdeal.τ).loc Cert.UpdateWholeRefIdeal.main_arg2) = m ((c.tc : Thread Cert.UpdateWholeIdeal.nD Cert.UpdateWholeIdeal.τ).loc Cert.UpdateWholeIdeal.main_arg2)
      ∧ m' ((c.tc : Thread Cert.UpdateWholeRefIdeal.nD Cert.UpdateWholeRefIdeal.τ).loc Cert.UpdateWholeRefIdeal.main_arg3) = m ((c.tc : Thread Cert.UpdateWholeIdeal.nD Cert.UpdateWholeIdeal.τ).loc Cert.UpdateWholeIdeal.main_arg3)) →
    ∃ (v0 : (c : Dev Cert.UpdateWholeIdeal.nD) → Buf (Elt Ideal) ((c.tc : Thread Cert.UpdateWholeIdeal.nD Cert.UpdateWholeIdeal.τ).loc Cert.UpdateWholeIdeal.main_v0_0)) (v1 : (c : Dev Cert.UpdateWholeIdeal.nD) → Buf (Elt Ideal) ((c.tc : Thread Cert.UpdateWholeIdeal.nD Cert.UpdateWholeIdeal.τ).loc Cert.UpdateWholeIdeal.main_v0_1)) (v2 : (c : Dev Cert.UpdateWholeIdeal.nD) → Buf (Elt Ideal) ((c.tc : Thread Cert.UpdateWholeIdeal.nD Cert.UpdateWholeIdeal.τ).loc Cert.UpdateWholeIdeal.main_v0_2)) (v3 : (c : Dev Cert.UpdateWholeIdeal.nD) → Buf (Elt Ideal) ((c.tc : Thread Cert.UpdateWholeIdeal.nD Cert.UpdateWholeIdeal.τ).loc Cert.UpdateWholeIdeal.main_v0_3)),
      θ_run (Cert.UpdateWholeIdeal.defs (F := Ideal)) (onTc (τ := Cert.UpdateWholeIdeal.τ) (Cert.UpdateWholeIdeal.main (F := Ideal))) ⟨m, fun _ => 0, g⟩ (fun r => ∀ c : Dev Cert.UpdateWholeIdeal.nD,
          r.2.mem ((c.tc : Thread Cert.UpdateWholeIdeal.nD Cert.UpdateWholeIdeal.τ).loc Cert.UpdateWholeIdeal.main_v0_0) = v0 c
          ∧ r.2.mem ((c.tc : Thread Cert.UpdateWholeIdeal.nD Cert.UpdateWholeIdeal.τ).loc Cert.UpdateWholeIdeal.main_v0_1) = v1 c
          ∧ r.2.mem ((c.tc : Thread Cert.UpdateWholeIdeal.nD Cert.UpdateWholeIdeal.τ).loc Cert.UpdateWholeIdeal.main_v0_2) = v2 c
          ∧ r.2.mem ((c.tc : Thread Cert.UpdateWholeIdeal.nD Cert.UpdateWholeIdeal.τ).loc Cert.UpdateWholeIdeal.main_v0_3) = v3 c
          ∧ r.2.mem ((c.tc : Thread Cert.UpdateWholeIdeal.nD Cert.UpdateWholeIdeal.τ).loc Cert.UpdateWholeIdeal.main_arg0) = m ((c.tc : Thread Cert.UpdateWholeIdeal.nD Cert.UpdateWholeIdeal.τ).loc Cert.UpdateWholeIdeal.main_arg0)
          ∧ r.2.mem ((c.tc : Thread Cert.UpdateWholeIdeal.nD Cert.UpdateWholeIdeal.τ).loc Cert.UpdateWholeIdeal.main_arg1) = m ((c.tc : Thread Cert.UpdateWholeIdeal.nD Cert.UpdateWholeIdeal.τ).loc Cert.UpdateWholeIdeal.main_arg1)
          ∧ r.2.mem ((c.tc : Thread Cert.UpdateWholeIdeal.nD Cert.UpdateWholeIdeal.τ).loc Cert.UpdateWholeIdeal.main_arg2) = m ((c.tc : Thread Cert.UpdateWholeIdeal.nD Cert.UpdateWholeIdeal.τ).loc Cert.UpdateWholeIdeal.main_arg2)
          ∧ r.2.mem ((c.tc : Thread Cert.UpdateWholeIdeal.nD Cert.UpdateWholeIdeal.τ).loc Cert.UpdateWholeIdeal.main_arg3) = m ((c.tc : Thread Cert.UpdateWholeIdeal.nD Cert.UpdateWholeIdeal.τ).loc Cert.UpdateWholeIdeal.main_arg3))
      ∧ θ_run (Cert.UpdateWholeRefIdeal.defs (F := Ideal)) (onTc (τ := Cert.UpdateWholeRefIdeal.τ) (Cert.UpdateWholeRefIdeal.main (F := Ideal))) ⟨m', fun _ => 0, g'⟩ (fun r => ∀ c : Dev Cert.UpdateWholeRefIdeal.nD,
          r.2.mem ((c.tc : Thread Cert.UpdateWholeRefIdeal.nD Cert.UpdateWholeRefIdeal.τ).loc Cert.UpdateWholeRefIdeal.main_v0) = v0 c
          ∧ r.2.mem ((c.tc : Thread Cert.UpdateWholeRefIdeal.nD Cert.UpdateWholeRefIdeal.τ).loc Cert.UpdateWholeRefIdeal.main_v24) = v1 c
          ∧ r.2.mem ((c.tc : Thread Cert.UpdateWholeRefIdeal.nD Cert.UpdateWholeRefIdeal.τ).loc Cert.UpdateWholeRefIdeal.main_v5) = v2 c
          ∧ r.2.mem ((c.tc : Thread Cert.UpdateWholeRefIdeal.nD Cert.UpdateWholeRefIdeal.τ).loc Cert.UpdateWholeRefIdeal.main_v11) = v3 c
          ∧ r.2.mem ((c.tc : Thread Cert.UpdateWholeRefIdeal.nD Cert.UpdateWholeRefIdeal.τ).loc Cert.UpdateWholeRefIdeal.main_arg0) = m' ((c.tc : Thread Cert.UpdateWholeRefIdeal.nD Cert.UpdateWholeRefIdeal.τ).loc Cert.UpdateWholeRefIdeal.main_arg0)
          ∧ r.2.mem ((c.tc : Thread Cert.UpdateWholeRefIdeal.nD Cert.UpdateWholeRefIdeal.τ).loc Cert.UpdateWholeRefIdeal.main_arg1) = m' ((c.tc : Thread Cert.UpdateWholeRefIdeal.nD Cert.UpdateWholeRefIdeal.τ).loc Cert.UpdateWholeRefIdeal.main_arg1)
          ∧ r.2.mem ((c.tc : Thread Cert.UpdateWholeRefIdeal.nD Cert.UpdateWholeRefIdeal.τ).loc Cert.UpdateWholeRefIdeal.main_arg2) = m' ((c.tc : Thread Cert.UpdateWholeRefIdeal.nD Cert.UpdateWholeRefIdeal.τ).loc Cert.UpdateWholeRefIdeal.main_arg2)
          ∧ r.2.mem ((c.tc : Thread Cert.UpdateWholeRefIdeal.nD Cert.UpdateWholeRefIdeal.τ).loc Cert.UpdateWholeRefIdeal.main_arg3) = m' ((c.tc : Thread Cert.UpdateWholeRefIdeal.nD Cert.UpdateWholeRefIdeal.τ).loc Cert.UpdateWholeRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v27_0)) (v1 : (c : Dev Cert.MergeIdeal.nD) → Buf (Elt Ideal) ((c.tc : Thread Cert.MergeIdeal.nD Cert.MergeIdeal.τ).loc Cert.MergeIdeal.main_v27_1)) (v2 : (c : Dev Cert.MergeIdeal.nD) → Buf (Elt Ideal) ((c.tc : Thread Cert.MergeIdeal.nD Cert.MergeIdeal.τ).loc Cert.MergeIdeal.main_v27_2)) (v3 : (c : Dev Cert.MergeIdeal.nD) → Buf (Elt Ideal) ((c.tc : Thread Cert.MergeIdeal.nD Cert.MergeIdeal.τ).loc Cert.MergeIdeal.main_v27_3)) (v4 : (c : Dev Cert.MergeIdeal.nD) → Buf (Elt Ideal) ((c.tc : Thread Cert.MergeIdeal.nD Cert.MergeIdeal.τ).loc Cert.MergeIdeal.main_v27_4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v27_0) = v0 c
          ∧ r.2.mem ((c.tc : Thread Cert.MergeIdeal.nD Cert.MergeIdeal.τ).loc Cert.MergeIdeal.main_v27_1) = v1 c
          ∧ r.2.mem ((c.tc : Thread Cert.MergeIdeal.nD Cert.MergeIdeal.τ).loc Cert.MergeIdeal.main_v27_2) = v2 c
          ∧ r.2.mem ((c.tc : Thread Cert.MergeIdeal.nD Cert.MergeIdeal.τ).loc Cert.MergeIdeal.main_v27_3) = v3 c
          ∧ r.2.mem ((c.tc : Thread Cert.MergeIdeal.nD Cert.MergeIdeal.τ).loc Cert.MergeIdeal.main_v27_4) = v4 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v70) = v0 c
          ∧ r.2.mem ((c.tc : Thread Cert.MergeRefIdeal.nD Cert.MergeRefIdeal.τ).loc Cert.MergeRefIdeal.main_v71) = v1 c
          ∧ r.2.mem ((c.tc : Thread Cert.MergeRefIdeal.nD Cert.MergeRefIdeal.τ).loc Cert.MergeRefIdeal.main_v72) = v2 c
          ∧ r.2.mem ((c.tc : Thread Cert.MergeRefIdeal.nD Cert.MergeRefIdeal.τ).loc Cert.MergeRefIdeal.main_v73) = v3 c
          ∧ r.2.mem ((c.tc : Thread Cert.MergeRefIdeal.nD Cert.MergeRefIdeal.τ).loc Cert.MergeRefIdeal.main_v69) = v4 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)) →
    ∃ (v0 : (c : Dev Cert.MixIdeal.nD) → Buf (Elt Ideal) ((c.tc : Thread Cert.MixIdeal.nD Cert.MixIdeal.τ).loc Cert.MixIdeal.main_v27)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v27) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v37) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8))

def preserves_PoolBwd_PoolBwdIdeal : Prop :=
  True

def algebraic_PoolBwdIdeal_PoolBwdRefIdeal [hPoolBwdIdeal : Cert.PoolBwdIdeal.Facts] [hPoolBwdRefIdeal : Cert.PoolBwdRefIdeal.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg)
    (m' : (ℓ : Loc Cert.PoolBwdRefIdeal.nD Cert.PoolBwdRefIdeal.τ Cert.PoolBwdRefIdeal.sig) → Buf (Elt Ideal) ℓ) (g' : Dev Cert.PoolBwdRefIdeal.nD → PrngReg), Pre_PoolBwdIdeal m →
    (∀ c : Dev Cert.PoolBwdIdeal.nD,
      m' ((c.tc : Thread Cert.PoolBwdRefIdeal.nD Cert.PoolBwdRefIdeal.τ).loc Cert.PoolBwdRefIdeal.main_arg0) = m ((c.tc : Thread Cert.PoolBwdIdeal.nD Cert.PoolBwdIdeal.τ).loc Cert.PoolBwdIdeal.main_arg0)) →
    ∃ (v0 : (c : Dev Cert.PoolBwdIdeal.nD) → Buf (Elt Ideal) ((c.tc : Thread Cert.PoolBwdIdeal.nD Cert.PoolBwdIdeal.τ).loc Cert.PoolBwdIdeal.main_v0)),
      θ_run (Cert.PoolBwdIdeal.defs (F := Ideal)) (onTc (τ := Cert.PoolBwdIdeal.τ) (Cert.PoolBwdIdeal.main (F := Ideal))) ⟨m, fun _ => 0, g⟩ (fun r => ∀ c : Dev Cert.PoolBwdIdeal.nD,
          r.2.mem ((c.tc : Thread Cert.PoolBwdIdeal.nD Cert.PoolBwdIdeal.τ).loc Cert.PoolBwdIdeal.main_v0) = v0 c
          ∧ r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0))
      ∧ θ_run (Cert.PoolBwdRefIdeal.defs (F := Ideal)) (onTc (τ := Cert.PoolBwdRefIdeal.τ) (Cert.PoolBwdRefIdeal.main (F := Ideal))) ⟨m', fun _ => 0, g'⟩ (fun r => ∀ c : Dev Cert.PoolBwdRefIdeal.nD,
          r.2.mem ((c.tc : Thread Cert.PoolBwdRefIdeal.nD Cert.PoolBwdRefIdeal.τ).loc Cert.PoolBwdRefIdeal.main_v214) = v0 c
          ∧ r.2.mem ((c.tc : Thread Cert.PoolBwdRefIdeal.nD Cert.PoolBwdRefIdeal.τ).loc Cert.PoolBwdRefIdeal.main_arg0) = m' ((c.tc : Thread Cert.PoolBwdRefIdeal.nD Cert.PoolBwdRefIdeal.τ).loc Cert.PoolBwdRefIdeal.main_arg0))

def preserves_PoolFwd_PoolFwdIdeal : Prop :=
  True

def algebraic_PoolFwdIdeal_PoolFwdRefIdeal [hPoolFwdIdeal : Cert.PoolFwdIdeal.Facts] [hPoolFwdRefIdeal : Cert.PoolFwdRefIdeal.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg)
    (m' : (ℓ : Loc Cert.PoolFwdRefIdeal.nD Cert.PoolFwdRefIdeal.τ Cert.PoolFwdRefIdeal.sig) → Buf (Elt Ideal) ℓ) (g' : Dev Cert.PoolFwdRefIdeal.nD → PrngReg), Pre_PoolFwdIdeal m →
    (∀ c : Dev Cert.PoolFwdIdeal.nD,
      m' ((c.tc : Thread Cert.PoolFwdRefIdeal.nD Cert.PoolFwdRefIdeal.τ).loc Cert.PoolFwdRefIdeal.main_arg0) = m ((c.tc : Thread Cert.PoolFwdIdeal.nD Cert.PoolFwdIdeal.τ).loc Cert.PoolFwdIdeal.main_arg0)) →
    ∃ (v0 : (c : Dev Cert.PoolFwdIdeal.nD) → Buf (Elt Ideal) ((c.tc : Thread Cert.PoolFwdIdeal.nD Cert.PoolFwdIdeal.τ).loc Cert.PoolFwdIdeal.main_v0)),
      θ_run (Cert.PoolFwdIdeal.defs (F := Ideal)) (onTc (τ := Cert.PoolFwdIdeal.τ) (Cert.PoolFwdIdeal.main (F := Ideal))) ⟨m, fun _ => 0, g⟩ (fun r => ∀ c : Dev Cert.PoolFwdIdeal.nD,
          r.2.mem ((c.tc : Thread Cert.PoolFwdIdeal.nD Cert.PoolFwdIdeal.τ).loc Cert.PoolFwdIdeal.main_v0) = v0 c
          ∧ r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0))
      ∧ θ_run (Cert.PoolFwdRefIdeal.defs (F := Ideal)) (onTc (τ := Cert.PoolFwdRefIdeal.τ) (Cert.PoolFwdRefIdeal.main (F := Ideal))) ⟨m', fun _ => 0, g'⟩ (fun r => ∀ c : Dev Cert.PoolFwdRefIdeal.nD,
          r.2.mem ((c.tc : Thread Cert.PoolFwdRefIdeal.nD Cert.PoolFwdRefIdeal.τ).loc Cert.PoolFwdRefIdeal.main_v119) = v0 c
          ∧ r.2.mem ((c.tc : Thread Cert.PoolFwdRefIdeal.nD Cert.PoolFwdRefIdeal.τ).loc Cert.PoolFwdRefIdeal.main_arg0) = m' ((c.tc : Thread Cert.PoolFwdRefIdeal.nD Cert.PoolFwdRefIdeal.τ).loc Cert.PoolFwdRefIdeal.main_arg0))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)
      ∧ m' ((c.tc : Thread Cert.ConvFwdRefIdeal.nD Cert.ConvFwdRefIdeal.τ).loc Cert.ConvFwdRefIdeal.main_arg3) = m ((c.tc : Thread Cert.ConvFwdIdeal.nD Cert.ConvFwdIdeal.τ).loc Cert.ConvFwdIdeal.main_arg3)
      ∧ m' ((c.tc : Thread Cert.ConvFwdRefIdeal.nD Cert.ConvFwdRefIdeal.τ).loc Cert.ConvFwdRefIdeal.main_arg4) = m ((c.tc : Thread Cert.ConvFwdIdeal.nD Cert.ConvFwdIdeal.τ).loc Cert.ConvFwdIdeal.main_arg4)) →
    ∃ (v0 : (c : Dev Cert.ConvFwdIdeal.nD) → Buf (Elt Ideal) ((c.tc : Thread Cert.ConvFwdIdeal.nD Cert.ConvFwdIdeal.τ).loc Cert.ConvFwdIdeal.main_v3)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v3) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
          ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3)
          ∧ r.2.mem ((c.tc : Thread Cert.ConvFwdIdeal.nD Cert.ConvFwdIdeal.τ).loc Cert.ConvFwdIdeal.main_arg4) = m ((c.tc : Thread Cert.ConvFwdIdeal.nD Cert.ConvFwdIdeal.τ).loc Cert.ConvFwdIdeal.main_arg4))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v254) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2)
          ∧ r.2.mem ((c.tc : Thread Cert.ConvFwdRefIdeal.nD Cert.ConvFwdRefIdeal.τ).loc Cert.ConvFwdRefIdeal.main_arg3) = m' ((c.tc : Thread Cert.ConvFwdRefIdeal.nD Cert.ConvFwdRefIdeal.τ).loc Cert.ConvFwdRefIdeal.main_arg3)
          ∧ r.2.mem ((c.tc : Thread Cert.ConvFwdRefIdeal.nD Cert.ConvFwdRefIdeal.τ).loc Cert.ConvFwdRefIdeal.main_arg4) = m' ((c.tc : Thread Cert.ConvFwdRefIdeal.nD Cert.ConvFwdRefIdeal.τ).loc Cert.ConvFwdRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v2_0)) (v1 : (c : Dev Cert.FfnIdeal.nD) → Buf (Elt Ideal) ((c.tc : Thread Cert.FfnIdeal.nD Cert.FfnIdeal.τ).loc Cert.FfnIdeal.main_v2_1)) (v2 : (c : Dev Cert.FfnIdeal.nD) → Buf (Elt Ideal) ((c.tc : Thread Cert.FfnIdeal.nD Cert.FfnIdeal.τ).loc Cert.FfnIdeal.main_v2_2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v2_0) = v0 c
          ∧ r.2.mem ((c.tc : Thread Cert.FfnIdeal.nD Cert.FfnIdeal.τ).loc Cert.FfnIdeal.main_v2_1) = v1 c
          ∧ r.2.mem ((c.tc : Thread Cert.FfnIdeal.nD Cert.FfnIdeal.τ).loc Cert.FfnIdeal.main_v2_2) = v2 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v66) = v0 c
          ∧ r.2.mem ((c.tc : Thread Cert.FfnRefIdeal.nD Cert.FfnRefIdeal.τ).loc Cert.FfnRefIdeal.main_v67) = v1 c
          ∧ r.2.mem ((c.tc : Thread Cert.FfnRefIdeal.nD Cert.FfnRefIdeal.τ).loc Cert.FfnRefIdeal.main_v68) = v2 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def Claim : Prop :=
  ∃ (hConvIn : Cert.ConvIn.Facts) (hConvInIdeal : Cert.ConvInIdeal.Facts) (hConvInRefIdeal : Cert.ConvInRefIdeal.Facts) (hUpWeight : Cert.UpWeight.Facts) (hUpWeightIdeal : Cert.UpWeightIdeal.Facts) (hUpWeightRefIdeal : Cert.UpWeightRefIdeal.Facts) (hDownWeight : Cert.DownWeight.Facts) (hDownWeightIdeal : Cert.DownWeightIdeal.Facts) (hDownWeightRefIdeal : Cert.DownWeightRefIdeal.Facts) (hDownInput : Cert.DownInput.Facts) (hDownInputIdeal : Cert.DownInputIdeal.Facts) (hDownInputRefIdeal : Cert.DownInputRefIdeal.Facts) (hUpInput : Cert.UpInput.Facts) (hUpInputIdeal : Cert.UpInputIdeal.Facts) (hUpInputRefIdeal : Cert.UpInputRefIdeal.Facts) (hUpInputSum : Cert.UpInputSum.Facts) (hUpInputSumIdeal : Cert.UpInputSumIdeal.Facts) (hUpInputSumRefIdeal : Cert.UpInputSumRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hProjInput : Cert.ProjInput.Facts) (hProjInputIdeal : Cert.ProjInputIdeal.Facts) (hProjInputRefIdeal : Cert.ProjInputRefIdeal.Facts) (hProjWeight : Cert.ProjWeight.Facts) (hProjWeightIdeal : Cert.ProjWeightIdeal.Facts) (hProjWeightRefIdeal : Cert.ProjWeightRefIdeal.Facts) (hOutInput : Cert.OutInput.Facts) (hOutInputIdeal : Cert.OutInputIdeal.Facts) (hOutInputRefIdeal : Cert.OutInputRefIdeal.Facts) (hOutWeight : Cert.OutWeight.Facts) (hOutWeightIdeal : Cert.OutWeightIdeal.Facts) (hOutWeightRefIdeal : Cert.OutWeightRefIdeal.Facts) (hProjConv : Cert.ProjConv.Facts) (hProjConvIdeal : Cert.ProjConvIdeal.Facts) (hProjConvRefIdeal : Cert.ProjConvRefIdeal.Facts) (hProjQkv : Cert.ProjQkv.Facts) (hProjQkvIdeal : Cert.ProjQkvIdeal.Facts) (hProjQkvRefIdeal : Cert.ProjQkvRefIdeal.Facts) (hOut : Cert.Out.Facts) (hOutIdeal : Cert.OutIdeal.Facts) (hOutRefIdeal : Cert.OutRefIdeal.Facts) (hConvOutInput : Cert.ConvOutInput.Facts) (hConvOutInputIdeal : Cert.ConvOutInputIdeal.Facts) (hConvOutInputRefIdeal : Cert.ConvOutInputRefIdeal.Facts) (hAttnOutInput : Cert.AttnOutInput.Facts) (hAttnOutInputIdeal : Cert.AttnOutInputIdeal.Facts) (hAttnOutInputRefIdeal : Cert.AttnOutInputRefIdeal.Facts) (hConvOutWeight : Cert.ConvOutWeight.Facts) (hConvOutWeightIdeal : Cert.ConvOutWeightIdeal.Facts) (hConvOutWeightRefIdeal : Cert.ConvOutWeightRefIdeal.Facts) (hAttnOutWeight : Cert.AttnOutWeight.Facts) (hAttnOutWeightIdeal : Cert.AttnOutWeightIdeal.Facts) (hAttnOutWeightRefIdeal : Cert.AttnOutWeightRefIdeal.Facts) (hRmsFwd : Cert.RmsFwd.Facts) (hRmsFwdIdeal : Cert.RmsFwdIdeal.Facts) (hRmsFwdRefIdeal : Cert.RmsFwdRefIdeal.Facts) (hRmsBwd : Cert.RmsBwd.Facts) (hRmsBwdIdeal : Cert.RmsBwdIdeal.Facts) (hRmsBwdRefIdeal : Cert.RmsBwdRefIdeal.Facts) (hLossHead : Cert.LossHead.Facts) (hLossHeadIdeal : Cert.LossHeadIdeal.Facts) (hLossHeadRefIdeal : Cert.LossHeadRefIdeal.Facts) (hUpdateShard : Cert.UpdateShard.Facts) (hUpdateShardIdeal : Cert.UpdateShardIdeal.Facts) (hUpdateShardRefIdeal : Cert.UpdateShardRefIdeal.Facts) (hUpdateWhole : Cert.UpdateWhole.Facts) (hUpdateWholeIdeal : Cert.UpdateWholeIdeal.Facts) (hUpdateWholeRefIdeal : Cert.UpdateWholeRefIdeal.Facts) (hMerge : Cert.Merge.Facts) (hMergeIdeal : Cert.MergeIdeal.Facts) (hMergeRefIdeal : Cert.MergeRefIdeal.Facts) (hMix : Cert.Mix.Facts) (hMixIdeal : Cert.MixIdeal.Facts) (hMixRefIdeal : Cert.MixRefIdeal.Facts) (hPoolBwd : Cert.PoolBwd.Facts) (hPoolBwdIdeal : Cert.PoolBwdIdeal.Facts) (hPoolBwdRefIdeal : Cert.PoolBwdRefIdeal.Facts) (hPoolFwd : Cert.PoolFwd.Facts) (hPoolFwdIdeal : Cert.PoolFwdIdeal.Facts) (hPoolFwdRefIdeal : Cert.PoolFwdRefIdeal.Facts) (hConvFwd : Cert.ConvFwd.Facts) (hConvFwdIdeal : Cert.ConvFwdIdeal.Facts) (hConvFwdRefIdeal : Cert.ConvFwdRefIdeal.Facts) (hFfn : Cert.Ffn.Facts) (hFfnIdeal : Cert.FfnIdeal.Facts) (hFfnRefIdeal : Cert.FfnRefIdeal.Facts),
    quiescent_ConvIn (hConvIn := hConvIn)
    ∧ quiescent_ConvInIdeal (hConvInIdeal := hConvInIdeal)
    ∧ quiescent_ConvInRefIdeal (hConvInRefIdeal := hConvInRefIdeal)
    ∧ quiescent_UpWeight (hUpWeight := hUpWeight)
    ∧ quiescent_UpWeightIdeal (hUpWeightIdeal := hUpWeightIdeal)
    ∧ quiescent_UpWeightRefIdeal (hUpWeightRefIdeal := hUpWeightRefIdeal)
    ∧ quiescent_DownWeight (hDownWeight := hDownWeight)
    ∧ quiescent_DownWeightIdeal (hDownWeightIdeal := hDownWeightIdeal)
    ∧ quiescent_DownWeightRefIdeal (hDownWeightRefIdeal := hDownWeightRefIdeal)
    ∧ quiescent_DownInput (hDownInput := hDownInput)
    ∧ quiescent_DownInputIdeal (hDownInputIdeal := hDownInputIdeal)
    ∧ quiescent_DownInputRefIdeal (hDownInputRefIdeal := hDownInputRefIdeal)
    ∧ quiescent_UpInput (hUpInput := hUpInput)
    ∧ quiescent_UpInputIdeal (hUpInputIdeal := hUpInputIdeal)
    ∧ quiescent_UpInputRefIdeal (hUpInputRefIdeal := hUpInputRefIdeal)
    ∧ quiescent_UpInputSum (hUpInputSum := hUpInputSum)
    ∧ quiescent_UpInputSumIdeal (hUpInputSumIdeal := hUpInputSumIdeal)
    ∧ quiescent_UpInputSumRefIdeal (hUpInputSumRefIdeal := hUpInputSumRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_ProjInput (hProjInput := hProjInput)
    ∧ quiescent_ProjInputIdeal (hProjInputIdeal := hProjInputIdeal)
    ∧ quiescent_ProjInputRefIdeal (hProjInputRefIdeal := hProjInputRefIdeal)
    ∧ quiescent_ProjWeight (hProjWeight := hProjWeight)
    ∧ quiescent_ProjWeightIdeal (hProjWeightIdeal := hProjWeightIdeal)
    ∧ quiescent_ProjWeightRefIdeal (hProjWeightRefIdeal := hProjWeightRefIdeal)
    ∧ quiescent_OutInput (hOutInput := hOutInput)
    ∧ quiescent_OutInputIdeal (hOutInputIdeal := hOutInputIdeal)
    ∧ quiescent_OutInputRefIdeal (hOutInputRefIdeal := hOutInputRefIdeal)
    ∧ quiescent_OutWeight (hOutWeight := hOutWeight)
    ∧ quiescent_OutWeightIdeal (hOutWeightIdeal := hOutWeightIdeal)
    ∧ quiescent_OutWeightRefIdeal (hOutWeightRefIdeal := hOutWeightRefIdeal)
    ∧ quiescent_ProjConv (hProjConv := hProjConv)
    ∧ quiescent_ProjConvIdeal (hProjConvIdeal := hProjConvIdeal)
    ∧ quiescent_ProjConvRefIdeal (hProjConvRefIdeal := hProjConvRefIdeal)
    ∧ quiescent_ProjQkv (hProjQkv := hProjQkv)
    ∧ quiescent_ProjQkvIdeal (hProjQkvIdeal := hProjQkvIdeal)
    ∧ quiescent_ProjQkvRefIdeal (hProjQkvRefIdeal := hProjQkvRefIdeal)
    ∧ quiescent_Out (hOut := hOut)
    ∧ quiescent_OutIdeal (hOutIdeal := hOutIdeal)
    ∧ quiescent_OutRefIdeal (hOutRefIdeal := hOutRefIdeal)
    ∧ quiescent_ConvOutInput (hConvOutInput := hConvOutInput)
    ∧ quiescent_ConvOutInputIdeal (hConvOutInputIdeal := hConvOutInputIdeal)
    ∧ quiescent_ConvOutInputRefIdeal (hConvOutInputRefIdeal := hConvOutInputRefIdeal)
    ∧ quiescent_AttnOutInput (hAttnOutInput := hAttnOutInput)
    ∧ quiescent_AttnOutInputIdeal (hAttnOutInputIdeal := hAttnOutInputIdeal)
    ∧ quiescent_AttnOutInputRefIdeal (hAttnOutInputRefIdeal := hAttnOutInputRefIdeal)
    ∧ quiescent_ConvOutWeight (hConvOutWeight := hConvOutWeight)
    ∧ quiescent_ConvOutWeightIdeal (hConvOutWeightIdeal := hConvOutWeightIdeal)
    ∧ quiescent_ConvOutWeightRefIdeal (hConvOutWeightRefIdeal := hConvOutWeightRefIdeal)
    ∧ quiescent_AttnOutWeight (hAttnOutWeight := hAttnOutWeight)
    ∧ quiescent_AttnOutWeightIdeal (hAttnOutWeightIdeal := hAttnOutWeightIdeal)
    ∧ quiescent_AttnOutWeightRefIdeal (hAttnOutWeightRefIdeal := hAttnOutWeightRefIdeal)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_RmsBwd (hRmsBwd := hRmsBwd)
    ∧ quiescent_RmsBwdIdeal (hRmsBwdIdeal := hRmsBwdIdeal)
    ∧ quiescent_RmsBwdRefIdeal (hRmsBwdRefIdeal := hRmsBwdRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_UpdateShard (hUpdateShard := hUpdateShard)
    ∧ quiescent_UpdateShardIdeal (hUpdateShardIdeal := hUpdateShardIdeal)
    ∧ quiescent_UpdateShardRefIdeal (hUpdateShardRefIdeal := hUpdateShardRefIdeal)
    ∧ quiescent_UpdateWhole (hUpdateWhole := hUpdateWhole)
    ∧ quiescent_UpdateWholeIdeal (hUpdateWholeIdeal := hUpdateWholeIdeal)
    ∧ quiescent_UpdateWholeRefIdeal (hUpdateWholeRefIdeal := hUpdateWholeRefIdeal)
    ∧ quiescent_Merge (hMerge := hMerge)
    ∧ quiescent_MergeIdeal (hMergeIdeal := hMergeIdeal)
    ∧ quiescent_MergeRefIdeal (hMergeRefIdeal := hMergeRefIdeal)
    ∧ quiescent_Mix (hMix := hMix)
    ∧ quiescent_MixIdeal (hMixIdeal := hMixIdeal)
    ∧ quiescent_MixRefIdeal (hMixRefIdeal := hMixRefIdeal)
    ∧ quiescent_PoolBwd (hPoolBwd := hPoolBwd)
    ∧ quiescent_PoolBwdIdeal (hPoolBwdIdeal := hPoolBwdIdeal)
    ∧ quiescent_PoolBwdRefIdeal (hPoolBwdRefIdeal := hPoolBwdRefIdeal)
    ∧ quiescent_PoolFwd (hPoolFwd := hPoolFwd)
    ∧ quiescent_PoolFwdIdeal (hPoolFwdIdeal := hPoolFwdIdeal)
    ∧ quiescent_PoolFwdRefIdeal (hPoolFwdRefIdeal := hPoolFwdRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_Ffn (hFfn := hFfn)
    ∧ quiescent_FfnIdeal (hFfnIdeal := hFfnIdeal)
    ∧ quiescent_FfnRefIdeal (hFfnRefIdeal := hFfnRefIdeal)
    ∧ preserves_ConvIn_ConvInIdeal
    ∧ algebraic_ConvInIdeal_ConvInRefIdeal (hConvInIdeal := hConvInIdeal) (hConvInRefIdeal := hConvInRefIdeal)
    ∧ preserves_UpWeight_UpWeightIdeal
    ∧ algebraic_UpWeightIdeal_UpWeightRefIdeal (hUpWeightIdeal := hUpWeightIdeal) (hUpWeightRefIdeal := hUpWeightRefIdeal)
    ∧ preserves_DownWeight_DownWeightIdeal
    ∧ algebraic_DownWeightIdeal_DownWeightRefIdeal (hDownWeightIdeal := hDownWeightIdeal) (hDownWeightRefIdeal := hDownWeightRefIdeal)
    ∧ preserves_DownInput_DownInputIdeal
    ∧ algebraic_DownInputIdeal_DownInputRefIdeal (hDownInputIdeal := hDownInputIdeal) (hDownInputRefIdeal := hDownInputRefIdeal)
    ∧ preserves_UpInput_UpInputIdeal
    ∧ algebraic_UpInputIdeal_UpInputRefIdeal (hUpInputIdeal := hUpInputIdeal) (hUpInputRefIdeal := hUpInputRefIdeal)
    ∧ preserves_UpInputSum_UpInputSumIdeal
    ∧ algebraic_UpInputSumIdeal_UpInputSumRefIdeal (hUpInputSumIdeal := hUpInputSumIdeal) (hUpInputSumRefIdeal := hUpInputSumRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_ProjInput_ProjInputIdeal
    ∧ algebraic_ProjInputIdeal_ProjInputRefIdeal (hProjInputIdeal := hProjInputIdeal) (hProjInputRefIdeal := hProjInputRefIdeal)
    ∧ preserves_ProjWeight_ProjWeightIdeal
    ∧ algebraic_ProjWeightIdeal_ProjWeightRefIdeal (hProjWeightIdeal := hProjWeightIdeal) (hProjWeightRefIdeal := hProjWeightRefIdeal)
    ∧ preserves_OutInput_OutInputIdeal
    ∧ algebraic_OutInputIdeal_OutInputRefIdeal (hOutInputIdeal := hOutInputIdeal) (hOutInputRefIdeal := hOutInputRefIdeal)
    ∧ preserves_OutWeight_OutWeightIdeal
    ∧ algebraic_OutWeightIdeal_OutWeightRefIdeal (hOutWeightIdeal := hOutWeightIdeal) (hOutWeightRefIdeal := hOutWeightRefIdeal)
    ∧ preserves_ProjConv_ProjConvIdeal
    ∧ algebraic_ProjConvIdeal_ProjConvRefIdeal (hProjConvIdeal := hProjConvIdeal) (hProjConvRefIdeal := hProjConvRefIdeal)
    ∧ preserves_ProjQkv_ProjQkvIdeal
    ∧ algebraic_ProjQkvIdeal_ProjQkvRefIdeal (hProjQkvIdeal := hProjQkvIdeal) (hProjQkvRefIdeal := hProjQkvRefIdeal)
    ∧ preserves_Out_OutIdeal
    ∧ algebraic_OutIdeal_OutRefIdeal (hOutIdeal := hOutIdeal) (hOutRefIdeal := hOutRefIdeal)
    ∧ preserves_ConvOutInput_ConvOutInputIdeal
    ∧ algebraic_ConvOutInputIdeal_ConvOutInputRefIdeal (hConvOutInputIdeal := hConvOutInputIdeal) (hConvOutInputRefIdeal := hConvOutInputRefIdeal)
    ∧ preserves_AttnOutInput_AttnOutInputIdeal
    ∧ algebraic_AttnOutInputIdeal_AttnOutInputRefIdeal (hAttnOutInputIdeal := hAttnOutInputIdeal) (hAttnOutInputRefIdeal := hAttnOutInputRefIdeal)
    ∧ preserves_ConvOutWeight_ConvOutWeightIdeal
    ∧ algebraic_ConvOutWeightIdeal_ConvOutWeightRefIdeal (hConvOutWeightIdeal := hConvOutWeightIdeal) (hConvOutWeightRefIdeal := hConvOutWeightRefIdeal)
    ∧ preserves_AttnOutWeight_AttnOutWeightIdeal
    ∧ algebraic_AttnOutWeightIdeal_AttnOutWeightRefIdeal (hAttnOutWeightIdeal := hAttnOutWeightIdeal) (hAttnOutWeightRefIdeal := hAttnOutWeightRefIdeal)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_RmsBwd_RmsBwdIdeal
    ∧ algebraic_RmsBwdIdeal_RmsBwdRefIdeal (hRmsBwdIdeal := hRmsBwdIdeal) (hRmsBwdRefIdeal := hRmsBwdRefIdeal)
    ∧ preserves_LossHead_LossHeadIdeal
    ∧ algebraic_LossHeadIdeal_LossHeadRefIdeal (hLossHeadIdeal := hLossHeadIdeal) (hLossHeadRefIdeal := hLossHeadRefIdeal)
    ∧ preserves_UpdateShard_UpdateShardIdeal
    ∧ algebraic_UpdateShardIdeal_UpdateShardRefIdeal (hUpdateShardIdeal := hUpdateShardIdeal) (hUpdateShardRefIdeal := hUpdateShardRefIdeal)
    ∧ preserves_UpdateWhole_UpdateWholeIdeal
    ∧ algebraic_UpdateWholeIdeal_UpdateWholeRefIdeal (hUpdateWholeIdeal := hUpdateWholeIdeal) (hUpdateWholeRefIdeal := hUpdateWholeRefIdeal)
    ∧ preserves_Merge_MergeIdeal
    ∧ algebraic_MergeIdeal_MergeRefIdeal (hMergeIdeal := hMergeIdeal) (hMergeRefIdeal := hMergeRefIdeal)
    ∧ preserves_Mix_MixIdeal
    ∧ algebraic_MixIdeal_MixRefIdeal (hMixIdeal := hMixIdeal) (hMixRefIdeal := hMixRefIdeal)
    ∧ preserves_PoolBwd_PoolBwdIdeal
    ∧ algebraic_PoolBwdIdeal_PoolBwdRefIdeal (hPoolBwdIdeal := hPoolBwdIdeal) (hPoolBwdRefIdeal := hPoolBwdRefIdeal)
    ∧ preserves_PoolFwd_PoolFwdIdeal
    ∧ algebraic_PoolFwdIdeal_PoolFwdRefIdeal (hPoolFwdIdeal := hPoolFwdIdeal) (hPoolFwdRefIdeal := hPoolFwdRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_Ffn_FfnIdeal
    ∧ algebraic_FfnIdeal_FfnRefIdeal (hFfnIdeal := hFfnIdeal) (hFfnRefIdeal := hFfnRefIdeal)
-- ==== ConvIn.lean ====
abbrev S16640x768 : Shape := ⟨2, ![16640, 768]⟩
abbrev S16640x256 : Shape := ⟨2, ![16640, 256]⟩
abbrev S31x256 : Shape := ⟨2, ![31, 256]⟩
abbrev S16640x512 : Shape := ⟨2, ![16640, 512]⟩
abbrev S640x256 : Shape := ⟨2, ![640, 256]⟩
abbrev S640x512 : Shape := ⟨2, ![640, 512]⟩
abbrev S672x256 : Shape := ⟨2, ![672, 256]⟩
abbrev S8x672x256 : Shape := ⟨3, ![8, 672, 256]⟩
abbrev S32x256 : Shape := ⟨2, ![32, 256]⟩
abbrev S664x256 : Shape := ⟨2, ![664, 256]⟩
abbrev S1x664x256 : Shape := ⟨3, ![1, 664, 256]⟩
abbrev S656x256 : Shape := ⟨2, ![656, 256]⟩
abbrev S1x656x256 : Shape := ⟨3, ![1, 656, 256]⟩
abbrev S1x256 : Shape := ⟨2, ![1, 256]⟩
abbrev S1x640x256 : Shape := ⟨3, ![1, 640, 256]⟩

abbrev nBuf : Space → Nat
  | .hbm => 4
  | .vmem => 11
  | .smem => 0
  | _ => 0

abbrev bufTy : (tb : Table) → Fin (tcTables nBuf tb) → BufTy
  | .hbm, ⟨0, _⟩ => ⟨S16640x768, .f32⟩
  | .hbm, ⟨1, _⟩ => ⟨S16640x256, .f32⟩
  | .hbm, ⟨2, _⟩ => ⟨S31x256, .f32⟩
  | .hbm, ⟨3, _⟩ => ⟨S16640x512, .bf16⟩
  | .local _ .vmem, ⟨0, _⟩ => ⟨S640x256, .f32⟩
  | .local _ .vmem, ⟨1, _⟩ => ⟨S640x256, .f32⟩
  | .local _ .vmem, ⟨2, _⟩ => ⟨S640x256, .f32⟩
  | .local _ .vmem, ⟨3, _⟩ => ⟨S640x256, .f32⟩
  | .local _ .vmem, ⟨4, _⟩ => ⟨S640x256, .f32⟩
  | .local _ .vmem, ⟨5, _⟩ => ⟨S640x256, .f32⟩
  | .local _ .vmem, ⟨6, _⟩ => ⟨S31x256, .f32⟩
  | .local _ .vmem, ⟨7, _⟩ => ⟨S640x512, .bf16⟩
  | .local _ .vmem, ⟨8, _⟩ => ⟨S640x512, .bf16⟩
  | .local _ .vmem, ⟨9, _⟩ => ⟨S672x256, .f32⟩
  | .local _ .vmem, ⟨10, _⟩ => ⟨S8x672x256, .f32⟩
  | _, _ => ⟨S16640x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c25_i32 : BitVec 32 := 25#32
  let v0 : BitVec 32 := Scalar.subi c25_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c25_i32 : BitVec 32 := 25#32
  let v0 : BitVec 32 := Scalar.subi c25_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c25_i32 : BitVec 32 := 25#32
  let v0 : BitVec 32 := Scalar.subi c25_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c25_i32 : BitVec 32 := 25#32
  let v0 : BitVec 32 := Scalar.subi c25_i32 arg0
  let c0_i32 : BitVec 32 := 0#32
  let c0_i32_0 : BitVec 32 := 0#32
  ![v0.toNat, c0_i32.toNat]

abbrev stage0_0 : Fin 2 → Memref sig .tc .vmem S640x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S31x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S640x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConvInRefIdeal.lean ====
abbrev S16640x768 : Shape := ⟨2, ![16640, 768]⟩
abbrev S16640x256 : Shape := ⟨2, ![16640, 256]⟩
abbrev S31x256 : Shape := ⟨2, ![31, 256]⟩
abbrev S16640x512 : Shape := ⟨2, ![16640, 512]⟩
abbrev S_ : Shape := ⟨0, ![]⟩
abbrev S256 : Shape := ⟨1, ![256]⟩
abbrev S30x256 : Shape := ⟨2, ![30, 256]⟩
abbrev S16670x256 : Shape := ⟨2, ![16670, 256]⟩
abbrev S1x256 : Shape := ⟨2, ![1, 256]⟩

abbrev nBuf : Space → Nat
  | .hbm => 408
  | .vmem => 0
  | .smem => 0
  | _ => 0

abbrev hbmTy0_0 (i : Nat) : BufTy := match i % 128 with
  | 0 => ⟨S16640x768, .f32⟩
  | 1 => ⟨S16640x256, .f32⟩
  | 2 => ⟨S31x256, .f32⟩
  | 3 => ⟨S16640x512, .f32⟩
  | 4 => ⟨S16640x256, .f32⟩
  | 5 => ⟨S16640x256, .f32⟩
  | 6 => ⟨S16640x256, .f32⟩
  | 7 => ⟨S16640x256, .f32⟩
  | 8 => ⟨S_, .f32⟩
  | 9 => ⟨S16640x256, .f32⟩
  | 10 => ⟨S16640x256, .f32⟩
  | 11 => ⟨S_, .f32⟩
  | 12 => ⟨S16640x256, .f32⟩
  | 13 => ⟨S16640x256, .f32⟩
  | 14 => ⟨S_, .f32⟩
  | 15 => ⟨S16640x256, .f32⟩
  | 16 => ⟨S16640x256, .f32⟩
  | 17 => ⟨S16640x256, .f32⟩
  | 18 => ⟨S16640x256, .f32⟩
  | 19 => ⟨S_, .f32⟩
  | 20 => ⟨S256, .f32⟩
  | 21 => ⟨S_, .f32⟩
  | 22 => ⟨S30x256, .f32⟩
  | 23 => ⟨S16670x256, .f32⟩
  | 24 => ⟨S_, .f32⟩
  | 25 => ⟨S30x256, .f32⟩
  | 26 => ⟨S16640x256, .f32⟩
  | 27 => ⟨S1x256, .f32⟩
  | 28 => ⟨S256, .f32⟩
  | 29 => ⟨S1x256, .f32⟩
  | 30 => ⟨S16640x256, .f32⟩
  | 31 => ⟨S16640x256, .f32⟩
  | 32 => ⟨S16640x256, .f32⟩
  | 33 => ⟨S1x256, .f32⟩
  | 34 => ⟨S256, .f32⟩
  | 35 => ⟨S1x256, .f32⟩
  | 36 => ⟨S16640x256, .f32⟩
  | 37 => ⟨S16640x256, .f32⟩
  | 38 => ⟨S16640x256, .f32⟩
  | 39 => ⟨S16640x256, .f32⟩
  | 40 => ⟨S1x256, .f32⟩
  | 41 => ⟨S256, .f32⟩
  | 42 => ⟨S1x256, .f32⟩
  | 43 => ⟨S16640x256, .f32⟩
  | 44 => ⟨S16640x256, .f32⟩
  | 45 => ⟨S16640x256, .f32⟩
  | 46 => ⟨S16640x256, .f32⟩
  | 47 => ⟨S1x256, .f32⟩
  | 48 => ⟨S256, .f32⟩
  | 49 => ⟨S1x256, .f32⟩
  | 50 => ⟨S16640x256, .f32⟩
  | 51 => ⟨S16640x256, .f32⟩
  | 52 => ⟨S16640x256, .f32⟩
  | 53 => ⟨S16640x256, .f32⟩
  | 54 => ⟨S1x256, .f32⟩
  | 55 => ⟨S256, .f32⟩
  | 56 => ⟨S1x256, .f32⟩
  | 57 => ⟨S16640x256, .f32⟩
  | 58 => ⟨S16640x256, .f32⟩
  | 59 => ⟨S16640x256, .f32⟩
  | 60 => ⟨S16640x256, .f32⟩
  | 61 => ⟨S1x256, .f32⟩
  | 62 => ⟨S256, .f32⟩
  | 63 => ⟨S1x256, .f32⟩
  | 64 => ⟨S16640x256, .f32⟩
  | 65 => ⟨S16640x256, .f32⟩
  | 66 => ⟨S16640x256, .f32⟩
  | 67 => ⟨S16640x256, .f32⟩
  | 68 => ⟨S1x256, .f32⟩
  | 69 => ⟨S256, .f32⟩
  | 70 => ⟨S1x256, .f32⟩
  | 71 => ⟨S16640x256, .f32⟩
  | 72 => ⟨S16640x256, .f32⟩
  | 73 => ⟨S16640x256, .f32⟩
  | 74 => ⟨S16640x256, .f32⟩
  | 75 => ⟨S1x256, .f32⟩
  | 76 => ⟨S256, .f32⟩
  | 77 => ⟨S1x256, .f32⟩
  | 78 => ⟨S16640x256, .f32⟩
  | 79 => ⟨S16640x256, .f32⟩
  | 80 => ⟨S16640x256, .f32⟩
  | 81 => ⟨S16640x256, .f32⟩
  | 82 => ⟨S1x256, .f32⟩
  | 83 => ⟨S256, .f32⟩
  | 84 => ⟨S1x256, .f32⟩
  | 85 => ⟨S16640x256, .f32⟩
  | 86 => ⟨S16640x256, .f32⟩
  | 87 => ⟨S16640x256, .f32⟩
  | 88 => ⟨S16640x256, .f32⟩
  | 89 => ⟨S1x256, .f32⟩
  | 90 => ⟨S256, .f32⟩
  | 91 => ⟨S1x256, .f32⟩
  | 92 => ⟨S16640x256, .f32⟩
  | 93 => ⟨S16640x256, .f32⟩
  | 94 => ⟨S16640x256, .f32⟩
  | 95 => ⟨S16640x256, .f32⟩
  | 96 => ⟨S1x256, .f32⟩
  | 97 => ⟨S256, .f32⟩
  | 98 => ⟨S1x256, .f32⟩
  | 99 => ⟨S16640x256, .f32⟩
  | 100 => ⟨S16640x256, .f32⟩
  | 101 => ⟨S16640x256, .f32⟩
  | 102 => ⟨S16640x256, .f32⟩
  | 103 => ⟨S1x256, .f32⟩
  | 104 => ⟨S256, .f32⟩
  | 105 => ⟨S1x256, .f32⟩
  | 106 => ⟨S16640x256, .f32⟩
  | 107 => ⟨S16640x256, .f32⟩
  | 108 => ⟨S16640x256, .f32⟩
  | 109 => ⟨S16640x256, .f32⟩
  | 110 => ⟨S1x256, .f32⟩
  | 111 => ⟨S256, .f32⟩
  | 112 => ⟨S1x256, .f32⟩
  | 113 => ⟨S16640x256, .f32⟩
  | 114 => ⟨S16640x256, .f32⟩
  | 115 => ⟨S16640x256, .f32⟩
  | 116 => ⟨S16640x256, .f32⟩
  | 117 => ⟨S1x256, .f32⟩
  | 118 => ⟨S256, .f32⟩
  | 119 => ⟨S1x256, .f32⟩
  | 120 => ⟨S16640x256, .f32⟩
  | 121 => ⟨S16640x256, .f32⟩
  | 122 => ⟨S16640x256, .f32⟩
  | 123 => ⟨S16640x256, .f32⟩
  | 124 => ⟨S1x256, .f32⟩
  | 125 => ⟨S256, .f32⟩
  | 126 => ⟨S1x256, .f32⟩
  | 127 => ⟨S16640x256, .f32⟩
  | _ => ⟨S16640x768, .f32⟩

abbrev hbmTy0_1 (i : Nat) : BufTy := match i % 128 with
  | 0 => ⟨S16640x256, .f32⟩
  | 1 => ⟨S16640x256, .f32⟩
  | 2 => ⟨S16640x256, .f32⟩
  | 3 => ⟨S1x256, .f32⟩
  | 4 => ⟨S256, .f32⟩
  | 5 => ⟨S1x256, .f32⟩
  | 6 => ⟨S16640x256, .f32⟩
  | 7 => ⟨S16640x256, .f32⟩
  | 8 => ⟨S16640x256, .f32⟩
  | 9 => ⟨S16640x256, .f32⟩
  | 10 => ⟨S1x256, .f32⟩
  | 11 => ⟨S256, .f32⟩
  | 12 => ⟨S1x256, .f32⟩
  | 13 => ⟨S16640x256, .f32⟩
  | 14 => ⟨S16640x256, .f32⟩
  | 15 => ⟨S16640x256, .f32⟩
  | 16 => ⟨S16640x256, .f32⟩
  | 17 => ⟨S1x256, .f32⟩
  | 18 => ⟨S256, .f32⟩
  | 19 => ⟨S1x256, .f32⟩
  | 20 => ⟨S16640x256, .f32⟩
  | 21 => ⟨S16640x256, .f32⟩
  | 22 => ⟨S16640x256, .f32⟩
  | 23 => ⟨S16640x256, .f32⟩
  | 24 => ⟨S1x256, .f32⟩
  | 25 => ⟨S256, .f32⟩
  | 26 => ⟨S1x256, .f32⟩
  | 27 => ⟨S16640x256, .f32⟩
  | 28 => ⟨S16640x256, .f32⟩
  | 29 => ⟨S16640x256, .f32⟩
  | 30 => ⟨S16640x256, .f32⟩
  | 31 => ⟨S1x256, .f32⟩
  | 32 => ⟨S256, .f32⟩
  | 33 => ⟨S1x256, .f32⟩
  | 34 => ⟨S16640x256, .f32⟩
  | 35 => ⟨S16640x256, .f32⟩
  | 36 => ⟨S16640x256, .f32⟩
  | 37 => ⟨S16640x256, .f32⟩
  | 38 => ⟨S1x256, .f32⟩
  | 39 => ⟨S256, .f32⟩
  | 40 => ⟨S1x256, .f32⟩
  | 41 => ⟨S16640x256, .f32⟩
  | 42 => ⟨S16640x256, .f32⟩
  | 43 => ⟨S16640x256, .f32⟩
  | 44 => ⟨S16640x256, .f32⟩
  | 45 => ⟨S1x256, .f32⟩
  | 46 => ⟨S256, .f32⟩
  | 47 => ⟨S1x256, .f32⟩
  | 48 => ⟨S16640x256, .f32⟩
  | 49 => ⟨S16640x256, .f32⟩
  | 50 => ⟨S16640x256, .f32⟩
  | 51 => ⟨S16640x256, .f32⟩
  | 52 => ⟨S1x256, .f32⟩
  | 53 => ⟨S256, .f32⟩
  | 54 => ⟨S1x256, .f32⟩
  | 55 => ⟨S16640x256, .f32⟩
  | 56 => ⟨S16640x256, .f32⟩
  | 57 => ⟨S16640x256, .f32⟩
  | 58 => ⟨S16640x256, .f32⟩
  | 59 => ⟨S1x256, .f32⟩
  | 60 => ⟨S256, .f32⟩
  | 61 => ⟨S1x256, .f32⟩
  | 62 => ⟨S16640x256, .f32⟩
  | 63 => ⟨S16640x256, .f32⟩
  | 64 => ⟨S16640x256, .f32⟩
  | 65 => ⟨S16640x256, .f32⟩
  | 66 => ⟨S1x256, .f32⟩
  | 67 => ⟨S256, .f32⟩
  | 68 => ⟨S1x256, .f32⟩
  | 69 => ⟨S16640x256, .f32⟩
  | 70 => ⟨S16640x256, .f32⟩
  | 71 => ⟨S16640x256, .f32⟩
  | 72 => ⟨S16640x256, .f32⟩
  | 73 => ⟨S1x256, .f32⟩
  | 74 => ⟨S256, .f32⟩
  | 75 => ⟨S1x256, .f32⟩
  | 76 => ⟨S16640x256, .f32⟩
  | 77 => ⟨S16640x256, .f32⟩
  | 78 => ⟨S16640x256, .f32⟩
  | 79 => ⟨S16640x256, .f32⟩
  | 80 => ⟨S1x256, .f32⟩
  | 81 => ⟨S256, .f32⟩
  | 82 => ⟨S1x256, .f32⟩
  | 83 => ⟨S16640x256, .f32⟩
  | 84 => ⟨S16640x256, .f32⟩
  | 85 => ⟨S16640x256, .f32⟩
  | 86 => ⟨S16640x256, .f32⟩
  | 87 => ⟨S1x256, .f32⟩
  | 88 => ⟨S256, .f32⟩
  | 89 => ⟨S1x256, .f32⟩
  | 90 => ⟨S16640x256, .f32⟩
  | 91 => ⟨S16640x256, .f32⟩
  | 92 => ⟨S16640x256, .f32⟩
  | 93 => ⟨S16640x256, .f32⟩
  | 94 => ⟨S1x256, .f32⟩
  | 95 => ⟨S256, .f32⟩
  | 96 => ⟨S1x256, .f32⟩
  | 97 => ⟨S16640x256, .f32⟩
  | 98 => ⟨S16640x256, .f32⟩
  | 99 => ⟨S16640x256, .f32⟩
  | 100 => ⟨S16640x256, .f32⟩
  | 101 => ⟨S1x256, .f32⟩
  | 102 => ⟨S256, .f32⟩
  | 103 => ⟨S1x256, .f32⟩
  | 104 => ⟨S16640x256, .f32⟩
  | 105 => ⟨S16640x256, .f32⟩
  | 106 => ⟨S16640x256, .f32⟩
  | 107 => ⟨S16640x256, .f32⟩
  | 108 => ⟨S1x256, .f32⟩
  | 109 => ⟨S256, .f32⟩
  | 110 => ⟨S1x256, .f32⟩
  | 111 => ⟨S16640x256, .f32⟩
  | 112 => ⟨S16640x256, .f32⟩
  | 113 => ⟨S16640x256, .f32⟩
  | 114 => ⟨S1x256, .f32⟩
  | 115 => ⟨S16640x256, .f32⟩
  | 116 => ⟨S16640x256, .f32⟩
  | 117 => ⟨S16640x256, .f32⟩
  | 118 => ⟨S16640x256, .f32⟩
  | 119 => ⟨S16640x256, .f32⟩
  | 120 => ⟨S16640x256, .f32⟩
  | 121 => ⟨S_, .f32⟩
  | 122 => ⟨S16670x256, .f32⟩
  | 123 => ⟨S16640x256, .f32⟩
  | 124 => ⟨S16640x256, .f32⟩
  | 125 => ⟨S_, .f32⟩
  | 126 => ⟨S16670x256, .f32⟩
  | 127 => ⟨S16670x256, .f32⟩
  | _ => ⟨S16640x768, .f32⟩

abbrev hbmTy0_2 (i : Nat) : BufTy := match i % 128 with
  | 0 => ⟨S16640x256, .f32⟩
  | 1 => ⟨S16640x256, .f32⟩
  | 2 => ⟨S_, .f32⟩
  | 3 => ⟨S16670x256, .f32⟩
  | 4 => ⟨S16670x256, .f32⟩
  | 5 => ⟨S16640x256, .f32⟩
  | 6 => ⟨S16640x256, .f32⟩
  | 7 => ⟨S_, .f32⟩
  | 8 => ⟨S16670x256, .f32⟩
  | 9 => ⟨S16670x256, .f32⟩
  | 10 => ⟨S16640x256, .f32⟩
  | 11 => ⟨S16640x256, .f32⟩
  | 12 => ⟨S_, .f32⟩
  | 13 => ⟨S16670x256, .f32⟩
  | 14 => ⟨S16670x256, .f32⟩
  | 15 => ⟨S16640x256, .f32⟩
  | 16 => ⟨S16640x256, .f32⟩
  | 17 => ⟨S_, .f32⟩
  | 18 => ⟨S16670x256, .f32⟩
  | 19 => ⟨S16670x256, .f32⟩
  | 20 => ⟨S16640x256, .f32⟩
  | 21 => ⟨S16640x256, .f32⟩
  | 22 => ⟨S_, .f32⟩
  | 23 => ⟨S16670x256, .f32⟩
  | 24 => ⟨S16670x256, .f32⟩
  | 25 => ⟨S16640x256, .f32⟩
  | 26 => ⟨S16640x256, .f32⟩
  | 27 => ⟨S_, .f32⟩
  | 28 => ⟨S16670x256, .f32⟩
  | 29 => ⟨S16670x256, .f32⟩
  | 30 => ⟨S16640x256, .f32⟩
  | 31 => ⟨S16640x256, .f32⟩
  | 32 => ⟨S_, .f32⟩
  | 33 => ⟨S16670x256, .f32⟩
  | 34 => ⟨S16670x256, .f32⟩
  | 35 => ⟨S16640x256, .f32⟩
  | 36 => ⟨S16640x256, .f32⟩
  | 37 => ⟨S_, .f32⟩
  | 38 => ⟨S16670x256, .f32⟩
  | 39 => ⟨S16670x256, .f32⟩
  | 40 => ⟨S16640x256, .f32⟩
  | 41 => ⟨S16640x256, .f32⟩
  | 42 => ⟨S_, .f32⟩
  | 43 => ⟨S16670x256, .f32⟩
  | 44 => ⟨S16670x256, .f32⟩
  | 45 => ⟨S16640x256, .f32⟩
  | 46 => ⟨S16640x256, .f32⟩
  | 47 => ⟨S_, .f32⟩
  | 48 => ⟨S16670x256, .f32⟩
  | 49 => ⟨S16670x256, .f32⟩
  | 50 => ⟨S16640x256, .f32⟩
  | 51 => ⟨S16640x256, .f32⟩
  | 52 => ⟨S_, .f32⟩
  | 53 => ⟨S16670x256, .f32⟩
  | 54 => ⟨S16670x256, .f32⟩
  | 55 => ⟨S16640x256, .f32⟩
  | 56 => ⟨S16640x256, .f32⟩
  | 57 => ⟨S_, .f32⟩
  | 58 => ⟨S16670x256, .f32⟩
  | 59 => ⟨S16670x256, .f32⟩
  | 60 => ⟨S16640x256, .f32⟩
  | 61 => ⟨S16640x256, .f32⟩
  | 62 => ⟨S_, .f32⟩
  | 63 => ⟨S16670x256, .f32⟩
  | 64 => ⟨S16670x256, .f32⟩
  | 65 => ⟨S16640x256, .f32⟩
  | 66 => ⟨S16640x256, .f32⟩
  | 67 => ⟨S_, .f32⟩
  | 68 => ⟨S16670x256, .f32⟩
  | 69 => ⟨S16670x256, .f32⟩
  | 70 => ⟨S16640x256, .f32⟩
  | 71 => ⟨S16640x256, .f32⟩
  | 72 => ⟨S_, .f32⟩
  | 73 => ⟨S16670x256, .f32⟩
  | 74 => ⟨S16670x256, .f32⟩
  | 75 => ⟨S16640x256, .f32⟩
  | 76 => ⟨S16640x256, .f32⟩
  | 77 => ⟨S_, .f32⟩
  | 78 => ⟨S16670x256, .f32⟩
  | 79 => ⟨S16670x256, .f32⟩
  | 80 => ⟨S16640x256, .f32⟩
  | 81 => ⟨S16640x256, .f32⟩
  | 82 => ⟨S_, .f32⟩
  | 83 => ⟨S16670x256, .f32⟩
  | 84 => ⟨S16670x256, .f32⟩
  | 85 => ⟨S16640x256, .f32⟩
  | 86 => ⟨S16640x256, .f32⟩
  | 87 => ⟨S_, .f32⟩
  | 88 => ⟨S16670x256, .f32⟩
  | 89 => ⟨S16670x256, .f32⟩
  | 90 => ⟨S16640x256, .f32⟩
  | 91 => ⟨S16640x256, .f32⟩
  | 92 => ⟨S_, .f32⟩
  | 93 => ⟨S16670x256, .f32⟩
  | 94 => ⟨S16670x256, .f32⟩
  | 95 => ⟨S16640x256, .f32⟩
  | 96 => ⟨S16640x256, .f32⟩
  | 97 => ⟨S_, .f32⟩
  | 98 => ⟨S16670x256, .f32⟩
  | 99 => ⟨S16670x256, .f32⟩
  | 100 => ⟨S16640x256, .f32⟩
  | 101 => ⟨S16640x256, .f32⟩
  | 102 => ⟨S_, .f32⟩
  | 103 => ⟨S16670x256, .f32⟩
  | 104 => ⟨S16670x256, .f32⟩
  | 105 => ⟨S16640x256, .f32⟩
  | 106 => ⟨S16640x256, .f32⟩
  | 107 => ⟨S_, .f32⟩
  | 108 => ⟨S16670x256, .f32⟩
  | 109 => ⟨S16670x256, .f32⟩
  | 110 => ⟨S16640x256, .f32⟩
  | 111 => ⟨S16640x256, .f32⟩
  | 112 => ⟨S_, .f32⟩
  | 113 => ⟨S16670x256, .f32⟩
  | 114 => ⟨S16670x256, .f32⟩
  | 115 => ⟨S16640x256, .f32⟩
  | 116 => ⟨S16640x256, .f32⟩
  | 117 => ⟨S_, .f32⟩
  | 118 => ⟨S16670x256, .f32⟩
  | 119 => ⟨S16670x256, .f32⟩
  | 120 => ⟨S16640x256, .f32⟩
  | 121 => ⟨S16640x256, .f32⟩
  | 122 => ⟨S_, .f32⟩
  | 123 => ⟨S16670x256, .f32⟩
  | 124 => ⟨S16670x256, .f32⟩
  | 125 => ⟨S16640x256, .f32⟩
  | 126 => ⟨S16640x256, .f32⟩
  | 127 => ⟨S_, .f32⟩
  | _ => ⟨S16640x768, .f32⟩

abbrev hbmTy0_3 (i : Nat) : BufTy := match i % 128 with
  | 0 => ⟨S16670x256, .f32⟩
  | 1 => ⟨S16670x256, .f32⟩
  | 2 => ⟨S16640x256, .f32⟩
  | 3 => ⟨S16640x256, .f32⟩
  | 4 => ⟨S_, .f32⟩
  | 5 => ⟨S16670x256, .f32⟩
  | 6 => ⟨S16670x256, .f32⟩
  | 7 => ⟨S16640x256, .f32⟩
  | 8 => ⟨S16640x256, .f32⟩
  | 9 => ⟨S_, .f32⟩
  | 10 => ⟨S16670x256, .f32⟩
  | 11 => ⟨S16670x256, .f32⟩
  | 12 => ⟨S16640x256, .f32⟩
  | 13 => ⟨S16640x256, .f32⟩
  | 14 => ⟨S_, .f32⟩
  | 15 => ⟨S16670x256, .f32⟩
  | 16 => ⟨S16670x256, .f32⟩
  | 17 => ⟨S30x256, .f32⟩
  | 18 => ⟨S16640x256, .f32⟩
  | 19 => ⟨S16640x256, .f32⟩
  | 20 => ⟨S16640x256, .f32⟩
  | 21 => ⟨S16640x256, .f32⟩
  | 22 => ⟨S16640x512, .f32⟩
  | 23 => ⟨S16640x512, .bf16⟩
  | _ => ⟨S16640x768, .f32⟩

abbrev hbmTy (i : Nat) : BufTy := match i / 128 with
  | 0 => hbmTy0_0 i
  | 1 => hbmTy0_1 i
  | 2 => hbmTy0_2 i
  | 3 => hbmTy0_3 i
  | _ => ⟨S16640x768, .f32⟩

abbrev bufTy : (tb : Table) → Fin (tcTables nBuf tb) → BufTy
  | .hbm, ⟨i, _⟩ => hbmTy i
  | _, _ => ⟨S16640x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_v232 : Ref sig .tc := ⟨.hbm, 241, rfl⟩
abbrev main_v233 : Ref sig .tc := ⟨.hbm, 242, rfl⟩
abbrev main_v234 : Ref sig .tc := ⟨.hbm, 243, rfl⟩
abbrev main_v235 : Ref sig .tc := ⟨.hbm, 244, rfl⟩
abbrev main_v236 : Ref sig .tc := ⟨.hbm, 245, rfl⟩
abbrev main_v237 : Ref sig .tc := ⟨.hbm, 246, rfl⟩
abbrev main_v238 : Ref sig .tc := ⟨.hbm, 247, rfl⟩
abbrev main_v239 : Ref sig .tc := ⟨.hbm, 248, rfl⟩
abbrev main_cst_5 : Ref sig .tc := ⟨.hbm, 249, rfl⟩
abbrev main_v240 : Ref sig .tc := ⟨.hbm, 250, rfl⟩
abbrev main_v241 : Ref sig .tc := ⟨.hbm, 251, rfl⟩
abbrev main_v242 : Ref sig .tc := ⟨.hbm, 252, rfl⟩
abbrev main_cst_6 : Ref sig .tc := ⟨.hbm, 253, rfl⟩
abbrev main_v243 : Ref sig .tc := ⟨.hbm, 254, rfl⟩
abbrev main_v244 : Ref sig .tc := ⟨.hbm, 255, rfl⟩
abbrev main_v245 : Ref sig .tc := ⟨.hbm, 256, rfl⟩
abbrev main_v246 : Ref sig .tc := ⟨.hbm, 257, rfl⟩
abbrev main_cst_7 : Ref sig .tc := ⟨.hbm, 258, rfl⟩
abbrev main_v247 : Ref sig .tc := ⟨.hbm, 259, rfl⟩
abbrev main_v248 : Ref sig .tc := ⟨.hbm, 260, rfl⟩
abbrev main_v249 : Ref sig .tc := ⟨.hbm, 261, rfl⟩
abbrev main_v250 : Ref sig .tc := ⟨.hbm, 262, rfl⟩
abbrev main_cst_8 : Ref sig .tc := ⟨.hbm, 263, rfl⟩
abbrev main_v251 : Ref sig .tc := ⟨.hbm, 264, rfl⟩
abbrev main_v252 : Ref sig .tc := ⟨.hbm, 265, rfl⟩
abbrev main_v253 : Ref sig .tc := ⟨.hbm, 266, rfl⟩
abbrev main_v254 : Ref sig .tc := ⟨.hbm, 267, rfl⟩
abbrev main_cst_9 : Ref sig .tc := ⟨.hbm, 268, rfl⟩
abbrev main_v255 : Ref sig .tc := ⟨.hbm, 269, rfl⟩
abbrev main_v256 : Ref sig .tc := ⟨.hbm, 270, rfl⟩
abbrev main_v257 : Ref sig .tc := ⟨.hbm, 271, rfl⟩
abbrev main_v258 : Ref sig .tc := ⟨.hbm, 272, rfl⟩
abbrev main_cst_10 : Ref sig .tc := ⟨.hbm, 273, rfl⟩
abbrev main_v259 : Ref sig .tc := ⟨.hbm, 274, rfl⟩
abbrev main_v260 : Ref sig .tc := ⟨.hbm, 275, rfl⟩
abbrev main_v261 : Ref sig .tc := ⟨.hbm, 276, rfl⟩
abbrev main_v262 : Ref sig .tc := ⟨.hbm, 277, rfl⟩
abbrev main_cst_11 : Ref sig .tc := ⟨.hbm, 278, rfl⟩
abbrev main_v263 : Ref sig .tc := ⟨.hbm, 279, rfl⟩
abbrev main_v264 : Ref sig .tc := ⟨.hbm, 280, rfl⟩
abbrev main_v265 : Ref sig .tc := ⟨.hbm, 281, rfl⟩
abbrev main_v266 : Ref sig .tc := ⟨.hbm, 282, rfl⟩
abbrev main_cst_12 : Ref sig .tc := ⟨.hbm, 283, rfl⟩
abbrev main_v267 : Ref sig .tc := ⟨.hbm, 284, rfl⟩
abbrev main_v268 : Ref sig .tc := ⟨.hbm, 285, rfl⟩
abbrev main_v269 : Ref sig .tc := ⟨.hbm, 286, rfl⟩
abbrev main_v270 : Ref sig .tc := ⟨.hbm, 287, rfl⟩
abbrev main_cst_13 : Ref sig .tc := ⟨.hbm, 288, rfl⟩
abbrev main_v271 : Ref sig .tc := ⟨.hbm, 289, rfl⟩
abbrev main_v272 : Ref sig .tc := ⟨.hbm, 290, rfl⟩
abbrev main_v273 : Ref sig .tc := ⟨.hbm, 291, rfl⟩
abbrev main_v274 : Ref sig .tc := ⟨.hbm, 292, rfl⟩
abbrev main_cst_14 : Ref sig .tc := ⟨.hbm, 293, rfl⟩
abbrev main_v275 : Ref sig .tc := ⟨.hbm, 294, rfl⟩
abbrev main_v276 : Ref sig .tc := ⟨.hbm, 295, rfl⟩
abbrev main_v277 : Ref sig .tc := ⟨.hbm, 296, rfl⟩
abbrev main_v278 : Ref sig .tc := ⟨.hbm, 297, rfl⟩
abbrev main_cst_15 : Ref sig .tc := ⟨.hbm, 298, rfl⟩
abbrev main_v279 : Ref sig .tc := ⟨.hbm, 299, rfl⟩
abbrev main_v280 : Ref sig .tc := ⟨.hbm, 300, rfl⟩
abbrev main_v281 : Ref sig .tc := ⟨.hbm, 301, rfl⟩
abbrev main_v282 : Ref sig .tc := ⟨.hbm, 302, rfl⟩
abbrev main_cst_16 : Ref sig .tc := ⟨.hbm, 303, rfl⟩
abbrev main_v283 : Ref sig .tc := ⟨.hbm, 304, rfl⟩
abbrev main_v284 : Ref sig .tc := ⟨.hbm, 305, rfl⟩
abbrev main_v285 : Ref sig .tc := ⟨.hbm, 306, rfl⟩
abbrev main_v286 : Ref sig .tc := ⟨.hbm, 307, rfl⟩
abbrev main_cst_17 : Ref sig .tc := ⟨.hbm, 308, rfl⟩
abbrev main_v287 : Ref sig .tc := ⟨.hbm, 309, rfl⟩
abbrev main_v288 : Ref sig .tc := ⟨.hbm, 310, rfl⟩
abbrev main_v289 : Ref sig .tc := ⟨.hbm, 311, rfl⟩
abbrev main_v290 : Ref sig .tc := ⟨.hbm, 312, rfl⟩
abbrev main_cst_18 : Ref sig .tc := ⟨.hbm, 313, rfl⟩
abbrev main_v291 : Ref sig .tc := ⟨.hbm, 314, rfl⟩
abbrev main_v292 : Ref sig .tc := ⟨.hbm, 315, rfl⟩
abbrev main_v293 : Ref sig .tc := ⟨.hbm, 316, rfl⟩
abbrev main_v294 : Ref sig .tc := ⟨.hbm, 317, rfl⟩
abbrev main_cst_19 : Ref sig .tc := ⟨.hbm, 318, rfl⟩
abbrev main_v295 : Ref sig .tc := ⟨.hbm, 319, rfl⟩
abbrev main_v296 : Ref sig .tc := ⟨.hbm, 320, rfl⟩
abbrev main_v297 : Ref sig .tc := ⟨.hbm, 321, rfl⟩
abbrev main_v298 : Ref sig .tc := ⟨.hbm, 322, rfl⟩
abbrev main_cst_20 : Ref sig .tc := ⟨.hbm, 323, rfl⟩
abbrev main_v299 : Ref sig .tc := ⟨.hbm, 324, rfl⟩
abbrev main_v300 : Ref sig .tc := ⟨.hbm, 325, rfl⟩
abbrev main_v301 : Ref sig .tc := ⟨.hbm, 326, rfl⟩
abbrev main_v302 : Ref sig .tc := ⟨.hbm, 327, rfl⟩
abbrev main_cst_21 : Ref sig .tc := ⟨.hbm, 328, rfl⟩
abbrev main_v303 : Ref sig .tc := ⟨.hbm, 329, rfl⟩
abbrev main_v304 : Ref sig .tc := ⟨.hbm, 330, rfl⟩
abbrev main_v305 : Ref sig .tc := ⟨.hbm, 331, rfl⟩
abbrev main_v306 : Ref sig .tc := ⟨.hbm, 332, rfl⟩
abbrev main_cst_22 : Ref sig .tc := ⟨.hbm, 333, rfl⟩
abbrev main_v307 : Ref sig .tc := ⟨.hbm, 334, rfl⟩
abbrev main_v308 : Ref sig .tc := ⟨.hbm, 335, rfl⟩
abbrev main_v309 : Ref sig .tc := ⟨.hbm, 336, rfl⟩
abbrev main_v310 : Ref sig .tc := ⟨.hbm, 337, rfl⟩
abbrev main_cst_23 : Ref sig .tc := ⟨.hbm, 338, rfl⟩
abbrev main_v311 : Ref sig .tc := ⟨.hbm, 339, rfl⟩
abbrev main_v312 : Ref sig .tc := ⟨.hbm, 340, rfl⟩
abbrev main_v313 : Ref sig .tc := ⟨.hbm, 341, rfl⟩
abbrev main_v314 : Ref sig .tc := ⟨.hbm, 342, rfl⟩
abbrev main_cst_24 : Ref sig .tc := ⟨.hbm, 343, rfl⟩
abbrev main_v315 : Ref sig .tc := ⟨.hbm, 344, rfl⟩
abbrev main_v316 : Ref sig .tc := ⟨.hbm, 345, rfl⟩
abbrev main_v317 : Ref sig .tc := ⟨.hbm, 346, rfl⟩
abbrev main_v318 : Ref sig .tc := ⟨.hbm, 347, rfl⟩
abbrev main_cst_25 : Ref sig .tc := ⟨.hbm, 348, rfl⟩
abbrev main_v319 : Ref sig .tc := ⟨.hbm, 349, rfl⟩
abbrev main_v320 : Ref sig .tc := ⟨.hbm, 350, rfl⟩
abbrev main_v321 : Ref sig .tc := ⟨.hbm, 351, rfl⟩
abbrev main_v322 : Ref sig .tc := ⟨.hbm, 352, rfl⟩
abbrev main_cst_26 : Ref sig .tc := ⟨.hbm, 353, rfl⟩
abbrev main_v323 : Ref sig .tc := ⟨.hbm, 354, rfl⟩
abbrev main_v324 : Ref sig .tc := ⟨.hbm, 355, rfl⟩
abbrev main_v325 : Ref sig .tc := ⟨.hbm, 356, rfl⟩
abbrev main_v326 : Ref sig .tc := ⟨.hbm, 357, rfl⟩
abbrev main_cst_27 : Ref sig .tc := ⟨.hbm, 358, rfl⟩
abbrev main_v327 : Ref sig .tc := ⟨.hbm, 359, rfl⟩
abbrev main_v328 : Ref sig .tc := ⟨.hbm, 360, rfl⟩
abbrev main_v329 : Ref sig .tc := ⟨.hbm, 361, rfl⟩
abbrev main_v330 : Ref sig .tc := ⟨.hbm, 362, rfl⟩
abbrev main_cst_28 : Ref sig .tc := ⟨.hbm, 363, rfl⟩
abbrev main_v331 : Ref sig .tc := ⟨.hbm, 364, rfl⟩
abbrev main_v332 : Ref sig .tc := ⟨.hbm, 365, rfl⟩
abbrev main_v333 : Ref sig .tc := ⟨.hbm, 366, rfl⟩
abbrev main_v334 : Ref sig .tc := ⟨.hbm, 367, rfl⟩
abbrev main_cst_29 : Ref sig .tc := ⟨.hbm, 368, rfl⟩
abbrev main_v335 : Ref sig .tc := ⟨.hbm, 369, rfl⟩
abbrev main_v336 : Ref sig .tc := ⟨.hbm, 370, rfl⟩
abbrev main_v337 : Ref sig .tc := ⟨.hbm, 371, rfl⟩
abbrev main_v338 : Ref sig .tc := ⟨.hbm, 372, rfl⟩
abbrev main_cst_30 : Ref sig .tc := ⟨.hbm, 373, rfl⟩
abbrev main_v339 : Ref sig .tc := ⟨.hbm, 374, rfl⟩
abbrev main_v340 : Ref sig .tc := ⟨.hbm, 375, rfl⟩
abbrev main_v341 : Ref sig .tc := ⟨.hbm, 376, rfl⟩
abbrev main_v342 : Ref sig .tc := ⟨.hbm, 377, rfl⟩
abbrev main_cst_31 : Ref sig .tc := ⟨.hbm, 378, rfl⟩
abbrev main_v343 : Ref sig .tc := ⟨.hbm, 379, rfl⟩
abbrev main_v344 : Ref sig .tc := ⟨.hbm, 380, rfl⟩
abbrev main_v345 : Ref sig .tc := ⟨.hbm, 381, rfl⟩
abbrev main_v346 : Ref sig .tc := ⟨.hbm, 382, rfl⟩
abbrev main_cst_32 : Ref sig .tc := ⟨.hbm, 383, rfl⟩
abbrev main_v347 : Ref sig .tc := ⟨.hbm, 384, rfl⟩
abbrev main_v348 : Ref sig .tc := ⟨.hbm, 385, rfl⟩
abbrev main_v349 : Ref sig .tc := ⟨.hbm, 386, rfl⟩
abbrev main_v350 : Ref sig .tc := ⟨.hbm, 387, rfl⟩
abbrev main_cst_33 : Ref sig .tc := ⟨.hbm, 388, rfl⟩
abbrev main_v351 : Ref sig .tc := ⟨.hbm, 389, rfl⟩
abbrev main_v352 : Ref sig .tc := ⟨.hbm, 390, rfl⟩
abbrev main_v353 : Ref sig .tc := ⟨.hbm, 391, rfl⟩
abbrev main_v354 : Ref sig .tc := ⟨.hbm, 392, rfl⟩
abbrev main_cst_34 : Ref sig .tc := ⟨.hbm, 393, rfl⟩
abbrev main_v355 : Ref sig .tc := ⟨.hbm, 394, rfl⟩
abbrev main_v356 : Ref sig .tc := ⟨.hbm, 395, rfl⟩
abbrev main_v357 : Ref sig .tc := ⟨.hbm, 396, rfl⟩
abbrev main_v358 : Ref sig .tc := ⟨.hbm, 397, rfl⟩
abbrev main_cst_35 : Ref sig .tc := ⟨.hbm, 398, rfl⟩
abbrev main_v359 : Ref sig .tc := ⟨.hbm, 399, rfl⟩
abbrev main_v360 : Ref sig .tc := ⟨.hbm, 400, rfl⟩
abbrev main_v361 : Ref sig .tc := ⟨.hbm, 401, rfl⟩
abbrev main_v362 : Ref sig .tc := ⟨.hbm, 402, rfl⟩
abbrev main_v363 : Ref sig .tc := ⟨.hbm, 403, rfl⟩
abbrev main_v364 : Ref sig .tc := ⟨.hbm, 404, rfl⟩
abbrev main_v365 : Ref sig .tc := ⟨.hbm, 405, rfl⟩
abbrev main_v366 : Ref sig .tc := ⟨.hbm, 406, rfl⟩
abbrev main_v367 : Ref sig .tc := ⟨.hbm, 407, rfl⟩

abbrev nD : Nat := 1
abbrev τ : Topo := Topo.v7x

variable {F : FTy → Type} [FloatOps F]
-- ==== UpWeight.lean ====
abbrev S16640x1024 : Shape := ⟨2, ![16640, 1024]⟩
abbrev S16640x3072 : Shape := ⟨2, ![16640, 3072]⟩
abbrev S1024x3072 : Shape := ⟨2, ![1024, 3072]⟩
abbrev S3328x512 : Shape := ⟨2, ![3328, 512]⟩
abbrev S3328x1024 : Shape := ⟨2, ![3328, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16640x1024, .bf16⟩
  | .hbm, ⟨1, _⟩ => ⟨S16640x3072, .bf16⟩
  | .hbm, ⟨2, _⟩ => ⟨S1024x3072, .f32⟩
  | .local _ .vmem, ⟨0, _⟩ => ⟨S3328x512, .bf16⟩
  | .local _ .vmem, ⟨1, _⟩ => ⟨S3328x512, .bf16⟩
  | .local _ .vmem, ⟨2, _⟩ => ⟨S3328x1024, .bf16⟩
  | .local _ .vmem, ⟨3, _⟩ => ⟨S3328x1024, .bf16⟩
  | .local _ .vmem, ⟨4, _⟩ => ⟨S512x1024, .f32⟩
  | .local _ .vmem, ⟨5, _⟩ => ⟨S512x1024, .f32⟩
  | _, _ => ⟨S16640x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 5], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S3328x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S3328x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpWeightRefIdeal.lean ====
abbrev S16640x1024 : Shape := ⟨2, ![16640, 1024]⟩
abbrev S16640x3072 : Shape := ⟨2, ![16640, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16640x1024, .bf16⟩
  | .hbm, ⟨1, _⟩ => ⟨S16640x3072, .bf16⟩
  | .hbm, ⟨2, _⟩ => ⟨S_, .f32⟩
  | .hbm, ⟨3, _⟩ => ⟨S1024x3072, .f32⟩
  | .hbm, ⟨4, _⟩ => ⟨S16640x1024, .f32⟩
  | .hbm, ⟨5, _⟩ => ⟨S16640x3072, .f32⟩
  | .hbm, ⟨6, _⟩ => ⟨S16640x3072, .f32⟩
  | .hbm, ⟨7, _⟩ => ⟨S3072x1024, .f32⟩
  | .hbm, ⟨8, _⟩ => ⟨S1024x3072, .f32⟩
  | _, _ => ⟨S16640x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownWeight.lean ====
abbrev S16640x3072 : Shape := ⟨2, ![16640, 3072]⟩
abbrev S16640x1024 : Shape := ⟨2, ![16640, 1024]⟩
abbrev S3072x1024 : Shape := ⟨2, ![3072, 1024]⟩
abbrev S3328x512 : Shape := ⟨2, ![3328, 512]⟩
abbrev S3328x1024 : Shape := ⟨2, ![3328, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16640x3072, .bf16⟩
  | .hbm, ⟨1, _⟩ => ⟨S16640x1024, .bf16⟩
  | .hbm, ⟨2, _⟩ => ⟨S3072x1024, .f32⟩
  | .local _ .vmem, ⟨0, _⟩ => ⟨S3328x512, .bf16⟩
  | .local _ .vmem, ⟨1, _⟩ => ⟨S3328x512, .bf16⟩
  | .local _ .vmem, ⟨2, _⟩ => ⟨S3328x1024, .bf16⟩
  | .local _ .vmem, ⟨3, _⟩ => ⟨S3328x1024, .bf16⟩
  | .local _ .vmem, ⟨4, _⟩ => ⟨S512x1024, .f32⟩
  | .local _ .vmem, ⟨5, _⟩ => ⟨S512x1024, .f32⟩
  | _, _ => ⟨S16640x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 1, 5], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S3328x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S3328x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWeightRefIdeal.lean ====
abbrev S16640x3072 : Shape := ⟨2, ![16640, 3072]⟩
abbrev S16640x1024 : Shape := ⟨2, ![16640, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 9
  | .vmem => 0
  | .smem => 0
  | _ => 0

abbrev bufTy : (tb : Table) → Fin (tcTables nBuf tb) → BufTy
  | .hbm, ⟨0, _⟩ => ⟨S16640x3072, .bf16⟩
  | .hbm, ⟨1, _⟩ => ⟨S16640x1024, .bf16⟩
  | .hbm, ⟨2, _⟩ => ⟨S_, .f32⟩
  | .hbm, ⟨3, _⟩ => ⟨S3072x1024, .f32⟩
  | .hbm, ⟨4, _⟩ => ⟨S16640x3072, .f32⟩
  | .hbm, ⟨5, _⟩ => ⟨S16640x1024, .f32⟩
  | .hbm, ⟨6, _⟩ => ⟨S16640x1024, .f32⟩
  | .hbm, ⟨7, _⟩ => ⟨S1024x3072, .f32⟩
  | .hbm, ⟨8, _⟩ => ⟨S3072x1024, .f32⟩
  | _, _ => ⟨S16640x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownInput.lean ====
abbrev S16640x1024 : Shape := ⟨2, ![16640, 1024]⟩
abbrev S3072x1024 : Shape := ⟨2, ![3072, 1024]⟩
abbrev S1024x3072 : Shape := ⟨2, ![1024, 3072]⟩
abbrev S16640x3072 : Shape := ⟨2, ![16640, 3072]⟩
abbrev S640x1024 : Shape := ⟨2, ![640, 1024]⟩
abbrev S640x3072 : Shape := ⟨2, ![640, 3072]⟩

abbrev nBuf : Space → Nat
  | .hbm => 4
  | .vmem => 5
  | .smem => 0
  | _ => 0

abbrev bufTy : (tb : Table) → Fin (tcTables nBuf tb) → BufTy
  | .hbm, ⟨0, _⟩ => ⟨S16640x1024, .bf16⟩
  | .hbm, ⟨1, _⟩ => ⟨S3072x1024, .bf16⟩
  | .hbm, ⟨2, _⟩ => ⟨S1024x3072, .bf16⟩
  | .hbm, ⟨3, _⟩ => ⟨S16640x3072, .bf16⟩
  | .local _ .vmem, ⟨0, _⟩ => ⟨S640x1024, .bf16⟩
  | .local _ .vmem, ⟨1, _⟩ => ⟨S640x1024, .bf16⟩
  | .local _ .vmem, ⟨2, _⟩ => ⟨S1024x3072, .bf16⟩
  | .local _ .vmem, ⟨3, _⟩ => ⟨S640x3072, .bf16⟩
  | .local _ .vmem, ⟨4, _⟩ => ⟨S640x3072, .bf16⟩
  | _, _ => ⟨S16640x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![26, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S640x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownInputRefIdeal.lean ====
abbrev S16640x1024 : Shape := ⟨2, ![16640, 1024]⟩
abbrev S3072x1024 : Shape := ⟨2, ![3072, 1024]⟩
abbrev S_ : Shape := ⟨0, ![]⟩
abbrev S16640x3072 : Shape := ⟨2, ![16640, 3072]⟩

abbrev nBuf : Space → Nat
  | .hbm => 9
  | .vmem => 0
  | .smem => 0
  | _ => 0

abbrev bufTy : (tb : Table) → Fin (tcTables nBuf tb) → BufTy
  | .hbm, ⟨0, _⟩ => ⟨S16640x1024, .bf16⟩
  | .hbm, ⟨1, _⟩ => ⟨S3072x1024, .bf16⟩
  | .hbm, ⟨2, _⟩ => ⟨S_, .f32⟩
  | .hbm, ⟨3, _⟩ => ⟨S16640x3072, .f32⟩
  | .hbm, ⟨4, _⟩ => ⟨S3072x1024, .f32⟩
  | .hbm, ⟨5, _⟩ => ⟨S16640x1024, .f32⟩
  | .hbm, ⟨6, _⟩ => ⟨S16640x1024, .f32⟩
  | .hbm, ⟨7, _⟩ => ⟨S16640x3072, .f32⟩
  | .hbm, ⟨8, _⟩ => ⟨S16640x3072, .bf16⟩
  | _, _ => ⟨S16640x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpInput.lean ====
abbrev S16640x3072 : Shape := ⟨2, ![16640, 3072]⟩
abbrev S1024x3072 : Shape := ⟨2, ![1024, 3072]⟩
abbrev S3072x1024 : Shape := ⟨2, ![3072, 1024]⟩
abbrev S16640x1024 : Shape := ⟨2, ![16640, 1024]⟩
abbrev S640x3072 : Shape := ⟨2, ![640, 3072]⟩
abbrev S640x1024 : Shape := ⟨2, ![640, 1024]⟩

abbrev nBuf : Space → Nat
  | .hbm => 4
  | .vmem => 5
  | .smem => 0
  | _ => 0

abbrev bufTy : (tb : Table) → Fin (tcTables nBuf tb) → BufTy
  | .hbm, ⟨0, _⟩ => ⟨S16640x3072, .bf16⟩
  | .hbm, ⟨1, _⟩ => ⟨S1024x3072, .bf16⟩
  | .hbm, ⟨2, _⟩ => ⟨S3072x1024, .bf16⟩
  | .hbm, ⟨3, _⟩ => ⟨S16640x1024, .f32⟩
  | .local _ .vmem, ⟨0, _⟩ => ⟨S640x3072, .bf16⟩
  | .local _ .vmem, ⟨1, _⟩ => ⟨S640x3072, .bf16⟩
  | .local _ .vmem, ⟨2, _⟩ => ⟨S3072x1024, .bf16⟩
  | .local _ .vmem, ⟨3, _⟩ => ⟨S640x1024, .f32⟩
  | .local _ .vmem, ⟨4, _⟩ => ⟨S640x1024, .f32⟩
  | _, _ => ⟨S16640x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![26, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpInputRefIdeal.lean ====
abbrev S16640x3072 : Shape := ⟨2, ![16640, 3072]⟩
abbrev S1024x3072 : Shape := ⟨2, ![1024, 3072]⟩
abbrev S_ : Shape := ⟨0, ![]⟩
abbrev S16640x1024 : Shape := ⟨2, ![16640, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16640x3072, .bf16⟩
  | .hbm, ⟨1, _⟩ => ⟨S1024x3072, .bf16⟩
  | .hbm, ⟨2, _⟩ => ⟨S_, .f32⟩
  | .hbm, ⟨3, _⟩ => ⟨S16640x1024, .f32⟩
  | .hbm, ⟨4, _⟩ => ⟨S1024x3072, .f32⟩
  | .hbm, ⟨5, _⟩ => ⟨S16640x3072, .f32⟩
  | .hbm, ⟨6, _⟩ => ⟨S16640x3072, .f32⟩
  | .hbm, ⟨7, _⟩ => ⟨S16640x1024, .f32⟩
  | _, _ => ⟨S16640x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpInputSum.lean ====
abbrev S16640x3072 : Shape := ⟨2, ![16640, 3072]⟩
abbrev S1024x3072 : Shape := ⟨2, ![1024, 3072]⟩
abbrev S16640x1024 : Shape := ⟨2, ![16640, 1024]⟩
abbrev S3072x1024 : Shape := ⟨2, ![3072, 1024]⟩
abbrev S640x3072 : Shape := ⟨2, ![640, 3072]⟩
abbrev S640x1024 : Shape := ⟨2, ![640, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16640x3072, .bf16⟩
  | .hbm, ⟨1, _⟩ => ⟨S1024x3072, .bf16⟩
  | .hbm, ⟨2, _⟩ => ⟨S16640x1024, .f32⟩
  | .hbm, ⟨3, _⟩ => ⟨S3072x1024, .bf16⟩
  | .hbm, ⟨4, _⟩ => ⟨S16640x1024, .bf16⟩
  | .local _ .vmem, ⟨0, _⟩ => ⟨S640x3072, .bf16⟩
  | .local _ .vmem, ⟨1, _⟩ => ⟨S640x3072, .bf16⟩
  | .local _ .vmem, ⟨2, _⟩ => ⟨S3072x1024, .bf16⟩
  | .local _ .vmem, ⟨3, _⟩ => ⟨S640x1024, .f32⟩
  | .local _ .vmem, ⟨4, _⟩ => ⟨S640x1024, .f32⟩
  | .local _ .vmem, ⟨5, _⟩ => ⟨S640x1024, .bf16⟩
  | .local _ .vmem, ⟨6, _⟩ => ⟨S640x1024, .bf16⟩
  | _, _ => ⟨S16640x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![26, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S640x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpInputSumRefIdeal.lean ====
abbrev S16640x3072 : Shape := ⟨2, ![16640, 3072]⟩
abbrev S1024x3072 : Shape := ⟨2, ![1024, 3072]⟩
abbrev S16640x1024 : Shape := ⟨2, ![16640, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S16640x3072, .bf16⟩
  | .hbm, ⟨1, _⟩ => ⟨S1024x3072, .bf16⟩
  | .hbm, ⟨2, _⟩ => ⟨S16640x1024, .f32⟩
  | .hbm, ⟨3, _⟩ => ⟨S_, .f32⟩
  | .hbm, ⟨4, _⟩ => ⟨S16640x1024, .f32⟩
  | .hbm, ⟨5, _⟩ => ⟨S1024x3072, .f32⟩
  | .hbm, ⟨6, _⟩ => ⟨S16640x3072, .f32⟩
  | .hbm, ⟨7, _⟩ => ⟨S16640x3072, .f32⟩
  | .hbm, ⟨8, _⟩ => ⟨S16640x1024, .f32⟩
  | .hbm, ⟨9, _⟩ => ⟨S16640x1024, .f32⟩
  | .hbm, ⟨10, _⟩ => ⟨S16640x1024, .bf16⟩
  | _, _ => ⟨S16640x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Up.lean ====
abbrev S16640x1024 : Shape := ⟨2, ![16640, 1024]⟩
abbrev S1024x3072 : Shape := ⟨2, ![1024, 3072]⟩
abbrev S16640x3072 : Shape := ⟨2, ![16640, 3072]⟩
abbrev S640x1024 : Shape := ⟨2, ![640, 1024]⟩
abbrev S640x3072 : Shape := ⟨2, ![640, 3072]⟩

abbrev nBuf : Space → Nat
  | .hbm => 3
  | .vmem => 5
  | .smem => 0
  | _ => 0

abbrev bufTy : (tb : Table) → Fin (tcTables nBuf tb) → BufTy
  | .hbm, ⟨0, _⟩ => ⟨S16640x1024, .bf16⟩
  | .hbm, ⟨1, _⟩ => ⟨S1024x3072, .bf16⟩
  | .hbm, ⟨2, _⟩ => ⟨S16640x3072, .bf16⟩
  | .local _ .vmem, ⟨0, _⟩ => ⟨S640x1024, .bf16⟩
  | .local _ .vmem, ⟨1, _⟩ => ⟨S640x1024, .bf16⟩
  | .local _ .vmem, ⟨2, _⟩ => ⟨S1024x3072, .bf16⟩
  | .local _ .vmem, ⟨3, _⟩ => ⟨S640x3072, .bf16⟩
  | .local _ .vmem, ⟨4, _⟩ => ⟨S640x3072, .bf16⟩
  | _, _ => ⟨S16640x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![26, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S640x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpRefIdeal.lean ====
abbrev S16640x1024 : Shape := ⟨2, ![16640, 1024]⟩
abbrev S1024x3072 : Shape := ⟨2, ![1024, 3072]⟩
abbrev S16640x3072 : Shape := ⟨2, ![16640, 3072]⟩

abbrev nBuf : Space → Nat
  | .hbm => 6
  | .vmem => 0
  | .smem => 0
  | _ => 0

abbrev bufTy : (tb : Table) → Fin (tcTables nBuf tb) → BufTy
  | .hbm, ⟨0, _⟩ => ⟨S16640x1024, .bf16⟩
  | .hbm, ⟨1, _⟩ => ⟨S1024x3072, .bf16⟩
  | .hbm, ⟨2, _⟩ => ⟨S16640x1024, .f32⟩
  | .hbm, ⟨3, _⟩ => ⟨S1024x3072, .f32⟩
  | .hbm, ⟨4, _⟩ => ⟨S16640x3072, .f32⟩
  | .hbm, ⟨5, _⟩ => ⟨S16640x3072, .bf16⟩
  | _, _ => ⟨S16640x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Down.lean ====
abbrev S16640x3072 : Shape := ⟨2, ![16640, 3072]⟩
abbrev S3072x1024 : Shape := ⟨2, ![3072, 1024]⟩
abbrev S16640x1024 : Shape := ⟨2, ![16640, 1024]⟩
abbrev S640x3072 : Shape := ⟨2, ![640, 3072]⟩
abbrev S640x1024 : Shape := ⟨2, ![640, 1024]⟩
abbrev S640x1 : Shape := ⟨2, ![640, 1]⟩

abbrev nBuf : Space → Nat
  | .hbm => 4
  | .vmem => 7
  | .smem => 0
  | _ => 0

abbrev bufTy : (tb : Table) → Fin (tcTables nBuf tb) → BufTy
  | .hbm, ⟨0, _⟩ => ⟨S16640x3072, .bf16⟩
  | .hbm, ⟨1, _⟩ => ⟨S3072x1024, .bf16⟩
  | .hbm, ⟨2, _⟩ => ⟨S16640x1024, .f32⟩
  | .hbm, ⟨3, _⟩ => ⟨S16640x1024, .f32⟩
  | .local _ .vmem, ⟨0, _⟩ => ⟨S640x3072, .bf16⟩
  | .local _ .vmem, ⟨1, _⟩ => ⟨S640x3072, .bf16⟩
  | .local _ .vmem, ⟨2, _⟩ => ⟨S3072x1024, .bf16⟩
  | .local _ .vmem, ⟨3, _⟩ => ⟨S640x1024, .f32⟩
  | .local _ .vmem, ⟨4, _⟩ => ⟨S640x1024, .f32⟩
  | .local _ .vmem, ⟨5, _⟩ => ⟨S640x1024, .f32⟩
  | .local _ .vmem, ⟨6, _⟩ => ⟨S640x1024, .f32⟩
  | _, _ => ⟨S16640x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![26, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownRefIdeal.lean ====
abbrev S16640x3072 : Shape := ⟨2, ![16640, 3072]⟩
abbrev S3072x1024 : Shape := ⟨2, ![3072, 1024]⟩
abbrev S16640x1024 : Shape := ⟨2, ![16640, 1024]⟩
abbrev S_ : Shape := ⟨0, ![]⟩
abbrev S240x1024 : Shape := ⟨2, ![240, 1024]⟩
abbrev S16400x1024 : Shape := ⟨2, ![16400, 1024]⟩

abbrev nBuf : Space → Nat
  | .hbm => 11
  | .vmem => 0
  | .smem => 0
  | _ => 0

abbrev bufTy : (tb : Table) → Fin (tcTables nBuf tb) → BufTy
  | .hbm, ⟨0, _⟩ => ⟨S16640x3072, .bf16⟩
  | .hbm, ⟨1, _⟩ => ⟨S3072x1024, .bf16⟩
  | .hbm, ⟨2, _⟩ => ⟨S16640x1024, .f32⟩
  | .hbm, ⟨3, _⟩ => ⟨S16640x3072, .f32⟩
  | .hbm, ⟨4, _⟩ => ⟨S3072x1024, .f32⟩
  | .hbm, ⟨5, _⟩ => ⟨S16640x1024, .f32⟩
  | .hbm, ⟨6, _⟩ => ⟨S16640x1024, .f32⟩
  | .hbm, ⟨7, _⟩ => ⟨S_, .f32⟩
  | .hbm, ⟨8, _⟩ => ⟨S240x1024, .f32⟩
  | .hbm, ⟨9, _⟩ => ⟨S16400x1024, .f32⟩
  | .hbm, ⟨10, _⟩ => ⟨S16640x1024, .f32⟩
  | _, _ => ⟨S16640x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== ProjInput.lean ====
abbrev S16640x2304 : Shape := ⟨2, ![16640, 2304]⟩
abbrev S1024x2304 : Shape := ⟨2, ![1024, 2304]⟩
abbrev S2304x1024 : Shape := ⟨2, ![2304, 1024]⟩
abbrev S16640x1024 : Shape := ⟨2, ![16640, 1024]⟩
abbrev S640x2304 : Shape := ⟨2, ![640, 2304]⟩
abbrev S640x1024 : Shape := ⟨2, ![640, 1024]⟩

abbrev nBuf : Space → Nat
  | .hbm => 4
  | .vmem => 5
  | .smem => 0
  | _ => 0

abbrev bufTy : (tb : Table) → Fin (tcTables nBuf tb) → BufTy
  | .hbm, ⟨0, _⟩ => ⟨S16640x2304, .bf16⟩
  | .hbm, ⟨1, _⟩ => ⟨S1024x2304, .bf16⟩
  | .hbm, ⟨2, _⟩ => ⟨S2304x1024, .bf16⟩
  | .hbm, ⟨3, _⟩ => ⟨S16640x1024, .f32⟩
  | .local _ .vmem, ⟨0, _⟩ => ⟨S640x2304, .bf16⟩
  | .local _ .vmem, ⟨1, _⟩ => ⟨S640x2304, .bf16⟩
  | .local _ .vmem, ⟨2, _⟩ => ⟨S2304x1024, .bf16⟩
  | .local _ .vmem, ⟨3, _⟩ => ⟨S640x1024, .f32⟩
  | .local _ .vmem, ⟨4, _⟩ => ⟨S640x1024, .f32⟩
  | _, _ => ⟨S16640x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![26, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2304x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjInputRefIdeal.lean ====
abbrev S16640x2304 : Shape := ⟨2, ![16640, 2304]⟩
abbrev S1024x2304 : Shape := ⟨2, ![1024, 2304]⟩
abbrev S_ : Shape := ⟨0, ![]⟩
abbrev S16640x1024 : Shape := ⟨2, ![16640, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16640x2304, .bf16⟩
  | .hbm, ⟨1, _⟩ => ⟨S1024x2304, .bf16⟩
  | .hbm, ⟨2, _⟩ => ⟨S_, .f32⟩
  | .hbm, ⟨3, _⟩ => ⟨S16640x1024, .f32⟩
  | .hbm, ⟨4, _⟩ => ⟨S1024x2304, .f32⟩
  | .hbm, ⟨5, _⟩ => ⟨S16640x2304, .f32⟩
  | .hbm, ⟨6, _⟩ => ⟨S16640x2304, .f32⟩
  | .hbm, ⟨7, _⟩ => ⟨S16640x1024, .f32⟩
  | _, _ => ⟨S16640x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ProjWeight.lean ====
abbrev S16640x1024 : Shape := ⟨2, ![16640, 1024]⟩
abbrev S16640x2304 : Shape := ⟨2, ![16640, 2304]⟩
abbrev S1024x2304 : Shape := ⟨2, ![1024, 2304]⟩
abbrev S3328x512 : Shape := ⟨2, ![3328, 512]⟩
abbrev S3328x768 : Shape := ⟨2, ![3328, 768]⟩
abbrev S512x768 : Shape := ⟨2, ![512, 768]⟩

abbrev nBuf : Space → Nat
  | .hbm => 3
  | .vmem => 6
  | .smem => 0
  | _ => 0

abbrev bufTy : (tb : Table) → Fin (tcTables nBuf tb) → BufTy
  | .hbm, ⟨0, _⟩ => ⟨S16640x1024, .bf16⟩
  | .hbm, ⟨1, _⟩ => ⟨S16640x2304, .bf16⟩
  | .hbm, ⟨2, _⟩ => ⟨S1024x2304, .f32⟩
  | .local _ .vmem, ⟨0, _⟩ => ⟨S3328x512, .bf16⟩
  | .local _ .vmem, ⟨1, _⟩ => ⟨S3328x512, .bf16⟩
  | .local _ .vmem, ⟨2, _⟩ => ⟨S3328x768, .bf16⟩
  | .local _ .vmem, ⟨3, _⟩ => ⟨S3328x768, .bf16⟩
  | .local _ .vmem, ⟨4, _⟩ => ⟨S512x768, .f32⟩
  | .local _ .vmem, ⟨5, _⟩ => ⟨S512x768, .f32⟩
  | _, _ => ⟨S16640x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 5], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S3328x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S3328x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjWeightRefIdeal.lean ====
abbrev S16640x1024 : Shape := ⟨2, ![16640, 1024]⟩
abbrev S16640x2304 : Shape := ⟨2, ![16640, 2304]⟩
abbrev S_ : Shape := ⟨0, ![]⟩
abbrev S1024x2304 : Shape := ⟨2, ![1024, 2304]⟩
abbrev S2304x1024 : Shape := ⟨2, ![2304, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16640x1024, .bf16⟩
  | .hbm, ⟨1, _⟩ => ⟨S16640x2304, .bf16⟩
  | .hbm, ⟨2, _⟩ => ⟨S_, .f32⟩
  | .hbm, ⟨3, _⟩ => ⟨S1024x2304, .f32⟩
  | .hbm, ⟨4, _⟩ => ⟨S16640x1024, .f32⟩
  | .hbm, ⟨5, _⟩ => ⟨S16640x2304, .f32⟩
  | .hbm, ⟨6, _⟩ => ⟨S16640x2304, .f32⟩
  | .hbm, ⟨7, _⟩ => ⟨S2304x1024, .f32⟩
  | .hbm, ⟨8, _⟩ => ⟨S1024x2304, .f32⟩
  | _, _ => ⟨S16640x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutInput.lean ====
abbrev S16640x1024 : Shape := ⟨2, ![16640, 1024]⟩
abbrev S1024x1024 : Shape := ⟨2, ![1024, 1024]⟩
abbrev S1280x1024 : Shape := ⟨2, ![1280, 1024]⟩

abbrev nBuf : Space → Nat
  | .hbm => 4
  | .vmem => 5
  | .smem => 0
  | _ => 0

abbrev bufTy : (tb : Table) → Fin (tcTables nBuf tb) → BufTy
  | .hbm, ⟨0, _⟩ => ⟨S16640x1024, .bf16⟩
  | .hbm, ⟨1, _⟩ => ⟨S1024x1024, .bf16⟩
  | .hbm, ⟨2, _⟩ => ⟨S1024x1024, .bf16⟩
  | .hbm, ⟨3, _⟩ => ⟨S16640x1024, .bf16⟩
  | .local _ .vmem, ⟨0, _⟩ => ⟨S1280x1024, .bf16⟩
  | .local _ .vmem, ⟨1, _⟩ => ⟨S1280x1024, .bf16⟩
  | .local _ .vmem, ⟨2, _⟩ => ⟨S1024x1024, .bf16⟩
  | .local _ .vmem, ⟨3, _⟩ => ⟨S1280x1024, .bf16⟩
  | .local _ .vmem, ⟨4, _⟩ => ⟨S1280x1024, .bf16⟩
  | _, _ => ⟨S16640x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![13, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1280x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutInputRefIdeal.lean ====
abbrev S16640x1024 : Shape := ⟨2, ![16640, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S16640x1024, .bf16⟩
  | .hbm, ⟨1, _⟩ => ⟨S1024x1024, .bf16⟩
  | .hbm, ⟨2, _⟩ => ⟨S_, .f32⟩
  | .hbm, ⟨3, _⟩ => ⟨S16640x1024, .f32⟩
  | .hbm, ⟨4, _⟩ => ⟨S1024x1024, .f32⟩
  | .hbm, ⟨5, _⟩ => ⟨S16640x1024, .f32⟩
  | .hbm, ⟨6, _⟩ => ⟨S16640x1024, .f32⟩
  | .hbm, ⟨7, _⟩ => ⟨S16640x1024, .f32⟩
  | .hbm, ⟨8, _⟩ => ⟨S16640x1024, .bf16⟩
  | _, _ => ⟨S16640x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutWeight.lean ====
abbrev S16640x1024 : Shape := ⟨2, ![16640, 1024]⟩
abbrev S1024x1024 : Shape := ⟨2, ![1024, 1024]⟩
abbrev S3328x512 : Shape := ⟨2, ![3328, 512]⟩
abbrev S3328x1024 : Shape := ⟨2, ![3328, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16640x1024, .bf16⟩
  | .hbm, ⟨1, _⟩ => ⟨S16640x1024, .bf16⟩
  | .hbm, ⟨2, _⟩ => ⟨S1024x1024, .f32⟩
  | .local _ .vmem, ⟨0, _⟩ => ⟨S3328x512, .bf16⟩
  | .local _ .vmem, ⟨1, _⟩ => ⟨S3328x512, .bf16⟩
  | .local _ .vmem, ⟨2, _⟩ => ⟨S3328x1024, .bf16⟩
  | .local _ .vmem, ⟨3, _⟩ => ⟨S3328x1024, .bf16⟩
  | .local _ .vmem, ⟨4, _⟩ => ⟨S512x1024, .f32⟩
  | .local _ .vmem, ⟨5, _⟩ => ⟨S512x1024, .f32⟩
  | _, _ => ⟨S16640x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 5], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S3328x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S3328x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutWeightRefIdeal.lean ====
abbrev S16640x1024 : Shape := ⟨2, ![16640, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16640x1024, .bf16⟩
  | .hbm, ⟨1, _⟩ => ⟨S16640x1024, .bf16⟩
  | .hbm, ⟨2, _⟩ => ⟨S_, .f32⟩
  | .hbm, ⟨3, _⟩ => ⟨S1024x1024, .f32⟩
  | .hbm, ⟨4, _⟩ => ⟨S16640x1024, .f32⟩
  | .hbm, ⟨5, _⟩ => ⟨S16640x1024, .f32⟩
  | .hbm, ⟨6, _⟩ => ⟨S16640x1024, .f32⟩
  | .hbm, ⟨7, _⟩ => ⟨S1024x1024, .f32⟩
  | .hbm, ⟨8, _⟩ => ⟨S1024x1024, .f32⟩
  | _, _ => ⟨S16640x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ProjConv.lean ====
abbrev S16640x1024 : Shape := ⟨2, ![16640, 1024]⟩
abbrev S1024x768 : Shape := ⟨2, ![1024, 768]⟩
abbrev S16640x768 : Shape := ⟨2, ![16640, 768]⟩
abbrev S1280x1024 : Shape := ⟨2, ![1280, 1024]⟩
abbrev S1280x768 : Shape := ⟨2, ![1280, 768]⟩

abbrev nBuf : Space → Nat
  | .hbm => 3
  | .vmem => 5
  | .smem => 0
  | _ => 0

abbrev bufTy : (tb : Table) → Fin (tcTables nBuf tb) → BufTy
  | .hbm, ⟨0, _⟩ => ⟨S16640x1024, .bf16⟩
  | .hbm, ⟨1, _⟩ => ⟨S1024x768, .bf16⟩
  | .hbm, ⟨2, _⟩ => ⟨S16640x768, .f32⟩
  | .local _ .vmem, ⟨0, _⟩ => ⟨S1280x1024, .bf16⟩
  | .local _ .vmem, ⟨1, _⟩ => ⟨S1280x1024, .bf16⟩
  | .local _ .vmem, ⟨2, _⟩ => ⟨S1024x768, .bf16⟩
  | .local _ .vmem, ⟨3, _⟩ => ⟨S1280x768, .f32⟩
  | .local _ .vmem, ⟨4, _⟩ => ⟨S1280x768, .f32⟩
  | _, _ => ⟨S16640x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![13, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1280x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjConvRefIdeal.lean ====
abbrev S16640x1024 : Shape := ⟨2, ![16640, 1024]⟩
abbrev S1024x768 : Shape := ⟨2, ![1024, 768]⟩
abbrev S16640x768 : Shape := ⟨2, ![16640, 768]⟩

abbrev nBuf : Space → Nat
  | .hbm => 5
  | .vmem => 0
  | .smem => 0
  | _ => 0

abbrev bufTy : (tb : Table) → Fin (tcTables nBuf tb) → BufTy
  | .hbm, ⟨0, _⟩ => ⟨S16640x1024, .bf16⟩
  | .hbm, ⟨1, _⟩ => ⟨S1024x768, .bf16⟩
  | .hbm, ⟨2, _⟩ => ⟨S16640x1024, .f32⟩
  | .hbm, ⟨3, _⟩ => ⟨S1024x768, .f32⟩
  | .hbm, ⟨4, _⟩ => ⟨S16640x768, .f32⟩
  | _, _ => ⟨S16640x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjQkv.lean ====
abbrev S16640x1024 : Shape := ⟨2, ![16640, 1024]⟩
abbrev S1024x1536 : Shape := ⟨2, ![1024, 1536]⟩
abbrev S_ : Shape := ⟨0, ![]⟩
abbrev S512 : Shape := ⟨1, ![512]⟩
abbrev S1024 : Shape := ⟨1, ![1024]⟩
abbrev S1536 : Shape := ⟨1, ![1536]⟩
abbrev S1x1536 : Shape := ⟨2, ![1, 1536]⟩
abbrev S16640x1536 : Shape := ⟨2, ![16640, 1536]⟩
abbrev S640x1024 : Shape := ⟨2, ![640, 1024]⟩
abbrev S640x1536 : Shape := ⟨2, ![640, 1536]⟩

abbrev nBuf : Space → Nat
  | .hbm => 9
  | .vmem => 6
  | .smem => 0
  | _ => 0

abbrev bufTy : (tb : Table) → Fin (tcTables nBuf tb) → BufTy
  | .hbm, ⟨0, _⟩ => ⟨S16640x1024, .bf16⟩
  | .hbm, ⟨1, _⟩ => ⟨S1024x1536, .bf16⟩
  | .hbm, ⟨2, _⟩ => ⟨S_, .f32⟩
  | .hbm, ⟨3, _⟩ => ⟨S512, .f32⟩
  | .hbm, ⟨4, _⟩ => ⟨S_, .f32⟩
  | .hbm, ⟨5, _⟩ => ⟨S1024, .f32⟩
  | .hbm, ⟨6, _⟩ => ⟨S1536, .f32⟩
  | .hbm, ⟨7, _⟩ => ⟨S1x1536, .f32⟩
  | .hbm, ⟨8, _⟩ => ⟨S16640x1536, .bf16⟩
  | .local _ .vmem, ⟨0, _⟩ => ⟨S640x1024, .bf16⟩
  | .local _ .vmem, ⟨1, _⟩ => ⟨S640x1024, .bf16⟩
  | .local _ .vmem, ⟨2, _⟩ => ⟨S1024x1536, .bf16⟩
  | .local _ .vmem, ⟨3, _⟩ => ⟨S1x1536, .f32⟩
  | .local _ .vmem, ⟨4, _⟩ => ⟨S640x1536, .bf16⟩
  | .local _ .vmem, ⟨5, _⟩ => ⟨S640x1536, .bf16⟩
  | _, _ => ⟨S16640x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![26, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S640x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjQkvRefIdeal.lean ====
abbrev S16640x1024 : Shape := ⟨2, ![16640, 1024]⟩
abbrev S1024x1536 : Shape := ⟨2, ![1024, 1536]⟩
abbrev S16640x1536 : Shape := ⟨2, ![16640, 1536]⟩
abbrev S16640x512 : Shape := ⟨2, ![16640, 512]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S16640x1024, .bf16⟩
  | .hbm, ⟨1, _⟩ => ⟨S1024x1536, .bf16⟩
  | .hbm, ⟨2, _⟩ => ⟨S16640x1024, .f32⟩
  | .hbm, ⟨3, _⟩ => ⟨S1024x1536, .f32⟩
  | .hbm, ⟨4, _⟩ => ⟨S16640x1536, .f32⟩
  | .hbm, ⟨5, _⟩ => ⟨S16640x512, .f32⟩
  | .hbm, ⟨6, _⟩ => ⟨S_, .f32⟩
  | .hbm, ⟨7, _⟩ => ⟨S16640x512, .f32⟩
  | .hbm, ⟨8, _⟩ => ⟨S16640x512, .f32⟩
  | .hbm, ⟨9, _⟩ => ⟨S16640x1024, .f32⟩
  | .hbm, ⟨10, _⟩ => ⟨S16640x1536, .f32⟩
  | .hbm, ⟨11, _⟩ => ⟨S16640x1536, .bf16⟩
  | _, _ => ⟨S16640x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Out.lean ====
abbrev S16640x1024 : Shape := ⟨2, ![16640, 1024]⟩
abbrev S1024x1024 : Shape := ⟨2, ![1024, 1024]⟩
abbrev S1280x1024 : Shape := ⟨2, ![1280, 1024]⟩
abbrev S1280x1 : Shape := ⟨2, ![1280, 1]⟩

abbrev nBuf : Space → Nat
  | .hbm => 4
  | .vmem => 7
  | .smem => 0
  | _ => 0

abbrev bufTy : (tb : Table) → Fin (tcTables nBuf tb) → BufTy
  | .hbm, ⟨0, _⟩ => ⟨S16640x1024, .bf16⟩
  | .hbm, ⟨1, _⟩ => ⟨S1024x1024, .bf16⟩
  | .hbm, ⟨2, _⟩ => ⟨S16640x1024, .f32⟩
  | .hbm, ⟨3, _⟩ => ⟨S16640x1024, .f32⟩
  | .local _ .vmem, ⟨0, _⟩ => ⟨S1280x1024, .bf16⟩
  | .local _ .vmem, ⟨1, _⟩ => ⟨S1280x1024, .bf16⟩
  | .local _ .vmem, ⟨2, _⟩ => ⟨S1024x1024, .bf16⟩
  | .local _ .vmem, ⟨3, _⟩ => ⟨S1280x1024, .f32⟩
  | .local _ .vmem, ⟨4, _⟩ => ⟨S1280x1024, .f32⟩
  | .local _ .vmem, ⟨5, _⟩ => ⟨S1280x1024, .f32⟩
  | .local _ .vmem, ⟨6, _⟩ => ⟨S1280x1024, .f32⟩
  | _, _ => ⟨S16640x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![13, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1280x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1280x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutRefIdeal.lean ====
abbrev S16640x1024 : Shape := ⟨2, ![16640, 1024]⟩
abbrev S1024x1024 : Shape := ⟨2, ![1024, 1024]⟩
abbrev S_ : Shape := ⟨0, ![]⟩
abbrev S240x1024 : Shape := ⟨2, ![240, 1024]⟩
abbrev S16400x1024 : Shape := ⟨2, ![16400, 1024]⟩

abbrev nBuf : Space → Nat
  | .hbm => 11
  | .vmem => 0
  | .smem => 0
  | _ => 0

abbrev bufTy : (tb : Table) → Fin (tcTables nBuf tb) → BufTy
  | .hbm, ⟨0, _⟩ => ⟨S16640x1024, .bf16⟩
  | .hbm, ⟨1, _⟩ => ⟨S1024x1024, .bf16⟩
  | .hbm, ⟨2, _⟩ => ⟨S16640x1024, .f32⟩
  | .hbm, ⟨3, _⟩ => ⟨S16640x1024, .f32⟩
  | .hbm, ⟨4, _⟩ => ⟨S1024x1024, .f32⟩
  | .hbm, ⟨5, _⟩ => ⟨S16640x1024, .f32⟩
  | .hbm, ⟨6, _⟩ => ⟨S16640x1024, .f32⟩
  | .hbm, ⟨7, _⟩ => ⟨S_, .f32⟩
  | .hbm, ⟨8, _⟩ => ⟨S240x1024, .f32⟩
  | .hbm, ⟨9, _⟩ => ⟨S16400x1024, .f32⟩
  | .hbm, ⟨10, _⟩ => ⟨S16640x1024, .f32⟩
  | _, _ => ⟨S16640x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== ConvOutInput.lean ====
abbrev S16640x1024 : Shape := ⟨2, ![16640, 1024]⟩
abbrev S256x1024 : Shape := ⟨2, ![256, 1024]⟩
abbrev S1024x256 : Shape := ⟨2, ![1024, 256]⟩
abbrev S16640x256 : Shape := ⟨2, ![16640, 256]⟩
abbrev S1280x1024 : Shape := ⟨2, ![1280, 1024]⟩
abbrev S1280x256 : Shape := ⟨2, ![1280, 256]⟩

abbrev nBuf : Space → Nat
  | .hbm => 4
  | .vmem => 5
  | .smem => 0
  | _ => 0

abbrev bufTy : (tb : Table) → Fin (tcTables nBuf tb) → BufTy
  | .hbm, ⟨0, _⟩ => ⟨S16640x1024, .bf16⟩
  | .hbm, ⟨1, _⟩ => ⟨S256x1024, .bf16⟩
  | .hbm, ⟨2, _⟩ => ⟨S1024x256, .bf16⟩
  | .hbm, ⟨3, _⟩ => ⟨S16640x256, .f32⟩
  | .local _ .vmem, ⟨0, _⟩ => ⟨S1280x1024, .bf16⟩
  | .local _ .vmem, ⟨1, _⟩ => ⟨S1280x1024, .bf16⟩
  | .local _ .vmem, ⟨2, _⟩ => ⟨S1024x256, .bf16⟩
  | .local _ .vmem, ⟨3, _⟩ => ⟨S1280x256, .f32⟩
  | .local _ .vmem, ⟨4, _⟩ => ⟨S1280x256, .f32⟩
  | _, _ => ⟨S16640x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![13, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1280x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ConvOutInputRefIdeal.lean ====
abbrev S16640x1024 : Shape := ⟨2, ![16640, 1024]⟩
abbrev S256x1024 : Shape := ⟨2, ![256, 1024]⟩
abbrev S_ : Shape := ⟨0, ![]⟩
abbrev S16640x256 : Shape := ⟨2, ![16640, 256]⟩

abbrev nBuf : Space → Nat
  | .hbm => 8
  | .vmem => 0
  | .smem => 0
  | _ => 0

abbrev bufTy : (tb : Table) → Fin (tcTables nBuf tb) → BufTy
  | .hbm, ⟨0, _⟩ => ⟨S16640x1024, .bf16⟩
  | .hbm, ⟨1, _⟩ => ⟨S256x1024, .bf16⟩
  | .hbm, ⟨2, _⟩ => ⟨S_, .f32⟩
  | .hbm, ⟨3, _⟩ => ⟨S16640x256, .f32⟩
  | .hbm, ⟨4, _⟩ => ⟨S256x1024, .f32⟩
  | .hbm, ⟨5, _⟩ => ⟨S16640x1024, .f32⟩
  | .hbm, ⟨6, _⟩ => ⟨S16640x1024, .f32⟩
  | .hbm, ⟨7, _⟩ => ⟨S16640x256, .f32⟩
  | _, _ => ⟨S16640x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AttnOutInput.lean ====
abbrev S16640x1024 : Shape := ⟨2, ![16640, 1024]⟩
abbrev S512x1024 : Shape := ⟨2, ![512, 1024]⟩
abbrev S1024x512 : Shape := ⟨2, ![1024, 512]⟩
abbrev S16640x512 : Shape := ⟨2, ![16640, 512]⟩
abbrev S1280x1024 : Shape := ⟨2, ![1280, 1024]⟩
abbrev S1280x512 : Shape := ⟨2, ![1280, 512]⟩

abbrev nBuf : Space → Nat
  | .hbm => 4
  | .vmem => 5
  | .smem => 0
  | _ => 0

abbrev bufTy : (tb : Table) → Fin (tcTables nBuf tb) → BufTy
  | .hbm, ⟨0, _⟩ => ⟨S16640x1024, .bf16⟩
  | .hbm, ⟨1, _⟩ => ⟨S512x1024, .bf16⟩
  | .hbm, ⟨2, _⟩ => ⟨S1024x512, .bf16⟩
  | .hbm, ⟨3, _⟩ => ⟨S16640x512, .bf16⟩
  | .local _ .vmem, ⟨0, _⟩ => ⟨S1280x1024, .bf16⟩
  | .local _ .vmem, ⟨1, _⟩ => ⟨S1280x1024, .bf16⟩
  | .local _ .vmem, ⟨2, _⟩ => ⟨S1024x512, .bf16⟩
  | .local _ .vmem, ⟨3, _⟩ => ⟨S1280x512, .bf16⟩
  | .local _ .vmem, ⟨4, _⟩ => ⟨S1280x512, .bf16⟩
  | _, _ => ⟨S16640x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![13, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1280x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AttnOutInputRefIdeal.lean ====
abbrev S16640x1024 : Shape := ⟨2, ![16640, 1024]⟩
abbrev S512x1024 : Shape := ⟨2, ![512, 1024]⟩
abbrev S_ : Shape := ⟨0, ![]⟩
abbrev S16640x512 : Shape := ⟨2, ![16640, 512]⟩

abbrev nBuf : Space → Nat
  | .hbm => 9
  | .vmem => 0
  | .smem => 0
  | _ => 0

abbrev bufTy : (tb : Table) → Fin (tcTables nBuf tb) → BufTy
  | .hbm, ⟨0, _⟩ => ⟨S16640x1024, .bf16⟩
  | .hbm, ⟨1, _⟩ => ⟨S512x1024, .bf16⟩
  | .hbm, ⟨2, _⟩ => ⟨S_, .f32⟩
  | .hbm, ⟨3, _⟩ => ⟨S16640x512, .f32⟩
  | .hbm, ⟨4, _⟩ => ⟨S512x1024, .f32⟩
  | .hbm, ⟨5, _⟩ => ⟨S16640x1024, .f32⟩
  | .hbm, ⟨6, _⟩ => ⟨S16640x1024, .f32⟩
  | .hbm, ⟨7, _⟩ => ⟨S16640x512, .f32⟩
  | .hbm, ⟨8, _⟩ => ⟨S16640x512, .bf16⟩
  | _, _ => ⟨S16640x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ConvOutWeight.lean ====
abbrev S16640x256 : Shape := ⟨2, ![16640, 256]⟩
abbrev S16640x1024 : Shape := ⟨2, ![16640, 1024]⟩
abbrev S256x1024 : Shape := ⟨2, ![256, 1024]⟩
abbrev S3328x256 : Shape := ⟨2, ![3328, 256]⟩
abbrev S3328x1024 : Shape := ⟨2, ![3328, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16640x256, .bf16⟩
  | .hbm, ⟨1, _⟩ => ⟨S16640x1024, .bf16⟩
  | .hbm, ⟨2, _⟩ => ⟨S256x1024, .f32⟩
  | .local _ .vmem, ⟨0, _⟩ => ⟨S3328x256, .bf16⟩
  | .local _ .vmem, ⟨1, _⟩ => ⟨S3328x256, .bf16⟩
  | .local _ .vmem, ⟨2, _⟩ => ⟨S3328x1024, .bf16⟩
  | .local _ .vmem, ⟨3, _⟩ => ⟨S3328x1024, .bf16⟩
  | .local _ .vmem, ⟨4, _⟩ => ⟨S256x1024, .f32⟩
  | _, _ => ⟨S16640x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 5], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S3328x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S3328x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ConvOutWeightRefIdeal.lean ====
abbrev S16640x256 : Shape := ⟨2, ![16640, 256]⟩
abbrev S16640x1024 : Shape := ⟨2, ![16640, 1024]⟩
abbrev S_ : Shape := ⟨0, ![]⟩
abbrev S256x1024 : Shape := ⟨2, ![256, 1024]⟩
abbrev S1024x256 : Shape := ⟨2, ![1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S16640x256, .bf16⟩
  | .hbm, ⟨1, _⟩ => ⟨S16640x1024, .bf16⟩
  | .hbm, ⟨2, _⟩ => ⟨S_, .f32⟩
  | .hbm, ⟨3, _⟩ => ⟨S256x1024, .f32⟩
  | .hbm, ⟨4, _⟩ => ⟨S16640x256, .f32⟩
  | .hbm, ⟨5, _⟩ => ⟨S16640x1024, .f32⟩
  | .hbm, ⟨6, _⟩ => ⟨S16640x1024, .f32⟩
  | .hbm, ⟨7, _⟩ => ⟨S1024x256, .f32⟩
  | .hbm, ⟨8, _⟩ => ⟨S256x1024, .f32⟩
  | _, _ => ⟨S16640x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AttnOutWeight.lean ====
abbrev S16640x512 : Shape := ⟨2, ![16640, 512]⟩
abbrev S16640x1024 : Shape := ⟨2, ![16640, 1024]⟩
abbrev S512x1024 : Shape := ⟨2, ![512, 1024]⟩
abbrev S3328x512 : Shape := ⟨2, ![3328, 512]⟩
abbrev S3328x1024 : Shape := ⟨2, ![3328, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16640x512, .bf16⟩
  | .hbm, ⟨1, _⟩ => ⟨S16640x1024, .bf16⟩
  | .hbm, ⟨2, _⟩ => ⟨S512x1024, .f32⟩
  | .local _ .vmem, ⟨0, _⟩ => ⟨S3328x512, .bf16⟩
  | .local _ .vmem, ⟨1, _⟩ => ⟨S3328x512, .bf16⟩
  | .local _ .vmem, ⟨2, _⟩ => ⟨S3328x1024, .bf16⟩
  | .local _ .vmem, ⟨3, _⟩ => ⟨S3328x1024, .bf16⟩
  | .local _ .vmem, ⟨4, _⟩ => ⟨S512x1024, .f32⟩
  | _, _ => ⟨S16640x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 5], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S3328x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S3328x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== AttnOutWeightRefIdeal.lean ====
abbrev S16640x512 : Shape := ⟨2, ![16640, 512]⟩
abbrev S16640x1024 : Shape := ⟨2, ![16640, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S16640x512, .bf16⟩
  | .hbm, ⟨1, _⟩ => ⟨S16640x1024, .bf16⟩
  | .hbm, ⟨2, _⟩ => ⟨S_, .f32⟩
  | .hbm, ⟨3, _⟩ => ⟨S512x1024, .f32⟩
  | .hbm, ⟨4, _⟩ => ⟨S16640x512, .f32⟩
  | .hbm, ⟨5, _⟩ => ⟨S16640x1024, .f32⟩
  | .hbm, ⟨6, _⟩ => ⟨S16640x1024, .f32⟩
  | .hbm, ⟨7, _⟩ => ⟨S1024x512, .f32⟩
  | .hbm, ⟨8, _⟩ => ⟨S512x1024, .f32⟩
  | _, _ => ⟨S16640x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== RmsFwd.lean ====
abbrev S16640x1024 : Shape := ⟨2, ![16640, 1024]⟩
abbrev S1024 : Shape := ⟨1, ![1024]⟩
abbrev S1x1024 : Shape := ⟨2, ![1, 1024]⟩
abbrev S640x1024 : Shape := ⟨2, ![640, 1024]⟩
abbrev S640 : Shape := ⟨1, ![640]⟩
abbrev S640x1 : Shape := ⟨2, ![640, 1]⟩

abbrev nBuf : Space → Nat
  | .hbm => 4
  | .vmem => 5
  | .smem => 0
  | _ => 0

abbrev bufTy : (tb : Table) → Fin (tcTables nBuf tb) → BufTy
  | .hbm, ⟨0, _⟩ => ⟨S16640x1024, .f32⟩
  | .hbm, ⟨1, _⟩ => ⟨S1024, .f32⟩
  | .hbm, ⟨2, _⟩ => ⟨S1x1024, .f32⟩
  | .hbm, ⟨3, _⟩ => ⟨S16640x1024, .bf16⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S640x1024, .bf16⟩
  | .local _ .vmem, ⟨4, _⟩ => ⟨S640x1024, .bf16⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdRefIdeal.lean ====
abbrev S16640x1024 : Shape := ⟨2, ![16640, 1024]⟩
abbrev S1024 : Shape := ⟨1, ![1024]⟩
abbrev S_ : Shape := ⟨0, ![]⟩
abbrev S16640 : Shape := ⟨1, ![16640]⟩
abbrev S16640x1 : Shape := ⟨2, ![16640, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S1024, .f32⟩
  | .hbm, ⟨2, _⟩ => ⟨S16640x1024, .f32⟩
  | .hbm, ⟨3, _⟩ => ⟨S_, .f32⟩
  | .hbm, ⟨4, _⟩ => ⟨S16640, .f32⟩
  | .hbm, ⟨5, _⟩ => ⟨S16640x1, .f32⟩
  | .hbm, ⟨6, _⟩ => ⟨S_, .f32⟩
  | .hbm, ⟨7, _⟩ => ⟨S16640x1, .f32⟩
  | .hbm, ⟨8, _⟩ => ⟨S16640x1, .f32⟩
  | .hbm, ⟨9, _⟩ => ⟨S_, .f32⟩
  | .hbm, ⟨10, _⟩ => ⟨S16640x1, .f32⟩
  | .hbm, ⟨11, _⟩ => ⟨S16640x1, .f32⟩
  | .hbm, ⟨12, _⟩ => ⟨S16640x1, .f32⟩
  | .hbm, ⟨13, _⟩ => ⟨S16640x1024, .f32⟩
  | .hbm, ⟨14, _⟩ => ⟨S16640x1024, .f32⟩
  | .hbm, ⟨15, _⟩ => ⟨S1x1024, .f32⟩
  | .hbm, ⟨16, _⟩ => ⟨S16640x1024, .f32⟩
  | .hbm, ⟨17, _⟩ => ⟨S16640x1024, .f32⟩
  | .hbm, ⟨18, _⟩ => ⟨S16640x1024, .bf16⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== RmsBwd.lean ====
abbrev S16640x1024 : Shape := ⟨2, ![16640, 1024]⟩
abbrev S1024 : Shape := ⟨1, ![1024]⟩
abbrev S1x1024 : Shape := ⟨2, ![1, 1024]⟩
abbrev S8x1024 : Shape := ⟨2, ![8, 1024]⟩
abbrev S640x1024 : Shape := ⟨2, ![640, 1024]⟩
abbrev S640 : Shape := ⟨1, ![640]⟩
abbrev S640x1 : Shape := ⟨2, ![640, 1]⟩

abbrev nBuf : Space → Nat
  | .hbm => 8
  | .vmem => 12
  | .smem => 0
  | _ => 0

abbrev bufTy : (tb : Table) → Fin (tcTables nBuf tb) → BufTy
  | .hbm, ⟨0, _⟩ => ⟨S16640x1024, .f32⟩
  | .hbm, ⟨1, _⟩ => ⟨S1024, .f32⟩
  | .hbm, ⟨2, _⟩ => ⟨S16640x1024, .bf16⟩
  | .hbm, ⟨3, _⟩ => ⟨S16640x1024, .f32⟩
  | .hbm, ⟨4, _⟩ => ⟨S1x1024, .f32⟩
  | .hbm, ⟨5, _⟩ => ⟨S16640x1024, .f32⟩
  | .hbm, ⟨6, _⟩ => ⟨S16640x1024, .bf16⟩
  | .hbm, ⟨7, _⟩ => ⟨S8x1024, .f32⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S640x1024, .bf16⟩
  | .local _ .vmem, ⟨4, _⟩ => ⟨S640x1024, .bf16⟩
  | .local _ .vmem, ⟨5, _⟩ => ⟨S640x1024, .f32⟩
  | .local _ .vmem, ⟨6, _⟩ => ⟨S640x1024, .f32⟩
  | .local _ .vmem, ⟨7, _⟩ => ⟨S640x1024, .f32⟩
  | .local _ .vmem, ⟨8, _⟩ => ⟨S640x1024, .f32⟩
  | .local _ .vmem, ⟨9, _⟩ => ⟨S640x1024, .bf16⟩
  | .local _ .vmem, ⟨10, _⟩ => ⟨S640x1024, .bf16⟩
  | .local _ .vmem, ⟨11, _⟩ => ⟨S8x1024, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S640x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RmsBwdRefIdeal.lean ====
abbrev S16640x1024 : Shape := ⟨2, ![16640, 1024]⟩
abbrev S1024 : Shape := ⟨1, ![1024]⟩
abbrev S_ : Shape := ⟨0, ![]⟩
abbrev S16640 : Shape := ⟨1, ![16640]⟩
abbrev S16640x1 : Shape := ⟨2, ![16640, 1]⟩
abbrev S1x1024 : Shape := ⟨2, ![1, 1024]⟩
abbrev S240x1024 : Shape := ⟨2, ![240, 1024]⟩
abbrev S16400x1024 : Shape := ⟨2, ![16400, 1024]⟩
abbrev S7x1024 : Shape := ⟨2, ![7, 1024]⟩
abbrev S8x1024 : Shape := ⟨2, ![8, 1024]⟩

abbrev nBuf : Space → Nat
  | .hbm => 60
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S1024, .f32⟩
  | .hbm, ⟨2, _⟩ => ⟨S16640x1024, .bf16⟩
  | .hbm, ⟨3, _⟩ => ⟨S16640x1024, .f32⟩
  | .hbm, ⟨4, _⟩ => ⟨S16640x1024, .f32⟩
  | .hbm, ⟨5, _⟩ => ⟨S_, .f32⟩
  | .hbm, ⟨6, _⟩ => ⟨S16640, .f32⟩
  | .hbm, ⟨7, _⟩ => ⟨S16640x1, .f32⟩
  | .hbm, ⟨8, _⟩ => ⟨S_, .f32⟩
  | .hbm, ⟨9, _⟩ => ⟨S16640x1, .f32⟩
  | .hbm, ⟨10, _⟩ => ⟨S16640x1, .f32⟩
  | .hbm, ⟨11, _⟩ => ⟨S_, .f32⟩
  | .hbm, ⟨12, _⟩ => ⟨S16640x1, .f32⟩
  | .hbm, ⟨13, _⟩ => ⟨S16640x1, .f32⟩
  | .hbm, ⟨14, _⟩ => ⟨S16640x1, .f32⟩
  | .hbm, ⟨15, _⟩ => ⟨S16640x1, .f32⟩
  | .hbm, ⟨16, _⟩ => ⟨S_, .f32⟩
  | .hbm, ⟨17, _⟩ => ⟨S16640x1, .f32⟩
  | .hbm, ⟨18, _⟩ => ⟨S16640x1, .f32⟩
  | .hbm, ⟨19, _⟩ => ⟨S16640x1024, .f32⟩
  | .hbm, ⟨20, _⟩ => ⟨S16640x1024, .f32⟩
  | .hbm, ⟨21, _⟩ => ⟨S1x1024, .f32⟩
  | .hbm, ⟨22, _⟩ => ⟨S16640x1024, .f32⟩
  | .hbm, ⟨23, _⟩ => ⟨S16640x1024, .f32⟩
  | .hbm, ⟨24, _⟩ => ⟨S16640x1024, .f32⟩
  | .hbm, ⟨25, _⟩ => ⟨S16640x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S16640x1024, .f32⟩
  | .hbm, ⟨30, _⟩ => ⟨S16640x1024, .f32⟩
  | .hbm, ⟨31, _⟩ => ⟨S_, .f32⟩
  | .hbm, ⟨32, _⟩ => ⟨S1024, .f32⟩
  | .hbm, ⟨33, _⟩ => ⟨S16640x1024, .f32⟩
  | .hbm, ⟨34, _⟩ => ⟨S_, .f32⟩
  | .hbm, ⟨35, _⟩ => ⟨S16640, .f32⟩
  | .hbm, ⟨36, _⟩ => ⟨S16640x1, .f32⟩
  | .hbm, ⟨37, _⟩ => ⟨S16640x1024, .f32⟩
  | .hbm, ⟨38, _⟩ => ⟨S16640x1024, .f32⟩
  | .hbm, ⟨39, _⟩ => ⟨S16640x1, .f32⟩
  | .hbm, ⟨40, _⟩ => ⟨S_, .f32⟩
  | .hbm, ⟨41, _⟩ => ⟨S16640x1, .f32⟩
  | .hbm, ⟨42, _⟩ => ⟨S16640x1, .f32⟩
  | .hbm, ⟨43, _⟩ => ⟨S_, .f32⟩
  | .hbm, ⟨44, _⟩ => ⟨S16640, .f32⟩
  | .hbm, ⟨45, _⟩ => ⟨S16640x1024, .f32⟩
  | .hbm, ⟨46, _⟩ => ⟨S16640x1024, .f32⟩
  | .hbm, ⟨47, _⟩ => ⟨S16640x1024, .f32⟩
  | .hbm, ⟨48, _⟩ => ⟨S16640x1024, .f32⟩
  | .hbm, ⟨49, _⟩ => ⟨S16640x1024, .f32⟩
  | .hbm, ⟨50, _⟩ => ⟨S_, .f32⟩
  | .hbm, ⟨51, _⟩ => ⟨S240x1024, .f32⟩
  | .hbm, ⟨52, _⟩ => ⟨S16640x1024, .f32⟩
  | .hbm, ⟨53, _⟩ => ⟨S16400x1024, .f32⟩
  | .hbm, ⟨54, _⟩ => ⟨S16640x1024, .f32⟩
  | .hbm, ⟨55, _⟩ => ⟨S16640x1024, .bf16⟩
  | .hbm, ⟨56, _⟩ => ⟨S1x1024, .f32⟩
  | .hbm, ⟨57, _⟩ => ⟨S_, .f32⟩
  | .hbm, ⟨58, _⟩ => ⟨S7x1024, .f32⟩
  | .hbm, ⟨59, _⟩ => ⟨S8x1024, .f32⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_8 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_9 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== LossHead.lean ====
abbrev S16640x1024 : Shape := ⟨2, ![16640, 1024]⟩
abbrev S1024 : Shape := ⟨1, ![1024]⟩
abbrev S16384x1024 : Shape := ⟨2, ![16384, 1024]⟩
abbrev S1x1024 : Shape := ⟨2, ![1, 1024]⟩
abbrev S8x128 : Shape := ⟨2, ![8, 128]⟩
abbrev S8x1024 : Shape := ⟨2, ![8, 1024]⟩
abbrev S256x1024 : Shape := ⟨2, ![256, 1024]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 8
  | .vmem => 11
  | .smem => 0
  | _ => 0

abbrev bufTy : (tb : Table) → Fin (tcTables nBuf tb) → BufTy
  | .hbm, ⟨0, _⟩ => ⟨S16640x1024, .f32⟩
  | .hbm, ⟨1, _⟩ => ⟨S1024, .f32⟩
  | .hbm, ⟨2, _⟩ => ⟨S16384x1024, .f32⟩
  | .hbm, ⟨3, _⟩ => ⟨S1x1024, .f32⟩
  | .hbm, ⟨4, _⟩ => ⟨S16640x1024, .f32⟩
  | .hbm, ⟨5, _⟩ => ⟨S16640x1024, .bf16⟩
  | .hbm, ⟨6, _⟩ => ⟨S8x128, .f32⟩
  | .hbm, ⟨7, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .bf16⟩
  | .local _ .vmem, ⟨8, _⟩ => ⟨S256x1024, .bf16⟩
  | .local _ .vmem, ⟨9, _⟩ => ⟨S8x128, .f32⟩
  | .local _ .vmem, ⟨10, _⟩ => ⟨S8x1024, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![65], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossHeadRefIdeal.lean ====
abbrev S16640x1024 : Shape := ⟨2, ![16640, 1024]⟩
abbrev S1024 : Shape := ⟨1, ![1024]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S256x1024 : Shape := ⟨2, ![256, 1024]⟩
abbrev S8x128 : Shape := ⟨2, ![8, 128]⟩
abbrev S7x1024 : Shape := ⟨2, ![7, 1024]⟩
abbrev S8x1024 : Shape := ⟨2, ![8, 1024]⟩

abbrev nBuf : Space → Nat
  | .hbm => 81
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384, .f32⟩
  | .hbm, ⟨31, _⟩ => ⟨S_, .f32⟩
  | .hbm, ⟨32, _⟩ => ⟨S16384, .f32⟩
  | .hbm, ⟨33, _⟩ => ⟨S16384, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S16384, .f32⟩
  | .hbm, ⟨42, _⟩ => ⟨S_, .f32⟩
  | .hbm, ⟨43, _⟩ => ⟨S16384, .f32⟩
  | .hbm, ⟨44, _⟩ => ⟨S16384, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S16384x1024, .f32⟩
  | .hbm, ⟨52, _⟩ => ⟨S16384x1024, .f32⟩
  | .hbm, ⟨53, _⟩ => ⟨S_, .f32⟩
  | .hbm, ⟨54, _⟩ => ⟨S1024, .f32⟩
  | .hbm, ⟨55, _⟩ => ⟨S16384x1024, .f32⟩
  | .hbm, ⟨56, _⟩ => ⟨S_, .f32⟩
  | .hbm, ⟨57, _⟩ => ⟨S16384, .f32⟩
  | .hbm, ⟨58, _⟩ => ⟨S16384x1, .f32⟩
  | .hbm, ⟨59, _⟩ => ⟨S16384x1024, .f32⟩
  | .hbm, ⟨60, _⟩ => ⟨S16384x1024, .f32⟩
  | .hbm, ⟨61, _⟩ => ⟨S16384x1, .f32⟩
  | .hbm, ⟨62, _⟩ => ⟨S_, .f32⟩
  | .hbm, ⟨63, _⟩ => ⟨S16384x1, .f32⟩
  | .hbm, ⟨64, _⟩ => ⟨S16384x1, .f32⟩
  | .hbm, ⟨65, _⟩ => ⟨S_, .f32⟩
  | .hbm, ⟨66, _⟩ => ⟨S16384, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S16384x1024, .f32⟩
  | .hbm, ⟨72, _⟩ => ⟨S_, .f32⟩
  | .hbm, ⟨73, _⟩ => ⟨S256x1024, .f32⟩
  | .hbm, ⟨74, _⟩ => ⟨S16640x1024, .f32⟩
  | .hbm, ⟨75, _⟩ => ⟨S16640x1024, .bf16⟩
  | .hbm, ⟨76, _⟩ => ⟨S8x128, .f32⟩
  | .hbm, ⟨77, _⟩ => ⟨S1x1024, .f32⟩
  | .hbm, ⟨78, _⟩ => ⟨S_, .f32⟩
  | .hbm, ⟨79, _⟩ => ⟨S7x1024, .f32⟩
  | .hbm, ⟨80, _⟩ => ⟨S8x1024, .f32⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_16 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_17 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== UpdateShard.lean ====
abbrev S8x16896x128 : Shape := ⟨3, ![8, 16896, 128]⟩
abbrev S16896x128 : Shape := ⟨2, ![16896, 128]⟩
abbrev S8x512x128 : Shape := ⟨3, ![8, 512, 128]⟩
abbrev S512x128 : Shape := ⟨2, ![512, 128]⟩
abbrev S1x512x128 : Shape := ⟨3, ![1, 512, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x16896x128, .bf16⟩
  | .hbm, ⟨1, _⟩ => ⟨S16896x128, .f32⟩
  | .hbm, ⟨2, _⟩ => ⟨S16896x128, .f32⟩
  | .hbm, ⟨3, _⟩ => ⟨S16896x128, .f32⟩
  | .hbm, ⟨4, _⟩ => ⟨S16896x128, .f32⟩
  | .hbm, ⟨5, _⟩ => ⟨S16896x128, .f32⟩
  | .hbm, ⟨6, _⟩ => ⟨S16896x128, .f32⟩
  | .hbm, ⟨7, _⟩ => ⟨S16896x128, .f32⟩
  | .local _ .vmem, ⟨0, _⟩ => ⟨S8x512x128, .bf16⟩
  | .local _ .vmem, ⟨1, _⟩ => ⟨S8x512x128, .bf16⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | _, _ => ⟨S8x16896x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![33], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpdateShardIdeal.lean ====
abbrev S8x16896x128 : Shape := ⟨3, ![8, 16896, 128]⟩
abbrev S16896x128 : Shape := ⟨2, ![16896, 128]⟩
abbrev S8x512x128 : Shape := ⟨3, ![8, 512, 128]⟩
abbrev S512x128 : Shape := ⟨2, ![512, 128]⟩
abbrev S1x512x128 : Shape := ⟨3, ![1, 512, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x16896x128, .bf16⟩
  | .hbm, ⟨1, _⟩ => ⟨S16896x128, .f32⟩
  | .hbm, ⟨2, _⟩ => ⟨S16896x128, .f32⟩
  | .hbm, ⟨3, _⟩ => ⟨S16896x128, .f32⟩
  | .hbm, ⟨4, _⟩ => ⟨S16896x128, .f32⟩
  | .hbm, ⟨5, _⟩ => ⟨S16896x128, .f32⟩
  | .hbm, ⟨6, _⟩ => ⟨S16896x128, .f32⟩
  | .hbm, ⟨7, _⟩ => ⟨S16896x128, .f32⟩
  | .local _ .vmem, ⟨0, _⟩ => ⟨S8x512x128, .bf16⟩
  | .local _ .vmem, ⟨1, _⟩ => ⟨S8x512x128, .bf16⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | _, _ => ⟨S8x16896x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![33], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpdateShardRefIdeal.lean ====
abbrev S8x16896x128 : Shape := ⟨3, ![8, 16896, 128]⟩
abbrev S16896x128 : Shape := ⟨2, ![16896, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x16896x128, .bf16⟩
  | .hbm, ⟨1, _⟩ => ⟨S16896x128, .f32⟩
  | .hbm, ⟨2, _⟩ => ⟨S16896x128, .f32⟩
  | .hbm, ⟨3, _⟩ => ⟨S16896x128, .f32⟩
  | .hbm, ⟨4, _⟩ => ⟨S8x16896x128, .f32⟩
  | .hbm, ⟨5, _⟩ => ⟨S_, .f32⟩
  | .hbm, ⟨6, _⟩ => ⟨S16896x128, .f32⟩
  | .hbm, ⟨7, _⟩ => ⟨S_, .f32⟩
  | .hbm, ⟨8, _⟩ => ⟨S16896x128, .f32⟩
  | .hbm, ⟨9, _⟩ => ⟨S16896x128, .f32⟩
  | .hbm, ⟨10, _⟩ => ⟨S_, .f32⟩
  | .hbm, ⟨11, _⟩ => ⟨S16896x128, .f32⟩
  | .hbm, ⟨12, _⟩ => ⟨S16896x128, .f32⟩
  | .hbm, ⟨13, _⟩ => ⟨S16896x128, .f32⟩
  | .hbm, ⟨14, _⟩ => ⟨S_, .f32⟩
  | .hbm, ⟨15, _⟩ => ⟨S16896x128, .f32⟩
  | .hbm, ⟨16, _⟩ => ⟨S16896x128, .f32⟩
  | .hbm, ⟨17, _⟩ => ⟨S16896x128, .f32⟩
  | .hbm, ⟨18, _⟩ => ⟨S_, .f32⟩
  | .hbm, ⟨19, _⟩ => ⟨S16896x128, .f32⟩
  | .hbm, ⟨20, _⟩ => ⟨S16896x128, .f32⟩
  | .hbm, ⟨21, _⟩ => ⟨S16896x128, .f32⟩
  | .hbm, ⟨22, _⟩ => ⟨S_, .f32⟩
  | .hbm, ⟨23, _⟩ => ⟨S16896x128, .f32⟩
  | .hbm, ⟨24, _⟩ => ⟨S16896x128, .f32⟩
  | .hbm, ⟨25, _⟩ => ⟨S_, .f32⟩
  | .hbm, ⟨26, _⟩ => ⟨S16896x128, .f32⟩
  | .hbm, ⟨27, _⟩ => ⟨S16896x128, .f32⟩
  | .hbm, ⟨28, _⟩ => ⟨S16896x128, .f32⟩
  | .hbm, ⟨29, _⟩ => ⟨S_, .f32⟩
  | .hbm, ⟨30, _⟩ => ⟨S16896x128, .f32⟩
  | .hbm, ⟨31, _⟩ => ⟨S16896x128, .f32⟩
  | .hbm, ⟨32, _⟩ => ⟨S16896x128, .f32⟩
  | .hbm, ⟨33, _⟩ => ⟨S_, .f32⟩
  | .hbm, ⟨34, _⟩ => ⟨S16896x128, .f32⟩
  | .hbm, ⟨35, _⟩ => ⟨S16896x128, .f32⟩
  | .hbm, ⟨36, _⟩ => ⟨S16896x128, .f32⟩
  | .hbm, ⟨37, _⟩ => ⟨S_, .f32⟩
  | .hbm, ⟨38, _⟩ => ⟨S16896x128, .f32⟩
  | .hbm, ⟨39, _⟩ => ⟨S16896x128, .f32⟩
  | _, _ => ⟨S8x16896x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== UpdateWhole.lean ====
abbrev S8x512x128 : Shape := ⟨3, ![8, 512, 128]⟩
abbrev S512x128 : Shape := ⟨2, ![512, 128]⟩
abbrev S1x512x128 : Shape := ⟨3, ![1, 512, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .local _ .vmem, ⟨0, _⟩ => ⟨S8x512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | _, _ => ⟨S8x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== UpdateWholeIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== UpdateWholeRefIdeal.lean ====
abbrev S8x512x128 : Shape := ⟨3, ![8, 512, 128]⟩
abbrev S512x128 : Shape := ⟨2, ![512, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S_, .f32⟩
  | .hbm, ⟨5, _⟩ => ⟨S512x128, .f32⟩
  | .hbm, ⟨6, _⟩ => ⟨S_, .f32⟩
  | .hbm, ⟨7, _⟩ => ⟨S512x128, .f32⟩
  | .hbm, ⟨8, _⟩ => ⟨S512x128, .f32⟩
  | .hbm, ⟨9, _⟩ => ⟨S_, .f32⟩
  | .hbm, ⟨10, _⟩ => ⟨S512x128, .f32⟩
  | .hbm, ⟨11, _⟩ => ⟨S512x128, .f32⟩
  | .hbm, ⟨12, _⟩ => ⟨S512x128, .f32⟩
  | .hbm, ⟨13, _⟩ => ⟨S_, .f32⟩
  | .hbm, ⟨14, _⟩ => ⟨S512x128, .f32⟩
  | .hbm, ⟨15, _⟩ => ⟨S512x128, .f32⟩
  | .hbm, ⟨16, _⟩ => ⟨S512x128, .f32⟩
  | .hbm, ⟨17, _⟩ => ⟨S_, .f32⟩
  | .hbm, ⟨18, _⟩ => ⟨S512x128, .f32⟩
  | .hbm, ⟨19, _⟩ => ⟨S512x128, .f32⟩
  | .hbm, ⟨20, _⟩ => ⟨S512x128, .f32⟩
  | .hbm, ⟨21, _⟩ => ⟨S_, .f32⟩
  | .hbm, ⟨22, _⟩ => ⟨S512x128, .f32⟩
  | .hbm, ⟨23, _⟩ => ⟨S512x128, .f32⟩
  | .hbm, ⟨24, _⟩ => ⟨S_, .f32⟩
  | .hbm, ⟨25, _⟩ => ⟨S512x128, .f32⟩
  | .hbm, ⟨26, _⟩ => ⟨S512x128, .f32⟩
  | .hbm, ⟨27, _⟩ => ⟨S512x128, .f32⟩
  | .hbm, ⟨28, _⟩ => ⟨S_, .f32⟩
  | .hbm, ⟨29, _⟩ => ⟨S512x128, .f32⟩
  | .hbm, ⟨30, _⟩ => ⟨S512x128, .f32⟩
  | .hbm, ⟨31, _⟩ => ⟨S512x128, .f32⟩
  | .hbm, ⟨32, _⟩ => ⟨S_, .f32⟩
  | .hbm, ⟨33, _⟩ => ⟨S512x128, .f32⟩
  | .hbm, ⟨34, _⟩ => ⟨S512x128, .f32⟩
  | .hbm, ⟨35, _⟩ => ⟨S512x128, .f32⟩
  | .hbm, ⟨36, _⟩ => ⟨S_, .f32⟩
  | .hbm, ⟨37, _⟩ => ⟨S512x128, .f32⟩
  | .hbm, ⟨38, _⟩ => ⟨S512x128, .f32⟩
  | _, _ => ⟨S8x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Merge.lean ====
abbrev S16640x256 : Shape := ⟨2, ![16640, 256]⟩
abbrev S16640x512 : Shape := ⟨2, ![16640, 512]⟩
abbrev S16640x3072 : Shape := ⟨2, ![16640, 3072]⟩
abbrev S256x1024 : Shape := ⟨2, ![256, 1024]⟩
abbrev S4x64x256 : Shape := ⟨3, ![4, 64, 256]⟩
abbrev S512x1024 : Shape := ⟨2, ![512, 1024]⟩
abbrev S1024 : Shape := ⟨1, ![1024]⟩
abbrev S16640x1024 : Shape := ⟨2, ![16640, 1024]⟩
abbrev S_ : Shape := ⟨0, ![]⟩
abbrev S1x64x256 : Shape := ⟨3, ![1, 64, 256]⟩
abbrev S64x256 : Shape := ⟨2, ![64, 256]⟩
abbrev S1 : Shape := ⟨1, ![1]⟩
abbrev S2 : Shape := ⟨1, ![2]⟩
abbrev S1x1024 : Shape := ⟨2, ![1, 1024]⟩
abbrev S8x1024 : Shape := ⟨2, ![8, 1024]⟩
abbrev S256x256 : Shape := ⟨2, ![256, 256]⟩
abbrev S256x512 : Shape := ⟨2, ![256, 512]⟩
abbrev S256x3072 : Shape := ⟨2, ![256, 3072]⟩

abbrev nBuf : Space → Nat
  | .hbm => 51
  | .vmem => 24
  | .smem => 0
  | _ => 0

abbrev bufTy : (tb : Table) → Fin (tcTables nBuf tb) → BufTy
  | .hbm, ⟨0, _⟩ => ⟨S16640x256, .bf16⟩
  | .hbm, ⟨1, _⟩ => ⟨S16640x256, .bf16⟩
  | .hbm, ⟨2, _⟩ => ⟨S16640x512, .bf16⟩
  | .hbm, ⟨3, _⟩ => ⟨S16640x3072, .bf16⟩
  | .hbm, ⟨4, _⟩ => ⟨S256x1024, .bf16⟩
  | .hbm, ⟨5, _⟩ => ⟨S4x64x256, .bf16⟩
  | .hbm, ⟨6, _⟩ => ⟨S512x1024, .bf16⟩
  | .hbm, ⟨7, _⟩ => ⟨S1024, .f32⟩
  | .hbm, ⟨8, _⟩ => ⟨S1024, .f32⟩
  | .hbm, ⟨9, _⟩ => ⟨S16640x1024, .bf16⟩
  | .hbm, ⟨10, _⟩ => ⟨S_, .bf16⟩
  | .hbm, ⟨11, _⟩ => ⟨S256x1024, .bf16⟩
  | .hbm, ⟨12, _⟩ => ⟨S1x64x256, .bf16⟩
  | .hbm, ⟨13, _⟩ => ⟨S64x256, .bf16⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S2, .i32⟩
  | .hbm, ⟨19, _⟩ => ⟨S256x1024, .bf16⟩
  | .hbm, ⟨20, _⟩ => ⟨S1x64x256, .bf16⟩
  | .hbm, ⟨21, _⟩ => ⟨S64x256, .bf16⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S2, .i32⟩
  | .hbm, ⟨27, _⟩ => ⟨S256x1024, .bf16⟩
  | .hbm, ⟨28, _⟩ => ⟨S1x64x256, .bf16⟩
  | .hbm, ⟨29, _⟩ => ⟨S64x256, .bf16⟩
  | .hbm, ⟨30, _⟩ => ⟨S_, .i32⟩
  | .hbm, ⟨31, _⟩ => ⟨S1, .i32⟩
  | .hbm, ⟨32, _⟩ => ⟨S_, .i32⟩
  | .hbm, ⟨33, _⟩ => ⟨S1, .i32⟩
  | .hbm, ⟨34, _⟩ => ⟨S2, .i32⟩
  | .hbm, ⟨35, _⟩ => ⟨S256x1024, .bf16⟩
  | .hbm, ⟨36, _⟩ => ⟨S1x64x256, .bf16⟩
  | .hbm, ⟨37, _⟩ => ⟨S64x256, .bf16⟩
  | .hbm, ⟨38, _⟩ => ⟨S_, .i32⟩
  | .hbm, ⟨39, _⟩ => ⟨S1, .i32⟩
  | .hbm, ⟨40, _⟩ => ⟨S_, .i32⟩
  | .hbm, ⟨41, _⟩ => ⟨S1, .i32⟩
  | .hbm, ⟨42, _⟩ => ⟨S2, .i32⟩
  | .hbm, ⟨43, _⟩ => ⟨S256x1024, .bf16⟩
  | .hbm, ⟨44, _⟩ => ⟨S1x1024, .f32⟩
  | .hbm, ⟨45, _⟩ => ⟨S1x1024, .f32⟩
  | .hbm, ⟨46, _⟩ => ⟨S16640x3072, .bf16⟩
  | .hbm, ⟨47, _⟩ => ⟨S16640x1024, .bf16⟩
  | .hbm, ⟨48, _⟩ => ⟨S16640x1024, .bf16⟩
  | .hbm, ⟨49, _⟩ => ⟨S16640x1024, .bf16⟩
  | .hbm, ⟨50, _⟩ => ⟨S8x1024, .f32⟩
  | .local _ .vmem, ⟨0, _⟩ => ⟨S256x256, .bf16⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | .local _ .vmem, ⟨4, _⟩ => ⟨S256x512, .bf16⟩
  | .local _ .vmem, ⟨5, _⟩ => ⟨S256x512, .bf16⟩
  | .local _ .vmem, ⟨6, _⟩ => ⟨S256x3072, .bf16⟩
  | .local _ .vmem, ⟨7, _⟩ => ⟨S256x3072, .bf16⟩
  | .local _ .vmem, ⟨8, _⟩ => ⟨S256x1024, .bf16⟩
  | .local _ .vmem, ⟨9, _⟩ => ⟨S256x1024, .bf16⟩
  | .local _ .vmem, ⟨10, _⟩ => ⟨S512x1024, .bf16⟩
  | .local _ .vmem, ⟨11, _⟩ => ⟨S1x1024, .f32⟩
  | .local _ .vmem, ⟨12, _⟩ => ⟨S1x1024, .f32⟩
  | .local _ .vmem, ⟨13, _⟩ => ⟨S256x1024, .bf16⟩
  | .local _ .vmem, ⟨14, _⟩ => ⟨S256x1024, .bf16⟩
  | .local _ .vmem, ⟨15, _⟩ => ⟨S256x3072, .bf16⟩
  | .local _ .vmem, ⟨16, _⟩ => ⟨S256x3072, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S8x1024, .f32⟩
  | _, _ => ⟨S16640x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_1 : Ref sig .tc := ⟨.hbm, 22, rfl⟩
abbrev main_v9 : Ref sig .tc := ⟨.hbm, 23, rfl⟩
abbrev main_c_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_c_6 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27_0 : Ref sig .tc := ⟨.hbm, 46, rfl⟩
abbrev main_v27_1 : Ref sig .tc := ⟨.hbm, 47, rfl⟩
abbrev main_v27_2 : Ref sig .tc := ⟨.hbm, 48, rfl⟩
abbrev main_v27_3 : Ref sig .tc := ⟨.hbm, 49, rfl⟩
abbrev main_v27_4 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== MergeRefIdeal.lean ====
abbrev S16640x256 : Shape := ⟨2, ![16640, 256]⟩
abbrev S16640x512 : Shape := ⟨2, ![16640, 512]⟩
abbrev S16640x3072 : Shape := ⟨2, ![16640, 3072]⟩
abbrev S256x1024 : Shape := ⟨2, ![256, 1024]⟩
abbrev S4x64x256 : Shape := ⟨3, ![4, 64, 256]⟩
abbrev S512x1024 : Shape := ⟨2, ![512, 1024]⟩
abbrev S1024 : Shape := ⟨1, ![1024]⟩
abbrev S16640x1024 : Shape := ⟨2, ![16640, 1024]⟩
abbrev S16640x4x64 : Shape := ⟨3, ![16640, 4, 64]⟩
abbrev S4x256x16640 : Shape := ⟨3, ![4, 256, 16640]⟩
abbrev S16640x4x256 : Shape := ⟨3, ![16640, 4, 256]⟩
abbrev S1x1024 : Shape := ⟨2, ![1, 1024]⟩
abbrev S_ : Shape := ⟨0, ![]⟩
abbrev S16640x3x1024 : Shape := ⟨3, ![16640, 3, 1024]⟩
abbrev S16640x1x1024 : Shape := ⟨3, ![16640, 1, 1024]⟩
abbrev S6x1024 : Shape := ⟨2, ![6, 1024]⟩
abbrev S8x1024 : Shape := ⟨2, ![8, 1024]⟩

abbrev nBuf : Space → Nat
  | .hbm => 95
  | .vmem => 0
  | .smem => 0
  | _ => 0

abbrev bufTy : (tb : Table) → Fin (tcTables nBuf tb) → BufTy
  | .hbm, ⟨0, _⟩ => ⟨S16640x256, .bf16⟩
  | .hbm, ⟨1, _⟩ => ⟨S16640x256, .bf16⟩
  | .hbm, ⟨2, _⟩ => ⟨S16640x512, .bf16⟩
  | .hbm, ⟨3, _⟩ => ⟨S16640x3072, .bf16⟩
  | .hbm, ⟨4, _⟩ => ⟨S256x1024, .bf16⟩
  | .hbm, ⟨5, _⟩ => ⟨S4x64x256, .bf16⟩
  | .hbm, ⟨6, _⟩ => ⟨S512x1024, .bf16⟩
  | .hbm, ⟨7, _⟩ => ⟨S1024, .f32⟩
  | .hbm, ⟨8, _⟩ => ⟨S1024, .f32⟩
  | .hbm, ⟨9, _⟩ => ⟨S16640x1024, .bf16⟩
  | .hbm, ⟨10, _⟩ => ⟨S16640x256, .f32⟩
  | .hbm, ⟨11, _⟩ => ⟨S256x1024, .f32⟩
  | .hbm, ⟨12, _⟩ => ⟨S16640x1024, .f32⟩
  | .hbm, ⟨13, _⟩ => ⟨S16640x256, .f32⟩
  | .hbm, ⟨14, _⟩ => ⟨S16640x4x64, .f32⟩
  | .hbm, ⟨15, _⟩ => ⟨S4x64x256, .f32⟩
  | .hbm, ⟨16, _⟩ => ⟨S4x256x16640, .f32⟩
  | .hbm, ⟨17, _⟩ => ⟨S16640x4x256, .f32⟩
  | .hbm, ⟨18, _⟩ => ⟨S16640x1024, .f32⟩
  | .hbm, ⟨19, _⟩ => ⟨S16640x512, .f32⟩
  | .hbm, ⟨20, _⟩ => ⟨S512x1024, .f32⟩
  | .hbm, ⟨21, _⟩ => ⟨S16640x1024, .f32⟩
  | .hbm, ⟨22, _⟩ => ⟨S16640x3072, .f32⟩
  | .hbm, ⟨23, _⟩ => ⟨S1x1024, .f32⟩
  | .hbm, ⟨24, _⟩ => ⟨S16640x1024, .f32⟩
  | .hbm, ⟨25, _⟩ => ⟨S16640x1024, .f32⟩
  | .hbm, ⟨26, _⟩ => ⟨S1x1024, .f32⟩
  | .hbm, ⟨27, _⟩ => ⟨S16640x1024, .f32⟩
  | .hbm, ⟨28, _⟩ => ⟨S16640x1024, .f32⟩
  | .hbm, ⟨29, _⟩ => ⟨S16640x3072, .f32⟩
  | .hbm, ⟨30, _⟩ => ⟨S16640x3072, .f32⟩
  | .hbm, ⟨31, _⟩ => ⟨S_, .f32⟩
  | .hbm, ⟨32, _⟩ => ⟨S16640x3072, .f32⟩
  | .hbm, ⟨33, _⟩ => ⟨S16640x3072, .f32⟩
  | .hbm, ⟨34, _⟩ => ⟨S_, .f32⟩
  | .hbm, ⟨35, _⟩ => ⟨S16640x3072, .f32⟩
  | .hbm, ⟨36, _⟩ => ⟨S16640x3072, .f32⟩
  | .hbm, ⟨37, _⟩ => ⟨S_, .f32⟩
  | .hbm, ⟨38, _⟩ => ⟨S16640x3072, .f32⟩
  | .hbm, ⟨39, _⟩ => ⟨S16640x3072, .f32⟩
  | .hbm, ⟨40, _⟩ => ⟨S16640x3072, .f32⟩
  | .hbm, ⟨41, _⟩ => ⟨S16640x3x1024, .f32⟩
  | .hbm, ⟨42, _⟩ => ⟨S16640x1x1024, .f32⟩
  | .hbm, ⟨43, _⟩ => ⟨S16640x1024, .f32⟩
  | .hbm, ⟨44, _⟩ => ⟨S16640x1024, .f32⟩
  | .hbm, ⟨45, _⟩ => ⟨S16640x1x1024, .f32⟩
  | .hbm, ⟨46, _⟩ => ⟨S16640x1024, .f32⟩
  | .hbm, ⟨47, _⟩ => ⟨S16640x1024, .f32⟩
  | .hbm, ⟨48, _⟩ => ⟨S16640x1024, .f32⟩
  | .hbm, ⟨49, _⟩ => ⟨S16640x1x1024, .f32⟩
  | .hbm, ⟨50, _⟩ => ⟨S16640x1024, .f32⟩
  | .hbm, ⟨51, _⟩ => ⟨S16640x1024, .f32⟩
  | .hbm, ⟨52, _⟩ => ⟨S16640x1024, .f32⟩
  | .hbm, ⟨53, _⟩ => ⟨S16640x1024, .f32⟩
  | .hbm, ⟨54, _⟩ => ⟨S16640x1024, .f32⟩
  | .hbm, ⟨55, _⟩ => ⟨S16640x1024, .f32⟩
  | .hbm, ⟨56, _⟩ => ⟨S16640x1x1024, .f32⟩
  | .hbm, ⟨57, _⟩ => ⟨S_, .f32⟩
  | .hbm, ⟨58, _⟩ => ⟨S16640x3x1024, .f32⟩
  | .hbm, ⟨59, _⟩ => ⟨S16640x1024, .f32⟩
  | .hbm, ⟨60, _⟩ => ⟨S16640x1024, .f32⟩
  | .hbm, ⟨61, _⟩ => ⟨S16640x1x1024, .f32⟩
  | .hbm, ⟨62, _⟩ => ⟨S_, .f32⟩
  | .hbm, ⟨63, _⟩ => ⟨S16640x3x1024, .f32⟩
  | .hbm, ⟨64, _⟩ => ⟨S16640x3x1024, .f32⟩
  | .hbm, ⟨65, _⟩ => ⟨S16640x1024, .f32⟩
  | .hbm, ⟨66, _⟩ => ⟨S16640x1024, .f32⟩
  | .hbm, ⟨67, _⟩ => ⟨S16640x1x1024, .f32⟩
  | .hbm, ⟨68, _⟩ => ⟨S_, .f32⟩
  | .hbm, ⟨69, _⟩ => ⟨S16640x3x1024, .f32⟩
  | .hbm, ⟨70, _⟩ => ⟨S16640x3x1024, .f32⟩
  | .hbm, ⟨71, _⟩ => ⟨S16640x3072, .f32⟩
  | .hbm, ⟨72, _⟩ => ⟨S16640x3072, .f32⟩
  | .hbm, ⟨73, _⟩ => ⟨S16640x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S16640x1024, .f32⟩
  | .hbm, ⟨78, _⟩ => ⟨S16640x1024, .f32⟩
  | .hbm, ⟨79, _⟩ => ⟨S_, .f32⟩
  | .hbm, ⟨80, _⟩ => ⟨S1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S_, .f32⟩
  | .hbm, ⟨85, _⟩ => ⟨S1024, .f32⟩
  | .hbm, ⟨86, _⟩ => ⟨S1x1024, .f32⟩
  | .hbm, ⟨87, _⟩ => ⟨S1x1024, .f32⟩
  | .hbm, ⟨88, _⟩ => ⟨S_, .f32⟩
  | .hbm, ⟨89, _⟩ => ⟨S6x1024, .f32⟩
  | .hbm, ⟨90, _⟩ => ⟨S8x1024, .f32⟩
  | .hbm, ⟨91, _⟩ => ⟨S16640x3072, .bf16⟩
  | .hbm, ⟨92, _⟩ => ⟨S16640x1024, .bf16⟩
  | .hbm, ⟨93, _⟩ => ⟨S16640x1024, .bf16⟩
  | .hbm, ⟨94, _⟩ => ⟨S16640x1024, .bf16⟩
  | _, _ => ⟨S16640x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst : Ref sig .tc := ⟨.hbm, 31, rfl⟩
abbrev main_v21 : Ref sig .tc := ⟨.hbm, 32, rfl⟩
abbrev main_v22 : Ref sig .tc := ⟨.hbm, 33, rfl⟩
abbrev main_cst_0 : Ref sig .tc := ⟨.hbm, 34, rfl⟩
abbrev main_v23 : Ref sig .tc := ⟨.hbm, 35, rfl⟩
abbrev main_v24 : Ref sig .tc := ⟨.hbm, 36, rfl⟩
abbrev main_cst_1 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_2 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_3 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_4 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_5 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_6 : Ref sig .tc := ⟨.hbm, 79, rfl⟩
abbrev main_v62 : Ref sig .tc := ⟨.hbm, 80, rfl⟩
abbrev main_cst_7 : Ref sig .tc := ⟨.hbm, 81, rfl⟩
abbrev main_v63 : Ref sig .tc := ⟨.hbm, 82, rfl⟩
abbrev main_v64 : Ref sig .tc := ⟨.hbm, 83, rfl⟩
abbrev main_cst_8 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_9 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩

abbrev nD : Nat := 1
abbrev τ : Topo := Topo.v7x

variable {F : FTy → Type} [FloatOps F]
-- ==== Mix.lean ====
abbrev S16640x256 : Shape := ⟨2, ![16640, 256]⟩
abbrev S16640x512 : Shape := ⟨2, ![16640, 512]⟩
abbrev S16640x3072 : Shape := ⟨2, ![16640, 3072]⟩
abbrev S256x1024 : Shape := ⟨2, ![256, 1024]⟩
abbrev S4x64x256 : Shape := ⟨3, ![4, 64, 256]⟩
abbrev S512x1024 : Shape := ⟨2, ![512, 1024]⟩
abbrev S1024 : Shape := ⟨1, ![1024]⟩
abbrev S_ : Shape := ⟨0, ![]⟩
abbrev S1x64x256 : Shape := ⟨3, ![1, 64, 256]⟩
abbrev S64x256 : Shape := ⟨2, ![64, 256]⟩
abbrev S1 : Shape := ⟨1, ![1]⟩
abbrev S2 : Shape := ⟨1, ![2]⟩
abbrev S1x1024 : Shape := ⟨2, ![1, 1024]⟩
abbrev S16640x1024 : Shape := ⟨2, ![16640, 1024]⟩
abbrev S256x256 : Shape := ⟨2, ![256, 256]⟩
abbrev S256x512 : Shape := ⟨2, ![256, 512]⟩
abbrev S256x3072 : Shape := ⟨2, ![256, 3072]⟩

abbrev nBuf : Space → Nat
  | .hbm => 46
  | .vmem => 15
  | .smem => 0
  | _ => 0

abbrev bufTy : (tb : Table) → Fin (tcTables nBuf tb) → BufTy
  | .hbm, ⟨0, _⟩ => ⟨S16640x256, .bf16⟩
  | .hbm, ⟨1, _⟩ => ⟨S16640x256, .bf16⟩
  | .hbm, ⟨2, _⟩ => ⟨S16640x512, .bf16⟩
  | .hbm, ⟨3, _⟩ => ⟨S16640x3072, .bf16⟩
  | .hbm, ⟨4, _⟩ => ⟨S256x1024, .bf16⟩
  | .hbm, ⟨5, _⟩ => ⟨S4x64x256, .bf16⟩
  | .hbm, ⟨6, _⟩ => ⟨S512x1024, .bf16⟩
  | .hbm, ⟨7, _⟩ => ⟨S1024, .f32⟩
  | .hbm, ⟨8, _⟩ => ⟨S1024, .f32⟩
  | .hbm, ⟨9, _⟩ => ⟨S_, .bf16⟩
  | .hbm, ⟨10, _⟩ => ⟨S256x1024, .bf16⟩
  | .hbm, ⟨11, _⟩ => ⟨S1x64x256, .bf16⟩
  | .hbm, ⟨12, _⟩ => ⟨S64x256, .bf16⟩
  | .hbm, ⟨13, _⟩ => ⟨S_, .i32⟩
  | .hbm, ⟨14, _⟩ => ⟨S1, .i32⟩
  | .hbm, ⟨15, _⟩ => ⟨S_, .i32⟩
  | .hbm, ⟨16, _⟩ => ⟨S1, .i32⟩
  | .hbm, ⟨17, _⟩ => ⟨S2, .i32⟩
  | .hbm, ⟨18, _⟩ => ⟨S256x1024, .bf16⟩
  | .hbm, ⟨19, _⟩ => ⟨S1x64x256, .bf16⟩
  | .hbm, ⟨20, _⟩ => ⟨S64x256, .bf16⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S2, .i32⟩
  | .hbm, ⟨26, _⟩ => ⟨S256x1024, .bf16⟩
  | .hbm, ⟨27, _⟩ => ⟨S1x64x256, .bf16⟩
  | .hbm, ⟨28, _⟩ => ⟨S64x256, .bf16⟩
  | .hbm, ⟨29, _⟩ => ⟨S_, .i32⟩
  | .hbm, ⟨30, _⟩ => ⟨S1, .i32⟩
  | .hbm, ⟨31, _⟩ => ⟨S_, .i32⟩
  | .hbm, ⟨32, _⟩ => ⟨S1, .i32⟩
  | .hbm, ⟨33, _⟩ => ⟨S2, .i32⟩
  | .hbm, ⟨34, _⟩ => ⟨S256x1024, .bf16⟩
  | .hbm, ⟨35, _⟩ => ⟨S1x64x256, .bf16⟩
  | .hbm, ⟨36, _⟩ => ⟨S64x256, .bf16⟩
  | .hbm, ⟨37, _⟩ => ⟨S_, .i32⟩
  | .hbm, ⟨38, _⟩ => ⟨S1, .i32⟩
  | .hbm, ⟨39, _⟩ => ⟨S_, .i32⟩
  | .hbm, ⟨40, _⟩ => ⟨S1, .i32⟩
  | .hbm, ⟨41, _⟩ => ⟨S2, .i32⟩
  | .hbm, ⟨42, _⟩ => ⟨S256x1024, .bf16⟩
  | .hbm, ⟨43, _⟩ => ⟨S1x1024, .f32⟩
  | .hbm, ⟨44, _⟩ => ⟨S1x1024, .f32⟩
  | .hbm, ⟨45, _⟩ => ⟨S16640x1024, .bf16⟩
  | .local _ .vmem, ⟨0, _⟩ => ⟨S256x256, .bf16⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | .local _ .vmem, ⟨4, _⟩ => ⟨S256x512, .bf16⟩
  | .local _ .vmem, ⟨5, _⟩ => ⟨S256x512, .bf16⟩
  | .local _ .vmem, ⟨6, _⟩ => ⟨S256x3072, .bf16⟩
  | .local _ .vmem, ⟨7, _⟩ => ⟨S256x3072, .bf16⟩
  | .local _ .vmem, ⟨8, _⟩ => ⟨S256x1024, .bf16⟩
  | .local _ .vmem, ⟨9, _⟩ => ⟨S256x1024, .bf16⟩
  | .local _ .vmem, ⟨10, _⟩ => ⟨S512x1024, .bf16⟩
  | .local _ .vmem, ⟨11, _⟩ => ⟨S1x1024, .f32⟩
  | .local _ .vmem, ⟨12, _⟩ => ⟨S1x1024, .f32⟩
  | .local _ .vmem, ⟨13, _⟩ => ⟨S256x1024, .bf16⟩
  | .local _ .vmem, ⟨14, _⟩ => ⟨S256x1024, .bf16⟩
  | _, _ => ⟨S16640x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_1 : Ref sig .tc := ⟨.hbm, 21, rfl⟩
abbrev main_v9 : Ref sig .tc := ⟨.hbm, 22, rfl⟩
abbrev main_c_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_5 : Ref sig .tc := ⟨.hbm, 37, rfl⟩
abbrev main_v21 : Ref sig .tc := ⟨.hbm, 38, rfl⟩
abbrev main_c_6 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixRefIdeal.lean ====
abbrev S16640x256 : Shape := ⟨2, ![16640, 256]⟩
abbrev S16640x512 : Shape := ⟨2, ![16640, 512]⟩
abbrev S16640x3072 : Shape := ⟨2, ![16640, 3072]⟩
abbrev S256x1024 : Shape := ⟨2, ![256, 1024]⟩
abbrev S4x64x256 : Shape := ⟨3, ![4, 64, 256]⟩
abbrev S512x1024 : Shape := ⟨2, ![512, 1024]⟩
abbrev S1024 : Shape := ⟨1, ![1024]⟩
abbrev S16640x1024 : Shape := ⟨2, ![16640, 1024]⟩
abbrev S1x1024 : Shape := ⟨2, ![1, 1024]⟩
abbrev S16640x4x64 : Shape := ⟨3, ![16640, 4, 64]⟩
abbrev S4x256x16640 : Shape := ⟨3, ![4, 256, 16640]⟩
abbrev S16640x4x256 : Shape := ⟨3, ![16640, 4, 256]⟩
abbrev S_ : Shape := ⟨0, ![]⟩
abbrev S16640x3x1024 : Shape := ⟨3, ![16640, 3, 1024]⟩
abbrev S16640x1x1024 : Shape := ⟨3, ![16640, 1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S16640x256, .bf16⟩
  | .hbm, ⟨1, _⟩ => ⟨S16640x256, .bf16⟩
  | .hbm, ⟨2, _⟩ => ⟨S16640x512, .bf16⟩
  | .hbm, ⟨3, _⟩ => ⟨S16640x3072, .bf16⟩
  | .hbm, ⟨4, _⟩ => ⟨S256x1024, .bf16⟩
  | .hbm, ⟨5, _⟩ => ⟨S4x64x256, .bf16⟩
  | .hbm, ⟨6, _⟩ => ⟨S512x1024, .bf16⟩
  | .hbm, ⟨7, _⟩ => ⟨S1024, .f32⟩
  | .hbm, ⟨8, _⟩ => ⟨S1024, .f32⟩
  | .hbm, ⟨9, _⟩ => ⟨S16640x256, .f32⟩
  | .hbm, ⟨10, _⟩ => ⟨S256x1024, .f32⟩
  | .hbm, ⟨11, _⟩ => ⟨S16640x1024, .f32⟩
  | .hbm, ⟨12, _⟩ => ⟨S1x1024, .f32⟩
  | .hbm, ⟨13, _⟩ => ⟨S16640x1024, .f32⟩
  | .hbm, ⟨14, _⟩ => ⟨S16640x1024, .f32⟩
  | .hbm, ⟨15, _⟩ => ⟨S16640x256, .f32⟩
  | .hbm, ⟨16, _⟩ => ⟨S16640x4x64, .f32⟩
  | .hbm, ⟨17, _⟩ => ⟨S4x64x256, .f32⟩
  | .hbm, ⟨18, _⟩ => ⟨S4x256x16640, .f32⟩
  | .hbm, ⟨19, _⟩ => ⟨S16640x4x256, .f32⟩
  | .hbm, ⟨20, _⟩ => ⟨S16640x1024, .f32⟩
  | .hbm, ⟨21, _⟩ => ⟨S1x1024, .f32⟩
  | .hbm, ⟨22, _⟩ => ⟨S16640x1024, .f32⟩
  | .hbm, ⟨23, _⟩ => ⟨S16640x1024, .f32⟩
  | .hbm, ⟨24, _⟩ => ⟨S16640x512, .f32⟩
  | .hbm, ⟨25, _⟩ => ⟨S512x1024, .f32⟩
  | .hbm, ⟨26, _⟩ => ⟨S16640x1024, .f32⟩
  | .hbm, ⟨27, _⟩ => ⟨S16640x3072, .f32⟩
  | .hbm, ⟨28, _⟩ => ⟨S16640x3072, .f32⟩
  | .hbm, ⟨29, _⟩ => ⟨S16640x3072, .f32⟩
  | .hbm, ⟨30, _⟩ => ⟨S_, .f32⟩
  | .hbm, ⟨31, _⟩ => ⟨S16640x3072, .f32⟩
  | .hbm, ⟨32, _⟩ => ⟨S16640x3072, .f32⟩
  | .hbm, ⟨33, _⟩ => ⟨S_, .f32⟩
  | .hbm, ⟨34, _⟩ => ⟨S16640x3072, .f32⟩
  | .hbm, ⟨35, _⟩ => ⟨S16640x3072, .f32⟩
  | .hbm, ⟨36, _⟩ => ⟨S16640x3x1024, .f32⟩
  | .hbm, ⟨37, _⟩ => ⟨S16640x1x1024, .f32⟩
  | .hbm, ⟨38, _⟩ => ⟨S16640x1024, .f32⟩
  | .hbm, ⟨39, _⟩ => ⟨S16640x1024, .f32⟩
  | .hbm, ⟨40, _⟩ => ⟨S16640x1x1024, .f32⟩
  | .hbm, ⟨41, _⟩ => ⟨S16640x1024, .f32⟩
  | .hbm, ⟨42, _⟩ => ⟨S16640x1024, .f32⟩
  | .hbm, ⟨43, _⟩ => ⟨S16640x1024, .f32⟩
  | .hbm, ⟨44, _⟩ => ⟨S16640x1x1024, .f32⟩
  | .hbm, ⟨45, _⟩ => ⟨S16640x1024, .f32⟩
  | .hbm, ⟨46, _⟩ => ⟨S16640x1024, .f32⟩
  | .hbm, ⟨47, _⟩ => ⟨S16640x1024, .f32⟩
  | .hbm, ⟨48, _⟩ => ⟨S16640x1024, .bf16⟩
  | _, _ => ⟨S16640x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_v22 : Ref sig .tc := ⟨.hbm, 32, rfl⟩
abbrev main_cst_0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== PoolBwd.lean ====
abbrev S16640x256 : Shape := ⟨2, ![16640, 256]⟩
abbrev S640x256 : Shape := ⟨2, ![640, 256]⟩
abbrev S656x256 : Shape := ⟨2, ![656, 256]⟩
abbrev S16x256 : Shape := ⟨2, ![16, 256]⟩
abbrev S1x256 : Shape := ⟨2, ![1, 256]⟩
abbrev S640x1 : Shape := ⟨2, ![640, 1]⟩

abbrev nBuf : Space → Nat
  | .hbm => 2
  | .vmem => 5
  | .smem => 0
  | _ => 0

abbrev bufTy : (tb : Table) → Fin (tcTables nBuf tb) → BufTy
  | .hbm, ⟨0, _⟩ => ⟨S16640x256, .f32⟩
  | .hbm, ⟨1, _⟩ => ⟨S16640x256, .bf16⟩
  | .local _ .vmem, ⟨0, _⟩ => ⟨S640x256, .f32⟩
  | .local _ .vmem, ⟨1, _⟩ => ⟨S640x256, .f32⟩
  | .local _ .vmem, ⟨2, _⟩ => ⟨S640x256, .bf16⟩
  | .local _ .vmem, ⟨3, _⟩ => ⟨S640x256, .bf16⟩
  | .local _ .vmem, ⟨4, _⟩ => ⟨S656x256, .f32⟩
  | _, _ => ⟨S16640x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c25_i32 : BitVec 32 := 25#32
  let v0 : BitVec 32 := Scalar.subi c25_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c25_i32 : BitVec 32 := 25#32
  let v0 : BitVec 32 := Scalar.subi c25_i32 arg0
  let c0_i32 : BitVec 32 := 0#32
  let c0_i32_0 : BitVec 32 := 0#32
  ![v0.toNat, c0_i32.toNat]

abbrev stage0_0 : Fin 2 → Memref sig .tc .vmem S640x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== PoolBwdRefIdeal.lean ====
abbrev S16640x256 : Shape := ⟨2, ![16640, 256]⟩
abbrev S_ : Shape := ⟨0, ![]⟩
abbrev S16640 : Shape := ⟨1, ![16640]⟩
abbrev S16640x1 : Shape := ⟨2, ![16640, 1]⟩
abbrev S16640x64 : Shape := ⟨2, ![16640, 64]⟩
abbrev S1x64 : Shape := ⟨2, ![1, 64]⟩
abbrev S16641x64 : Shape := ⟨2, ![16641, 64]⟩
abbrev S3x64 : Shape := ⟨2, ![3, 64]⟩
abbrev S16643x64 : Shape := ⟨2, ![16643, 64]⟩
abbrev S7x64 : Shape := ⟨2, ![7, 64]⟩
abbrev S16647x64 : Shape := ⟨2, ![16647, 64]⟩
abbrev S15x64 : Shape := ⟨2, ![15, 64]⟩
abbrev S16655x64 : Shape := ⟨2, ![16655, 64]⟩

abbrev nBuf : Space → Nat
  | .hbm => 276
  | .vmem => 0
  | .smem => 0
  | _ => 0

abbrev hbmTy0_0 (i : Nat) : BufTy := match i % 128 with
  | 0 => ⟨S16640x256, .f32⟩
  | 1 => ⟨S_, .f32⟩
  | 2 => ⟨S16640x256, .f32⟩
  | 3 => ⟨S16640, .i32⟩
  | 4 => ⟨S_, .i32⟩
  | 5 => ⟨S16640, .i32⟩
  | 6 => ⟨S16640, .i32⟩
  | 7 => ⟨S16640, .f32⟩
  | 8 => ⟨S16640x1, .f32⟩
  | 9 => ⟨S16640x64, .f32⟩
  | 10 => ⟨S_, .f32⟩
  | 11 => ⟨S1x64, .f32⟩
  | 12 => ⟨S16641x64, .f32⟩
  | 13 => ⟨S_, .f32⟩
  | 14 => ⟨S1x64, .f32⟩
  | 15 => ⟨S16640x64, .f32⟩
  | 16 => ⟨S_, .f32⟩
  | 17 => ⟨S16640x64, .f32⟩
  | 18 => ⟨S16640x64, .f32⟩
  | 19 => ⟨S16640x64, .f32⟩
  | 20 => ⟨S16640x64, .f32⟩
  | 21 => ⟨S_, .f32⟩
  | 22 => ⟨S16640x1, .f32⟩
  | 23 => ⟨S16640x1, .f32⟩
  | 24 => ⟨S_, .f32⟩
  | 25 => ⟨S16640x1, .f32⟩
  | 26 => ⟨S16640x1, .f32⟩
  | 27 => ⟨S_, .f32⟩
  | 28 => ⟨S16640x1, .f32⟩
  | 29 => ⟨S16640x1, .f32⟩
  | 30 => ⟨S16640x64, .f32⟩
  | 31 => ⟨S16640x64, .f32⟩
  | 32 => ⟨S16640x64, .f32⟩
  | 33 => ⟨S16640x64, .f32⟩
  | 34 => ⟨S_, .f32⟩
  | 35 => ⟨S3x64, .f32⟩
  | 36 => ⟨S16643x64, .f32⟩
  | 37 => ⟨S_, .f32⟩
  | 38 => ⟨S3x64, .f32⟩
  | 39 => ⟨S16640x64, .f32⟩
  | 40 => ⟨S_, .f32⟩
  | 41 => ⟨S16640x64, .f32⟩
  | 42 => ⟨S16640x64, .f32⟩
  | 43 => ⟨S16640x64, .f32⟩
  | 44 => ⟨S16640x64, .f32⟩
  | 45 => ⟨S16640x64, .f32⟩
  | 46 => ⟨S16640x64, .f32⟩
  | 47 => ⟨S16640x64, .f32⟩
  | 48 => ⟨S16640x64, .f32⟩
  | 49 => ⟨S_, .f32⟩
  | 50 => ⟨S16640x1, .f32⟩
  | 51 => ⟨S16640x1, .f32⟩
  | 52 => ⟨S_, .f32⟩
  | 53 => ⟨S16640x1, .f32⟩
  | 54 => ⟨S16640x1, .f32⟩
  | 55 => ⟨S_, .f32⟩
  | 56 => ⟨S16640x1, .f32⟩
  | 57 => ⟨S16640x1, .f32⟩
  | 58 => ⟨S16640x64, .f32⟩
  | 59 => ⟨S16640x64, .f32⟩
  | 60 => ⟨S16640x64, .f32⟩
  | 61 => ⟨S16640x64, .f32⟩
  | 62 => ⟨S_, .f32⟩
  | 63 => ⟨S7x64, .f32⟩
  | 64 => ⟨S16647x64, .f32⟩
  | 65 => ⟨S_, .f32⟩
  | 66 => ⟨S7x64, .f32⟩
  | 67 => ⟨S16640x64, .f32⟩
  | 68 => ⟨S_, .f32⟩
  | 69 => ⟨S16640x64, .f32⟩
  | 70 => ⟨S16640x64, .f32⟩
  | 71 => ⟨S16640x64, .f32⟩
  | 72 => ⟨S16640x64, .f32⟩
  | 73 => ⟨S16640x64, .f32⟩
  | 74 => ⟨S16640x64, .f32⟩
  | 75 => ⟨S16640x64, .f32⟩
  | 76 => ⟨S16640x64, .f32⟩
  | 77 => ⟨S16640x64, .f32⟩
  | 78 => ⟨S16640x64, .f32⟩
  | 79 => ⟨S16640x64, .f32⟩
  | 80 => ⟨S16640x64, .f32⟩
  | 81 => ⟨S16640x64, .f32⟩
  | 82 => ⟨S16640x64, .f32⟩
  | 83 => ⟨S16640x64, .f32⟩
  | 84 => ⟨S16640x64, .f32⟩
  | 85 => ⟨S_, .f32⟩
  | 86 => ⟨S16640x1, .f32⟩
  | 87 => ⟨S16640x1, .f32⟩
  | 88 => ⟨S_, .f32⟩
  | 89 => ⟨S16640x1, .f32⟩
  | 90 => ⟨S16640x1, .f32⟩
  | 91 => ⟨S_, .f32⟩
  | 92 => ⟨S16640x1, .f32⟩
  | 93 => ⟨S16640x1, .f32⟩
  | 94 => ⟨S16640x64, .f32⟩
  | 95 => ⟨S16640x64, .f32⟩
  | 96 => ⟨S16640x64, .f32⟩
  | 97 => ⟨S16640x64, .f32⟩
  | 98 => ⟨S_, .f32⟩
  | 99 => ⟨S15x64, .f32⟩
  | 100 => ⟨S16655x64, .f32⟩
  | 101 => ⟨S_, .f32⟩
  | 102 => ⟨S15x64, .f32⟩
  | 103 => ⟨S16640x64, .f32⟩
  | 104 => ⟨S_, .f32⟩
  | 105 => ⟨S16640x64, .f32⟩
  | 106 => ⟨S16640x64, .f32⟩
  | 107 => ⟨S16640x64, .f32⟩
  | 108 => ⟨S16640x64, .f32⟩
  | 109 => ⟨S16640x64, .f32⟩
  | 110 => ⟨S16640x64, .f32⟩
  | 111 => ⟨S16640x64, .f32⟩
  | 112 => ⟨S16640x64, .f32⟩
  | 113 => ⟨S16640x64, .f32⟩
  | 114 => ⟨S16640x64, .f32⟩
  | 115 => ⟨S16640x64, .f32⟩
  | 116 => ⟨S16640x64, .f32⟩
  | 117 => ⟨S16640x64, .f32⟩
  | 118 => ⟨S16640x64, .f32⟩
  | 119 => ⟨S16640x64, .f32⟩
  | 120 => ⟨S16640x64, .f32⟩
  | 121 => ⟨S16640x64, .f32⟩
  | 122 => ⟨S16640x64, .f32⟩
  | 123 => ⟨S16640x64, .f32⟩
  | 124 => ⟨S16640x64, .f32⟩
  | 125 => ⟨S16640x64, .f32⟩
  | 126 => ⟨S16640x64, .f32⟩
  | 127 => ⟨S16640x64, .f32⟩
  | _ => ⟨S16640x256, .f32⟩

abbrev hbmTy0_1 (i : Nat) : BufTy := match i % 128 with
  | 0 => ⟨S16640x64, .f32⟩
  | 1 => ⟨S16640x64, .f32⟩
  | 2 => ⟨S16640x64, .f32⟩
  | 3 => ⟨S16640x64, .f32⟩
  | 4 => ⟨S16640x64, .f32⟩
  | 5 => ⟨S16640x64, .f32⟩
  | 6 => ⟨S16640x64, .f32⟩
  | 7 => ⟨S16640x64, .f32⟩
  | 8 => ⟨S16640x64, .f32⟩
  | 9 => ⟨S_, .f32⟩
  | 10 => ⟨S16640x1, .f32⟩
  | 11 => ⟨S16640x1, .f32⟩
  | 12 => ⟨S_, .f32⟩
  | 13 => ⟨S16640x1, .f32⟩
  | 14 => ⟨S16640x1, .f32⟩
  | 15 => ⟨S_, .f32⟩
  | 16 => ⟨S16640x1, .f32⟩
  | 17 => ⟨S16640x1, .f32⟩
  | 18 => ⟨S16640x64, .f32⟩
  | 19 => ⟨S16640x64, .f32⟩
  | 20 => ⟨S16640x64, .f32⟩
  | 21 => ⟨S16640x256, .f32⟩
  | 22 => ⟨S16640x64, .f32⟩
  | 23 => ⟨S16640x64, .f32⟩
  | 24 => ⟨S16640x64, .f32⟩
  | 25 => ⟨S16640x64, .f32⟩
  | 26 => ⟨S16640x64, .f32⟩
  | 27 => ⟨S16640x64, .f32⟩
  | 28 => ⟨S16640x64, .f32⟩
  | 29 => ⟨S_, .f32⟩
  | 30 => ⟨S16655x64, .f32⟩
  | 31 => ⟨S_, .f32⟩
  | 32 => ⟨S16655x64, .f32⟩
  | 33 => ⟨S16655x64, .f32⟩
  | 34 => ⟨S_, .f32⟩
  | 35 => ⟨S16655x64, .f32⟩
  | 36 => ⟨S16655x64, .f32⟩
  | 37 => ⟨S_, .f32⟩
  | 38 => ⟨S16655x64, .f32⟩
  | 39 => ⟨S16655x64, .f32⟩
  | 40 => ⟨S_, .f32⟩
  | 41 => ⟨S16655x64, .f32⟩
  | 42 => ⟨S16655x64, .f32⟩
  | 43 => ⟨S_, .f32⟩
  | 44 => ⟨S16655x64, .f32⟩
  | 45 => ⟨S16655x64, .f32⟩
  | 46 => ⟨S_, .f32⟩
  | 47 => ⟨S16655x64, .f32⟩
  | 48 => ⟨S16655x64, .f32⟩
  | 49 => ⟨S_, .f32⟩
  | 50 => ⟨S16655x64, .f32⟩
  | 51 => ⟨S16655x64, .f32⟩
  | 52 => ⟨S_, .f32⟩
  | 53 => ⟨S16655x64, .f32⟩
  | 54 => ⟨S16655x64, .f32⟩
  | 55 => ⟨S_, .f32⟩
  | 56 => ⟨S16655x64, .f32⟩
  | 57 => ⟨S16655x64, .f32⟩
  | 58 => ⟨S_, .f32⟩
  | 59 => ⟨S16655x64, .f32⟩
  | 60 => ⟨S16655x64, .f32⟩
  | 61 => ⟨S_, .f32⟩
  | 62 => ⟨S16655x64, .f32⟩
  | 63 => ⟨S16655x64, .f32⟩
  | 64 => ⟨S_, .f32⟩
  | 65 => ⟨S16655x64, .f32⟩
  | 66 => ⟨S16655x64, .f32⟩
  | 67 => ⟨S_, .f32⟩
  | 68 => ⟨S16655x64, .f32⟩
  | 69 => ⟨S16655x64, .f32⟩
  | 70 => ⟨S_, .f32⟩
  | 71 => ⟨S16655x64, .f32⟩
  | 72 => ⟨S16655x64, .f32⟩
  | 73 => ⟨S_, .f32⟩
  | 74 => ⟨S16655x64, .f32⟩
  | 75 => ⟨S16655x64, .f32⟩
  | 76 => ⟨S15x64, .f32⟩
  | 77 => ⟨S16640x64, .f32⟩
  | 78 => ⟨S16640x64, .f32⟩
  | 79 => ⟨S_, .f32⟩
  | 80 => ⟨S16640x256, .f32⟩
  | 81 => ⟨S16640x64, .f32⟩
  | 82 => ⟨S16640x64, .f32⟩
  | 83 => ⟨S16640x64, .f32⟩
  | 84 => ⟨S_, .f32⟩
  | 85 => ⟨S16647x64, .f32⟩
  | 86 => ⟨S_, .f32⟩
  | 87 => ⟨S16647x64, .f32⟩
  | 88 => ⟨S16647x64, .f32⟩
  | 89 => ⟨S_, .f32⟩
  | 90 => ⟨S16647x64, .f32⟩
  | 91 => ⟨S16647x64, .f32⟩
  | 92 => ⟨S_, .f32⟩
  | 93 => ⟨S16647x64, .f32⟩
  | 94 => ⟨S16647x64, .f32⟩
  | 95 => ⟨S_, .f32⟩
  | 96 => ⟨S16647x64, .f32⟩
  | 97 => ⟨S16647x64, .f32⟩
  | 98 => ⟨S_, .f32⟩
  | 99 => ⟨S16647x64, .f32⟩
  | 100 => ⟨S16647x64, .f32⟩
  | 101 => ⟨S_, .f32⟩
  | 102 => ⟨S16647x64, .f32⟩
  | 103 => ⟨S16647x64, .f32⟩
  | 104 => ⟨S_, .f32⟩
  | 105 => ⟨S16647x64, .f32⟩
  | 106 => ⟨S16647x64, .f32⟩
  | 107 => ⟨S7x64, .f32⟩
  | 108 => ⟨S16640x64, .f32⟩
  | 109 => ⟨S16640x64, .f32⟩
  | 110 => ⟨S_, .f32⟩
  | 111 => ⟨S16640x256, .f32⟩
  | 112 => ⟨S16640x256, .f32⟩
  | 113 => ⟨S16640x64, .f32⟩
  | 114 => ⟨S16640x64, .f32⟩
  | 115 => ⟨S16640x64, .f32⟩
  | 116 => ⟨S_, .f32⟩
  | 117 => ⟨S16643x64, .f32⟩
  | 118 => ⟨S_, .f32⟩
  | 119 => ⟨S16643x64, .f32⟩
  | 120 => ⟨S16643x64, .f32⟩
  | 121 => ⟨S_, .f32⟩
  | 122 => ⟨S16643x64, .f32⟩
  | 123 => ⟨S16643x64, .f32⟩
  | 124 => ⟨S_, .f32⟩
  | 125 => ⟨S16643x64, .f32⟩
  | 126 => ⟨S16643x64, .f32⟩
  | 127 => ⟨S3x64, .f32⟩
  | _ => ⟨S16640x256, .f32⟩

abbrev hbmTy0_2 (i : Nat) : BufTy := match i % 128 with
  | 0 => ⟨S16640x64, .f32⟩
  | 1 => ⟨S16640x64, .f32⟩
  | 2 => ⟨S_, .f32⟩
  | 3 => ⟨S16640x256, .f32⟩
  | 4 => ⟨S16640x256, .f32⟩
  | 5 => ⟨S16640x64, .f32⟩
  | 6 => ⟨S16640x64, .f32⟩
  | 7 => ⟨S16640x64, .f32⟩
  | 8 => ⟨S_, .f32⟩
  | 9 => ⟨S16641x64, .f32⟩
  | 10 => ⟨S_, .f32⟩
  | 11 => ⟨S16641x64, .f32⟩
  | 12 => ⟨S16641x64, .f32⟩
  | 13 => ⟨S1x64, .f32⟩
  | 14 => ⟨S16640x64, .f32⟩
  | 15 => ⟨S16640x64, .f32⟩
  | 16 => ⟨S_, .f32⟩
  | 17 => ⟨S16640x256, .f32⟩
  | 18 => ⟨S16640x256, .f32⟩
  | 19 => ⟨S16640x256, .bf16⟩
  | _ => ⟨S16640x256, .f32⟩

abbrev hbmTy (i : Nat) : BufTy := match i / 128 with
  | 0 => hbmTy0_0 i
  | 1 => hbmTy0_1 i
  | 2 => hbmTy0_2 i
  | _ => ⟨S16640x256, .f32⟩

abbrev bufTy : (tb : Table) → Fin (tcTables nBuf tb) → BufTy
  | .hbm, ⟨i, _⟩ => hbmTy i
  | _, _ => ⟨S16640x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_v26 : Ref sig .tc := ⟨.hbm, 36, rfl⟩
abbrev main_cst_7 : Ref sig .tc := ⟨.hbm, 37, rfl⟩
abbrev main_v27 : Ref sig .tc := ⟨.hbm, 38, rfl⟩
abbrev main_v28 : Ref sig .tc := ⟨.hbm, 39, rfl⟩
abbrev main_cst_8 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_9 : Ref sig .tc := ⟨.hbm, 49, rfl⟩
abbrev main_v37 : Ref sig .tc := ⟨.hbm, 50, rfl⟩
abbrev main_v38 : Ref sig .tc := ⟨.hbm, 51, rfl⟩
abbrev main_cst_10 : Ref sig .tc := ⟨.hbm, 52, rfl⟩
abbrev main_v39 : Ref sig .tc := ⟨.hbm, 53, rfl⟩
abbrev main_v40 : Ref sig .tc := ⟨.hbm, 54, rfl⟩
abbrev main_cst_11 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_12 : Ref sig .tc := ⟨.hbm, 62, rfl⟩
abbrev main_v47 : Ref sig .tc := ⟨.hbm, 63, rfl⟩
abbrev main_v48 : Ref sig .tc := ⟨.hbm, 64, rfl⟩
abbrev main_cst_13 : Ref sig .tc := ⟨.hbm, 65, rfl⟩
abbrev main_v49 : Ref sig .tc := ⟨.hbm, 66, rfl⟩
abbrev main_v50 : Ref sig .tc := ⟨.hbm, 67, rfl⟩
abbrev main_cst_14 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_15 : Ref sig .tc := ⟨.hbm, 85, rfl⟩
abbrev main_v67 : Ref sig .tc := ⟨.hbm, 86, rfl⟩
abbrev main_v68 : Ref sig .tc := ⟨.hbm, 87, rfl⟩
abbrev main_cst_16 : Ref sig .tc := ⟨.hbm, 88, rfl⟩
abbrev main_v69 : Ref sig .tc := ⟨.hbm, 89, rfl⟩
abbrev main_v70 : Ref sig .tc := ⟨.hbm, 90, rfl⟩
abbrev main_cst_17 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_18 : Ref sig .tc := ⟨.hbm, 98, rfl⟩
abbrev main_v77 : Ref sig .tc := ⟨.hbm, 99, rfl⟩
abbrev main_v78 : Ref sig .tc := ⟨.hbm, 100, rfl⟩
abbrev main_cst_19 : Ref sig .tc := ⟨.hbm, 101, rfl⟩
abbrev main_v79 : Ref sig .tc := ⟨.hbm, 102, rfl⟩
abbrev main_v80 : Ref sig .tc := ⟨.hbm, 103, rfl⟩
abbrev main_cst_20 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_cst_21 : Ref sig .tc := ⟨.hbm, 137, rfl⟩
abbrev main_v113 : Ref sig .tc := ⟨.hbm, 138, rfl⟩
abbrev main_v114 : Ref sig .tc := ⟨.hbm, 139, rfl⟩
abbrev main_cst_22 : Ref sig .tc := ⟨.hbm, 140, rfl⟩
abbrev main_v115 : Ref sig .tc := ⟨.hbm, 141, rfl⟩
abbrev main_v116 : Ref sig .tc := ⟨.hbm, 142, rfl⟩
abbrev main_cst_23 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_cst_24 : Ref sig .tc := ⟨.hbm, 157, rfl⟩
abbrev main_v130 : Ref sig .tc := ⟨.hbm, 158, rfl⟩
abbrev main_cst_25 : Ref sig .tc := ⟨.hbm, 159, rfl⟩
abbrev main_v131 : Ref sig .tc := ⟨.hbm, 160, rfl⟩
abbrev main_v132 : Ref sig .tc := ⟨.hbm, 161, rfl⟩
abbrev main_cst_26 : Ref sig .tc := ⟨.hbm, 162, rfl⟩
abbrev main_v133 : Ref sig .tc := ⟨.hbm, 163, rfl⟩
abbrev main_v134 : Ref sig .tc := ⟨.hbm, 164, rfl⟩
abbrev main_cst_27 : Ref sig .tc := ⟨.hbm, 165, rfl⟩
abbrev main_v135 : Ref sig .tc := ⟨.hbm, 166, rfl⟩
abbrev main_v136 : Ref sig .tc := ⟨.hbm, 167, rfl⟩
abbrev main_cst_28 : Ref sig .tc := ⟨.hbm, 168, rfl⟩
abbrev main_v137 : Ref sig .tc := ⟨.hbm, 169, rfl⟩
abbrev main_v138 : Ref sig .tc := ⟨.hbm, 170, rfl⟩
abbrev main_cst_29 : Ref sig .tc := ⟨.hbm, 171, rfl⟩
abbrev main_v139 : Ref sig .tc := ⟨.hbm, 172, rfl⟩
abbrev main_v140 : Ref sig .tc := ⟨.hbm, 173, rfl⟩
abbrev main_cst_30 : Ref sig .tc := ⟨.hbm, 174, rfl⟩
abbrev main_v141 : Ref sig .tc := ⟨.hbm, 175, rfl⟩
abbrev main_v142 : Ref sig .tc := ⟨.hbm, 176, rfl⟩
abbrev main_cst_31 : Ref sig .tc := ⟨.hbm, 177, rfl⟩
abbrev main_v143 : Ref sig .tc := ⟨.hbm, 178, rfl⟩
abbrev main_v144 : Ref sig .tc := ⟨.hbm, 179, rfl⟩
abbrev main_cst_32 : Ref sig .tc := ⟨.hbm, 180, rfl⟩
abbrev main_v145 : Ref sig .tc := ⟨.hbm, 181, rfl⟩
abbrev main_v146 : Ref sig .tc := ⟨.hbm, 182, rfl⟩
abbrev main_cst_33 : Ref sig .tc := ⟨.hbm, 183, rfl⟩
abbrev main_v147 : Ref sig .tc := ⟨.hbm, 184, rfl⟩
abbrev main_v148 : Ref sig .tc := ⟨.hbm, 185, rfl⟩
abbrev main_cst_34 : Ref sig .tc := ⟨.hbm, 186, rfl⟩
abbrev main_v149 : Ref sig .tc := ⟨.hbm, 187, rfl⟩
abbrev main_v150 : Ref sig .tc := ⟨.hbm, 188, rfl⟩
abbrev main_cst_35 : Ref sig .tc := ⟨.hbm, 189, rfl⟩
abbrev main_v151 : Ref sig .tc := ⟨.hbm, 190, rfl⟩
abbrev main_v152 : Ref sig .tc := ⟨.hbm, 191, rfl⟩
abbrev main_cst_36 : Ref sig .tc := ⟨.hbm, 192, rfl⟩
abbrev main_v153 : Ref sig .tc := ⟨.hbm, 193, rfl⟩
abbrev main_v154 : Ref sig .tc := ⟨.hbm, 194, rfl⟩
abbrev main_cst_37 : Ref sig .tc := ⟨.hbm, 195, rfl⟩
abbrev main_v155 : Ref sig .tc := ⟨.hbm, 196, rfl⟩
abbrev main_v156 : Ref sig .tc := ⟨.hbm, 197, rfl⟩
abbrev main_cst_38 : Ref sig .tc := ⟨.hbm, 198, rfl⟩
abbrev main_v157 : Ref sig .tc := ⟨.hbm, 199, rfl⟩
abbrev main_v158 : Ref sig .tc := ⟨.hbm, 200, rfl⟩
abbrev main_cst_39 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_cst_40 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_cst_41 : Ref sig .tc := ⟨.hbm, 212, rfl⟩
abbrev main_v168 : Ref sig .tc := ⟨.hbm, 213, rfl⟩
abbrev main_cst_42 : Ref sig .tc := ⟨.hbm, 214, rfl⟩
abbrev main_v169 : Ref sig .tc := ⟨.hbm, 215, rfl⟩
abbrev main_v170 : Ref sig .tc := ⟨.hbm, 216, rfl⟩
abbrev main_cst_43 : Ref sig .tc := ⟨.hbm, 217, rfl⟩
abbrev main_v171 : Ref sig .tc := ⟨.hbm, 218, rfl⟩
abbrev main_v172 : Ref sig .tc := ⟨.hbm, 219, rfl⟩
abbrev main_cst_44 : Ref sig .tc := ⟨.hbm, 220, rfl⟩
abbrev main_v173 : Ref sig .tc := ⟨.hbm, 221, rfl⟩
abbrev main_v174 : Ref sig .tc := ⟨.hbm, 222, rfl⟩
abbrev main_cst_45 : Ref sig .tc := ⟨.hbm, 223, rfl⟩
abbrev main_v175 : Ref sig .tc := ⟨.hbm, 224, rfl⟩
abbrev main_v176 : Ref sig .tc := ⟨.hbm, 225, rfl⟩
abbrev main_cst_46 : Ref sig .tc := ⟨.hbm, 226, rfl⟩
abbrev main_v177 : Ref sig .tc := ⟨.hbm, 227, rfl⟩
abbrev main_v178 : Ref sig .tc := ⟨.hbm, 228, rfl⟩
abbrev main_cst_47 : Ref sig .tc := ⟨.hbm, 229, rfl⟩
abbrev main_v179 : Ref sig .tc := ⟨.hbm, 230, rfl⟩
abbrev main_v180 : Ref sig .tc := ⟨.hbm, 231, rfl⟩
abbrev main_cst_48 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_cst_49 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_cst_50 : Ref sig .tc := ⟨.hbm, 244, rfl⟩
abbrev main_v191 : Ref sig .tc := ⟨.hbm, 245, rfl⟩
abbrev main_cst_51 : Ref sig .tc := ⟨.hbm, 246, rfl⟩
abbrev main_v192 : Ref sig .tc := ⟨.hbm, 247, rfl⟩
abbrev main_v193 : Ref sig .tc := ⟨.hbm, 248, rfl⟩
abbrev main_cst_52 : Ref sig .tc := ⟨.hbm, 249, rfl⟩
abbrev main_v194 : Ref sig .tc := ⟨.hbm, 250, rfl⟩
abbrev main_v195 : Ref sig .tc := ⟨.hbm, 251, rfl⟩
abbrev main_cst_53 : Ref sig .tc := ⟨.hbm, 252, rfl⟩
abbrev main_v196 : Ref sig .tc := ⟨.hbm, 253, rfl⟩
abbrev main_v197 : Ref sig .tc := ⟨.hbm, 254, rfl⟩
abbrev main_v198 : Ref sig .tc := ⟨.hbm, 255, rfl⟩
abbrev main_v199 : Ref sig .tc := ⟨.hbm, 256, rfl⟩
abbrev main_v200 : Ref sig .tc := ⟨.hbm, 257, rfl⟩
abbrev main_cst_54 : Ref sig .tc := ⟨.hbm, 258, rfl⟩
abbrev main_v201 : Ref sig .tc := ⟨.hbm, 259, rfl⟩
abbrev main_v202 : Ref sig .tc := ⟨.hbm, 260, rfl⟩
abbrev main_v203 : Ref sig .tc := ⟨.hbm, 261, rfl⟩
abbrev main_v204 : Ref sig .tc := ⟨.hbm, 262, rfl⟩
abbrev main_v205 : Ref sig .tc := ⟨.hbm, 263, rfl⟩
abbrev main_cst_55 : Ref sig .tc := ⟨.hbm, 264, rfl⟩
abbrev main_v206 : Ref sig .tc := ⟨.hbm, 265, rfl⟩
abbrev main_cst_56 : Ref sig .tc := ⟨.hbm, 266, rfl⟩
abbrev main_v207 : Ref sig .tc := ⟨.hbm, 267, rfl⟩
abbrev main_v208 : Ref sig .tc := ⟨.hbm, 268, rfl⟩
abbrev main_v209 : Ref sig .tc := ⟨.hbm, 269, rfl⟩
abbrev main_v210 : Ref sig .tc := ⟨.hbm, 270, rfl⟩
abbrev main_v211 : Ref sig .tc := ⟨.hbm, 271, rfl⟩
abbrev main_cst_57 : Ref sig .tc := ⟨.hbm, 272, rfl⟩
abbrev main_v212 : Ref sig .tc := ⟨.hbm, 273, rfl⟩
abbrev main_v213 : Ref sig .tc := ⟨.hbm, 274, rfl⟩
abbrev main_v214 : Ref sig .tc := ⟨.hbm, 275, rfl⟩

abbrev nD : Nat := 1
abbrev τ : Topo := Topo.v7x

variable {F : FTy → Type} [FloatOps F]
-- ==== PoolFwd.lean ====
abbrev S16640x768 : Shape := ⟨2, ![16640, 768]⟩
abbrev S16640x256 : Shape := ⟨2, ![16640, 256]⟩
abbrev S640x256 : Shape := ⟨2, ![640, 256]⟩
abbrev S656x256 : Shape := ⟨2, ![656, 256]⟩
abbrev S16x256 : Shape := ⟨2, ![16, 256]⟩
abbrev S1x256 : Shape := ⟨2, ![1, 256]⟩
abbrev S640x1 : Shape := ⟨2, ![640, 1]⟩

abbrev nBuf : Space → Nat
  | .hbm => 2
  | .vmem => 5
  | .smem => 0
  | _ => 0

abbrev bufTy : (tb : Table) → Fin (tcTables nBuf tb) → BufTy
  | .hbm, ⟨0, _⟩ => ⟨S16640x768, .f32⟩
  | .hbm, ⟨1, _⟩ => ⟨S16640x256, .bf16⟩
  | .local _ .vmem, ⟨0, _⟩ => ⟨S640x256, .f32⟩
  | .local _ .vmem, ⟨1, _⟩ => ⟨S640x256, .f32⟩
  | .local _ .vmem, ⟨2, _⟩ => ⟨S640x256, .bf16⟩
  | .local _ .vmem, ⟨3, _⟩ => ⟨S640x256, .bf16⟩
  | .local _ .vmem, ⟨4, _⟩ => ⟨S656x256, .f32⟩
  | _, _ => ⟨S16640x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== PoolFwdRefIdeal.lean ====
abbrev S16640x768 : Shape := ⟨2, ![16640, 768]⟩
abbrev S16640x256 : Shape := ⟨2, ![16640, 256]⟩
abbrev S16640 : Shape := ⟨1, ![16640]⟩
abbrev S_ : Shape := ⟨0, ![]⟩
abbrev S16640x1 : Shape := ⟨2, ![16640, 1]⟩
abbrev S16640x64 : Shape := ⟨2, ![16640, 64]⟩
abbrev S1x64 : Shape := ⟨2, ![1, 64]⟩
abbrev S16641x64 : Shape := ⟨2, ![16641, 64]⟩
abbrev S3x64 : Shape := ⟨2, ![3, 64]⟩
abbrev S16643x64 : Shape := ⟨2, ![16643, 64]⟩
abbrev S7x64 : Shape := ⟨2, ![7, 64]⟩
abbrev S16647x64 : Shape := ⟨2, ![16647, 64]⟩
abbrev S15x64 : Shape := ⟨2, ![15, 64]⟩
abbrev S16655x64 : Shape := ⟨2, ![16655, 64]⟩

abbrev nBuf : Space → Nat
  | .hbm => 142
  | .vmem => 0
  | .smem => 0
  | _ => 0

abbrev hbmTy0_0 (i : Nat) : BufTy := match i % 128 with
  | 0 => ⟨S16640x768, .f32⟩
  | 1 => ⟨S16640x256, .f32⟩
  | 2 => ⟨S16640, .i32⟩
  | 3 => ⟨S_, .i32⟩
  | 4 => ⟨S16640, .i32⟩
  | 5 => ⟨S16640, .i32⟩
  | 6 => ⟨S16640, .f32⟩
  | 7 => ⟨S16640x1, .f32⟩
  | 8 => ⟨S16640x64, .f32⟩
  | 9 => ⟨S_, .f32⟩
  | 10 => ⟨S1x64, .f32⟩
  | 11 => ⟨S16641x64, .f32⟩
  | 12 => ⟨S16640x64, .f32⟩
  | 13 => ⟨S_, .f32⟩
  | 14 => ⟨S16640x64, .f32⟩
  | 15 => ⟨S16640x64, .f32⟩
  | 16 => ⟨S16640x64, .f32⟩
  | 17 => ⟨S16640x64, .f32⟩
  | 18 => ⟨S_, .f32⟩
  | 19 => ⟨S16640x1, .f32⟩
  | 20 => ⟨S16640x1, .f32⟩
  | 21 => ⟨S_, .f32⟩
  | 22 => ⟨S16640x1, .f32⟩
  | 23 => ⟨S16640x1, .f32⟩
  | 24 => ⟨S_, .f32⟩
  | 25 => ⟨S16640x1, .f32⟩
  | 26 => ⟨S16640x1, .f32⟩
  | 27 => ⟨S16640x64, .f32⟩
  | 28 => ⟨S16640x64, .f32⟩
  | 29 => ⟨S16640x64, .f32⟩
  | 30 => ⟨S16640x64, .f32⟩
  | 31 => ⟨S_, .f32⟩
  | 32 => ⟨S3x64, .f32⟩
  | 33 => ⟨S16643x64, .f32⟩
  | 34 => ⟨S16640x64, .f32⟩
  | 35 => ⟨S_, .f32⟩
  | 36 => ⟨S16640x64, .f32⟩
  | 37 => ⟨S16640x64, .f32⟩
  | 38 => ⟨S16640x64, .f32⟩
  | 39 => ⟨S16640x64, .f32⟩
  | 40 => ⟨S16640x64, .f32⟩
  | 41 => ⟨S16640x64, .f32⟩
  | 42 => ⟨S16640x64, .f32⟩
  | 43 => ⟨S16640x64, .f32⟩
  | 44 => ⟨S_, .f32⟩
  | 45 => ⟨S16640x1, .f32⟩
  | 46 => ⟨S16640x1, .f32⟩
  | 47 => ⟨S_, .f32⟩
  | 48 => ⟨S16640x1, .f32⟩
  | 49 => ⟨S16640x1, .f32⟩
  | 50 => ⟨S_, .f32⟩
  | 51 => ⟨S16640x1, .f32⟩
  | 52 => ⟨S16640x1, .f32⟩
  | 53 => ⟨S16640x64, .f32⟩
  | 54 => ⟨S16640x64, .f32⟩
  | 55 => ⟨S16640x64, .f32⟩
  | 56 => ⟨S16640x64, .f32⟩
  | 57 => ⟨S_, .f32⟩
  | 58 => ⟨S7x64, .f32⟩
  | 59 => ⟨S16647x64, .f32⟩
  | 60 => ⟨S16640x64, .f32⟩
  | 61 => ⟨S_, .f32⟩
  | 62 => ⟨S16640x64, .f32⟩
  | 63 => ⟨S16640x64, .f32⟩
  | 64 => ⟨S16640x64, .f32⟩
  | 65 => ⟨S16640x64, .f32⟩
  | 66 => ⟨S16640x64, .f32⟩
  | 67 => ⟨S16640x64, .f32⟩
  | 68 => ⟨S16640x64, .f32⟩
  | 69 => ⟨S16640x64, .f32⟩
  | 70 => ⟨S16640x64, .f32⟩
  | 71 => ⟨S16640x64, .f32⟩
  | 72 => ⟨S16640x64, .f32⟩
  | 73 => ⟨S16640x64, .f32⟩
  | 74 => ⟨S16640x64, .f32⟩
  | 75 => ⟨S16640x64, .f32⟩
  | 76 => ⟨S16640x64, .f32⟩
  | 77 => ⟨S16640x64, .f32⟩
  | 78 => ⟨S_, .f32⟩
  | 79 => ⟨S16640x1, .f32⟩
  | 80 => ⟨S16640x1, .f32⟩
  | 81 => ⟨S_, .f32⟩
  | 82 => ⟨S16640x1, .f32⟩
  | 83 => ⟨S16640x1, .f32⟩
  | 84 => ⟨S_, .f32⟩
  | 85 => ⟨S16640x1, .f32⟩
  | 86 => ⟨S16640x1, .f32⟩
  | 87 => ⟨S16640x64, .f32⟩
  | 88 => ⟨S16640x64, .f32⟩
  | 89 => ⟨S16640x64, .f32⟩
  | 90 => ⟨S16640x64, .f32⟩
  | 91 => ⟨S_, .f32⟩
  | 92 => ⟨S15x64, .f32⟩
  | 93 => ⟨S16655x64, .f32⟩
  | 94 => ⟨S16640x64, .f32⟩
  | 95 => ⟨S_, .f32⟩
  | 96 => ⟨S16640x64, .f32⟩
  | 97 => ⟨S16640x64, .f32⟩
  | 98 => ⟨S16640x64, .f32⟩
  | 99 => ⟨S16640x64, .f32⟩
  | 100 => ⟨S16640x64, .f32⟩
  | 101 => ⟨S16640x64, .f32⟩
  | 102 => ⟨S16640x64, .f32⟩
  | 103 => ⟨S16640x64, .f32⟩
  | 104 => ⟨S16640x64, .f32⟩
  | 105 => ⟨S16640x64, .f32⟩
  | 106 => ⟨S16640x64, .f32⟩
  | 107 => ⟨S16640x64, .f32⟩
  | 108 => ⟨S16640x64, .f32⟩
  | 109 => ⟨S16640x64, .f32⟩
  | 110 => ⟨S16640x64, .f32⟩
  | 111 => ⟨S16640x64, .f32⟩
  | 112 => ⟨S16640x64, .f32⟩
  | 113 => ⟨S16640x64, .f32⟩
  | 114 => ⟨S16640x64, .f32⟩
  | 115 => ⟨S16640x64, .f32⟩
  | 116 => ⟨S16640x64, .f32⟩
  | 117 => ⟨S16640x64, .f32⟩
  | 118 => ⟨S16640x64, .f32⟩
  | 119 => ⟨S16640x64, .f32⟩
  | 120 => ⟨S16640x64, .f32⟩
  | 121 => ⟨S16640x64, .f32⟩
  | 122 => ⟨S16640x64, .f32⟩
  | 123 => ⟨S16640x64, .f32⟩
  | 124 => ⟨S16640x64, .f32⟩
  | 125 => ⟨S16640x64, .f32⟩
  | 126 => ⟨S16640x64, .f32⟩
  | 127 => ⟨S16640x64, .f32⟩
  | _ => ⟨S16640x768, .f32⟩

abbrev hbmTy0_1 (i : Nat) : BufTy := match i % 128 with
  | 0 => ⟨S_, .f32⟩
  | 1 => ⟨S16640x1, .f32⟩
  | 2 => ⟨S16640x1, .f32⟩
  | 3 => ⟨S_, .f32⟩
  | 4 => ⟨S16640x1, .f32⟩
  | 5 => ⟨S16640x1, .f32⟩
  | 6 => ⟨S_, .f32⟩
  | 7 => ⟨S16640x1, .f32⟩
  | 8 => ⟨S16640x1, .f32⟩
  | 9 => ⟨S16640x64, .f32⟩
  | 10 => ⟨S16640x64, .f32⟩
  | 11 => ⟨S16640x64, .f32⟩
  | 12 => ⟨S16640x256, .f32⟩
  | 13 => ⟨S16640x256, .bf16⟩
  | _ => ⟨S16640x768, .f32⟩

abbrev hbmTy (i : Nat) : BufTy := match i / 128 with
  | 0 => hbmTy0_0 i
  | 1 => hbmTy0_1 i
  | _ => ⟨S16640x768, .f32⟩

abbrev bufTy : (tb : Table) → Fin (tcTables nBuf tb) → BufTy
  | .hbm, ⟨i, _⟩ => hbmTy i
  | _, _ => ⟨S16640x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_4 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_5 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_6 : Ref sig .tc := ⟨.hbm, 44, rfl⟩
abbrev main_v35 : Ref sig .tc := ⟨.hbm, 45, rfl⟩
abbrev main_v36 : Ref sig .tc := ⟨.hbm, 46, rfl⟩
abbrev main_cst_7 : Ref sig .tc := ⟨.hbm, 47, rfl⟩
abbrev main_v37 : Ref sig .tc := ⟨.hbm, 48, rfl⟩
abbrev main_v38 : Ref sig .tc := ⟨.hbm, 49, rfl⟩
abbrev main_cst_8 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_9 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_10 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_11 : Ref sig .tc := ⟨.hbm, 78, rfl⟩
abbrev main_v64 : Ref sig .tc := ⟨.hbm, 79, rfl⟩
abbrev main_v65 : Ref sig .tc := ⟨.hbm, 80, rfl⟩
abbrev main_cst_12 : Ref sig .tc := ⟨.hbm, 81, rfl⟩
abbrev main_v66 : Ref sig .tc := ⟨.hbm, 82, rfl⟩
abbrev main_v67 : Ref sig .tc := ⟨.hbm, 83, rfl⟩
abbrev main_cst_13 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_cst_14 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_cst_15 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_cst_16 : Ref sig .tc := ⟨.hbm, 128, rfl⟩
abbrev main_v109 : Ref sig .tc := ⟨.hbm, 129, rfl⟩
abbrev main_v110 : Ref sig .tc := ⟨.hbm, 130, rfl⟩
abbrev main_cst_17 : Ref sig .tc := ⟨.hbm, 131, rfl⟩
abbrev main_v111 : Ref sig .tc := ⟨.hbm, 132, rfl⟩
abbrev main_v112 : Ref sig .tc := ⟨.hbm, 133, rfl⟩
abbrev main_cst_18 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩

abbrev nD : Nat := 1
abbrev τ : Topo := Topo.v7x

variable {F : FTy → Type} [FloatOps F]
-- ==== ConvFwd.lean ====
abbrev S16640x768 : Shape := ⟨2, ![16640, 768]⟩
abbrev S31x256 : Shape := ⟨2, ![31, 256]⟩
abbrev S256 : Shape := ⟨1, ![256]⟩
abbrev S1x256 : Shape := ⟨2, ![1, 256]⟩
abbrev S16640x256 : Shape := ⟨2, ![16640, 256]⟩
abbrev S640x256 : Shape := ⟨2, ![640, 256]⟩
abbrev S672x256 : Shape := ⟨2, ![672, 256]⟩
abbrev S8x672x256 : Shape := ⟨3, ![8, 672, 256]⟩
abbrev S32x256 : Shape := ⟨2, ![32, 256]⟩
abbrev S1x672x256 : Shape := ⟨3, ![1, 672, 256]⟩
abbrev S664x256 : Shape := ⟨2, ![664, 256]⟩
abbrev S1x664x256 : Shape := ⟨3, ![1, 664, 256]⟩
abbrev S1x640x256 : Shape := ⟨3, ![1, 640, 256]⟩
abbrev S640 : Shape := ⟨1, ![640]⟩
abbrev S640x1 : Shape := ⟨2, ![640, 1]⟩

abbrev nBuf : Space → Nat
  | .hbm => 9
  | .vmem => 12
  | .smem => 0
  | _ => 0

abbrev bufTy : (tb : Table) → Fin (tcTables nBuf tb) → BufTy
  | .hbm, ⟨0, _⟩ => ⟨S16640x768, .f32⟩
  | .hbm, ⟨1, _⟩ => ⟨S31x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S1x256, .f32⟩
  | .hbm, ⟨6, _⟩ => ⟨S1x256, .f32⟩
  | .hbm, ⟨7, _⟩ => ⟨S1x256, .f32⟩
  | .hbm, ⟨8, _⟩ => ⟨S16640x256, .bf16⟩
  | .local _ .vmem, ⟨0, _⟩ => ⟨S640x256, .f32⟩
  | .local _ .vmem, ⟨1, _⟩ => ⟨S640x256, .f32⟩
  | .local _ .vmem, ⟨2, _⟩ => ⟨S640x256, .f32⟩
  | .local _ .vmem, ⟨3, _⟩ => ⟨S640x256, .f32⟩
  | .local _ .vmem, ⟨4, _⟩ => ⟨S31x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S640x256, .bf16⟩
  | .local _ .vmem, ⟨9, _⟩ => ⟨S640x256, .bf16⟩
  | .local _ .vmem, ⟨10, _⟩ => ⟨S672x256, .f32⟩
  | .local _ .vmem, ⟨11, _⟩ => ⟨S8x672x256, .f32⟩
  | _, _ => ⟨S16640x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S31x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S640x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvFwdRefIdeal.lean ====
abbrev S16640x768 : Shape := ⟨2, ![16640, 768]⟩
abbrev S31x256 : Shape := ⟨2, ![31, 256]⟩
abbrev S256 : Shape := ⟨1, ![256]⟩
abbrev S16640x512 : Shape := ⟨2, ![16640, 512]⟩
abbrev S16640x256 : Shape := ⟨2, ![16640, 256]⟩
abbrev S_ : Shape := ⟨0, ![]⟩
abbrev S30x256 : Shape := ⟨2, ![30, 256]⟩
abbrev S16670x256 : Shape := ⟨2, ![16670, 256]⟩
abbrev S1x256 : Shape := ⟨2, ![1, 256]⟩
abbrev S16640 : Shape := ⟨1, ![16640]⟩
abbrev S16640x1 : Shape := ⟨2, ![16640, 1]⟩

abbrev nBuf : Space → Nat
  | .hbm => 276
  | .vmem => 0
  | .smem => 0
  | _ => 0

abbrev hbmTy0_0 (i : Nat) : BufTy := match i % 128 with
  | 0 => ⟨S16640x768, .f32⟩
  | 1 => ⟨S31x256, .f32⟩
  | 2 => ⟨S256, .f32⟩
  | 3 => ⟨S256, .f32⟩
  | 4 => ⟨S256, .f32⟩
  | 5 => ⟨S16640x512, .f32⟩
  | 6 => ⟨S16640x256, .f32⟩
  | 7 => ⟨S16640x256, .f32⟩
  | 8 => ⟨S16640x256, .f32⟩
  | 9 => ⟨S16640x256, .f32⟩
  | 10 => ⟨S_, .f32⟩
  | 11 => ⟨S16640x256, .f32⟩
  | 12 => ⟨S16640x256, .f32⟩
  | 13 => ⟨S_, .f32⟩
  | 14 => ⟨S16640x256, .f32⟩
  | 15 => ⟨S16640x256, .f32⟩
  | 16 => ⟨S16640x256, .f32⟩
  | 17 => ⟨S_, .f32⟩
  | 18 => ⟨S30x256, .f32⟩
  | 19 => ⟨S16670x256, .f32⟩
  | 20 => ⟨S16640x256, .f32⟩
  | 21 => ⟨S1x256, .f32⟩
  | 22 => ⟨S256, .f32⟩
  | 23 => ⟨S1x256, .f32⟩
  | 24 => ⟨S16640x256, .f32⟩
  | 25 => ⟨S16640x256, .f32⟩
  | 26 => ⟨S16640x256, .f32⟩
  | 27 => ⟨S1x256, .f32⟩
  | 28 => ⟨S256, .f32⟩
  | 29 => ⟨S1x256, .f32⟩
  | 30 => ⟨S16640x256, .f32⟩
  | 31 => ⟨S16640x256, .f32⟩
  | 32 => ⟨S16640x256, .f32⟩
  | 33 => ⟨S16640x256, .f32⟩
  | 34 => ⟨S1x256, .f32⟩
  | 35 => ⟨S256, .f32⟩
  | 36 => ⟨S1x256, .f32⟩
  | 37 => ⟨S16640x256, .f32⟩
  | 38 => ⟨S16640x256, .f32⟩
  | 39 => ⟨S16640x256, .f32⟩
  | 40 => ⟨S16640x256, .f32⟩
  | 41 => ⟨S1x256, .f32⟩
  | 42 => ⟨S256, .f32⟩
  | 43 => ⟨S1x256, .f32⟩
  | 44 => ⟨S16640x256, .f32⟩
  | 45 => ⟨S16640x256, .f32⟩
  | 46 => ⟨S16640x256, .f32⟩
  | 47 => ⟨S16640x256, .f32⟩
  | 48 => ⟨S1x256, .f32⟩
  | 49 => ⟨S256, .f32⟩
  | 50 => ⟨S1x256, .f32⟩
  | 51 => ⟨S16640x256, .f32⟩
  | 52 => ⟨S16640x256, .f32⟩
  | 53 => ⟨S16640x256, .f32⟩
  | 54 => ⟨S16640x256, .f32⟩
  | 55 => ⟨S1x256, .f32⟩
  | 56 => ⟨S256, .f32⟩
  | 57 => ⟨S1x256, .f32⟩
  | 58 => ⟨S16640x256, .f32⟩
  | 59 => ⟨S16640x256, .f32⟩
  | 60 => ⟨S16640x256, .f32⟩
  | 61 => ⟨S16640x256, .f32⟩
  | 62 => ⟨S1x256, .f32⟩
  | 63 => ⟨S256, .f32⟩
  | 64 => ⟨S1x256, .f32⟩
  | 65 => ⟨S16640x256, .f32⟩
  | 66 => ⟨S16640x256, .f32⟩
  | 67 => ⟨S16640x256, .f32⟩
  | 68 => ⟨S16640x256, .f32⟩
  | 69 => ⟨S1x256, .f32⟩
  | 70 => ⟨S256, .f32⟩
  | 71 => ⟨S1x256, .f32⟩
  | 72 => ⟨S16640x256, .f32⟩
  | 73 => ⟨S16640x256, .f32⟩
  | 74 => ⟨S16640x256, .f32⟩
  | 75 => ⟨S16640x256, .f32⟩
  | 76 => ⟨S1x256, .f32⟩
  | 77 => ⟨S256, .f32⟩
  | 78 => ⟨S1x256, .f32⟩
  | 79 => ⟨S16640x256, .f32⟩
  | 80 => ⟨S16640x256, .f32⟩
  | 81 => ⟨S16640x256, .f32⟩
  | 82 => ⟨S16640x256, .f32⟩
  | 83 => ⟨S1x256, .f32⟩
  | 84 => ⟨S256, .f32⟩
  | 85 => ⟨S1x256, .f32⟩
  | 86 => ⟨S16640x256, .f32⟩
  | 87 => ⟨S16640x256, .f32⟩
  | 88 => ⟨S16640x256, .f32⟩
  | 89 => ⟨S16640x256, .f32⟩
  | 90 => ⟨S1x256, .f32⟩
  | 91 => ⟨S256, .f32⟩
  | 92 => ⟨S1x256, .f32⟩
  | 93 => ⟨S16640x256, .f32⟩
  | 94 => ⟨S16640x256, .f32⟩
  | 95 => ⟨S16640x256, .f32⟩
  | 96 => ⟨S16640x256, .f32⟩
  | 97 => ⟨S1x256, .f32⟩
  | 98 => ⟨S256, .f32⟩
  | 99 => ⟨S1x256, .f32⟩
  | 100 => ⟨S16640x256, .f32⟩
  | 101 => ⟨S16640x256, .f32⟩
  | 102 => ⟨S16640x256, .f32⟩
  | 103 => ⟨S16640x256, .f32⟩
  | 104 => ⟨S1x256, .f32⟩
  | 105 => ⟨S256, .f32⟩
  | 106 => ⟨S1x256, .f32⟩
  | 107 => ⟨S16640x256, .f32⟩
  | 108 => ⟨S16640x256, .f32⟩
  | 109 => ⟨S16640x256, .f32⟩
  | 110 => ⟨S16640x256, .f32⟩
  | 111 => ⟨S1x256, .f32⟩
  | 112 => ⟨S256, .f32⟩
  | 113 => ⟨S1x256, .f32⟩
  | 114 => ⟨S16640x256, .f32⟩
  | 115 => ⟨S16640x256, .f32⟩
  | 116 => ⟨S16640x256, .f32⟩
  | 117 => ⟨S16640x256, .f32⟩
  | 118 => ⟨S1x256, .f32⟩
  | 119 => ⟨S256, .f32⟩
  | 120 => ⟨S1x256, .f32⟩
  | 121 => ⟨S16640x256, .f32⟩
  | 122 => ⟨S16640x256, .f32⟩
  | 123 => ⟨S16640x256, .f32⟩
  | 124 => ⟨S16640x256, .f32⟩
  | 125 => ⟨S1x256, .f32⟩
  | 126 => ⟨S256, .f32⟩
  | 127 => ⟨S1x256, .f32⟩
  | _ => ⟨S16640x768, .f32⟩

abbrev hbmTy0_1 (i : Nat) : BufTy := match i % 128 with
  | 0 => ⟨S16640x256, .f32⟩
  | 1 => ⟨S16640x256, .f32⟩
  | 2 => ⟨S16640x256, .f32⟩
  | 3 => ⟨S16640x256, .f32⟩
  | 4 => ⟨S1x256, .f32⟩
  | 5 => ⟨S256, .f32⟩
  | 6 => ⟨S1x256, .f32⟩
  | 7 => ⟨S16640x256, .f32⟩
  | 8 => ⟨S16640x256, .f32⟩
  | 9 => ⟨S16640x256, .f32⟩
  | 10 => ⟨S16640x256, .f32⟩
  | 11 => ⟨S1x256, .f32⟩
  | 12 => ⟨S256, .f32⟩
  | 13 => ⟨S1x256, .f32⟩
  | 14 => ⟨S16640x256, .f32⟩
  | 15 => ⟨S16640x256, .f32⟩
  | 16 => ⟨S16640x256, .f32⟩
  | 17 => ⟨S16640x256, .f32⟩
  | 18 => ⟨S1x256, .f32⟩
  | 19 => ⟨S256, .f32⟩
  | 20 => ⟨S1x256, .f32⟩
  | 21 => ⟨S16640x256, .f32⟩
  | 22 => ⟨S16640x256, .f32⟩
  | 23 => ⟨S16640x256, .f32⟩
  | 24 => ⟨S16640x256, .f32⟩
  | 25 => ⟨S1x256, .f32⟩
  | 26 => ⟨S256, .f32⟩
  | 27 => ⟨S1x256, .f32⟩
  | 28 => ⟨S16640x256, .f32⟩
  | 29 => ⟨S16640x256, .f32⟩
  | 30 => ⟨S16640x256, .f32⟩
  | 31 => ⟨S16640x256, .f32⟩
  | 32 => ⟨S1x256, .f32⟩
  | 33 => ⟨S256, .f32⟩
  | 34 => ⟨S1x256, .f32⟩
  | 35 => ⟨S16640x256, .f32⟩
  | 36 => ⟨S16640x256, .f32⟩
  | 37 => ⟨S16640x256, .f32⟩
  | 38 => ⟨S16640x256, .f32⟩
  | 39 => ⟨S1x256, .f32⟩
  | 40 => ⟨S256, .f32⟩
  | 41 => ⟨S1x256, .f32⟩
  | 42 => ⟨S16640x256, .f32⟩
  | 43 => ⟨S16640x256, .f32⟩
  | 44 => ⟨S16640x256, .f32⟩
  | 45 => ⟨S16640x256, .f32⟩
  | 46 => ⟨S1x256, .f32⟩
  | 47 => ⟨S256, .f32⟩
  | 48 => ⟨S1x256, .f32⟩
  | 49 => ⟨S16640x256, .f32⟩
  | 50 => ⟨S16640x256, .f32⟩
  | 51 => ⟨S16640x256, .f32⟩
  | 52 => ⟨S16640x256, .f32⟩
  | 53 => ⟨S1x256, .f32⟩
  | 54 => ⟨S256, .f32⟩
  | 55 => ⟨S1x256, .f32⟩
  | 56 => ⟨S16640x256, .f32⟩
  | 57 => ⟨S16640x256, .f32⟩
  | 58 => ⟨S16640x256, .f32⟩
  | 59 => ⟨S16640x256, .f32⟩
  | 60 => ⟨S1x256, .f32⟩
  | 61 => ⟨S256, .f32⟩
  | 62 => ⟨S1x256, .f32⟩
  | 63 => ⟨S16640x256, .f32⟩
  | 64 => ⟨S16640x256, .f32⟩
  | 65 => ⟨S16640x256, .f32⟩
  | 66 => ⟨S16640x256, .f32⟩
  | 67 => ⟨S1x256, .f32⟩
  | 68 => ⟨S256, .f32⟩
  | 69 => ⟨S1x256, .f32⟩
  | 70 => ⟨S16640x256, .f32⟩
  | 71 => ⟨S16640x256, .f32⟩
  | 72 => ⟨S16640x256, .f32⟩
  | 73 => ⟨S16640x256, .f32⟩
  | 74 => ⟨S1x256, .f32⟩
  | 75 => ⟨S256, .f32⟩
  | 76 => ⟨S1x256, .f32⟩
  | 77 => ⟨S16640x256, .f32⟩
  | 78 => ⟨S16640x256, .f32⟩
  | 79 => ⟨S16640x256, .f32⟩
  | 80 => ⟨S16640x256, .f32⟩
  | 81 => ⟨S1x256, .f32⟩
  | 82 => ⟨S256, .f32⟩
  | 83 => ⟨S1x256, .f32⟩
  | 84 => ⟨S16640x256, .f32⟩
  | 85 => ⟨S16640x256, .f32⟩
  | 86 => ⟨S16640x256, .f32⟩
  | 87 => ⟨S16640x256, .f32⟩
  | 88 => ⟨S1x256, .f32⟩
  | 89 => ⟨S256, .f32⟩
  | 90 => ⟨S1x256, .f32⟩
  | 91 => ⟨S16640x256, .f32⟩
  | 92 => ⟨S16640x256, .f32⟩
  | 93 => ⟨S16640x256, .f32⟩
  | 94 => ⟨S16640x256, .f32⟩
  | 95 => ⟨S1x256, .f32⟩
  | 96 => ⟨S256, .f32⟩
  | 97 => ⟨S1x256, .f32⟩
  | 98 => ⟨S16640x256, .f32⟩
  | 99 => ⟨S16640x256, .f32⟩
  | 100 => ⟨S16640x256, .f32⟩
  | 101 => ⟨S16640x256, .f32⟩
  | 102 => ⟨S1x256, .f32⟩
  | 103 => ⟨S256, .f32⟩
  | 104 => ⟨S1x256, .f32⟩
  | 105 => ⟨S16640x256, .f32⟩
  | 106 => ⟨S16640x256, .f32⟩
  | 107 => ⟨S16640x256, .f32⟩
  | 108 => ⟨S1x256, .f32⟩
  | 109 => ⟨S16640x256, .f32⟩
  | 110 => ⟨S16640x256, .f32⟩
  | 111 => ⟨S_, .f32⟩
  | 112 => ⟨S16640, .f32⟩
  | 113 => ⟨S16640x1, .f32⟩
  | 114 => ⟨S_, .f32⟩
  | 115 => ⟨S16640x1, .f32⟩
  | 116 => ⟨S16640x1, .f32⟩
  | 117 => ⟨S16640x256, .f32⟩
  | 118 => ⟨S16640x256, .f32⟩
  | 119 => ⟨S16640x256, .f32⟩
  | 120 => ⟨S_, .f32⟩
  | 121 => ⟨S16640, .f32⟩
  | 122 => ⟨S16640x1, .f32⟩
  | 123 => ⟨S_, .f32⟩
  | 124 => ⟨S16640x1, .f32⟩
  | 125 => ⟨S16640x1, .f32⟩
  | 126 => ⟨S_, .f32⟩
  | 127 => ⟨S16640x1, .f32⟩
  | _ => ⟨S16640x768, .f32⟩

abbrev hbmTy0_2 (i : Nat) : BufTy := match i % 128 with
  | 0 => ⟨S16640x1, .f32⟩
  | 1 => ⟨S16640x1, .f32⟩
  | 2 => ⟨S16640x256, .f32⟩
  | 3 => ⟨S16640x256, .f32⟩
  | 4 => ⟨S1x256, .f32⟩
  | 5 => ⟨S16640x256, .f32⟩
  | 6 => ⟨S16640x256, .f32⟩
  | 7 => ⟨S1x256, .f32⟩
  | 8 => ⟨S16640x256, .f32⟩
  | 9 => ⟨S16640x256, .f32⟩
  | 10 => ⟨S16640x256, .f32⟩
  | 11 => ⟨S16640x256, .f32⟩
  | 12 => ⟨S_, .f32⟩
  | 13 => ⟨S16640x256, .f32⟩
  | 14 => ⟨S16640x256, .f32⟩
  | 15 => ⟨S_, .f32⟩
  | 16 => ⟨S16640x256, .f32⟩
  | 17 => ⟨S16640x256, .f32⟩
  | 18 => ⟨S16640x256, .f32⟩
  | 19 => ⟨S16640x256, .bf16⟩
  | _ => ⟨S16640x768, .f32⟩

abbrev hbmTy (i : Nat) : BufTy := match i / 128 with
  | 0 => hbmTy0_0 i
  | 1 => hbmTy0_1 i
  | 2 => hbmTy0_2 i
  | _ => ⟨S16640x768, .f32⟩

abbrev bufTy : (tb : Table) → Fin (tcTables nBuf tb) → BufTy
  | .hbm, ⟨i, _⟩ => hbmTy i
  | _, _ => ⟨S16640x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_v173 : Ref sig .tc := ⟨.hbm, 181, rfl⟩
abbrev main_v174 : Ref sig .tc := ⟨.hbm, 182, rfl⟩
abbrev main_v175 : Ref sig .tc := ⟨.hbm, 183, rfl⟩
abbrev main_v176 : Ref sig .tc := ⟨.hbm, 184, rfl⟩
abbrev main_v177 : Ref sig .tc := ⟨.hbm, 185, rfl⟩
abbrev main_v178 : Ref sig .tc := ⟨.hbm, 186, rfl⟩
abbrev main_v179 : Ref sig .tc := ⟨.hbm, 187, rfl⟩
abbrev main_v180 : Ref sig .tc := ⟨.hbm, 188, rfl⟩
abbrev main_v181 : Ref sig .tc := ⟨.hbm, 189, rfl⟩
abbrev main_v182 : Ref sig .tc := ⟨.hbm, 190, rfl⟩
abbrev main_v183 : Ref sig .tc := ⟨.hbm, 191, rfl⟩
abbrev main_v184 : Ref sig .tc := ⟨.hbm, 192, rfl⟩
abbrev main_v185 : Ref sig .tc := ⟨.hbm, 193, rfl⟩
abbrev main_v186 : Ref sig .tc := ⟨.hbm, 194, rfl⟩
abbrev main_v187 : Ref sig .tc := ⟨.hbm, 195, rfl⟩
abbrev main_v188 : Ref sig .tc := ⟨.hbm, 196, rfl⟩
abbrev main_v189 : Ref sig .tc := ⟨.hbm, 197, rfl⟩
abbrev main_v190 : Ref sig .tc := ⟨.hbm, 198, rfl⟩
abbrev main_v191 : Ref sig .tc := ⟨.hbm, 199, rfl⟩
abbrev main_v192 : Ref sig .tc := ⟨.hbm, 200, rfl⟩
abbrev main_v193 : Ref sig .tc := ⟨.hbm, 201, rfl⟩
abbrev main_v194 : Ref sig .tc := ⟨.hbm, 202, rfl⟩
abbrev main_v195 : Ref sig .tc := ⟨.hbm, 203, rfl⟩
abbrev main_v196 : Ref sig .tc := ⟨.hbm, 204, rfl⟩
abbrev main_v197 : Ref sig .tc := ⟨.hbm, 205, rfl⟩
abbrev main_v198 : Ref sig .tc := ⟨.hbm, 206, rfl⟩
abbrev main_v199 : Ref sig .tc := ⟨.hbm, 207, rfl⟩
abbrev main_v200 : Ref sig .tc := ⟨.hbm, 208, rfl⟩
abbrev main_v201 : Ref sig .tc := ⟨.hbm, 209, rfl⟩
abbrev main_v202 : Ref sig .tc := ⟨.hbm, 210, rfl⟩
abbrev main_v203 : Ref sig .tc := ⟨.hbm, 211, rfl⟩
abbrev main_v204 : Ref sig .tc := ⟨.hbm, 212, rfl⟩
abbrev main_v205 : Ref sig .tc := ⟨.hbm, 213, rfl⟩
abbrev main_v206 : Ref sig .tc := ⟨.hbm, 214, rfl⟩
abbrev main_v207 : Ref sig .tc := ⟨.hbm, 215, rfl⟩
abbrev main_v208 : Ref sig .tc := ⟨.hbm, 216, rfl⟩
abbrev main_v209 : Ref sig .tc := ⟨.hbm, 217, rfl⟩
abbrev main_v210 : Ref sig .tc := ⟨.hbm, 218, rfl⟩
abbrev main_v211 : Ref sig .tc := ⟨.hbm, 219, rfl⟩
abbrev main_v212 : Ref sig .tc := ⟨.hbm, 220, rfl⟩
abbrev main_v213 : Ref sig .tc := ⟨.hbm, 221, rfl⟩
abbrev main_v214 : Ref sig .tc := ⟨.hbm, 222, rfl⟩
abbrev main_v215 : Ref sig .tc := ⟨.hbm, 223, rfl⟩
abbrev main_v216 : Ref sig .tc := ⟨.hbm, 224, rfl⟩
abbrev main_v217 : Ref sig .tc := ⟨.hbm, 225, rfl⟩
abbrev main_v218 : Ref sig .tc := ⟨.hbm, 226, rfl⟩
abbrev main_v219 : Ref sig .tc := ⟨.hbm, 227, rfl⟩
abbrev main_v220 : Ref sig .tc := ⟨.hbm, 228, rfl⟩
abbrev main_v221 : Ref sig .tc := ⟨.hbm, 229, rfl⟩
abbrev main_v222 : Ref sig .tc := ⟨.hbm, 230, rfl⟩
abbrev main_v223 : Ref sig .tc := ⟨.hbm, 231, rfl⟩
abbrev main_v224 : Ref sig .tc := ⟨.hbm, 232, rfl⟩
abbrev main_v225 : Ref sig .tc := ⟨.hbm, 233, rfl⟩
abbrev main_v226 : Ref sig .tc := ⟨.hbm, 234, rfl⟩
abbrev main_v227 : Ref sig .tc := ⟨.hbm, 235, rfl⟩
abbrev main_v228 : Ref sig .tc := ⟨.hbm, 236, rfl⟩
abbrev main_v229 : Ref sig .tc := ⟨.hbm, 237, rfl⟩
abbrev main_v230 : Ref sig .tc := ⟨.hbm, 238, rfl⟩
abbrev main_cst_2 : Ref sig .tc := ⟨.hbm, 239, rfl⟩
abbrev main_v231 : Ref sig .tc := ⟨.hbm, 240, rfl⟩
abbrev main_v232 : Ref sig .tc := ⟨.hbm, 241, rfl⟩
abbrev main_cst_3 : Ref sig .tc := ⟨.hbm, 242, rfl⟩
abbrev main_v233 : Ref sig .tc := ⟨.hbm, 243, rfl⟩
abbrev main_v234 : Ref sig .tc := ⟨.hbm, 244, rfl⟩
abbrev main_v235 : Ref sig .tc := ⟨.hbm, 245, rfl⟩
abbrev main_v236 : Ref sig .tc := ⟨.hbm, 246, rfl⟩
abbrev main_v237 : Ref sig .tc := ⟨.hbm, 247, rfl⟩
abbrev main_cst_4 : Ref sig .tc := ⟨.hbm, 248, rfl⟩
abbrev main_v238 : Ref sig .tc := ⟨.hbm, 249, rfl⟩
abbrev main_v239 : Ref sig .tc := ⟨.hbm, 250, rfl⟩
abbrev main_cst_5 : Ref sig .tc := ⟨.hbm, 251, rfl⟩
abbrev main_v240 : Ref sig .tc := ⟨.hbm, 252, rfl⟩
abbrev main_v241 : Ref sig .tc := ⟨.hbm, 253, rfl⟩
abbrev main_cst_6 : Ref sig .tc := ⟨.hbm, 254, rfl⟩
abbrev main_v242 : Ref sig .tc := ⟨.hbm, 255, rfl⟩
abbrev main_v243 : Ref sig .tc := ⟨.hbm, 256, rfl⟩
abbrev main_v244 : Ref sig .tc := ⟨.hbm, 257, rfl⟩
abbrev main_v245 : Ref sig .tc := ⟨.hbm, 258, rfl⟩
abbrev main_v246 : Ref sig .tc := ⟨.hbm, 259, rfl⟩
abbrev main_v247 : Ref sig .tc := ⟨.hbm, 260, rfl⟩
abbrev main_v248 : Ref sig .tc := ⟨.hbm, 261, rfl⟩
abbrev main_v249 : Ref sig .tc := ⟨.hbm, 262, rfl⟩
abbrev main_v250 : Ref sig .tc := ⟨.hbm, 263, rfl⟩
abbrev main_v251 : Ref sig .tc := ⟨.hbm, 264, rfl⟩
abbrev main_v252 : Ref sig .tc := ⟨.hbm, 265, rfl⟩
abbrev main_call0_v0 : Ref sig .tc := ⟨.hbm, 266, rfl⟩
abbrev main_call0_v1 : Ref sig .tc := ⟨.hbm, 267, rfl⟩
abbrev main_call0_cst : Ref sig .tc := ⟨.hbm, 268, rfl⟩
abbrev main_call0_v2 : Ref sig .tc := ⟨.hbm, 269, rfl⟩
abbrev main_call0_v3 : Ref sig .tc := ⟨.hbm, 270, rfl⟩
abbrev main_call0_cst_0 : Ref sig .tc := ⟨.hbm, 271, rfl⟩
abbrev main_call0_v4 : Ref sig .tc := ⟨.hbm, 272, rfl⟩
abbrev main_call0_v5 : Ref sig .tc := ⟨.hbm, 273, rfl⟩
abbrev main_v253 : Ref sig .tc := ⟨.hbm, 274, rfl⟩
abbrev main_v254 : Ref sig .tc := ⟨.hbm, 275, rfl⟩

abbrev nD : Nat := 1
abbrev τ : Topo := Topo.v7x

variable {F : FTy → Type} [FloatOps F]
-- ==== Ffn.lean ====
abbrev S16640x3072 : Shape := ⟨2, ![16640, 3072]⟩
abbrev S3x3072 : Shape := ⟨2, ![3, 3072]⟩
abbrev S3072 : Shape := ⟨1, ![3072]⟩
abbrev S1x3072 : Shape := ⟨2, ![1, 3072]⟩
abbrev S640x512 : Shape := ⟨2, ![640, 512]⟩
abbrev S3x512 : Shape := ⟨2, ![3, 512]⟩
abbrev S1x512 : Shape := ⟨2, ![1, 512]⟩
abbrev S648x512 : Shape := ⟨2, ![648, 512]⟩
abbrev S8x512 : Shape := ⟨2, ![8, 512]⟩
abbrev S40x512 : Shape := ⟨2, ![40, 512]⟩
abbrev S32x512 : Shape := ⟨2, ![32, 512]⟩

abbrev nBuf : Space → Nat
  | .hbm => 11
  | .vmem => 20
  | .smem => 0
  | _ => 0

abbrev bufTy : (tb : Table) → Fin (tcTables nBuf tb) → BufTy
  | .hbm, ⟨0, _⟩ => ⟨S16640x3072, .bf16⟩
  | .hbm, ⟨1, _⟩ => ⟨S16640x3072, .bf16⟩
  | .hbm, ⟨2, _⟩ => ⟨S3x3072, .f32⟩
  | .hbm, ⟨3, _⟩ => ⟨S3x3072, .f32⟩
  | .hbm, ⟨4, _⟩ => ⟨S3072, .f32⟩
  | .hbm, ⟨5, _⟩ => ⟨S3072, .f32⟩
  | .hbm, ⟨6, _⟩ => ⟨S1x3072, .f32⟩
  | .hbm, ⟨7, _⟩ => ⟨S1x3072, .f32⟩
  | .hbm, ⟨8, _⟩ => ⟨S16640x3072, .bf16⟩
  | .hbm, ⟨9, _⟩ => ⟨S16640x3072, .bf16⟩
  | .hbm, ⟨10, _⟩ => ⟨S16640x3072, .bf16⟩
  | .local _ .vmem, ⟨0, _⟩ => ⟨S640x512, .bf16⟩
  | .local _ .vmem, ⟨1, _⟩ => ⟨S640x512, .bf16⟩
  | .local _ .vmem, ⟨2, _⟩ => ⟨S640x512, .bf16⟩
  | .local _ .vmem, ⟨3, _⟩ => ⟨S640x512, .bf16⟩
  | .local _ .vmem, ⟨4, _⟩ => ⟨S3x512, .f32⟩
  | .local _ .vmem, ⟨5, _⟩ => ⟨S3x512, .f32⟩
  | .local _ .vmem, ⟨6, _⟩ => ⟨S3x512, .f32⟩
  | .local _ .vmem, ⟨7, _⟩ => ⟨S3x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S640x512, .bf16⟩
  | .local _ .vmem, ⟨13, _⟩ => ⟨S640x512, .bf16⟩
  | .local _ .vmem, ⟨14, _⟩ => ⟨S640x512, .bf16⟩
  | .local _ .vmem, ⟨15, _⟩ => ⟨S640x512, .bf16⟩
  | .local _ .vmem, ⟨16, _⟩ => ⟨S640x512, .bf16⟩
  | .local _ .vmem, ⟨17, _⟩ => ⟨S640x512, .bf16⟩
  | .local _ .vmem, ⟨18, _⟩ => ⟨S648x512, .f32⟩
  | .local _ .vmem, ⟨19, _⟩ => ⟨S648x512, .f32⟩
  | _, _ => ⟨S16640x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![6, 26], ![false, false]⟩

@[reducible] def k0_t1_loop : Scf.Loop 32 :=
  let c0_i32_21 : BitVec 32 := 0#32
  let c20_i32 : BitVec 32 := 20#32
  let v28 : BitVec 32 := Scalar.addi c0_i32_21 c20_i32
  let c1_i32 : BitVec 32 := 1#32
  ⟨c0_i32_21, v28, c1_i32⟩
def k0_mult1 (k0_t1 : Fin k0_t1_loop.trips) : BitVec 32 :=
  let c0_i32_21 : BitVec 32 := 0#32
  let c1_i32 : BitVec 32 := 1#32
  let arg13 : BitVec 32 := Scf.iv c0_i32_21 c1_i32 k0_t1
  let c32_i32 : BitVec 32 := 32#32
  let v29 : BitVec 32 := Scalar.muli arg13 c32_i32
  v29
def k0_off1 (k0_t1 : Fin k0_t1_loop.trips) : Fin 2 → Nat :=
  let c0_i32_21 : BitVec 32 := 0#32
  let c1_i32 : BitVec 32 := 1#32
  let arg13 : BitVec 32 := Scf.iv c0_i32_21 c1_i32 k0_t1
  let c32_i32 : BitVec 32 := 32#32
  let v29 : BitVec 32 := Scalar.muli arg13 c32_i32
  let v30 : BitVec 32 := v29
  let v31 : Index := Scalar.indexCast v30
  let c0_23 : Index := 0#32
  ![v31.toNat, 0]
def k0_off2 (k0_t1 : Fin k0_t1_loop.trips) : Fin 2 → Nat :=
  let c0_i32_21 : BitVec 32 := 0#32
  let c1_i32 : BitVec 32 := 1#32
  let arg13 : BitVec 32 := Scf.iv c0_i32_21 c1_i32 k0_t1
  let c32_i32 : BitVec 32 := 32#32
  let v29 : BitVec 32 := Scalar.muli arg13 c32_i32
  let v30 : BitVec 32 := v29
  let v86 : Index := Scalar.indexCast v30
  let c0_31 : Index := 0#32
  ![v86.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S640x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S640x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S640x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S640x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FfnRefIdeal.lean ====
abbrev S16640x3072 : Shape := ⟨2, ![16640, 3072]⟩
abbrev S3x3072 : Shape := ⟨2, ![3, 3072]⟩
abbrev S3072 : Shape := ⟨1, ![3072]⟩
abbrev S_ : Shape := ⟨0, ![]⟩
abbrev S2x3072 : Shape := ⟨2, ![2, 3072]⟩
abbrev S16642x3072 : Shape := ⟨2, ![16642, 3072]⟩
abbrev S1x3072 : Shape := ⟨2, ![1, 3072]⟩

abbrev nBuf : Space → Nat
  | .hbm => 81
  | .vmem => 0
  | .smem => 0
  | _ => 0

abbrev bufTy : (tb : Table) → Fin (tcTables nBuf tb) → BufTy
  | .hbm, ⟨0, _⟩ => ⟨S16640x3072, .bf16⟩
  | .hbm, ⟨1, _⟩ => ⟨S16640x3072, .bf16⟩
  | .hbm, ⟨2, _⟩ => ⟨S3x3072, .f32⟩
  | .hbm, ⟨3, _⟩ => ⟨S3x3072, .f32⟩
  | .hbm, ⟨4, _⟩ => ⟨S3072, .f32⟩
  | .hbm, ⟨5, _⟩ => ⟨S3072, .f32⟩
  | .hbm, ⟨6, _⟩ => ⟨S16640x3072, .f32⟩
  | .hbm, ⟨7, _⟩ => ⟨S_, .f32⟩
  | .hbm, ⟨8, _⟩ => ⟨S2x3072, .f32⟩
  | .hbm, ⟨9, _⟩ => ⟨S16642x3072, .f32⟩
  | .hbm, ⟨10, _⟩ => ⟨S16640x3072, .f32⟩
  | .hbm, ⟨11, _⟩ => ⟨S1x3072, .f32⟩
  | .hbm, ⟨12, _⟩ => ⟨S3072, .f32⟩
  | .hbm, ⟨13, _⟩ => ⟨S1x3072, .f32⟩
  | .hbm, ⟨14, _⟩ => ⟨S16640x3072, .f32⟩
  | .hbm, ⟨15, _⟩ => ⟨S16640x3072, .f32⟩
  | .hbm, ⟨16, _⟩ => ⟨S16640x3072, .f32⟩
  | .hbm, ⟨17, _⟩ => ⟨S1x3072, .f32⟩
  | .hbm, ⟨18, _⟩ => ⟨S3072, .f32⟩
  | .hbm, ⟨19, _⟩ => ⟨S1x3072, .f32⟩
  | .hbm, ⟨20, _⟩ => ⟨S16640x3072, .f32⟩
  | .hbm, ⟨21, _⟩ => ⟨S16640x3072, .f32⟩
  | .hbm, ⟨22, _⟩ => ⟨S16640x3072, .f32⟩
  | .hbm, ⟨23, _⟩ => ⟨S16640x3072, .f32⟩
  | .hbm, ⟨24, _⟩ => ⟨S1x3072, .f32⟩
  | .hbm, ⟨25, _⟩ => ⟨S3072, .f32⟩
  | .hbm, ⟨26, _⟩ => ⟨S1x3072, .f32⟩
  | .hbm, ⟨27, _⟩ => ⟨S16640x3072, .f32⟩
  | .hbm, ⟨28, _⟩ => ⟨S16640x3072, .f32⟩
  | .hbm, ⟨29, _⟩ => ⟨S16640x3072, .f32⟩
  | .hbm, ⟨30, _⟩ => ⟨S1x3072, .f32⟩
  | .hbm, ⟨31, _⟩ => ⟨S16640x3072, .f32⟩
  | .hbm, ⟨32, _⟩ => ⟨S16640x3072, .f32⟩
  | .hbm, ⟨33, _⟩ => ⟨S16640x3072, .f32⟩
  | .hbm, ⟨34, _⟩ => ⟨S_, .f32⟩
  | .hbm, ⟨35, _⟩ => ⟨S2x3072, .f32⟩
  | .hbm, ⟨36, _⟩ => ⟨S16642x3072, .f32⟩
  | .hbm, ⟨37, _⟩ => ⟨S16640x3072, .f32⟩
  | .hbm, ⟨38, _⟩ => ⟨S1x3072, .f32⟩
  | .hbm, ⟨39, _⟩ => ⟨S3072, .f32⟩
  | .hbm, ⟨40, _⟩ => ⟨S1x3072, .f32⟩
  | .hbm, ⟨41, _⟩ => ⟨S16640x3072, .f32⟩
  | .hbm, ⟨42, _⟩ => ⟨S16640x3072, .f32⟩
  | .hbm, ⟨43, _⟩ => ⟨S16640x3072, .f32⟩
  | .hbm, ⟨44, _⟩ => ⟨S1x3072, .f32⟩
  | .hbm, ⟨45, _⟩ => ⟨S3072, .f32⟩
  | .hbm, ⟨46, _⟩ => ⟨S1x3072, .f32⟩
  | .hbm, ⟨47, _⟩ => ⟨S16640x3072, .f32⟩
  | .hbm, ⟨48, _⟩ => ⟨S16640x3072, .f32⟩
  | .hbm, ⟨49, _⟩ => ⟨S16640x3072, .f32⟩
  | .hbm, ⟨50, _⟩ => ⟨S16640x3072, .f32⟩
  | .hbm, ⟨51, _⟩ => ⟨S1x3072, .f32⟩
  | .hbm, ⟨52, _⟩ => ⟨S3072, .f32⟩
  | .hbm, ⟨53, _⟩ => ⟨S1x3072, .f32⟩
  | .hbm, ⟨54, _⟩ => ⟨S16640x3072, .f32⟩
  | .hbm, ⟨55, _⟩ => ⟨S16640x3072, .f32⟩
  | .hbm, ⟨56, _⟩ => ⟨S16640x3072, .f32⟩
  | .hbm, ⟨57, _⟩ => ⟨S1x3072, .f32⟩
  | .hbm, ⟨58, _⟩ => ⟨S16640x3072, .f32⟩
  | .hbm, ⟨59, _⟩ => ⟨S16640x3072, .f32⟩
  | .hbm, ⟨60, _⟩ => ⟨S16640x3072, .f32⟩
  | .hbm, ⟨61, _⟩ => ⟨S16640x3072, .f32⟩
  | .hbm, ⟨62, _⟩ => ⟨S_, .f32⟩
  | .hbm, ⟨63, _⟩ => ⟨S16640x3072, .f32⟩
  | .hbm, ⟨64, _⟩ => ⟨S16640x3072, .f32⟩
  | .hbm, ⟨65, _⟩ => ⟨S16640x3072, .f32⟩
  | .hbm, ⟨66, _⟩ => ⟨S_, .f32⟩
  | .hbm, ⟨67, _⟩ => ⟨S16640x3072, .f32⟩
  | .hbm, ⟨68, _⟩ => ⟨S16640x3072, .f32⟩
  | .hbm, ⟨69, _⟩ => ⟨S16640x3072, .f32⟩
  | .hbm, ⟨70, _⟩ => ⟨S_, .f32⟩
  | .hbm, ⟨71, _⟩ => ⟨S16640x3072, .f32⟩
  | .hbm, ⟨72, _⟩ => ⟨S16640x3072, .f32⟩
  | .hbm, ⟨73, _⟩ => ⟨S_, .f32⟩
  | .hbm, ⟨74, _⟩ => ⟨S16640x3072, .f32⟩
  | .hbm, ⟨75, _⟩ => ⟨S16640x3072, .f32⟩
  | .hbm, ⟨76, _⟩ => ⟨S16640x3072, .f32⟩
  | .hbm, ⟨77, _⟩ => ⟨S16640x3072, .f32⟩
  | .hbm, ⟨78, _⟩ => ⟨S16640x3072, .bf16⟩
  | .hbm, ⟨79, _⟩ => ⟨S16640x3072, .bf16⟩
  | .hbm, ⟨80, _⟩ => ⟨S16640x3072, .bf16⟩
  | _, _ => ⟨S16640x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_0 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_cst_1 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_cst_2 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_cst_3 : Ref sig .tc := ⟨.hbm, 70, rfl⟩
abbrev main_v60 : Ref sig .tc := ⟨.hbm, 71, rfl⟩
abbrev main_v61 : Ref sig .tc := ⟨.hbm, 72, rfl⟩
abbrev main_cst_4 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩

abbrev nD : Nat := 1
abbrev τ : Topo := Topo.v7x

variable {F : FTy → Type} [FloatOps F]
-- ==== Proof.Sigmoid.lean ====
/- The logistic function in the two ways the programs write it: by the hyperbolic tangent in the calls, by the
   exponential in the references. They agree at every extended real. -/
module

public import Idealize.ShloMosaic.PureOps.Ideal
public import Mathlib.Analysis.SpecialFunctions.Trigonometric.DerivHyp
public import Mathlib.Tactic.FieldSimp

@[expose] public section

noncomputable section

namespace Cert.Sigmoid

open Idealize.ShloMosaic

/-- The literal one half. -/
theorem half : Ideal.ofBits .f32 1056964608#32 = ((1 / 2 : ℝ) : EReal) := by
  simp [Ideal.ofBits, Ideal.ieee, -EReal.coe_mul]; norm_num

/-- At a real number: `tanh (r/2) / 2 + 1/2` is `1 / (1 + exp (-r))`. -/
theorem real_eq (r : ℝ) : 1 / 2 * Real.tanh (1 / 2 * r) + 1 / 2 = 1 / (1 + Real.exp (-r)) := by
  have e : Real.exp (-r) = Real.exp (-(1 / 2 * r)) * Real.exp (-(1 / 2 * r)) := by
    rw [← Real.exp_add]; congr 1; ring
  have i : Real.exp (1 / 2 * r) * Real.exp (-(1 / 2 * r)) = 1 := by
    rw [← Real.exp_add, add_neg_cancel, Real.exp_zero]
  have p := Real.exp_pos (1 / 2 * r)
  have q := Real.exp_pos (-(1 / 2 * r))
  rw [Real.tanh_eq_sinh_div_cosh, Real.sinh_eq, Real.cosh_eq, e]
  generalize Real.exp (1 / 2 * r) = a at *
  generalize Real.exp (-(1 / 2 * r)) = b at *
  have h1 : a + b ≠ 0 := by positivity
  have h2 : 1 + b * b ≠ 0 := by positivity
  field_simp
  linear_combination (2 * b) * i

/-- The two forms agree everywhere. -/
theorem eq (x : EReal) :
    Ideal.ofBits .f32 1056964608#32 * Ideal.tanh (Ideal.ofBits .f32 1056964608#32 * x) + Ideal.ofBits .f32 1056964608#32
      = Ideal.div 1 (1 + Ideal.exp (-x)) := by
  rw [half]
  induction x with
  | bot =>
    rw [EReal.coe_mul_bot_of_pos (by norm_num), Ideal.tanh_bot]
    refine Eq.trans ?_ Ideal.logistic_bot.symm
    rw [← EReal.coe_one, ← EReal.coe_neg, ← EReal.coe_mul, ← EReal.coe_add, ← EReal.coe_zero]; norm_num
  | top =>
    rw [EReal.coe_mul_top_of_pos (by norm_num), Ideal.tanh_top]
    refine Eq.trans ?_ Ideal.logistic_top.symm
    rw [← EReal.coe_one, ← EReal.coe_mul, ← EReal.coe_add]; norm_num
  | coe r =>
    rw [← EReal.coe_mul, Ideal.tanh_coe, ← EReal.coe_mul, ← EReal.coe_add, real_eq, one_div]
    exact (Ideal.logistic_coe r).symm

end Cert.Sigmoid

end
-- ==== Proof.ConvInRef.lean ====
/- The gradient of the convolution's input as the reference writes it: thirty-one shifted copies of the incoming
   gradient, each times one row of taps, gathered here into one sum over the taps. -/
module

public import proofs.«01_k».proof.Proof.Gen.ConvInRefIdeal.Read
public import proofs.«01_k».proof.Proof.Sigmoid
public import Idealize.ShloMosaic.Lib.Pipeline.ValueKit

@[expose] public section

set_option maxRecDepth 16384

noncomputable section

namespace Cert.ConvInRef

open Cert.ConvInRefIdeal Cert.ConvInRefIdeal.Read Idealize.ShloMosaic

/-- The incoming gradient at any row, zero past the last one. -/
def ext (C : FVec Ideal S16640x256 .f32) (R : ℕ) (ch : Fin 256) : EReal :=
  if h : R < 16640 then C (ix2 ⟨R, h⟩ ch) else 0

/-- Inside the array it is the array. -/
theorem ext_lt (C : FVec Ideal S16640x256 .f32) (R : ℕ) (ch : Fin 256) (h : R < 16640) :
    ext C R ch = C (ix2 ⟨R, h⟩ ch) := dif_pos h

/-- What tap `k` adds to row `r`. -/
def tap (C : FVec Ideal S16640x256 .f32) (W : FVec Ideal S31x256 .f32) (r : ℕ) (ch : Fin 256) (k : ℕ) : EReal :=
  if h : k < 31 then ext C (30 + r - k) ch * W (ix2 ⟨k, h⟩ ch) else 0

/-- A tap written out. -/
theorem tap_lit (C : FVec Ideal S16640x256 .f32) (W : FVec Ideal S31x256 .f32) (r : ℕ) (ch : Fin 256) (k : ℕ)
    (h : k < 31) : tap C W r ch k = ext C (30 + r - k) ch * W (ix2 ⟨k, h⟩ ch) := dif_pos h

/-- A tap as the reference selects it. -/
theorem tap_ref (C : FVec Ideal S16640x256 .f32) (W : FVec Ideal S31x256 .f32) (r : ℕ) (ch : Fin 256) (k : ℕ)
    (h : k < 31) (w : Fin 31) (hw : w.val = k) :
    (if h : k ≤ 30 + r ∧ 30 + r - k < 16640 then C (ix2 ⟨30 + r - k, h.2⟩ ch) * W (ix2 w ch) else 0)
      = tap C W r ch k := by
  obtain rfl : w = ⟨k, h⟩ := Fin.ext hw
  rw [tap_lit C W r ch k h, ext]
  by_cases hr : 30 + r - k < 16640
  · rw [dif_pos ⟨by omega, hr⟩, dif_pos hr]
  · rw [dif_neg (fun p => hr p.2), dif_neg hr, zero_mul]

/-- The same at the first tap, where the lower bound is no condition. -/
theorem tap_ref0 (C : FVec Ideal S16640x256 .f32) (W : FVec Ideal S31x256 .f32) (r : ℕ) (ch : Fin 256) :
    (if h : 30 + r < 16640 then C (ix2 ⟨30 + r, h⟩ ch) * W (ix2 0 ch) else 0) = tap C W r ch 0 := by
  rw [← tap_ref C W r ch 0 (by omega) 0 rfl]
  by_cases hr : 30 + r < 16640
  · rw [dif_pos hr, dif_pos ⟨by omega, hr⟩]; rfl
  · rw [dif_neg hr, dif_neg (fun p => hr p.2)]

/-- The gradient of the gated input. -/
theorem href (C : FVec Ideal S16640x256 .f32) (W : FVec Ideal S31x256 .f32) (j) :
    val_main_v362 (F := Ideal) C W j = ∑ k ∈ Finset.range 31, tap C W (j 0).val (j 1) k := by
  rw [← Finset.sum_range_reflect]
  simp only [Finset.sum_range_succ, Finset.sum_range_zero, zero_add]
  pointwise [val_main_v362, val_main_v360, val_main_v356, val_main_v352, val_main_v348, val_main_v344, val_main_v340,
    val_main_v336, val_main_v332, val_main_v328, val_main_v324, val_main_v320, val_main_v316, val_main_v312,
    val_main_v308, val_main_v304, val_main_v300, val_main_v296, val_main_v292, val_main_v288, val_main_v284,
    val_main_v280, val_main_v276, val_main_v272, val_main_v268, val_main_v264, val_main_v260, val_main_v256,
    val_main_v252, val_main_v248, val_main_v244, val_main_v240, val_main_v239, val_main_v237, val_main_v238,
    val_main_v229, val_main_v228, val_main_v227, val_main_cst_5, val_main_v243, val_main_v242, val_main_v236,
    val_main_v241, val_main_v222, val_main_v221, val_main_v220, val_main_cst_6, val_main_v247, val_main_v246,
    val_main_v245, val_main_v215, val_main_v214, val_main_v213, val_main_cst_7, val_main_v251, val_main_v250,
    val_main_v249, val_main_v208, val_main_v207, val_main_v206, val_main_cst_8, val_main_v255, val_main_v254,
    val_main_v253, val_main_v201, val_main_v200, val_main_v199, val_main_cst_9, val_main_v259, val_main_v258,
    val_main_v257, val_main_v194, val_main_v193, val_main_v192, val_main_cst_10, val_main_v263, val_main_v262,
    val_main_v261, val_main_v187, val_main_v186, val_main_v185, val_main_cst_11, val_main_v267, val_main_v266,
    val_main_v265, val_main_v180, val_main_v179, val_main_v178, val_main_cst_12, val_main_v271, val_main_v270,
    val_main_v269, val_main_v173, val_main_v172, val_main_v171, val_main_cst_13, val_main_v275, val_main_v274,
    val_main_v273, val_main_v166, val_main_v165, val_main_v164, val_main_cst_14, val_main_v279, val_main_v278,
    val_main_v277, val_main_v159, val_main_v158, val_main_v157, val_main_cst_15, val_main_v283, val_main_v282,
    val_main_v281, val_main_v152, val_main_v151, val_main_v150, val_main_cst_16, val_main_v287, val_main_v286,
    val_main_v285, val_main_v145, val_main_v144, val_main_v143, val_main_cst_17, val_main_v291, val_main_v290,
    val_main_v289, val_main_v138, val_main_v137, val_main_v136, val_main_cst_18, val_main_v295, val_main_v294,
    val_main_v293, val_main_v131, val_main_v130, val_main_v129, val_main_cst_19, val_main_v299, val_main_v298,
    val_main_v297, val_main_v124, val_main_v123, val_main_v122, val_main_cst_20, val_main_v303, val_main_v302,
    val_main_v301, val_main_v117, val_main_v116, val_main_v115, val_main_cst_21, val_main_v307, val_main_v306,
    val_main_v305, val_main_v110, val_main_v109, val_main_v108, val_main_cst_22, val_main_v311, val_main_v310,
    val_main_v309, val_main_v103, val_main_v102, val_main_v101, val_main_cst_23, val_main_v315, val_main_v314,
    val_main_v313, val_main_v96, val_main_v95, val_main_v94, val_main_cst_24, val_main_v319, val_main_v318,
    val_main_v317, val_main_v89, val_main_v88, val_main_v87, val_main_cst_25, val_main_v323, val_main_v322,
    val_main_v321, val_main_v82, val_main_v81, val_main_v80, val_main_cst_26, val_main_v327, val_main_v326,
    val_main_v325, val_main_v75, val_main_v74, val_main_v73, val_main_cst_27, val_main_v331, val_main_v330,
    val_main_v329, val_main_v68, val_main_v67, val_main_v66, val_main_cst_28, val_main_v335, val_main_v334,
    val_main_v333, val_main_v61, val_main_v60, val_main_v59, val_main_cst_29, val_main_v339, val_main_v338,
    val_main_v337, val_main_v54, val_main_v53, val_main_v52, val_main_cst_30, val_main_v343, val_main_v342,
    val_main_v341, val_main_v47, val_main_v46, val_main_v45, val_main_cst_31, val_main_v347, val_main_v346,
    val_main_v345, val_main_v40, val_main_v39, val_main_v38, val_main_cst_32, val_main_v351, val_main_v350,
    val_main_v349, val_main_v33, val_main_v32, val_main_v31, val_main_cst_33, val_main_v355, val_main_v354,
    val_main_v353, val_main_v26, val_main_v25, val_main_v24, val_main_cst_34, val_main_v359, val_main_v358,
    val_main_v357, val_main_v20, val_main_v19, val_main_v18, val_main_cst_35]
  repeat' (with_reducible refine congrArg₂ (· + ·) ?_ ?_)
  all_goals first
    | exact tap_ref C W _ _ _ (by omega) _ rfl
    | exact tap_ref0 C W _ _
    | skip
  refine Eq.trans ?_ (tap_lit C W (j 0).val (j 1) 30 (by omega)).symm
  have hj : 30 + (j 0).val - 30 < 16640 := by have := (j 0).isLt; simp at this; omega
  refine congrArg₂ (· * ·) ?_ rfl
  refine Eq.trans (congrArg C (funext fun d => ?_)) (ext_lt C _ (j 1) hj).symm
  match d with
  | 0 => exact Fin.ext (by simp)
  | 1 => rfl

/-- The row of the sum and the reference's gate at one entry. -/
abbrev dhc (C : FVec Ideal S16640x256 .f32) (W : FVec Ideal S31x256 .f32) (r : ℕ) (ch : Fin 256) : EReal :=
  ∑ k ∈ Finset.range 31, tap C W r ch k

/-- The logistic function as the calls write it. -/
abbrev sg (x : EReal) : EReal :=
  Ideal.ofBits .f32 1056964608#32 * Ideal.tanh (Ideal.ofBits .f32 1056964608#32 * x) + Ideal.ofBits .f32 1056964608#32

/-- The reference's gate. -/
theorem hgate (X : FVec Ideal S16640x768 .f32) (r : Fin 16640) (ch : Fin 256) :
    val_main_v8 (F := Ideal) X (ix2 r ch) = sg (X (ix2 r ⟨256 + ch.val, by omega⟩)) := by
  refine Eq.trans ?_ (Cert.Sigmoid.eq _).symm
  pointwise [val_main_v8, val_main_v7, val_main_v6, val_main_v5, val_main_v4, val_main_v3, val_main_v2, val_main_v1, val_main_v0, val_main_cst, val_main_cst_0, val_main_cst_1, val_main_cst_2, val_main_cst_3]

/-- The left half of the result. -/
theorem hleft (X : FVec Ideal S16640x768 .f32) (C : FVec Ideal S16640x256 .f32) (W : FVec Ideal S31x256 .f32)
    (r : Fin 16640) (ch : Fin 256) :
    val_main_v367 (F := Ideal) X C W (ix2 r ⟨ch.val, by omega⟩)
      = dhc C W r.val ch * sg (X (ix2 r ⟨256 + ch.val, by omega⟩)) := by
  have e : val_main_v367 (F := Ideal) X C W (ix2 r ⟨ch.val, by omega⟩) = val_main_v362 (F := Ideal) C W (ix2 r ch) * val_main_v8 (F := Ideal) X (ix2 r ch) := by
    pointwise [val_main_v367, val_main_v366, val_main_v364]
  rw [e, href, hgate]
  rfl

/-- The right half of the result. -/
theorem hright (X : FVec Ideal S16640x768 .f32) (C : FVec Ideal S16640x256 .f32) (W : FVec Ideal S31x256 .f32)
    (r : Fin 16640) (ch : Fin 256) :
    val_main_v367 (F := Ideal) X C W (ix2 r ⟨256 + ch.val, by omega⟩)
      = X (ix2 r ⟨ch.val, by omega⟩) * dhc C W r.val ch
        * (sg (X (ix2 r ⟨256 + ch.val, by omega⟩)) * (1 - sg (X (ix2 r ⟨256 + ch.val, by omega⟩)))) := by
  have e : val_main_v367 (F := Ideal) X C W (ix2 r ⟨256 + ch.val, by omega⟩) = X (ix2 r ⟨ch.val, by omega⟩) * val_main_v362 (F := Ideal) C W (ix2 r ch)
      * (val_main_v8 (F := Ideal) X (ix2 r ch) * (1 - val_main_v8 (F := Ideal) X (ix2 r ch))) := by
    pointwise [val_main_v367, val_main_v366, val_main_v365, val_main_v363, val_main_v11, val_main_v10, val_main_v9, val_main_v1, val_main_v0, val_main_cst_1]
  rw [e, href, hgate]
  rfl

end Cert.ConvInRef

end
-- ==== Proof.Stores.lean ====
/- What a list of stores left at one entry: the last store whose rectangle holds the entry. -/
module

public import Idealize.ShloMosaic.Lib.Pipeline.ValueKit

@[expose] public section

noncomputable section

namespace Cert.Stores

open Idealize.ShloMosaic Idealize.SL.Sem

variable {S : Shape} {e : EltTy}

/-- Where a rectangle's own index lies in the array. -/
theorem emb_val (off size : Fin S.rank → ℕ) (inb : ∀ a, off a + size a ≤ S.size a)
    (x : (Rect.unit off size inb).shape.Idx) (a : Fin S.rank) :
    ((Rect.unit off size inb).emb x a).val = off a + (x a).val := by
  rw [Rect.emb_apply]
  show off a + 1 * _ = _
  omega

/-- An entry the last store holds reads its payload at the entry's own index there. -/
theorem canon_hit (off size : Fin S.rank → ℕ) (inb : ∀ a, off a + size a ≤ S.size a)
    (w : (Rect.unit off size inb).shape.Idx → Elt Ideal e) (L : List (View.Piece (Elt Ideal) S e)) (y : S.Idx)
    (x : (Rect.unit off size inb).shape.Idx) (h : ∀ a, (y a).val = off a + (x a).val) :
    View.canon ((⟨Rect.unit off size inb, w⟩ : View.Piece (Elt Ideal) S e) :: L) y = w x := by
  have hy : y = (Rect.unit off size inb).emb x := by
    funext a
    refine Fin.ext ?_
    rw [h a, Rect.emb_apply]
    show _ = off a + 1 * _
    omega
  rw [hy, View.canon_cons_emb]

/-- An entry it does not hold reads what the earlier stores left. -/
theorem canon_miss (off size : Fin S.rank → ℕ) (inb : ∀ a, off a + size a ≤ S.size a)
    (w : (Rect.unit off size inb).shape.Idx → Elt Ideal e) (L : List (View.Piece (Elt Ideal) S e)) (y : S.Idx)
    (a : Fin S.rank) (h : (y a).val < off a ∨ off a + size a ≤ (y a).val) :
    View.canon ((⟨Rect.unit off size inb, w⟩ : View.Piece (Elt Ideal) S e) :: L) y = View.canon L y := by
  refine View.canon_cons_of_not_mem _ _ fun hm => ?_
  have := (Rect.mem_set_unit (inb := inb)).mp hm a
  omega

end Cert.Stores

end
-- ==== Proof.ConvInValue.lean ====
/- The gradient of the gated convolution's input: the array the call leaves is the reference's, entry by entry. -/
module

public import proofs.«01_k».proof.Proof.Gen.ConvInIdeal.Value
public import proofs.«01_k».proof.Proof.ConvInRef
public import proofs.«01_k».proof.Proof.Stores
public import Idealize.ShloMosaic.Lib.Pipeline.ValueKit
public import Idealize.ShloMosaic.Lib.Pipeline.ReadBack

@[expose] public section

set_option maxRecDepth 16384

noncomputable section

namespace Cert.ConvInIdeal.Value

open Cert.ConvInIdeal Cert.ConvInIdeal.Gen Idealize.ShloMosaic Idealize.ShloMosaic.TcCoe Idealize.SL.Sem
open Idealize.ShloMosaic.Pipeline (Dat)

variable (m : (ℓ : Loc nD τ sig) → Buf (Elt Ideal) ℓ)

/-- The row tile and the 32 rows below it, one above the other. -/
def buf (D : Vec Ideal S640x256 .f32) (H : Vec Ideal S32x256 .f32) : Vec Ideal S672x256 .f32 :=
  fun y => if h : (y 0).val < 640 then D (ix2 ⟨(y 0).val, h⟩ (y 1))
    else H (ix2 ⟨(y 0).val - 640, by have := (y 0).isLt; simp at this; omega⟩ (y 1))

/-- The two stores leave the tile and the rows below it. -/
theorem canon_buf (D : Vec Ideal S640x256 .f32) (H : Vec Ideal S32x256 .f32) :
    View.canon (Val := Elt Ideal) (e := .f32) [⟨Rect.unit (s := S672x256) ![0,0] ![640,256] inb_S672x256_S640x256_0_0, D⟩,
      ⟨Rect.unit (s := S672x256) ![640,0] ![32,256] inb_S672x256_S32x256_640_0, H⟩] = buf D H := by
  funext y
  by_cases h : (y 0).val < 640
  · refine (Cert.Stores.canon_hit (S := S672x256) ![0,0] ![640,256] inb_S672x256_S640x256_0_0 D _ y (ix2 (⟨(y 0).val, h⟩ : Fin 640) (⟨(y 1).val, (y 1).isLt⟩ : Fin 256)) ?_).trans ?_
    · intro a; match a with | 0 => simp | 1 => simp
    · rw [buf, dif_pos h]; rfl
  · have := (y 0).isLt
    simp at this
    refine (Cert.Stores.canon_miss (S := S672x256) ![0,0] ![640,256] inb_S672x256_S640x256_0_0 D _ y 0 (Or.inr ?_)).trans ?_
    · simp; omega
    refine (Cert.Stores.canon_hit (S := S672x256) ![640,0] ![32,256] inb_S672x256_S32x256_640_0 H _ y (ix2 (⟨(y 0).val - 640, by omega⟩ : Fin 32) (⟨(y 1).val, (y 1).isLt⟩ : Fin 256)) ?_).trans ?_
    · intro a; match a with | 0 => simp; omega | 1 => simp
    · rw [buf, dif_neg h]; rfl

/-- A load of them. -/
theorem load_buf {κ : Kind} {sp : Space} (v : View sig κ sp S672x256 .f32) (D : Vec Ideal S640x256 .f32) (H : Vec Ideal S32x256 .f32) (B : Rect S672x256) :
    v.readCov (Val := Elt Ideal) [⟨Rect.unit (s := S672x256) ![0,0] ![640,256] inb_S672x256_S640x256_0_0, D⟩,
      ⟨Rect.unit (s := S672x256) ![640,0] ![32,256] inb_S672x256_S32x256_640_0, H⟩] B.toLoadRect = View.ld (buf D H) B := by
  rw [View.readCov_eq_canon']
  erw [canon_buf]

/-- The eight shifted copies of the rows, the last written first. -/
abbrev slots (X : Vec Ideal S672x256 .f32) : List (View.Piece (Elt Ideal) S8x672x256 .f32) :=
  [⟨Rect.unit ![7,0,0] ![1,656,256] inb_S8x672x256_S1x656x256_7_0_0, k0_pay12 (F := Ideal) (View.ld X (Rect.unit ![7,0] ![656,256] inb_S672x256_S656x256_7_0))⟩,
   ⟨Rect.unit ![6,0,0] ![1,664,256] inb_S8x672x256_S1x664x256_6_0_0, k0_pay11 (F := Ideal) (View.ld X (Rect.unit ![6,0] ![664,256] inb_S672x256_S664x256_6_0))⟩,
   ⟨Rect.unit ![5,0,0] ![1,664,256] inb_S8x672x256_S1x664x256_5_0_0, k0_pay10 (F := Ideal) (View.ld X (Rect.unit ![5,0] ![664,256] inb_S672x256_S664x256_5_0))⟩,
   ⟨Rect.unit ![4,0,0] ![1,664,256] inb_S8x672x256_S1x664x256_4_0_0, k0_pay9 (F := Ideal) (View.ld X (Rect.unit ![4,0] ![664,256] inb_S672x256_S664x256_4_0))⟩,
   ⟨Rect.unit ![3,0,0] ![1,664,256] inb_S8x672x256_S1x664x256_3_0_0, k0_pay8 (F := Ideal) (View.ld X (Rect.unit ![3,0] ![664,256] inb_S672x256_S664x256_3_0))⟩,
   ⟨Rect.unit ![2,0,0] ![1,664,256] inb_S8x672x256_S1x664x256_2_0_0, k0_pay7 (F := Ideal) (View.ld X (Rect.unit ![2,0] ![664,256] inb_S672x256_S664x256_2_0))⟩,
   ⟨Rect.unit ![1,0,0] ![1,664,256] inb_S8x672x256_S1x664x256_1_0_0, k0_pay6 (F := Ideal) (View.ld X (Rect.unit ![1,0] ![664,256] inb_S672x256_S664x256_1_0))⟩,
   ⟨Rect.unit ![0,0,0] ![1,664,256] inb_S8x672x256_S1x664x256_0_0_0, k0_pay5 (F := Ideal) (View.ld X (Rect.unit ![0,0] ![664,256] inb_S672x256_S664x256_0_0))⟩]

/-- What the copies hold: copy `s` at row `r` is row `s + r`. -/
def slotAt (X : Vec Ideal S672x256 .f32) (y : S8x672x256.Idx) : EReal :=
  if h : (y 0).val + (y 1).val < 672 then X (ix2 ⟨(y 0).val + (y 1).val, h⟩ (y 2)) else 0

/-- A value of it where the row is inside. -/
theorem slotAt_eq (X : Vec Ideal S672x256 .f32) (y : S8x672x256.Idx) (r : Fin 672) (ch : Fin 256)
    (h : (y 0).val + (y 1).val = r.val) (h2 : (y 2).val = ch.val) : slotAt X y = X (ix2 r ch) := by
  have h' : (y 0).val + (y 1).val < 672 := h ▸ r.isLt
  rw [slotAt, dif_pos h']
  congr 1
  funext a
  match a with
  | 0 => exact Fin.ext h
  | 1 => exact Fin.ext h2

/-- A load of the rows from `s` on. -/
theorem ld_rows (X : Vec Ideal S672x256 .f32) (s n : ℕ)
    (inb : ∀ a, (![s, 0] : Fin 2 → ℕ) a + (![n, 256] : Fin 2 → ℕ) a ≤ S672x256.size a) (r : Fin n) (ch : Fin 256)
    (h : s + r.val < 672) :
    View.ld X (Rect.unit (s := S672x256) ![s, 0] ![n, 256] inb) (ix2 r ch) = X (ix2 ⟨s + r.val, h⟩ ch) := by
  rw [View.ld_apply]
  congr 1
  funext a
  refine Fin.ext ?_
  rw [Rect.idx_unit_val]
  match a with
  | 0 => simp
  | 1 => simp

/-- A copy's rows, one by one. -/
theorem copy_at (X : Vec Ideal S672x256 .f32) (s n : ℕ)
    (inb : ∀ a, (![s, 0, 0] : Fin 3 → ℕ) a + (![1, n, 256] : Fin 3 → ℕ) a ≤ S8x672x256.size a)
    (inb' : ∀ a, (![s, 0] : Fin 2 → ℕ) a + (![n, 256] : Fin 2 → ℕ) a ≤ S672x256.size a)
    (w : (⟨3, ![1, n, 256]⟩ : Shape).Idx → EReal)
    (hw : ∀ x, w x = View.ld X (Rect.unit (s := S672x256) ![s, 0] ![n, 256] inb') (ix2 (x 1) (x 2)))
    (x : (⟨3, ![1, n, 256]⟩ : Shape).Idx) :
    w x = slotAt X ((Rect.unit (s := S8x672x256) ![s, 0, 0] ![1, n, 256] inb).emb x) := by
  have h0 : (x 0).val < 1 := (x 0).isLt
  have h1 : (x 1).val < n := (x 1).isLt
  have hn : s + n ≤ 672 := inb' 0
  have hr : s + (x 1).val < 672 := by omega
  rw [hw]
  refine (ld_rows X s n inb' (x 1) (x 2) hr).trans (slotAt_eq X _ _ _ ?_ ?_).symm
  · rw [Cert.Stores.emb_val, Cert.Stores.emb_val]; simp
  · rw [Cert.Stores.emb_val]; simp

/-- Every copy holds its rows. -/
theorem slots_at (X : Vec Ideal S672x256 .f32) : ∀ p ∈ slots X, ∀ x, p.2 x = slotAt X (p.1.emb x) := by
  intro p hp x
  simp only [slots, List.mem_cons, List.not_mem_nil, or_false] at hp
  rcases hp with rfl | rfl | rfl | rfl | rfl | rfl | rfl | rfl
  · exact copy_at X 7 656 inb_S8x672x256_S1x656x256_7_0_0 inb_S672x256_S656x256_7_0 _ (fun x => by pointwise [k0_pay12]) x
  · exact copy_at X 6 664 inb_S8x672x256_S1x664x256_6_0_0 inb_S672x256_S664x256_6_0 _ (fun x => by pointwise [k0_pay11]) x
  · exact copy_at X 5 664 inb_S8x672x256_S1x664x256_5_0_0 inb_S672x256_S664x256_5_0 _ (fun x => by pointwise [k0_pay10]) x
  · exact copy_at X 4 664 inb_S8x672x256_S1x664x256_4_0_0 inb_S672x256_S664x256_4_0 _ (fun x => by pointwise [k0_pay9]) x
  · exact copy_at X 3 664 inb_S8x672x256_S1x664x256_3_0_0 inb_S672x256_S664x256_3_0 _ (fun x => by pointwise [k0_pay8]) x
  · exact copy_at X 2 664 inb_S8x672x256_S1x664x256_2_0_0 inb_S672x256_S664x256_2_0 _ (fun x => by pointwise [k0_pay7]) x
  · exact copy_at X 1 664 inb_S8x672x256_S1x664x256_1_0_0 inb_S672x256_S664x256_1_0 _ (fun x => by pointwise [k0_pay6]) x
  · exact copy_at X 0 664 inb_S8x672x256_S1x664x256_0_0_0 inb_S672x256_S664x256_0_0 _ (fun x => by pointwise [k0_pay5]) x

/-- A load at copy `s` from row `q` on reads the rows from `s + q` on. -/
theorem load_slots {κ : Kind} {sp : Space} (v : View sig κ sp S8x672x256 .f32) (X : Vec Ideal S672x256 .f32) (s q : ℕ) (hs : s < 8) (hq : q ≤ if s = 7 then 16 else 24)
    (inb : ∀ a, (![s, q, 0] : Fin 3 → ℕ) a + (![1, 640, 256] : Fin 3 → ℕ) a ≤ S8x672x256.size a) :
    v.readCov (Val := Elt Ideal) (slots X) (Rect.unit ![s, q, 0] ![1, 640, 256] inb).toLoadRect
      = fun y => X (ix2 ⟨s + q + (y 1).val, by
          have := (y 1).isLt; simp at this; split at hq <;> omega⟩ (y 2)) := by
  rw [View.readCov_eq_canon']
  funext y
  have hy := (y 1).isLt
  have h0 := (y 0).isLt
  have h2 := (y 2).isLt
  simp at hy h0 h2
  refine (View.canon_apply_of_pieces (slotAt X) (slots X) (slots_at X) _ ?_).trans (slotAt_eq X _ _ _ ?_ ?_)
  · have hm (n : ℕ) (inb' : ∀ a, (![s, 0, 0] : Fin 3 → ℕ) a + (![1, n, 256] : Fin 3 → ℕ) a ≤ S8x672x256.size a)
        (hn : q + 640 ≤ n) : (Rect.unit ![s, q, 0] ![1, 640, 256] inb).toLoadRect.idx y
          ∈ (Rect.unit (s := S8x672x256) ![s, 0, 0] ![1, n, 256] inb').set := by
      refine Rect.mem_set_unit.mpr fun a => ?_
      rw [Rect.idx_unit_val]
      match a with
      | 0 => simp
      | 1 => simp; omega
      | 2 => simp; omega
    interval_cases s
    · exact ⟨_, List.mem_of_getElem? (i := 7) rfl, hm 664 (by decide) (by simpa using hq)⟩
    · exact ⟨_, List.mem_of_getElem? (i := 6) rfl, hm 664 (by decide) (by simpa using hq)⟩
    · exact ⟨_, List.mem_of_getElem? (i := 5) rfl, hm 664 (by decide) (by simpa using hq)⟩
    · exact ⟨_, List.mem_of_getElem? (i := 4) rfl, hm 664 (by decide) (by simpa using hq)⟩
    · exact ⟨_, List.mem_of_getElem? (i := 3) rfl, hm 664 (by decide) (by simpa using hq)⟩
    · exact ⟨_, List.mem_of_getElem? (i := 2) rfl, hm 664 (by decide) (by simpa using hq)⟩
    · exact ⟨_, List.mem_of_getElem? (i := 1) rfl, hm 664 (by decide) (by simpa using hq)⟩
    · exact ⟨_, List.mem_of_getElem? (i := 0) rfl, hm 656 (by decide) (by simpa using hq)⟩
  · simp; omega
  · simp

/-- The blocks of the five arrays at a grid point: row tiles from the last to the first. -/
theorem idx : ∀ t : Fin cfg0.N, win0_0.index t = ![25 - t.val, 0] ∧ win0_1.index t = ![25 - t.val, 1]
    ∧ win0_2.index t = ![25 - t.val, 0] ∧ win0_3.index t = ![0, 0] ∧ win0_4.index t = ![25 - t.val, 0] :=
  (by decide +kernel : ∀ t : Fin grid0.N, _)

/-- The incoming gradient of a device. -/
abbrev ct (c : Dev nD) : FVec Ideal S16640x256 .f32 := m ((c : Thread nD τ).loc main_arg1)

/-- The tile over the 32 rows that follow it is the incoming gradient from the tile's first row on. -/
theorem buf_ext (c : Dev nD) (t : Fin cfg0.N) (D : Vec Ideal S640x256 .f32) (hD : D = k0_pay4 (F := Ideal) (iblk m c 2 t)) (H : Vec Ideal S32x256 .f32)
    (hH : ∀ (r : Fin 32) (ch : Fin 256), H (ix2 r ch) = ConvInRef.ext (ct m c) ((25 - t.val) * 640 + 640 + r.val) ch)
    (y : S672x256.Idx) :
    buf D H y = ConvInRef.ext (ct m c) ((25 - t.val) * 640 + (y 0).val) (y 1) := by
  have ht : t.val < 26 := t.isLt
  unfold buf
  split
  case isTrue h =>
    refine Eq.trans ?_ (ConvInRef.ext_lt (ct m c) _ (y 1) (by omega)).symm
    rw [hD]
    pointwise [k0_pay4]
    blk_point [iblk, V, ct, idx t]
  case isFalse h =>
    refine (hH _ _).trans ?_
    congr 1
    simp
    omega

/-- Below the last tile there is nothing. -/
theorem below (c : Dev nD) (t : Fin cfg0.N) (h1 : ¬ 1 ≤ t.val) (r : Fin 32) (ch : Fin 256) :
    k0_pay2 (F := Ideal) (ix2 r ch) = ConvInRef.ext (ct m c) ((25 - t.val) * 640 + 640 + r.val) ch := by
  rw [ConvInRef.ext, dif_neg (by omega)]
  pointwise [k0_pay2]

/-- The carried rows after the first point. -/
theorem scrA (c : Dev nD) (t : Fin cfg0.N) (h0 : t.val % 26 = 0) (h1 : ¬ 1 ≤ t.val) (y) :
    (outsAt0 m c t.val t.isLt).2 y = ConvInRef.ext (ct m c) ((25 - t.val) * 640 + (y 0).val) (y 1) := by
  rw [outsAt0_A m c t h0 h1]
  frame_out
  refine (congrFun (canon_buf _ _) y).trans (buf_ext m c t _ rfl _ (fun r ch => ?_) y)
  exact below m c t h1 r ch

/-- The 32 rows carried from the point before are those that follow the tile. -/
theorem carried (c : Dev nD) (t : Fin cfg0.N) (h1 : 1 ≤ t.val)
    (ih : ∀ y, (outsAt0 m c (t.val - 1) (by omega)).2 y = ConvInRef.ext (ct m c) ((25 - (t.val - 1)) * 640 + (y 0).val) (y 1))
    (hw : (Memref.whole cc0_scratch0).IsWhole) (r : Fin 32) (ch : Fin 256) :
    k0_pay3 (F := Ideal) (View.ld (View.read (Elt Ideal) (View.whole cc0_scratch0) (hw.unread (outsAt0 m c (t.val - 1) (by omega)).2))
      (Rect.unit (s := S672x256) ![0,0] ![32,256] inb_S672x256_S32x256_0_0)) (ix2 r ch)
      = ConvInRef.ext (ct m c) ((25 - t.val) * 640 + 640 + r.val) ch := by
  have ht : t.val < 26 := t.isLt
  pointwise [k0_pay3]
  refine (congrFun (read_unread_whole _ _ _) _).trans ((ih _).trans ?_)
  refine congrArg₂ (ConvInRef.ext (ct m c)) ?_ rfl
  simp
  omega

/-- The carried rows after a later point. -/
theorem scrB (c : Dev nD) (t : Fin cfg0.N) (h0 : ¬ t.val % 26 = 0) (h1 : 1 ≤ t.val)
    (ih : ∀ y, (outsAt0 m c (t.val - 1) (by omega)).2 y = ConvInRef.ext (ct m c) ((25 - (t.val - 1)) * 640 + (y 0).val) (y 1)) (y) :
    (outsAt0 m c t.val t.isLt).2 y = ConvInRef.ext (ct m c) ((25 - t.val) * 640 + (y 0).val) (y 1) := by
  rw [outsAt0_B m c t h0 h1]
  frame_out
  refine (congrFun (canon_buf _ _) y).trans (buf_ext m c t _ rfl _ (fun r ch => ?_) y)
  exact carried m c t h1 ih _ r ch

/-- The carried rows at every grid point. -/
theorem scr (c : Dev nD) : ∀ (n : ℕ) (hn : n < cfg0.N) (y : S672x256.Idx),
    (outsAt0 m c n hn).2 y = ConvInRef.ext (ct m c) ((25 - n) * 640 + (y 0).val) (y 1)
  | 0, hn, y => scrA m c ⟨0, hn⟩ rfl (by show ¬ 1 ≤ 0; omega) y
  | n + 1, hn, y => by
    have h26 : n + 1 < 26 := hn
    exact scrB m c ⟨n + 1, hn⟩ (by show ¬ (n + 1) % 26 = 0; omega) (by show 1 ≤ n + 1; omega)
      (fun y => scr c n (by omega) y) y

/-- The 640 rows from row `s + q` on. -/
abbrev rows (X : Vec Ideal S672x256 .f32) (s q : ℕ) (h : s + q ≤ 32) : Vec Ideal S1x640x256 .f32 :=
  fun y => X (ix2 ⟨s + q + (y 1).val, by have := (y 1).isLt; simp at this; omega⟩ (y 2))

/-- The sum before the last three taps. -/
abbrev acc (W : Vec Ideal S31x256 .f32) (X : Vec Ideal S672x256 .f32) : FVec Ideal S640x256 .f32 :=
  k0_pay22 (F := Ideal) W (k0_pay20 (F := Ideal) W (k0_pay17 (F := Ideal) W (k0_pay15 (F := Ideal) W (k0_pay13 (F := Ideal) W (rows X 6 24 (by decide)))
      (k0_pay14 (F := Ideal) W) (rows X 5 24 (by decide)) (rows X 4 24 (by decide)) (rows X 3 24 (by decide)) (rows X 2 24 (by decide)) (rows X 1 24 (by decide)) (rows X 0 24 (by decide)) (rows X 7 16 (by decide)))
      (k0_pay16 (F := Ideal) W) (rows X 6 16 (by decide)) (rows X 5 16 (by decide)) (rows X 4 16 (by decide)) (rows X 3 16 (by decide)) (rows X 2 16 (by decide)) (rows X 1 16 (by decide)))
      (k0_pay18 (F := Ideal) (rows X 0 16 (by decide))) (k0_pay19 (F := Ideal) W) (rows X 7 8 (by decide)) (rows X 6 8 (by decide)) (rows X 5 8 (by decide)) (rows X 4 8 (by decide)) (rows X 3 8 (by decide)) (rows X 2 8 (by decide)))
      (k0_pay21 (F := Ideal) W) (rows X 1 8 (by decide)) (rows X 0 8 (by decide)) (rows X 7 0 (by decide)) (rows X 6 0 (by decide)) (rows X 5 0 (by decide)) (rows X 4 0 (by decide)) (rows X 3 0 (by decide))

/-- What tap `k` adds to a tile's row. -/
def term (W : Vec Ideal S31x256 .f32) (X : Vec Ideal S672x256 .f32) (r : Fin 640) (ch : Fin 256) (k : ℕ) : EReal :=
  if h : k < 31 then W (ix2 ⟨k, h⟩ ch) * X (ix2 ⟨30 - k + r.val, by omega⟩ ch) else 0

/-- A tap written out. -/
theorem term_lit (W : Vec Ideal S31x256 .f32) (X : Vec Ideal S672x256 .f32) (r : Fin 640) (ch : Fin 256) (k n : ℕ)
    (h : k < 31) (hn : n + k = 30) (w : Fin 31) (hw : w.val = k) (i : Fin 672) (hi : i.val = n + r.val) :
    W (ix2 w ch) * X (ix2 i ch) = term W X r ch k := by
  obtain rfl : w = ⟨k, h⟩ := Fin.ext hw
  rw [term, dif_pos h]
  congr 3
  exact Fin.ext (by simp [hi]; omega)

/-- All 31 taps. -/
theorem acc_at (W : Vec Ideal S31x256 .f32) (X : Vec Ideal S672x256 .f32) (r : Fin 640) (ch : Fin 256) :
    k0_pay24 (F := Ideal) W (acc W X) (k0_pay23 (F := Ideal) W) (rows X 2 0 (by decide)) (rows X 1 0 (by decide)) (rows X 0 0 (by decide)) (ix2 r ch)
      = ∑ k ∈ Finset.range 31, term W X r ch k := by
  simp only [Finset.sum_range_succ, Finset.sum_range_zero, zero_add]
  pointwise [acc, rows, k0_pay24, k0_pay22, k0_pay20, k0_pay17, k0_pay15, k0_pay13, k0_pay14, k0_pay16, k0_pay18, k0_pay19, k0_pay21, k0_pay23]
  repeat' (with_reducible refine congrArg₂ (· + ·) ?_ ?_)
  all_goals first
    | exact term_lit W X r ch _ _ (by omega) (by omega) _ rfl _ rfl
    | exact term_lit W X r ch _ 0 (by omega) (by omega) _ rfl _ (by simp)

/-- They are the reference's, at a tile of the incoming gradient. -/
theorem sum_term (C : FVec Ideal S16640x256 .f32) (W : Vec Ideal S31x256 .f32) (X : Vec Ideal S672x256 .f32) (b : ℕ)
    (hX : ∀ y, X y = ConvInRef.ext C (b * 640 + (y 0).val) (y 1)) (r : Fin 640) (ch : Fin 256) :
    ∑ k ∈ Finset.range 31, term W X r ch k = ConvInRef.dhc C W (b * 640 + r.val) ch := by
  refine Finset.sum_congr rfl fun k hk => ?_
  have hk' : k < 31 := Finset.mem_range.mp hk
  rw [term, dif_pos hk', hX, mul_comm]
  refine Eq.trans ?_ (ConvInRef.tap_lit C W _ ch k hk').symm
  refine congrArg₂ (· * ·) ?_ rfl
  refine congrArg₂ (ConvInRef.ext C) ?_ rfl
  simp
  omega

/-- The result of a device as the reference gives it. -/
abbrev REF (c : Dev nD) : FVec Ideal S16640x512 .bf16 :=
  Cert.ConvInRefIdeal.Read.val_main_v367 (F := Ideal) (m ((c : Thread nD τ).loc main_arg0)) (ct m c) (m ((c : Thread nD τ).loc main_arg2))

/-- The left half of a tile's result. -/
theorem left_at (W : Vec Ideal S31x256 .f32) (a : FVec Ideal S640x256 .f32) (w : FVec Ideal S1x256 .f32)
    (z0 z1 z2 : Vec Ideal S1x640x256 .f32) (g : Vec Ideal S640x256 .f32) (j) :
    k0_pay26 (F := Ideal) W a w z0 z1 z2 g j = k0_pay24 (F := Ideal) W a w z0 z1 z2 j * ConvInRef.sg (g j) := by
  pointwise [k0_pay26, k0_pay25]

/-- The right half of a tile's result. -/
theorem right_at (W : Vec Ideal S31x256 .f32) (a : FVec Ideal S640x256 .f32) (w : FVec Ideal S1x256 .f32)
    (z0 z1 z2 : Vec Ideal S1x640x256 .f32) (p g : Vec Ideal S640x256 .f32) (j) :
    k0_pay1 (F := Ideal) (k0_pay27 (F := Ideal) W a w z0 z1 z2 p g) j
      = p j * k0_pay24 (F := Ideal) W a w z0 z1 z2 j * (ConvInRef.sg (g j) * (1 - ConvInRef.sg (g j))) := by
  refine Eq.trans (b := k0_pay24 (F := Ideal) W a w z0 z1 z2 j * p j * ConvInRef.sg (g j) * (1 - ConvInRef.sg (g j))) ?_ ?_
  · pointwise [k0_pay1, k0_pay27, k0_pay25]
  · rw [mul_comm (p j), mul_assoc]

/-- A tile's entry of the first half of the projected array. -/
theorem left_blk (c : Dev nD) (t : Fin cfg0.N) (x : Fin 640) (ch : Fin 256) (r : Fin 16640)
    (hr : r.val = (25 - t.val) * 640 + x.val) :
    (iblk m c 0 t : Vec Ideal S640x256 .f32) (ix2 x ch)
      = (m ((c : Thread nD τ).loc main_arg0) : FVec Ideal S16640x768 .f32) (ix2 r ⟨ch.val, by omega⟩) := by
  blk_point [iblk, V, idx t]

/-- A tile's entry of the second half. -/
theorem right_blk (c : Dev nD) (t : Fin cfg0.N) (x : Fin 640) (ch : Fin 256) (r : Fin 16640)
    (hr : r.val = (25 - t.val) * 640 + x.val) :
    (iblk m c 1 t : Vec Ideal S640x256 .f32) (ix2 x ch)
      = (m ((c : Thread nD τ).loc main_arg0) : FVec Ideal S16640x768 .f32) (ix2 r ⟨256 + ch.val, by omega⟩) := by
  blk_point [iblk, V, idx t]

/-- What a grid point stores, given the rows it works on. -/
theorem out_core (c : Dev nD) (t : Fin cfg0.N) (X : Vec Ideal S672x256 .f32)
    (hX : ∀ y, X y = ConvInRef.ext (ct m c) ((25 - t.val) * 640 + (y 0).val) (y 1)) (y : S640x512.Idx)
    (r : Fin 16640) (q : Fin 512) (hr : r.val = (25 - t.val) * 640 + (y 0).val) (hq : q.val = (y 1).val) :
    View.canon (Val := Elt Ideal) (e := .bf16) [⟨Rect.unit (s := S640x512) ![0,256] ![640,256] inb_S640x512_S640x256_0_256,
        k0_pay1 (F := Ideal) (k0_pay27 (F := Ideal) (iblk m c 3 t) (acc (iblk m c 3 t) X) (k0_pay23 (F := Ideal) (iblk m c 3 t))
          (rows X 2 0 (by decide)) (rows X 1 0 (by decide)) (rows X 0 0 (by decide)) (iblk m c 0 t) (iblk m c 1 t))⟩,
      ⟨Rect.unit (s := S640x512) ![0,0] ![640,256] inb_S640x512_S640x256_0_0,
        k0_pay26 (F := Ideal) (iblk m c 3 t) (acc (iblk m c 3 t) X) (k0_pay23 (F := Ideal) (iblk m c 3 t))
          (rows X 2 0 (by decide)) (rows X 1 0 (by decide)) (rows X 0 0 (by decide)) (iblk m c 1 t)⟩] y
      = REF m c (ix2 r q) := by
  have ht : t.val < 26 := t.isLt
  have hy0 := (y 0).isLt
  have hy1 := (y 1).isLt
  simp at hy0 hy1
  have hW : (iblk m c 3 t : Vec Ideal S31x256 .f32) = m ((c : Thread nD τ).loc main_arg2) := by
    funext j
    blk_point [iblk, V, idx t]
  by_cases h : (y 1).val < 256
  · refine (Cert.Stores.canon_miss (S := S640x512) ![0,256] ![640,256] inb_S640x512_S640x256_0_256 _ _ y 1 (Or.inl ?_)).trans ?_
    · simpa using h
    refine (Cert.Stores.canon_hit (S := S640x512) ![0,0] ![640,256] inb_S640x512_S640x256_0_0 _ _ y
      (ix2 (⟨(y 0).val, hy0⟩ : Fin 640) (⟨(y 1).val, h⟩ : Fin 256)) ?_).trans ?_
    · intro a; match a with | 0 => simp | 1 => simp
    · obtain rfl : q = ⟨(y 1).val, by omega⟩ := Fin.ext hq
      refine Eq.trans ?_ (ConvInRef.hleft _ _ _ r ⟨(y 1).val, h⟩).symm
      refine (left_at ..).trans (congrArg₂ (· * ·) ((acc_at _ _ _ _).trans ?_) (congrArg ConvInRef.sg (right_blk m c t _ _ r hr)))
      rw [sum_term (ct m c) _ X _ hX, hW, hr]
  · refine (Cert.Stores.canon_hit (S := S640x512) ![0,256] ![640,256] inb_S640x512_S640x256_0_256 _ _ y
      (ix2 (⟨(y 0).val, hy0⟩ : Fin 640) (⟨(y 1).val - 256, by omega⟩ : Fin 256)) ?_).trans ?_
    · intro a; match a with | 0 => simp | 1 => simp; omega
    · have hq' : q = ⟨256 + ((y 1).val - 256), by omega⟩ := Fin.ext (by simp [hq]; omega)
      refine Eq.trans ?_ (congrArg (fun z => REF m c (ix2 r z)) hq'.symm)
      refine Eq.trans ?_ (ConvInRef.hright _ _ _ r ⟨(y 1).val - 256, by omega⟩).symm
      have e := right_blk m c t ⟨(y 0).val, hy0⟩ ⟨(y 1).val - 256, by omega⟩ r hr
      refine (right_at ..).trans (congrArg₂ (· * ·) (congrArg₂ (· * ·) (left_blk m c t _ _ r hr) ((acc_at _ _ _ _).trans ?_))
        (congrArg₂ (· * ·) (congrArg ConvInRef.sg e) (congrArg (1 - ConvInRef.sg ·) e)))
      rw [sum_term (ct m c) _ X _ hX, hW, hr]

/-- What the first point leaves. -/
theorem outA (c : Dev nD) (t : Fin cfg0.N) (h0 : t.val % 26 = 0) (h1 : ¬ 1 ≤ t.val) (y)
    (r : Fin 16640) (q : Fin 512) (hr : r.val = (25 - t.val) * 640 + (y 0).val) (hq : q.val = (y 1).val) :
    (outsAt0 m c t.val t.isLt).1 y = REF m c (ix2 r q) := by
  rw [outsAt0_A m c t h0 h1]
  frame_out
  simp only [load_buf]
  generalize hX : buf _ _ = X
  simp (config := {decide := true}) only [load_slots]
  subst hX
  exact out_core m c t _ (buf_ext m c t _ rfl _ (below m c t h1)) y r q hr hq

/-- What a later point leaves. -/
theorem outB (c : Dev nD) (t : Fin cfg0.N) (h0 : ¬ t.val % 26 = 0) (h1 : 1 ≤ t.val) (y)
    (r : Fin 16640) (q : Fin 512) (hr : r.val = (25 - t.val) * 640 + (y 0).val) (hq : q.val = (y 1).val) :
    (outsAt0 m c t.val t.isLt).1 y = REF m c (ix2 r q) := by
  rw [outsAt0_B m c t h0 h1]
  frame_out
  simp only [load_buf]
  generalize hX : buf _ _ = X
  simp (config := {decide := true}) only [load_slots]
  subst hX
  exact out_core m c t _ (buf_ext m c t _ rfl _ (carried m c t h1 (scr m c _ _) _)) y r q hr hq

/-- The array after the run is the reference's. -/
theorem final (c : Dev nD) : (dats m 0 c).arrAt 4 (cfgs 0).N = REF m c := by
  refine (dats m 0 c).arrAt_eq_of_covers 4 _ (by decide +kernel) fun t hf y => ?_
  have ht : t.val < 26 := t.isLt
  blk_simp
  rw [after0_4]
  have hi (i : S16640x512.Idx) : ix2 (i 0) (i 1) = i := by
    funext a; match a with | 0 => rfl | 1 => rfl
  by_cases h1 : 1 ≤ t.val
  · refine (outB m c t (by omega) h1 y (((win0_4.blk t).view.emb y) 0) (((win0_4.blk t).view.emb y) 1) ?_ ?_).trans (congrArg _ (hi _))
    all_goals blk_simp [idx t]
  · refine (outA m c t (by omega) h1 y (((win0_4.blk t).view.emb y) 0) (((win0_4.blk t).view.emb y) 1) ?_ ?_).trans (congrArg _ (hi _))
    all_goals blk_simp [idx t]

end Cert.ConvInIdeal.Value

end
-- ==== Proof.ConvInClaims.lean ====
/- The five claims about the ConvIn call: three frames, the idealisation, the equation. -/
module

public import proofs.«01_k».proof.Defs
public import proofs.«01_k».proof.Proof.ConvInValue
public import proofs.«01_k».proof.Proof.Gen.ConvIn.Frame
public import proofs.«01_k».proof.Proof.Gen.ConvInIdeal.Frame
public import proofs.«01_k».proof.Proof.Gen.ConvInRefIdeal.Run
public import proofs.«01_k».proof.Proof.Gen.ConvInRefIdeal.Read
public import Idealize.ShloMosaic.Adequacy
public import Idealize.ShloMosaic.Init

@[expose] public section

set_option maxRecDepth 16384

noncomputable section

namespace Cert.Proof.ConvIn

open Idealize.ShloMosaic Idealize.ShloMosaic.TcCoe Idealize.SL.Sem

/-- The call as printed ends with its arguments unchanged and its counters at zero. -/
theorem frame_p : Cert.quiescent_ConvIn := fun m ρ _ => Cert.ConvIn.Gen.frame m ρ

/-- So does the call over the reals. -/
theorem frame_pi : Cert.quiescent_ConvInIdeal := fun m ρ _ => Cert.ConvInIdeal.Gen.frame m ρ

/-- So does the reference, which has no counters. -/
theorem frame_ri : Cert.quiescent_ConvInRefIdeal := fun m ρ _ =>
  (θ_run Cert.ConvInRefIdeal.defs _ _).mono
    (fun r h => ⟨fun c => (h c).2, sem_eq_zero_of_no_sems (by decide) r.2⟩)
    (Cert.ConvInRefIdeal.Value.run (F := Ideal) m ρ)

/-- No operation was rewritten. -/
theorem preserves : Cert.preserves_ConvIn_ConvInIdeal := trivial

/-- Over the reals the call's results are the reference's. -/
theorem algebraic : Cert.algebraic_ConvInIdeal_ConvInRefIdeal := by
  pair_intro
  · run_from Cert.ConvInIdeal.Value.run_blocks m g
  · refine (θ_run Cert.ConvInRefIdeal.defs _ _).mono (fun r h c => ?_) (Cert.ConvInRefIdeal.Value.run (F := Ideal) m' g')
    obtain ⟨h0, h1, h2⟩ := hagree c
    refine ⟨?_, (h c).2⟩
    refine ((h c).1.trans (Cert.ConvInRefIdeal.Read.val_main_v367_eq ..)).trans ?_
    refine Eq.trans ?_ (Cert.ConvInIdeal.Value.final m c).symm
    congr 1

end Cert.Proof.ConvIn

end
-- ==== Proof.UpWeightValue.lean ====
/- The weight gradient of an up product: the array the call leaves is the reference's, entry by entry. -/
module

public import proofs.«01_k».proof.Proof.Gen.UpWeightIdeal.Value
public import proofs.«01_k».proof.Proof.Gen.UpWeightRefIdeal.Read
public import Idealize.ShloMosaic.Lib.Pipeline.ValueKit

@[expose] public section

set_option maxRecDepth 16384

noncomputable section

namespace Cert.UpWeightIdeal.Value

open Cert.UpWeightIdeal Cert.UpWeightIdeal.Gen Idealize.ShloMosaic Idealize.ShloMosaic.TcCoe Idealize.SL.Sem
open Idealize.ShloMosaic.Pipeline (Dat)

variable (m : (ℓ : Loc nD τ sig) → Buf (Elt Ideal) ℓ)

/-- The reference's weight gradient of the saved array and the gradient above it. -/
abbrev REF (X : FVec Ideal S16640x1024 .bf16) (C : FVec Ideal S16640x3072 .bf16) : FVec Ideal S1024x3072 .f32 :=
  Cert.UpWeightRefIdeal.Read.val_main_v5 (F := Ideal) X C

/-- The fill at the first row tile is zero. -/
theorem hzero (j) : k0_pay1 (F := Ideal) j = 0 := by
  pointwise [k0_pay1]

/-- One row tile adds its own products. -/
theorem hpay (acc x0 x1 j) : k0_pay2 (F := Ideal) acc x0 x1 j
    = acc j + ∑ k : Fin 3328, x0 (ix2 k (j 0)) * x1 (ix2 k (j 1)) := by
  pointwise [k0_pay2]

/-- The reference's entry is one sum over all rows. -/
theorem href (X : FVec Ideal S16640x1024 .bf16) (C : FVec Ideal S16640x3072 .bf16) (j) :
    REF X C j = ∑ l : Fin 16640, X (ix2 l (j 0)) * C (ix2 l (j 1)) := by
  pointwise [REF, Cert.UpWeightRefIdeal.Read.val_main_v5, Cert.UpWeightRefIdeal.Read.val_main_v4, Cert.UpWeightRefIdeal.Read.val_main_v3, Cert.UpWeightRefIdeal.Read.val_main_v1]
  exact Finset.sum_congr rfl fun _ _ => mul_comm _ _

/-- The blocks of the three arrays at a grid point. -/
theorem idx : ∀ t : Fin cfg0.N, win0_0.index t = ![t.val % 5, t.val / 15] ∧ win0_1.index t = ![t.val % 5, t.val / 5 % 3]
    ∧ win0_2.index t = ![t.val / 15, t.val / 5 % 3] :=
  (by decide +kernel : ∀ t : Fin grid0.N, _)

/-- The array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 5 (fun _ => 0) _
    (fun t h j => by rw [outsAt0_A m c t h]; frame_out; rw [hpay, hzero])
    (fun t h j => by rw [outsAt0_B m c t h]; frame_out; rw [hpay])
    t ((flush0_2 t).mp hf) _, zero_add, href]
  refine Fin.sum_mul_add_congr fun s k hl => ?_
  blk_point [iblk, V, idx t, idx ⟨_, Pipeline.run_point_lt_of_flush t ((flush0_2 t).mp hf) s⟩]

end Cert.UpWeightIdeal.Value

end
-- ==== Proof.UpWeightClaims.lean ====
/- The five claims about the UpWeight call: three frames, the idealisation, the equation. -/
module

public import proofs.«01_k».proof.Defs
public import proofs.«01_k».proof.Proof.UpWeightValue
public import proofs.«01_k».proof.Proof.Gen.UpWeight.Frame
public import proofs.«01_k».proof.Proof.Gen.UpWeightIdeal.Frame
public import proofs.«01_k».proof.Proof.Gen.UpWeightRefIdeal.Run
public import proofs.«01_k».proof.Proof.Gen.UpWeightRefIdeal.Read
public import Idealize.ShloMosaic.Adequacy
public import Idealize.ShloMosaic.Init

@[expose] public section

set_option maxRecDepth 16384

noncomputable section

namespace Cert.Proof.UpWeight

open Idealize.ShloMosaic Idealize.ShloMosaic.TcCoe Idealize.SL.Sem

/-- The call as printed ends with its arguments unchanged and its counters at zero. -/
theorem frame_p : Cert.quiescent_UpWeight := fun m ρ _ => Cert.UpWeight.Gen.frame m ρ

/-- So does the call over the reals. -/
theorem frame_pi : Cert.quiescent_UpWeightIdeal := fun m ρ _ => Cert.UpWeightIdeal.Gen.frame m ρ

/-- So does the reference, which has no counters. -/
theorem frame_ri : Cert.quiescent_UpWeightRefIdeal := fun m ρ _ =>
  (θ_run Cert.UpWeightRefIdeal.defs _ _).mono
    (fun r h => ⟨fun c => (h c).2, sem_eq_zero_of_no_sems (by decide) r.2⟩)
    (Cert.UpWeightRefIdeal.Value.run (F := Ideal) m ρ)

/-- No operation was rewritten. -/
theorem preserves : Cert.preserves_UpWeight_UpWeightIdeal := trivial

/-- Over the reals the call's results are the reference's. -/
theorem algebraic : Cert.algebraic_UpWeightIdeal_UpWeightRefIdeal := by
  pair_intro
  · run_from Cert.UpWeightIdeal.Value.run_blocks m g
  · refine (θ_run Cert.UpWeightRefIdeal.defs _ _).mono (fun r h c => ?_) (Cert.UpWeightRefIdeal.Value.run (F := Ideal) m' g')
    obtain ⟨h0, h1⟩ := hagree c
    refine ⟨?_, (h c).2⟩
    refine ((h c).1.trans (Cert.UpWeightRefIdeal.Read.val_main_v5_eq ..)).trans ?_
    refine Eq.trans ?_ (Cert.UpWeightIdeal.Value.final m c).symm
    congr 1

end Cert.Proof.UpWeight

end
-- ==== Proof.DownWeightValue.lean ====
/- The weight gradient of a down product: the array the call leaves is the reference's, entry by entry. -/
module

public import proofs.«01_k».proof.Proof.Gen.DownWeightIdeal.Value
public import proofs.«01_k».proof.Proof.Gen.DownWeightRefIdeal.Read
public import Idealize.ShloMosaic.Lib.Pipeline.ValueKit

@[expose] public section

set_option maxRecDepth 16384

noncomputable section

namespace Cert.DownWeightIdeal.Value

open Cert.DownWeightIdeal Cert.DownWeightIdeal.Gen Idealize.ShloMosaic Idealize.ShloMosaic.TcCoe Idealize.SL.Sem
open Idealize.ShloMosaic.Pipeline (Dat)

variable (m : (ℓ : Loc nD τ sig) → Buf (Elt Ideal) ℓ)

/-- The reference's weight gradient of the saved array and the gradient above it. -/
abbrev REF (X : FVec Ideal S16640x3072 .bf16) (C : FVec Ideal S16640x1024 .bf16) : FVec Ideal S3072x1024 .f32 :=
  Cert.DownWeightRefIdeal.Read.val_main_v5 (F := Ideal) X C

/-- The fill at the first row tile is zero. -/
theorem hzero (j) : k0_pay1 (F := Ideal) j = 0 := by
  pointwise [k0_pay1]

/-- One row tile adds its own products. -/
theorem hpay (acc x0 x1 j) : k0_pay2 (F := Ideal) acc x0 x1 j
    = acc j + ∑ k : Fin 3328, x0 (ix2 k (j 0)) * x1 (ix2 k (j 1)) := by
  pointwise [k0_pay2]

/-- The reference's entry is one sum over all rows. -/
theorem href (X : FVec Ideal S16640x3072 .bf16) (C : FVec Ideal S16640x1024 .bf16) (j) :
    REF X C j = ∑ l : Fin 16640, X (ix2 l (j 0)) * C (ix2 l (j 1)) := by
  pointwise [REF, Cert.DownWeightRefIdeal.Read.val_main_v5, Cert.DownWeightRefIdeal.Read.val_main_v4, Cert.DownWeightRefIdeal.Read.val_main_v3, Cert.DownWeightRefIdeal.Read.val_main_v1]
  exact Finset.sum_congr rfl fun _ _ => mul_comm _ _

/-- The blocks of the three arrays at a grid point. -/
theorem idx : ∀ t : Fin cfg0.N, win0_0.index t = ![t.val % 5, t.val / 5] ∧ win0_1.index t = ![t.val % 5, 0]
    ∧ win0_2.index t = ![t.val / 5, 0] :=
  (by decide +kernel : ∀ t : Fin grid0.N, _)

/-- The array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 5 (fun _ => 0) _
    (fun t h j => by rw [outsAt0_A m c t h]; frame_out; rw [hpay, hzero])
    (fun t h j => by rw [outsAt0_B m c t h]; frame_out; rw [hpay])
    t ((flush0_2 t).mp hf) _, zero_add, href]
  refine Fin.sum_mul_add_congr fun s k hl => ?_
  blk_point [iblk, V, idx t, idx ⟨_, Pipeline.run_point_lt_of_flush t ((flush0_2 t).mp hf) s⟩]

end Cert.DownWeightIdeal.Value

end
-- ==== Proof.DownWeightClaims.lean ====
/- The five claims about the DownWeight call: three frames, the idealisation, the equation. -/
module

public import proofs.«01_k».proof.Defs
public import proofs.«01_k».proof.Proof.DownWeightValue
public import proofs.«01_k».proof.Proof.Gen.DownWeight.Frame
public import proofs.«01_k».proof.Proof.Gen.DownWeightIdeal.Frame
public import proofs.«01_k».proof.Proof.Gen.DownWeightRefIdeal.Run
public import proofs.«01_k».proof.Proof.Gen.DownWeightRefIdeal.Read
public import Idealize.ShloMosaic.Adequacy
public import Idealize.ShloMosaic.Init

@[expose] public section

set_option maxRecDepth 16384

noncomputable section

namespace Cert.Proof.DownWeight

open Idealize.ShloMosaic Idealize.ShloMosaic.TcCoe Idealize.SL.Sem

/-- The call as printed ends with its arguments unchanged and its counters at zero. -/
theorem frame_p : Cert.quiescent_DownWeight := fun m ρ _ => Cert.DownWeight.Gen.frame m ρ

/-- So does the call over the reals. -/
theorem frame_pi : Cert.quiescent_DownWeightIdeal := fun m ρ _ => Cert.DownWeightIdeal.Gen.frame m ρ

/-- So does the reference, which has no counters. -/
theorem frame_ri : Cert.quiescent_DownWeightRefIdeal := fun m ρ _ =>
  (θ_run Cert.DownWeightRefIdeal.defs _ _).mono
    (fun r h => ⟨fun c => (h c).2, sem_eq_zero_of_no_sems (by decide) r.2⟩)
    (Cert.DownWeightRefIdeal.Value.run (F := Ideal) m ρ)

/-- No operation was rewritten. -/
theorem preserves : Cert.preserves_DownWeight_DownWeightIdeal := trivial

/-- Over the reals the call's results are the reference's. -/
theorem algebraic : Cert.algebraic_DownWeightIdeal_DownWeightRefIdeal := by
  pair_intro
  · run_from Cert.DownWeightIdeal.Value.run_blocks m g
  · refine (θ_run Cert.DownWeightRefIdeal.defs _ _).mono (fun r h c => ?_) (Cert.DownWeightRefIdeal.Value.run (F := Ideal) m' g')
    obtain ⟨h0, h1⟩ := hagree c
    refine ⟨?_, (h c).2⟩
    refine ((h c).1.trans (Cert.DownWeightRefIdeal.Read.val_main_v5_eq ..)).trans ?_
    refine Eq.trans ?_ (Cert.DownWeightIdeal.Value.final m c).symm
    congr 1

end Cert.Proof.DownWeight

end
-- ==== Proof.DownInputValue.lean ====
/- The input gradient of a down product: row tile by row tile, the array the call leaves is the reference's. -/
module

public import proofs.«01_k».proof.Proof.Gen.DownInputIdeal.Value
public import proofs.«01_k».proof.Proof.Gen.DownInputRefIdeal.Read
public import Idealize.ShloMosaic.Lib.Pipeline.ValueKit

@[expose] public section

set_option maxRecDepth 16384

noncomputable section

namespace Cert.DownInputIdeal.Value

open Cert.DownInputIdeal Cert.DownInputIdeal.Gen Idealize.ShloMosaic Idealize.ShloMosaic.TcCoe Idealize.SL.Sem
open Idealize.ShloMosaic.Pipeline (Dat)

variable (m : (ℓ : Loc nD τ sig) → Buf (Elt Ideal) ℓ)

/-- The reference's array of the call's arguments. -/
abbrev REF (C : FVec Ideal S16640x1024 .bf16) (W : FVec Ideal S3072x1024 .bf16) : FVec Ideal S16640x3072 .bf16 :=
  Cert.DownInputRefIdeal.Read.val_main_v5 (F := Ideal) C W

/-- Row tile `t` of the left array meets the whole right array. -/
theorem idx : ∀ t : Fin cfg0.N, win0_0.index t = ![t.val, 0] ∧ win0_1.index t = ![0, 0] ∧ win0_2.index t = ![t.val, 0] :=
  (by decide +kernel : ∀ t : Fin grid0.N, _)

/-- What the body stores at place `y` of tile `t` is the reference's entry there. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF, Cert.DownInputRefIdeal.Read.val_main_v5, Cert.DownInputRefIdeal.Read.val_main_v4, Cert.DownInputRefIdeal.Read.val_main_v3, Cert.DownInputRefIdeal.Read.val_main_v1]
  blk_point [iblk, V, idx t]

/-- The array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.DownInputIdeal.Value

end
-- ==== Proof.DownInputClaims.lean ====
/- The five claims about the DownInput call: three frames, the idealisation, the equation. -/
module

public import proofs.«01_k».proof.Defs
public import proofs.«01_k».proof.Proof.DownInputValue
public import proofs.«01_k».proof.Proof.Gen.DownInput.Frame
public import proofs.«01_k».proof.Proof.Gen.DownInputIdeal.Frame
public import proofs.«01_k».proof.Proof.Gen.DownInputRefIdeal.Run
public import proofs.«01_k».proof.Proof.Gen.DownInputRefIdeal.Read
public import Idealize.ShloMosaic.Adequacy
public import Idealize.ShloMosaic.Init

@[expose] public section

set_option maxRecDepth 16384

noncomputable section

namespace Cert.Proof.DownInput

open Idealize.ShloMosaic Idealize.ShloMosaic.TcCoe Idealize.SL.Sem

/-- The call as printed ends with its arguments unchanged and its counters at zero. -/
theorem frame_p : Cert.quiescent_DownInput := fun m ρ _ => Cert.DownInput.Gen.frame m ρ

/-- So does the call over the reals. -/
theorem frame_pi : Cert.quiescent_DownInputIdeal := fun m ρ _ => Cert.DownInputIdeal.Gen.frame m ρ

/-- So does the reference, which has no counters. -/
theorem frame_ri : Cert.quiescent_DownInputRefIdeal := fun m ρ _ =>
  (θ_run Cert.DownInputRefIdeal.defs _ _).mono
    (fun r h => ⟨fun c => (h c).2, sem_eq_zero_of_no_sems (by decide) r.2⟩)
    (Cert.DownInputRefIdeal.Value.run (F := Ideal) m ρ)

/-- No operation was rewritten. -/
theorem preserves : Cert.preserves_DownInput_DownInputIdeal := trivial

/-- Over the reals the call's results are the reference's. -/
theorem algebraic : Cert.algebraic_DownInputIdeal_DownInputRefIdeal := by
  pair_intro
  · run_from Cert.DownInputIdeal.Value.run_blocks m g
  · refine (θ_run Cert.DownInputRefIdeal.defs _ _).mono (fun r h c => ?_) (Cert.DownInputRefIdeal.Value.run (F := Ideal) m' g')
    obtain ⟨h0, h1⟩ := hagree c
    refine ⟨?_, (h c).2⟩
    refine ((h c).1.trans (Cert.DownInputRefIdeal.Read.val_main_v5_eq ..)).trans ?_
    refine Eq.trans ?_ (Cert.DownInputIdeal.Value.final m c).symm
    congr 1

end Cert.Proof.DownInput

end
-- ==== Proof.UpInputValue.lean ====
/- The input gradient of an up product: row tile by row tile, the array the call leaves is the reference's. -/
module

public import proofs.«01_k».proof.Proof.Gen.UpInputIdeal.Value
public import proofs.«01_k».proof.Proof.Gen.UpInputRefIdeal.Read
public import Idealize.ShloMosaic.Lib.Pipeline.ValueKit

@[expose] public section

set_option maxRecDepth 16384

noncomputable section

namespace Cert.UpInputIdeal.Value

open Cert.UpInputIdeal Cert.UpInputIdeal.Gen Idealize.ShloMosaic Idealize.ShloMosaic.TcCoe Idealize.SL.Sem
open Idealize.ShloMosaic.Pipeline (Dat)

variable (m : (ℓ : Loc nD τ sig) → Buf (Elt Ideal) ℓ)

/-- The reference's array of the call's arguments. -/
abbrev REF (C : FVec Ideal S16640x3072 .bf16) (W : FVec Ideal S1024x3072 .bf16) : FVec Ideal S16640x1024 .f32 :=
  Cert.UpInputRefIdeal.Read.val_main_v4 (F := Ideal) C W

/-- Row tile `t` of the left array meets the whole right array. -/
theorem idx : ∀ t : Fin cfg0.N, win0_0.index t = ![t.val, 0] ∧ win0_1.index t = ![0, 0] ∧ win0_2.index t = ![t.val, 0] :=
  (by decide +kernel : ∀ t : Fin grid0.N, _)

/-- What the body stores at place `y` of tile `t` is the reference's entry there. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF, Cert.UpInputRefIdeal.Read.val_main_v4, Cert.UpInputRefIdeal.Read.val_main_v3, Cert.UpInputRefIdeal.Read.val_main_v1]
  blk_point [iblk, V, idx t]

/-- The array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.UpInputIdeal.Value

end
-- ==== Proof.UpInputClaims.lean ====
/- The five claims about the UpInput call: three frames, the idealisation, the equation. -/
module

public import proofs.«01_k».proof.Defs
public import proofs.«01_k».proof.Proof.UpInputValue
public import proofs.«01_k».proof.Proof.Gen.UpInput.Frame
public import proofs.«01_k».proof.Proof.Gen.UpInputIdeal.Frame
public import proofs.«01_k».proof.Proof.Gen.UpInputRefIdeal.Run
public import proofs.«01_k».proof.Proof.Gen.UpInputRefIdeal.Read
public import Idealize.ShloMosaic.Adequacy
public import Idealize.ShloMosaic.Init

@[expose] public section

set_option maxRecDepth 16384

noncomputable section

namespace Cert.Proof.UpInput

open Idealize.ShloMosaic Idealize.ShloMosaic.TcCoe Idealize.SL.Sem

/-- The call as printed ends with its arguments unchanged and its counters at zero. -/
theorem frame_p : Cert.quiescent_UpInput := fun m ρ _ => Cert.UpInput.Gen.frame m ρ

/-- So does the call over the reals. -/
theorem frame_pi : Cert.quiescent_UpInputIdeal := fun m ρ _ => Cert.UpInputIdeal.Gen.frame m ρ

/-- So does the reference, which has no counters. -/
theorem frame_ri : Cert.quiescent_UpInputRefIdeal := fun m ρ _ =>
  (θ_run Cert.UpInputRefIdeal.defs _ _).mono
    (fun r h => ⟨fun c => (h c).2, sem_eq_zero_of_no_sems (by decide) r.2⟩)
    (Cert.UpInputRefIdeal.Value.run (F := Ideal) m ρ)

/-- No operation was rewritten. -/
theorem preserves : Cert.preserves_UpInput_UpInputIdeal := trivial

/-- Over the reals the call's results are the reference's. -/
theorem algebraic : Cert.algebraic_UpInputIdeal_UpInputRefIdeal := by
  pair_intro
  · run_from Cert.UpInputIdeal.Value.run_blocks m g
  · refine (θ_run Cert.UpInputRefIdeal.defs _ _).mono (fun r h c => ?_) (Cert.UpInputRefIdeal.Value.run (F := Ideal) m' g')
    obtain ⟨h0, h1⟩ := hagree c
    refine ⟨?_, (h c).2⟩
    refine ((h c).1.trans (Cert.UpInputRefIdeal.Read.val_main_v4_eq ..)).trans ?_
    refine Eq.trans ?_ (Cert.UpInputIdeal.Value.final m c).symm
    congr 1

end Cert.Proof.UpInput

end
-- ==== Proof.UpInputSumValue.lean ====
/- The input gradient of a second product added onto the first one's. -/
module

public import proofs.«01_k».proof.Proof.Gen.UpInputSumIdeal.Value
public import proofs.«01_k».proof.Proof.Gen.UpInputSumRefIdeal.Read
public import Idealize.ShloMosaic.Lib.Pipeline.ValueKit

@[expose] public section

set_option maxRecDepth 16384

noncomputable section

namespace Cert.UpInputSumIdeal.Value

open Cert.UpInputSumIdeal Cert.UpInputSumIdeal.Gen Idealize.ShloMosaic Idealize.ShloMosaic.TcCoe Idealize.SL.Sem
open Idealize.ShloMosaic.Pipeline (Dat)

variable (m : (ℓ : Loc nD τ sig) → Buf (Elt Ideal) ℓ)

/-- The reference's array of the call's arguments. -/
abbrev REF (C : FVec Ideal S16640x3072 .bf16) (W : FVec Ideal S1024x3072 .bf16) (R : FVec Ideal S16640x1024 .f32) : FVec Ideal S16640x1024 .bf16 :=
  Cert.UpInputSumRefIdeal.Read.val_main_v6 (F := Ideal) C W R

/-- Row tile `t` of the left array meets the whole right array. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- What the body stores at place `y` of tile `t` is the reference's entry there. -/
theorem point (c : Dev nD) (t : Fin cfg0.N) (y) : k0_pay1 (iblk m c 0 t) (iblk m c 1 t) (iblk m c 2 t) y
    = REF (m ((c : Thread nD τ).loc main_arg0)) (m ((c : Thread nD τ).loc main_arg1)) (m ((c : Thread nD τ).loc main_arg2)) (((cfg0.win 3).blk t).view.emb y) := by
  pointwise [k0_pay1, REF, Cert.UpInputSumRefIdeal.Read.val_main_v6, Cert.UpInputSumRefIdeal.Read.val_main_v5, Cert.UpInputSumRefIdeal.Read.val_main_v4, Cert.UpInputSumRefIdeal.Read.val_main_v3, Cert.UpInputSumRefIdeal.Read.val_main_v1]
  blk_point [iblk, V, idx t]

/-- The array after the run is the reference's. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.UpInputSumIdeal.Value

end
-- ==== Proof.UpInputSumClaims.lean ====
/- The five claims about the UpInputSum call: three frames, the idealisation, the equation. -/
module

public import proofs.«01_k».proof.Defs
public import proofs.«01_k».proof.Proof.UpInputSumValue
public import proofs.«01_k».proof.Proof.Gen.UpInputSum.Frame
public import proofs.«01_k».proof.Proof.Gen.UpInputSumIdeal.Frame
public import proofs.«01_k».proof.Proof.Gen.UpInputSumRefIdeal.Run
public import proofs.«01_k».proof.Proof.Gen.UpInputSumRefIdeal.Read
public import Idealize.ShloMosaic.Adequacy
public import Idealize.ShloMosaic.Init

@[expose] public section

set_option maxRecDepth 16384

noncomputable section

namespace Cert.Proof.UpInputSum

open Idealize.ShloMosaic Idealize.ShloMosaic.TcCoe Idealize.SL.Sem

/-- The call as printed ends with its arguments unchanged and its counters at zero. -/
theorem frame_p : Cert.quiescent_UpInputSum := fun m ρ _ => Cert.UpInputSum.Gen.frame m ρ

/-- So does the call over the reals. -/
theorem frame_pi : Cert.quiescent_UpInputSumIdeal := fun m ρ _ => Cert.UpInputSumIdeal.Gen.frame m ρ

/-- So does the reference, which has no counters. -/
theorem frame_ri : Cert.quiescent_UpInputSumRefIdeal := fun m ρ _ =>
  (θ_run Cert.UpInputSumRefIdeal.defs _ _).mono
    (fun r h => ⟨fun c => (h c).2, sem_eq_zero_of_no_sems (by decide) r.2⟩)
    (Cert.UpInputSumRefIdeal.Value.run (F := Ideal) m ρ)

/-- No operation was rewritten. -/
theorem preserves : Cert.preserves_UpInputSum_UpInputSumIdeal := trivial

/-- Over the reals the call's results are the reference's. -/
theorem algebraic : Cert.algebraic_UpInputSumIdeal_UpInputSumRefIdeal := by
  pair_intro
  · run_from Cert.UpInputSumIdeal.Value.run_blocks m g
  · refine (θ_run Cert.UpInputSumRefIdeal.defs _ _).mono (fun r h c => ?_) (Cert.UpInputSumRefIdeal.Value.run (F := Ideal) m' g')
    obtain ⟨h0, h1, h2⟩ := hagree c
    refine ⟨?_, (h c).2⟩
    refine ((h c).1.trans (Cert.UpInputSumRefIdeal.Read.val_main_v6_eq ..)).trans ?_
    refine Eq.trans ?_ (Cert.UpInputSumIdeal.Value.final m c).symm
    congr 1

end Cert.Proof.UpInputSum

end
-- ==== Proof.UpValue.lean ====
/- A product of the forward pass: row tile by row tile, the array the call leaves is the reference's. -/
module

public import proofs.«01_k».proof.Proof.Gen.UpIdeal.Value
public import proofs.«01_k».proof.Proof.Gen.UpRefIdeal.Read
public import Idealize.ShloMosaic.Lib.Pipeline.ValueKit

@[expose] public section

set_option maxRecDepth 16384

noncomputable section

namespace Cert.UpIdeal.Value

open Cert.UpIdeal Cert.UpIdeal.Gen Idealize.ShloMosaic Idealize.ShloMosaic.TcCoe Idealize.SL.Sem
open Idealize.ShloMosaic.Pipeline (Dat)

variable (m : (ℓ : Loc nD τ sig) → Buf (Elt Ideal) ℓ)

/-- The reference's array of the call's arguments. -/
abbrev REF (X : FVec Ideal S16640x1024 .bf16) (W : FVec Ideal S1024x3072 .bf16) : FVec Ideal S16640x3072 .bf16 :=
  Cert.UpRefIdeal.Read.val_main_v3 (F := Ideal) X W

/-- Row tile `t` of the left array meets the whole right array. -/
theorem idx : ∀ t : Fin cfg0.N, win0_0.index t = ![t.val, 0] ∧ win0_1.index t = ![0, 0] ∧ win0_2.index t = ![t.val, 0] :=
  (by decide +kernel : ∀ t : Fin grid0.N, _)

/-- What the body stores at place `y` of tile `t` is the reference's entry there. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF, Cert.UpRefIdeal.Read.val_main_v3, Cert.UpRefIdeal.Read.val_main_v2, Cert.UpRefIdeal.Read.val_main_v1, Cert.UpRefIdeal.Read.val_main_v0]
  blk_point [iblk, V, idx t]

/-- The array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.UpIdeal.Value

end
-- ==== Proof.UpClaims.lean ====
/- The five claims about the Up call: three frames, the idealisation, the equation. -/
module

public import proofs.«01_k».proof.Defs
public import proofs.«01_k».proof.Proof.UpValue
public import proofs.«01_k».proof.Proof.Gen.Up.Frame
public import proofs.«01_k».proof.Proof.Gen.UpIdeal.Frame
public import proofs.«01_k».proof.Proof.Gen.UpRefIdeal.Run
public import proofs.«01_k».proof.Proof.Gen.UpRefIdeal.Read
public import Idealize.ShloMosaic.Adequacy
public import Idealize.ShloMosaic.Init

@[expose] public section

set_option maxRecDepth 16384

noncomputable section

namespace Cert.Proof.Up

open Idealize.ShloMosaic Idealize.ShloMosaic.TcCoe Idealize.SL.Sem

/-- The call as printed ends with its arguments unchanged and its counters at zero. -/
theorem frame_p : Cert.quiescent_Up := fun m ρ _ => Cert.Up.Gen.frame m ρ

/-- So does the call over the reals. -/
theorem frame_pi : Cert.quiescent_UpIdeal := fun m ρ _ => Cert.UpIdeal.Gen.frame m ρ

/-- So does the reference, which has no counters. -/
theorem frame_ri : Cert.quiescent_UpRefIdeal := fun m ρ _ =>
  (θ_run Cert.UpRefIdeal.defs _ _).mono
    (fun r h => ⟨fun c => (h c).2, sem_eq_zero_of_no_sems (by decide) r.2⟩)
    (Cert.UpRefIdeal.Value.run (F := Ideal) m ρ)

/-- No operation was rewritten. -/
theorem preserves : Cert.preserves_Up_UpIdeal := trivial

/-- Over the reals the call's results are the reference's. -/
theorem algebraic : Cert.algebraic_UpIdeal_UpRefIdeal := by
  pair_intro
  · run_from Cert.UpIdeal.Value.run_blocks m g
  · refine (θ_run Cert.UpRefIdeal.defs _ _).mono (fun r h c => ?_) (Cert.UpRefIdeal.Value.run (F := Ideal) m' g')
    obtain ⟨h0, h1⟩ := hagree c
    refine ⟨?_, (h c).2⟩
    refine ((h c).1.trans (Cert.UpRefIdeal.Read.val_main_v3_eq ..)).trans ?_
    refine Eq.trans ?_ (Cert.UpIdeal.Value.final m c).symm
    congr 1

end Cert.Proof.Up

end
-- ==== Proof.DownValue.lean ====
/- The last product of a layer, added onto the layer's running value, with the padding rows set to zero. -/
module

public import proofs.«01_k».proof.Proof.Gen.DownIdeal.Value
public import proofs.«01_k».proof.Proof.Gen.DownRefIdeal.Read
public import Idealize.ShloMosaic.Lib.Pipeline.ValueKit

@[expose] public section

set_option maxRecDepth 16384

noncomputable section

namespace Cert.DownIdeal.Value

open Cert.DownIdeal Cert.DownIdeal.Gen Idealize.ShloMosaic Idealize.ShloMosaic.TcCoe Idealize.SL.Sem
open Idealize.ShloMosaic.Pipeline (Dat)

variable (m : (ℓ : Loc nD τ sig) → Buf (Elt Ideal) ℓ)

/-- The reference's array of the call's arguments. -/
abbrev REF (X : FVec Ideal S16640x3072 .bf16) (W : FVec Ideal S3072x1024 .bf16) (R : FVec Ideal S16640x1024 .f32) : FVec Ideal S16640x1024 .f32 :=
  Cert.DownRefIdeal.Read.val_main_v6 (F := Ideal) X W R

/-- Row tile `t` of the left array meets the whole right array. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The grid's first coordinate is the row tile. -/
theorem coord : ∀ t : Fin cfg0.N, ((cfg0.grid.coords t) 0).val = t.val :=
  (by decide +kernel : ∀ t : Fin grid0.N, _)

/-- The row's number as a word is at least 240 exactly when the number is. -/
theorem mask (n r : ℕ) (hn : n < 26) (hr : r < 640) :
    (240#32).sle (BitVec.ofNat 32 n * 640#32 + BitVec.ofNat 32 r) = decide (240 ≤ n * 640 + r) := by
  rw [BitVec.sle_eq_decide, decide_eq_decide]
  have h : (BitVec.ofNat 32 n * 640#32 + BitVec.ofNat 32 r) = BitVec.ofNat 32 (n * 640 + r) := by
    apply BitVec.eq_of_toNat_eq
    simp [BitVec.toNat_add, BitVec.toNat_mul]
  have hm : (BitVec.ofNat 32 (n * 640 + r)).toNat = n * 640 + r := by
    rw [BitVec.toNat_ofNat, Nat.mod_eq_of_lt (by omega)]
  rw [h, BitVec.toInt_eq_toNat_of_lt (by decide), BitVec.toInt_eq_toNat_of_lt (by omega), hm]
  exact Int.ofNat_le

/-- The body's entry at row `y 0` of tile `n`: the product and the running value, or zero in the padding. -/
theorem hpay (i : grid0.Coords) (v0 v1 v3) (y) :
    k0_pay1 (F := Ideal) i v0 v1 v3 y = if 240 ≤ (i 0).val * 640 + (y 0).val then
      ∑ k : Fin 3072, v0 (ix2 (y 0) k) * v1 (ix2 k (y 1)) + v3 y else 0 := by
  pointwise [k0_pay1]
  have h := mask (i 0).val (y 0).val (i 0).isLt (y 0).isLt
  simp only [IntOp.cmpi, IntOp.addi, Scalar.muli, IntOp.muli, h]
  by_cases hp : 240 ≤ (i 0).val * 640 + (y 0).val <;> simp [hp, Scalar.select]

/-- The reference's entry: the product and the running value, or zero in the padding rows. -/
theorem href (X W R) (j) : REF X W R j = if 240 ≤ (j 0).val then
      ∑ k : Fin 3072, X (ix2 (j 0) k) * W (ix2 k (j 1)) + R j else 0 := by
  pointwise [REF, Cert.DownRefIdeal.Read.val_main_v6, Cert.DownRefIdeal.Read.val_main_v5, Cert.DownRefIdeal.Read.val_main_v4, Cert.DownRefIdeal.Read.val_main_v3, Cert.DownRefIdeal.Read.val_main_v2, Cert.DownRefIdeal.Read.val_main_v1, Cert.DownRefIdeal.Read.val_main_v0, Cert.DownRefIdeal.Read.val_main_cst]
  by_cases hp : (j 0).val < 240
  · refine (dif_pos hp).trans (Eq.trans ?_ (if_neg (by omega)).symm)
    pointwise []
  · refine (dif_neg hp).trans (Eq.trans ?_ (if_pos (by omega)).symm)
    have e : ∀ h, (⟨240 + ((j 0).val - 240), h⟩ : Fin 16640) = j 0 := fun h => Fin.ext (by simp only; omega)
    refine congrArg₂ (· + ·) (Finset.sum_congr rfl fun k _ => congrArg (fun z => X (ix2 z k) * W (ix2 k (j 1))) (e _)) ?_
    exact (congrArg (fun z => R (ix2 z (j 1))) (e _)).trans (congrArg R (ix2_eta j))

/-- What the body stores at place `y` of tile `t` is the reference's entry there. -/
theorem point (c : Dev nD) (t : Fin cfg0.N) (y) :
    k0_pay1 (cfg0.grid.coords t) (iblk m c 0 t) (iblk m c 1 t) (iblk m c 2 t) y
    = REF (m ((c : Thread nD τ).loc main_arg0)) (m ((c : Thread nD τ).loc main_arg1)) (m ((c : Thread nD τ).loc main_arg2)) (((cfg0.win 3).blk t).view.emb y) := by
  rw [hpay, href, coord]
  have e0 : ((((cfg0.win 3).blk t).view.emb y) 0).val = t.val * 640 + (y 0).val := by
    blk_simp [idx t]
  simp only [e0]
  congr 1
  congr 1
  refine Finset.sum_congr rfl fun k _ => ?_
  blk_point [iblk, V, idx t]

/-- The array after the run is the reference's. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.DownIdeal.Value

end
-- ==== Proof.DownClaims.lean ====
/- The five claims about the Down call: three frames, the idealisation, the equation. -/
module

public import proofs.«01_k».proof.Defs
public import proofs.«01_k».proof.Proof.DownValue
public import proofs.«01_k».proof.Proof.Gen.Down.Frame
public import proofs.«01_k».proof.Proof.Gen.DownIdeal.Frame
public import proofs.«01_k».proof.Proof.Gen.DownRefIdeal.Run
public import proofs.«01_k».proof.Proof.Gen.DownRefIdeal.Read
public import Idealize.ShloMosaic.Adequacy
public import Idealize.ShloMosaic.Init

@[expose] public section

set_option maxRecDepth 16384

noncomputable section

namespace Cert.Proof.Down

open Idealize.ShloMosaic Idealize.ShloMosaic.TcCoe Idealize.SL.Sem

/-- The call as printed ends with its arguments unchanged and its counters at zero. -/
theorem frame_p : Cert.quiescent_Down := fun m ρ _ => Cert.Down.Gen.frame m ρ

/-- So does the call over the reals. -/
theorem frame_pi : Cert.quiescent_DownIdeal := fun m ρ _ => Cert.DownIdeal.Gen.frame m ρ

/-- So does the reference, which has no counters. -/
theorem frame_ri : Cert.quiescent_DownRefIdeal := fun m ρ _ =>
  (θ_run Cert.DownRefIdeal.defs _ _).mono
    (fun r h => ⟨fun c => (h c).2, sem_eq_zero_of_no_sems (by decide) r.2⟩)
    (Cert.DownRefIdeal.Value.run (F := Ideal) m ρ)

/-- No operation was rewritten. -/
theorem preserves : Cert.preserves_Down_DownIdeal := trivial

/-- Over the reals the call's results are the reference's. -/
theorem algebraic : Cert.algebraic_DownIdeal_DownRefIdeal := by
  pair_intro
  · run_from Cert.DownIdeal.Value.run_blocks m g
  · refine (θ_run Cert.DownRefIdeal.defs _ _).mono (fun r h c => ?_) (Cert.DownRefIdeal.Value.run (F := Ideal) m' g')
    obtain ⟨h0, h1, h2⟩ := hagree c
    refine ⟨?_, (h c).2⟩
    refine ((h c).1.trans (Cert.DownRefIdeal.Read.val_main_v6_eq ..)).trans ?_
    refine Eq.trans ?_ (Cert.DownIdeal.Value.final m c).symm
    congr 1

end Cert.Proof.Down

end
-- ==== Proof.ProjInputValue.lean ====
/- The input gradient of the projection's first columns: row tile by row tile, the array the call leaves is the reference's. -/
module

public import proofs.«01_k».proof.Proof.Gen.ProjInputIdeal.Value
public import proofs.«01_k».proof.Proof.Gen.ProjInputRefIdeal.Read
public import Idealize.ShloMosaic.Lib.Pipeline.ValueKit

@[expose] public section

set_option maxRecDepth 16384

noncomputable section

namespace Cert.ProjInputIdeal.Value

open Cert.ProjInputIdeal Cert.ProjInputIdeal.Gen Idealize.ShloMosaic Idealize.ShloMosaic.TcCoe Idealize.SL.Sem
open Idealize.ShloMosaic.Pipeline (Dat)

variable (m : (ℓ : Loc nD τ sig) → Buf (Elt Ideal) ℓ)

/-- The reference's array of the call's arguments. -/
abbrev REF (C : FVec Ideal S16640x2304 .bf16) (W : FVec Ideal S1024x2304 .bf16) : FVec Ideal S16640x1024 .f32 :=
  Cert.ProjInputRefIdeal.Read.val_main_v4 (F := Ideal) C W

/-- Row tile `t` of the left array meets the whole right array. -/
theorem idx : ∀ t : Fin cfg0.N, win0_0.index t = ![t.val, 0] ∧ win0_1.index t = ![0, 0] ∧ win0_2.index t = ![t.val, 0] :=
  (by decide +kernel : ∀ t : Fin grid0.N, _)

/-- What the body stores at place `y` of tile `t` is the reference's entry there. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF, Cert.ProjInputRefIdeal.Read.val_main_v4, Cert.ProjInputRefIdeal.Read.val_main_v3, Cert.ProjInputRefIdeal.Read.val_main_v1]
  blk_point [iblk, V, idx t]

/-- The array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.ProjInputIdeal.Value

end
-- ==== Proof.ProjInputClaims.lean ====
/- The five claims about the ProjInput call: three frames, the idealisation, the equation. -/
module

public import proofs.«01_k».proof.Defs
public import proofs.«01_k».proof.Proof.ProjInputValue
public import proofs.«01_k».proof.Proof.Gen.ProjInput.Frame
public import proofs.«01_k».proof.Proof.Gen.ProjInputIdeal.Frame
public import proofs.«01_k».proof.Proof.Gen.ProjInputRefIdeal.Run
public import proofs.«01_k».proof.Proof.Gen.ProjInputRefIdeal.Read
public import Idealize.ShloMosaic.Adequacy
public import Idealize.ShloMosaic.Init

@[expose] public section

set_option maxRecDepth 16384

noncomputable section

namespace Cert.Proof.ProjInput

open Idealize.ShloMosaic Idealize.ShloMosaic.TcCoe Idealize.SL.Sem

/-- The call as printed ends with its arguments unchanged and its counters at zero. -/
theorem frame_p : Cert.quiescent_ProjInput := fun m ρ _ => Cert.ProjInput.Gen.frame m ρ

/-- So does the call over the reals. -/
theorem frame_pi : Cert.quiescent_ProjInputIdeal := fun m ρ _ => Cert.ProjInputIdeal.Gen.frame m ρ

/-- So does the reference, which has no counters. -/
theorem frame_ri : Cert.quiescent_ProjInputRefIdeal := fun m ρ _ =>
  (θ_run Cert.ProjInputRefIdeal.defs _ _).mono
    (fun r h => ⟨fun c => (h c).2, sem_eq_zero_of_no_sems (by decide) r.2⟩)
    (Cert.ProjInputRefIdeal.Value.run (F := Ideal) m ρ)

/-- No operation was rewritten. -/
theorem preserves : Cert.preserves_ProjInput_ProjInputIdeal := trivial

/-- Over the reals the call's results are the reference's. -/
theorem algebraic : Cert.algebraic_ProjInputIdeal_ProjInputRefIdeal := by
  pair_intro
  · run_from Cert.ProjInputIdeal.Value.run_blocks m g
  · refine (θ_run Cert.ProjInputRefIdeal.defs _ _).mono (fun r h c => ?_) (Cert.ProjInputRefIdeal.Value.run (F := Ideal) m' g')
    obtain ⟨h0, h1⟩ := hagree c
    refine ⟨?_, (h c).2⟩
    refine ((h c).1.trans (Cert.ProjInputRefIdeal.Read.val_main_v4_eq ..)).trans ?_
    refine Eq.trans ?_ (Cert.ProjInputIdeal.Value.final m c).symm
    congr 1

end Cert.Proof.ProjInput

end
-- ==== Proof.ProjWeightValue.lean ====
/- The weight gradient of the projection's first columns: the array the call leaves is the reference's, entry by entry. -/
module

public import proofs.«01_k».proof.Proof.Gen.ProjWeightIdeal.Value
public import proofs.«01_k».proof.Proof.Gen.ProjWeightRefIdeal.Read
public import Idealize.ShloMosaic.Lib.Pipeline.ValueKit

@[expose] public section

set_option maxRecDepth 16384

noncomputable section

namespace Cert.ProjWeightIdeal.Value

open Cert.ProjWeightIdeal Cert.ProjWeightIdeal.Gen Idealize.ShloMosaic Idealize.ShloMosaic.TcCoe Idealize.SL.Sem
open Idealize.ShloMosaic.Pipeline (Dat)

variable (m : (ℓ : Loc nD τ sig) → Buf (Elt Ideal) ℓ)

/-- The reference's weight gradient of the saved array and the gradient above it. -/
abbrev REF (X : FVec Ideal S16640x1024 .bf16) (C : FVec Ideal S16640x2304 .bf16) : FVec Ideal S1024x2304 .f32 :=
  Cert.ProjWeightRefIdeal.Read.val_main_v5 (F := Ideal) X C

/-- The fill at the first row tile is zero. -/
theorem hzero (j) : k0_pay1 (F := Ideal) j = 0 := by
  pointwise [k0_pay1]

/-- One row tile adds its own products. -/
theorem hpay (acc x0 x1 j) : k0_pay2 (F := Ideal) acc x0 x1 j
    = acc j + ∑ k : Fin 3328, x0 (ix2 k (j 0)) * x1 (ix2 k (j 1)) := by
  pointwise [k0_pay2]

/-- The reference's entry is one sum over all rows. -/
theorem href (X : FVec Ideal S16640x1024 .bf16) (C : FVec Ideal S16640x2304 .bf16) (j) :
    REF X C j = ∑ l : Fin 16640, X (ix2 l (j 0)) * C (ix2 l (j 1)) := by
  pointwise [REF, Cert.ProjWeightRefIdeal.Read.val_main_v5, Cert.ProjWeightRefIdeal.Read.val_main_v4, Cert.ProjWeightRefIdeal.Read.val_main_v3, Cert.ProjWeightRefIdeal.Read.val_main_v1]
  exact Finset.sum_congr rfl fun _ _ => mul_comm _ _

/-- The blocks of the three arrays at a grid point. -/
theorem idx : ∀ t : Fin cfg0.N, win0_0.index t = ![t.val % 5, t.val / 15] ∧ win0_1.index t = ![t.val % 5, t.val / 5 % 3]
    ∧ win0_2.index t = ![t.val / 15, t.val / 5 % 3] :=
  (by decide +kernel : ∀ t : Fin grid0.N, _)

/-- The array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 5 (fun _ => 0) _
    (fun t h j => by rw [outsAt0_A m c t h]; frame_out; rw [hpay, hzero])
    (fun t h j => by rw [outsAt0_B m c t h]; frame_out; rw [hpay])
    t ((flush0_2 t).mp hf) _, zero_add, href]
  refine Fin.sum_mul_add_congr fun s k hl => ?_
  blk_point [iblk, V, idx t, idx ⟨_, Pipeline.run_point_lt_of_flush t ((flush0_2 t).mp hf) s⟩]

end Cert.ProjWeightIdeal.Value

end
-- ==== Proof.ProjWeightClaims.lean ====
/- The five claims about the ProjWeight call: three frames, the idealisation, the equation. -/
module

public import proofs.«01_k».proof.Defs
public import proofs.«01_k».proof.Proof.ProjWeightValue
public import proofs.«01_k».proof.Proof.Gen.ProjWeight.Frame
public import proofs.«01_k».proof.Proof.Gen.ProjWeightIdeal.Frame
public import proofs.«01_k».proof.Proof.Gen.ProjWeightRefIdeal.Run
public import proofs.«01_k».proof.Proof.Gen.ProjWeightRefIdeal.Read
public import Idealize.ShloMosaic.Adequacy
public import Idealize.ShloMosaic.Init

@[expose] public section

set_option maxRecDepth 16384

noncomputable section

namespace Cert.Proof.ProjWeight

open Idealize.ShloMosaic Idealize.ShloMosaic.TcCoe Idealize.SL.Sem

/-- The call as printed ends with its arguments unchanged and its counters at zero. -/
theorem frame_p : Cert.quiescent_ProjWeight := fun m ρ _ => Cert.ProjWeight.Gen.frame m ρ

/-- So does the call over the reals. -/
theorem frame_pi : Cert.quiescent_ProjWeightIdeal := fun m ρ _ => Cert.ProjWeightIdeal.Gen.frame m ρ

/-- So does the reference, which has no counters. -/
theorem frame_ri : Cert.quiescent_ProjWeightRefIdeal := fun m ρ _ =>
  (θ_run Cert.ProjWeightRefIdeal.defs _ _).mono
    (fun r h => ⟨fun c => (h c).2, sem_eq_zero_of_no_sems (by decide) r.2⟩)
    (Cert.ProjWeightRefIdeal.Value.run (F := Ideal) m ρ)

/-- No operation was rewritten. -/
theorem preserves : Cert.preserves_ProjWeight_ProjWeightIdeal := trivial

/-- Over the reals the call's results are the reference's. -/
theorem algebraic : Cert.algebraic_ProjWeightIdeal_ProjWeightRefIdeal := by
  pair_intro
  · run_from Cert.ProjWeightIdeal.Value.run_blocks m g
  · refine (θ_run Cert.ProjWeightRefIdeal.defs _ _).mono (fun r h c => ?_) (Cert.ProjWeightRefIdeal.Value.run (F := Ideal) m' g')
    obtain ⟨h0, h1⟩ := hagree c
    refine ⟨?_, (h c).2⟩
    refine ((h c).1.trans (Cert.ProjWeightRefIdeal.Read.val_main_v5_eq ..)).trans ?_
    refine Eq.trans ?_ (Cert.ProjWeightIdeal.Value.final m c).symm
    congr 1

end Cert.Proof.ProjWeight

end
-- ==== Proof.OutInputValue.lean ====
/- The input gradient of the output projection: row tile by row tile, the array the call leaves is the reference's. -/
module

public import proofs.«01_k».proof.Proof.Gen.OutInputIdeal.Value
public import proofs.«01_k».proof.Proof.Gen.OutInputRefIdeal.Read
public import Idealize.ShloMosaic.Lib.Pipeline.ValueKit

@[expose] public section

set_option maxRecDepth 16384

noncomputable section

namespace Cert.OutInputIdeal.Value

open Cert.OutInputIdeal Cert.OutInputIdeal.Gen Idealize.ShloMosaic Idealize.ShloMosaic.TcCoe Idealize.SL.Sem
open Idealize.ShloMosaic.Pipeline (Dat)

variable (m : (ℓ : Loc nD τ sig) → Buf (Elt Ideal) ℓ)

/-- The reference's array of the call's arguments. -/
abbrev REF (C : FVec Ideal S16640x1024 .bf16) (W : FVec Ideal S1024x1024 .bf16) : FVec Ideal S16640x1024 .bf16 :=
  Cert.OutInputRefIdeal.Read.val_main_v5 (F := Ideal) C W

/-- Row tile `t` of the left array meets the whole right array. -/
theorem idx : ∀ t : Fin cfg0.N, win0_0.index t = ![t.val, 0] ∧ win0_1.index t = ![0, 0] ∧ win0_2.index t = ![t.val, 0] :=
  (by decide +kernel : ∀ t : Fin grid0.N, _)

/-- What the body stores at place `y` of tile `t` is the reference's entry there. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF, Cert.OutInputRefIdeal.Read.val_main_v5, Cert.OutInputRefIdeal.Read.val_main_v4, Cert.OutInputRefIdeal.Read.val_main_v3, Cert.OutInputRefIdeal.Read.val_main_v1]
  blk_point [iblk, V, idx t]

/-- The array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.OutInputIdeal.Value

end
-- ==== Proof.OutInputClaims.lean ====
/- The five claims about the OutInput call: three frames, the idealisation, the equation. -/
module

public import proofs.«01_k».proof.Defs
public import proofs.«01_k».proof.Proof.OutInputValue
public import proofs.«01_k».proof.Proof.Gen.OutInput.Frame
public import proofs.«01_k».proof.Proof.Gen.OutInputIdeal.Frame
public import proofs.«01_k».proof.Proof.Gen.OutInputRefIdeal.Run
public import proofs.«01_k».proof.Proof.Gen.OutInputRefIdeal.Read
public import Idealize.ShloMosaic.Adequacy
public import Idealize.ShloMosaic.Init

@[expose] public section

set_option maxRecDepth 16384

noncomputable section

namespace Cert.Proof.OutInput

open Idealize.ShloMosaic Idealize.ShloMosaic.TcCoe Idealize.SL.Sem

/-- The call as printed ends with its arguments unchanged and its counters at zero. -/
theorem frame_p : Cert.quiescent_OutInput := fun m ρ _ => Cert.OutInput.Gen.frame m ρ

/-- So does the call over the reals. -/
theorem frame_pi : Cert.quiescent_OutInputIdeal := fun m ρ _ => Cert.OutInputIdeal.Gen.frame m ρ

/-- So does the reference, which has no counters. -/
theorem frame_ri : Cert.quiescent_OutInputRefIdeal := fun m ρ _ =>
  (θ_run Cert.OutInputRefIdeal.defs _ _).mono
    (fun r h => ⟨fun c => (h c).2, sem_eq_zero_of_no_sems (by decide) r.2⟩)
    (Cert.OutInputRefIdeal.Value.run (F := Ideal) m ρ)

/-- No operation was rewritten. -/
theorem preserves : Cert.preserves_OutInput_OutInputIdeal := trivial

/-- Over the reals the call's results are the reference's. -/
theorem algebraic : Cert.algebraic_OutInputIdeal_OutInputRefIdeal := by
  pair_intro
  · run_from Cert.OutInputIdeal.Value.run_blocks m g
  · refine (θ_run Cert.OutInputRefIdeal.defs _ _).mono (fun r h c => ?_) (Cert.OutInputRefIdeal.Value.run (F := Ideal) m' g')
    obtain ⟨h0, h1⟩ := hagree c
    refine ⟨?_, (h c).2⟩
    refine ((h c).1.trans (Cert.OutInputRefIdeal.Read.val_main_v5_eq ..)).trans ?_
    refine Eq.trans ?_ (Cert.OutInputIdeal.Value.final m c).symm
    congr 1

end Cert.Proof.OutInput

end
-- ==== Proof.OutWeightValue.lean ====
/- The weight gradient of the output projection: the array the call leaves is the reference's, entry by entry. -/
module

public import proofs.«01_k».proof.Proof.Gen.OutWeightIdeal.Value
public import proofs.«01_k».proof.Proof.Gen.OutWeightRefIdeal.Read
public import Idealize.ShloMosaic.Lib.Pipeline.ValueKit

@[expose] public section

set_option maxRecDepth 16384

noncomputable section

namespace Cert.OutWeightIdeal.Value

open Cert.OutWeightIdeal Cert.OutWeightIdeal.Gen Idealize.ShloMosaic Idealize.ShloMosaic.TcCoe Idealize.SL.Sem
open Idealize.ShloMosaic.Pipeline (Dat)

variable (m : (ℓ : Loc nD τ sig) → Buf (Elt Ideal) ℓ)

/-- The reference's weight gradient of the saved array and the gradient above it. -/
abbrev REF (X : FVec Ideal S16640x1024 .bf16) (C : FVec Ideal S16640x1024 .bf16) : FVec Ideal S1024x1024 .f32 :=
  Cert.OutWeightRefIdeal.Read.val_main_v5 (F := Ideal) X C

/-- The fill at the first row tile is zero. -/
theorem hzero (j) : k0_pay1 (F := Ideal) j = 0 := by
  pointwise [k0_pay1]

/-- One row tile adds its own products. -/
theorem hpay (acc x0 x1 j) : k0_pay2 (F := Ideal) acc x0 x1 j
    = acc j + ∑ k : Fin 3328, x0 (ix2 k (j 0)) * x1 (ix2 k (j 1)) := by
  pointwise [k0_pay2]

/-- The reference's entry is one sum over all rows. -/
theorem href (X : FVec Ideal S16640x1024 .bf16) (C : FVec Ideal S16640x1024 .bf16) (j) :
    REF X C j = ∑ l : Fin 16640, X (ix2 l (j 0)) * C (ix2 l (j 1)) := by
  pointwise [REF, Cert.OutWeightRefIdeal.Read.val_main_v5, Cert.OutWeightRefIdeal.Read.val_main_v4, Cert.OutWeightRefIdeal.Read.val_main_v3, Cert.OutWeightRefIdeal.Read.val_main_v1]
  exact Finset.sum_congr rfl fun _ _ => mul_comm _ _

/-- The blocks of the three arrays at a grid point. -/
theorem idx : ∀ t : Fin cfg0.N, win0_0.index t = ![t.val % 5, t.val / 5] ∧ win0_1.index t = ![t.val % 5, 0]
    ∧ win0_2.index t = ![t.val / 5, 0] :=
  (by decide +kernel : ∀ t : Fin grid0.N, _)

/-- The array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 5 (fun _ => 0) _
    (fun t h j => by rw [outsAt0_A m c t h]; frame_out; rw [hpay, hzero])
    (fun t h j => by rw [outsAt0_B m c t h]; frame_out; rw [hpay])
    t ((flush0_2 t).mp hf) _, zero_add, href]
  refine Fin.sum_mul_add_congr fun s k hl => ?_
  blk_point [iblk, V, idx t, idx ⟨_, Pipeline.run_point_lt_of_flush t ((flush0_2 t).mp hf) s⟩]

end Cert.OutWeightIdeal.Value

end
-- ==== Proof.OutWeightClaims.lean ====
/- The five claims about the OutWeight call: three frames, the idealisation, the equation. -/
module

public import proofs.«01_k».proof.Defs
public import proofs.«01_k».proof.Proof.OutWeightValue
public import proofs.«01_k».proof.Proof.Gen.OutWeight.Frame
public import proofs.«01_k».proof.Proof.Gen.OutWeightIdeal.Frame
public import proofs.«01_k».proof.Proof.Gen.OutWeightRefIdeal.Run
public import proofs.«01_k».proof.Proof.Gen.OutWeightRefIdeal.Read
public import Idealize.ShloMosaic.Adequacy
public import Idealize.ShloMosaic.Init

@[expose] public section

set_option maxRecDepth 16384

noncomputable section

namespace Cert.Proof.OutWeight

open Idealize.ShloMosaic Idealize.ShloMosaic.TcCoe Idealize.SL.Sem

/-- The call as printed ends with its arguments unchanged and its counters at zero. -/
theorem frame_p : Cert.quiescent_OutWeight := fun m ρ _ => Cert.OutWeight.Gen.frame m ρ

/-- So does the call over the reals. -/
theorem frame_pi : Cert.quiescent_OutWeightIdeal := fun m ρ _ => Cert.OutWeightIdeal.Gen.frame m ρ

/-- So does the reference, which has no counters. -/
theorem frame_ri : Cert.quiescent_OutWeightRefIdeal := fun m ρ _ =>
  (θ_run Cert.OutWeightRefIdeal.defs _ _).mono
    (fun r h => ⟨fun c => (h c).2, sem_eq_zero_of_no_sems (by decide) r.2⟩)
    (Cert.OutWeightRefIdeal.Value.run (F := Ideal) m ρ)

/-- No operation was rewritten. -/
theorem preserves : Cert.preserves_OutWeight_OutWeightIdeal := trivial

/-- Over the reals the call's results are the reference's. -/
theorem algebraic : Cert.algebraic_OutWeightIdeal_OutWeightRefIdeal := by
  pair_intro
  · run_from Cert.OutWeightIdeal.Value.run_blocks m g
  · refine (θ_run Cert.OutWeightRefIdeal.defs _ _).mono (fun r h c => ?_) (Cert.OutWeightRefIdeal.Value.run (F := Ideal) m' g')
    obtain ⟨h0, h1⟩ := hagree c
    refine ⟨?_, (h c).2⟩
    refine ((h c).1.trans (Cert.OutWeightRefIdeal.Read.val_main_v5_eq ..)).trans ?_
    refine Eq.trans ?_ (Cert.OutWeightIdeal.Value.final m c).symm
    congr 1

end Cert.Proof.OutWeight

end
-- ==== Proof.ProjConvValue.lean ====
/- The columns of the projection that feed the convolution and the pooling: row tile by row tile, the array the call leaves is the reference's. -/
module

public import proofs.«01_k».proof.Proof.Gen.ProjConvIdeal.Value
public import proofs.«01_k».proof.Proof.Gen.ProjConvRefIdeal.Read
public import Idealize.ShloMosaic.Lib.Pipeline.ValueKit

@[expose] public section

set_option maxRecDepth 16384

noncomputable section

namespace Cert.ProjConvIdeal.Value

open Cert.ProjConvIdeal Cert.ProjConvIdeal.Gen Idealize.ShloMosaic Idealize.ShloMosaic.TcCoe Idealize.SL.Sem
open Idealize.ShloMosaic.Pipeline (Dat)

variable (m : (ℓ : Loc nD τ sig) → Buf (Elt Ideal) ℓ)

/-- The reference's array of the call's arguments. -/
abbrev REF (X : FVec Ideal S16640x1024 .bf16) (W : FVec Ideal S1024x768 .bf16) : FVec Ideal S16640x768 .f32 :=
  Cert.ProjConvRefIdeal.Read.val_main_v2 (F := Ideal) X W

/-- Row tile `t` of the left array meets the whole right array. -/
theorem idx : ∀ t : Fin cfg0.N, win0_0.index t = ![t.val, 0] ∧ win0_1.index t = ![0, 0] ∧ win0_2.index t = ![t.val, 0] :=
  (by decide +kernel : ∀ t : Fin grid0.N, _)

/-- What the body stores at place `y` of tile `t` is the reference's entry there. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF, Cert.ProjConvRefIdeal.Read.val_main_v2, Cert.ProjConvRefIdeal.Read.val_main_v1, Cert.ProjConvRefIdeal.Read.val_main_v0]
  blk_point [iblk, V, idx t]

/-- The array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.ProjConvIdeal.Value

end
-- ==== Proof.ProjConvClaims.lean ====
/- The five claims about the ProjConv call: three frames, the idealisation, the equation. -/
module

public import proofs.«01_k».proof.Defs
public import proofs.«01_k».proof.Proof.ProjConvValue
public import proofs.«01_k».proof.Proof.Gen.ProjConv.Frame
public import proofs.«01_k».proof.Proof.Gen.ProjConvIdeal.Frame
public import proofs.«01_k».proof.Proof.Gen.ProjConvRefIdeal.Run
public import proofs.«01_k».proof.Proof.Gen.ProjConvRefIdeal.Read
public import Idealize.ShloMosaic.Adequacy
public import Idealize.ShloMosaic.Init

@[expose] public section

set_option maxRecDepth 16384

noncomputable section

namespace Cert.Proof.ProjConv

open Idealize.ShloMosaic Idealize.ShloMosaic.TcCoe Idealize.SL.Sem

/-- The call as printed ends with its arguments unchanged and its counters at zero. -/
theorem frame_p : Cert.quiescent_ProjConv := fun m ρ _ => Cert.ProjConv.Gen.frame m ρ

/-- So does the call over the reals. -/
theorem frame_pi : Cert.quiescent_ProjConvIdeal := fun m ρ _ => Cert.ProjConvIdeal.Gen.frame m ρ

/-- So does the reference, which has no counters. -/
theorem frame_ri : Cert.quiescent_ProjConvRefIdeal := fun m ρ _ =>
  (θ_run Cert.ProjConvRefIdeal.defs _ _).mono
    (fun r h => ⟨fun c => (h c).2, sem_eq_zero_of_no_sems (by decide) r.2⟩)
    (Cert.ProjConvRefIdeal.Value.run (F := Ideal) m ρ)

/-- No operation was rewritten. -/
theorem preserves : Cert.preserves_ProjConv_ProjConvIdeal := trivial

/-- Over the reals the call's results are the reference's. -/
theorem algebraic : Cert.algebraic_ProjConvIdeal_ProjConvRefIdeal := by
  pair_intro
  · run_from Cert.ProjConvIdeal.Value.run_blocks m g
  · refine (θ_run Cert.ProjConvRefIdeal.defs _ _).mono (fun r h c => ?_) (Cert.ProjConvRefIdeal.Value.run (F := Ideal) m' g')
    obtain ⟨h0, h1⟩ := hagree c
    refine ⟨?_, (h c).2⟩
    refine ((h c).1.trans (Cert.ProjConvRefIdeal.Read.val_main_v2_eq ..)).trans ?_
    refine Eq.trans ?_ (Cert.ProjConvIdeal.Value.final m c).symm
    congr 1

end Cert.Proof.ProjConv

end
-- ==== Proof.ProjQkvValue.lean ====
/- The columns of the projection that feed the attention, the first 512 scaled by one constant. -/
module

public import proofs.«01_k».proof.Proof.Gen.ProjQkvIdeal.Value
public import proofs.«01_k».proof.Proof.Gen.ProjQkvRefIdeal.Read
public import Idealize.ShloMosaic.Lib.Pipeline.ValueKit

@[expose] public section

set_option maxRecDepth 16384

noncomputable section

namespace Cert.ProjQkvIdeal.Value

open Cert.ProjQkvIdeal Cert.ProjQkvIdeal.Gen Idealize.ShloMosaic Idealize.ShloMosaic.TcCoe Idealize.SL.Sem
open Idealize.ShloMosaic.Pipeline (Dat)

variable (m : (ℓ : Loc nD τ sig) → Buf (Elt Ideal) ℓ)

/-- The reference's array of the call's arguments. -/
abbrev REF (X : FVec Ideal S16640x1024 .bf16) (W : FVec Ideal S1024x1536 .bf16) : FVec Ideal S16640x1536 .bf16 :=
  Cert.ProjQkvRefIdeal.Read.val_main_v8 (F := Ideal) X W

/-- Row tile `t` of the left array meets the whole right array. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- The body's entry: the product, times the column's factor. -/
theorem hpay (v0 v1 v3) (y) : k0_pay1 (F := Ideal) v0 v1 v3 y
    = (∑ k : Fin 1024, v0 (ix2 (y 0) k) * v1 (ix2 k (y 1))) * v3 (ix2 0 (y 1)) := by
  pointwise [k0_pay1]

/-- The reference's entry: the product, times the constant in the first 512 columns. -/
theorem href (X W) (j) : REF X W j = (∑ k : Fin 1024, X (ix2 (j 0) k) * W (ix2 k (j 1)))
      * (if (j 1).val < 512 then Ideal.ofBits .f32 0x3E0293EE#32 else 1) := by
  pointwise [REF, Cert.ProjQkvRefIdeal.Read.val_main_v8, Cert.ProjQkvRefIdeal.Read.val_main_v7, Cert.ProjQkvRefIdeal.Read.val_main_v6, Cert.ProjQkvRefIdeal.Read.val_main_v5, Cert.ProjQkvRefIdeal.Read.val_main_v4, Cert.ProjQkvRefIdeal.Read.val_main_v3, Cert.ProjQkvRefIdeal.Read.val_main_v2, Cert.ProjQkvRefIdeal.Read.val_main_v1, Cert.ProjQkvRefIdeal.Read.val_main_v0, Cert.ProjQkvRefIdeal.Read.val_main_cst]
  by_cases hp : (j 1).val < 512
  · refine (dif_pos hp).trans ?_
    rw [if_pos hp]
  · refine (dif_neg hp).trans ?_
    rw [if_neg hp, mul_one]
    have e : ∀ h, (⟨512 + ((j 1).val - 512), h⟩ : Fin 1536) = j 1 := fun h => Fin.ext (by simp only; omega)
    exact Finset.sum_congr rfl fun k _ => congrArg (fun z => X (ix2 (j 0) k) * W (ix2 k z)) (e _)

/-- The row of factors that the program builds in front of the call. -/
theorem hV (c : Dev nD) : (V m c main_v3 : FVec Ideal S1x1536 .f32)
    = shapeCast S1x1536 (concatenate S1536 0
        [⟨S512, broadcastInDim S512 ![] bcast_S_S512 (constant (F := Ideal) S_ .f32 0x3E0293EE#32)⟩,
         ⟨S1024, broadcastInDim S1024 ![] bcast_S_S1024 (constant (F := Ideal) S_ .f32 0x3F800000#32)⟩]
        concatenates_S512_S1024_S1536_d0) shapeCasts_S1536_S1x1536 := by
  unfold_abbrev_sides
  after_results
  rfl

/-- Its entry: the constant in the first 512 columns, one in the others. -/
theorem hfactor (c : Dev nD) (j : S1x1536.Idx) : (V m c main_v3 : FVec Ideal S1x1536 .f32) j
    = if (j 1).val < 512 then Ideal.ofBits .f32 0x3E0293EE#32 else 1 := by
  rw [hV]
  pointwise []
  rfl

/-- What the body stores at place `y` of tile `t` is the reference's entry there. -/
theorem point (c : Dev nD) (t : Fin cfg0.N) (y) : k0_pay1 (iblk m c 0 t) (iblk m c 1 t) (iblk m c 2 t) y
    = REF (m ((c : Thread nD τ).loc main_arg0)) (m ((c : Thread nD τ).loc main_arg1)) (((cfg0.win 3).blk t).view.emb y) := by
  rw [hpay, href]
  congr 1
  · refine Finset.sum_congr rfl fun k _ => ?_
    blk_point [iblk, V, idx t]
  · refine (hfactor m c _).trans ?_
    blk_simp [idx t]

/-- The array after the run is the reference's. -/
theorem final (c : Dev nD) : (dats m 0 c).arrAt 3 (cfgs 0).N
    = REF (m ((c : Thread nD τ).loc main_arg0)) (m ((c : Thread nD τ).loc main_arg1)) := by
  refine (dats m 0 c).arrAt_eq_of_covers 3 _ (by decide +kernel) fun t _ y => ?_
  blk_simp
  rw [after0_3]; frame_out
  exact point m c t y

end Cert.ProjQkvIdeal.Value

end
-- ==== Proof.ProjQkvClaims.lean ====
/- The five claims about the ProjQkv call: three frames, the idealisation, the equation. -/
module

public import proofs.«01_k».proof.Defs
public import proofs.«01_k».proof.Proof.ProjQkvValue
public import proofs.«01_k».proof.Proof.Gen.ProjQkv.Frame
public import proofs.«01_k».proof.Proof.Gen.ProjQkvIdeal.Frame
public import proofs.«01_k».proof.Proof.Gen.ProjQkvRefIdeal.Run
public import proofs.«01_k».proof.Proof.Gen.ProjQkvRefIdeal.Read
public import Idealize.ShloMosaic.Adequacy
public import Idealize.ShloMosaic.Init

@[expose] public section

set_option maxRecDepth 16384

noncomputable section

namespace Cert.Proof.ProjQkv

open Idealize.ShloMosaic Idealize.ShloMosaic.TcCoe Idealize.SL.Sem

/-- The call as printed ends with its arguments unchanged and its counters at zero. -/
theorem frame_p : Cert.quiescent_ProjQkv := fun m ρ _ => Cert.ProjQkv.Gen.frame m ρ

/-- So does the call over the reals. -/
theorem frame_pi : Cert.quiescent_ProjQkvIdeal := fun m ρ _ => Cert.ProjQkvIdeal.Gen.frame m ρ

/-- So does the reference, which has no counters. -/
theorem frame_ri : Cert.quiescent_ProjQkvRefIdeal := fun m ρ _ =>
  (θ_run Cert.ProjQkvRefIdeal.defs _ _).mono
    (fun r h => ⟨fun c => (h c).2, sem_eq_zero_of_no_sems (by decide) r.2⟩)
    (Cert.ProjQkvRefIdeal.Value.run (F := Ideal) m ρ)

/-- No operation was rewritten. -/
theorem preserves : Cert.preserves_ProjQkv_ProjQkvIdeal := trivial

/-- Over the reals the call's results are the reference's. -/
theorem algebraic : Cert.algebraic_ProjQkvIdeal_ProjQkvRefIdeal := by
  pair_intro
  · run_from Cert.ProjQkvIdeal.Value.run_blocks m g
  · refine (θ_run Cert.ProjQkvRefIdeal.defs _ _).mono (fun r h c => ?_) (Cert.ProjQkvRefIdeal.Value.run (F := Ideal) m' g')
    obtain ⟨h0, h1⟩ := hagree c
    refine ⟨?_, (h c).2⟩
    refine ((h c).1.trans (Cert.ProjQkvRefIdeal.Read.val_main_v8_eq ..)).trans ?_
    refine Eq.trans ?_ (Cert.ProjQkvIdeal.Value.final m c).symm
    congr 1

end Cert.Proof.ProjQkv

end
-- ==== Proof.OutValue.lean ====
/- The output projection, added onto the layer's running value, with the padding rows set to zero. -/
module

public import proofs.«01_k».proof.Proof.Gen.OutIdeal.Value
public import proofs.«01_k».proof.Proof.Gen.OutRefIdeal.Read
public import Idealize.ShloMosaic.Lib.Pipeline.ValueKit

@[expose] public section

set_option maxRecDepth 16384

noncomputable section

namespace Cert.OutIdeal.Value

open Cert.OutIdeal Cert.OutIdeal.Gen Idealize.ShloMosaic Idealize.ShloMosaic.TcCoe Idealize.SL.Sem
open Idealize.ShloMosaic.Pipeline (Dat)

variable (m : (ℓ : Loc nD τ sig) → Buf (Elt Ideal) ℓ)

/-- The reference's array of the call's arguments. -/
abbrev REF (X : FVec Ideal S16640x1024 .bf16) (W : FVec Ideal S1024x1024 .bf16) (R : FVec Ideal S16640x1024 .f32) : FVec Ideal S16640x1024 .f32 :=
  Cert.OutRefIdeal.Read.val_main_v6 (F := Ideal) X W R

/-- Row tile `t` of the left array meets the whole right array. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The grid's first coordinate is the row tile. -/
theorem coord : ∀ t : Fin cfg0.N, ((cfg0.grid.coords t) 0).val = t.val :=
  (by decide +kernel : ∀ t : Fin grid0.N, _)

/-- The row's number as a word is at least 240 exactly when the number is. -/
theorem mask (n r : ℕ) (hn : n < 13) (hr : r < 1280) :
    (240#32).sle (BitVec.ofNat 32 n * 1280#32 + BitVec.ofNat 32 r) = decide (240 ≤ n * 1280 + r) := by
  rw [BitVec.sle_eq_decide, decide_eq_decide]
  have h : (BitVec.ofNat 32 n * 1280#32 + BitVec.ofNat 32 r) = BitVec.ofNat 32 (n * 1280 + r) := by
    apply BitVec.eq_of_toNat_eq
    simp [BitVec.toNat_add, BitVec.toNat_mul]
  have hm : (BitVec.ofNat 32 (n * 1280 + r)).toNat = n * 1280 + r := by
    rw [BitVec.toNat_ofNat, Nat.mod_eq_of_lt (by omega)]
  rw [h, BitVec.toInt_eq_toNat_of_lt (by decide), BitVec.toInt_eq_toNat_of_lt (by omega), hm]
  exact Int.ofNat_le

/-- The body's entry at row `y 0` of tile `n`: the product and the running value, or zero in the padding. -/
theorem hpay (i : grid0.Coords) (v0 v1 v3) (y) :
    k0_pay1 (F := Ideal) i v0 v1 v3 y = if 240 ≤ (i 0).val * 1280 + (y 0).val then
      ∑ k : Fin 1024, v0 (ix2 (y 0) k) * v1 (ix2 k (y 1)) + v3 y else 0 := by
  pointwise [k0_pay1]
  have h := mask (i 0).val (y 0).val (i 0).isLt (y 0).isLt
  simp only [IntOp.cmpi, IntOp.addi, Scalar.muli, IntOp.muli, h]
  by_cases hp : 240 ≤ (i 0).val * 1280 + (y 0).val <;> simp [hp, Scalar.select]

/-- The reference's entry: the product and the running value, or zero in the padding rows. -/
theorem href (X W R) (j) : REF X W R j = if 240 ≤ (j 0).val then
      ∑ k : Fin 1024, X (ix2 (j 0) k) * W (ix2 k (j 1)) + R j else 0 := by
  pointwise [REF, Cert.OutRefIdeal.Read.val_main_v6, Cert.OutRefIdeal.Read.val_main_v5, Cert.OutRefIdeal.Read.val_main_v4, Cert.OutRefIdeal.Read.val_main_v3, Cert.OutRefIdeal.Read.val_main_v2, Cert.OutRefIdeal.Read.val_main_v1, Cert.OutRefIdeal.Read.val_main_v0, Cert.OutRefIdeal.Read.val_main_cst]
  by_cases hp : (j 0).val < 240
  · refine (dif_pos hp).trans (Eq.trans ?_ (if_neg (by omega)).symm)
    pointwise []
  · refine (dif_neg hp).trans (Eq.trans ?_ (if_pos (by omega)).symm)
    have e : ∀ h, (⟨240 + ((j 0).val - 240), h⟩ : Fin 16640) = j 0 := fun h => Fin.ext (by simp only; omega)
    refine congrArg₂ (· + ·) (Finset.sum_congr rfl fun k _ => congrArg (fun z => X (ix2 z k) * W (ix2 k (j 1))) (e _)) ?_
    exact (congrArg (fun z => R (ix2 z (j 1))) (e _)).trans (congrArg R (ix2_eta j))

/-- What the body stores at place `y` of tile `t` is the reference's entry there. -/
theorem point (c : Dev nD) (t : Fin cfg0.N) (y) :
    k0_pay1 (cfg0.grid.coords t) (iblk m c 0 t) (iblk m c 1 t) (iblk m c 2 t) y
    = REF (m ((c : Thread nD τ).loc main_arg0)) (m ((c : Thread nD τ).loc main_arg1)) (m ((c : Thread nD τ).loc main_arg2)) (((cfg0.win 3).blk t).view.emb y) := by
  rw [hpay, href, coord]
  have e0 : ((((cfg0.win 3).blk t).view.emb y) 0).val = t.val * 1280 + (y 0).val := by
    blk_simp [idx t]
  simp only [e0]
  congr 1
  congr 1
  refine Finset.sum_congr rfl fun k _ => ?_
  blk_point [iblk, V, idx t]

/-- The array after the run is the reference's. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.OutIdeal.Value

end
-- ==== Proof.OutClaims.lean ====
/- The five claims about the Out call: three frames, the idealisation, the equation. -/
module

public import proofs.«01_k».proof.Defs
public import proofs.«01_k».proof.Proof.OutValue
public import proofs.«01_k».proof.Proof.Gen.Out.Frame
public import proofs.«01_k».proof.Proof.Gen.OutIdeal.Frame
public import proofs.«01_k».proof.Proof.Gen.OutRefIdeal.Run
public import proofs.«01_k».proof.Proof.Gen.OutRefIdeal.Read
public import Idealize.ShloMosaic.Adequacy
public import Idealize.ShloMosaic.Init

@[expose] public section

set_option maxRecDepth 16384

noncomputable section

namespace Cert.Proof.Out

open Idealize.ShloMosaic Idealize.ShloMosaic.TcCoe Idealize.SL.Sem

/-- The call as printed ends with its arguments unchanged and its counters at zero. -/
theorem frame_p : Cert.quiescent_Out := fun m ρ _ => Cert.Out.Gen.frame m ρ

/-- So does the call over the reals. -/
theorem frame_pi : Cert.quiescent_OutIdeal := fun m ρ _ => Cert.OutIdeal.Gen.frame m ρ

/-- So does the reference, which has no counters. -/
theorem frame_ri : Cert.quiescent_OutRefIdeal := fun m ρ _ =>
  (θ_run Cert.OutRefIdeal.defs _ _).mono
    (fun r h => ⟨fun c => (h c).2, sem_eq_zero_of_no_sems (by decide) r.2⟩)
    (Cert.OutRefIdeal.Value.run (F := Ideal) m ρ)

/-- No operation was rewritten. -/
theorem preserves : Cert.preserves_Out_OutIdeal := trivial

/-- Over the reals the call's results are the reference's. -/
theorem algebraic : Cert.algebraic_OutIdeal_OutRefIdeal := by
  pair_intro
  · run_from Cert.OutIdeal.Value.run_blocks m g
  · refine (θ_run Cert.OutRefIdeal.defs _ _).mono (fun r h c => ?_) (Cert.OutRefIdeal.Value.run (F := Ideal) m' g')
    obtain ⟨h0, h1, h2⟩ := hagree c
    refine ⟨?_, (h c).2⟩
    refine ((h c).1.trans (Cert.OutRefIdeal.Read.val_main_v6_eq ..)).trans ?_
    refine Eq.trans ?_ (Cert.OutIdeal.Value.final m c).symm
    congr 1

end Cert.Proof.Out

end
-- ==== Proof.ConvOutInputValue.lean ====
/- The input gradient of the convolution branch's last product. -/
module

public import proofs.«01_k».proof.Proof.Gen.ConvOutInputIdeal.Value
public import proofs.«01_k».proof.Proof.Gen.ConvOutInputRefIdeal.Read
public import Idealize.ShloMosaic.Lib.Pipeline.ValueKit

@[expose] public section

set_option maxRecDepth 16384

noncomputable section

namespace Cert.ConvOutInputIdeal.Value

open Cert.ConvOutInputIdeal Cert.ConvOutInputIdeal.Gen Idealize.ShloMosaic Idealize.ShloMosaic.TcCoe Idealize.SL.Sem
open Idealize.ShloMosaic.Pipeline (Dat)

variable (m : (ℓ : Loc nD τ sig) → Buf (Elt Ideal) ℓ)

/-- The reference's array of the call's arguments. -/
abbrev REF (C : FVec Ideal S16640x1024 .bf16) (W : FVec Ideal S256x1024 .bf16) : FVec Ideal S16640x256 .f32 :=
  Cert.ConvOutInputRefIdeal.Read.val_main_v4 (F := Ideal) C W

/-- Row tile `t` of the left array meets the whole right array. -/
theorem idx : ∀ t : Fin cfg0.N, win0_0.index t = ![t.val, 0] ∧ win0_1.index t = ![0, 0] ∧ win0_2.index t = ![t.val, 0] :=
  (by decide +kernel : ∀ t : Fin grid0.N, _)

/-- What the body stores at place `y` of tile `t` is the reference's entry there. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF, Cert.ConvOutInputRefIdeal.Read.val_main_v4, Cert.ConvOutInputRefIdeal.Read.val_main_v3, Cert.ConvOutInputRefIdeal.Read.val_main_v1]
  blk_point [iblk, V, idx t]

/-- The array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.ConvOutInputIdeal.Value

end
-- ==== Proof.ConvOutInputClaims.lean ====
/- The five claims about the ConvOutInput call: three frames, the idealisation, the equation. -/
module

public import proofs.«01_k».proof.Defs
public import proofs.«01_k».proof.Proof.ConvOutInputValue
public import proofs.«01_k».proof.Proof.Gen.ConvOutInput.Frame
public import proofs.«01_k».proof.Proof.Gen.ConvOutInputIdeal.Frame
public import proofs.«01_k».proof.Proof.Gen.ConvOutInputRefIdeal.Run
public import proofs.«01_k».proof.Proof.Gen.ConvOutInputRefIdeal.Read
public import Idealize.ShloMosaic.Adequacy
public import Idealize.ShloMosaic.Init

@[expose] public section

set_option maxRecDepth 16384

noncomputable section

namespace Cert.Proof.ConvOutInput

open Idealize.ShloMosaic Idealize.ShloMosaic.TcCoe Idealize.SL.Sem

/-- The call as printed ends with its arguments unchanged and its counters at zero. -/
theorem frame_p : Cert.quiescent_ConvOutInput := fun m ρ _ => Cert.ConvOutInput.Gen.frame m ρ

/-- So does the call over the reals. -/
theorem frame_pi : Cert.quiescent_ConvOutInputIdeal := fun m ρ _ => Cert.ConvOutInputIdeal.Gen.frame m ρ

/-- So does the reference, which has no counters. -/
theorem frame_ri : Cert.quiescent_ConvOutInputRefIdeal := fun m ρ _ =>
  (θ_run Cert.ConvOutInputRefIdeal.defs _ _).mono
    (fun r h => ⟨fun c => (h c).2, sem_eq_zero_of_no_sems (by decide) r.2⟩)
    (Cert.ConvOutInputRefIdeal.Value.run (F := Ideal) m ρ)

/-- No operation was rewritten. -/
theorem preserves : Cert.preserves_ConvOutInput_ConvOutInputIdeal := trivial

/-- Over the reals the call's results are the reference's. -/
theorem algebraic : Cert.algebraic_ConvOutInputIdeal_ConvOutInputRefIdeal := by
  pair_intro
  · run_from Cert.ConvOutInputIdeal.Value.run_blocks m g
  · refine (θ_run Cert.ConvOutInputRefIdeal.defs _ _).mono (fun r h c => ?_) (Cert.ConvOutInputRefIdeal.Value.run (F := Ideal) m' g')
    obtain ⟨h0, h1⟩ := hagree c
    refine ⟨?_, (h c).2⟩
    refine ((h c).1.trans (Cert.ConvOutInputRefIdeal.Read.val_main_v4_eq ..)).trans ?_
    refine Eq.trans ?_ (Cert.ConvOutInputIdeal.Value.final m c).symm
    congr 1

end Cert.Proof.ConvOutInput

end
-- ==== Proof.AttnOutInputValue.lean ====
/- The input gradient of the attention branch's last product. -/
module

public import proofs.«01_k».proof.Proof.Gen.AttnOutInputIdeal.Value
public import proofs.«01_k».proof.Proof.Gen.AttnOutInputRefIdeal.Read
public import Idealize.ShloMosaic.Lib.Pipeline.ValueKit

@[expose] public section

set_option maxRecDepth 16384

noncomputable section

namespace Cert.AttnOutInputIdeal.Value

open Cert.AttnOutInputIdeal Cert.AttnOutInputIdeal.Gen Idealize.ShloMosaic Idealize.ShloMosaic.TcCoe Idealize.SL.Sem
open Idealize.ShloMosaic.Pipeline (Dat)

variable (m : (ℓ : Loc nD τ sig) → Buf (Elt Ideal) ℓ)

/-- The reference's array of the call's arguments. -/
abbrev REF (C : FVec Ideal S16640x1024 .bf16) (W : FVec Ideal S512x1024 .bf16) : FVec Ideal S16640x512 .bf16 :=
  Cert.AttnOutInputRefIdeal.Read.val_main_v5 (F := Ideal) C W

/-- Row tile `t` of the left array meets the whole right array. -/
theorem idx : ∀ t : Fin cfg0.N, win0_0.index t = ![t.val, 0] ∧ win0_1.index t = ![0, 0] ∧ win0_2.index t = ![t.val, 0] :=
  (by decide +kernel : ∀ t : Fin grid0.N, _)

/-- What the body stores at place `y` of tile `t` is the reference's entry there. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF, Cert.AttnOutInputRefIdeal.Read.val_main_v5, Cert.AttnOutInputRefIdeal.Read.val_main_v4, Cert.AttnOutInputRefIdeal.Read.val_main_v3, Cert.AttnOutInputRefIdeal.Read.val_main_v1]
  blk_point [iblk, V, idx t]

/-- The array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.AttnOutInputIdeal.Value

end
-- ==== Proof.AttnOutInputClaims.lean ====
/- The five claims about the AttnOutInput call: three frames, the idealisation, the equation. -/
module

public import proofs.«01_k».proof.Defs
public import proofs.«01_k».proof.Proof.AttnOutInputValue
public import proofs.«01_k».proof.Proof.Gen.AttnOutInput.Frame
public import proofs.«01_k».proof.Proof.Gen.AttnOutInputIdeal.Frame
public import proofs.«01_k».proof.Proof.Gen.AttnOutInputRefIdeal.Run
public import proofs.«01_k».proof.Proof.Gen.AttnOutInputRefIdeal.Read
public import Idealize.ShloMosaic.Adequacy
public import Idealize.ShloMosaic.Init

@[expose] public section

set_option maxRecDepth 16384

noncomputable section

namespace Cert.Proof.AttnOutInput

open Idealize.ShloMosaic Idealize.ShloMosaic.TcCoe Idealize.SL.Sem

/-- The call as printed ends with its arguments unchanged and its counters at zero. -/
theorem frame_p : Cert.quiescent_AttnOutInput := fun m ρ _ => Cert.AttnOutInput.Gen.frame m ρ

/-- So does the call over the reals. -/
theorem frame_pi : Cert.quiescent_AttnOutInputIdeal := fun m ρ _ => Cert.AttnOutInputIdeal.Gen.frame m ρ

/-- So does the reference, which has no counters. -/
theorem frame_ri : Cert.quiescent_AttnOutInputRefIdeal := fun m ρ _ =>
  (θ_run Cert.AttnOutInputRefIdeal.defs _ _).mono
    (fun r h => ⟨fun c => (h c).2, sem_eq_zero_of_no_sems (by decide) r.2⟩)
    (Cert.AttnOutInputRefIdeal.Value.run (F := Ideal) m ρ)

/-- No operation was rewritten. -/
theorem preserves : Cert.preserves_AttnOutInput_AttnOutInputIdeal := trivial

/-- Over the reals the call's results are the reference's. -/
theorem algebraic : Cert.algebraic_AttnOutInputIdeal_AttnOutInputRefIdeal := by
  pair_intro
  · run_from Cert.AttnOutInputIdeal.Value.run_blocks m g
  · refine (θ_run Cert.AttnOutInputRefIdeal.defs _ _).mono (fun r h c => ?_) (Cert.AttnOutInputRefIdeal.Value.run (F := Ideal) m' g')
    obtain ⟨h0, h1⟩ := hagree c
    refine ⟨?_, (h c).2⟩
    refine ((h c).1.trans (Cert.AttnOutInputRefIdeal.Read.val_main_v5_eq ..)).trans ?_
    refine Eq.trans ?_ (Cert.AttnOutInputIdeal.Value.final m c).symm
    congr 1

end Cert.Proof.AttnOutInput

end
-- ==== Proof.ConvOutWeightValue.lean ====
/- The weight gradient of the convolution branch's last product: the array the call leaves is the reference's, entry by entry. -/
module

public import proofs.«01_k».proof.Proof.Gen.ConvOutWeightIdeal.Value
public import proofs.«01_k».proof.Proof.Gen.ConvOutWeightRefIdeal.Read
public import Idealize.ShloMosaic.Lib.Pipeline.ValueKit

@[expose] public section

set_option maxRecDepth 16384

noncomputable section

namespace Cert.ConvOutWeightIdeal.Value

open Cert.ConvOutWeightIdeal Cert.ConvOutWeightIdeal.Gen Idealize.ShloMosaic Idealize.ShloMosaic.TcCoe Idealize.SL.Sem
open Idealize.ShloMosaic.Pipeline (Dat)

variable (m : (ℓ : Loc nD τ sig) → Buf (Elt Ideal) ℓ)

/-- The reference's weight gradient of the saved array and the gradient above it. -/
abbrev REF (X : FVec Ideal S16640x256 .bf16) (C : FVec Ideal S16640x1024 .bf16) : FVec Ideal S256x1024 .f32 :=
  Cert.ConvOutWeightRefIdeal.Read.val_main_v5 (F := Ideal) X C

/-- The fill at the first row tile is zero. -/
theorem hzero (j) : k0_pay1 (F := Ideal) j = 0 := by
  pointwise [k0_pay1]

/-- One row tile adds its own products. -/
theorem hpay (acc x0 x1 j) : k0_pay2 (F := Ideal) acc x0 x1 j
    = acc j + ∑ k : Fin 3328, x0 (ix2 k (j 0)) * x1 (ix2 k (j 1)) := by
  pointwise [k0_pay2]

/-- The reference's entry is one sum over all rows. -/
theorem href (X : FVec Ideal S16640x256 .bf16) (C : FVec Ideal S16640x1024 .bf16) (j) :
    REF X C j = ∑ l : Fin 16640, X (ix2 l (j 0)) * C (ix2 l (j 1)) := by
  pointwise [REF, Cert.ConvOutWeightRefIdeal.Read.val_main_v5, Cert.ConvOutWeightRefIdeal.Read.val_main_v4, Cert.ConvOutWeightRefIdeal.Read.val_main_v3, Cert.ConvOutWeightRefIdeal.Read.val_main_v1]
  exact Finset.sum_congr rfl fun _ _ => mul_comm _ _

/-- The blocks of the three arrays at a grid point. -/
theorem idx : ∀ t : Fin cfg0.N, win0_0.index t = ![t.val, 0] ∧ win0_1.index t = ![t.val, 0]
    ∧ win0_2.index t = ![0, 0] :=
  (by decide +kernel : ∀ t : Fin grid0.N, _)

/-- The array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 5 (fun _ => 0) _
    (fun t h j => by rw [outsAt0_A m c t h]; frame_out; rw [hpay, hzero])
    (fun t h j => by rw [outsAt0_B m c t h]; frame_out; rw [hpay])
    t ((flush0_2 t).mp hf) _, zero_add, href]
  refine Fin.sum_mul_add_congr fun s k hl => ?_
  blk_point [iblk, V, idx t, idx ⟨_, Pipeline.run_point_lt_of_flush t ((flush0_2 t).mp hf) s⟩]

end Cert.ConvOutWeightIdeal.Value

end
-- ==== Proof.ConvOutWeightClaims.lean ====
/- The five claims about the ConvOutWeight call: three frames, the idealisation, the equation. -/
module

public import proofs.«01_k».proof.Defs
public import proofs.«01_k».proof.Proof.ConvOutWeightValue
public import proofs.«01_k».proof.Proof.Gen.ConvOutWeight.Frame
public import proofs.«01_k».proof.Proof.Gen.ConvOutWeightIdeal.Frame
public import proofs.«01_k».proof.Proof.Gen.ConvOutWeightRefIdeal.Run
public import proofs.«01_k».proof.Proof.Gen.ConvOutWeightRefIdeal.Read
public import Idealize.ShloMosaic.Adequacy
public import Idealize.ShloMosaic.Init

@[expose] public section

set_option maxRecDepth 16384

noncomputable section

namespace Cert.Proof.ConvOutWeight

open Idealize.ShloMosaic Idealize.ShloMosaic.TcCoe Idealize.SL.Sem

/-- The call as printed ends with its arguments unchanged and its counters at zero. -/
theorem frame_p : Cert.quiescent_ConvOutWeight := fun m ρ _ => Cert.ConvOutWeight.Gen.frame m ρ

/-- So does the call over the reals. -/
theorem frame_pi : Cert.quiescent_ConvOutWeightIdeal := fun m ρ _ => Cert.ConvOutWeightIdeal.Gen.frame m ρ

/-- So does the reference, which has no counters. -/
theorem frame_ri : Cert.quiescent_ConvOutWeightRefIdeal := fun m ρ _ =>
  (θ_run Cert.ConvOutWeightRefIdeal.defs _ _).mono
    (fun r h => ⟨fun c => (h c).2, sem_eq_zero_of_no_sems (by decide) r.2⟩)
    (Cert.ConvOutWeightRefIdeal.Value.run (F := Ideal) m ρ)

/-- No operation was rewritten. -/
theorem preserves : Cert.preserves_ConvOutWeight_ConvOutWeightIdeal := trivial

/-- Over the reals the call's results are the reference's. -/
theorem algebraic : Cert.algebraic_ConvOutWeightIdeal_ConvOutWeightRefIdeal := by
  pair_intro
  · run_from Cert.ConvOutWeightIdeal.Value.run_blocks m g
  · refine (θ_run Cert.ConvOutWeightRefIdeal.defs _ _).mono (fun r h c => ?_) (Cert.ConvOutWeightRefIdeal.Value.run (F := Ideal) m' g')
    obtain ⟨h0, h1⟩ := hagree c
    refine ⟨?_, (h c).2⟩
    refine ((h c).1.trans (Cert.ConvOutWeightRefIdeal.Read.val_main_v5_eq ..)).trans ?_
    refine Eq.trans ?_ (Cert.ConvOutWeightIdeal.Value.final m c).symm
    congr 1

end Cert.Proof.ConvOutWeight

end
-- ==== Proof.AttnOutWeightValue.lean ====
/- The weight gradient of the attention branch's last product: the array the call leaves is the reference's, entry by entry. -/
module

public import proofs.«01_k».proof.Proof.Gen.AttnOutWeightIdeal.Value
public import proofs.«01_k».proof.Proof.Gen.AttnOutWeightRefIdeal.Read
public import Idealize.ShloMosaic.Lib.Pipeline.ValueKit

@[expose] public section

set_option maxRecDepth 16384

noncomputable section

namespace Cert.AttnOutWeightIdeal.Value

open Cert.AttnOutWeightIdeal Cert.AttnOutWeightIdeal.Gen Idealize.ShloMosaic Idealize.ShloMosaic.TcCoe Idealize.SL.Sem
open Idealize.ShloMosaic.Pipeline (Dat)

variable (m : (ℓ : Loc nD τ sig) → Buf (Elt Ideal) ℓ)

/-- The reference's weight gradient of the saved array and the gradient above it. -/
abbrev REF (X : FVec Ideal S16640x512 .bf16) (C : FVec Ideal S16640x1024 .bf16) : FVec Ideal S512x1024 .f32 :=
  Cert.AttnOutWeightRefIdeal.Read.val_main_v5 (F := Ideal) X C

/-- The fill at the first row tile is zero. -/
theorem hzero (j) : k0_pay1 (F := Ideal) j = 0 := by
  pointwise [k0_pay1]

/-- One row tile adds its own products. -/
theorem hpay (acc x0 x1 j) : k0_pay2 (F := Ideal) acc x0 x1 j
    = acc j + ∑ k : Fin 3328, x0 (ix2 k (j 0)) * x1 (ix2 k (j 1)) := by
  pointwise [k0_pay2]

/-- The reference's entry is one sum over all rows. -/
theorem href (X : FVec Ideal S16640x512 .bf16) (C : FVec Ideal S16640x1024 .bf16) (j) :
    REF X C j = ∑ l : Fin 16640, X (ix2 l (j 0)) * C (ix2 l (j 1)) := by
  pointwise [REF, Cert.AttnOutWeightRefIdeal.Read.val_main_v5, Cert.AttnOutWeightRefIdeal.Read.val_main_v4, Cert.AttnOutWeightRefIdeal.Read.val_main_v3, Cert.AttnOutWeightRefIdeal.Read.val_main_v1]
  exact Finset.sum_congr rfl fun _ _ => mul_comm _ _

/-- The blocks of the three arrays at a grid point. -/
theorem idx : ∀ t : Fin cfg0.N, win0_0.index t = ![t.val, 0] ∧ win0_1.index t = ![t.val, 0]
    ∧ win0_2.index t = ![0, 0] :=
  (by decide +kernel : ∀ t : Fin grid0.N, _)

/-- The array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 5 (fun _ => 0) _
    (fun t h j => by rw [outsAt0_A m c t h]; frame_out; rw [hpay, hzero])
    (fun t h j => by rw [outsAt0_B m c t h]; frame_out; rw [hpay])
    t ((flush0_2 t).mp hf) _, zero_add, href]
  refine Fin.sum_mul_add_congr fun s k hl => ?_
  blk_point [iblk, V, idx t, idx ⟨_, Pipeline.run_point_lt_of_flush t ((flush0_2 t).mp hf) s⟩]

end Cert.AttnOutWeightIdeal.Value

end
-- ==== Proof.AttnOutWeightClaims.lean ====
/- The five claims about the AttnOutWeight call: three frames, the idealisation, the equation. -/
module

public import proofs.«01_k».proof.Defs
public import proofs.«01_k».proof.Proof.AttnOutWeightValue
public import proofs.«01_k».proof.Proof.Gen.AttnOutWeight.Frame
public import proofs.«01_k».proof.Proof.Gen.AttnOutWeightIdeal.Frame
public import proofs.«01_k».proof.Proof.Gen.AttnOutWeightRefIdeal.Run
public import proofs.«01_k».proof.Proof.Gen.AttnOutWeightRefIdeal.Read
public import Idealize.ShloMosaic.Adequacy
public import Idealize.ShloMosaic.Init

@[expose] public section

set_option maxRecDepth 16384

noncomputable section

namespace Cert.Proof.AttnOutWeight

open Idealize.ShloMosaic Idealize.ShloMosaic.TcCoe Idealize.SL.Sem

/-- The call as printed ends with its arguments unchanged and its counters at zero. -/
theorem frame_p : Cert.quiescent_AttnOutWeight := fun m ρ _ => Cert.AttnOutWeight.Gen.frame m ρ

/-- So does the call over the reals. -/
theorem frame_pi : Cert.quiescent_AttnOutWeightIdeal := fun m ρ _ => Cert.AttnOutWeightIdeal.Gen.frame m ρ

/-- So does the reference, which has no counters. -/
theorem frame_ri : Cert.quiescent_AttnOutWeightRefIdeal := fun m ρ _ =>
  (θ_run Cert.AttnOutWeightRefIdeal.defs _ _).mono
    (fun r h => ⟨fun c => (h c).2, sem_eq_zero_of_no_sems (by decide) r.2⟩)
    (Cert.AttnOutWeightRefIdeal.Value.run (F := Ideal) m ρ)

/-- No operation was rewritten. -/
theorem preserves : Cert.preserves_AttnOutWeight_AttnOutWeightIdeal := trivial

/-- Over the reals the call's results are the reference's. -/
theorem algebraic : Cert.algebraic_AttnOutWeightIdeal_AttnOutWeightRefIdeal := by
  pair_intro
  · run_from Cert.AttnOutWeightIdeal.Value.run_blocks m g
  · refine (θ_run Cert.AttnOutWeightRefIdeal.defs _ _).mono (fun r h c => ?_) (Cert.AttnOutWeightRefIdeal.Value.run (F := Ideal) m' g')
    obtain ⟨h0, h1⟩ := hagree c
    refine ⟨?_, (h c).2⟩
    refine ((h c).1.trans (Cert.AttnOutWeightRefIdeal.Read.val_main_v5_eq ..)).trans ?_
    refine Eq.trans ?_ (Cert.AttnOutWeightIdeal.Value.final m c).symm
    congr 1

end Cert.Proof.AttnOutWeight

end
-- ==== Proof.RmsMath.lean ====
/- The gradient of the division by the root mean square, entry by entry, over the extended reals: two ways to
   write it that agree at every value, infinite ones included. -/
module

public import Idealize.ShloMosaic.Lib.Pipeline.ValueKit

@[expose] public section

noncomputable section

namespace Cert.Rms

open Idealize.ShloMosaic

/-- 1024 as a float32. -/
theorem lit_1024 : Ideal.ofBits .f32 0x44800000#32 = ((1024 : ℝ) : EReal) := by
  simp [Ideal.ofBits, Ideal.ieee, -EReal.coe_mul]; norm_num

/-- 1/1024 as a float32. -/
theorem lit_inv1024 : Ideal.ofBits .f32 0x3A800000#32 = (((1024 : ℝ)⁻¹ : ℝ) : EReal) := by
  simp [Ideal.ofBits, Ideal.ieee, -EReal.coe_mul]; norm_num

/-- -1/2 as a float32. -/
theorem lit_neghalf : Ideal.ofBits .f32 0xBF000000#32 = ((-(1/2) : ℝ) : EReal) := by
  simp [Ideal.ofBits, Ideal.ieee, -EReal.coe_mul]; norm_num

/-- 1/2 as a float32. -/
theorem lit_half : Ideal.ofBits .f32 0x3F000000#32 = ((1/2 : ℝ) : EReal) := by
  simp [Ideal.ofBits, Ideal.ieee, -EReal.coe_mul]; norm_num

/-- 2 as a float32. -/
theorem lit_two : Ideal.ofBits .f32 0x40000000#32 = ((2 : ℝ) : EReal) := by
  simp [Ideal.ofBits, Ideal.ieee, -EReal.coe_mul]; norm_num

/-- The small constant under the root is a positive real. -/
theorem lit_eps : ∃ e : ℝ, 0 < e ∧ Ideal.ofBits .f32 0x358637BD#32 = (e : EReal) := by
  refine ⟨_, ?_, by simp [Ideal.ofBits, Ideal.ieee, -EReal.coe_mul]; rfl⟩
  norm_num

/-- Dividing by 1024 is multiplying by its inverse. -/
theorem div_1024 (z : EReal) : Ideal.div z (Ideal.ofBits .f32 0x44800000#32) = z * (((1024 : ℝ)⁻¹ : ℝ) : EReal) := by
  rw [lit_1024, Ideal.div, if_neg (by simp), EReal.coe_inv]

/-- The mean of the squares of a row, with the small constant added. -/
def var (x : Fin 1024 → EReal) : EReal :=
  Ideal.div (∑ k, x k * x k) (Ideal.ofBits .f32 0x44800000#32) + Ideal.ofBits .f32 0x358637BD#32

/-- A positive real factor goes into a sum. -/
theorem sum_mul_pos {ι : Type} (s : Finset ι) (f : ι → EReal) (r : ℝ) (hr : 0 ≤ r) :
    (∑ k ∈ s, f k) * (r : EReal) = ∑ k ∈ s, f k * (r : EReal) := by
  classical
  induction s using Finset.induction_on with
  | empty => simp
  | insert a s ha ih =>
    rw [Finset.sum_insert ha, Finset.sum_insert ha,
      EReal.right_distrib_of_nonneg_of_ne_top (by exact_mod_cast hr) (EReal.coe_ne_top r), ih]

/-- Half of a value's negative, twice. -/
theorem neg_halves (t : EReal) : t * ((-(1/2) : ℝ) : EReal) + t * ((-(1/2) : ℝ) : EReal) = -t := by
  induction t with
  | bot => rw [EReal.bot_mul_coe_of_neg (by norm_num)]; simp
  | top => rw [EReal.top_mul_coe_of_neg (by norm_num)]; simp
  | coe x => norm_cast; congr 1; ring

/-- The mean of squares with the small constant added is at least that constant. -/
theorem le_var {n : ℕ} (x : Fin n → EReal) (e c : ℝ) (hc : 0 ≤ c) :
    (e : EReal) ≤ (∑ k, x k * x k) * (c : EReal) + (e : EReal) := by
  have h : 0 ≤ (∑ k, x k * x k) * (c : EReal) :=
    mul_nonneg (Finset.sum_nonneg fun k _ => by
      rcases le_total 0 (x k) with h | h
      · exact mul_nonneg h h
      · simpa using mul_nonneg (EReal.neg_nonneg.mpr h) (EReal.neg_nonneg.mpr h)) (by exact_mod_cast hc)
  simpa using add_le_add_left h (e : EReal)

/-- The reciprocal root of such a value: zero at infinity, else a positive real whose cube is its quotient by the value. -/
theorem rsqrt_cases {v : EReal} {e : ℝ} (he : 0 < e) (hv : (e : EReal) ≤ v) :
    (v = ⊤ ∧ Ideal.rsqrt v = 0 ∧ Ideal.div (Ideal.rsqrt v) v = 0)
      ∨ ∃ r : ℝ, 0 < r ∧ Ideal.rsqrt v = (r : EReal) ∧ Ideal.div (Ideal.rsqrt v) v = ((r * r * r : ℝ) : EReal) := by
  induction v with
  | bot => simp at hv
  | top => exact .inl ⟨rfl, rfl, by simp [Ideal.rsqrt, Ideal.div]⟩
  | coe x =>
    have hx : 0 < x := lt_of_lt_of_le he (by exact_mod_cast hv)
    have hs : Ideal.rsqrt (x : EReal) = (((Real.sqrt x)⁻¹ : ℝ) : EReal) := by
      show (if x < 0 then ⊥ else if x = 0 then ⊤ else (((Real.sqrt x)⁻¹ : ℝ) : EReal)) = _
      rw [if_neg (by linarith), if_neg (by linarith)]
    refine .inr ⟨(Real.sqrt x)⁻¹, by positivity, hs, ?_⟩
    rw [hs, Ideal.div, if_neg (by exact_mod_cast hx.ne'), ← EReal.coe_inv, ← EReal.coe_mul]
    congr 1
    have h : x⁻¹ = (Real.sqrt x)⁻¹ * (Real.sqrt x)⁻¹ := by rw [← mul_inv, Real.mul_self_sqrt hx.le]
    rw [h]; ring

/-- The two ways to write the gradient. -/
theorem grad {n : ℕ} (a x : Fin n → EReal) (i : Fin n) {v : EReal} {e : ℝ} (c : ℝ) (hc : 0 ≤ c) (he : 0 < e) (hv : (e : EReal) ≤ v) :
    Ideal.rsqrt v * (a i - x i * Ideal.rsqrt v * ((∑ k, a k * (x k * Ideal.rsqrt v)) * (c : EReal)))
    = a i * Ideal.rsqrt v + x i * ((∑ k, x k * a k) * (((-(1/2) : ℝ) : EReal) * Ideal.div (Ideal.rsqrt v) v) * (c : EReal))
      + ((∑ k, x k * a k) * (((-(1/2) : ℝ) : EReal) * Ideal.div (Ideal.rsqrt v) v) * (c : EReal)) * x i := by
  rcases rsqrt_cases he hv with ⟨-, h0, h1⟩ | ⟨r, hr, h0, h1⟩
  · rw [h1, h0]; simp
  · rw [h1, h0]
    have hS : (∑ k, a k * (x k * (r : EReal))) = (∑ k, x k * a k) * (r : EReal) := by
      rw [sum_mul_pos _ _ _ hr.le]
      exact Finset.sum_congr rfl fun k _ => by rw [← mul_assoc, mul_comm (a k)]
    rw [hS]
    generalize (∑ k, x k * a k) = S
    rw [sub_eq_add_neg, EReal.left_distrib_of_nonneg_of_ne_top (by exact_mod_cast hr.le) (EReal.coe_ne_top r), add_assoc,
      mul_comm (r : EReal) (a i)]
    congr 1
    have hT : ∀ T : EReal, (r : EReal) * -T = T * (r : EReal) * ((-(1/2) : ℝ) : EReal) + T * (r : EReal) * ((-(1/2) : ℝ) : EReal) := by
      intro T
      rw [neg_halves, mul_comm (r : EReal), neg_mul]
    rw [hT, EReal.coe_mul, EReal.coe_mul]
    congr 1 <;> ac_rfl

end Cert.Rms

end
-- ==== Proof.RmsFwdValue.lean ====
/- The division by the root mean square: the array the call leaves is the reference's, entry by entry. -/
module

public import proofs.«01_k».proof.Proof.Gen.RmsFwdIdeal.Value
public import proofs.«01_k».proof.Proof.Gen.RmsFwdRefIdeal.Read
public import proofs.«01_k».proof.Proof.RmsMath
public import proofs.«01_k».proof.Proof.Stores
public import Idealize.ShloMosaic.Lib.Pipeline.ValueKit

@[expose] public section

set_option maxRecDepth 16384

noncomputable section

namespace Cert.RmsFwdIdeal.Value

open Cert.RmsFwdIdeal Cert.RmsFwdIdeal.Gen Idealize.ShloMosaic Idealize.ShloMosaic.TcCoe Idealize.SL.Sem
open Idealize.ShloMosaic.Pipeline (Dat)

variable (m : (ℓ : Loc nD τ sig) → Buf (Elt Ideal) ℓ)

/-- The reference's array of the call's arguments. -/
abbrev REF (X : FVec Ideal S16640x1024 .f32) (G : FVec Ideal S1024 .f32) : FVec Ideal S16640x1024 .bf16 :=
  Cert.RmsFwdRefIdeal.Read.val_main_v13 (F := Ideal) X G

/-- The blocks of the arrays at a grid point. -/
theorem idx : ∀ t : Fin cfg0.N, win0_0.index t = ![t.val, 0] ∧ win0_1.index t = ![0, 0] ∧ win0_2.index t = ![t.val, 0] :=
  (by decide +kernel : ∀ t : Fin grid0.N, _)

/-- The body's entry. -/
theorem hpay (v0 v1) (y) : k0_pay1 (F := Ideal) v0 v1 y
    = v0 y * Ideal.rsqrt (Cert.Rms.var fun k => v0 (ix2 (y 0) k)) * v1 (ix2 0 (y 1)) := by
  unfold Cert.Rms.var
  pointwise [k0_pay1]

/-- The reference's entry. -/
theorem href (X G) (j) : REF X G j
    = X j * Ideal.rsqrt (Cert.Rms.var fun k => X (ix2 (j 0) k)) * G (ix1 (j 1)) := by
  unfold Cert.Rms.var
  pointwise [REF, Cert.RmsFwdRefIdeal.Read.val_main_v13, Cert.RmsFwdRefIdeal.Read.val_main_v12, Cert.RmsFwdRefIdeal.Read.val_main_v11, Cert.RmsFwdRefIdeal.Read.val_main_v10, Cert.RmsFwdRefIdeal.Read.val_main_v9, Cert.RmsFwdRefIdeal.Read.val_main_v8, Cert.RmsFwdRefIdeal.Read.val_main_v7, Cert.RmsFwdRefIdeal.Read.val_main_v6, Cert.RmsFwdRefIdeal.Read.val_main_v5, Cert.RmsFwdRefIdeal.Read.val_main_v4, Cert.RmsFwdRefIdeal.Read.val_main_v3, Cert.RmsFwdRefIdeal.Read.val_main_v2, Cert.RmsFwdRefIdeal.Read.val_main_v1, Cert.RmsFwdRefIdeal.Read.val_main_v0, Cert.RmsFwdRefIdeal.Read.val_main_cst, Cert.RmsFwdRefIdeal.Read.val_main_cst_0, Cert.RmsFwdRefIdeal.Read.val_main_cst_1]

/-- What the body stores at place `y` of tile `t` is the reference's entry there. -/
theorem point (c : Dev nD) (t : Fin cfg0.N) (y) :
    k0_pay1 (iblk m c 0 t) (iblk m c 1 t) y
    = REF (m ((c : Thread nD τ).loc main_arg0)) (m ((c : Thread nD τ).loc main_arg1)) (((cfg0.win 2).blk t).view.emb y) := by
  rw [hpay, href]
  refine congrArg₂ (· * ·) (congrArg₂ (· * ·) ?_ (congrArg (fun z => Ideal.rsqrt (Cert.Rms.var z)) ?_)) ?_
  · blk_point [iblk, V, idx t]
  · funext k
    blk_point [iblk, V, idx t]
  · blk_point [iblk, V, idx t]

/-- The array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.RmsFwdIdeal.Value

end
-- ==== Proof.RmsFwdClaims.lean ====
/- The five claims about the RmsFwd call: three frames, the idealisation, the equation. -/
module

public import proofs.«01_k».proof.Defs
public import proofs.«01_k».proof.Proof.RmsFwdValue
public import proofs.«01_k».proof.Proof.Gen.RmsFwd.Frame
public import proofs.«01_k».proof.Proof.Gen.RmsFwdIdeal.Frame
public import proofs.«01_k».proof.Proof.Gen.RmsFwdRefIdeal.Run
public import proofs.«01_k».proof.Proof.Gen.RmsFwdRefIdeal.Read
public import Idealize.ShloMosaic.Adequacy
public import Idealize.ShloMosaic.Init

@[expose] public section

set_option maxRecDepth 16384

noncomputable section

namespace Cert.Proof.RmsFwd

open Idealize.ShloMosaic Idealize.ShloMosaic.TcCoe Idealize.SL.Sem

/-- The call as printed ends with its arguments unchanged and its counters at zero. -/
theorem frame_p : Cert.quiescent_RmsFwd := fun m ρ _ => Cert.RmsFwd.Gen.frame m ρ

/-- So does the call over the reals. -/
theorem frame_pi : Cert.quiescent_RmsFwdIdeal := fun m ρ _ => Cert.RmsFwdIdeal.Gen.frame m ρ

/-- So does the reference, which has no counters. -/
theorem frame_ri : Cert.quiescent_RmsFwdRefIdeal := fun m ρ _ =>
  (θ_run Cert.RmsFwdRefIdeal.defs _ _).mono
    (fun r h => ⟨fun c => (h c).2, sem_eq_zero_of_no_sems (by decide) r.2⟩)
    (Cert.RmsFwdRefIdeal.Value.run (F := Ideal) m ρ)

/-- No operation was rewritten. -/
theorem preserves : Cert.preserves_RmsFwd_RmsFwdIdeal := trivial

/-- Over the reals the call's results are the reference's. -/
theorem algebraic : Cert.algebraic_RmsFwdIdeal_RmsFwdRefIdeal := by
  pair_intro
  · run_from Cert.RmsFwdIdeal.Value.run_blocks m g
  · refine (θ_run Cert.RmsFwdRefIdeal.defs _ _).mono (fun r h c => ?_) (Cert.RmsFwdRefIdeal.Value.run (F := Ideal) m' g')
    obtain ⟨h0, h1⟩ := hagree c
    refine ⟨?_, (h c).2⟩
    refine ((h c).1.trans (Cert.RmsFwdRefIdeal.Read.val_main_v13_eq ..)).trans ?_
    refine Eq.trans ?_ (Cert.RmsFwdIdeal.Value.final m c).symm
    congr 1

end Cert.Proof.RmsFwd

end
-- ==== Proof.RmsBwdValue.lean ====
/- The gradient of the division by the root mean square: the three arrays the call leaves are the reference's, entry by entry. -/
module

public import proofs.«01_k».proof.Proof.Gen.RmsBwdIdeal.Value
public import proofs.«01_k».proof.Proof.Gen.RmsBwdRefIdeal.Read
public import proofs.«01_k».proof.Proof.RmsMath
public import proofs.«01_k».proof.Proof.Stores
public import Idealize.ShloMosaic.Lib.Pipeline.ValueKit
public import Idealize.ShloMosaic.Lib.WritesUnit

@[expose] public section

set_option maxRecDepth 16384

noncomputable section

namespace Cert.RmsBwdIdeal.Value

open Cert.RmsBwdIdeal Cert.RmsBwdIdeal.Gen Idealize.ShloMosaic Idealize.ShloMosaic.TcCoe Idealize.SL.Sem
open Idealize.ShloMosaic.Pipeline (Dat)

variable (m : (ℓ : Loc nD τ sig) → Buf (Elt Ideal) ℓ)

/-- The blocks of the arrays at a grid point. -/
theorem idx : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![t.val, 0] ∧ win0_6.index t = ![0, 0] :=
  (by decide +kernel : ∀ t : Fin grid0.N, _)

/-- The grid's coordinate is the row tile. -/
theorem coord : ∀ t : Fin cfg0.N, ((cfg0.grid.coords t) 0).val = t.val :=
  (by decide +kernel : ∀ t : Fin grid0.N, _)

/-- The row's number as a word is at least 240 exactly when the number is. -/
theorem mask (n r : ℕ) (hn : n < 26) (hr : r < 640) :
    (240#32).sle (BitVec.ofNat 32 n * 640#32 + BitVec.ofNat 32 r) = decide (240 ≤ n * 640 + r) := by
  rw [BitVec.sle_eq_decide, decide_eq_decide]
  have h : (BitVec.ofNat 32 n * 640#32 + BitVec.ofNat 32 r) = BitVec.ofNat 32 (n * 640 + r) := by
    apply BitVec.eq_of_toNat_eq
    simp [BitVec.toNat_add, BitVec.toNat_mul]
  have hm : (BitVec.ofNat 32 (n * 640 + r)).toNat = n * 640 + r := by
    rw [BitVec.toNat_ofNat, Nat.mod_eq_of_lt (by omega)]
  rw [h, BitVec.toInt_eq_toNat_of_lt (by decide), BitVec.toInt_eq_toNat_of_lt (by omega), hm]
  exact Int.ofNat_le

/-- The reciprocal root of a row. -/
abbrev rt {n : ℕ} (X : FVec Ideal ⟨2, ![n, 1024]⟩ .f32) (i : Fin n) : EReal := Ideal.rsqrt (Cert.Rms.var fun k => X (ix2 i k))

theorem hpay5 (x) (y) : k0_pay5 (F := Ideal) x y = rt x (y 0) := by
  unfold rt Cert.Rms.var
  pointwise [k0_pay5]

theorem hpay6 (x) (y) : k0_pay6 (F := Ideal) x y = x y * rt x (y 0) := by
  pointwise [k0_pay6, hpay5]

/-- A tile's gradient before the padding is cleared. -/
theorem hpay8 (x d g r) (i : Fin 640) (j : Fin 1024) : k0_pay8 (F := Ideal) x d g r (ix2 i j)
    = rt x i * (d (ix2 i j) * g (ix2 0 j) - x (ix2 i j) * rt x i
      * Ideal.div (∑ k : Fin 1024, d (ix2 i k) * g (ix2 0 k) * (x (ix2 i k) * rt x i)) (Ideal.ofBits .f32 0x44800000#32)) + r (ix2 i j) := by
  pointwise [k0_pay8, hpay6, hpay5, k0_pay7]

/-- What a tile stores: that gradient, or zero in the padding. -/
theorem hpay1 (i : grid0.Coords) (v : FVec Ideal S640x1024 .f32) (y) :
    k0_pay1 (F := Ideal) v (FloatOps.ofBits .f32 0#32) (k0_pay9 i) y = if 240 ≤ (i 0).val * 640 + (y 0).val then v y else 0 := by
  pointwise [k0_pay1, k0_pay9]
  have h := mask (i 0).val (y 0).val (i 0).isLt (y 0).isLt
  simp only [IntOp.cmpi, IntOp.addi, Scalar.muli, IntOp.muli, h]
  by_cases hp : 240 ≤ (i 0).val * 640 + (y 0).val <;> simp [hp, Scalar.select]

/-- A tile's addend to the scale's gradient. -/
theorem hpay3 (x d acc) (y) : k0_pay3 (F := Ideal) (k0_pay6 x) (k0_pay7 d) acc y
    = acc y + ∑ k : Fin 640, d (ix2 k (y 1)) * (x (ix2 k (y 1)) * rt x k) := by
  pointwise [k0_pay3, hpay6, k0_pay7]

/-- The reference's reciprocal root. -/
theorem href7 (X : FVec Ideal S16640x1024 .f32) (i) : Cert.RmsBwdRefIdeal.Read.val_main_v7 (F := Ideal) X i = rt X (i 0) := by
  unfold rt Cert.Rms.var
  pointwise [Cert.RmsBwdRefIdeal.Read.val_main_v0, Cert.RmsBwdRefIdeal.Read.val_main_v1, Cert.RmsBwdRefIdeal.Read.val_main_v2, Cert.RmsBwdRefIdeal.Read.val_main_v3, Cert.RmsBwdRefIdeal.Read.val_main_v4, Cert.RmsBwdRefIdeal.Read.val_main_v5, Cert.RmsBwdRefIdeal.Read.val_main_v6, Cert.RmsBwdRefIdeal.Read.val_main_v7, Cert.RmsBwdRefIdeal.Read.val_main_cst, Cert.RmsBwdRefIdeal.Read.val_main_cst_1, Cert.RmsBwdRefIdeal.Read.val_main_cst_0]

/-- The reference's quotient of it by the mean square. -/
theorem href8 (X : FVec Ideal S16640x1024 .f32) (i) : Cert.RmsBwdRefIdeal.Read.val_main_v8 (F := Ideal) X i
    = Ideal.div (rt X (i 0)) (Cert.Rms.var fun k => X (ix2 (i 0) k)) := by
  refine (Cert.RmsBwdRefIdeal.Read.val_main_v8_apply (F := Ideal) X i).trans ?_
  rw [href7]
  unfold Cert.Rms.var
  pointwise [Cert.RmsBwdRefIdeal.Read.val_main_v0, Cert.RmsBwdRefIdeal.Read.val_main_v1, Cert.RmsBwdRefIdeal.Read.val_main_v2, Cert.RmsBwdRefIdeal.Read.val_main_v3, Cert.RmsBwdRefIdeal.Read.val_main_v4, Cert.RmsBwdRefIdeal.Read.val_main_v5, Cert.RmsBwdRefIdeal.Read.val_main_v6, Cert.RmsBwdRefIdeal.Read.val_main_cst, Cert.RmsBwdRefIdeal.Read.val_main_cst_1, Cert.RmsBwdRefIdeal.Read.val_main_cst_0]

/-- The reference's row term through the mean square. -/
theorem href32 (X : FVec Ideal S16640x1024 .f32) (G : FVec Ideal S1024 .f32) (Y : FVec Ideal S16640x1024 .bf16) (j) :
    Cert.RmsBwdRefIdeal.Read.val_main_v32 (F := Ideal) X G Y j
    = Ideal.div ((∑ k : Fin 1024, X (ix2 (j 0) k) * (Y (ix2 (j 0) k) * G (ix1 k))) * (Ideal.ofBits .f32 0xBF000000#32
      * Ideal.div (rt X (j 0)) (Cert.Rms.var fun k => X (ix2 (j 0) k)))) (Ideal.ofBits .f32 0x44800000#32) := by
  pointwise [Cert.RmsBwdRefIdeal.Read.val_main_v9, Cert.RmsBwdRefIdeal.Read.val_main_v10, Cert.RmsBwdRefIdeal.Read.val_main_v16, Cert.RmsBwdRefIdeal.Read.val_main_v13, Cert.RmsBwdRefIdeal.Read.val_main_v20, Cert.RmsBwdRefIdeal.Read.val_main_v21, Cert.RmsBwdRefIdeal.Read.val_main_v23, Cert.RmsBwdRefIdeal.Read.val_main_v24, Cert.RmsBwdRefIdeal.Read.val_main_v25, Cert.RmsBwdRefIdeal.Read.val_main_v28, Cert.RmsBwdRefIdeal.Read.val_main_v29, Cert.RmsBwdRefIdeal.Read.val_main_v30, Cert.RmsBwdRefIdeal.Read.val_main_v31, Cert.RmsBwdRefIdeal.Read.val_main_v32, Cert.RmsBwdRefIdeal.Read.val_main_cst_2, Cert.RmsBwdRefIdeal.Read.val_main_cst_5, Cert.RmsBwdRefIdeal.Read.val_main_cst_6, Cert.RmsBwdRefIdeal.Read.val_main_cst_7, href8]
  exact Fin.sum_univ_one _

/-- The reference's gradient of a row. -/
theorem href36 (X : FVec Ideal S16640x1024 .f32) (G : FVec Ideal S1024 .f32) (Y : FVec Ideal S16640x1024 .bf16) (i : Fin 16640) (j : Fin 1024) :
    Cert.RmsBwdRefIdeal.Read.val_main_v36 (F := Ideal) X G Y (ix2 i j)
    = rt X i * (Y (ix2 i j) * G (ix1 j) - X (ix2 i j) * rt X i
      * Ideal.div (∑ k : Fin 1024, Y (ix2 i k) * G (ix1 k) * (X (ix2 i k) * rt X i)) (Ideal.ofBits .f32 0x44800000#32)) := by
  obtain ⟨e, he, hl⟩ := Cert.Rms.lit_eps
  have hv : (e : EReal) ≤ Cert.Rms.var fun k => X (ix2 i k) := by
    rw [Cert.Rms.var, Cert.Rms.div_1024, hl]
    exact Cert.Rms.le_var _ _ _ (by norm_num)
  have hg := Cert.Rms.grad (fun k => Y (ix2 i k) * G (ix1 k)) (fun k => X (ix2 i k)) j ((1024 : ℝ)⁻¹) (by norm_num) he hv
  refine Eq.trans ?_ (Eq.trans hg.symm ?_)
  · rw [← Cert.Rms.lit_neghalf, ← Cert.Rms.div_1024]
    pointwise [Cert.RmsBwdRefIdeal.Read.val_main_v13, Cert.RmsBwdRefIdeal.Read.val_main_v16, Cert.RmsBwdRefIdeal.Read.val_main_v20, Cert.RmsBwdRefIdeal.Read.val_main_v21, Cert.RmsBwdRefIdeal.Read.val_main_v26, Cert.RmsBwdRefIdeal.Read.val_main_v27, Cert.RmsBwdRefIdeal.Read.val_main_v33, Cert.RmsBwdRefIdeal.Read.val_main_v34, Cert.RmsBwdRefIdeal.Read.val_main_v35, Cert.RmsBwdRefIdeal.Read.val_main_v36, href7, href32]
  · rw [← Cert.Rms.div_1024]

/-- The reference's gradient of the rows, zero in the padding. -/
theorem href40 (X : FVec Ideal S16640x1024 .f32) (G : FVec Ideal S1024 .f32) (Y : FVec Ideal S16640x1024 .bf16) (R : FVec Ideal S16640x1024 .f32) (j) :
    Cert.RmsBwdRefIdeal.Read.val_main_v40 (F := Ideal) X G Y R j
    = if 240 ≤ (j 0).val then Cert.RmsBwdRefIdeal.Read.val_main_v36 (F := Ideal) X G Y j + R j else 0 := by
  pointwise [Cert.RmsBwdRefIdeal.Read.val_main_v37, Cert.RmsBwdRefIdeal.Read.val_main_v38, Cert.RmsBwdRefIdeal.Read.val_main_v39, Cert.RmsBwdRefIdeal.Read.val_main_v40, Cert.RmsBwdRefIdeal.Read.val_main_cst_8]
  by_cases hp : (j 0).val < 240
  · refine (dif_pos hp).trans (Eq.trans ?_ (if_neg (by omega)).symm)
    pointwise []
  · refine (dif_neg hp).trans (Eq.trans ?_ (if_pos (by omega)).symm)
    have e : ∀ h, ix2 (⟨240 + ((j 0).val - 240), h⟩ : Fin 16640) (j 1) = j := fun h => by
      refine Eq.trans ?_ (ix2_eta j)
      exact congrArg (fun z : Fin 16640 => (ix2 z (j 1) : S16640x1024.Idx)) (Fin.ext (by simp only; omega))
    exact congrArg₂ (· + ·) (congrArg (Cert.RmsBwdRefIdeal.Read.val_main_v36 (F := Ideal) X G Y) (e _)) (congrArg R (e _))

/-- The reference's gradient of the scale. -/
theorem href44 (X : FVec Ideal S16640x1024 .f32) (Y : FVec Ideal S16640x1024 .bf16) (j) :
    Cert.RmsBwdRefIdeal.Read.val_main_v44 (F := Ideal) X Y j
    = if (j 0).val = 0 then ∑ k : Fin 16640, Y (ix2 k (j 1)) * (X (ix2 k (j 1)) * rt X k) else 0 := by
  pointwise [Cert.RmsBwdRefIdeal.Read.val_main_v11, Cert.RmsBwdRefIdeal.Read.val_main_v12, Cert.RmsBwdRefIdeal.Read.val_main_v16, Cert.RmsBwdRefIdeal.Read.val_main_v17, Cert.RmsBwdRefIdeal.Read.val_main_v18, Cert.RmsBwdRefIdeal.Read.val_main_v19, Cert.RmsBwdRefIdeal.Read.val_main_v22, Cert.RmsBwdRefIdeal.Read.val_main_v42, Cert.RmsBwdRefIdeal.Read.val_main_v43, Cert.RmsBwdRefIdeal.Read.val_main_v44, Cert.RmsBwdRefIdeal.Read.val_main_cst_3, Cert.RmsBwdRefIdeal.Read.val_main_cst_4, Cert.RmsBwdRefIdeal.Read.val_main_cst_9, href7]
  by_cases h : (j 0).val < 1
  · refine (dif_pos h).trans (Eq.trans ?_ (if_pos (by omega)).symm)
    exact (Fin.sum_univ_one _).trans (Finset.sum_congr rfl fun k _ => mul_comm _ _)
  · exact (dif_neg h).trans (if_neg (by omega)).symm

/-- The arguments of a device. -/
abbrev aX (c : Dev nD) : FVec Ideal S16640x1024 .f32 := m ((c : Thread nD τ).loc main_arg0)
abbrev aG (c : Dev nD) : FVec Ideal S1024 .f32 := m ((c : Thread nD τ).loc main_arg1)
abbrev aY (c : Dev nD) : FVec Ideal S16640x1024 .bf16 := m ((c : Thread nD τ).loc main_arg2)
abbrev aR (c : Dev nD) : FVec Ideal S16640x1024 .f32 := m ((c : Thread nD τ).loc main_arg3)

/-- A tile's entry of an argument. -/
theorem blk0 (c : Dev nD) (t : Fin cfg0.N) (x : Fin 640) (k : Fin 1024) (r : Fin 16640) (hr : r.val = t.val * 640 + x.val) :
    (iblk m c 0 t : Vec Ideal S640x1024 .f32) (ix2 x k) = aX m c (ix2 r k) := by
  blk_point [iblk, V, idx t]

theorem blk1 (c : Dev nD) (t : Fin cfg0.N) (k : Fin 1024) :
    (iblk m c 1 t : Vec Ideal S1x1024 .f32) (ix2 0 k) = aG m c (ix1 k) := by
  blk_point [iblk, V, idx t]

theorem blk2 (c : Dev nD) (t : Fin cfg0.N) (x : Fin 640) (k : Fin 1024) (r : Fin 16640) (hr : r.val = t.val * 640 + x.val) :
    (iblk m c 2 t : Vec Ideal S640x1024 .bf16) (ix2 x k) = aY m c (ix2 r k) := by
  blk_point [iblk, V, idx t]

theorem blk3 (c : Dev nD) (t : Fin cfg0.N) (x : Fin 640) (k : Fin 1024) (r : Fin 16640) (hr : r.val = t.val * 640 + x.val) :
    (iblk m c 3 t : Vec Ideal S640x1024 .f32) (ix2 x k) = aR m c (ix2 r k) := by
  blk_point [iblk, V, idx t]

/-- A tile's reciprocal root of a row is the array's. -/
theorem rt_blk (c : Dev nD) (t : Fin cfg0.N) (x : Fin 640) (r : Fin 16640) (hr : r.val = t.val * 640 + x.val) :
    rt (iblk m c 0 t : Vec Ideal S640x1024 .f32) x = rt (aX m c) r := by
  unfold rt
  simp only [blk0 m c t x _ r hr]

/-- What a tile stores is the reference's gradient of its rows. -/
theorem point (c : Dev nD) (t : Fin cfg0.N) (x : Fin 640) (j : Fin 1024) (r : Fin 16640) (hr : r.val = t.val * 640 + x.val) :
    k0_pay1 (F := Ideal) (k0_pay8 (iblk m c 0 t) (iblk m c 2 t) (iblk m c 1 t) (iblk m c 3 t)) (FloatOps.ofBits .f32 0#32)
      (k0_pay9 (cfg0.grid.coords t)) (ix2 x j)
      = Cert.RmsBwdRefIdeal.Read.val_main_v40 (F := Ideal) (aX m c) (aG m c) (aY m c) (aR m c) (ix2 r j) := by
  rw [hpay1, href40, coord]
  refine if_congr (by show 240 ≤ t.val * 640 + x.val ↔ 240 ≤ r.val; rw [hr]) ?_ rfl
  rw [hpay8, href36, rt_blk m c t x r hr]
  simp only [blk0 m c t x _ r hr, blk2 m c t x _ r hr, blk3 m c t x _ r hr, blk1 m c t]

/-- The same of the whole tile. -/
theorem point' (c : Dev nD) (t : Fin cfg0.N) (y : S640x1024.Idx) (j : S16640x1024.Idx) (h0 : (j 0).val = t.val * 640 + (y 0).val)
    (h1 : (j 1).val = (y 1).val) :
    k0_pay1 (F := Ideal) (k0_pay8 (iblk m c 0 t) (iblk m c 2 t) (iblk m c 1 t) (iblk m c 3 t)) (FloatOps.ofBits .f32 0#32)
      (k0_pay9 (cfg0.grid.coords t)) y
      = Cert.RmsBwdRefIdeal.Read.val_main_v40 (F := Ideal) (aX m c) (aG m c) (aY m c) (aR m c) j := by
  have hj : ix2 (j 0) (y 1) = j := (congrArg (ix2 (j 0)) (Fin.ext h1.symm)).trans (ix2_eta j)
  exact (congrArg _ (ix2_eta y)).symm.trans ((point m c t (y 0) (y 1) (j 0) h0).trans (congrArg _ hj))

/-- The first output after a point. -/
theorem out4 (c : Dev nD) (t : Fin cfg0.N) : (outsAt0 m c t.val t.isLt).1
    = k0_pay1 (F := Ideal) (k0_pay8 (iblk m c 0 t) (iblk m c 2 t) (iblk m c 1 t) (iblk m c 3 t)) (FloatOps.ofBits .f32 0#32)
      (k0_pay9 (cfg0.grid.coords t)) := by
  by_cases h0 : t.val % 26 = 0
  · rw [outsAt0_A m c t h0]; funext y; frame_out
  · rw [outsAt0_B m c t h0]; funext y; frame_out

/-- The second output after a point: the same. -/
theorem out5 (c : Dev nD) (t : Fin cfg0.N) : (outsAt0 m c t.val t.isLt).2.1
    = k0_pay2 (F := Ideal) (k0_pay8 (iblk m c 0 t) (iblk m c 2 t) (iblk m c 1 t) (iblk m c 3 t)) (FloatOps.ofBits .f32 0#32)
      (k0_pay9 (cfg0.grid.coords t)) := by
  by_cases h0 : t.val % 26 = 0
  · rw [outsAt0_A m c t h0]; funext y; frame_out
  · rw [outsAt0_B m c t h0]; funext y; frame_out

/-- A tile's part of the scale's gradient. -/
def partOf (X : FVec Ideal S640x1024 .f32) (D : FVec Ideal S640x1024 .bf16) (y : S8x1024.Idx) : EReal :=
  if (y 0).val = 0 then ∑ k : Fin 640, D (ix2 k (y 1)) * (X (ix2 k (y 1)) * rt X k) else 0

/-- The part of a grid point. -/
abbrev part (c : Dev nD) (t : Fin cfg0.N) : S8x1024.Idx → EReal := partOf (iblk m c 0 t) (iblk m c 2 t)

/-- The first point starts from zero. -/
theorem out6_A (c : Dev nD) (t : Fin cfg0.N) (h0 : t.val % 26 = 0) (y) : (outsAt0 m c t.val t.isLt).2.2 y = 0 + part m c t y := by
  rw [outsAt0_A m c t h0]
  frame_out
  have hz : ∀ z, View.canon (Val := Elt Ideal) (e := .f32) [⟨Rect.unit (s := S8x1024) ![0, 0] ![8, 1024] inb_S8x1024_S8x1024_0_0, k0_pay4 (F := Ideal)⟩] z = 0 := fun z => by
    refine (Cert.Stores.canon_hit (S := S8x1024) ![0, 0] ![8, 1024] inb_S8x1024_S8x1024_0_0 _ _ z z ?_).trans ?_
    · intro a; match a with | 0 => simp | 1 => simp
    · pointwise [k0_pay4]
  unfold part partOf
  by_cases h : (y 0).val = 0
  · rw [if_pos h]
    refine (Cert.Stores.canon_hit (S := S8x1024) ![0, 0] ![1, 1024] inb_S8x1024_S1x1024_0_0 _ _ y (ix2 (0 : Fin 1) (⟨(y 1).val, (y 1).isLt⟩ : Fin 1024)) ?_).trans ?_
    · intro a; match a with | 0 => simp [h] | 1 => simp
    · refine (hpay3 _ _ _ _).trans (congrArg₂ (· + ·) ?_ rfl)
      rw [View.readCov_eq_canon']
      exact hz _
  · rw [if_neg h]
    refine (Cert.Stores.canon_miss (S := S8x1024) ![0, 0] ![1, 1024] inb_S8x1024_S1x1024_0_0 _ _ y 0 (Or.inr ?_)).trans ?_
    · simp; omega
    · rw [hz, add_zero]

/-- A later point adds its part. -/
theorem out6_B (c : Dev nD) (t : Fin cfg0.N) (h0 : ¬ t.val % 26 = 0) (y) : (outsAt0 m c t.val t.isLt).2.2 y
    = (outsAt0 m c (t.val - 1) (Nat.lt_of_le_of_lt (Nat.sub_le _ _) t.isLt)).2.2 y + part m c t y := by
  rw [outsAt0_B m c t h0]
  frame_out
  unfold part partOf
  by_cases h : (y 0).val = 0
  · rw [if_pos h]
    refine (View.read_writes_cons_unit_of_mem (s := S8x1024) _ _ inb_S8x1024_S1x1024_0_0 _ _ y (ix2 (0 : Fin 1) (⟨(y 1).val, (y 1).isLt⟩ : Fin 1024)) rfl ?_).trans ?_
    · intro a; match a with | 0 => simp [h] | 1 => simp
    · refine (hpay3 _ _ _ _).trans (congrArg₂ (· + ·) ?_ rfl)
      rw [View.ld_apply]
      refine congrArg (outsAt0 m c (t.val - 1) (Nat.lt_of_le_of_lt (Nat.sub_le _ _) t.isLt)).2.2 ?_
      funext a
      refine Fin.ext ?_
      rw [Rect.idx_unit_val]
      match a with
      | 0 => simp [h]
      | 1 => simp
  · rw [if_neg h, add_zero]
    refine (View.read_writes_cons_unit_of_not_mem (s := S8x1024) _ _ inb_S8x1024_S1x1024_0_0 _ _ y rfl 0 (Or.inr ?_)).trans ?_
    · simp; omega
    · exact congrFun (Memref.IsWhole.read_unread _ _) y

/-- The tiles' parts together are the sum over all rows. -/
theorem sum_part (c : Dev nD) (t : Fin cfg0.N) (y : S8x1024.Idx) :
    (∑ s : Fin 26, part m c ⟨26 * (t.val / 26) + s.val, by have := t.isLt; have h' : t.val < 26 := this; have h2 : cfg0.N = 26 := rfl; omega⟩ y : EReal)
      = if (y 0).val = 0 then ∑ k : Fin 16640, aY m c (ix2 k (y 1)) * (aX m c (ix2 k (y 1)) * rt (aX m c) k) else 0 := by
  by_cases h : (y 0).val = 0
  · rw [if_pos h]
    refine Eq.trans (Finset.sum_congr rfl fun s _ => ?_) (Fin.sum_mul_add_congr (S := 26) (n := 640)
      (F := fun s k => aY m c (ix2 ⟨s.val * 640 + k.val, by omega⟩ (y 1)) * (aX m c (ix2 ⟨s.val * 640 + k.val, by omega⟩ (y 1))
        * rt (aX m c) ⟨s.val * 640 + k.val, by omega⟩)) fun s k hl => rfl)
    refine (if_pos h).trans (Finset.sum_congr rfl fun k _ => ?_)
    have ht : 26 * (t.val / 26) + s.val = s.val := by have := t.isLt; have h' : t.val < 26 := this; omega
    refine congrArg₂ (· * ·) (blk2 m c _ k _ _ ?_) (congrArg₂ (· * ·) (blk0 m c _ k _ _ ?_) (rt_blk m c _ k _ ?_)) <;> simp [ht]
  · rw [if_neg h]
    exact Finset.sum_eq_zero fun s _ => if_neg h

/-- The first array after the run is the reference's. -/
theorem final0 (c : Dev nD) : (dats m 0 c).arrAt 4 (cfgs 0).N
    = Cert.RmsBwdRefIdeal.Read.val_main_v40 (F := Ideal) (aX m c) (aG m c) (aY m c) (aR m c) := by
  refine (dats m 0 c).arrAt_eq_of_covers 4 _ (by decide +kernel) fun t _ y => ?_
  blk_simp
  rw [after0_4, out4]
  refine point' m c t y _ ?_ ?_
  · blk_simp [idx t]
  · blk_simp [idx t]

/-- The second array after the run is the reference's. -/
theorem final1 (c : Dev nD) : (dats m 0 c).arrAt 5 (cfgs 0).N
    = Cert.RmsBwdRefIdeal.Read.val_main_v41 (F := Ideal) (aX m c) (aG m c) (aY m c) (aR m c) := by
  refine (dats m 0 c).arrAt_eq_of_covers 5 _ (by decide +kernel) fun t _ y => ?_
  blk_simp
  rw [after0_5, out5]
  refine point' m c t y _ ?_ ?_
  · blk_simp [idx t]
  · blk_simp [idx t]

/-- The third array after the run is the reference's. -/
theorem final2 (c : Dev nD) : (dats m 0 c).arrAt 6 (cfgs 0).N
    = Cert.RmsBwdRefIdeal.Read.val_main_v44 (F := Ideal) (aX m c) (aY m c) := by
  refine (dats m 0 c).arrAt_eq_of_covers 6 _ (by decide +kernel) fun t hf y => ?_
  blk_simp
  rw [after0_6, Pipeline.eq_sum_fin_of_reset_step_apply_of_flush (fun n h => (outsAt0 m c n h).2.2) 26 (fun _ => 0) (part m c)
    (out6_A m c) (out6_B m c) t ((flush0_6 t).mp hf) _, zero_add, href44]
  have e0 : ((win0_6.blk t).view.emb y 0).val = (y 0).val := by blk_simp [idx t]
  have e1 : (win0_6.blk t).view.emb y 1 = y 1 := Fin.ext (by blk_simp [idx t])
  rw [e0, e1]
  exact sum_part m c t y

end Cert.RmsBwdIdeal.Value

end
-- ==== Proof.RmsBwdClaims.lean ====
/- The five claims about the RmsBwd call: three frames, the idealisation, the equation. -/
module

public import proofs.«01_k».proof.Defs
public import proofs.«01_k».proof.Proof.RmsBwdValue
public import proofs.«01_k».proof.Proof.Gen.RmsBwd.Frame
public import proofs.«01_k».proof.Proof.Gen.RmsBwdIdeal.Frame
public import proofs.«01_k».proof.Proof.Gen.RmsBwdRefIdeal.Run
public import proofs.«01_k».proof.Proof.Gen.RmsBwdRefIdeal.Read
public import Idealize.ShloMosaic.Adequacy
public import Idealize.ShloMosaic.Init

@[expose] public section

set_option maxRecDepth 16384

noncomputable section

namespace Cert.Proof.RmsBwd

open Idealize.ShloMosaic Idealize.ShloMosaic.TcCoe Idealize.SL.Sem

/-- The call as printed ends with its arguments unchanged and its counters at zero. -/
theorem frame_p : Cert.quiescent_RmsBwd := fun m ρ _ => Cert.RmsBwd.Gen.frame m ρ

/-- So does the call over the reals. -/
theorem frame_pi : Cert.quiescent_RmsBwdIdeal := fun m ρ _ => Cert.RmsBwdIdeal.Gen.frame m ρ

/-- So does the reference, which has no counters. -/
theorem frame_ri : Cert.quiescent_RmsBwdRefIdeal := fun m ρ _ =>
  (θ_run Cert.RmsBwdRefIdeal.defs _ _).mono
    (fun r h => ⟨fun c => (h c).2.2.2, sem_eq_zero_of_no_sems (by decide) r.2⟩)
    (Cert.RmsBwdRefIdeal.Value.run (F := Ideal) m ρ)

/-- No operation was rewritten. -/
theorem preserves : Cert.preserves_RmsBwd_RmsBwdIdeal := trivial

/-- Over the reals the call's results are the reference's. -/
theorem algebraic : Cert.algebraic_RmsBwdIdeal_RmsBwdRefIdeal := by
  pair_intro
  · run_from Cert.RmsBwdIdeal.Value.run_blocks m g
  · refine (θ_run Cert.RmsBwdRefIdeal.defs _ _).mono (fun r h c => ?_) (Cert.RmsBwdRefIdeal.Value.run (F := Ideal) m' g')
    obtain ⟨h0, h1, h2, h3⟩ := hagree c
    refine ⟨?_, ?_, ?_, (h c).2.2.2⟩
    · refine ((h c).1.trans (Cert.RmsBwdRefIdeal.Read.val_main_v40_eq ..)).trans ?_
      refine Eq.trans ?_ (Cert.RmsBwdIdeal.Value.final0 m c).symm
      congr 1
    · refine ((h c).2.1.trans (Cert.RmsBwdRefIdeal.Read.val_main_v41_eq ..)).trans ?_
      refine Eq.trans ?_ (Cert.RmsBwdIdeal.Value.final1 m c).symm
      congr 1
    · refine ((h c).2.2.1.trans (Cert.RmsBwdRefIdeal.Read.val_main_v44_eq ..)).trans ?_
      refine Eq.trans ?_ (Cert.RmsBwdIdeal.Value.final2 m c).symm
      congr 1

end Cert.Proof.RmsBwd

end
-- ==== Proof.LossHeadValue.lean ====
/- The loss head: a device's part of the loss, the gradient of the last running value and that of the last scale are the reference's, entry by entry. -/
module

public import proofs.«01_k».proof.Proof.Gen.LossHeadIdeal.Value
public import proofs.«01_k».proof.Proof.Gen.LossHeadRefIdeal.Read
public import proofs.«01_k».proof.Proof.RmsMath
public import proofs.«01_k».proof.Proof.Stores
public import Idealize.ShloMosaic.Lib.Pipeline.ValueKit
public import Idealize.ShloMosaic.Lib.WritesUnit

@[expose] public section

set_option maxRecDepth 16384

noncomputable section

namespace Cert.LossHeadIdeal.Value

open Cert.LossHeadIdeal Cert.LossHeadIdeal.Gen Idealize.ShloMosaic Idealize.ShloMosaic.TcCoe Idealize.SL.Sem
open Idealize.ShloMosaic.Pipeline (Dat)

variable (m : (ℓ : Loc nD τ sig) → Buf (Elt Ideal) ℓ)

/-- The blocks of the arrays at a grid point. -/
theorem idx : ∀ t : Fin cfg0.N, win0_0.index t = ![t.val, 0] ∧ win0_1.index t = ![0, 0] ∧ win0_2.index t = ![t.val - 1, 0] ∧ win0_3.index t = ![t.val, 0]
    ∧ win0_4.index t = ![t.val, 0] ∧ win0_5.index t = ![0, 0] ∧ win0_6.index t = ![0, 0] :=
  (by decide +kernel : ∀ t : Fin grid0.N, _)

/-- The reciprocal root of a row. -/
abbrev rt {n : ℕ} (X : FVec Ideal ⟨2, ![n, 1024]⟩ .f32) (i : Fin n) : EReal := Ideal.rsqrt (Cert.Rms.var fun k => X (ix2 i k))

/-- The error of an entry. -/
abbrev err {n : ℕ} (X T : FVec Ideal ⟨2, ![n, 1024]⟩ .f32) (g : Fin 1024 → EReal) (i : Fin n) (j : Fin 1024) : EReal :=
  X (ix2 i j) * rt X i * g j - T (ix2 i j)

/-- The loss's gradient by the head's output. -/
abbrev dy {n : ℕ} (X T : FVec Ideal ⟨2, ![n, 1024]⟩ .f32) (g : Fin 1024 → EReal) (i : Fin n) (j : Fin 1024) : EReal :=
  err X T g i j * Ideal.ofBits .f32 0x3A800000#32

/-- The loss's gradient by the last running value. -/
abbrev dx {n : ℕ} (X T : FVec Ideal ⟨2, ![n, 1024]⟩ .f32) (g : Fin 1024 → EReal) (i : Fin n) (j : Fin 1024) : EReal :=
  rt X i * (dy X T g i j * g j - X (ix2 i j) * rt X i
      * Ideal.div (∑ k : Fin 1024, dy X T g i k * g k * (X (ix2 i k) * rt X i)) (Ideal.ofBits .f32 0x44800000#32))

/-- A row's mean squared error. -/
abbrev mse {n : ℕ} (X T : FVec Ideal ⟨2, ![n, 1024]⟩ .f32) (g : Fin 1024 → EReal) (i : Fin n) : EReal :=
  Ideal.div (∑ k : Fin 1024, err X T g i k * err X T g i k) (Ideal.ofBits .f32 0x44800000#32)

theorem hpay8 (x) (y) : k0_pay8 (F := Ideal) x y = rt x (y 0) := by
  unfold rt Cert.Rms.var
  pointwise [k0_pay8]

theorem hpay9 (x) (y) : k0_pay9 (F := Ideal) x y = x y * rt x (y 0) := by
  pointwise [k0_pay9, hpay8]

/-- A tile's error. -/
theorem hpay11 (x g T) (i : Fin 256) (j : Fin 1024) : k0_pay11 (F := Ideal) x g T (ix2 i j) = err x T (fun k => g (ix2 0 k)) i j := by
  pointwise [k0_pay11, k0_pay10, hpay9]

theorem hpay13 (x g T) (i : Fin 256) (j : Fin 1024) : k0_pay13 (F := Ideal) x g T (ix2 i j) = dy x T (fun k => g (ix2 0 k)) i j := by
  pointwise [k0_pay13, hpay11]

theorem hpay14 (x g T) (i : Fin 256) (j : Fin 1024) : k0_pay14 (F := Ideal) x g T (ix2 i j) = dy x T (fun k => g (ix2 0 k)) i j * g (ix2 0 j) := by
  pointwise [k0_pay14, k0_pay10, hpay13]

theorem hpay15 (x g T) (i : Fin 256) : k0_pay15 (F := Ideal) x g T (ix2 i 0)
    = ∑ k : Fin 1024, dy x T (fun k => g (ix2 0 k)) i k * g (ix2 0 k) * (x (ix2 i k) * rt x i) := by
  pointwise [k0_pay15, hpay14, hpay9]

/-- What a tile stores. -/
theorem hpay5 (x g T) (i : Fin 256) (j : Fin 1024) :
    k0_pay5 (F := Ideal) (k0_pay8 x) (k0_pay9 x) (k0_pay14 x g T) (k0_pay15 x g T) (FloatOps.ofBits .f32 0x44800000#32) (ix2 i j)
      = dx x T (fun k => g (ix2 0 k)) i j := by
  pointwise [k0_pay5, hpay8, hpay9, hpay14, hpay15]

/-- A tile's addend to the loss. -/
theorem hpay12 (x g T acc) (y) : k0_pay12 (F := Ideal) x g T acc y
    = acc y + Ideal.ofBits .f32 0x3F000000#32 * ∑ i : Fin 256, mse x T (fun k => g (ix2 0 k)) i := by
  pointwise [k0_pay12, hpay11]
  exact congrArg (fun z => acc y + Ideal.ofBits .f32 0x3F000000#32 * z) (Finset.sum_congr rfl fun i _ => Fin.sum_univ_one _)

/-- A tile's addend to the scale's gradient. -/
theorem hpay7 (x g T acc) (y) : k0_pay7 (F := Ideal) (k0_pay9 x) (k0_pay13 x g T) acc y
    = acc y + ∑ k : Fin 256, dy x T (fun k => g (ix2 0 k)) k (y 1) * (x (ix2 k (y 1)) * rt x k) := by
  pointwise [k0_pay7, hpay9, hpay13]

/-- The rows the loss reads. -/
abbrev XS (X : FVec Ideal S16640x1024 .f32) : FVec Ideal Cert.LossHeadRefIdeal.S16384x1024 .f32 := Cert.LossHeadRefIdeal.Read.val_main_v0 (F := Ideal) X

/-- A row of them. -/
theorem XS_at (X : FVec Ideal S16640x1024 .f32) (i : Fin 16384) (j : Fin 1024) : XS X (ix2 i j) = X (ix2 ⟨256 + i.val, by omega⟩ j) := by
  pointwise [XS, Cert.LossHeadRefIdeal.Read.val_main_v0]

/-- The reference's reciprocal root. -/
theorem href8 (X : FVec Ideal S16640x1024 .f32) (i) : Cert.LossHeadRefIdeal.Read.val_main_v8 (F := Ideal) X i = rt (XS X) (i 0) := by
  unfold rt Cert.Rms.var
  pointwise [Cert.LossHeadRefIdeal.Read.val_main_v1, Cert.LossHeadRefIdeal.Read.val_main_v2, Cert.LossHeadRefIdeal.Read.val_main_v3, Cert.LossHeadRefIdeal.Read.val_main_v4, Cert.LossHeadRefIdeal.Read.val_main_v5, Cert.LossHeadRefIdeal.Read.val_main_v6, Cert.LossHeadRefIdeal.Read.val_main_v7, Cert.LossHeadRefIdeal.Read.val_main_v8, Cert.LossHeadRefIdeal.Read.val_main_cst, Cert.LossHeadRefIdeal.Read.val_main_cst, Cert.LossHeadRefIdeal.Read.val_main_cst_1, Cert.LossHeadRefIdeal.Read.val_main_cst_0]

/-- The reference's quotient of it by the mean square. -/
theorem href9 (X : FVec Ideal S16640x1024 .f32) (i) : Cert.LossHeadRefIdeal.Read.val_main_v9 (F := Ideal) X i
    = Ideal.div (rt (XS X) (i 0)) (Cert.Rms.var fun k => XS X (ix2 (i 0) k)) := by
  refine (Cert.LossHeadRefIdeal.Read.val_main_v9_apply (F := Ideal) X i).trans ?_
  rw [href8]
  unfold Cert.Rms.var
  pointwise [Cert.LossHeadRefIdeal.Read.val_main_v1, Cert.LossHeadRefIdeal.Read.val_main_v2, Cert.LossHeadRefIdeal.Read.val_main_v3, Cert.LossHeadRefIdeal.Read.val_main_v4, Cert.LossHeadRefIdeal.Read.val_main_v5, Cert.LossHeadRefIdeal.Read.val_main_v6, Cert.LossHeadRefIdeal.Read.val_main_v7, Cert.LossHeadRefIdeal.Read.val_main_cst, Cert.LossHeadRefIdeal.Read.val_main_cst_1, Cert.LossHeadRefIdeal.Read.val_main_cst_0]

/-- The reference's error. -/
theorem href17 (X : FVec Ideal S16640x1024 .f32) (G : FVec Ideal S1024 .f32) (T : FVec Ideal S16384x1024 .f32) (i : Fin 16384) (j : Fin 1024) :
    Cert.LossHeadRefIdeal.Read.val_main_v17 (F := Ideal) X G T (ix2 i j) = err (XS X) T (fun k => G (ix1 k)) i j := by
  pointwise [Cert.LossHeadRefIdeal.Read.val_main_v12, Cert.LossHeadRefIdeal.Read.val_main_v13, Cert.LossHeadRefIdeal.Read.val_main_v14, Cert.LossHeadRefIdeal.Read.val_main_v15, Cert.LossHeadRefIdeal.Read.val_main_v16, Cert.LossHeadRefIdeal.Read.val_main_v17, href8]

/-- The constants together: a half of twice the error over 1024. -/
theorem half_twice (z : EReal) : Ideal.div (Ideal.ofBits .f32 0x3F000000#32 * 1) (Ideal.ofBits .f32 0x44800000#32)
    * (Ideal.ofBits .f32 0x40000000#32 * z) = z * Ideal.ofBits .f32 0x3A800000#32 := by
  rw [mul_one, Cert.Rms.div_1024, Cert.Rms.lit_half, Cert.Rms.lit_two, Cert.Rms.lit_inv1024, ← mul_assoc, ← EReal.coe_mul, ← EReal.coe_mul, mul_comm]
  congr 2
  norm_num

/-- The reference's gradient by the head's output. -/
theorem href31 (X : FVec Ideal S16640x1024 .f32) (G : FVec Ideal S1024 .f32) (T : FVec Ideal S16384x1024 .f32) (i : Fin 16384) (j : Fin 1024) :
    Cert.LossHeadRefIdeal.Read.val_main_v31 (F := Ideal) X G T (ix2 i j) = dy (XS X) T (fun k => G (ix1 k)) i j := by
  refine Eq.trans ?_ (half_twice _)
  pointwise [Cert.LossHeadRefIdeal.Read.val_main_v19, Cert.LossHeadRefIdeal.Read.val_main_v20, Cert.LossHeadRefIdeal.Read.val_main_v26, Cert.LossHeadRefIdeal.Read.val_main_v27, Cert.LossHeadRefIdeal.Read.val_main_v28, Cert.LossHeadRefIdeal.Read.val_main_v29, Cert.LossHeadRefIdeal.Read.val_main_v30, Cert.LossHeadRefIdeal.Read.val_main_v31, Cert.LossHeadRefIdeal.Read.val_main_cst_3, Cert.LossHeadRefIdeal.Read.val_main_cst_8, Cert.LossHeadRefIdeal.Read.val_main_cst_9, Cert.LossHeadRefIdeal.Read.val_main_cst_10, href17]

/-- The reference's row term through the mean square. -/
theorem href47 (X : FVec Ideal S16640x1024 .f32) (G : FVec Ideal S1024 .f32) (T : FVec Ideal S16384x1024 .f32) (i : Fin 16384) (j : Fin 1024) :
    Cert.LossHeadRefIdeal.Read.val_main_v47 (F := Ideal) X G T (ix2 i j)
    = Ideal.div ((∑ k : Fin 1024, XS X (ix2 i k) * (dy (XS X) T (fun k => G (ix1 k)) i k * G (ix1 k))) * (Ideal.ofBits .f32 0xBF000000#32
      * Ideal.div (rt (XS X) i) (Cert.Rms.var fun k => XS X (ix2 i k)))) (Ideal.ofBits .f32 0x44800000#32) := by
  pointwise [Cert.LossHeadRefIdeal.Read.val_main_v10, Cert.LossHeadRefIdeal.Read.val_main_v11, Cert.LossHeadRefIdeal.Read.val_main_v14, Cert.LossHeadRefIdeal.Read.val_main_v35, Cert.LossHeadRefIdeal.Read.val_main_v36, Cert.LossHeadRefIdeal.Read.val_main_v38, Cert.LossHeadRefIdeal.Read.val_main_v39, Cert.LossHeadRefIdeal.Read.val_main_v40, Cert.LossHeadRefIdeal.Read.val_main_v43, Cert.LossHeadRefIdeal.Read.val_main_v44, Cert.LossHeadRefIdeal.Read.val_main_v45, Cert.LossHeadRefIdeal.Read.val_main_v46, Cert.LossHeadRefIdeal.Read.val_main_v47, Cert.LossHeadRefIdeal.Read.val_main_cst_2, Cert.LossHeadRefIdeal.Read.val_main_cst_13, Cert.LossHeadRefIdeal.Read.val_main_cst_14, Cert.LossHeadRefIdeal.Read.val_main_cst_15, href9, href31]
  exact Fin.sum_univ_one _

/-- The reference's gradient of a row. -/
theorem href51 (X : FVec Ideal S16640x1024 .f32) (G : FVec Ideal S1024 .f32) (T : FVec Ideal S16384x1024 .f32) (i : Fin 16384) (j : Fin 1024) :
    Cert.LossHeadRefIdeal.Read.val_main_v51 (F := Ideal) X G T (ix2 i j) = dx (XS X) T (fun k => G (ix1 k)) i j := by
  obtain ⟨e, he, hl⟩ := Cert.Rms.lit_eps
  have hv : (e : EReal) ≤ Cert.Rms.var fun k => XS X (ix2 i k) := by
    rw [Cert.Rms.var, Cert.Rms.div_1024, hl]
    exact Cert.Rms.le_var _ _ _ (by norm_num)
  have hg := Cert.Rms.grad (fun k => dy (XS X) T (fun k => G (ix1 k)) i k * G (ix1 k)) (fun k => XS X (ix2 i k)) j ((1024 : ℝ)⁻¹) (by norm_num) he hv
  refine Eq.trans ?_ (Eq.trans hg.symm ?_)
  · rw [← Cert.Rms.lit_neghalf, ← Cert.Rms.div_1024]
    pointwise [Cert.LossHeadRefIdeal.Read.val_main_v14, Cert.LossHeadRefIdeal.Read.val_main_v35, Cert.LossHeadRefIdeal.Read.val_main_v36, Cert.LossHeadRefIdeal.Read.val_main_v41, Cert.LossHeadRefIdeal.Read.val_main_v42, Cert.LossHeadRefIdeal.Read.val_main_v48, Cert.LossHeadRefIdeal.Read.val_main_v49, Cert.LossHeadRefIdeal.Read.val_main_v50, Cert.LossHeadRefIdeal.Read.val_main_v51, href8, href31, href47]
  · rw [← Cert.Rms.div_1024]

/-- The reference's gradient: zero in the first rows. -/
theorem href53 (X : FVec Ideal S16640x1024 .f32) (G : FVec Ideal S1024 .f32) (T : FVec Ideal S16384x1024 .f32) (r : Fin 16640) (j : Fin 1024) :
    Cert.LossHeadRefIdeal.Read.val_main_v53 (F := Ideal) X G T (ix2 r j)
    = if h : r.val < 256 then 0 else dx (XS X) T (fun k => G (ix1 k)) ⟨r.val - 256, by omega⟩ j := by
  pointwise [Cert.LossHeadRefIdeal.Read.val_main_v52, Cert.LossHeadRefIdeal.Read.val_main_v53, Cert.LossHeadRefIdeal.Read.val_main_cst_16, href51]

/-- The reference's part of the loss. -/
theorem href55 (X : FVec Ideal S16640x1024 .f32) (G : FVec Ideal S1024 .f32) (T : FVec Ideal S16384x1024 .f32) (j) :
    Cert.LossHeadRefIdeal.Read.val_main_v55 (F := Ideal) X G T j
    = Ideal.ofBits .f32 0x3F000000#32 * ∑ i : Fin 16384, mse (XS X) T (fun k => G (ix1 k)) i := by
  pointwise [Cert.LossHeadRefIdeal.Read.val_main_v18, Cert.LossHeadRefIdeal.Read.val_main_v21, Cert.LossHeadRefIdeal.Read.val_main_v22, Cert.LossHeadRefIdeal.Read.val_main_v23, Cert.LossHeadRefIdeal.Read.val_main_v24, Cert.LossHeadRefIdeal.Read.val_main_v25, Cert.LossHeadRefIdeal.Read.val_main_v55, Cert.LossHeadRefIdeal.Read.val_main_cst_4, Cert.LossHeadRefIdeal.Read.val_main_cst_5, Cert.LossHeadRefIdeal.Read.val_main_cst_6, Cert.LossHeadRefIdeal.Read.val_main_cst_7, href17]

/-- The reference's gradient of the scale. -/
theorem href58 (X : FVec Ideal S16640x1024 .f32) (G : FVec Ideal S1024 .f32) (T : FVec Ideal S16384x1024 .f32) (j) :
    Cert.LossHeadRefIdeal.Read.val_main_v58 (F := Ideal) X G T j
    = if (j 0).val = 0 then ∑ k : Fin 16384, dy (XS X) T (fun k => G (ix1 k)) k (j 1) * (XS X (ix2 k (j 1)) * rt (XS X) k) else 0 := by
  pointwise [Cert.LossHeadRefIdeal.Read.val_main_v12, Cert.LossHeadRefIdeal.Read.val_main_v13, Cert.LossHeadRefIdeal.Read.val_main_v32, Cert.LossHeadRefIdeal.Read.val_main_v33, Cert.LossHeadRefIdeal.Read.val_main_v34, Cert.LossHeadRefIdeal.Read.val_main_v37, Cert.LossHeadRefIdeal.Read.val_main_v56, Cert.LossHeadRefIdeal.Read.val_main_v57, Cert.LossHeadRefIdeal.Read.val_main_v58, Cert.LossHeadRefIdeal.Read.val_main_cst_11, Cert.LossHeadRefIdeal.Read.val_main_cst_12, Cert.LossHeadRefIdeal.Read.val_main_cst_17, href8, href31]
  by_cases h : (j 0).val < 1
  · refine (dif_pos h).trans (Eq.trans ?_ (if_pos (by omega)).symm)
    exact (Fin.sum_univ_one _).trans (Finset.sum_congr rfl fun k _ => mul_comm _ _)
  · exact (dif_neg h).trans (if_neg (by omega)).symm

/-- The arguments of a device. -/
abbrev aX (c : Dev nD) : FVec Ideal S16640x1024 .f32 := m ((c : Thread nD τ).loc main_arg0)
abbrev aG (c : Dev nD) : FVec Ideal S1024 .f32 := m ((c : Thread nD τ).loc main_arg1)
abbrev aT (c : Dev nD) : FVec Ideal S16384x1024 .f32 := m ((c : Thread nD τ).loc main_arg2)

/-- The scale, entry by entry. -/
abbrev gv (c : Dev nD) (k : Fin 1024) : EReal := aG m c (ix1 k)

/-- A tile's entry of an argument. -/
theorem blk0' (c : Dev nD) (t : Fin cfg0.N) (x : Fin 256) (k : Fin 1024) (r : Fin 16640) (hr : r.val = t.val * 256 + x.val) :
    (iblk m c 0 t : Vec Ideal S256x1024 .f32) (ix2 x k) = aX m c (ix2 r k) := by
  blk_point [iblk, V, idx t]

theorem blk0 (c : Dev nD) (t : Fin cfg0.N) (x : Fin 256) (q : Fin 16384) (hq : 256 + q.val = t.val * 256 + x.val) (k : Fin 1024) :
    (iblk m c 0 t : Vec Ideal S256x1024 .f32) (ix2 x k) = XS (aX m c) (ix2 q k) :=
  (blk0' m c t x k ⟨256 + q.val, by omega⟩ hq).trans (XS_at _ _ _).symm

theorem blk1 (c : Dev nD) (t : Fin cfg0.N) (k : Fin 1024) :
    (iblk m c 1 t : Vec Ideal S1x1024 .f32) (ix2 0 k) = gv m c k := by
  blk_point [iblk, V, idx t]

theorem blk2' (c : Dev nD) (t : Fin cfg0.N) (x : Fin 256) (k : Fin 1024) (q : Fin 16384) (hq : q.val = (t.val - 1) * 256 + x.val) :
    (iblk m c 2 t : Vec Ideal S256x1024 .f32) (ix2 x k) = aT m c (ix2 q k) := by
  blk_point [iblk, V, idx t]

theorem blk2 (c : Dev nD) (t : Fin cfg0.N) (x : Fin 256) (q : Fin 16384) (hq : 256 + q.val = t.val * 256 + x.val) (h1 : 1 ≤ t.val) (k : Fin 1024) :
    (iblk m c 2 t : Vec Ideal S256x1024 .f32) (ix2 x k) = aT m c (ix2 q k) :=
  blk2' m c t x k q (by omega)

/-- The tile's scale is the scale. -/
theorem gv_eq (c : Dev nD) (t : Fin cfg0.N) : (fun k => (iblk m c 1 t : Vec Ideal S1x1024 .f32) (ix2 0 k)) = gv m c :=
  funext (blk1 m c t)

section Rows

variable (X T : FVec Ideal S256x1024 .f32) (X' T' : FVec Ideal S16384x1024 .f32) (x : Fin 256) (q : Fin 16384)
  (hX : ∀ k, X (ix2 x k) = X' (ix2 q k)) (hT : ∀ k, T (ix2 x k) = T' (ix2 q k)) (g : Fin 1024 → EReal)

include hX in
/-- What a row gives depends on its entries only: the reciprocal root, -/
theorem rt_row : rt X x = rt X' q := by
  unfold rt
  simp only [hX]

include hX hT in
/-- the error, -/
theorem err_row (j : Fin 1024) : err X T g x j = err X' T' g q j := by
  unfold err
  rw [rt_row X X' x q hX, hX, hT]

include hX hT in
/-- the gradient by the row, -/
theorem dx_row (j : Fin 1024) : dx X T g x j = dx X' T' g q j := by
  unfold dx dy
  simp only [err_row X T X' T' x q hX hT g, rt_row X X' x q hX, hX]

include hX hT in
/-- the mean squared error, -/
theorem mse_row : mse X T g x = mse X' T' g q := by
  unfold mse
  simp only [err_row X T X' T' x q hX hT g]

include hX hT in
/-- and its addend to the scale's gradient. -/
theorem dg_row (j : Fin 1024) : dy X T g x j * (X (ix2 x j) * rt X x) = dy X' T' g q j * (X' (ix2 q j) * rt X' q) := by
  unfold dy
  rw [err_row X T X' T' x q hX hT g, rt_row X X' x q hX, hX]

end Rows

/-- A sum over the 64 tiles after the first is the sum over all rows. -/
theorem sum_tiles (f : Fin 16384 → EReal) (F : Fin 65 → EReal) (h0 : F 0 = 0)
    (hs : ∀ s : Fin 64, F s.succ = ∑ k : Fin 256, f ⟨s.val * 256 + k.val, by omega⟩) : ∑ s, F s = ∑ q, f q := by
  rw [Fin.sum_univ_succ, h0, zero_add]
  exact (Finset.sum_congr rfl fun s _ => hs s).trans
    (Fin.sum_mul_add_congr (S := 64) (n := 256) (F := fun s k => f ⟨s.val * 256 + k.val, by omega⟩) fun s k hl => rfl)

/-- The first point. -/
theorem not_one (t : Fin cfg0.N) (h0 : t.val % 65 = 0) : ¬ 1 ≤ t.val := by
  have h' : t.val < 65 := t.isLt
  omega

/-- A later one. -/
theorem one_le (t : Fin cfg0.N) (h0 : ¬ t.val % 65 = 0) : 1 ≤ t.val := by
  omega

/-- The first output after a point. -/
theorem out3 (c : Dev nD) (t : Fin cfg0.N) (x : Fin 256) (j : Fin 1024) (r : Fin 16640) (hr : r.val = t.val * 256 + x.val) :
    (outsAt0 m c t.val t.isLt).1 (ix2 x j) = Cert.LossHeadRefIdeal.Read.val_main_v53 (F := Ideal) (aX m c) (aG m c) (aT m c) (ix2 r j) := by
  rw [href53]
  by_cases h0 : t.val % 65 = 0
  · have h1 := not_one t h0
    rw [outsAt0_A m c t h0 h1, dif_pos (by omega)]
    frame_out
    pointwise [k0_pay3]
  · have h1 := one_le t h0
    rw [outsAt0_B m c t h0 h1, dif_neg (by omega)]
    frame_out
    refine (hpay5 _ _ _ _ _).trans ?_
    rw [gv_eq]
    exact dx_row _ _ _ _ x _ (blk0 m c t x _ (by simp; omega)) (blk2 m c t x _ (by simp; omega) h1) _ j

/-- The second output after a point: the same. -/
theorem out4 (c : Dev nD) (t : Fin cfg0.N) (x : Fin 256) (j : Fin 1024) (r : Fin 16640) (hr : r.val = t.val * 256 + x.val) :
    (outsAt0 m c t.val t.isLt).2.1 (ix2 x j) = Cert.LossHeadRefIdeal.Read.val_main_v54 (F := Ideal) (aX m c) (aG m c) (aT m c) (ix2 r j) := by
  refine Eq.trans ?_ (href53 _ _ _ r j).symm
  by_cases h0 : t.val % 65 = 0
  · have h1 := not_one t h0
    rw [outsAt0_A m c t h0 h1, dif_pos (by omega)]
    frame_out
    pointwise [k0_pay4]
  · have h1 := one_le t h0
    rw [outsAt0_B m c t h0 h1, dif_neg (by omega)]
    frame_out
    refine (hpay5 _ _ _ _ _).trans ?_
    rw [gv_eq]
    exact dx_row _ _ _ _ x _ (blk0 m c t x _ (by simp; omega)) (blk2 m c t x _ (by simp; omega) h1) _ j

/-- A tile's part of the loss. -/
def lossOf (X T : FVec Ideal S256x1024 .f32) (g : Fin 1024 → EReal) : EReal := Ideal.ofBits .f32 0x3F000000#32 * ∑ i : Fin 256, mse X T g i

/-- A grid point's part: the first has none. -/
def lossPart (c : Dev nD) (t : Fin cfg0.N) (y : S8x128.Idx) : EReal :=
  if t.val % 65 = 0 then 0 else lossOf (iblk m c 0 t) (iblk m c 2 t) (gv m c)

/-- The first point starts from zero. -/
theorem out5_A (c : Dev nD) (t : Fin cfg0.N) (h0 : t.val % 65 = 0) (y) : (outsAt0 m c t.val t.isLt).2.2.1 y = 0 + lossPart m c t y := by
  have h1 := not_one t h0
  rw [outsAt0_A m c t h0 h1, lossPart, if_pos h0]
  frame_out
  pointwise [k0_pay1]

/-- A later point adds its part. -/
theorem out5_B (c : Dev nD) (t : Fin cfg0.N) (h0 : ¬ t.val % 65 = 0) (y) : (outsAt0 m c t.val t.isLt).2.2.1 y
    = (outsAt0 m c (t.val - 1) (Nat.lt_of_le_of_lt (Nat.sub_le _ _) t.isLt)).2.2.1 y + lossPart m c t y := by
  have h1 := one_le t h0
  rw [outsAt0_B m c t h0 h1, lossPart, if_neg h0]
  frame_out
  refine (hpay12 _ _ _ _ y).trans ?_
  rw [gv_eq]
  rfl

/-- The parts together are the reference's. -/
theorem sum_loss (c : Dev nD) (t : Fin cfg0.N) (y : S8x128.Idx) :
    (∑ s : Fin 65, lossPart m c ⟨65 * (t.val / 65) + s.val, by have h' : t.val < 65 := t.isLt; have h2 : cfg0.N = 65 := rfl; omega⟩ y : EReal)
      = Ideal.ofBits .f32 0x3F000000#32 * ∑ i : Fin 16384, mse (XS (aX m c)) (aT m c) (gv m c) i := by
  have ht : 65 * (t.val / 65) = 0 := by have h' : t.val < 65 := t.isLt; omega
  have hh : ∀ {n : ℕ} (f : Fin n → EReal), Ideal.ofBits .f32 0x3F000000#32 * ∑ i, f i = ∑ i, Ideal.ofBits .f32 0x3F000000#32 * f i := fun f => by
    rw [Cert.Rms.lit_half]
    exact (mul_comm _ _).trans ((Cert.Rms.sum_mul_pos Finset.univ f (1/2) (by norm_num)).trans (Finset.sum_congr rfl fun i _ => mul_comm _ _))
  rw [hh]
  refine sum_tiles _ _ ?_ fun s => ?_
  · rw [lossPart, if_pos (by simp [ht])]
  · rw [lossPart, if_neg (by simp [ht]; omega), lossOf, hh]
    refine Finset.sum_congr rfl fun k _ => congrArg _ ?_
    exact mse_row _ _ _ _ k _ (blk0 m c _ k _ (by simp [ht]; omega)) (blk2 m c _ k _ (by simp [ht]; omega) (by simp [ht])) _

/-- A tile's part of the scale's gradient. -/
def dgOf (X T : FVec Ideal S256x1024 .f32) (g : Fin 1024 → EReal) (j : Fin 1024) : EReal := ∑ k : Fin 256, dy X T g k j * (X (ix2 k j) * rt X k)

/-- A grid point's part: in row 0 only, and the first point has none. -/
def dgPart (c : Dev nD) (t : Fin cfg0.N) (y : S8x1024.Idx) : EReal :=
  if (y 0).val = 0 then if t.val % 65 = 0 then 0 else dgOf (iblk m c 0 t) (iblk m c 2 t) (gv m c) (y 1) else 0

/-- The first point starts from zero. -/
theorem out6_A (c : Dev nD) (t : Fin cfg0.N) (h0 : t.val % 65 = 0) (y) : (outsAt0 m c t.val t.isLt).2.2.2 y = 0 + dgPart m c t y := by
  have h1 := not_one t h0
  rw [outsAt0_A m c t h0 h1, dgPart, if_pos h0, ite_self]
  frame_out
  pointwise [k0_pay2]

/-- A later point adds its part. -/
theorem out6_B (c : Dev nD) (t : Fin cfg0.N) (h0 : ¬ t.val % 65 = 0) (y) : (outsAt0 m c t.val t.isLt).2.2.2 y
    = (outsAt0 m c (t.val - 1) (Nat.lt_of_le_of_lt (Nat.sub_le _ _) t.isLt)).2.2.2 y + dgPart m c t y := by
  have h1 := one_le t h0
  rw [outsAt0_B m c t h0 h1, dgPart, if_neg h0]
  frame_out
  by_cases h : (y 0).val = 0
  · rw [if_pos h]
    refine (View.read_writes_cons_unit_of_mem (s := S8x1024) _ _ inb_S8x1024_S1x1024_0_0 _ _ y (ix2 (0 : Fin 1) (⟨(y 1).val, (y 1).isLt⟩ : Fin 1024)) rfl ?_).trans ?_
    · intro a; match a with | 0 => simp [h] | 1 => simp
    · refine (hpay7 _ _ _ _ _).trans (congrArg₂ (· + ·) ?_ ?_)
      · rw [View.ld_apply]
        refine congrArg (outsAt0 m c (t.val - 1) (Nat.lt_of_le_of_lt (Nat.sub_le _ _) t.isLt)).2.2.2 ?_
        funext a
        refine Fin.ext ?_
        rw [Rect.idx_unit_val]
        match a with
        | 0 => simp [h]
        | 1 => simp
      · rw [gv_eq]; rfl
  · rw [if_neg h, add_zero]
    refine (View.read_writes_cons_unit_of_not_mem (s := S8x1024) _ _ inb_S8x1024_S1x1024_0_0 _ _ y rfl 0 (Or.inr ?_)).trans ?_
    · simp; omega
    · exact congrFun (Memref.IsWhole.read_unread _ _) y

/-- The parts together are the reference's. -/
theorem sum_dg (c : Dev nD) (t : Fin cfg0.N) (y : S8x1024.Idx) :
    (∑ s : Fin 65, dgPart m c ⟨65 * (t.val / 65) + s.val, by have h' : t.val < 65 := t.isLt; have h2 : cfg0.N = 65 := rfl; omega⟩ y : EReal)
      = if (y 0).val = 0 then ∑ k : Fin 16384, dy (XS (aX m c)) (aT m c) (gv m c) k (y 1) * (XS (aX m c) (ix2 k (y 1)) * rt (XS (aX m c)) k) else 0 := by
  have ht : 65 * (t.val / 65) = 0 := by have h' : t.val < 65 := t.isLt; omega
  by_cases h : (y 0).val = 0
  · rw [if_pos h]
    refine sum_tiles _ _ ?_ fun s => ?_
    · rw [dgPart, if_pos h, if_pos (by simp [ht])]
    · refine (if_pos h).trans ((if_neg (by simp [ht]; omega)).trans (Finset.sum_congr rfl fun k _ => ?_))
      exact dg_row _ _ _ _ k _ (blk0 m c _ k _ (by simp [ht]; omega)) (blk2 m c _ k _ (by simp [ht]; omega) (by simp [ht])) _ _
  · rw [if_neg h]
    exact Finset.sum_eq_zero fun s _ => if_neg h

/-- The first array after the run is the reference's. -/
theorem final0 (c : Dev nD) : (dats m 0 c).arrAt 3 (cfgs 0).N
    = Cert.LossHeadRefIdeal.Read.val_main_v53 (F := Ideal) (aX m c) (aG m c) (aT m c) := by
  refine (dats m 0 c).arrAt_eq_of_covers 3 _ (by decide +kernel) fun t _ y => ?_
  blk_simp
  rw [after0_3]
  have e0 : ((win0_3.blk t).view.emb y 0).val = t.val * 256 + (y 0).val := by blk_simp [idx t]
  have e1 : (win0_3.blk t).view.emb y 1 = y 1 := Fin.ext (by blk_simp [idx t])
  refine (congrArg _ (ix2_eta y)).symm.trans ((out3 m c t (y 0) (y 1) _ e0).trans (congrArg _ ?_))
  rw [← e1]
  exact ix2_eta _

/-- The second array after the run is the reference's. -/
theorem final1 (c : Dev nD) : (dats m 0 c).arrAt 4 (cfgs 0).N
    = Cert.LossHeadRefIdeal.Read.val_main_v54 (F := Ideal) (aX m c) (aG m c) (aT m c) := by
  refine (dats m 0 c).arrAt_eq_of_covers 4 _ (by decide +kernel) fun t _ y => ?_
  blk_simp
  rw [after0_4]
  have e0 : ((win0_4.blk t).view.emb y 0).val = t.val * 256 + (y 0).val := by blk_simp [idx t]
  have e1 : (win0_4.blk t).view.emb y 1 = y 1 := Fin.ext (by blk_simp [idx t])
  refine (congrArg _ (ix2_eta y)).symm.trans ((out4 m c t (y 0) (y 1) _ e0).trans (congrArg _ ?_))
  rw [← e1]
  exact ix2_eta _

/-- The third array after the run is the reference's. -/
theorem final2 (c : Dev nD) : (dats m 0 c).arrAt 5 (cfgs 0).N
    = Cert.LossHeadRefIdeal.Read.val_main_v55 (F := Ideal) (aX m c) (aG m c) (aT m c) := by
  refine (dats m 0 c).arrAt_eq_of_covers 5 _ (by decide +kernel) fun t hf y => ?_
  blk_simp
  rw [after0_5, Pipeline.eq_sum_fin_of_reset_step_apply_of_flush (fun n h => (outsAt0 m c n h).2.2.1) 65 (fun _ => 0) (lossPart m c)
    (out5_A m c) (out5_B m c) t ((flush0_5 t).mp hf) _, zero_add, href55]
  exact sum_loss m c t y

/-- The fourth array after the run is the reference's. -/
theorem final3 (c : Dev nD) : (dats m 0 c).arrAt 6 (cfgs 0).N
    = Cert.LossHeadRefIdeal.Read.val_main_v58 (F := Ideal) (aX m c) (aG m c) (aT m c) := by
  refine (dats m 0 c).arrAt_eq_of_covers 6 _ (by decide +kernel) fun t hf y => ?_
  blk_simp
  rw [after0_6, Pipeline.eq_sum_fin_of_reset_step_apply_of_flush (fun n h => (outsAt0 m c n h).2.2.2) 65 (fun _ => 0) (dgPart m c)
    (out6_A m c) (out6_B m c) t ((flush0_6 t).mp hf) _, zero_add, href58]
  have e0 : ((win0_6.blk t).view.emb y 0).val = (y 0).val := by blk_simp [idx t]
  have e1 : (win0_6.blk t).view.emb y 1 = y 1 := Fin.ext (by blk_simp [idx t])
  rw [e0, e1]
  exact sum_dg m c t y

end Cert.LossHeadIdeal.Value

end
-- ==== Proof.LossHeadClaims.lean ====
/- The five claims about the LossHead call: three frames, the idealisation, the equation. -/
module

public import proofs.«01_k».proof.Defs
public import proofs.«01_k».proof.Proof.LossHeadValue
public import proofs.«01_k».proof.Proof.Gen.LossHead.Frame
public import proofs.«01_k».proof.Proof.Gen.LossHeadIdeal.Frame
public import proofs.«01_k».proof.Proof.Gen.LossHeadRefIdeal.Run
public import proofs.«01_k».proof.Proof.Gen.LossHeadRefIdeal.Read
public import Idealize.ShloMosaic.Adequacy
public import Idealize.ShloMosaic.Init

@[expose] public section

set_option maxRecDepth 16384

noncomputable section

namespace Cert.Proof.LossHead

open Idealize.ShloMosaic Idealize.ShloMosaic.TcCoe Idealize.SL.Sem

/-- The call as printed ends with its arguments unchanged and its counters at zero. -/
theorem frame_p : Cert.quiescent_LossHead := fun m ρ _ => Cert.LossHead.Gen.frame m ρ

/-- So does the call over the reals. -/
theorem frame_pi : Cert.quiescent_LossHeadIdeal := fun m ρ _ => Cert.LossHeadIdeal.Gen.frame m ρ

/-- So does the reference, which has no counters. -/
theorem frame_ri : Cert.quiescent_LossHeadRefIdeal := fun m ρ _ =>
  (θ_run Cert.LossHeadRefIdeal.defs _ _).mono
    (fun r h => ⟨fun c => (h c).2.2.2.2, sem_eq_zero_of_no_sems (by decide) r.2⟩)
    (Cert.LossHeadRefIdeal.Value.run (F := Ideal) m ρ)

/-- No operation was rewritten. -/
theorem preserves : Cert.preserves_LossHead_LossHeadIdeal := trivial

/-- Over the reals the call's results are the reference's. -/
theorem algebraic : Cert.algebraic_LossHeadIdeal_LossHeadRefIdeal := by
  pair_intro
  · run_from Cert.LossHeadIdeal.Value.run_blocks m g
  · refine (θ_run Cert.LossHeadRefIdeal.defs _ _).mono (fun r h c => ?_) (Cert.LossHeadRefIdeal.Value.run (F := Ideal) m' g')
    obtain ⟨h0, h1, h2⟩ := hagree c
    refine ⟨?_, ?_, ?_, ?_, (h c).2.2.2.2⟩
    · refine ((h c).1.trans (Cert.LossHeadRefIdeal.Read.val_main_v53_eq ..)).trans ?_
      refine Eq.trans ?_ (Cert.LossHeadIdeal.Value.final0 m c).symm
      congr 1
    · refine ((h c).2.1.trans (Cert.LossHeadRefIdeal.Read.val_main_v54_eq ..)).trans ?_
      refine Eq.trans ?_ (Cert.LossHeadIdeal.Value.final1 m c).symm
      congr 1
    · refine ((h c).2.2.1.trans (Cert.LossHeadRefIdeal.Read.val_main_v55_eq ..)).trans ?_
      refine Eq.trans ?_ (Cert.LossHeadIdeal.Value.final2 m c).symm
      congr 1
    · refine ((h c).2.2.2.1.trans (Cert.LossHeadRefIdeal.Read.val_main_v58_eq ..)).trans ?_
      refine Eq.trans ?_ (Cert.LossHeadIdeal.Value.final3 m c).symm
      congr 1

end Cert.Proof.LossHead

end
-- ==== Proof.UpdateShardValue.lean ====
/- The optimiser on one device's share of the weights: the arrays the call leaves are the reference's. -/
module

public import proofs.«01_k».proof.Proof.Gen.UpdateShardIdeal.Value
public import proofs.«01_k».proof.Proof.Gen.UpdateShardRefIdeal.Read
public import Idealize.ShloMosaic.Lib.Pipeline.ValueKit

@[expose] public section

set_option maxRecDepth 16384

noncomputable section

namespace Cert.UpdateShardIdeal.Value

open Cert.UpdateShardIdeal Cert.UpdateShardIdeal.Gen Idealize.ShloMosaic Idealize.ShloMosaic.TcCoe Idealize.SL.Sem
open Idealize.ShloMosaic.Pipeline (Dat)

variable (m : (ℓ : Loc nD τ sig) → Buf (Elt Ideal) ℓ)

/-- The kernel's first scale is the reciprocal of the reference's first divisor. -/
theorem scale1 (x : EReal) : Ideal.div x (Ideal.ofBits .f32 1059503362#32) = x * Named.named (F := Ideal) (φ := .f32) κ "c1" 1069843973#32 := by
  have h : Ideal.ofBits .f32 1059503362#32 = ((5463681 / 8388608 : ℝ) : EReal) := by
    simp [Ideal.ofBits, Ideal.ieee, -EReal.coe_mul]; norm_num
  rw [IdealRules.named_const.ideal_named_scalar κ "c1" _ _ rfl, h, Ideal.div,
    if_neg (by rw [← EReal.coe_zero, EReal.coe_eq_coe_iff]; norm_num), ← EReal.coe_inv]
  norm_num

/-- The kernel's second scale is the reciprocal of the reference's second divisor. -/
theorem scale2 (x : EReal) : Ideal.div x (Ideal.ofBits .f32 1008933580#32) = x * Named.named (F := Ideal) (φ := .f32) κ "c2" 1120462547#32 := by
  have h : Ideal.ofBits .f32 1008933580#32 = ((2672307 / 268435456 : ℝ) : EReal) := by
    simp [Ideal.ofBits, Ideal.ieee, -EReal.coe_mul]; norm_num
  rw [IdealRules.named_const.ideal_named_scalar κ "c2" _ _ rfl, h, Ideal.div,
    if_neg (by rw [← EReal.coe_zero, EReal.coe_eq_coe_iff]; norm_num), ← EReal.coe_inv]
  norm_num

/-- The new first moment of a gradient entry `g` and a moment `a`. -/
abbrev first (g a : EReal) : EReal := Ideal.ofBits .f32 1063675494#32 * a + Ideal.ofBits .f32 1036831949#32 * g

/-- The new second moment of a gradient entry `g` and a moment `b`. -/
abbrev second (g b : EReal) : EReal := Ideal.ofBits .f32 1065336439#32 * b + Ideal.ofBits .f32 981668463#32 * (g * g)

/-- The change of a weight `w`. -/
abbrev change (g a b w : EReal) : EReal :=
  Ideal.ofBits .f32 3129152111#32 * (Ideal.div (Ideal.div (first g a) (Ideal.ofBits .f32 1059503362#32))
    (Ideal.sqrt (Ideal.div (second g b) (Ideal.ofBits .f32 1008933580#32)) + Ideal.ofBits .f32 841731191#32) + Ideal.ofBits .f32 1008981770#32 * w)

theorem hfirst (g a j) : k0_pay1 (F := Ideal) g a (FloatOps.ofBits .f32 1063675494#32) j = first (g j) (a j) := by
  pointwise [k0_pay1]

theorem hsecond (g b j) : k0_pay2 (F := Ideal) g b j = second (g j) (b j) := by
  pointwise [k0_pay2]

theorem hchange (g a b w j) : k0_pay3 (F := Ideal) g a (FloatOps.ofBits .f32 1063675494#32) b w j
    = change (g j) (a j) (b j) (w j) := by
  rw [change, scale1, scale2]
  pointwise [k0_pay3, k0_pay1, k0_pay2]

section
variable (X : FVec Ideal S8x16896x128 .bf16) (W A B : FVec Ideal S16896x128 .f32) (j : S16896x128.Idx)

/-- The reference's gradient: the sum of the eight parts. -/
theorem rsum : Cert.UpdateShardRefIdeal.Read.val_main_v1 (F := Ideal) X j = ∑ k : Fin 8, X (ix3 k (j 0) (j 1)) := by
  pointwise [Cert.UpdateShardRefIdeal.Read.val_main_v1, Cert.UpdateShardRefIdeal.Read.val_main_v0, Cert.UpdateShardRefIdeal.Read.val_main_cst]

theorem rfirst : Cert.UpdateShardRefIdeal.Read.val_main_v6 (F := Ideal) X A j = first (Cert.UpdateShardRefIdeal.Read.val_main_v1 (F := Ideal) X j) (A j) := by
  pointwise [Cert.UpdateShardRefIdeal.Read.val_main_v25, Cert.UpdateShardRefIdeal.Read.val_main_v24, Cert.UpdateShardRefIdeal.Read.val_main_v23, Cert.UpdateShardRefIdeal.Read.val_main_v22, Cert.UpdateShardRefIdeal.Read.val_main_v21, Cert.UpdateShardRefIdeal.Read.val_main_v20, Cert.UpdateShardRefIdeal.Read.val_main_v19, Cert.UpdateShardRefIdeal.Read.val_main_v18, Cert.UpdateShardRefIdeal.Read.val_main_v17, Cert.UpdateShardRefIdeal.Read.val_main_v16, Cert.UpdateShardRefIdeal.Read.val_main_v15, Cert.UpdateShardRefIdeal.Read.val_main_v14, Cert.UpdateShardRefIdeal.Read.val_main_v13, Cert.UpdateShardRefIdeal.Read.val_main_v12, Cert.UpdateShardRefIdeal.Read.val_main_v11, Cert.UpdateShardRefIdeal.Read.val_main_v10, Cert.UpdateShardRefIdeal.Read.val_main_v9, Cert.UpdateShardRefIdeal.Read.val_main_v8, Cert.UpdateShardRefIdeal.Read.val_main_v7, Cert.UpdateShardRefIdeal.Read.val_main_v6, Cert.UpdateShardRefIdeal.Read.val_main_v5, Cert.UpdateShardRefIdeal.Read.val_main_v4, Cert.UpdateShardRefIdeal.Read.val_main_v3, Cert.UpdateShardRefIdeal.Read.val_main_v2, Cert.UpdateShardRefIdeal.Read.val_main_cst, Cert.UpdateShardRefIdeal.Read.val_main_cst_0, Cert.UpdateShardRefIdeal.Read.val_main_cst_1, Cert.UpdateShardRefIdeal.Read.val_main_cst_2, Cert.UpdateShardRefIdeal.Read.val_main_cst_3, Cert.UpdateShardRefIdeal.Read.val_main_cst_4, Cert.UpdateShardRefIdeal.Read.val_main_cst_5, Cert.UpdateShardRefIdeal.Read.val_main_cst_6, Cert.UpdateShardRefIdeal.Read.val_main_cst_7, Cert.UpdateShardRefIdeal.Read.val_main_cst_8]

theorem rsecond : Cert.UpdateShardRefIdeal.Read.val_main_v12 (F := Ideal) X B j = second (Cert.UpdateShardRefIdeal.Read.val_main_v1 (F := Ideal) X j) (B j) := by
  pointwise [Cert.UpdateShardRefIdeal.Read.val_main_v25, Cert.UpdateShardRefIdeal.Read.val_main_v24, Cert.UpdateShardRefIdeal.Read.val_main_v23, Cert.UpdateShardRefIdeal.Read.val_main_v22, Cert.UpdateShardRefIdeal.Read.val_main_v21, Cert.UpdateShardRefIdeal.Read.val_main_v20, Cert.UpdateShardRefIdeal.Read.val_main_v19, Cert.UpdateShardRefIdeal.Read.val_main_v18, Cert.UpdateShardRefIdeal.Read.val_main_v17, Cert.UpdateShardRefIdeal.Read.val_main_v16, Cert.UpdateShardRefIdeal.Read.val_main_v15, Cert.UpdateShardRefIdeal.Read.val_main_v14, Cert.UpdateShardRefIdeal.Read.val_main_v13, Cert.UpdateShardRefIdeal.Read.val_main_v12, Cert.UpdateShardRefIdeal.Read.val_main_v11, Cert.UpdateShardRefIdeal.Read.val_main_v10, Cert.UpdateShardRefIdeal.Read.val_main_v9, Cert.UpdateShardRefIdeal.Read.val_main_v8, Cert.UpdateShardRefIdeal.Read.val_main_v7, Cert.UpdateShardRefIdeal.Read.val_main_v6, Cert.UpdateShardRefIdeal.Read.val_main_v5, Cert.UpdateShardRefIdeal.Read.val_main_v4, Cert.UpdateShardRefIdeal.Read.val_main_v3, Cert.UpdateShardRefIdeal.Read.val_main_v2, Cert.UpdateShardRefIdeal.Read.val_main_cst, Cert.UpdateShardRefIdeal.Read.val_main_cst_0, Cert.UpdateShardRefIdeal.Read.val_main_cst_1, Cert.UpdateShardRefIdeal.Read.val_main_cst_2, Cert.UpdateShardRefIdeal.Read.val_main_cst_3, Cert.UpdateShardRefIdeal.Read.val_main_cst_4, Cert.UpdateShardRefIdeal.Read.val_main_cst_5, Cert.UpdateShardRefIdeal.Read.val_main_cst_6, Cert.UpdateShardRefIdeal.Read.val_main_cst_7, Cert.UpdateShardRefIdeal.Read.val_main_cst_8]

theorem rchange : Cert.UpdateShardRefIdeal.Read.val_main_v25 (F := Ideal) X W A B j = change (Cert.UpdateShardRefIdeal.Read.val_main_v1 (F := Ideal) X j) (A j) (B j) (W j) := by
  pointwise [Cert.UpdateShardRefIdeal.Read.val_main_v25, Cert.UpdateShardRefIdeal.Read.val_main_v24, Cert.UpdateShardRefIdeal.Read.val_main_v23, Cert.UpdateShardRefIdeal.Read.val_main_v22, Cert.UpdateShardRefIdeal.Read.val_main_v21, Cert.UpdateShardRefIdeal.Read.val_main_v20, Cert.UpdateShardRefIdeal.Read.val_main_v19, Cert.UpdateShardRefIdeal.Read.val_main_v18, Cert.UpdateShardRefIdeal.Read.val_main_v17, Cert.UpdateShardRefIdeal.Read.val_main_v16, Cert.UpdateShardRefIdeal.Read.val_main_v15, Cert.UpdateShardRefIdeal.Read.val_main_v14, Cert.UpdateShardRefIdeal.Read.val_main_v13, Cert.UpdateShardRefIdeal.Read.val_main_v12, Cert.UpdateShardRefIdeal.Read.val_main_v11, Cert.UpdateShardRefIdeal.Read.val_main_v10, Cert.UpdateShardRefIdeal.Read.val_main_v9, Cert.UpdateShardRefIdeal.Read.val_main_v8, Cert.UpdateShardRefIdeal.Read.val_main_v7, Cert.UpdateShardRefIdeal.Read.val_main_v6, Cert.UpdateShardRefIdeal.Read.val_main_v5, Cert.UpdateShardRefIdeal.Read.val_main_v4, Cert.UpdateShardRefIdeal.Read.val_main_v3, Cert.UpdateShardRefIdeal.Read.val_main_v2, Cert.UpdateShardRefIdeal.Read.val_main_cst, Cert.UpdateShardRefIdeal.Read.val_main_cst_0, Cert.UpdateShardRefIdeal.Read.val_main_cst_1, Cert.UpdateShardRefIdeal.Read.val_main_cst_2, Cert.UpdateShardRefIdeal.Read.val_main_cst_3, Cert.UpdateShardRefIdeal.Read.val_main_cst_4, Cert.UpdateShardRefIdeal.Read.val_main_cst_5, Cert.UpdateShardRefIdeal.Read.val_main_cst_6, Cert.UpdateShardRefIdeal.Read.val_main_cst_7, Cert.UpdateShardRefIdeal.Read.val_main_cst_8]
end

/-- Every array's block at grid point `t` is its rows from `512 t`. -/
theorem idx : ∀ t : Fin cfg0.N, win0_0.index t = ![0, t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] :=
  (by decide +kernel : ∀ t : Fin grid0.N, _)

/-- The gradient a tile sums is the reference's at the tile's rows. -/
theorem grad (c : Dev nD) (t : Fin cfg0.N) (x1 x2 x3) (y : S512x128.Idx) (j : S16896x128.Idx)
    (h0 : (j 0).val = t.val * 512 + (y 0).val) (h1 : (j 1).val = (y 1).val) :
    k0_pay5 (F := Ideal) (iblk m c 0 t) x1 x2 x3 y = Cert.UpdateShardRefIdeal.Read.val_main_v1 (F := Ideal) (m ((c : Thread nD τ).loc main_arg0)) j := by
  rw [rsum, Fin.sum_univ_eight]
  pointwise [k0_pay5, k0_pay4]
  blk_point [iblk, V, idx t, h0, h1]

theorem final0 (c : Dev nD) : (dats m 0 c).arrAt 4 (cfgs 0).N = Cert.UpdateShardRefIdeal.Read.val_main_v1 (F := Ideal) (m ((c : Thread nD τ).loc main_arg0)) := by
  refine (dats m 0 c).arrAt_eq_of_covers 4 _ (by decide +kernel) fun t _ y => ?_
  blk_simp
  rw [after0_4]; frame_out
  refine grad m c t _ _ _ y _ ?_ ?_ <;> blk_simp [idx t]

theorem final1 (c : Dev nD) : (dats m 0 c).arrAt 5 (cfgs 0).N = Cert.UpdateShardRefIdeal.Read.val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  rw [rchange, ← grad m c t (iblk m c 1 t) (iblk m c 2 t) (iblk m c 3 t) y _ (by blk_simp [idx t]) (by blk_simp [idx t])]
  refine (hchange ..).trans ?_
  rw [show iblk m c 2 t y = (m ((c : Thread nD τ).loc main_arg2)) (((cfg0.win 5).blk t).view.emb y) by blk_point [iblk, V, idx t], show iblk m c 3 t y = (m ((c : Thread nD τ).loc main_arg3)) (((cfg0.win 5).blk t).view.emb y) by blk_point [iblk, V, idx t], show iblk m c 1 t y = (m ((c : Thread nD τ).loc main_arg1)) (((cfg0.win 5).blk t).view.emb y) by blk_point [iblk, V, idx t]]

theorem final2 (c : Dev nD) : (dats m 0 c).arrAt 6 (cfgs 0).N = Cert.UpdateShardRefIdeal.Read.val_main_v6 (F := Ideal) (m ((c : Thread nD τ).loc main_arg0)) (m ((c : Thread nD τ).loc main_arg2)) := by
  refine (dats m 0 c).arrAt_eq_of_covers 6 _ (by decide +kernel) fun t _ y => ?_
  blk_simp
  rw [after0_6]; frame_out
  rw [rfirst, ← grad m c t (iblk m c 1 t) (iblk m c 2 t) (iblk m c 3 t) y _ (by blk_simp [idx t]) (by blk_simp [idx t])]
  refine (hfirst ..).trans ?_
  rw [show iblk m c 2 t y = (m ((c : Thread nD τ).loc main_arg2)) (((cfg0.win 6).blk t).view.emb y) by blk_point [iblk, V, idx t]]

theorem final3 (c : Dev nD) : (dats m 0 c).arrAt 7 (cfgs 0).N = Cert.UpdateShardRefIdeal.Read.val_main_v12 (F := Ideal) (m ((c : Thread nD τ).loc main_arg0)) (m ((c : Thread nD τ).loc main_arg3)) := by
  refine (dats m 0 c).arrAt_eq_of_covers 7 _ (by decide +kernel) fun t _ y => ?_
  blk_simp
  rw [after0_7]; frame_out
  rw [rsecond, ← grad m c t (iblk m c 1 t) (iblk m c 2 t) (iblk m c 3 t) y _ (by blk_simp [idx t]) (by blk_simp [idx t])]
  refine (hsecond ..).trans ?_
  rw [show iblk m c 3 t y = (m ((c : Thread nD τ).loc main_arg3)) (((cfg0.win 7).blk t).view.emb y) by blk_point [iblk, V, idx t]]

end Cert.UpdateShardIdeal.Value

end
-- ==== Proof.UpdateShardClaims.lean ====
/- The five claims about the UpdateShard call: three frames, the idealisation, the equation. -/
module

public import proofs.«01_k».proof.Defs
public import proofs.«01_k».proof.Proof.UpdateShardValue
public import proofs.«01_k».proof.Proof.Gen.UpdateShard.Frame
public import proofs.«01_k».proof.Proof.Gen.UpdateShardIdeal.Frame
public import proofs.«01_k».proof.Proof.Gen.UpdateShardRefIdeal.Run
public import proofs.«01_k».proof.Proof.Gen.UpdateShardRefIdeal.Read
public import Idealize.ShloMosaic.Adequacy
public import Idealize.ShloMosaic.Init

@[expose] public section

set_option maxRecDepth 16384

noncomputable section

namespace Cert.Proof.UpdateShard

open Idealize.ShloMosaic Idealize.ShloMosaic.TcCoe Idealize.SL.Sem

/-- The call as printed ends with its arguments unchanged and its counters at zero. -/
theorem frame_p : Cert.quiescent_UpdateShard := fun m ρ _ => Cert.UpdateShard.Gen.frame m ρ

/-- So does the call over the reals. -/
theorem frame_pi : Cert.quiescent_UpdateShardIdeal := fun m ρ _ => Cert.UpdateShardIdeal.Gen.frame m ρ

/-- So does the reference, which has no counters. -/
theorem frame_ri : Cert.quiescent_UpdateShardRefIdeal := fun m ρ _ =>
  (θ_run Cert.UpdateShardRefIdeal.defs _ _).mono
    (fun r h => ⟨fun c => (h c).2.2.2.2, sem_eq_zero_of_no_sems (by decide) r.2⟩)
    (Cert.UpdateShardRefIdeal.Value.run (F := Ideal) m ρ)

/-- Each named scale rounds to the constant the call holds. -/
theorem preserves : Cert.preserves_UpdateShard_UpdateShardIdeal :=
  ⟨IdealRules.named_const.statement _ _ _ _ _ rfl, IdealRules.named_const.statement _ _ _ _ _ rfl⟩

/-- Over the reals the call's results are the reference's. -/
theorem algebraic : Cert.algebraic_UpdateShardIdeal_UpdateShardRefIdeal := by
  pair_intro
  · run_from Cert.UpdateShardIdeal.Value.run_blocks m g
  · refine (θ_run Cert.UpdateShardRefIdeal.defs _ _).mono (fun r h c => ?_) (Cert.UpdateShardRefIdeal.Value.run (F := Ideal) m' g')
    obtain ⟨h0, h1, h2, h3⟩ := hagree c
    refine ⟨?_, ?_, ?_, ?_, (h c).2.2.2.2⟩
    · refine ((h c).1.trans (Cert.UpdateShardRefIdeal.Read.val_main_v1_eq ..)).trans ?_
      refine Eq.trans ?_ (Cert.UpdateShardIdeal.Value.final0 m c).symm
      congr 1
    · refine ((h c).2.1.trans (Cert.UpdateShardRefIdeal.Read.val_main_v25_eq ..)).trans ?_
      refine Eq.trans ?_ (Cert.UpdateShardIdeal.Value.final1 m c).symm
      congr 1
    · refine ((h c).2.2.1.trans (Cert.UpdateShardRefIdeal.Read.val_main_v6_eq ..)).trans ?_
      refine Eq.trans ?_ (Cert.UpdateShardIdeal.Value.final2 m c).symm
      congr 1
    · refine ((h c).2.2.2.1.trans (Cert.UpdateShardRefIdeal.Read.val_main_v12_eq ..)).trans ?_
      refine Eq.trans ?_ (Cert.UpdateShardIdeal.Value.final3 m c).symm
      congr 1

end Cert.Proof.UpdateShard

end
-- ==== Proof.UpdateWholeValue.lean ====
/- The optimiser on the weights that every device holds: the arrays the call leaves are the reference's. -/
module

public import proofs.«01_k».proof.Proof.Gen.UpdateWholeIdeal.Value
public import proofs.«01_k».proof.Proof.Gen.UpdateWholeRefIdeal.Read
public import Idealize.ShloMosaic.Lib.Pipeline.ValueKit

@[expose] public section

set_option maxRecDepth 16384

noncomputable section

namespace Cert.UpdateWholeIdeal.Value

open Cert.UpdateWholeIdeal Cert.UpdateWholeIdeal.Gen Idealize.ShloMosaic Idealize.ShloMosaic.TcCoe Idealize.SL.Sem
open Idealize.ShloMosaic.Pipeline (Dat)

variable (m : (ℓ : Loc nD τ sig) → Buf (Elt Ideal) ℓ)

/-- The kernel's first scale is the reciprocal of the reference's first divisor. -/
theorem scale1 (x : EReal) : Ideal.div x (Ideal.ofBits .f32 1059503362#32) = x * Named.named (F := Ideal) (φ := .f32) κ "c1" 1069843973#32 := by
  have h : Ideal.ofBits .f32 1059503362#32 = ((5463681 / 8388608 : ℝ) : EReal) := by
    simp [Ideal.ofBits, Ideal.ieee, -EReal.coe_mul]; norm_num
  rw [IdealRules.named_const.ideal_named_scalar κ "c1" _ _ rfl, h, Ideal.div,
    if_neg (by rw [← EReal.coe_zero, EReal.coe_eq_coe_iff]; norm_num), ← EReal.coe_inv]
  norm_num

/-- The kernel's second scale is the reciprocal of the reference's second divisor. -/
theorem scale2 (x : EReal) : Ideal.div x (Ideal.ofBits .f32 1008933580#32) = x * Named.named (F := Ideal) (φ := .f32) κ "c2" 1120462547#32 := by
  have h : Ideal.ofBits .f32 1008933580#32 = ((2672307 / 268435456 : ℝ) : EReal) := by
    simp [Ideal.ofBits, Ideal.ieee, -EReal.coe_mul]; norm_num
  rw [IdealRules.named_const.ideal_named_scalar κ "c2" _ _ rfl, h, Ideal.div,
    if_neg (by rw [← EReal.coe_zero, EReal.coe_eq_coe_iff]; norm_num), ← EReal.coe_inv]
  norm_num

/-- The new first moment of a gradient entry `g` and a moment `a`. -/
abbrev first (g a : EReal) : EReal := Ideal.ofBits .f32 1063675494#32 * a + Ideal.ofBits .f32 1036831949#32 * g

/-- The new second moment of a gradient entry `g` and a moment `b`. -/
abbrev second (g b : EReal) : EReal := Ideal.ofBits .f32 1065336439#32 * b + Ideal.ofBits .f32 981668463#32 * (g * g)

/-- The change of a weight `w`. -/
abbrev change (g a b w : EReal) : EReal :=
  Ideal.ofBits .f32 3129152111#32 * (Ideal.div (Ideal.div (first g a) (Ideal.ofBits .f32 1059503362#32))
    (Ideal.sqrt (Ideal.div (second g b) (Ideal.ofBits .f32 1008933580#32)) + Ideal.ofBits .f32 841731191#32) + Ideal.ofBits .f32 1008981770#32 * w)

theorem hfirst (p w a b j) : k0_pay6 (F := Ideal) p w a b j = first (k0_pay5 (F := Ideal) p w a b j) (a j) := by
  pointwise [k0_pay6, k0_pay5, k0_pay4, k0_pay3]

theorem hsecond (g b j) : k0_pay1 (F := Ideal) g b j = second (g j) (b j) := by
  pointwise [k0_pay1]

theorem hchange (g f b w a j) (h : f j = first (g j) a) : k0_pay2 (F := Ideal) g f b w j
    = change (g j) a (b j) (w j) := by
  rw [change, scale1, scale2, ← h]
  pointwise [k0_pay2, k0_pay1]

section
variable (X : FVec Ideal S8x512x128 .f32) (W A B : FVec Ideal S512x128 .f32) (j : S512x128.Idx)

/-- The reference's gradient: the sum of the eight parts. -/
theorem rsum : Cert.UpdateWholeRefIdeal.Read.val_main_v0 (F := Ideal) X j = ∑ k : Fin 8, X (ix3 k (j 0) (j 1)) := by
  pointwise [Cert.UpdateWholeRefIdeal.Read.val_main_v0, Cert.UpdateWholeRefIdeal.Read.val_main_cst]

theorem rfirst : Cert.UpdateWholeRefIdeal.Read.val_main_v5 (F := Ideal) X A j = first (Cert.UpdateWholeRefIdeal.Read.val_main_v0 (F := Ideal) X j) (A j) := by
  pointwise [Cert.UpdateWholeRefIdeal.Read.val_main_v24, Cert.UpdateWholeRefIdeal.Read.val_main_v23, Cert.UpdateWholeRefIdeal.Read.val_main_v22, Cert.UpdateWholeRefIdeal.Read.val_main_v21, Cert.UpdateWholeRefIdeal.Read.val_main_v20, Cert.UpdateWholeRefIdeal.Read.val_main_v19, Cert.UpdateWholeRefIdeal.Read.val_main_v18, Cert.UpdateWholeRefIdeal.Read.val_main_v17, Cert.UpdateWholeRefIdeal.Read.val_main_v16, Cert.UpdateWholeRefIdeal.Read.val_main_v15, Cert.UpdateWholeRefIdeal.Read.val_main_v14, Cert.UpdateWholeRefIdeal.Read.val_main_v13, Cert.UpdateWholeRefIdeal.Read.val_main_v12, Cert.UpdateWholeRefIdeal.Read.val_main_v11, Cert.UpdateWholeRefIdeal.Read.val_main_v10, Cert.UpdateWholeRefIdeal.Read.val_main_v9, Cert.UpdateWholeRefIdeal.Read.val_main_v8, Cert.UpdateWholeRefIdeal.Read.val_main_v7, Cert.UpdateWholeRefIdeal.Read.val_main_v6, Cert.UpdateWholeRefIdeal.Read.val_main_v5, Cert.UpdateWholeRefIdeal.Read.val_main_v4, Cert.UpdateWholeRefIdeal.Read.val_main_v3, Cert.UpdateWholeRefIdeal.Read.val_main_v2, Cert.UpdateWholeRefIdeal.Read.val_main_v1, Cert.UpdateWholeRefIdeal.Read.val_main_cst, Cert.UpdateWholeRefIdeal.Read.val_main_cst_0, Cert.UpdateWholeRefIdeal.Read.val_main_cst_1, Cert.UpdateWholeRefIdeal.Read.val_main_cst_2, Cert.UpdateWholeRefIdeal.Read.val_main_cst_3, Cert.UpdateWholeRefIdeal.Read.val_main_cst_4, Cert.UpdateWholeRefIdeal.Read.val_main_cst_5, Cert.UpdateWholeRefIdeal.Read.val_main_cst_6, Cert.UpdateWholeRefIdeal.Read.val_main_cst_7, Cert.UpdateWholeRefIdeal.Read.val_main_cst_8]

theorem rsecond : Cert.UpdateWholeRefIdeal.Read.val_main_v11 (F := Ideal) X B j = second (Cert.UpdateWholeRefIdeal.Read.val_main_v0 (F := Ideal) X j) (B j) := by
  pointwise [Cert.UpdateWholeRefIdeal.Read.val_main_v24, Cert.UpdateWholeRefIdeal.Read.val_main_v23, Cert.UpdateWholeRefIdeal.Read.val_main_v22, Cert.UpdateWholeRefIdeal.Read.val_main_v21, Cert.UpdateWholeRefIdeal.Read.val_main_v20, Cert.UpdateWholeRefIdeal.Read.val_main_v19, Cert.UpdateWholeRefIdeal.Read.val_main_v18, Cert.UpdateWholeRefIdeal.Read.val_main_v17, Cert.UpdateWholeRefIdeal.Read.val_main_v16, Cert.UpdateWholeRefIdeal.Read.val_main_v15, Cert.UpdateWholeRefIdeal.Read.val_main_v14, Cert.UpdateWholeRefIdeal.Read.val_main_v13, Cert.UpdateWholeRefIdeal.Read.val_main_v12, Cert.UpdateWholeRefIdeal.Read.val_main_v11, Cert.UpdateWholeRefIdeal.Read.val_main_v10, Cert.UpdateWholeRefIdeal.Read.val_main_v9, Cert.UpdateWholeRefIdeal.Read.val_main_v8, Cert.UpdateWholeRefIdeal.Read.val_main_v7, Cert.UpdateWholeRefIdeal.Read.val_main_v6, Cert.UpdateWholeRefIdeal.Read.val_main_v5, Cert.UpdateWholeRefIdeal.Read.val_main_v4, Cert.UpdateWholeRefIdeal.Read.val_main_v3, Cert.UpdateWholeRefIdeal.Read.val_main_v2, Cert.UpdateWholeRefIdeal.Read.val_main_v1, Cert.UpdateWholeRefIdeal.Read.val_main_cst, Cert.UpdateWholeRefIdeal.Read.val_main_cst_0, Cert.UpdateWholeRefIdeal.Read.val_main_cst_1, Cert.UpdateWholeRefIdeal.Read.val_main_cst_2, Cert.UpdateWholeRefIdeal.Read.val_main_cst_3, Cert.UpdateWholeRefIdeal.Read.val_main_cst_4, Cert.UpdateWholeRefIdeal.Read.val_main_cst_5, Cert.UpdateWholeRefIdeal.Read.val_main_cst_6, Cert.UpdateWholeRefIdeal.Read.val_main_cst_7, Cert.UpdateWholeRefIdeal.Read.val_main_cst_8]

theorem rchange : Cert.UpdateWholeRefIdeal.Read.val_main_v24 (F := Ideal) X W A B j = change (Cert.UpdateWholeRefIdeal.Read.val_main_v0 (F := Ideal) X j) (A j) (B j) (W j) := by
  pointwise [Cert.UpdateWholeRefIdeal.Read.val_main_v24, Cert.UpdateWholeRefIdeal.Read.val_main_v23, Cert.UpdateWholeRefIdeal.Read.val_main_v22, Cert.UpdateWholeRefIdeal.Read.val_main_v21, Cert.UpdateWholeRefIdeal.Read.val_main_v20, Cert.UpdateWholeRefIdeal.Read.val_main_v19, Cert.UpdateWholeRefIdeal.Read.val_main_v18, Cert.UpdateWholeRefIdeal.Read.val_main_v17, Cert.UpdateWholeRefIdeal.Read.val_main_v16, Cert.UpdateWholeRefIdeal.Read.val_main_v15, Cert.UpdateWholeRefIdeal.Read.val_main_v14, Cert.UpdateWholeRefIdeal.Read.val_main_v13, Cert.UpdateWholeRefIdeal.Read.val_main_v12, Cert.UpdateWholeRefIdeal.Read.val_main_v11, Cert.UpdateWholeRefIdeal.Read.val_main_v10, Cert.UpdateWholeRefIdeal.Read.val_main_v9, Cert.UpdateWholeRefIdeal.Read.val_main_v8, Cert.UpdateWholeRefIdeal.Read.val_main_v7, Cert.UpdateWholeRefIdeal.Read.val_main_v6, Cert.UpdateWholeRefIdeal.Read.val_main_v5, Cert.UpdateWholeRefIdeal.Read.val_main_v4, Cert.UpdateWholeRefIdeal.Read.val_main_v3, Cert.UpdateWholeRefIdeal.Read.val_main_v2, Cert.UpdateWholeRefIdeal.Read.val_main_v1, Cert.UpdateWholeRefIdeal.Read.val_main_cst, Cert.UpdateWholeRefIdeal.Read.val_main_cst_0, Cert.UpdateWholeRefIdeal.Read.val_main_cst_1, Cert.UpdateWholeRefIdeal.Read.val_main_cst_2, Cert.UpdateWholeRefIdeal.Read.val_main_cst_3, Cert.UpdateWholeRefIdeal.Read.val_main_cst_4, Cert.UpdateWholeRefIdeal.Read.val_main_cst_5, Cert.UpdateWholeRefIdeal.Read.val_main_cst_6, Cert.UpdateWholeRefIdeal.Read.val_main_cst_7, Cert.UpdateWholeRefIdeal.Read.val_main_cst_8]
end

/-- Every array's block at grid point `t` is its rows from `512 t`. -/
theorem idx : ∀ t : Fin cfg0.N, win0_0.index t = ![0, t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] :=
  (by decide +kernel : ∀ t : Fin grid0.N, _)

/-- The gradient a tile sums is the reference's at the tile's rows. -/
theorem grad (c : Dev nD) (t : Fin cfg0.N) (x1 x2 x3) (y : S512x128.Idx) (j : S512x128.Idx)
    (h0 : (j 0).val = t.val * 512 + (y 0).val) (h1 : (j 1).val = (y 1).val) :
    k0_pay5 (F := Ideal) (iblk m c 0 t) x1 x2 x3 y = Cert.UpdateWholeRefIdeal.Read.val_main_v0 (F := Ideal) (m ((c : Thread nD τ).loc main_arg0)) j := by
  rw [rsum, Fin.sum_univ_eight]
  pointwise [k0_pay5, k0_pay3]
  blk_point [iblk, V, idx t, h0, h1]

theorem final0 (c : Dev nD) : (dats m 0 c).arrAt 4 (cfgs 0).N = Cert.UpdateWholeRefIdeal.Read.val_main_v0 (F := Ideal) (m ((c : Thread nD τ).loc main_arg0)) := by
  refine (dats m 0 c).arrAt_eq_of_covers 4 _ (by decide +kernel) fun t _ y => ?_
  blk_simp
  rw [after0_4]; frame_out
  refine grad m c t _ _ _ y _ ?_ ?_ <;> blk_simp [idx t]

theorem final1 (c : Dev nD) : (dats m 0 c).arrAt 5 (cfgs 0).N = Cert.UpdateWholeRefIdeal.Read.val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  rw [rchange, ← grad m c t (iblk m c 1 t) (iblk m c 2 t) (iblk m c 3 t) y _ (by blk_simp [idx t]) (by blk_simp [idx t])]
  refine (hchange _ _ _ _ _ _ (hfirst ..)).trans ?_
  rw [show iblk m c 2 t y = (m ((c : Thread nD τ).loc main_arg2)) (((cfg0.win 5).blk t).view.emb y) by blk_point [iblk, V, idx t], show iblk m c 3 t y = (m ((c : Thread nD τ).loc main_arg3)) (((cfg0.win 5).blk t).view.emb y) by blk_point [iblk, V, idx t], show iblk m c 1 t y = (m ((c : Thread nD τ).loc main_arg1)) (((cfg0.win 5).blk t).view.emb y) by blk_point [iblk, V, idx t]]

theorem final2 (c : Dev nD) : (dats m 0 c).arrAt 6 (cfgs 0).N = Cert.UpdateWholeRefIdeal.Read.val_main_v5 (F := Ideal) (m ((c : Thread nD τ).loc main_arg0)) (m ((c : Thread nD τ).loc main_arg2)) := by
  refine (dats m 0 c).arrAt_eq_of_covers 6 _ (by decide +kernel) fun t _ y => ?_
  blk_simp
  rw [after0_6]; frame_out
  rw [rfirst, ← grad m c t (iblk m c 1 t) (iblk m c 2 t) (iblk m c 3 t) y _ (by blk_simp [idx t]) (by blk_simp [idx t])]
  refine (hfirst ..).trans ?_
  rw [show iblk m c 2 t y = (m ((c : Thread nD τ).loc main_arg2)) (((cfg0.win 6).blk t).view.emb y) by blk_point [iblk, V, idx t]]

theorem final3 (c : Dev nD) : (dats m 0 c).arrAt 7 (cfgs 0).N = Cert.UpdateWholeRefIdeal.Read.val_main_v11 (F := Ideal) (m ((c : Thread nD τ).loc main_arg0)) (m ((c : Thread nD τ).loc main_arg3)) := by
  refine (dats m 0 c).arrAt_eq_of_covers 7 _ (by decide +kernel) fun t _ y => ?_
  blk_simp
  rw [after0_7]; frame_out
  rw [rsecond, ← grad m c t (iblk m c 1 t) (iblk m c 2 t) (iblk m c 3 t) y _ (by blk_simp [idx t]) (by blk_simp [idx t])]
  refine (hsecond ..).trans ?_
  rw [show iblk m c 3 t y = (m ((c : Thread nD τ).loc main_arg3)) (((cfg0.win 7).blk t).view.emb y) by blk_point [iblk, V, idx t]]

end Cert.UpdateWholeIdeal.Value

end
-- ==== Proof.UpdateWholeClaims.lean ====
/- The five claims about the UpdateWhole call: three frames, the idealisation, the equation. -/
module

public import proofs.«01_k».proof.Defs
public import proofs.«01_k».proof.Proof.UpdateWholeValue
public import proofs.«01_k».proof.Proof.Gen.UpdateWhole.Frame
public import proofs.«01_k».proof.Proof.Gen.UpdateWholeIdeal.Frame
public import proofs.«01_k».proof.Proof.Gen.UpdateWholeRefIdeal.Run
public import proofs.«01_k».proof.Proof.Gen.UpdateWholeRefIdeal.Read
public import Idealize.ShloMosaic.Adequacy
public import Idealize.ShloMosaic.Init

@[expose] public section

set_option maxRecDepth 16384

noncomputable section

namespace Cert.Proof.UpdateWhole

open Idealize.ShloMosaic Idealize.ShloMosaic.TcCoe Idealize.SL.Sem

/-- The call as printed ends with its arguments unchanged and its counters at zero. -/
theorem frame_p : Cert.quiescent_UpdateWhole := fun m ρ _ => Cert.UpdateWhole.Gen.frame m ρ

/-- So does the call over the reals. -/
theorem frame_pi : Cert.quiescent_UpdateWholeIdeal := fun m ρ _ => Cert.UpdateWholeIdeal.Gen.frame m ρ

/-- So does the reference, which has no counters. -/
theorem frame_ri : Cert.quiescent_UpdateWholeRefIdeal := fun m ρ _ =>
  (θ_run Cert.UpdateWholeRefIdeal.defs _ _).mono
    (fun r h => ⟨fun c => (h c).2.2.2.2, sem_eq_zero_of_no_sems (by decide) r.2⟩)
    (Cert.UpdateWholeRefIdeal.Value.run (F := Ideal) m ρ)

/-- Each named scale rounds to the constant the call holds. -/
theorem preserves : Cert.preserves_UpdateWhole_UpdateWholeIdeal :=
  ⟨IdealRules.named_const.statement _ _ _ _ _ rfl, IdealRules.named_const.statement _ _ _ _ _ rfl⟩

/-- Over the reals the call's results are the reference's. -/
theorem algebraic : Cert.algebraic_UpdateWholeIdeal_UpdateWholeRefIdeal := by
  pair_intro
  · run_from Cert.UpdateWholeIdeal.Value.run_blocks m g
  · refine (θ_run Cert.UpdateWholeRefIdeal.defs _ _).mono (fun r h c => ?_) (Cert.UpdateWholeRefIdeal.Value.run (F := Ideal) m' g')
    obtain ⟨h0, h1, h2, h3⟩ := hagree c
    refine ⟨?_, ?_, ?_, ?_, (h c).2.2.2.2⟩
    · refine ((h c).1.trans (Cert.UpdateWholeRefIdeal.Read.val_main_v0_eq ..)).trans ?_
      refine Eq.trans ?_ (Cert.UpdateWholeIdeal.Value.final0 m c).symm
      congr 1
    · refine ((h c).2.1.trans (Cert.UpdateWholeRefIdeal.Read.val_main_v24_eq ..)).trans ?_
      refine Eq.trans ?_ (Cert.UpdateWholeIdeal.Value.final1 m c).symm
      congr 1
    · refine ((h c).2.2.1.trans (Cert.UpdateWholeRefIdeal.Read.val_main_v5_eq ..)).trans ?_
      refine Eq.trans ?_ (Cert.UpdateWholeIdeal.Value.final2 m c).symm
      congr 1
    · refine ((h c).2.2.2.1.trans (Cert.UpdateWholeRefIdeal.Read.val_main_v11_eq ..)).trans ?_
      refine Eq.trans ?_ (Cert.UpdateWholeIdeal.Value.final3 m c).symm
      congr 1

end Cert.Proof.UpdateWhole

end
-- ==== Proof.BlockDiag.lean ====
/- A matrix of 256 rows and 1024 columns into which four rectangles of 64 rows and 256 columns are written, one after
   the other, along the diagonal, read at an entry; and a product with such a matrix as a product with one of its four
   rectangles. -/
module

public import Idealize.ShloMosaic.Lib.Routing.OpsOne
public import Idealize.ShloMosaic.Lib.IdealHost

@[expose] public section

namespace Cert.BlockDiag

open Idealize.ShloMosaic Idealize.ShloMosaic.Routing Idealize.ShloMosaic.ValueIdx

/-- The dimension numbers of a rectangle written into a matrix at one pair of index words. -/
abbrev rect (h : ScatterDims.WF (shape2 256 1024) (shape1 2) (shape2 64 256) [0, 1] [] [0, 1] 0) :
    ScatterDims (shape2 256 1024) (shape1 2) (shape2 64 256) where
  updateWindowDims := [0, 1]
  insertedWindowDims := []
  scatterDimsToOperandDims := [0, 1]
  indexVectorDim := 0
  wf := h

variable (h : ScatterDims.WF (shape2 256 1024) (shape1 2) (shape2 64 256) [0, 1] [] [0, 1] 0)

/-- Entry `(a, b)` of the rectangle lands at `(r, c)` exactly when the two index words plus `a` and `b` are `r` and
    `c`. -/
theorem lands (idx : IVec (shape1 2) 32) (k : (shape2 64 256).Idx) (r : Fin 256) (c : Fin 1024) :
    (rect h).resultIdx? k idx = some (ix2 r c)
      ↔ (idx (ix1 (0 : Fin 2))).toInt + ((k 0).val : Int) = r.val
        ∧ (idx (ix1 (1 : Fin 2))).toInt + ((k 1).val : Int) = c.val := by
  have h0 : (rect h).window k 0 = (k 0).val := by
    unfold ScatterDims.window
    rw [dif_pos (show (0 : Fin 2) ∈ (shape2 256 1024).kept [] by decide)]
    rfl
  have h1 : (rect h).window k 1 = (k 1).val := by
    unfold ScatterDims.window
    rw [dif_pos (show (1 : Fin 2) ∈ (shape2 256 1024).kept [] by decide)]
    rfl
  rw [resultIdx?_ix2, start_pair (rect h) rfl rfl, start_pair (rect h) rfl rfl, h0, h1]

/-- One rectangle written, read at an entry: inside the rectangle its own, outside what was there. -/
theorem write {α : Type} (x : (shape2 256 1024).Idx → α) (idx : IVec (shape1 2) 32) (u : (shape2 64 256).Idx → α)
    (g : ℕ) (h0 : (idx (ix1 (0 : Fin 2))).toInt = ((64 * g : ℕ) : Int))
    (h1 : (idx (ix1 (1 : Fin 2))).toInt = ((256 * g : ℕ) : Int)) (r : Fin 256) (c : Fin 1024) :
    Host.scatter (rect h) (fun _ b => b) x idx u (ix2 r c)
      = if r.val / 64 = g ∧ c.val / 256 = g then
          u (ix2 ⟨r.val % 64, Nat.mod_lt _ (by norm_num)⟩ ⟨c.val % 256, Nat.mod_lt _ (by norm_num)⟩)
        else x (ix2 r c) := by
  by_cases hg : r.val / 64 = g ∧ c.val / 256 = g
  · rw [if_pos hg]
    refine scatter_set_hit (rect h) x idx u _ _ (fun k hk => congrArg u ?_)
      (ix2 ⟨r.val % 64, Nat.mod_lt _ (by norm_num)⟩ ⟨c.val % 256, Nat.mod_lt _ (by norm_num)⟩) ?_
    · obtain ⟨q0, q1⟩ := (lands h idx k r c).1 hk
      rw [h0] at q0
      rw [h1] at q1
      have b0 : (k 0).val < 64 := (k 0).isLt
      have b1 : (k 1).val < 256 := (k 1).isLt
      funext a
      match a with
      | ⟨0, _⟩ => exact Fin.ext (show (k 0).val = r.val % 64 by omega)
      | ⟨1, _⟩ => exact Fin.ext (show (k 1).val = c.val % 256 by omega)
    · refine (lands h idx _ r c).2 ⟨?_, ?_⟩
      · rw [h0]
        show ((64 * g : ℕ) : Int) + ((r.val % 64 : ℕ) : Int) = r.val
        omega
      · rw [h1]
        show ((256 * g : ℕ) : Int) + ((c.val % 256 : ℕ) : Int) = c.val
        omega
  · rw [if_neg hg]
    refine scatter_set_miss (rect h) x idx u _ fun k hk => hg ?_
    obtain ⟨q0, q1⟩ := (lands h idx k r c).1 hk
    rw [h0] at q0
    rw [h1] at q1
    have b0 : (k 0).val < 64 := (k 0).isLt
    have b1 : (k 1).val < 256 := (k 1).isLt
    omega

/-- Four rectangles along the diagonal, read at an entry: in the block of its row and column the rectangle's entry, in
    the other blocks what was there. -/
theorem writes {α : Type} (x : (shape2 256 1024).Idx → α) (i0 i1 i2 i3 : IVec (shape1 2) 32)
    (u0 u1 u2 u3 : (shape2 64 256).Idx → α) (w : (shape3 4 64 256).Idx → α) (z : α) (hx : ∀ i, x i = z)
    (a0 : (i0 (ix1 (0 : Fin 2))).toInt = ((64 * 0 : ℕ) : Int)) (b0 : (i0 (ix1 (1 : Fin 2))).toInt = ((256 * 0 : ℕ) : Int))
    (a1 : (i1 (ix1 (0 : Fin 2))).toInt = ((64 * 1 : ℕ) : Int)) (b1 : (i1 (ix1 (1 : Fin 2))).toInt = ((256 * 1 : ℕ) : Int))
    (a2 : (i2 (ix1 (0 : Fin 2))).toInt = ((64 * 2 : ℕ) : Int)) (b2 : (i2 (ix1 (1 : Fin 2))).toInt = ((256 * 2 : ℕ) : Int))
    (a3 : (i3 (ix1 (0 : Fin 2))).toInt = ((64 * 3 : ℕ) : Int)) (b3 : (i3 (ix1 (1 : Fin 2))).toInt = ((256 * 3 : ℕ) : Int))
    (e0 : ∀ a b, u0 (ix2 a b) = w (ix3 (0 : Fin 4) a b)) (e1 : ∀ a b, u1 (ix2 a b) = w (ix3 (1 : Fin 4) a b))
    (e2 : ∀ a b, u2 (ix2 a b) = w (ix3 (2 : Fin 4) a b)) (e3 : ∀ a b, u3 (ix2 a b) = w (ix3 (3 : Fin 4) a b))
    (r : Fin 256) (c : Fin 1024) :
    Host.scatter (rect h) (fun _ b => b) (Host.scatter (rect h) (fun _ b => b) (Host.scatter (rect h) (fun _ b => b)
        (Host.scatter (rect h) (fun _ b => b) x i0 u0) i1 u1) i2 u2) i3 u3 (ix2 r c)
      = if r.val / 64 = c.val / 256 then
          w (ix3 ⟨c.val / 256, by omega⟩ ⟨r.val % 64, Nat.mod_lt _ (by norm_num)⟩ ⟨c.val % 256, Nat.mod_lt _ (by norm_num)⟩)
        else z := by
  rw [write h _ i3 u3 3 a3 b3, write h _ i2 u2 2 a2 b2, write h _ i1 u1 1 a1 b1, write h _ i0 u0 0 a0 b0, e0, e1, e2, e3, hx]
  have hc : c.val / 256 < 4 := by omega
  by_cases hrc : r.val / 64 = c.val / 256
  · rw [if_pos hrc, hrc]
    simp only [and_self]
    split_ifs with q3 q2 q1 q0
    · exact congrArg (fun q => w (ix3 q _ _)) (Fin.ext q3.symm)
    · exact congrArg (fun q => w (ix3 q _ _)) (Fin.ext q2.symm)
    · exact congrArg (fun q => w (ix3 q _ _)) (Fin.ext q1.symm)
    · exact congrArg (fun q => w (ix3 q _ _)) (Fin.ext q0.symm)
    · omega
  · rw [if_neg hrc]
    split_ifs with q3 q2 q1 q0 <;> first | rfl | omega

/-- A sum over 256 whose terms vanish outside one of its four blocks of 64. -/
theorem sum_block (f : Fin 256 → EReal) (g : Fin 4) (hf : ∀ k : Fin 256, k.val / 64 ≠ g.val → f k = 0) :
    (∑ k : Fin 256, f k) = ∑ k : Fin 64, f ⟨g.val * 64 + k.val, by omega⟩ := by
  symm
  refine Finset.sum_of_injOn (fun k : Fin 64 => (⟨g.val * 64 + k.val, by omega⟩ : Fin 256)) ?_ ?_ ?_ ?_
  · intro a _ b _ hab
    have := congrArg Fin.val hab
    exact Fin.ext (by simpa using this)
  · intro a _
    exact Finset.mem_coe.2 (Finset.mem_univ _)
  · intro k _ hk
    refine hf k fun hq => hk ?_
    exact ⟨⟨k.val % 64, Nat.mod_lt _ (by norm_num)⟩, Finset.mem_coe.2 (Finset.mem_univ _), Fin.ext (show g.val * 64 + k.val % 64 = k.val by omega)⟩
  · intro k _
    rfl

end Cert.BlockDiag

end
-- ==== Proof.MergeEntries.lean ====
/- The gradient of the gate merge: the five arrays the call leaves are the reference's, entry by entry. -/
module

public import proofs.«01_k».proof.Proof.Gen.MergeIdeal.Value
public import proofs.«01_k».proof.Proof.Gen.MergeRefIdeal.Read
public import proofs.«01_k».proof.Proof.BlockDiag
public import proofs.«01_k».proof.Proof.Sigmoid
public import proofs.«01_k».proof.Proof.Stores
public import Idealize.ShloMosaic.Lib.Pipeline.ValueKit
public import Idealize.ShloMosaic.Lib.WritesUnit

@[expose] public section

set_option maxRecDepth 16384

noncomputable section

namespace Cert.MergeIdeal.Value

open Cert.MergeIdeal Cert.MergeIdeal.Gen Idealize.ShloMosaic Idealize.ShloMosaic.TcCoe Idealize.SL.Sem
open Idealize.ShloMosaic.Pipeline (Dat)

variable (m : (ℓ : Loc nD τ sig) → Buf (Elt Ideal) ℓ)

/-- The logistic function. -/
abbrev sg (x : EReal) : EReal := Ideal.div 1 (1 + Ideal.exp (-x))

/-- The pooled branch before its scale: column `j` belongs to group `j / 256`. -/
abbrev grp {n : ℕ} (P : FVec Ideal ⟨2, ![n, 256]⟩ .bf16) (w : FVec Ideal S4x64x256 .bf16) (r : Fin n) (j : Fin 1024) : EReal :=
  ∑ k : Fin 64, w (ix3 ⟨j.val / 256, by omega⟩ k ⟨j.val % 256, Nat.mod_lt _ (by norm_num)⟩) * P (ix2 r ⟨j.val / 256 * 64 + k.val, by omega⟩)

/-- The blocks of the arrays at a grid point. -/
theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![0, 0] ∧ win0_8.index t = ![0, 0]
    ∧ win0_9.index t = ![t.val, 0] ∧ win0_10.index t = ![t.val, 0] ∧ win0_11.index t = ![t.val, 0] ∧ win0_12.index t = ![t.val, 0]
    ∧ win0_13.index t = ![t.val, 0] ∧ win0_14.index t = ![0, 0] :=
  (by decide +kernel : ∀ t : Fin grid0.N, _)

/-- What the body computes, entry by entry. -/
theorem hpay3 (a d) (y) : k0_pay3 (F := Ideal) a d y = d y * a y := by
  pointwise [k0_pay3, k0_pay1]

theorem hpay4 (a d v) (y) : k0_pay4 (F := Ideal) a d v y = d y * a y * v (ix2 0 (y 1)) := by
  pointwise [k0_pay4, k0_pay2]

theorem hpay5 (a d) (y) : k0_pay5 (F := Ideal) a d y = d y * a y := by
  pointwise [k0_pay5]

theorem hpay6 (a d acc) (y) : k0_pay6 (F := Ideal) a d acc y = acc y + ∑ k : Fin 256, d (ix2 k (y 1)) * a (ix2 k (y 1)) := by
  pointwise [k0_pay6, k0_pay1]

theorem hpay7 (z a d acc) (y) : k0_pay7 (F := Ideal) z a d acc y
    = acc y + ∑ k : Fin 256, d (ix2 k (y 1)) * a (ix2 k (y 1)) * z (ix2 k (y 1)) := by
  pointwise [k0_pay7, k0_pay2]

theorem hpay9 (x w b) (y) : k0_pay9 (F := Ideal) x w b y = (∑ k : Fin 256, x (ix2 (y 0) k) * w (ix2 k (y 1))) + b (ix2 0 (y 1)) := by
  pointwise [k0_pay9]

theorem hpay10 (x w) (y) : k0_pay10 (F := Ideal) x w y = ∑ k : Fin 256, x (ix2 (y 0) k) * w (ix2 k (y 1)) := by
  pointwise [k0_pay10]

theorem hpay11 (x w) (y) : k0_pay11 (F := Ideal) x w y = ∑ k : Fin 512, x (ix2 (y 0) k) * w (ix2 k (y 1)) := by
  pointwise [k0_pay11]

/-- The logistic function by the hyperbolic tangent. -/
theorem hpay12 (g) (y) : k0_pay12 (F := Ideal) g y = sg (g y) := by
  refine Eq.trans ?_ (Cert.Sigmoid.eq (g y))
  pointwise [k0_pay12]

theorem hpay14 (g) (y) : k0_pay14 (F := Ideal) (k0_pay13 g) y = sg (g y) := by
  refine Eq.trans ?_ (Cert.Sigmoid.eq (g y))
  pointwise [k0_pay14, k0_pay13]

theorem hpay15 (g) (y) : k0_pay15 (F := Ideal) g y = sg (g y) := by
  refine Eq.trans ?_ (Cert.Sigmoid.eq (g y))
  pointwise [k0_pay15]

theorem hpay16 (d) (y) : k0_pay16 (F := Ideal) d y = d y := by
  pointwise [k0_pay16]

theorem hpay17 (d) (y) : k0_pay17 (F := Ideal) d y = d y := by
  pointwise [k0_pay17]

/-- The gates' gradients of the three branches. -/
theorem hpay18 (z a d) (y) : k0_pay18 (F := Ideal) z a d y = d y * z y * a y * (1 - a y) := by
  pointwise [k0_pay18, hpay16]

theorem hpay19 (z g d v) (y) : k0_pay19 (F := Ideal) z (k0_pay13 g) d v y = d y * (z y * v (ix2 0 (y 1))) * sg (g y) * (1 - sg (g y)) := by
  pointwise [k0_pay19, hpay16, hpay17, hpay14]

theorem hpay20 (z g d) (y) : k0_pay20 (F := Ideal) z g d y = d y * z y * sg (g y) * (1 - sg (g y)) := by
  pointwise [k0_pay20, hpay16, hpay15]

/-- The write of one rectangle into the matrix, as the program in front of the call does it. -/
abbrev put (x : FVec Ideal S256x1024 .bf16) (i : IVec S2 32) (u : FVec Ideal S64x256 .bf16) : FVec Ideal S256x1024 .bf16 :=
  Host.scatter scatter_S256x1024_S2_S64x256_01_n_01_0 (fun _ b => b) x i u

/-- A pair of index words. -/
abbrev at2 (a b : BitVec 32) : IVec S2 32 :=
  concatenate S2 0 [⟨S1, broadcastInDim S1 ![] bcast_S_S1 (constantI S_ 32 a)⟩, ⟨S1, broadcastInDim S1 ![] bcast_S_S1 (constantI S_ 32 b)⟩] concatenates_S1_S1_S2_d0

/-- The four groups' weights. -/
abbrev w0 (W : FVec Ideal S4x64x256 .bf16) : FVec Ideal S64x256 .bf16 :=
  shapeCast S64x256 (extractStridedSlice S1x64x256 ![0, 0, 0] W slices_S4x64x256_S1x64x256_0_0_0) shapeCasts_S1x64x256_S64x256
abbrev w1 (W : FVec Ideal S4x64x256 .bf16) : FVec Ideal S64x256 .bf16 :=
  shapeCast S64x256 (extractStridedSlice S1x64x256 ![1, 0, 0] W slices_S4x64x256_S1x64x256_1_0_0) shapeCasts_S1x64x256_S64x256
abbrev w2 (W : FVec Ideal S4x64x256 .bf16) : FVec Ideal S64x256 .bf16 :=
  shapeCast S64x256 (extractStridedSlice S1x64x256 ![2, 0, 0] W slices_S4x64x256_S1x64x256_2_0_0) shapeCasts_S1x64x256_S64x256
abbrev w3 (W : FVec Ideal S4x64x256 .bf16) : FVec Ideal S64x256 .bf16 :=
  shapeCast S64x256 (extractStridedSlice S1x64x256 ![3, 0, 0] W slices_S4x64x256_S1x64x256_3_0_0) shapeCasts_S1x64x256_S64x256

theorem w0_at (W : FVec Ideal S4x64x256 .bf16) (a : Fin 64) (b : Fin 256) : w0 W (ix2 a b) = W (ix3 (0 : Fin 4) a b) := by
  pointwise [w0]

theorem w1_at (W : FVec Ideal S4x64x256 .bf16) (a : Fin 64) (b : Fin 256) : w1 W (ix2 a b) = W (ix3 (1 : Fin 4) a b) := by
  pointwise [w1]

theorem w2_at (W : FVec Ideal S4x64x256 .bf16) (a : Fin 64) (b : Fin 256) : w2 W (ix2 a b) = W (ix3 (2 : Fin 4) a b) := by
  pointwise [w2]

theorem w3_at (W : FVec Ideal S4x64x256 .bf16) (a : Fin 64) (b : Fin 256) : w3 W (ix2 a b) = W (ix3 (3 : Fin 4) a b) := by
  pointwise [w3]

/-- The block-diagonal matrix that the program builds in front of the call: zeros, with the four groups' weights written along
    the diagonal. -/
theorem hV (c : Dev nD) : (V m c main_v24 : FVec Ideal S256x1024 .bf16)
    = put (put (put (put (broadcastInDim S256x1024 ![] bcast_S_S256x1024 (constant (F := Ideal) S_ .bf16 0x0000#16))
        (at2 0#32 0#32) (w0 (m ((c : Thread nD τ).loc main_arg5)))) (at2 64#32 256#32) (w1 (m ((c : Thread nD τ).loc main_arg5))))
        (at2 128#32 512#32) (w2 (m ((c : Thread nD τ).loc main_arg5)))) (at2 192#32 768#32) (w3 (m ((c : Thread nD τ).loc main_arg5))) := by
  unfold_abbrev_sides
  after_results
  rfl

/-- Its entry: the group's weight where row and column belong to one group, zero elsewhere. -/
theorem hdiag (c : Dev nD) (r : Fin 256) (j : Fin 1024) : (V m c main_v24 : FVec Ideal S256x1024 .bf16) (ix2 r j)
    = if r.val / 64 = j.val / 256 then
        (m ((c : Thread nD τ).loc main_arg5) : FVec Ideal S4x64x256 .bf16) (ix3 ⟨j.val / 256, by omega⟩ ⟨r.val % 64, Nat.mod_lt _ (by norm_num)⟩ ⟨j.val % 256, Nat.mod_lt _ (by norm_num)⟩)
      else (0 : EReal) := by
  rw [hV]
  refine Cert.BlockDiag.writes (α := EReal) _ _ (at2 0#32 0#32) (at2 64#32 256#32) (at2 128#32 512#32) (at2 192#32 768#32) _ _ _ _
    (m ((c : Thread nD τ).loc main_arg5) : FVec Ideal S4x64x256 .bf16) (0 : EReal) (fun i => ?_) ?_ ?_ ?_ ?_ ?_ ?_ ?_ ?_ (w0_at _) (w1_at _) (w2_at _) (w3_at _) r j
  · pointwise []
  all_goals decide

/-- A row times the block-diagonal matrix is the group's part of the row times the group's weights. -/
theorem hgrp (c : Dev nD) {n : ℕ} (P : FVec Ideal ⟨2, ![n, 256]⟩ .bf16) (r : Fin n) (j : Fin 1024) :
    (∑ k : Fin 256, P (ix2 r k) * (V m c main_v24 : FVec Ideal S256x1024 .bf16) (ix2 k j)) = grp P (m ((c : Thread nD τ).loc main_arg5)) r j := by
  refine (Cert.BlockDiag.sum_block _ ⟨j.val / 256, by omega⟩ fun k hk => ?_).trans (Finset.sum_congr rfl fun k _ => ?_)
  · exact (congrArg (P (ix2 r k) * ·) ((hdiag m c k j).trans (if_neg hk))).trans (mul_zero _)
  · refine (congrArg (P (ix2 r ⟨j.val / 256 * 64 + k.val, by omega⟩) * ·) ((hdiag m c ⟨j.val / 256 * 64 + k.val, by omega⟩ j).trans
      (if_pos (show (j.val / 256 * 64 + k.val) / 64 = j.val / 256 by omega)))).trans ((mul_comm _ _).trans (congrArg₂ (· * ·) ?_ rfl))
    refine congrArg (fun z => (m ((c : Thread nD τ).loc main_arg5) : FVec Ideal S4x64x256 .bf16) (ix3 _ z _)) (Fin.ext ?_)
    show (j.val / 256 * 64 + k.val) % 64 = k.val
    omega

/-- The reference's gates. -/
theorem href24 (X : FVec Ideal S16640x3072 .bf16) (j) : Cert.MergeRefIdeal.Read.val_main_v24 (F := Ideal) X j = sg (X j) := by
  pointwise [Cert.MergeRefIdeal.Read.val_main_v12, Cert.MergeRefIdeal.Read.val_main_v19, Cert.MergeRefIdeal.Read.val_main_v20, Cert.MergeRefIdeal.Read.val_main_v21, Cert.MergeRefIdeal.Read.val_main_v22, Cert.MergeRefIdeal.Read.val_main_v23, Cert.MergeRefIdeal.Read.val_main_v24, Cert.MergeRefIdeal.Read.val_main_cst, Cert.MergeRefIdeal.Read.val_main_cst_0]

theorem href30 (X : FVec Ideal S16640x3072 .bf16) (r : Fin 16640) (j : Fin 1024) :
    Cert.MergeRefIdeal.Read.val_main_v30 (F := Ideal) X (ix2 r j) = sg (X (ix2 r ⟨0 * 1024 + j.val, by omega⟩)) := by
  pointwise [Cert.MergeRefIdeal.Read.val_main_v28, Cert.MergeRefIdeal.Read.val_main_v29, Cert.MergeRefIdeal.Read.val_main_v30, href24]

theorem href33 (X : FVec Ideal S16640x3072 .bf16) (r : Fin 16640) (j : Fin 1024) :
    Cert.MergeRefIdeal.Read.val_main_v33 (F := Ideal) X (ix2 r j) = sg (X (ix2 r ⟨1 * 1024 + j.val, by omega⟩)) := by
  pointwise [Cert.MergeRefIdeal.Read.val_main_v28, Cert.MergeRefIdeal.Read.val_main_v32, Cert.MergeRefIdeal.Read.val_main_v33, href24]

theorem href37 (X : FVec Ideal S16640x3072 .bf16) (r : Fin 16640) (j : Fin 1024) :
    Cert.MergeRefIdeal.Read.val_main_v37 (F := Ideal) X (ix2 r j) = sg (X (ix2 r ⟨2 * 1024 + j.val, by omega⟩)) := by
  pointwise [Cert.MergeRefIdeal.Read.val_main_v28, Cert.MergeRefIdeal.Read.val_main_v36, Cert.MergeRefIdeal.Read.val_main_v37, href24]

/-- The reference's pooled branch before its scale. -/
theorem href8 (P : FVec Ideal S16640x256 .bf16) (w : FVec Ideal S4x64x256 .bf16) (r : Fin 16640) (j : Fin 1024) :
    Cert.MergeRefIdeal.Read.val_main_v8 (F := Ideal) P w (ix2 r j) = grp P w r j := by
  pointwise [grp, Cert.MergeRefIdeal.Read.val_main_v3, Cert.MergeRefIdeal.Read.val_main_v4, Cert.MergeRefIdeal.Read.val_main_v5, Cert.MergeRefIdeal.Read.val_main_v6, Cert.MergeRefIdeal.Read.val_main_v7, Cert.MergeRefIdeal.Read.val_main_v8]

/-- The three branches' gradients. -/
theorem href71 (X Y) (r : Fin 16640) (j : Fin 1024) : Cert.MergeRefIdeal.Read.val_main_v71 (F := Ideal) X Y (ix2 r j)
    = sg (X (ix2 r ⟨0 * 1024 + j.val, by omega⟩)) * Y (ix2 r j) := by
  pointwise [Cert.MergeRefIdeal.Read.val_main_v40, Cert.MergeRefIdeal.Read.val_main_v50, Cert.MergeRefIdeal.Read.val_main_v71, href30]

theorem href72 (X) (v : FVec Ideal S1024 .f32) (Y) (r : Fin 16640) (j : Fin 1024) : Cert.MergeRefIdeal.Read.val_main_v72 (F := Ideal) X v Y (ix2 r j)
    = sg (X (ix2 r ⟨1 * 1024 + j.val, by omega⟩)) * Y (ix2 r j) * v (ix1 j) := by
  pointwise [Cert.MergeRefIdeal.Read.val_main_v16, Cert.MergeRefIdeal.Read.val_main_v40, Cert.MergeRefIdeal.Read.val_main_v45, Cert.MergeRefIdeal.Read.val_main_v60, Cert.MergeRefIdeal.Read.val_main_v61, Cert.MergeRefIdeal.Read.val_main_v72, href33]

theorem href73 (X Y) (r : Fin 16640) (j : Fin 1024) : Cert.MergeRefIdeal.Read.val_main_v73 (F := Ideal) X Y (ix2 r j)
    = sg (X (ix2 r ⟨2 * 1024 + j.val, by omega⟩)) * Y (ix2 r j) := by
  pointwise [Cert.MergeRefIdeal.Read.val_main_v40, Cert.MergeRefIdeal.Read.val_main_v41, Cert.MergeRefIdeal.Read.val_main_v73, href37]

/-- A sum of three choices of which one is taken. -/
theorem pick0 {p q r : Prop} [Decidable p] [Decidable q] [Decidable r] (f : p → EReal) (g : q → EReal) (h : r → EReal) (hp : ¬ p) (hq : ¬ q) (hr : r) :
    ((if h : p then f h else 0) + (if h : q then g h else 0)) + (if hh : r then h hh else 0) = h hr := by
  rw [dif_neg hp, dif_neg hq, dif_pos hr, zero_add, zero_add]

theorem pick1 {p q r : Prop} [Decidable p] [Decidable q] [Decidable r] (f : p → EReal) (g : q → EReal) (h : r → EReal) (hp : ¬ p) (hq : q) (hr : ¬ r) :
    ((if h : p then f h else 0) + (if h : q then g h else 0)) + (if hh : r then h hh else 0) = g hq := by
  rw [dif_neg hp, dif_pos hq, dif_neg hr, zero_add, add_zero]

theorem pick2 {p q r : Prop} [Decidable p] [Decidable q] [Decidable r] (f : p → EReal) (g : q → EReal) (h : r → EReal) (hp : p) (hq : ¬ q) (hr : ¬ r) :
    ((if h : p then f h else 0) + (if h : q then g h else 0)) + (if hh : r then h hh else 0) = f hp := by
  rw [dif_pos hp, dif_neg hq, dif_neg hr, add_zero, add_zero]

/-- The gates' gradients. -/
theorem href70_0 (S : FVec Ideal S16640x256 .bf16) (P : FVec Ideal S16640x256 .bf16) (A : FVec Ideal S16640x512 .bf16) (X : FVec Ideal S16640x3072 .bf16) (wc : FVec Ideal S256x1024 .bf16)
    (wp : FVec Ideal S4x64x256 .bf16) (wa : FVec Ideal S512x1024 .bf16) (b v : FVec Ideal S1024 .f32) (Y : FVec Ideal S16640x1024 .bf16)
    (r : Fin 16640) (j : Fin 1024) (q : Fin 3072) (hq : q.val = 0 * 1024 + j.val) :
    Cert.MergeRefIdeal.Read.val_main_v70 (F := Ideal) S P A X wc wp wa b v Y (ix2 r q)
    = Y (ix2 r j) * ((∑ k : Fin 256, S (ix2 r k) * wc (ix2 k j)) + b (ix1 j)) * (sg (X (ix2 r q)) * (1 - sg (X (ix2 r q)))) := by
  pointwise [Cert.MergeRefIdeal.Read.val_main_v0, Cert.MergeRefIdeal.Read.val_main_v1, Cert.MergeRefIdeal.Read.val_main_v2, Cert.MergeRefIdeal.Read.val_main_v9, Cert.MergeRefIdeal.Read.val_main_v10, Cert.MergeRefIdeal.Read.val_main_v11, Cert.MergeRefIdeal.Read.val_main_v13, Cert.MergeRefIdeal.Read.val_main_v14, Cert.MergeRefIdeal.Read.val_main_v15, Cert.MergeRefIdeal.Read.val_main_v16, Cert.MergeRefIdeal.Read.val_main_v17, Cert.MergeRefIdeal.Read.val_main_v18, Cert.MergeRefIdeal.Read.val_main_v27, Cert.MergeRefIdeal.Read.val_main_v26, Cert.MergeRefIdeal.Read.val_main_v25, Cert.MergeRefIdeal.Read.val_main_v40, Cert.MergeRefIdeal.Read.val_main_v42, Cert.MergeRefIdeal.Read.val_main_v43, Cert.MergeRefIdeal.Read.val_main_v44, Cert.MergeRefIdeal.Read.val_main_v46, Cert.MergeRefIdeal.Read.val_main_v47, Cert.MergeRefIdeal.Read.val_main_v48, Cert.MergeRefIdeal.Read.val_main_v49, Cert.MergeRefIdeal.Read.val_main_v51, Cert.MergeRefIdeal.Read.val_main_v52, Cert.MergeRefIdeal.Read.val_main_v53, Cert.MergeRefIdeal.Read.val_main_v54, Cert.MergeRefIdeal.Read.val_main_v55, Cert.MergeRefIdeal.Read.val_main_v56, Cert.MergeRefIdeal.Read.val_main_v70, Cert.MergeRefIdeal.Read.val_main_cst_1, Cert.MergeRefIdeal.Read.val_main_cst_2, Cert.MergeRefIdeal.Read.val_main_cst_3, Cert.MergeRefIdeal.Read.val_main_cst_4, href24, href8]
  refine congrArg (· * (sg (X (ix2 r q)) * (1 - sg (X (ix2 r q))))) ((pick0 _ _ _ (by omega) (by omega) ⟨by omega, by omega⟩).trans ?_)
  have e : ∀ h, (⟨q.val % 1024, h⟩ : Fin 1024) = j := fun h => Fin.ext (by simp only; omega)
  simp only [e]

theorem href70_1 (S : FVec Ideal S16640x256 .bf16) (P : FVec Ideal S16640x256 .bf16) (A : FVec Ideal S16640x512 .bf16) (X : FVec Ideal S16640x3072 .bf16) (wc : FVec Ideal S256x1024 .bf16)
    (wp : FVec Ideal S4x64x256 .bf16) (wa : FVec Ideal S512x1024 .bf16) (b v : FVec Ideal S1024 .f32) (Y : FVec Ideal S16640x1024 .bf16)
    (r : Fin 16640) (j : Fin 1024) (q : Fin 3072) (hq : q.val = 1 * 1024 + j.val) :
    Cert.MergeRefIdeal.Read.val_main_v70 (F := Ideal) S P A X wc wp wa b v Y (ix2 r q)
    = Y (ix2 r j) * (grp P wp r j * v (ix1 j)) * (sg (X (ix2 r q)) * (1 - sg (X (ix2 r q)))) := by
  pointwise [Cert.MergeRefIdeal.Read.val_main_v0, Cert.MergeRefIdeal.Read.val_main_v1, Cert.MergeRefIdeal.Read.val_main_v2, Cert.MergeRefIdeal.Read.val_main_v9, Cert.MergeRefIdeal.Read.val_main_v10, Cert.MergeRefIdeal.Read.val_main_v11, Cert.MergeRefIdeal.Read.val_main_v13, Cert.MergeRefIdeal.Read.val_main_v14, Cert.MergeRefIdeal.Read.val_main_v15, Cert.MergeRefIdeal.Read.val_main_v16, Cert.MergeRefIdeal.Read.val_main_v17, Cert.MergeRefIdeal.Read.val_main_v18, Cert.MergeRefIdeal.Read.val_main_v27, Cert.MergeRefIdeal.Read.val_main_v26, Cert.MergeRefIdeal.Read.val_main_v25, Cert.MergeRefIdeal.Read.val_main_v40, Cert.MergeRefIdeal.Read.val_main_v42, Cert.MergeRefIdeal.Read.val_main_v43, Cert.MergeRefIdeal.Read.val_main_v44, Cert.MergeRefIdeal.Read.val_main_v46, Cert.MergeRefIdeal.Read.val_main_v47, Cert.MergeRefIdeal.Read.val_main_v48, Cert.MergeRefIdeal.Read.val_main_v49, Cert.MergeRefIdeal.Read.val_main_v51, Cert.MergeRefIdeal.Read.val_main_v52, Cert.MergeRefIdeal.Read.val_main_v53, Cert.MergeRefIdeal.Read.val_main_v54, Cert.MergeRefIdeal.Read.val_main_v55, Cert.MergeRefIdeal.Read.val_main_v56, Cert.MergeRefIdeal.Read.val_main_v70, Cert.MergeRefIdeal.Read.val_main_cst_1, Cert.MergeRefIdeal.Read.val_main_cst_2, Cert.MergeRefIdeal.Read.val_main_cst_3, Cert.MergeRefIdeal.Read.val_main_cst_4, href24, href8]
  refine congrArg (· * (sg (X (ix2 r q)) * (1 - sg (X (ix2 r q))))) ((pick1 _ _ _ (by omega) ⟨⟨by omega, by omega⟩, by omega⟩ (by omega)).trans ?_)
  have e : ∀ h, (⟨q.val % 1024, h⟩ : Fin 1024) = j := fun h => Fin.ext (by simp only; omega)
  simp only [e]

theorem href70_2 (S : FVec Ideal S16640x256 .bf16) (P : FVec Ideal S16640x256 .bf16) (A : FVec Ideal S16640x512 .bf16) (X : FVec Ideal S16640x3072 .bf16) (wc : FVec Ideal S256x1024 .bf16)
    (wp : FVec Ideal S4x64x256 .bf16) (wa : FVec Ideal S512x1024 .bf16) (b v : FVec Ideal S1024 .f32) (Y : FVec Ideal S16640x1024 .bf16)
    (r : Fin 16640) (j : Fin 1024) (q : Fin 3072) (hq : q.val = 2 * 1024 + j.val) :
    Cert.MergeRefIdeal.Read.val_main_v70 (F := Ideal) S P A X wc wp wa b v Y (ix2 r q)
    = Y (ix2 r j) * (∑ k : Fin 512, A (ix2 r k) * wa (ix2 k j)) * (sg (X (ix2 r q)) * (1 - sg (X (ix2 r q)))) := by
  pointwise [Cert.MergeRefIdeal.Read.val_main_v0, Cert.MergeRefIdeal.Read.val_main_v1, Cert.MergeRefIdeal.Read.val_main_v2, Cert.MergeRefIdeal.Read.val_main_v9, Cert.MergeRefIdeal.Read.val_main_v10, Cert.MergeRefIdeal.Read.val_main_v11, Cert.MergeRefIdeal.Read.val_main_v13, Cert.MergeRefIdeal.Read.val_main_v14, Cert.MergeRefIdeal.Read.val_main_v15, Cert.MergeRefIdeal.Read.val_main_v16, Cert.MergeRefIdeal.Read.val_main_v17, Cert.MergeRefIdeal.Read.val_main_v18, Cert.MergeRefIdeal.Read.val_main_v27, Cert.MergeRefIdeal.Read.val_main_v26, Cert.MergeRefIdeal.Read.val_main_v25, Cert.MergeRefIdeal.Read.val_main_v40, Cert.MergeRefIdeal.Read.val_main_v42, Cert.MergeRefIdeal.Read.val_main_v43, Cert.MergeRefIdeal.Read.val_main_v44, Cert.MergeRefIdeal.Read.val_main_v46, Cert.MergeRefIdeal.Read.val_main_v47, Cert.MergeRefIdeal.Read.val_main_v48, Cert.MergeRefIdeal.Read.val_main_v49, Cert.MergeRefIdeal.Read.val_main_v51, Cert.MergeRefIdeal.Read.val_main_v52, Cert.MergeRefIdeal.Read.val_main_v53, Cert.MergeRefIdeal.Read.val_main_v54, Cert.MergeRefIdeal.Read.val_main_v55, Cert.MergeRefIdeal.Read.val_main_v56, Cert.MergeRefIdeal.Read.val_main_v70, Cert.MergeRefIdeal.Read.val_main_cst_1, Cert.MergeRefIdeal.Read.val_main_cst_2, Cert.MergeRefIdeal.Read.val_main_cst_3, Cert.MergeRefIdeal.Read.val_main_cst_4, href24, href8]
  refine congrArg (· * (sg (X (ix2 r q)) * (1 - sg (X (ix2 r q))))) ((pick2 _ _ _ ⟨⟨by omega, by omega⟩, by omega⟩ (by omega) (by omega)).trans ?_)
  have e : ∀ h, (⟨q.val % 1024, h⟩ : Fin 1024) = j := fun h => Fin.ext (by simp only; omega)
  simp only [e]

/-- The sums over the rows. -/
theorem href69 (P X wp Y) (j) : Cert.MergeRefIdeal.Read.val_main_v69 (F := Ideal) P X wp Y j
    = if (j 0).val = 0 then ∑ k : Fin 16640, sg (X (ix2 k ⟨0 * 1024 + (j 1).val, by have := (j 1).isLt; simp at this; omega⟩)) * Y (ix2 k (j 1))
      else if (j 0).val = 1 then ∑ k : Fin 16640, grp P wp k (j 1) * (sg (X (ix2 k ⟨1 * 1024 + (j 1).val, by have := (j 1).isLt; simp at this; omega⟩)) * Y (ix2 k (j 1))) else 0 := by
  pointwise [Cert.MergeRefIdeal.Read.val_main_v40, Cert.MergeRefIdeal.Read.val_main_v45, Cert.MergeRefIdeal.Read.val_main_v50, Cert.MergeRefIdeal.Read.val_main_v57, Cert.MergeRefIdeal.Read.val_main_v58, Cert.MergeRefIdeal.Read.val_main_v59, Cert.MergeRefIdeal.Read.val_main_v62, Cert.MergeRefIdeal.Read.val_main_v63, Cert.MergeRefIdeal.Read.val_main_v64, Cert.MergeRefIdeal.Read.val_main_v65, Cert.MergeRefIdeal.Read.val_main_v66, Cert.MergeRefIdeal.Read.val_main_v67, Cert.MergeRefIdeal.Read.val_main_v68, Cert.MergeRefIdeal.Read.val_main_v69, Cert.MergeRefIdeal.Read.val_main_cst_5, Cert.MergeRefIdeal.Read.val_main_cst_6, Cert.MergeRefIdeal.Read.val_main_cst_7, Cert.MergeRefIdeal.Read.val_main_cst_8, Cert.MergeRefIdeal.Read.val_main_cst_9, href8, href30, href33]
  by_cases h0 : (j 0).val = 0
  · exact (dif_pos (by omega)).trans ((Fin.sum_univ_one _).trans (if_pos h0).symm)
  · by_cases h1 : (j 0).val = 1
    · exact (dif_neg (by omega)).trans ((dif_pos (by omega)).trans ((Fin.sum_univ_one _).trans ((if_neg h0).trans (if_pos h1)).symm))
    · exact (dif_neg (by omega)).trans ((dif_neg (by omega)).trans ((if_neg h0).trans (if_neg h1)).symm)

end Cert.MergeIdeal.Value

end
-- ==== Proof.MergeValue.lean ====
/- The gradient of the gate merge: the five arrays the call leaves are the reference's. -/
module

public import proofs.«01_k».proof.Proof.Gen.MergeIdeal.Value
public import proofs.«01_k».proof.Proof.MergeEntries
public import proofs.«01_k».proof.Proof.Stores
public import Idealize.ShloMosaic.Lib.Pipeline.ValueKit
public import Idealize.ShloMosaic.Lib.WritesUnit

@[expose] public section

set_option maxRecDepth 16384

noncomputable section

namespace Cert.MergeIdeal.Value

open Cert.MergeIdeal Cert.MergeIdeal.Gen Idealize.ShloMosaic Idealize.ShloMosaic.TcCoe Idealize.SL.Sem
open Idealize.ShloMosaic.Pipeline (Dat)

variable (m : (ℓ : Loc nD τ sig) → Buf (Elt Ideal) ℓ)

/-- The arguments of a device. -/
abbrev aS (c : Dev nD) : FVec Ideal S16640x256 .bf16 := m ((c : Thread nD τ).loc main_arg0)
abbrev aP (c : Dev nD) : FVec Ideal S16640x256 .bf16 := m ((c : Thread nD τ).loc main_arg1)
abbrev aA (c : Dev nD) : FVec Ideal S16640x512 .bf16 := m ((c : Thread nD τ).loc main_arg2)
abbrev aX (c : Dev nD) : FVec Ideal S16640x3072 .bf16 := m ((c : Thread nD τ).loc main_arg3)
abbrev aWc (c : Dev nD) : FVec Ideal S256x1024 .bf16 := m ((c : Thread nD τ).loc main_arg4)
abbrev aWp (c : Dev nD) : FVec Ideal S4x64x256 .bf16 := m ((c : Thread nD τ).loc main_arg5)
abbrev aWa (c : Dev nD) : FVec Ideal S512x1024 .bf16 := m ((c : Thread nD τ).loc main_arg6)
abbrev aB (c : Dev nD) : FVec Ideal S1024 .f32 := m ((c : Thread nD τ).loc main_arg7)
abbrev aV (c : Dev nD) : FVec Ideal S1024 .f32 := m ((c : Thread nD τ).loc main_arg8)
abbrev aY (c : Dev nD) : FVec Ideal S16640x1024 .bf16 := m ((c : Thread nD τ).loc main_arg9)

/-- A tile's entry of an argument. -/
theorem blk0 (c : Dev nD) (t : Fin cfg0.N) (x : Fin 256) (k : Fin 256) (r : Fin 16640) (hr : r.val = t.val * 256 + x.val) :
    (iblk m c 0 t : Vec Ideal S256x256 .bf16) (ix2 x k) = aS m c (ix2 r k) := by
  blk_point [iblk, V, idx t]

theorem blk1 (c : Dev nD) (t : Fin cfg0.N) (x : Fin 256) (k : Fin 256) (r : Fin 16640) (hr : r.val = t.val * 256 + x.val) :
    (iblk m c 1 t : Vec Ideal S256x256 .bf16) (ix2 x k) = aP m c (ix2 r k) := by
  blk_point [iblk, V, idx t]

theorem blk2 (c : Dev nD) (t : Fin cfg0.N) (x : Fin 256) (k : Fin 512) (r : Fin 16640) (hr : r.val = t.val * 256 + x.val) :
    (iblk m c 2 t : Vec Ideal S256x512 .bf16) (ix2 x k) = aA m c (ix2 r k) := by
  blk_point [iblk, V, idx t]

theorem blk3 (c : Dev nD) (t : Fin cfg0.N) (x : Fin 256) (k : Fin 3072) (r : Fin 16640) (hr : r.val = t.val * 256 + x.val) :
    (iblk m c 3 t : Vec Ideal S256x3072 .bf16) (ix2 x k) = aX m c (ix2 r k) := by
  blk_point [iblk, V, idx t]

theorem blk9 (c : Dev nD) (t : Fin cfg0.N) (x : Fin 256) (k : Fin 1024) (r : Fin 16640) (hr : r.val = t.val * 256 + x.val) :
    (iblk m c 9 t : Vec Ideal S256x1024 .bf16) (ix2 x k) = aY m c (ix2 r k) := by
  blk_point [iblk, V, idx t]

theorem blk4 (c : Dev nD) (t : Fin cfg0.N) (x : Fin 256) (k : Fin 1024) :
    (iblk m c 4 t : Vec Ideal S256x1024 .bf16) (ix2 x k) = aWc m c (ix2 x k) := by
  blk_point [iblk, V, idx t]

theorem blk6 (c : Dev nD) (t : Fin cfg0.N) (x : Fin 512) (k : Fin 1024) :
    (iblk m c 6 t : Vec Ideal S512x1024 .bf16) (ix2 x k) = aWa m c (ix2 x k) := by
  blk_point [iblk, V, idx t]

theorem blk7 (c : Dev nD) (t : Fin cfg0.N) (k : Fin 1024) :
    (iblk m c 7 t : Vec Ideal S1x1024 .f32) (ix2 0 k) = aB m c (ix1 k) := by
  blk_point [iblk, V, idx t]

theorem blk8 (c : Dev nD) (t : Fin cfg0.N) (k : Fin 1024) :
    (iblk m c 8 t : Vec Ideal S1x1024 .f32) (ix2 0 k) = aV m c (ix1 k) := by
  blk_point [iblk, V, idx t]

theorem blk5 (c : Dev nD) (t : Fin cfg0.N) (x : Fin 256) (k : Fin 1024) :
    (iblk m c 5 t : Vec Ideal S256x1024 .bf16) (ix2 x k) = (V m c main_v24 : FVec Ideal S256x1024 .bf16) (ix2 x k) := by
  blk_simp [iblk, idx t]
  refine congrArg (V m c main_v24) (funext fun a => ?_)
  match a with
  | ⟨0, _⟩ => exact Fin.ext (by blk_simp [idx t])
  | ⟨1, _⟩ => exact Fin.ext (by blk_simp [idx t])

/-- A tile's entry of one of the three gates. -/
theorem gate0 (c : Dev nD) (t : Fin cfg0.N) (x : Fin 256) (j : Fin 1024) (r : Fin 16640) (hr : r.val = t.val * 256 + x.val) (q : Fin 3072) (hq : q.val = 0 * 1024 + j.val) :
    ((View.ld (iblk m c 3 t) (Rect.unit (s := S256x3072) ![0, 0] ![256, 1024] inb_S256x3072_S256x1024_0_0)) : Vec Ideal S256x1024 .bf16) (ix2 x j) = aX m c (ix2 r q) := by
  rw [View.ld_apply]
  refine Eq.trans (congrArg (iblk m c 3 t : Vec Ideal S256x3072 .bf16) (?_ : _ = ix2 x q)) (blk3 m c t x q r hr)
  funext a
  refine Fin.ext ?_
  rw [Rect.idx_unit_val]
  match a with
  | ⟨0, _⟩ => simp
  | ⟨1, _⟩ => simp [hq]

theorem gate1 (c : Dev nD) (t : Fin cfg0.N) (x : Fin 256) (j : Fin 1024) (r : Fin 16640) (hr : r.val = t.val * 256 + x.val) (q : Fin 3072) (hq : q.val = 1 * 1024 + j.val) :
    ((View.ld (iblk m c 3 t) (Rect.unit (s := S256x3072) ![0, 1024] ![256, 1024] inb_S256x3072_S256x1024_0_1024)) : Vec Ideal S256x1024 .bf16) (ix2 x j) = aX m c (ix2 r q) := by
  rw [View.ld_apply]
  refine Eq.trans (congrArg (iblk m c 3 t : Vec Ideal S256x3072 .bf16) (?_ : _ = ix2 x q)) (blk3 m c t x q r hr)
  funext a
  refine Fin.ext ?_
  rw [Rect.idx_unit_val]
  match a with
  | ⟨0, _⟩ => simp
  | ⟨1, _⟩ => simp [hq]

theorem gate2 (c : Dev nD) (t : Fin cfg0.N) (x : Fin 256) (j : Fin 1024) (r : Fin 16640) (hr : r.val = t.val * 256 + x.val) (q : Fin 3072) (hq : q.val = 2 * 1024 + j.val) :
    ((View.ld (iblk m c 3 t) (Rect.unit (s := S256x3072) ![0, 2048] ![256, 1024] inb_S256x3072_S256x1024_0_2048)) : Vec Ideal S256x1024 .bf16) (ix2 x j) = aX m c (ix2 r q) := by
  rw [View.ld_apply]
  refine Eq.trans (congrArg (iblk m c 3 t : Vec Ideal S256x3072 .bf16) (?_ : _ = ix2 x q)) (blk3 m c t x q r hr)
  funext a
  refine Fin.ext ?_
  rw [Rect.idx_unit_val]
  match a with
  | ⟨0, _⟩ => simp
  | ⟨1, _⟩ => simp [hq]

/-- A tile of the three branches. -/
theorem ya (c : Dev nD) (t : Fin cfg0.N) (x : Fin 256) (j : Fin 1024) (r : Fin 16640) (hr : r.val = t.val * 256 + x.val) :
    k0_pay9 (F := Ideal) (iblk m c 0 t) (iblk m c 4 t) (iblk m c 7 t) (ix2 x j) = (∑ k : Fin 256, aS m c (ix2 r k) * aWc m c (ix2 k j)) + aB m c (ix1 j) :=
  (hpay9 _ _ _ _).trans (congrArg₂ (· + ·) (Finset.sum_congr rfl fun k _ => congrArg₂ (· * ·) (blk0 m c t x k r hr) (blk4 m c t k j)) (blk7 m c t j))

theorem zb (c : Dev nD) (t : Fin cfg0.N) (x : Fin 256) (j : Fin 1024) (r : Fin 16640) (hr : r.val = t.val * 256 + x.val) :
    k0_pay10 (F := Ideal) (iblk m c 1 t) (iblk m c 5 t) (ix2 x j) = grp (aP m c) (aWp m c) r j := by
  have key : ∀ W : FVec Ideal S256x1024 .bf16, (∀ k, (iblk m c 5 t : Vec Ideal S256x1024 .bf16) (ix2 k j) = W (ix2 k j)) →
      k0_pay10 (F := Ideal) (iblk m c 1 t) (iblk m c 5 t) (ix2 x j) = ∑ k : Fin 256, aP m c (ix2 r k) * W (ix2 k j) := fun W hW => by
    rw [hpay10]
    exact Finset.sum_congr rfl fun k _ => congrArg₂ (· * ·) (blk1 m c t x k r hr) (hW k)
  rw [key (V m c main_v24) fun k => blk5 m c t k j]
  exact hgrp m c (aP m c) r j

theorem zc (c : Dev nD) (t : Fin cfg0.N) (x : Fin 256) (j : Fin 1024) (r : Fin 16640) (hr : r.val = t.val * 256 + x.val) :
    k0_pay11 (F := Ideal) (iblk m c 2 t) (iblk m c 6 t) (ix2 x j) = ∑ k : Fin 512, aA m c (ix2 r k) * aWa m c (ix2 k j) :=
  (hpay11 _ _ _).trans (Finset.sum_congr rfl fun k _ => congrArg₂ (· * ·) (blk2 m c t x k r hr) (blk6 m c t k j))

/-- What a tile stores of the branches' gradients is the reference's. -/
theorem point11 (c : Dev nD) (t : Fin cfg0.N) (x : Fin 256) (j : Fin 1024) (r : Fin 16640) (hr : r.val = t.val * 256 + x.val) :
    k0_pay3 (F := Ideal) (k0_pay12 (View.ld (iblk m c 3 t) (Rect.unit (s := S256x3072) ![0, 0] ![256, 1024] inb_S256x3072_S256x1024_0_0))) (k0_pay16 (iblk m c 9 t)) (ix2 x j)
      = Cert.MergeRefIdeal.Read.val_main_v71 (F := Ideal) (aX m c) (aY m c) (ix2 r j) := by
  rw [hpay3, hpay12, hpay16, href71, gate0 m c t x j r hr ⟨0 * 1024 + j.val, by omega⟩ rfl, blk9 m c t x j r hr, mul_comm]

theorem out11 (c : Dev nD) (t : Fin cfg0.N) : (outsAt0 m c t.val t.isLt).2.1
    = k0_pay3 (F := Ideal) (k0_pay12 (View.ld (iblk m c 3 t) (Rect.unit (s := S256x3072) ![0, 0] ![256, 1024] inb_S256x3072_S256x1024_0_0))) (k0_pay16 (iblk m c 9 t)) := by
  by_cases h0 : t.val % 65 = 0
  · rw [outsAt0_A m c t h0]; funext y; frame_out; rfl
  · rw [outsAt0_B m c t h0]; funext y; frame_out; rfl

/-- The array after the run is the reference's. -/
theorem final1 (c : Dev nD) : (dats m 0 c).arrAt 11 (cfgs 0).N
    = Cert.MergeRefIdeal.Read.val_main_v71 (F := Ideal) (aX m c) (aY m c) := by
  refine (dats m 0 c).arrAt_eq_of_covers 11 _ (by decide +kernel) fun t _ y => ?_
  blk_simp
  rw [after0_11, out11]
  have e0 : ((win0_11.blk t).view.emb y 0).val = t.val * 256 + (y 0).val := by blk_simp [idx t]
  have e1 : (win0_11.blk t).view.emb y 1 = y 1 := Fin.ext (by blk_simp [idx t])
  have hj : ix2 ((win0_11.blk t).view.emb y 0) (y 1) = (win0_11.blk t).view.emb y := (congrArg (ix2 ((win0_11.blk t).view.emb y 0)) e1.symm).trans (ix2_eta _)
  exact (congrArg _ (ix2_eta y)).symm.trans ((point11 m c t (y 0) (y 1) ((win0_11.blk t).view.emb y 0) e0).trans (congrArg _ hj))

theorem point12 (c : Dev nD) (t : Fin cfg0.N) (x : Fin 256) (j : Fin 1024) (r : Fin 16640) (hr : r.val = t.val * 256 + x.val) :
    k0_pay4 (F := Ideal) (k0_pay14 (k0_pay13 (View.ld (iblk m c 3 t) (Rect.unit (s := S256x3072) ![0, 1024] ![256, 1024] inb_S256x3072_S256x1024_0_1024)))) (k0_pay16 (iblk m c 9 t)) (k0_pay17 (iblk m c 8 t)) (ix2 x j)
      = Cert.MergeRefIdeal.Read.val_main_v72 (F := Ideal) (aX m c) (aV m c) (aY m c) (ix2 r j) := by
  refine (hpay4 _ _ _ _).trans (Eq.trans ?_ (href72 _ _ _ r j).symm)
  refine congrArg₂ (· * ·) ?_ ((hpay17 _ _).trans (blk8 m c t j))
  rw [hpay16, hpay14, gate1 m c t x j r hr ⟨1 * 1024 + j.val, by omega⟩ rfl, blk9 m c t x j r hr, mul_comm]

theorem out12 (c : Dev nD) (t : Fin cfg0.N) : (outsAt0 m c t.val t.isLt).2.2.1
    = k0_pay4 (F := Ideal) (k0_pay14 (k0_pay13 (View.ld (iblk m c 3 t) (Rect.unit (s := S256x3072) ![0, 1024] ![256, 1024] inb_S256x3072_S256x1024_0_1024)))) (k0_pay16 (iblk m c 9 t)) (k0_pay17 (iblk m c 8 t)) := by
  by_cases h0 : t.val % 65 = 0
  · rw [outsAt0_A m c t h0]; funext y; frame_out; rfl
  · rw [outsAt0_B m c t h0]; funext y; frame_out; rfl

/-- The array after the run is the reference's. -/
theorem final2 (c : Dev nD) : (dats m 0 c).arrAt 12 (cfgs 0).N
    = Cert.MergeRefIdeal.Read.val_main_v72 (F := Ideal) (aX m c) (aV m c) (aY m c) := by
  refine (dats m 0 c).arrAt_eq_of_covers 12 _ (by decide +kernel) fun t _ y => ?_
  blk_simp
  rw [after0_12, out12]
  have e0 : ((win0_12.blk t).view.emb y 0).val = t.val * 256 + (y 0).val := by blk_simp [idx t]
  have e1 : (win0_12.blk t).view.emb y 1 = y 1 := Fin.ext (by blk_simp [idx t])
  have hj : ix2 ((win0_12.blk t).view.emb y 0) (y 1) = (win0_12.blk t).view.emb y := (congrArg (ix2 ((win0_12.blk t).view.emb y 0)) e1.symm).trans (ix2_eta _)
  exact (congrArg _ (ix2_eta y)).symm.trans ((point12 m c t (y 0) (y 1) ((win0_12.blk t).view.emb y 0) e0).trans (congrArg _ hj))

theorem point13 (c : Dev nD) (t : Fin cfg0.N) (x : Fin 256) (j : Fin 1024) (r : Fin 16640) (hr : r.val = t.val * 256 + x.val) :
    k0_pay5 (F := Ideal) (k0_pay15 (View.ld (iblk m c 3 t) (Rect.unit (s := S256x3072) ![0, 2048] ![256, 1024] inb_S256x3072_S256x1024_0_2048))) (k0_pay16 (iblk m c 9 t)) (ix2 x j)
      = Cert.MergeRefIdeal.Read.val_main_v73 (F := Ideal) (aX m c) (aY m c) (ix2 r j) := by
  rw [hpay5, hpay15, hpay16, href73, gate2 m c t x j r hr ⟨2 * 1024 + j.val, by omega⟩ rfl, blk9 m c t x j r hr, mul_comm]

theorem out13 (c : Dev nD) (t : Fin cfg0.N) : (outsAt0 m c t.val t.isLt).2.2.2.1
    = k0_pay5 (F := Ideal) (k0_pay15 (View.ld (iblk m c 3 t) (Rect.unit (s := S256x3072) ![0, 2048] ![256, 1024] inb_S256x3072_S256x1024_0_2048))) (k0_pay16 (iblk m c 9 t)) := by
  by_cases h0 : t.val % 65 = 0
  · rw [outsAt0_A m c t h0]; funext y; frame_out; rfl
  · rw [outsAt0_B m c t h0]; funext y; frame_out; rfl

/-- The array after the run is the reference's. -/
theorem final3 (c : Dev nD) : (dats m 0 c).arrAt 13 (cfgs 0).N
    = Cert.MergeRefIdeal.Read.val_main_v73 (F := Ideal) (aX m c) (aY m c) := by
  refine (dats m 0 c).arrAt_eq_of_covers 13 _ (by decide +kernel) fun t _ y => ?_
  blk_simp
  rw [after0_13, out13]
  have e0 : ((win0_13.blk t).view.emb y 0).val = t.val * 256 + (y 0).val := by blk_simp [idx t]
  have e1 : (win0_13.blk t).view.emb y 1 = y 1 := Fin.ext (by blk_simp [idx t])
  have hj : ix2 ((win0_13.blk t).view.emb y 0) (y 1) = (win0_13.blk t).view.emb y := (congrArg (ix2 ((win0_13.blk t).view.emb y 0)) e1.symm).trans (ix2_eta _)
  exact (congrArg _ (ix2_eta y)).symm.trans ((point13 m c t (y 0) (y 1) ((win0_13.blk t).view.emb y 0) e0).trans (congrArg _ hj))

/-- The three stores of a tile of the gates' gradients, the last one first. -/
abbrev gateStores (c : Dev nD) (t : Fin cfg0.N) : List (View.Piece (Elt Ideal) S256x3072 .bf16) :=
  [⟨Rect.unit (s := S256x3072) ![0, 2048] ![256, 1024] inb_S256x3072_S256x1024_0_2048, k0_pay20 (k0_pay11 (iblk m c 2 t) (iblk m c 6 t)) (View.ld (iblk m c 3 t) (Rect.unit (s := S256x3072) ![0, 2048] ![256, 1024] inb_S256x3072_S256x1024_0_2048)) (iblk m c 9 t)⟩,
   ⟨Rect.unit (s := S256x3072) ![0, 1024] ![256, 1024] inb_S256x3072_S256x1024_0_1024, k0_pay19 (k0_pay10 (iblk m c 1 t) (iblk m c 5 t)) (k0_pay13 (View.ld (iblk m c 3 t) (Rect.unit (s := S256x3072) ![0, 1024] ![256, 1024] inb_S256x3072_S256x1024_0_1024))) (iblk m c 9 t) (iblk m c 8 t)⟩,
   ⟨Rect.unit (s := S256x3072) ![0, 0] ![256, 1024] inb_S256x3072_S256x1024_0_0, k0_pay18 (k0_pay9 (iblk m c 0 t) (iblk m c 4 t) (iblk m c 7 t)) (k0_pay12 (View.ld (iblk m c 3 t) (Rect.unit (s := S256x3072) ![0, 0] ![256, 1024] inb_S256x3072_S256x1024_0_0))) (iblk m c 9 t)⟩]

/-- What a tile stores of the gates' gradients is the reference's. -/
theorem point10 (c : Dev nD) (t : Fin cfg0.N) (x : Fin 256) (q : Fin 3072) (r : Fin 16640) (hr : r.val = t.val * 256 + x.val) :
    View.canon (gateStores m c t) (ix2 x q)
      = Cert.MergeRefIdeal.Read.val_main_v70 (F := Ideal) (aS m c) (aP m c) (aA m c) (aX m c) (aWc m c) (aWp m c) (aWa m c) (aB m c) (aV m c) (aY m c) (ix2 r q) := by
  by_cases h2 : 2048 ≤ q.val
  · refine (Cert.Stores.canon_hit (S := S256x3072) ![0, 2048] ![256, 1024] inb_S256x3072_S256x1024_0_2048 _ _ (ix2 x q) (ix2 x (⟨q.val - 2048, by omega⟩ : Fin 1024)) (by intro a; match a with | ⟨0, _⟩ => simp | ⟨1, _⟩ => simp <;> omega)).trans ?_
    refine (hpay20 _ _ _ _).trans (Eq.trans ?_ (href70_2 _ _ _ _ _ _ _ _ _ _ r ⟨q.val - 2048, by omega⟩ q (by simp only; omega)).symm)
    rw [zc m c t x _ r hr, gate2 m c t x _ r hr q (by simp only; omega), blk9 m c t x _ r hr, mul_assoc]
  · by_cases h1 : 1024 ≤ q.val
    · refine (Cert.Stores.canon_miss (S := S256x3072) ![0, 2048] ![256, 1024] inb_S256x3072_S256x1024_0_2048 _ _ (ix2 x q) 1 (Or.inl (by simp <;> omega))).trans ((Cert.Stores.canon_hit (S := S256x3072) ![0, 1024] ![256, 1024] inb_S256x3072_S256x1024_0_1024 _ _ (ix2 x q) (ix2 x (⟨q.val - 1024, by omega⟩ : Fin 1024)) (by intro a; match a with | ⟨0, _⟩ => simp | ⟨1, _⟩ => simp <;> omega)).trans ?_)
      refine (hpay19 _ _ _ _ _).trans (Eq.trans ?_ (href70_1 _ _ _ _ _ _ _ _ _ _ r ⟨q.val - 1024, by omega⟩ q (by simp only; omega)).symm)
      rw [zb m c t x _ r hr, gate1 m c t x _ r hr q (by simp only; omega), blk9 m c t x _ r hr, mul_assoc]
      exact congrArg (fun z => aY m c (ix2 r ⟨q.val - 1024, by omega⟩) * (grp (aP m c) (aWp m c) r ⟨q.val - 1024, by omega⟩ * z) * _) (blk8 m c t _)
    · refine (Cert.Stores.canon_miss (S := S256x3072) ![0, 2048] ![256, 1024] inb_S256x3072_S256x1024_0_2048 _ _ (ix2 x q) 1 (Or.inl (by simp <;> omega))).trans ((Cert.Stores.canon_miss (S := S256x3072) ![0, 1024] ![256, 1024] inb_S256x3072_S256x1024_0_1024 _ _ (ix2 x q) 1 (Or.inl (by simp <;> omega))).trans ((Cert.Stores.canon_hit (S := S256x3072) ![0, 0] ![256, 1024] inb_S256x3072_S256x1024_0_0 _ _ (ix2 x q) (ix2 x (⟨q.val - 0, by omega⟩ : Fin 1024)) (by intro a; match a with | ⟨0, _⟩ => simp | ⟨1, _⟩ => simp <;> omega)).trans ?_))
      refine (hpay18 _ _ _ _).trans (Eq.trans ?_ (href70_0 _ _ _ _ _ _ _ _ _ _ r ⟨q.val - 0, by omega⟩ q (by simp only; omega)).symm)
      rw [ya m c t x _ r hr, hpay12, gate0 m c t x _ r hr q (by simp only; omega), blk9 m c t x _ r hr, mul_assoc]

theorem out10 (c : Dev nD) (t : Fin cfg0.N) : (outsAt0 m c t.val t.isLt).1 = View.canon (gateStores m c t) := by
  by_cases h0 : t.val % 65 = 0
  · rw [outsAt0_A m c t h0]; funext y; frame_out; rfl
  · rw [outsAt0_B m c t h0]; funext y; frame_out; rfl

/-- The gates' gradient after the run is the reference's. -/
theorem final0 (c : Dev nD) : (dats m 0 c).arrAt 10 (cfgs 0).N
    = Cert.MergeRefIdeal.Read.val_main_v70 (F := Ideal) (aS m c) (aP m c) (aA m c) (aX m c) (aWc m c) (aWp m c) (aWa m c) (aB m c) (aV m c) (aY m c) := by
  refine (dats m 0 c).arrAt_eq_of_covers 10 _ (by decide +kernel) fun t _ y => ?_
  blk_simp
  rw [after0_10, out10]
  have e0 : ((win0_10.blk t).view.emb y 0).val = t.val * 256 + (y 0).val := by blk_simp [idx t]
  have e1 : (win0_10.blk t).view.emb y 1 = y 1 := Fin.ext (by blk_simp [idx t])
  have hj : ix2 ((win0_10.blk t).view.emb y 0) (y 1) = (win0_10.blk t).view.emb y := (congrArg (ix2 ((win0_10.blk t).view.emb y 0)) e1.symm).trans (ix2_eta _)
  exact (congrArg _ (ix2_eta y)).symm.trans ((point10 m c t (y 0) (y 1) ((win0_10.blk t).view.emb y 0) e0).trans (congrArg _ hj))

/-- One row's addend to the two sums over the rows. -/
abbrev row0 (c : Dev nD) (r : Fin 16640) (j : Fin 1024) : EReal := sg (aX m c (ix2 r ⟨0 * 1024 + j.val, by omega⟩)) * aY m c (ix2 r j)
abbrev row1 (c : Dev nD) (r : Fin 16640) (j : Fin 1024) : EReal :=
  grp (aP m c) (aWp m c) r j * (sg (aX m c (ix2 r ⟨1 * 1024 + j.val, by omega⟩)) * aY m c (ix2 r j))

/-- A tile's row. -/
abbrev at_ (t : Fin cfg0.N) (k : Fin 256) : Fin 16640 := ⟨t.val * 256 + k.val, by have h : t.val < 65 := t.isLt; omega⟩

/-- A tile's part of the two sums. -/
def part (c : Dev nD) (t : Fin cfg0.N) (y : S8x1024.Idx) : EReal :=
  if (y 0).val = 0 then ∑ k : Fin 256, row0 m c (at_ t k) (y 1) else if (y 0).val = 1 then ∑ k : Fin 256, row1 m c (at_ t k) (y 1) else 0

/-- What a tile adds to the two rows. -/
theorem add0 (c : Dev nD) (t : Fin cfg0.N) (acc) (y : S1x1024.Idx) :
    k0_pay6 (F := Ideal) (k0_pay12 (View.ld (iblk m c 3 t) (Rect.unit (s := S256x3072) ![0, 0] ![256, 1024] inb_S256x3072_S256x1024_0_0))) (k0_pay16 (iblk m c 9 t)) acc y = acc y + ∑ k : Fin 256, row0 m c (at_ t k) (y 1) := by
  refine (hpay6 _ _ _ _).trans (congrArg (acc y + ·) (Finset.sum_congr rfl fun k _ => ?_))
  rw [hpay12, hpay16, gate0 m c t k (y 1) (at_ t k) rfl ⟨0 * 1024 + (y 1).val, by have h : (y 1).val < 1024 := (y 1).isLt; omega⟩ rfl, blk9 m c t k (y 1) (at_ t k) rfl, mul_comm]

theorem add1 (c : Dev nD) (t : Fin cfg0.N) (acc) (y : S1x1024.Idx) :
    k0_pay7 (F := Ideal) (k0_pay10 (iblk m c 1 t) (iblk m c 5 t)) (k0_pay14 (k0_pay13 (View.ld (iblk m c 3 t) (Rect.unit (s := S256x3072) ![0, 1024] ![256, 1024] inb_S256x3072_S256x1024_0_1024)))) (k0_pay16 (iblk m c 9 t)) acc y = acc y + ∑ k : Fin 256, row1 m c (at_ t k) (y 1) := by
  refine (hpay7 _ _ _ _ _).trans (congrArg (acc y + ·) (Finset.sum_congr rfl fun k _ => ?_))
  rw [hpay14, hpay16, gate1 m c t k (y 1) (at_ t k) rfl ⟨1 * 1024 + (y 1).val, by have h : (y 1).val < 1024 := (y 1).isLt; omega⟩ rfl, blk9 m c t k (y 1) (at_ t k) rfl, zb m c t k (y 1) (at_ t k) rfl, mul_comm,
    mul_comm (aY m c _)]

/-- The first point starts from zero. -/
theorem out14_A (c : Dev nD) (t : Fin cfg0.N) (h0 : t.val % 65 = 0) (y) : (outsAt0 m c t.val t.isLt).2.2.2.2 y = 0 + part m c t y := by
  rw [outsAt0_A m c t h0]
  frame_out
  have hz : ∀ z, View.canon (Val := Elt Ideal) (e := .f32) [⟨Rect.unit (s := S8x1024) ![0, 0] ![8, 1024] inb_S8x1024_S8x1024_0_0, k0_pay8 (F := Ideal)⟩] z = 0 := fun z => by
    refine (Cert.Stores.canon_hit (S := S8x1024) ![0, 0] ![8, 1024] inb_S8x1024_S8x1024_0_0 _ _ z z ?_).trans ?_
    · intro a; match a with | 0 => simp | 1 => simp
    · pointwise [k0_pay8]
  unfold part
  by_cases h0 : (y 0).val = 0
  · rw [if_pos h0]
    refine (Cert.Stores.canon_miss (S := S8x1024) ![1, 0] ![1, 1024] inb_S8x1024_S1x1024_1_0 _ _ y 0 (Or.inl (by simp [h0]))).trans ((Cert.Stores.canon_hit (S := S8x1024) ![0, 0] ![1, 1024] inb_S8x1024_S1x1024_0_0 _ _ y (ix2 (0 : Fin 1) (⟨(y 1).val, (y 1).isLt⟩ : Fin 1024)) (by intro a; match a with | 0 => simp [h0] | 1 => simp)).trans ?_)
    refine (add0 m c t _ _).trans (congrArg₂ (· + ·) ?_ rfl)
    rw [View.readCov_eq_canon']
    exact hz _
  · rw [if_neg h0]
    by_cases h1 : (y 0).val = 1
    · rw [if_pos h1]
      refine (Cert.Stores.canon_hit (S := S8x1024) ![1, 0] ![1, 1024] inb_S8x1024_S1x1024_1_0 _ _ y (ix2 (0 : Fin 1) (⟨(y 1).val, (y 1).isLt⟩ : Fin 1024)) (by intro a; match a with | 0 => simp [h1] | 1 => simp)).trans ?_
      refine (add1 m c t _ _).trans (congrArg₂ (· + ·) ?_ rfl)
      rw [View.readCov_eq_canon']
      refine (Cert.Stores.canon_miss (S := S8x1024) ![0, 0] ![1, 1024] inb_S8x1024_S1x1024_0_0 _ _ _ 0 (Or.inr (by rw [Rect.idx_unit_val]; simp))).trans (hz _)
    · rw [if_neg h1]
      refine (Cert.Stores.canon_miss (S := S8x1024) ![1, 0] ![1, 1024] inb_S8x1024_S1x1024_1_0 _ _ y 0 (Or.inr (by simp <;> omega))).trans ((Cert.Stores.canon_miss (S := S8x1024) ![0, 0] ![1, 1024] inb_S8x1024_S1x1024_0_0 _ _ y 0 (Or.inr (by simp <;> omega))).trans ?_)
      rw [hz, add_zero]

/-- A later point adds its part. -/
theorem out14_B (c : Dev nD) (t : Fin cfg0.N) (hb : ¬ t.val % 65 = 0) (y) : (outsAt0 m c t.val t.isLt).2.2.2.2 y
    = (outsAt0 m c (t.val - 1) (Nat.lt_of_le_of_lt (Nat.sub_le _ _) t.isLt)).2.2.2.2 y + part m c t y := by
  rw [outsAt0_B m c t hb]
  frame_out
  unfold part
  by_cases h0 : (y 0).val = 0
  · rw [if_pos h0]
    refine (View.read_writes_cons_unit_of_not_mem (s := S8x1024) _ _ inb_S8x1024_S1x1024_1_0 _ _ y rfl 0 (Or.inl (by simp [h0]))).trans ((View.read_writes_cons_unit_of_mem (s := S8x1024) _ _ inb_S8x1024_S1x1024_0_0 _ _ y (ix2 (0 : Fin 1) (⟨(y 1).val, (y 1).isLt⟩ : Fin 1024)) rfl (by intro a; match a with | 0 => simp [h0] | 1 => simp)).trans ?_)
    refine (add0 m c t _ _).trans (congrArg₂ (· + ·) ?_ rfl)
    rw [View.ld_apply]
    refine congrArg (outsAt0 m c (t.val - 1) (Nat.lt_of_le_of_lt (Nat.sub_le _ _) t.isLt)).2.2.2.2 ?_
    funext a
    refine Fin.ext ?_
    rw [Rect.idx_unit_val]
    match a with
    | 0 => simp [h0]
    | 1 => simp
  · rw [if_neg h0]
    by_cases h1 : (y 0).val = 1
    · rw [if_pos h1]
      refine (View.read_writes_cons_unit_of_mem (s := S8x1024) _ _ inb_S8x1024_S1x1024_1_0 _ _ y (ix2 (0 : Fin 1) (⟨(y 1).val, (y 1).isLt⟩ : Fin 1024)) rfl (by intro a; match a with | 0 => simp [h1] | 1 => simp)).trans ?_
      refine (add1 m c t _ _).trans (congrArg₂ (· + ·) ?_ rfl)
      rw [View.ld_apply]
      refine congrArg (outsAt0 m c (t.val - 1) (Nat.lt_of_le_of_lt (Nat.sub_le _ _) t.isLt)).2.2.2.2 ?_
      funext a
      refine Fin.ext ?_
      rw [Rect.idx_unit_val]
      match a with
      | 0 => simp [h1]
      | 1 => simp
    · rw [if_neg h1, add_zero]
      refine (View.read_writes_cons_unit_of_not_mem (s := S8x1024) _ _ inb_S8x1024_S1x1024_1_0 _ _ y rfl 0 (Or.inr (by simp <;> omega))).trans ((View.read_writes_cons_unit_of_not_mem (s := S8x1024) _ _ inb_S8x1024_S1x1024_0_0 _ _ y rfl 0 (Or.inr (by simp <;> omega))).trans ?_)
      exact congrFun (Memref.IsWhole.read_unread _ _) y

/-- The two sums over all rows. -/
def sums (c : Dev nD) (i : ℕ) (j : Fin 1024) : EReal :=
  if i = 0 then ∑ k : Fin 16640, row0 m c k j else if i = 1 then ∑ k : Fin 16640, row1 m c k j else 0

/-- The tiles' parts together are the sums over all rows. -/
theorem sum_part (c : Dev nD) (t : Fin cfg0.N) (y : S8x1024.Idx) :
    (∑ s : Fin 65, part m c ⟨65 * (t.val / 65) + s.val, by have := t.isLt; have h' : t.val < 65 := this; have h2 : cfg0.N = 65 := rfl; omega⟩ y : EReal)
      = sums m c (y 0).val (y 1) := by
  unfold sums
  have ht : ∀ s : Fin 65, 65 * (t.val / 65) + s.val = s.val := fun s => by have := t.isLt; have h' : t.val < 65 := this; omega
  by_cases h0 : (y 0).val = 0
  · rw [if_pos h0]
    refine Eq.trans (Finset.sum_congr rfl fun s _ => ?_) (Fin.sum_mul_add_congr (S := 65) (n := 256)
      (F := fun s k => row0 m c ⟨s.val * 256 + k.val, by omega⟩ (y 1)) fun s k hl => rfl)
    exact (if_pos h0).trans (Finset.sum_congr rfl fun k _ => congrArg (fun z => row0 m c z (y 1)) (Fin.ext (by simp [ht])))
  · rw [if_neg h0]
    by_cases h1 : (y 0).val = 1
    · rw [if_pos h1]
      refine Eq.trans (Finset.sum_congr rfl fun s _ => ?_) (Fin.sum_mul_add_congr (S := 65) (n := 256)
        (F := fun s k => row1 m c ⟨s.val * 256 + k.val, by omega⟩ (y 1)) fun s k hl => rfl)
      exact (if_neg h0).trans ((if_pos h1).trans (Finset.sum_congr rfl fun k _ => congrArg (fun z => row1 m c z (y 1)) (Fin.ext (by simp [ht]))))
    · rw [if_neg h1]
      exact Finset.sum_eq_zero fun s _ => (if_neg h0).trans (if_neg h1)

/-- The two sums over the rows after the run are the reference's. -/
theorem final4 (c : Dev nD) : (dats m 0 c).arrAt 14 (cfgs 0).N
    = Cert.MergeRefIdeal.Read.val_main_v69 (F := Ideal) (aP m c) (aX m c) (aWp m c) (aY m c) := by
  refine (dats m 0 c).arrAt_eq_of_covers 14 _ (by decide +kernel) fun t hf y => ?_
  blk_simp
  rw [after0_14, Pipeline.eq_sum_fin_of_reset_step_apply_of_flush (fun n h => (outsAt0 m c n h).2.2.2.2) 65 (fun _ => 0) (part m c)
    (out14_A m c) (out14_B m c) t ((flush0_14 t).mp hf) _, zero_add]
  have e0 : ((win0_14.blk t).view.emb y 0).val = (y 0).val := by blk_simp [idx t]
  have e1 : (win0_14.blk t).view.emb y 1 = y 1 := Fin.ext (by blk_simp [idx t])
  exact (sum_part m c t y).trans ((congrArg₂ (sums m c) e0.symm e1.symm).trans (href69 _ _ _ _ _).symm)

end Cert.MergeIdeal.Value

end
-- ==== Proof.MergeClaims.lean ====
/- The five claims about the Merge call: three frames, the idealisation, the equation. -/
module

public import proofs.«01_k».proof.Defs
public import proofs.«01_k».proof.Proof.MergeValue
public import proofs.«01_k».proof.Proof.Gen.Merge.Frame
public import proofs.«01_k».proof.Proof.Gen.MergeIdeal.Frame
public import proofs.«01_k».proof.Proof.Gen.MergeRefIdeal.Run
public import proofs.«01_k».proof.Proof.Gen.MergeRefIdeal.Read
public import Idealize.ShloMosaic.Adequacy
public import Idealize.ShloMosaic.Init

@[expose] public section

set_option maxRecDepth 16384

noncomputable section

namespace Cert.Proof.Merge

open Idealize.ShloMosaic Idealize.ShloMosaic.TcCoe Idealize.SL.Sem

/-- The call as printed ends with its arguments unchanged and its counters at zero. -/
theorem frame_p : Cert.quiescent_Merge := fun m ρ _ => Cert.Merge.Gen.frame m ρ

/-- So does the call over the reals. -/
theorem frame_pi : Cert.quiescent_MergeIdeal := fun m ρ _ => Cert.MergeIdeal.Gen.frame m ρ

/-- So does the reference, which has no counters. -/
theorem frame_ri : Cert.quiescent_MergeRefIdeal := fun m ρ _ =>
  (θ_run Cert.MergeRefIdeal.defs _ _).mono
    (fun r h => ⟨fun c => (h c).2.2.2.2.2, sem_eq_zero_of_no_sems (by decide) r.2⟩)
    (Cert.MergeRefIdeal.Value.run (F := Ideal) m ρ)

/-- No operation was rewritten. -/
theorem preserves : Cert.preserves_Merge_MergeIdeal := trivial

/-- Over the reals the call's results are the reference's. -/
theorem algebraic : Cert.algebraic_MergeIdeal_MergeRefIdeal := by
  pair_intro
  · run_from Cert.MergeIdeal.Value.run_blocks m g
  · refine (θ_run Cert.MergeRefIdeal.defs _ _).mono (fun r h c => ?_) (Cert.MergeRefIdeal.Value.run (F := Ideal) m' g')
    obtain ⟨h0, h1, h2, h3, h4, h5, h6, h7, h8, h9⟩ := hagree c
    refine ⟨?_, ?_, ?_, ?_, ?_, (h c).2.2.2.2.2⟩
    · refine ((h c).1.trans (Cert.MergeRefIdeal.Read.val_main_v70_eq ..)).trans ?_
      refine Eq.trans ?_ (Cert.MergeIdeal.Value.final0 m c).symm
      congr 1
    · refine ((h c).2.1.trans (Cert.MergeRefIdeal.Read.val_main_v71_eq ..)).trans ?_
      refine Eq.trans ?_ (Cert.MergeIdeal.Value.final1 m c).symm
      congr 1
    · refine ((h c).2.2.1.trans (Cert.MergeRefIdeal.Read.val_main_v72_eq ..)).trans ?_
      refine Eq.trans ?_ (Cert.MergeIdeal.Value.final2 m c).symm
      congr 1
    · refine ((h c).2.2.2.1.trans (Cert.MergeRefIdeal.Read.val_main_v73_eq ..)).trans ?_
      refine Eq.trans ?_ (Cert.MergeIdeal.Value.final3 m c).symm
      congr 1
    · refine ((h c).2.2.2.2.1.trans (Cert.MergeRefIdeal.Read.val_main_v69_eq ..)).trans ?_
      refine Eq.trans ?_ (Cert.MergeIdeal.Value.final4 m c).symm
      congr 1

end Cert.Proof.Merge

end
-- ==== Proof.MixValue.lean ====
/- The gate merge: the array the call leaves is the reference's, entry by entry. -/
module

public import proofs.«01_k».proof.Proof.Gen.MixIdeal.Value
public import proofs.«01_k».proof.Proof.Gen.MixRefIdeal.Read
public import proofs.«01_k».proof.Proof.BlockDiag
public import proofs.«01_k».proof.Proof.Sigmoid
public import proofs.«01_k».proof.Proof.Stores
public import Idealize.ShloMosaic.Lib.Pipeline.ValueKit
public import Idealize.ShloMosaic.Lib.WritesUnit

@[expose] public section

set_option maxRecDepth 16384

noncomputable section

namespace Cert.MixIdeal.Value

open Cert.MixIdeal Cert.MixIdeal.Gen Idealize.ShloMosaic Idealize.ShloMosaic.TcCoe Idealize.SL.Sem
open Idealize.ShloMosaic.Pipeline (Dat)

variable (m : (ℓ : Loc nD τ sig) → Buf (Elt Ideal) ℓ)

/-- The logistic function. -/
abbrev sg (x : EReal) : EReal := Ideal.div 1 (1 + Ideal.exp (-x))

/-- The pooled branch before its scale: column `j` belongs to group `j / 256`. -/
abbrev grp {n : ℕ} (P : FVec Ideal ⟨2, ![n, 256]⟩ .bf16) (w : FVec Ideal S4x64x256 .bf16) (r : Fin n) (j : Fin 1024) : EReal :=
  ∑ k : Fin 64, w (ix3 ⟨j.val / 256, by omega⟩ k ⟨j.val % 256, Nat.mod_lt _ (by norm_num)⟩) * P (ix2 r ⟨j.val / 256 * 64 + k.val, by omega⟩)

/-- The blocks of the arrays at a grid point. -/
theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![0, 0] ∧ win0_8.index t = ![0, 0]
    ∧ win0_9.index t = ![t.val, 0] :=
  (by decide +kernel : ∀ t : Fin grid0.N, _)

/-- What the body computes, entry by entry. -/
theorem hpay2 (x w b) (y) : k0_pay2 (F := Ideal) x w b y = (∑ k : Fin 256, x (ix2 (y 0) k) * w (ix2 k (y 1))) + b (ix2 0 (y 1)) := by
  pointwise [k0_pay2]

theorem hpay3 (x w) (y) : k0_pay3 (F := Ideal) x w y = ∑ k : Fin 256, x (ix2 (y 0) k) * w (ix2 k (y 1)) := by
  pointwise [k0_pay3]

theorem hpay4 (x w) (y) : k0_pay4 (F := Ideal) x w y = ∑ k : Fin 512, x (ix2 (y 0) k) * w (ix2 k (y 1)) := by
  pointwise [k0_pay4]

/-- The logistic function by the hyperbolic tangent. -/
theorem hpay5 (g) (y) : k0_pay5 (F := Ideal) g y = sg (g y) := by
  refine Eq.trans ?_ (Cert.Sigmoid.eq (g y))
  pointwise [k0_pay5]

theorem hpay6 (g) (y) : k0_pay6 (F := Ideal) g y = sg (g y) := by
  refine Eq.trans ?_ (Cert.Sigmoid.eq (g y))
  pointwise [k0_pay6]

/-- The sum of the three branches, each times its gate. -/
theorem hpay1 (a b c p q g v) (y) : k0_pay1 (F := Ideal) a b c p q g v y = p y * a y + q y * (b y * v (ix2 0 (y 1))) + sg (g y) * c y := by
  refine Eq.trans ?_ (congrArg (fun z => p y * a y + q y * (b y * v (ix2 0 (y 1))) + z * c y) (Cert.Sigmoid.eq (g y)))
  pointwise [k0_pay1]

/-- The write of one rectangle into the matrix, as the program in front of the call does it. -/
abbrev put (x : FVec Ideal S256x1024 .bf16) (i : IVec S2 32) (u : FVec Ideal S64x256 .bf16) : FVec Ideal S256x1024 .bf16 :=
  Host.scatter scatter_S256x1024_S2_S64x256_01_n_01_0 (fun _ b => b) x i u

/-- A pair of index words. -/
abbrev at2 (a b : BitVec 32) : IVec S2 32 :=
  concatenate S2 0 [⟨S1, broadcastInDim S1 ![] bcast_S_S1 (constantI S_ 32 a)⟩, ⟨S1, broadcastInDim S1 ![] bcast_S_S1 (constantI S_ 32 b)⟩] concatenates_S1_S1_S2_d0

/-- The four groups' weights. -/
abbrev w0 (W : FVec Ideal S4x64x256 .bf16) : FVec Ideal S64x256 .bf16 :=
  shapeCast S64x256 (extractStridedSlice S1x64x256 ![0, 0, 0] W slices_S4x64x256_S1x64x256_0_0_0) shapeCasts_S1x64x256_S64x256
abbrev w1 (W : FVec Ideal S4x64x256 .bf16) : FVec Ideal S64x256 .bf16 :=
  shapeCast S64x256 (extractStridedSlice S1x64x256 ![1, 0, 0] W slices_S4x64x256_S1x64x256_1_0_0) shapeCasts_S1x64x256_S64x256
abbrev w2 (W : FVec Ideal S4x64x256 .bf16) : FVec Ideal S64x256 .bf16 :=
  shapeCast S64x256 (extractStridedSlice S1x64x256 ![2, 0, 0] W slices_S4x64x256_S1x64x256_2_0_0) shapeCasts_S1x64x256_S64x256
abbrev w3 (W : FVec Ideal S4x64x256 .bf16) : FVec Ideal S64x256 .bf16 :=
  shapeCast S64x256 (extractStridedSlice S1x64x256 ![3, 0, 0] W slices_S4x64x256_S1x64x256_3_0_0) shapeCasts_S1x64x256_S64x256

theorem w0_at (W : FVec Ideal S4x64x256 .bf16) (a : Fin 64) (b : Fin 256) : w0 W (ix2 a b) = W (ix3 (0 : Fin 4) a b) := by
  pointwise [w0]

theorem w1_at (W : FVec Ideal S4x64x256 .bf16) (a : Fin 64) (b : Fin 256) : w1 W (ix2 a b) = W (ix3 (1 : Fin 4) a b) := by
  pointwise [w1]

theorem w2_at (W : FVec Ideal S4x64x256 .bf16) (a : Fin 64) (b : Fin 256) : w2 W (ix2 a b) = W (ix3 (2 : Fin 4) a b) := by
  pointwise [w2]

theorem w3_at (W : FVec Ideal S4x64x256 .bf16) (a : Fin 64) (b : Fin 256) : w3 W (ix2 a b) = W (ix3 (3 : Fin 4) a b) := by
  pointwise [w3]

/-- The block-diagonal matrix that the program builds in front of the call: zeros, with the four groups' weights written along
    the diagonal. -/
theorem hV (c : Dev nD) : (V m c main_v24 : FVec Ideal S256x1024 .bf16)
    = put (put (put (put (broadcastInDim S256x1024 ![] bcast_S_S256x1024 (constant (F := Ideal) S_ .bf16 0x0000#16))
        (at2 0#32 0#32) (w0 (m ((c : Thread nD τ).loc main_arg5)))) (at2 64#32 256#32) (w1 (m ((c : Thread nD τ).loc main_arg5))))
        (at2 128#32 512#32) (w2 (m ((c : Thread nD τ).loc main_arg5)))) (at2 192#32 768#32) (w3 (m ((c : Thread nD τ).loc main_arg5))) := by
  unfold_abbrev_sides
  after_results
  rfl

/-- Its entry: the group's weight where row and column belong to one group, zero elsewhere. -/
theorem hdiag (c : Dev nD) (r : Fin 256) (j : Fin 1024) : (V m c main_v24 : FVec Ideal S256x1024 .bf16) (ix2 r j)
    = if r.val / 64 = j.val / 256 then
        (m ((c : Thread nD τ).loc main_arg5) : FVec Ideal S4x64x256 .bf16) (ix3 ⟨j.val / 256, by omega⟩ ⟨r.val % 64, Nat.mod_lt _ (by norm_num)⟩ ⟨j.val % 256, Nat.mod_lt _ (by norm_num)⟩)
      else (0 : EReal) := by
  rw [hV]
  refine Cert.BlockDiag.writes (α := EReal) _ _ (at2 0#32 0#32) (at2 64#32 256#32) (at2 128#32 512#32) (at2 192#32 768#32) _ _ _ _
    (m ((c : Thread nD τ).loc main_arg5) : FVec Ideal S4x64x256 .bf16) (0 : EReal) (fun i => ?_) ?_ ?_ ?_ ?_ ?_ ?_ ?_ ?_ (w0_at _) (w1_at _) (w2_at _) (w3_at _) r j
  · pointwise []
  all_goals decide

/-- A row times the block-diagonal matrix is the group's part of the row times the group's weights. -/
theorem hgrp (c : Dev nD) {n : ℕ} (P : FVec Ideal ⟨2, ![n, 256]⟩ .bf16) (r : Fin n) (j : Fin 1024) :
    (∑ k : Fin 256, P (ix2 r k) * (V m c main_v24 : FVec Ideal S256x1024 .bf16) (ix2 k j)) = grp P (m ((c : Thread nD τ).loc main_arg5)) r j := by
  refine (Cert.BlockDiag.sum_block _ ⟨j.val / 256, by omega⟩ fun k hk => ?_).trans (Finset.sum_congr rfl fun k _ => ?_)
  · exact (congrArg (P (ix2 r k) * ·) ((hdiag m c k j).trans (if_neg hk))).trans (mul_zero _)
  · refine (congrArg (P (ix2 r ⟨j.val / 256 * 64 + k.val, by omega⟩) * ·) ((hdiag m c ⟨j.val / 256 * 64 + k.val, by omega⟩ j).trans
      (if_pos (show (j.val / 256 * 64 + k.val) / 64 = j.val / 256 by omega)))).trans ((mul_comm _ _).trans (congrArg₂ (· * ·) ?_ rfl))
    refine congrArg (fun z => (m ((c : Thread nD τ).loc main_arg5) : FVec Ideal S4x64x256 .bf16) (ix3 _ z _)) (Fin.ext ?_)
    show (j.val / 256 * 64 + k.val) % 64 = k.val
    omega

/-- The reference's gates. -/
theorem href24 (X : FVec Ideal S16640x3072 .bf16) (j) : Cert.MixRefIdeal.Read.val_main_v24 (F := Ideal) X j = sg (X j) := by
  pointwise [Cert.MixRefIdeal.Read.val_main_v18, Cert.MixRefIdeal.Read.val_main_v19, Cert.MixRefIdeal.Read.val_main_v20, Cert.MixRefIdeal.Read.val_main_v21, Cert.MixRefIdeal.Read.val_main_v22, Cert.MixRefIdeal.Read.val_main_v23, Cert.MixRefIdeal.Read.val_main_v24, Cert.MixRefIdeal.Read.val_main_cst, Cert.MixRefIdeal.Read.val_main_cst_0]

theorem href27 (X : FVec Ideal S16640x3072 .bf16) (r : Fin 16640) (j : Fin 1024) :
    Cert.MixRefIdeal.Read.val_main_v27 (F := Ideal) X (ix2 r j) = sg (X (ix2 r ⟨0 * 1024 + j.val, by omega⟩)) := by
  pointwise [Cert.MixRefIdeal.Read.val_main_v25, Cert.MixRefIdeal.Read.val_main_v26, Cert.MixRefIdeal.Read.val_main_v27, href24]

theorem href30 (X : FVec Ideal S16640x3072 .bf16) (r : Fin 16640) (j : Fin 1024) :
    Cert.MixRefIdeal.Read.val_main_v30 (F := Ideal) X (ix2 r j) = sg (X (ix2 r ⟨1 * 1024 + j.val, by omega⟩)) := by
  pointwise [Cert.MixRefIdeal.Read.val_main_v25, Cert.MixRefIdeal.Read.val_main_v29, Cert.MixRefIdeal.Read.val_main_v30, href24]

theorem href34 (X : FVec Ideal S16640x3072 .bf16) (r : Fin 16640) (j : Fin 1024) :
    Cert.MixRefIdeal.Read.val_main_v34 (F := Ideal) X (ix2 r j) = sg (X (ix2 r ⟨2 * 1024 + j.val, by omega⟩)) := by
  pointwise [Cert.MixRefIdeal.Read.val_main_v25, Cert.MixRefIdeal.Read.val_main_v33, Cert.MixRefIdeal.Read.val_main_v34, href24]

/-- The reference's pooled branch before its scale. -/
theorem href11 (P : FVec Ideal S16640x256 .bf16) (w : FVec Ideal S4x64x256 .bf16) (r : Fin 16640) (j : Fin 1024) :
    Cert.MixRefIdeal.Read.val_main_v11 (F := Ideal) P w (ix2 r j) = grp P w r j := by
  pointwise [grp, Cert.MixRefIdeal.Read.val_main_v6, Cert.MixRefIdeal.Read.val_main_v7, Cert.MixRefIdeal.Read.val_main_v8, Cert.MixRefIdeal.Read.val_main_v9, Cert.MixRefIdeal.Read.val_main_v10, Cert.MixRefIdeal.Read.val_main_v11]

/-- The reference's entry. -/
theorem href37 (S : FVec Ideal S16640x256 .bf16) (P : FVec Ideal S16640x256 .bf16) (A : FVec Ideal S16640x512 .bf16) (X : FVec Ideal S16640x3072 .bf16) (wc : FVec Ideal S256x1024 .bf16)
    (wp : FVec Ideal S4x64x256 .bf16) (wa : FVec Ideal S512x1024 .bf16) (b v : FVec Ideal S1024 .f32) (r : Fin 16640) (j : Fin 1024) :
    Cert.MixRefIdeal.Read.val_main_v37 (F := Ideal) S P A X wc wp wa b v (ix2 r j)
    = sg (X (ix2 r ⟨0 * 1024 + j.val, by omega⟩)) * ((∑ k : Fin 256, S (ix2 r k) * wc (ix2 k j)) + b (ix1 j))
      + sg (X (ix2 r ⟨1 * 1024 + j.val, by omega⟩)) * (grp P wp r j * v (ix1 j))
      + sg (X (ix2 r ⟨2 * 1024 + j.val, by omega⟩)) * (∑ k : Fin 512, A (ix2 r k) * wa (ix2 k j)) := by
  pointwise [Cert.MixRefIdeal.Read.val_main_v0, Cert.MixRefIdeal.Read.val_main_v1, Cert.MixRefIdeal.Read.val_main_v2, Cert.MixRefIdeal.Read.val_main_v3, Cert.MixRefIdeal.Read.val_main_v4, Cert.MixRefIdeal.Read.val_main_v5, Cert.MixRefIdeal.Read.val_main_v12, Cert.MixRefIdeal.Read.val_main_v13, Cert.MixRefIdeal.Read.val_main_v14, Cert.MixRefIdeal.Read.val_main_v15, Cert.MixRefIdeal.Read.val_main_v16, Cert.MixRefIdeal.Read.val_main_v17, Cert.MixRefIdeal.Read.val_main_v28, Cert.MixRefIdeal.Read.val_main_v31, Cert.MixRefIdeal.Read.val_main_v32, Cert.MixRefIdeal.Read.val_main_v35, Cert.MixRefIdeal.Read.val_main_v36, Cert.MixRefIdeal.Read.val_main_v37, href11, href27, href30, href34]

/-- The arguments of a device. -/
abbrev aS (c : Dev nD) : FVec Ideal S16640x256 .bf16 := m ((c : Thread nD τ).loc main_arg0)
abbrev aP (c : Dev nD) : FVec Ideal S16640x256 .bf16 := m ((c : Thread nD τ).loc main_arg1)
abbrev aA (c : Dev nD) : FVec Ideal S16640x512 .bf16 := m ((c : Thread nD τ).loc main_arg2)
abbrev aX (c : Dev nD) : FVec Ideal S16640x3072 .bf16 := m ((c : Thread nD τ).loc main_arg3)
abbrev aWc (c : Dev nD) : FVec Ideal S256x1024 .bf16 := m ((c : Thread nD τ).loc main_arg4)
abbrev aWp (c : Dev nD) : FVec Ideal S4x64x256 .bf16 := m ((c : Thread nD τ).loc main_arg5)
abbrev aWa (c : Dev nD) : FVec Ideal S512x1024 .bf16 := m ((c : Thread nD τ).loc main_arg6)
abbrev aB (c : Dev nD) : FVec Ideal S1024 .f32 := m ((c : Thread nD τ).loc main_arg7)
abbrev aV (c : Dev nD) : FVec Ideal S1024 .f32 := m ((c : Thread nD τ).loc main_arg8)

/-- A tile's entry of an argument. -/
theorem blk0 (c : Dev nD) (t : Fin cfg0.N) (x : Fin 256) (k : Fin 256) (r : Fin 16640) (hr : r.val = t.val * 256 + x.val) :
    (iblk m c 0 t : Vec Ideal S256x256 .bf16) (ix2 x k) = aS m c (ix2 r k) := by
  blk_point [iblk, V, idx t]

theorem blk1 (c : Dev nD) (t : Fin cfg0.N) (x : Fin 256) (k : Fin 256) (r : Fin 16640) (hr : r.val = t.val * 256 + x.val) :
    (iblk m c 1 t : Vec Ideal S256x256 .bf16) (ix2 x k) = aP m c (ix2 r k) := by
  blk_point [iblk, V, idx t]

theorem blk2 (c : Dev nD) (t : Fin cfg0.N) (x : Fin 256) (k : Fin 512) (r : Fin 16640) (hr : r.val = t.val * 256 + x.val) :
    (iblk m c 2 t : Vec Ideal S256x512 .bf16) (ix2 x k) = aA m c (ix2 r k) := by
  blk_point [iblk, V, idx t]

theorem blk3 (c : Dev nD) (t : Fin cfg0.N) (x : Fin 256) (k : Fin 3072) (r : Fin 16640) (hr : r.val = t.val * 256 + x.val) :
    (iblk m c 3 t : Vec Ideal S256x3072 .bf16) (ix2 x k) = aX m c (ix2 r k) := by
  blk_point [iblk, V, idx t]

theorem blk4 (c : Dev nD) (t : Fin cfg0.N) (x : Fin 256) (k : Fin 1024) :
    (iblk m c 4 t : Vec Ideal S256x1024 .bf16) (ix2 x k) = aWc m c (ix2 x k) := by
  blk_point [iblk, V, idx t]

theorem blk6 (c : Dev nD) (t : Fin cfg0.N) (x : Fin 512) (k : Fin 1024) :
    (iblk m c 6 t : Vec Ideal S512x1024 .bf16) (ix2 x k) = aWa m c (ix2 x k) := by
  blk_point [iblk, V, idx t]

theorem blk7 (c : Dev nD) (t : Fin cfg0.N) (k : Fin 1024) :
    (iblk m c 7 t : Vec Ideal S1x1024 .f32) (ix2 0 k) = aB m c (ix1 k) := by
  blk_point [iblk, V, idx t]

theorem blk8 (c : Dev nD) (t : Fin cfg0.N) (k : Fin 1024) :
    (iblk m c 8 t : Vec Ideal S1x1024 .f32) (ix2 0 k) = aV m c (ix1 k) := by
  blk_point [iblk, V, idx t]

theorem blk5 (c : Dev nD) (t : Fin cfg0.N) (x : Fin 256) (k : Fin 1024) :
    (iblk m c 5 t : Vec Ideal S256x1024 .bf16) (ix2 x k) = (V m c main_v24 : FVec Ideal S256x1024 .bf16) (ix2 x k) := by
  blk_simp [iblk, idx t]
  refine congrArg (V m c main_v24) (funext fun a => ?_)
  match a with
  | ⟨0, _⟩ => exact Fin.ext (by blk_simp [idx t])
  | ⟨1, _⟩ => exact Fin.ext (by blk_simp [idx t])

/-- A tile's entry of one of the three gates. -/
theorem gate0 (c : Dev nD) (t : Fin cfg0.N) (x : Fin 256) (j : Fin 1024) (r : Fin 16640) (hr : r.val = t.val * 256 + x.val) (q : Fin 3072) (hq : q.val = 0 * 1024 + j.val) :
    ((View.ld (iblk m c 3 t) (Rect.unit (s := S256x3072) ![0, 0] ![256, 1024] inb_S256x3072_S256x1024_0_0)) : Vec Ideal S256x1024 .bf16) (ix2 x j) = aX m c (ix2 r q) := by
  rw [View.ld_apply]
  refine Eq.trans (congrArg (iblk m c 3 t : Vec Ideal S256x3072 .bf16) (?_ : _ = ix2 x q)) (blk3 m c t x q r hr)
  funext a
  refine Fin.ext ?_
  rw [Rect.idx_unit_val]
  match a with
  | ⟨0, _⟩ => simp
  | ⟨1, _⟩ => simp [hq]

theorem gate1 (c : Dev nD) (t : Fin cfg0.N) (x : Fin 256) (j : Fin 1024) (r : Fin 16640) (hr : r.val = t.val * 256 + x.val) (q : Fin 3072) (hq : q.val = 1 * 1024 + j.val) :
    ((View.ld (iblk m c 3 t) (Rect.unit (s := S256x3072) ![0, 1024] ![256, 1024] inb_S256x3072_S256x1024_0_1024)) : Vec Ideal S256x1024 .bf16) (ix2 x j) = aX m c (ix2 r q) := by
  rw [View.ld_apply]
  refine Eq.trans (congrArg (iblk m c 3 t : Vec Ideal S256x3072 .bf16) (?_ : _ = ix2 x q)) (blk3 m c t x q r hr)
  funext a
  refine Fin.ext ?_
  rw [Rect.idx_unit_val]
  match a with
  | ⟨0, _⟩ => simp
  | ⟨1, _⟩ => simp [hq]

theorem gate2 (c : Dev nD) (t : Fin cfg0.N) (x : Fin 256) (j : Fin 1024) (r : Fin 16640) (hr : r.val = t.val * 256 + x.val) (q : Fin 3072) (hq : q.val = 2 * 1024 + j.val) :
    ((View.ld (iblk m c 3 t) (Rect.unit (s := S256x3072) ![0, 2048] ![256, 1024] inb_S256x3072_S256x1024_0_2048)) : Vec Ideal S256x1024 .bf16) (ix2 x j) = aX m c (ix2 r q) := by
  rw [View.ld_apply]
  refine Eq.trans (congrArg (iblk m c 3 t : Vec Ideal S256x3072 .bf16) (?_ : _ = ix2 x q)) (blk3 m c t x q r hr)
  funext a
  refine Fin.ext ?_
  rw [Rect.idx_unit_val]
  match a with
  | ⟨0, _⟩ => simp
  | ⟨1, _⟩ => simp [hq]

/-- A tile of the three branches. -/
theorem ya (c : Dev nD) (t : Fin cfg0.N) (x : Fin 256) (j : Fin 1024) (r : Fin 16640) (hr : r.val = t.val * 256 + x.val) :
    k0_pay2 (F := Ideal) (iblk m c 0 t) (iblk m c 4 t) (iblk m c 7 t) (ix2 x j) = (∑ k : Fin 256, aS m c (ix2 r k) * aWc m c (ix2 k j)) + aB m c (ix1 j) :=
  (hpay2 _ _ _ _).trans (congrArg₂ (· + ·) (Finset.sum_congr rfl fun k _ => congrArg₂ (· * ·) (blk0 m c t x k r hr) (blk4 m c t k j)) (blk7 m c t j))

theorem zb (c : Dev nD) (t : Fin cfg0.N) (x : Fin 256) (j : Fin 1024) (r : Fin 16640) (hr : r.val = t.val * 256 + x.val) :
    k0_pay3 (F := Ideal) (iblk m c 1 t) (iblk m c 5 t) (ix2 x j) = grp (aP m c) (aWp m c) r j := by
  have key : ∀ W : FVec Ideal S256x1024 .bf16, (∀ k, (iblk m c 5 t : Vec Ideal S256x1024 .bf16) (ix2 k j) = W (ix2 k j)) →
      k0_pay3 (F := Ideal) (iblk m c 1 t) (iblk m c 5 t) (ix2 x j) = ∑ k : Fin 256, aP m c (ix2 r k) * W (ix2 k j) := fun W hW => by
    rw [hpay3]
    exact Finset.sum_congr rfl fun k _ => congrArg₂ (· * ·) (blk1 m c t x k r hr) (hW k)
  rw [key (V m c main_v24) fun k => blk5 m c t k j]
  exact hgrp m c (aP m c) r j

theorem zc (c : Dev nD) (t : Fin cfg0.N) (x : Fin 256) (j : Fin 1024) (r : Fin 16640) (hr : r.val = t.val * 256 + x.val) :
    k0_pay4 (F := Ideal) (iblk m c 2 t) (iblk m c 6 t) (ix2 x j) = ∑ k : Fin 512, aA m c (ix2 r k) * aWa m c (ix2 k j) :=
  (hpay4 _ _ _).trans (Finset.sum_congr rfl fun k _ => congrArg₂ (· * ·) (blk2 m c t x k r hr) (blk6 m c t k j))

/-- What a tile stores is the reference's. -/
theorem point (c : Dev nD) (t : Fin cfg0.N) (x : Fin 256) (j : Fin 1024) (r : Fin 16640) (hr : r.val = t.val * 256 + x.val) :
    k0_pay1 (F := Ideal) (k0_pay2 (iblk m c 0 t) (iblk m c 4 t) (iblk m c 7 t)) (k0_pay3 (iblk m c 1 t) (iblk m c 5 t)) (k0_pay4 (iblk m c 2 t) (iblk m c 6 t))
      (k0_pay5 (View.ld (iblk m c 3 t) (Rect.unit (s := S256x3072) ![0, 0] ![256, 1024] inb_S256x3072_S256x1024_0_0)))
      (k0_pay6 (View.ld (iblk m c 3 t) (Rect.unit (s := S256x3072) ![0, 1024] ![256, 1024] inb_S256x3072_S256x1024_0_1024)))
      (View.ld (iblk m c 3 t) (Rect.unit (s := S256x3072) ![0, 2048] ![256, 1024] inb_S256x3072_S256x1024_0_2048)) (iblk m c 8 t) (ix2 x j)
      = Cert.MixRefIdeal.Read.val_main_v37 (F := Ideal) (aS m c) (aP m c) (aA m c) (aX m c) (aWc m c) (aWp m c) (aWa m c) (aB m c) (aV m c) (ix2 r j) := by
  refine (hpay1 _ _ _ _ _ _ _ _).trans (Eq.trans ?_ (href37 _ _ _ _ _ _ _ _ _ r j).symm)
  rw [hpay5, hpay6, ya m c t x j r hr, zb m c t x j r hr, zc m c t x j r hr, gate0 m c t x j r hr ⟨0 * 1024 + j.val, by omega⟩ rfl,
    gate1 m c t x j r hr ⟨1 * 1024 + j.val, by omega⟩ rfl, gate2 m c t x j r hr ⟨2 * 1024 + j.val, by omega⟩ rfl]
  exact congrArg (fun z => _ + _ * (_ * z) + _) (blk8 m c t j)

/-- The array after the run is the reference's. -/
theorem final (c : Dev nD) : (dats m 0 c).arrAt 9 (cfgs 0).N
    = Cert.MixRefIdeal.Read.val_main_v37 (F := Ideal) (aS m c) (aP m c) (aA m c) (aX m c) (aWc m c) (aWp m c) (aWa m c) (aB m c) (aV m c) := by
  refine (dats m 0 c).arrAt_eq_of_covers 9 _ (by decide +kernel) fun t _ y => ?_
  blk_simp
  rw [after0_9]; frame_out
  have e0 : ((win0_9.blk t).view.emb y 0).val = t.val * 256 + (y 0).val := by blk_simp [idx t]
  have e1 : (win0_9.blk t).view.emb y 1 = y 1 := Fin.ext (by blk_simp [idx t])
  have hj : ix2 ((win0_9.blk t).view.emb y 0) (y 1) = (win0_9.blk t).view.emb y := (congrArg (ix2 ((win0_9.blk t).view.emb y 0)) e1.symm).trans (ix2_eta _)
  exact (congrArg _ (ix2_eta y)).symm.trans ((point m c t (y 0) (y 1) ((win0_9.blk t).view.emb y 0) e0).trans (congrArg _ hj))

end Cert.MixIdeal.Value

end
-- ==== Proof.MixClaims.lean ====
/- The five claims about the Mix call: three frames, the idealisation, the equation. -/
module

public import proofs.«01_k».proof.Defs
public import proofs.«01_k».proof.Proof.MixValue
public import proofs.«01_k».proof.Proof.Gen.Mix.Frame
public import proofs.«01_k».proof.Proof.Gen.MixIdeal.Frame
public import proofs.«01_k».proof.Proof.Gen.MixRefIdeal.Run
public import proofs.«01_k».proof.Proof.Gen.MixRefIdeal.Read
public import Idealize.ShloMosaic.Adequacy
public import Idealize.ShloMosaic.Init

@[expose] public section

set_option maxRecDepth 16384

noncomputable section

namespace Cert.Proof.Mix

open Idealize.ShloMosaic Idealize.ShloMosaic.TcCoe Idealize.SL.Sem

/-- The call as printed ends with its arguments unchanged and its counters at zero. -/
theorem frame_p : Cert.quiescent_Mix := fun m ρ _ => Cert.Mix.Gen.frame m ρ

/-- So does the call over the reals. -/
theorem frame_pi : Cert.quiescent_MixIdeal := fun m ρ _ => Cert.MixIdeal.Gen.frame m ρ

/-- So does the reference, which has no counters. -/
theorem frame_ri : Cert.quiescent_MixRefIdeal := fun m ρ _ =>
  (θ_run Cert.MixRefIdeal.defs _ _).mono
    (fun r h => ⟨fun c => (h c).2, sem_eq_zero_of_no_sems (by decide) r.2⟩)
    (Cert.MixRefIdeal.Value.run (F := Ideal) m ρ)

/-- No operation was rewritten. -/
theorem preserves : Cert.preserves_Mix_MixIdeal := trivial

/-- Over the reals the call's results are the reference's. -/
theorem algebraic : Cert.algebraic_MixIdeal_MixRefIdeal := by
  pair_intro
  · run_from Cert.MixIdeal.Value.run_blocks m g
  · refine (θ_run Cert.MixRefIdeal.defs _ _).mono (fun r h c => ?_) (Cert.MixRefIdeal.Value.run (F := Ideal) m' g')
    obtain ⟨h0, h1, h2, h3, h4, h5, h6, h7, h8⟩ := hagree c
    refine ⟨?_, (h c).2⟩
    refine ((h c).1.trans (Cert.MixRefIdeal.Read.val_main_v37_eq ..)).trans ?_
    refine Eq.trans ?_ (Cert.MixIdeal.Value.final m c).symm
    congr 1

end Cert.Proof.Mix

end
-- ==== Proof.PoolBwdRef.lean ====
/- The gradient of the pooled branch's windows as the reference writes it: in each group of 64 channels the negated
   incoming gradient and the sum, over a window of the rows that follow, of the incoming gradient divided by its row's count. -/
module

public import proofs.«01_k».proof.Proof.Gen.PoolBwdRefIdeal.Read
public import Idealize.ShloMosaic.Lib.Pipeline.ValueKit

@[expose] public section

set_option maxRecDepth 16384

noncomputable section

namespace Cert.PoolBwdRef

open Cert.PoolBwdRefIdeal Cert.PoolBwdRefIdeal.Read Idealize.ShloMosaic

/-- The number of positions that row `R`'s window of length `w` holds. -/
def cnt (w : EReal) (R : ℕ) : EReal :=
  max (min ((FloatOps.sitofp (F := Ideal) FTy.f32 (IntOp.subi (BitVec.ofNat 32 R) 240#32) : EReal) + 1) w) 1

/-- The incoming gradient of a row divided by the row's count, zero past the last row. -/
def quot (C : FVec Ideal S16640x256 .f32) (w : EReal) (R : ℕ) (ch : Fin 256) : EReal :=
  if h : R < 16640 then Ideal.div (C (ix2 ⟨R, h⟩ ch)) (cnt w R) else 0

/-- Inside the array it is the quotient. -/
theorem quot_lt (C : FVec Ideal S16640x256 .f32) (w : EReal) (R : ℕ) (ch : Fin 256) (h : R < 16640) :
    quot C w R ch = Ideal.div (C (ix2 ⟨R, h⟩ ch)) (cnt w R) := dif_pos h

/-- What a group with windows of `n` positions gives. -/
abbrev grp (C : FVec Ideal S16640x256 .f32) (w : EReal) (n : ℕ) (r : ℕ) (c : EReal) (ch : Fin 256) : EReal :=
  -c + ∑ k ∈ Finset.range n, quot C w (r + k) ch

/-- A shifted copy as the reference selects it. -/
theorem tap (C : FVec Ideal S16640x256 .f32) (w : EReal) (V : FVec Ideal S16640x64 .f32) (ch : Fin 256) (z : Fin 64)
    (hV : ∀ r : Fin 16640, V (ix2 r z) = Ideal.div (C (ix2 r ch)) (cnt w r.val)) (n k r q : ℕ) (hq : q + k = n) :
    (if h : k ≤ n + r ∧ n + r - k < 16640 then V (ix2 ⟨n + r - k, h.2⟩ z) else 0) = quot C w (r + q) ch := by
  have e : n + r - k = r + q := by omega
  rw [quot]
  by_cases hr : r + q < 16640
  · rw [dif_pos ⟨by omega, by omega⟩, dif_pos hr, hV]
    simp only [e]
  · rw [dif_neg (by omega), dif_neg hr]

/-- The same at the first copy, where the lower bound is no condition. -/
theorem tap0 (C : FVec Ideal S16640x256 .f32) (w : EReal) (V : FVec Ideal S16640x64 .f32) (ch : Fin 256) (z : Fin 64)
    (hV : ∀ r : Fin 16640, V (ix2 r z) = Ideal.div (C (ix2 r ch)) (cnt w r.val)) (n r : ℕ) :
    (if h : n + r < 16640 then V (ix2 ⟨n + r, h⟩ z) else 0) = quot C w (r + n) ch := by
  rw [quot]
  by_cases hr : n + r < 16640
  · rw [dif_pos hr, dif_pos (by omega), hV]
    simp only [Nat.add_comm]
  · rw [dif_neg hr, dif_neg (by omega)]

/-- The same at the last copy, which is not shifted. -/
theorem tapn (C : FVec Ideal S16640x256 .f32) (w : EReal) (V : FVec Ideal S16640x64 .f32) (ch : Fin 256) (z : Fin 64)
    (hV : ∀ r : Fin 16640, V (ix2 r z) = Ideal.div (C (ix2 r ch)) (cnt w r.val)) (r : Fin 16640) :
    V (ix2 r z) = quot C w r.val ch := (hV r).trans (quot_lt C w r.val ch r.isLt).symm

/-- The quotients of the group with windows of 2. -/
theorem q2 (C : FVec Ideal S16640x256 .f32) (z : Fin 64) (r : Fin 16640) :
    val_main_v205 (F := Ideal) C (ix2 r z) = Ideal.div (C (ix2 r ⟨z.val, by omega⟩)) (cnt (Ideal.ofBits .f32 1073741824#32) r.val) := by
  pointwise [cnt, val_main_v205, val_main_v204, val_main_v20, val_main_v19, val_main_cst_5, val_main_v18, val_main_v17, val_main_cst_4, val_main_v16, val_main_v15, val_main_cst_3, val_main_v5, val_main_v4, val_main_v3, val_main_v2, val_main_c, val_main_v1, val_main_v123]

/-- That group's result. -/
theorem g2 (C : FVec Ideal S16640x256 .f32) (z : Fin 64) (r : Fin 16640) :
    val_main_v211 (F := Ideal) C (ix2 r z)
      = grp C (Ideal.ofBits .f32 1073741824#32) 2 r.val (C (ix2 r ⟨z.val, by omega⟩)) ⟨z.val, by omega⟩ := by
  have hV := q2 C z
  have e0 := tap0 C _ _ _ z hV 1 r.val
  rw [grp, ← Finset.sum_range_reflect]
  simp only [Finset.sum_range_succ, Finset.sum_range_zero, zero_add]
  pointwise [val_main_v211, val_main_v210, val_main_v208, val_main_v207, val_main_cst_56, val_main_v206, val_main_cst_55, val_main_v203, val_main_v123]
  refine congrArg₂ (· + ·) rfl ?_
  repeat' (with_reducible refine congrArg₂ (· + ·) ?_ ?_)
  all_goals first
    | exact tap C _ _ _ z hV 1 _ r.val _ (by omega)
    | exact tap0 C _ _ _ z hV 1 r.val
    | exact tapn C _ _ _ z hV r

/-- The quotients of the group with windows of 4. -/
theorem q4 (C : FVec Ideal S16640x256 .f32) (z : Fin 64) (r : Fin 16640) :
    val_main_v190 (F := Ideal) C (ix2 r z) = Ideal.div (C (ix2 r ⟨64 + z.val, by omega⟩)) (cnt (Ideal.ofBits .f32 1082130432#32) r.val) := by
  pointwise [cnt, val_main_v190, val_main_v189, val_main_v42, val_main_v41, val_main_cst_11, val_main_v40, val_main_v39, val_main_cst_10, val_main_v38, val_main_v37, val_main_cst_9, val_main_v5, val_main_v4, val_main_v3, val_main_v2, val_main_c, val_main_v1, val_main_v124]

/-- That group's result. -/
theorem g4 (C : FVec Ideal S16640x256 .f32) (z : Fin 64) (r : Fin 16640) :
    val_main_v200 (F := Ideal) C (ix2 r z)
      = grp C (Ideal.ofBits .f32 1082130432#32) 4 r.val (C (ix2 r ⟨64 + z.val, by omega⟩)) ⟨64 + z.val, by omega⟩ := by
  have hV := q4 C z
  have e0 := tap0 C _ _ _ z hV 3 r.val
  rw [grp, ← Finset.sum_range_reflect]
  simp only [Finset.sum_range_succ, Finset.sum_range_zero, zero_add]
  pointwise [val_main_v200, val_main_v199, val_main_v197, val_main_v196, val_main_cst_53, val_main_v195, val_main_v194, val_main_cst_52, val_main_v193, val_main_v192, val_main_cst_51, val_main_v191, val_main_cst_50, val_main_v188, val_main_v124]
  refine congrArg₂ (· + ·) rfl ?_
  repeat' (with_reducible refine congrArg₂ (· + ·) ?_ ?_)
  all_goals first
    | exact tap C _ _ _ z hV 3 _ r.val _ (by omega)
    | exact tap0 C _ _ _ z hV 3 r.val
    | exact tapn C _ _ _ z hV r

/-- The quotients of the group with windows of 8. -/
theorem q8 (C : FVec Ideal S16640x256 .f32) (z : Fin 64) (r : Fin 16640) :
    val_main_v167 (F := Ideal) C (ix2 r z) = Ideal.div (C (ix2 r ⟨128 + z.val, by omega⟩)) (cnt (Ideal.ofBits .f32 1090519040#32) r.val) := by
  pointwise [cnt, val_main_v167, val_main_v166, val_main_v72, val_main_v71, val_main_cst_17, val_main_v70, val_main_v69, val_main_cst_16, val_main_v68, val_main_v67, val_main_cst_15, val_main_v5, val_main_v4, val_main_v3, val_main_v2, val_main_c, val_main_v1, val_main_v125]

/-- That group's result. -/
theorem g8 (C : FVec Ideal S16640x256 .f32) (z : Fin 64) (r : Fin 16640) :
    val_main_v185 (F := Ideal) C (ix2 r z)
      = grp C (Ideal.ofBits .f32 1090519040#32) 8 r.val (C (ix2 r ⟨128 + z.val, by omega⟩)) ⟨128 + z.val, by omega⟩ := by
  have hV := q8 C z
  have e0 := tap0 C _ _ _ z hV 7 r.val
  rw [grp, ← Finset.sum_range_reflect]
  simp only [Finset.sum_range_succ, Finset.sum_range_zero, zero_add]
  pointwise [val_main_v185, val_main_v184, val_main_v182, val_main_v181, val_main_cst_48, val_main_v180, val_main_v179, val_main_cst_47, val_main_v178, val_main_v177, val_main_cst_46, val_main_v176, val_main_v175, val_main_cst_45, val_main_v174, val_main_v173, val_main_cst_44, val_main_v172, val_main_v171, val_main_cst_43, val_main_v170, val_main_v169, val_main_cst_42, val_main_v168, val_main_cst_41, val_main_v165, val_main_v125]
  refine congrArg₂ (· + ·) rfl ?_
  repeat' (with_reducible refine congrArg₂ (· + ·) ?_ ?_)
  all_goals first
    | exact tap C _ _ _ z hV 7 _ r.val _ (by omega)
    | exact tap0 C _ _ _ z hV 7 r.val
    | exact tapn C _ _ _ z hV r

/-- The quotients of the group with windows of 16. -/
theorem q16 (C : FVec Ideal S16640x256 .f32) (z : Fin 64) (r : Fin 16640) :
    val_main_v129 (F := Ideal) C (ix2 r z) = Ideal.div (C (ix2 r ⟨192 + z.val, by omega⟩)) (cnt (Ideal.ofBits .f32 1098907648#32) r.val) := by
  pointwise [cnt, val_main_v129, val_main_v128, val_main_v118, val_main_v117, val_main_cst_23, val_main_v116, val_main_v115, val_main_cst_22, val_main_v114, val_main_v113, val_main_cst_21, val_main_v5, val_main_v4, val_main_v3, val_main_v2, val_main_c, val_main_v1, val_main_v126]

/-- That group's result. -/
theorem g16 (C : FVec Ideal S16640x256 .f32) (z : Fin 64) (r : Fin 16640) :
    val_main_v163 (F := Ideal) C (ix2 r z)
      = grp C (Ideal.ofBits .f32 1098907648#32) 16 r.val (C (ix2 r ⟨192 + z.val, by omega⟩)) ⟨192 + z.val, by omega⟩ := by
  have hV := q16 C z
  have e0 := tap0 C _ _ _ z hV 15 r.val
  rw [grp, ← Finset.sum_range_reflect]
  simp only [Finset.sum_range_succ, Finset.sum_range_zero, zero_add]
  pointwise [val_main_v163, val_main_v162, val_main_v160, val_main_v159, val_main_cst_39, val_main_v158, val_main_v157, val_main_cst_38, val_main_v156, val_main_v155, val_main_cst_37, val_main_v154, val_main_v153, val_main_cst_36, val_main_v152, val_main_v151, val_main_cst_35, val_main_v150, val_main_v149, val_main_cst_34, val_main_v148, val_main_v147, val_main_cst_33, val_main_v146, val_main_v145, val_main_cst_32, val_main_v144, val_main_v143, val_main_cst_31, val_main_v142, val_main_v141, val_main_cst_30, val_main_v140, val_main_v139, val_main_cst_29, val_main_v138, val_main_v137, val_main_cst_28, val_main_v136, val_main_v135, val_main_cst_27, val_main_v134, val_main_v133, val_main_cst_26, val_main_v132, val_main_v131, val_main_cst_25, val_main_v130, val_main_cst_24, val_main_v127, val_main_v126]
  refine congrArg₂ (· + ·) rfl ?_
  repeat' (with_reducible refine congrArg₂ (· + ·) ?_ ?_)
  all_goals first
    | exact tap C _ _ _ z hV 15 _ r.val _ (by omega)
    | exact tap0 C _ _ _ z hV 15 r.val
    | exact tapn C _ _ _ z hV r

/-- The result in that group's channels, windows of 2. -/
theorem r2 (C : FVec Ideal S16640x256 .f32) (z : Fin 64) (r : Fin 16640) :
    val_main_v214 (F := Ideal) C (ix2 r ⟨z.val, by omega⟩) = val_main_v211 (F := Ideal) C (ix2 r z) := by
  have hz := z.isLt
  pointwise [val_main_v214, val_main_v213, val_main_v212, val_main_cst_57, val_main_v202, val_main_v201, val_main_cst_54, val_main_v187, val_main_v186, val_main_cst_49, val_main_v164, val_main_cst_40]
  repeat rw [dif_neg (by omega)]
  simp

/-- The result in that group's channels, windows of 4. -/
theorem r4 (C : FVec Ideal S16640x256 .f32) (z : Fin 64) (r : Fin 16640) :
    val_main_v214 (F := Ideal) C (ix2 r ⟨64 + z.val, by omega⟩) = val_main_v200 (F := Ideal) C (ix2 r z) := by
  have hz := z.isLt
  pointwise [val_main_v214, val_main_v213, val_main_v212, val_main_cst_57, val_main_v202, val_main_v201, val_main_cst_54, val_main_v187, val_main_v186, val_main_cst_49, val_main_v164, val_main_cst_40]
  repeat rw [dif_neg (by omega)]
  simp

/-- The result in that group's channels, windows of 8. -/
theorem r8 (C : FVec Ideal S16640x256 .f32) (z : Fin 64) (r : Fin 16640) :
    val_main_v214 (F := Ideal) C (ix2 r ⟨128 + z.val, by omega⟩) = val_main_v185 (F := Ideal) C (ix2 r z) := by
  have hz := z.isLt
  pointwise [val_main_v214, val_main_v213, val_main_v212, val_main_cst_57, val_main_v202, val_main_v201, val_main_cst_54, val_main_v187, val_main_v186, val_main_cst_49, val_main_v164, val_main_cst_40]
  repeat rw [dif_neg (by omega)]
  simp

/-- The result in that group's channels, windows of 16. -/
theorem r16 (C : FVec Ideal S16640x256 .f32) (z : Fin 64) (r : Fin 16640) :
    val_main_v214 (F := Ideal) C (ix2 r ⟨192 + z.val, by omega⟩) = val_main_v163 (F := Ideal) C (ix2 r z) := by
  have hz := z.isLt
  pointwise [val_main_v214, val_main_v213, val_main_v212, val_main_cst_57, val_main_v202, val_main_v201, val_main_cst_54, val_main_v187, val_main_v186, val_main_cst_49, val_main_v164, val_main_cst_40]
  repeat rw [dif_neg (by omega)]
  simp

end Cert.PoolBwdRef

end
-- ==== Proof.PoolBwdValue.lean ====
/- The gradient of the pooled branch's windows: the array the call leaves is the reference's, entry by entry. -/
module

public import proofs.«01_k».proof.Proof.Gen.PoolBwdIdeal.Value
public import proofs.«01_k».proof.Proof.PoolBwdRef
public import proofs.«01_k».proof.Proof.Stores
public import Idealize.ShloMosaic.Lib.Pipeline.ValueKit
public import Idealize.ShloMosaic.Lib.Pipeline.ReadBack

@[expose] public section

set_option maxRecDepth 16384

noncomputable section

namespace Cert.PoolBwdIdeal.Value

open Cert.PoolBwdIdeal Cert.PoolBwdIdeal.Gen Idealize.ShloMosaic Idealize.ShloMosaic.TcCoe Idealize.SL.Sem
open Idealize.ShloMosaic.Pipeline (Dat)

variable (m : (ℓ : Loc nD τ sig) → Buf (Elt Ideal) ℓ)

/-- The channel's group as the call computes it. -/
theorem grp_at : ∀ ch : Fin 256, k0_pay4 (ix2 0 ch) = BitVec.ofNat 32 (ch.val / 64) := by
  intro ch
  pointwise [k0_pay4]
  revert ch
  decide +kernel

/-- The choice among four values by the channel's group. -/
def pick (ch : ℕ) (a b c d : EReal) : EReal :=
  Scalar.select (IntOp.cmpi CmpIPredicate.eq (BitVec.ofNat 32 (ch / 64)) 0#32) a
    (Scalar.select (IntOp.cmpi CmpIPredicate.eq (BitVec.ofNat 32 (ch / 64)) 1#32) b
      (Scalar.select (IntOp.cmpi CmpIPredicate.eq (BitVec.ofNat 32 (ch / 64)) 2#32) c d))

theorem pick0 (ch : ℕ) (a b c d : EReal) (h : ch / 64 = 0) : pick ch a b c d = a := by
  rw [pick, h]; rfl

theorem pick1 (ch : ℕ) (a b c d : EReal) (h : ch / 64 = 1) : pick ch a b c d = b := by
  rw [pick, h]; rfl

theorem pick2 (ch : ℕ) (a b c d : EReal) (h : ch / 64 = 2) : pick ch a b c d = c := by
  rw [pick, h]; rfl

theorem pick3 (ch : ℕ) (a b c d : EReal) (h : ch / 64 = 3) : pick ch a b c d = d := by
  rw [pick, h]; rfl

/-- The window of a channel. -/
def win (ch : ℕ) : EReal :=
  pick ch (Ideal.ofBits FTy.f32 1073741824#32) (Ideal.ofBits FTy.f32 1082130432#32) (Ideal.ofBits FTy.f32 1090519040#32)
    (Ideal.ofBits FTy.f32 1098907648#32)

/-- The first row of a tile as the call computes it. -/
theorem base : ∀ t : Fin grid0.N, Scalar.muli (Scalar.subi 25#32 (BitVec.ofNat 32 (grid0.coords t 0).val)) 640#32
    = BitVec.ofNat 32 ((25 - t.val) * 640) := by decide +kernel

/-- A tile's quotients. -/
theorem pay8_at (D : Vec Ideal S640x256 .f32) (b R : ℕ) (r : Fin 640) (ch : Fin 256) (hR : R = b + r.val) :
    k0_pay8 (F := Ideal) D (BitVec.ofNat 32 b) k0_pay4 k0_pay5 k0_pay6 k0_pay7 (ix2 r ch)
      = Ideal.div (D (ix2 r ch)) (PoolBwdRef.cnt (win ch.val) R) := by
  pointwise [k0_pay8, k0_pay5, k0_pay6, k0_pay7]
  rw [grp_at, show IntOp.addi (BitVec.ofNat 32 b) (BitVec.ofNat 32 r.val) = BitVec.ofNat 32 R from by
    rw [hR, BitVec.ofNat_add]; rfl]
  rfl

/-- A rotated row. -/
theorem rot (x : Vec Ideal S656x256 .f32) (i s : ℕ) (hs : s < 656) (h : i + s < 656) (ch : Fin 256)
    (hi : (i + 656 - (656 - s)) % 656 < 656) :
    x (ix2 ⟨(i + 656 - (656 - s)) % 656, hi⟩ ch) = x (ix2 ⟨i + s, h⟩ ch) := by
  congr 2
  refine Fin.ext ?_
  show (i + 656 - (656 - s)) % 656 = i + s
  rw [show i + 656 - (656 - s) = i + s by omega, Nat.mod_eq_of_lt h]

/-- The buffer's row `r`, nothing past its end. -/
def rows (x : Vec Ideal S656x256 .f32) (ch : Fin 256) (r : ℕ) : EReal :=
  if h : r < 656 then x (ix2 ⟨r, h⟩ ch) else 0

theorem rows_lt (x : Vec Ideal S656x256 .f32) (ch : Fin 256) (r : ℕ) (h : r < 656) :
    x (ix2 ⟨r, h⟩ ch) = rows x ch r := by
  rw [rows, dif_pos h]

/-- The sums over windows of 2, 4, 8 and 16 rows. -/
theorem sum2 (X : Vec Ideal S656x256 .f32) (ch : Fin 256) (r : ℕ) (h : r + 1 < 656) :
    k0_pay9 (F := Ideal) X (ix2 ⟨r, by omega⟩ ch) = ∑ k ∈ Finset.range 2, rows X ch (r + k) := by
  pointwise [k0_pay9]
  rw [rot X r 1 (by omega) h ch, rows_lt X ch r (by omega), rows_lt X ch (r + 1) h]
  simp [Finset.sum_range_succ]

theorem sum4 (X : Vec Ideal S656x256 .f32) (ch : Fin 256) (r : ℕ) (h : r + 3 < 656) :
    k0_pay10 (F := Ideal) X (ix2 ⟨r, by omega⟩ ch) = ∑ k ∈ Finset.range 4, rows X ch (r + k) := by
  pointwise [k0_pay10]
  rw [rot (k0_pay9 (F := Ideal) X) r 2 (by omega) (by omega) ch, sum2 X ch r (by omega), sum2 X ch (r + 2) (by omega)]
  simp [Finset.sum_range_succ, add_assoc]

theorem sum8 (X : Vec Ideal S656x256 .f32) (ch : Fin 256) (r : ℕ) (h : r + 7 < 656) :
    k0_pay11 (F := Ideal) X (ix2 ⟨r, by omega⟩ ch) = ∑ k ∈ Finset.range 8, rows X ch (r + k) := by
  pointwise [k0_pay11]
  rw [rot (k0_pay10 (F := Ideal) X) r 4 (by omega) (by omega) ch, sum4 X ch r (by omega), sum4 X ch (r + 4) (by omega)]
  simp [Finset.sum_range_succ, add_assoc]

theorem sum16 (X : Vec Ideal S656x256 .f32) (ch : Fin 256) (r : ℕ) (h : r + 15 < 656) :
    k0_pay12 (F := Ideal) X (ix2 ⟨r, by omega⟩ ch) = ∑ k ∈ Finset.range 16, rows X ch (r + k) := by
  pointwise [k0_pay12]
  rw [rot (k0_pay11 (F := Ideal) X) r 8 (by omega) (by omega) ch, sum8 X ch r (by omega), sum8 X ch (r + 8) (by omega)]
  simp [Finset.sum_range_succ, add_assoc]

/-- What a tile's row receives. -/
theorem out_at (D : Vec Ideal S640x256 .f32) (X : Vec Ideal S656x256 .f32) (r : Fin 640) (ch : Fin 256) :
    k0_pay1 (F := Ideal) D (k0_pay9 (F := Ideal) X) (k0_pay10 (F := Ideal) X) (k0_pay11 (F := Ideal) X) (k0_pay12 (F := Ideal) X)
        (k0_pay13 k0_pay4) (k0_pay14 k0_pay4) (k0_pay15 k0_pay4) (ix2 r ch)
      = pick ch.val (∑ k ∈ Finset.range 2, rows X ch (r.val + k)) (∑ k ∈ Finset.range 4, rows X ch (r.val + k))
          (∑ k ∈ Finset.range 8, rows X ch (r.val + k)) (∑ k ∈ Finset.range 16, rows X ch (r.val + k)) - D (ix2 r ch) := by
  have hr := r.isLt
  rw [← sum2 X ch r.val (by omega), ← sum4 X ch r.val (by omega), ← sum8 X ch r.val (by omega), ← sum16 X ch r.val (by omega), pick,
    ← grp_at ch]
  generalize k0_pay9 (F := Ideal) X = a
  generalize k0_pay10 (F := Ideal) X = b
  generalize k0_pay11 (F := Ideal) X = c
  generalize k0_pay12 (F := Ideal) X = d
  pointwise [k0_pay1, k0_pay13, k0_pay14, k0_pay15]

/-- The row tile and the 16 rows below it, one above the other. -/
def buf (D : Vec Ideal S640x256 .f32) (H : Vec Ideal S16x256 .f32) : Vec Ideal S656x256 .f32 :=
  fun y => if h : (y 0).val < 640 then D (ix2 ⟨(y 0).val, h⟩ (y 1))
    else H (ix2 ⟨(y 0).val - 640, by have := (y 0).isLt; simp at this; omega⟩ (y 1))

/-- The two stores leave the tile and the rows below it. -/
theorem canon_buf (D : Vec Ideal S640x256 .f32) (H : Vec Ideal S16x256 .f32) :
    View.canon (Val := Elt Ideal) (e := .f32) [⟨Rect.unit (s := S656x256) ![0,0] ![640,256] inb_S656x256_S640x256_0_0, D⟩,
      ⟨Rect.unit (s := S656x256) ![640,0] ![16,256] inb_S656x256_S16x256_640_0, H⟩] = buf D H := by
  funext y
  by_cases h : (y 0).val < 640
  · refine (Cert.Stores.canon_hit (S := S656x256) ![0,0] ![640,256] inb_S656x256_S640x256_0_0 D _ y (ix2 (⟨(y 0).val, h⟩ : Fin 640) (⟨(y 1).val, (y 1).isLt⟩ : Fin 256)) ?_).trans ?_
    · intro a; match a with | 0 => simp | 1 => simp
    · rw [buf, dif_pos h]; rfl
  · have := (y 0).isLt
    simp at this
    refine (Cert.Stores.canon_miss (S := S656x256) ![0,0] ![640,256] inb_S656x256_S640x256_0_0 D _ y 0 (Or.inr ?_)).trans ?_
    · simp; omega
    refine (Cert.Stores.canon_hit (S := S656x256) ![640,0] ![16,256] inb_S656x256_S16x256_640_0 H _ y (ix2 (⟨(y 0).val - 640, by omega⟩ : Fin 16) (⟨(y 1).val, (y 1).isLt⟩ : Fin 256)) ?_).trans ?_
    · intro a; match a with | 0 => simp; omega | 1 => simp
    · rw [buf, dif_neg h]; rfl

/-- A load of all of them. -/
theorem load_buf {κ : Kind} {sp : Space} (v : View sig κ sp S656x256 .f32) (D : Vec Ideal S640x256 .f32) (H : Vec Ideal S16x256 .f32) (B : Rect S656x256) :
    v.readCov (Val := Elt Ideal) [⟨Rect.unit (s := S656x256) ![0,0] ![640,256] inb_S656x256_S640x256_0_0, D⟩,
      ⟨Rect.unit (s := S656x256) ![640,0] ![16,256] inb_S656x256_S16x256_640_0, H⟩] B.toLoadRect = View.ld (buf D H) B := by
  rw [View.readCov_eq_canon']
  erw [canon_buf]

/-- The blocks of the two arrays at a grid point: row tiles from the last to the first. -/
theorem idx : ∀ t : Fin cfg0.N, win0_0.index t = ![25 - t.val, 0] ∧ win0_1.index t = ![25 - t.val, 0] :=
  (by decide +kernel : ∀ t : Fin grid0.N, _)

/-- The incoming gradient of a device. -/
abbrev ct (c : Dev nD) : FVec Ideal S16640x256 .f32 := m ((c : Thread nD τ).loc main_arg0)

/-- The quotients at any row, in a channel's own window. -/
abbrev quo (c : Dev nD) (R : ℕ) (ch : Fin 256) : EReal := PoolBwdRef.quot (ct m c) (win ch.val) R ch

/-- A tile's quotients as the call stores them. -/
abbrev tile (c : Dev nD) (t : Fin cfg0.N) : Vec Ideal S640x256 .f32 :=
  k0_pay8 (F := Ideal) (iblk m c 0 t) (Scalar.muli (Scalar.subi 25#32 (BitVec.ofNat 32 (grid0.coords t 0).val)) 640#32)
    k0_pay4 k0_pay5 k0_pay6 k0_pay7

/-- The tile over the 16 rows that follow it is the quotients from the tile's first row on. -/
theorem buf_ext (c : Dev nD) (t : Fin cfg0.N) (H : Vec Ideal S16x256 .f32)
    (hH : ∀ (r : Fin 16) (ch : Fin 256), H (ix2 r ch) = quo m c ((25 - t.val) * 640 + 640 + r.val) ch)
    (y : S656x256.Idx) :
    buf (tile m c t) H y = quo m c ((25 - t.val) * 640 + (y 0).val) (y 1) := by
  have ht : t.val < 26 := t.isLt
  unfold buf
  split
  case isTrue h =>
    refine Eq.trans ?_ (PoolBwdRef.quot_lt (ct m c) _ _ (y 1) (by omega)).symm
    rw [tile, base t]
    refine (pay8_at _ _ ((25 - t.val) * 640 + (y 0).val) _ _ rfl).trans ?_
    refine congrArg₂ Ideal.div ?_ rfl
    blk_point [iblk, V, ct, idx t]
  case isFalse h =>
    refine (hH _ _).trans ?_
    refine congrArg₂ (quo m c) ?_ rfl
    simp
    omega

/-- Below the last tile there is nothing. -/
theorem below (c : Dev nD) (t : Fin cfg0.N) (h1 : ¬ 1 ≤ t.val) (r : Fin 16) (ch : Fin 256) :
    k0_pay2 (F := Ideal) (ix2 r ch) = quo m c ((25 - t.val) * 640 + 640 + r.val) ch := by
  rw [quo, PoolBwdRef.quot, dif_neg (by omega)]
  pointwise [k0_pay2]

/-- The carried rows after the first point. -/
theorem scrA (c : Dev nD) (t : Fin cfg0.N) (h0 : t.val % 26 = 0) (h1 : ¬ 1 ≤ t.val) (y) :
    (outsAt0 m c t.val t.isLt).2 y = quo m c ((25 - t.val) * 640 + (y 0).val) (y 1) := by
  rw [outsAt0_A m c t h0 h1]
  frame_out
  refine (congrFun (canon_buf _ _) y).trans (buf_ext m c t _ (fun r ch => ?_) y)
  exact below m c t h1 r ch

/-- The 16 rows carried from the point before are those that follow the tile. -/
theorem carried (c : Dev nD) (t : Fin cfg0.N) (h1 : 1 ≤ t.val)
    (ih : ∀ y, (outsAt0 m c (t.val - 1) (by omega)).2 y = quo m c ((25 - (t.val - 1)) * 640 + (y 0).val) (y 1))
    (hw : (Memref.whole cc0_scratch0).IsWhole) (r : Fin 16) (ch : Fin 256) :
    k0_pay3 (F := Ideal) (View.ld (View.read (Elt Ideal) (View.whole cc0_scratch0) (hw.unread (outsAt0 m c (t.val - 1) (by omega)).2))
      (Rect.unit (s := S656x256) ![0,0] ![16,256] inb_S656x256_S16x256_0_0)) (ix2 r ch)
      = quo m c ((25 - t.val) * 640 + 640 + r.val) ch := by
  have ht : t.val < 26 := t.isLt
  pointwise [k0_pay3]
  refine (congrFun (read_unread_whole _ _ _) _).trans ((ih _).trans ?_)
  refine congrArg₂ (quo m c) ?_ rfl
  simp
  omega

/-- The carried rows after a later point. -/
theorem scrB (c : Dev nD) (t : Fin cfg0.N) (h0 : ¬ t.val % 26 = 0) (h1 : 1 ≤ t.val)
    (ih : ∀ y, (outsAt0 m c (t.val - 1) (by omega)).2 y = quo m c ((25 - (t.val - 1)) * 640 + (y 0).val) (y 1)) (y) :
    (outsAt0 m c t.val t.isLt).2 y = quo m c ((25 - t.val) * 640 + (y 0).val) (y 1) := by
  rw [outsAt0_B m c t h0 h1]
  frame_out
  refine (congrFun (canon_buf _ _) y).trans (buf_ext m c t _ (fun r ch => ?_) y)
  exact carried m c t h1 ih _ r ch

/-- The carried rows at every grid point. -/
theorem scr (c : Dev nD) : ∀ (n : ℕ) (hn : n < cfg0.N) (y : S656x256.Idx),
    (outsAt0 m c n hn).2 y = quo m c ((25 - n) * 640 + (y 0).val) (y 1)
  | 0, hn, y => scrA m c ⟨0, hn⟩ rfl (by show ¬ 1 ≤ 0; omega) y
  | n + 1, hn, y => by
    have h26 : n + 1 < 26 := hn
    exact scrB m c ⟨n + 1, hn⟩ (by show ¬ (n + 1) % 26 = 0; omega) (by show 1 ≤ n + 1; omega)
      (fun y => scr c n (by omega) y) y

/-- The result of a device as the reference gives it. -/
abbrev REF (c : Dev nD) : FVec Ideal S16640x256 .bf16 := Cert.PoolBwdRefIdeal.Read.val_main_v214 (F := Ideal) (ct m c)

/-- The reference's result at an entry, the four groups together. -/
theorem ref_at (c : Dev nD) (r : Fin 16640) (ch : Fin 256) :
    REF m c (ix2 r ch) = pick ch.val (∑ k ∈ Finset.range 2, quo m c (r.val + k) ch) (∑ k ∈ Finset.range 4, quo m c (r.val + k) ch)
          (∑ k ∈ Finset.range 8, quo m c (r.val + k) ch) (∑ k ∈ Finset.range 16, quo m c (r.val + k) ch) - ct m c (ix2 r ch) := by
  have hc := ch.isLt
  have hcase : ch.val / 64 = 0 ∨ ch.val / 64 = 1 ∨ ch.val / 64 = 2 ∨ ch.val / 64 = 3 := by omega
  rw [sub_eq_add_neg, add_comm]
  rcases hcase with h | h | h | h
  · have e : ch = ⟨(⟨ch.val, by omega⟩ : Fin 64).val, by simp <;> omega⟩ := Fin.ext (by simp <;> omega)
    rw [pick0 _ _ _ _ _ h]
    simp only [quo, win, pick0 _ _ _ _ _ h]
    refine Eq.trans (congrArg (fun z => REF m c (ix2 r z)) e) ?_
    refine (PoolBwdRef.r2 (ct m c) ⟨ch.val, by omega⟩ r).trans ((PoolBwdRef.g2 (ct m c) ⟨ch.val, by omega⟩ r).trans ?_)
    rw [← e]
  · have e : ch = ⟨64 + (⟨ch.val - 64, by omega⟩ : Fin 64).val, by simp <;> omega⟩ := Fin.ext (by simp <;> omega)
    rw [pick1 _ _ _ _ _ h]
    simp only [quo, win, pick1 _ _ _ _ _ h]
    refine Eq.trans (congrArg (fun z => REF m c (ix2 r z)) e) ?_
    refine (PoolBwdRef.r4 (ct m c) ⟨ch.val - 64, by omega⟩ r).trans ((PoolBwdRef.g4 (ct m c) ⟨ch.val - 64, by omega⟩ r).trans ?_)
    rw [← e]
  · have e : ch = ⟨128 + (⟨ch.val - 128, by omega⟩ : Fin 64).val, by simp <;> omega⟩ := Fin.ext (by simp <;> omega)
    rw [pick2 _ _ _ _ _ h]
    simp only [quo, win, pick2 _ _ _ _ _ h]
    refine Eq.trans (congrArg (fun z => REF m c (ix2 r z)) e) ?_
    refine (PoolBwdRef.r8 (ct m c) ⟨ch.val - 128, by omega⟩ r).trans ((PoolBwdRef.g8 (ct m c) ⟨ch.val - 128, by omega⟩ r).trans ?_)
    rw [← e]
  · have e : ch = ⟨192 + (⟨ch.val - 192, by omega⟩ : Fin 64).val, by simp <;> omega⟩ := Fin.ext (by simp <;> omega)
    rw [pick3 _ _ _ _ _ h]
    simp only [quo, win, pick3 _ _ _ _ _ h]
    refine Eq.trans (congrArg (fun z => REF m c (ix2 r z)) e) ?_
    refine (PoolBwdRef.r16 (ct m c) ⟨ch.val - 192, by omega⟩ r).trans ((PoolBwdRef.g16 (ct m c) ⟨ch.val - 192, by omega⟩ r).trans ?_)
    rw [← e]

/-- What a grid point stores, given the rows it works on. -/
theorem out_core (c : Dev nD) (t : Fin cfg0.N) (X : Vec Ideal S656x256 .f32)
    (hX : ∀ y, X y = quo m c ((25 - t.val) * 640 + (y 0).val) (y 1)) (x : Fin 640) (ch : Fin 256)
    (r : Fin 16640) (hr : r.val = (25 - t.val) * 640 + x.val) :
    k0_pay1 (F := Ideal) (iblk m c 0 t) (k0_pay9 (F := Ideal) X) (k0_pay10 (F := Ideal) X) (k0_pay11 (F := Ideal) X) (k0_pay12 (F := Ideal) X)
        (k0_pay13 k0_pay4) (k0_pay14 k0_pay4) (k0_pay15 k0_pay4) (ix2 x ch) = REF m c (ix2 r ch) := by
  have ht : t.val < 26 := t.isLt
  have hx := x.isLt
  have hrow (k : ℕ) (hk : k < 16) : rows X ch (x.val + k) = quo m c (r.val + k) ch := by
    rw [rows, dif_pos (by omega), hX]
    refine congrArg₂ (quo m c) ?_ rfl
    rw [hr]
    simp [add_assoc]
  have hsum (n : ℕ) (hn : n ≤ 16) : ∑ k ∈ Finset.range n, rows X ch (x.val + k) = ∑ k ∈ Finset.range n, quo m c (r.val + k) ch :=
    Finset.sum_congr rfl fun k hk => hrow k (by have := Finset.mem_range.mp hk; omega)
  have hD : (iblk m c 0 t : Vec Ideal S640x256 .f32) (ix2 x ch) = ct m c (ix2 r ch) := by
    blk_point [iblk, V, ct, idx t]
  rw [ref_at, ← hsum 2 (by omega), ← hsum 4 (by omega), ← hsum 8 (by omega), ← hsum 16 (by omega), ← hD]
  exact out_at _ X x ch

/-- A load of the whole buffer. -/
theorem ld_all (X : Vec Ideal S656x256 .f32) :
    View.ld X (Rect.unit (s := S656x256) ![0,0] ![656,256] inb_S656x256_S656x256_0_0) = X := by
  funext y
  rw [View.ld_apply]
  congr 1
  funext a
  refine Fin.ext ?_
  rw [Rect.idx_unit_val]
  match a with
  | 0 => simp
  | 1 => simp

/-- What the first point leaves. -/
theorem outA (c : Dev nD) (t : Fin cfg0.N) (h0 : t.val % 26 = 0) (h1 : ¬ 1 ≤ t.val) (x : Fin 640) (ch : Fin 256)
    (r : Fin 16640) (hr : r.val = (25 - t.val) * 640 + x.val) :
    (outsAt0 m c t.val t.isLt).1 (ix2 x ch) = REF m c (ix2 r ch) := by
  rw [outsAt0_A m c t h0 h1]
  frame_out
  simp only [load_buf]
  erw [ld_all]
  exact out_core m c t _ (buf_ext m c t _ (below m c t h1)) x ch r hr

/-- What a later point leaves. -/
theorem outB (c : Dev nD) (t : Fin cfg0.N) (h0 : ¬ t.val % 26 = 0) (h1 : 1 ≤ t.val) (x : Fin 640) (ch : Fin 256)
    (r : Fin 16640) (hr : r.val = (25 - t.val) * 640 + x.val) :
    (outsAt0 m c t.val t.isLt).1 (ix2 x ch) = REF m c (ix2 r ch) := by
  rw [outsAt0_B m c t h0 h1]
  frame_out
  simp only [load_buf]
  erw [ld_all]
  exact out_core m c t _ (buf_ext m c t _ (carried m c t h1 (scr m c _ _) _)) x ch r hr

/-- The array after the run is the reference's. -/
theorem final (c : Dev nD) : (dats m 0 c).arrAt 1 (cfgs 0).N = REF m c := by
  refine (dats m 0 c).arrAt_eq_of_covers 1 _ (by decide +kernel) fun t hf y => ?_
  have ht : t.val < 26 := t.isLt
  blk_simp
  rw [after0_1]
  have e0 : ((win0_1.blk t).view.emb y 0).val = (25 - t.val) * 640 + (y 0).val := by blk_simp [idx t]
  have e1 : (win0_1.blk t).view.emb y 1 = y 1 := Fin.ext (by blk_simp [idx t])
  have hi (i : S16640x256.Idx) : ix2 (i 0) (i 1) = i := by
    funext a; match a with | 0 => rfl | 1 => rfl
  have hy (i : S640x256.Idx) : i = ix2 (i 0) (i 1) := by
    funext a; match a with | 0 => rfl | 1 => rfl
  have e : ix2 ((win0_1.blk t).view.emb y 0) (y 1) = (win0_1.blk t).view.emb y := by
    rw [← e1]; exact hi _
  by_cases h1 : 1 ≤ t.val
  · exact (congrArg _ (hy y)).trans ((outB m c t (by omega) h1 (y 0) (y 1) _ e0).trans (congrArg _ e))
  · exact (congrArg _ (hy y)).trans ((outA m c t (by omega) h1 (y 0) (y 1) _ e0).trans (congrArg _ e))

end Cert.PoolBwdIdeal.Value

end
-- ==== Proof.PoolBwdClaims.lean ====
/- The five claims about the PoolBwd call: three frames, the idealisation, the equation. -/
module

public import proofs.«01_k».proof.Defs
public import proofs.«01_k».proof.Proof.PoolBwdValue
public import proofs.«01_k».proof.Proof.Gen.PoolBwd.Frame
public import proofs.«01_k».proof.Proof.Gen.PoolBwdIdeal.Frame
public import proofs.«01_k».proof.Proof.Gen.PoolBwdRefIdeal.Run
public import proofs.«01_k».proof.Proof.Gen.PoolBwdRefIdeal.Read
public import Idealize.ShloMosaic.Adequacy
public import Idealize.ShloMosaic.Init

@[expose] public section

set_option maxRecDepth 16384

noncomputable section

namespace Cert.Proof.PoolBwd

open Idealize.ShloMosaic Idealize.ShloMosaic.TcCoe Idealize.SL.Sem

/-- The call as printed ends with its arguments unchanged and its counters at zero. -/
theorem frame_p : Cert.quiescent_PoolBwd := fun m ρ _ => Cert.PoolBwd.Gen.frame m ρ

/-- So does the call over the reals. -/
theorem frame_pi : Cert.quiescent_PoolBwdIdeal := fun m ρ _ => Cert.PoolBwdIdeal.Gen.frame m ρ

/-- So does the reference, which has no counters. -/
theorem frame_ri : Cert.quiescent_PoolBwdRefIdeal := fun m ρ _ =>
  (θ_run Cert.PoolBwdRefIdeal.defs _ _).mono
    (fun r h => ⟨fun c => (h c).2, sem_eq_zero_of_no_sems (by decide) r.2⟩)
    (Cert.PoolBwdRefIdeal.Value.run (F := Ideal) m ρ)

/-- No operation was rewritten. -/
theorem preserves : Cert.preserves_PoolBwd_PoolBwdIdeal := trivial

/-- Over the reals the call's results are the reference's. -/
theorem algebraic : Cert.algebraic_PoolBwdIdeal_PoolBwdRefIdeal := by
  pair_intro
  · run_from Cert.PoolBwdIdeal.Value.run_blocks m g
  · refine (θ_run Cert.PoolBwdRefIdeal.defs _ _).mono (fun r h c => ?_) (Cert.PoolBwdRefIdeal.Value.run (F := Ideal) m' g')
    have h0 := hagree c
    refine ⟨?_, (h c).2⟩
    refine ((h c).1.trans (Cert.PoolBwdRefIdeal.Read.val_main_v214_eq ..)).trans ?_
    refine Eq.trans ?_ (Cert.PoolBwdIdeal.Value.final m c).symm
    congr 1

end Cert.Proof.PoolBwd

end
-- ==== Proof.PoolFwdRef.lean ====
/- The pooled branch's windows as the reference writes them: in each group of 64 channels the sum over a window of the rows
   up to a row, divided by the row's count, less the row itself. -/
module

public import proofs.«01_k».proof.Proof.Gen.PoolFwdRefIdeal.Read
public import Idealize.ShloMosaic.Lib.Pipeline.ValueKit

@[expose] public section

set_option maxRecDepth 16384

noncomputable section

namespace Cert.PoolFwdRef

open Cert.PoolFwdRefIdeal Cert.PoolFwdRefIdeal.Read Idealize.ShloMosaic

/-- The number of positions that row `R`'s window of length `w` holds. -/
def cnt (w : EReal) (R : ℕ) : EReal :=
  max (min ((FloatOps.sitofp (F := Ideal) FTy.f32 (IntOp.subi (BitVec.ofNat 32 R) 240#32) : EReal) + 1) w) 1

/-- The pooled columns with 16 rows of zeros in front. -/
def src (C : FVec Ideal S16640x768 .f32) (R : ℕ) (ch : Fin 256) : EReal :=
  if h : 16 ≤ R ∧ R < 16656 then C (ix2 ⟨R - 16, by omega⟩ ⟨512 + ch.val, by omega⟩) else 0

/-- What a group with windows of `n` positions gives. -/
abbrev grp (C : FVec Ideal S16640x768 .f32) (w : EReal) (n : ℕ) (r : ℕ) (ch : Fin 256) : EReal :=
  Ideal.div (∑ k ∈ Finset.range n, src C (r + 16 - k) ch) (cnt w r) - src C (r + 16) ch

/-- The channels of the group with windows of 2. -/
theorem c2 (C : FVec Ideal S16640x768 .f32) (z : Fin 64) (r : Fin 16640) :
    val_main_v6 (F := Ideal) C (ix2 r z) = src C (r.val + 16) ⟨z.val, by omega⟩ := by
  rw [src, dif_pos ⟨by omega, by omega⟩]
  pointwise [val_main_v6, val_main_v0]
  rfl

/-- With 1 rows of zeros in front. -/
theorem p2 (C : FVec Ideal S16640x768 .f32) (z : Fin 64) (r : Fin 16641) :
    val_main_v8 (F := Ideal) C (ix2 r z) = src C (r.val + 15) ⟨z.val, by omega⟩ := by
  pointwise [val_main_v8, val_main_v7, val_main_cst]
  by_cases h : r.val < 1
  · rw [dif_pos h, src, dif_neg (by omega)]
  · rw [dif_neg h, c2]
    exact congrArg (fun R => src C R _) (show r.val - 1 + 16 = r.val + 15 by omega)

/-- That group's result. -/
theorem g2 (C : FVec Ideal S16640x768 .f32) (z : Fin 64) (r : Fin 16640) :
    val_main_v22 (F := Ideal) C (ix2 r z) = grp C (Ideal.ofBits .f32 1073741824#32) 2 r.val ⟨z.val, by omega⟩ := by
  rw [grp]
  simp only [Finset.sum_range_succ, Finset.sum_range_zero]
  pointwise [cnt, val_main_v22, val_main_v21, val_main_v20, val_main_v19, val_main_v18, val_main_cst_3, val_main_v17, val_main_v16, val_main_cst_2, val_main_v15, val_main_v14, val_main_cst_1, val_main_v5, val_main_v4, val_main_v3, val_main_v2, val_main_c, val_main_v1, val_main_v13, val_main_v12, val_main_v11, val_main_v9, val_main_v10, val_main_cst_0]
  simp only [p2, c2]
  refine congrArg₂ (· - ·) (congrArg₂ Ideal.div ?_ rfl) rfl
  repeat' (with_reducible refine congrArg₂ (· + ·) ?_ ?_)
  all_goals exact congrArg (fun R => src C R _) (by omega)

/-- The channels of the group with windows of 4. -/
theorem c4 (C : FVec Ideal S16640x768 .f32) (z : Fin 64) (r : Fin 16640) :
    val_main_v23 (F := Ideal) C (ix2 r z) = src C (r.val + 16) ⟨64 + z.val, by omega⟩ := by
  rw [src, dif_pos ⟨by omega, by omega⟩]
  pointwise [val_main_v23, val_main_v0]
  rfl

/-- With 3 rows of zeros in front. -/
theorem p4 (C : FVec Ideal S16640x768 .f32) (z : Fin 64) (r : Fin 16643) :
    val_main_v25 (F := Ideal) C (ix2 r z) = src C (r.val + 13) ⟨64 + z.val, by omega⟩ := by
  pointwise [val_main_v25, val_main_v24, val_main_cst_4]
  by_cases h : r.val < 3
  · rw [dif_pos h, src, dif_neg (by omega)]
  · rw [dif_neg h, c4]
    exact congrArg (fun R => src C R _) (show r.val - 3 + 16 = r.val + 13 by omega)

/-- That group's result. -/
theorem g4 (C : FVec Ideal S16640x768 .f32) (z : Fin 64) (r : Fin 16640) :
    val_main_v43 (F := Ideal) C (ix2 r z) = grp C (Ideal.ofBits .f32 1082130432#32) 4 r.val ⟨64 + z.val, by omega⟩ := by
  rw [grp]
  simp only [Finset.sum_range_succ, Finset.sum_range_zero]
  pointwise [cnt, val_main_v43, val_main_v42, val_main_v41, val_main_v40, val_main_v39, val_main_cst_8, val_main_v38, val_main_v37, val_main_cst_7, val_main_v36, val_main_v35, val_main_cst_6, val_main_v5, val_main_v4, val_main_v3, val_main_v2, val_main_c, val_main_v1, val_main_v34, val_main_v33, val_main_v32, val_main_v31, val_main_v30, val_main_v29, val_main_v28, val_main_v26, val_main_v27, val_main_cst_5]
  simp only [p4, c4]
  refine congrArg₂ (· - ·) (congrArg₂ Ideal.div ?_ rfl) rfl
  repeat' (with_reducible refine congrArg₂ (· + ·) ?_ ?_)
  all_goals exact congrArg (fun R => src C R _) (by omega)

/-- The channels of the group with windows of 8. -/
theorem c8 (C : FVec Ideal S16640x768 .f32) (z : Fin 64) (r : Fin 16640) :
    val_main_v44 (F := Ideal) C (ix2 r z) = src C (r.val + 16) ⟨128 + z.val, by omega⟩ := by
  rw [src, dif_pos ⟨by omega, by omega⟩]
  pointwise [val_main_v44, val_main_v0]
  rfl

/-- With 7 rows of zeros in front. -/
theorem p8 (C : FVec Ideal S16640x768 .f32) (z : Fin 64) (r : Fin 16647) :
    val_main_v46 (F := Ideal) C (ix2 r z) = src C (r.val + 9) ⟨128 + z.val, by omega⟩ := by
  pointwise [val_main_v46, val_main_v45, val_main_cst_9]
  by_cases h : r.val < 7
  · rw [dif_pos h, src, dif_neg (by omega)]
  · rw [dif_neg h, c8]
    exact congrArg (fun R => src C R _) (show r.val - 7 + 16 = r.val + 9 by omega)

/-- That group's result. -/
theorem g8 (C : FVec Ideal S16640x768 .f32) (z : Fin 64) (r : Fin 16640) :
    val_main_v72 (F := Ideal) C (ix2 r z) = grp C (Ideal.ofBits .f32 1090519040#32) 8 r.val ⟨128 + z.val, by omega⟩ := by
  rw [grp]
  simp only [Finset.sum_range_succ, Finset.sum_range_zero]
  pointwise [cnt, val_main_v72, val_main_v71, val_main_v70, val_main_v69, val_main_v68, val_main_cst_13, val_main_v67, val_main_v66, val_main_cst_12, val_main_v65, val_main_v64, val_main_cst_11, val_main_v5, val_main_v4, val_main_v3, val_main_v2, val_main_c, val_main_v1, val_main_v63, val_main_v62, val_main_v61, val_main_v60, val_main_v59, val_main_v58, val_main_v57, val_main_v56, val_main_v55, val_main_v54, val_main_v53, val_main_v52, val_main_v51, val_main_v50, val_main_v49, val_main_v47, val_main_v48, val_main_cst_10]
  simp only [p8, c8]
  refine congrArg₂ (· - ·) (congrArg₂ Ideal.div ?_ rfl) rfl
  repeat' (with_reducible refine congrArg₂ (· + ·) ?_ ?_)
  all_goals exact congrArg (fun R => src C R _) (by omega)

/-- The channels of the group with windows of 16. -/
theorem c16 (C : FVec Ideal S16640x768 .f32) (z : Fin 64) (r : Fin 16640) :
    val_main_v73 (F := Ideal) C (ix2 r z) = src C (r.val + 16) ⟨192 + z.val, by omega⟩ := by
  rw [src, dif_pos ⟨by omega, by omega⟩]
  pointwise [val_main_v73, val_main_v0]
  rfl

/-- With 15 rows of zeros in front. -/
theorem p16 (C : FVec Ideal S16640x768 .f32) (z : Fin 64) (r : Fin 16655) :
    val_main_v75 (F := Ideal) C (ix2 r z) = src C (r.val + 1) ⟨192 + z.val, by omega⟩ := by
  pointwise [val_main_v75, val_main_v74, val_main_cst_14]
  by_cases h : r.val < 15
  · rw [dif_pos h, src, dif_neg (by omega)]
  · rw [dif_neg h, c16]
    exact congrArg (fun R => src C R _) (show r.val - 15 + 16 = r.val + 1 by omega)

/-- That group's result. -/
theorem g16 (C : FVec Ideal S16640x768 .f32) (z : Fin 64) (r : Fin 16640) :
    val_main_v117 (F := Ideal) C (ix2 r z) = grp C (Ideal.ofBits .f32 1098907648#32) 16 r.val ⟨192 + z.val, by omega⟩ := by
  rw [grp]
  simp only [Finset.sum_range_succ, Finset.sum_range_zero]
  pointwise [cnt, val_main_v117, val_main_v116, val_main_v115, val_main_v114, val_main_v113, val_main_cst_18, val_main_v112, val_main_v111, val_main_cst_17, val_main_v110, val_main_v109, val_main_cst_16, val_main_v5, val_main_v4, val_main_v3, val_main_v2, val_main_c, val_main_v1, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v76, val_main_v77, val_main_cst_15]
  simp only [p16, c16]
  refine congrArg₂ (· - ·) (congrArg₂ Ideal.div ?_ rfl) rfl
  repeat' (with_reducible refine congrArg₂ (· + ·) ?_ ?_)
  all_goals exact congrArg (fun R => src C R _) (by omega)

/-- The result in that group's channels, windows of 2. -/
theorem r2 (C : FVec Ideal S16640x768 .f32) (z : Fin 64) (r : Fin 16640) :
    val_main_v119 (F := Ideal) C (ix2 r ⟨z.val, by omega⟩) = val_main_v22 (F := Ideal) C (ix2 r z) := by
  have hz := z.isLt
  pointwise [val_main_v119, val_main_v118]

/-- The result in that group's channels, windows of 4. -/
theorem r4 (C : FVec Ideal S16640x768 .f32) (z : Fin 64) (r : Fin 16640) :
    val_main_v119 (F := Ideal) C (ix2 r ⟨64 + z.val, by omega⟩) = val_main_v43 (F := Ideal) C (ix2 r z) := by
  have hz := z.isLt
  pointwise [val_main_v119, val_main_v118]

/-- The result in that group's channels, windows of 8. -/
theorem r8 (C : FVec Ideal S16640x768 .f32) (z : Fin 64) (r : Fin 16640) :
    val_main_v119 (F := Ideal) C (ix2 r ⟨128 + z.val, by omega⟩) = val_main_v72 (F := Ideal) C (ix2 r z) := by
  have hz := z.isLt
  pointwise [val_main_v119, val_main_v118]
  repeat rw [dif_neg (by omega)]
  rw [dif_pos (by omega)]
  exact congrArg (fun x => val_main_v72 (F := Ideal) C (ix2 r x)) (Fin.ext (by show 128 + z.val - 64 - 64 = z.val; omega))

/-- The result in that group's channels, windows of 16. -/
theorem r16 (C : FVec Ideal S16640x768 .f32) (z : Fin 64) (r : Fin 16640) :
    val_main_v119 (F := Ideal) C (ix2 r ⟨192 + z.val, by omega⟩) = val_main_v117 (F := Ideal) C (ix2 r z) := by
  have hz := z.isLt
  pointwise [val_main_v119, val_main_v118]
  repeat rw [dif_neg (by omega)]
  exact congrArg (fun x => val_main_v117 (F := Ideal) C (ix2 r x)) (Fin.ext (by show 192 + z.val - 64 - 64 - 64 = z.val; omega))

end Cert.PoolFwdRef

end
-- ==== Proof.PoolFwdValue.lean ====
/- The pooled branch's windows: the array the call leaves is the reference's, entry by entry. -/
module

public import proofs.«01_k».proof.Proof.Gen.PoolFwdIdeal.Value
public import proofs.«01_k».proof.Proof.PoolFwdRef
public import proofs.«01_k».proof.Proof.Stores
public import Idealize.ShloMosaic.Lib.Pipeline.ValueKit
public import Idealize.ShloMosaic.Lib.Pipeline.ReadBack

@[expose] public section

set_option maxRecDepth 16384

noncomputable section

namespace Cert.PoolFwdIdeal.Value

open Cert.PoolFwdIdeal Cert.PoolFwdIdeal.Gen Idealize.ShloMosaic Idealize.ShloMosaic.TcCoe Idealize.SL.Sem
open Idealize.ShloMosaic.Pipeline (Dat)

variable (m : (ℓ : Loc nD τ sig) → Buf (Elt Ideal) ℓ)

/-- The channel numbers. -/
abbrev io : IVec S1x256 32 := iota .tc S1x256 32 [1] iota_S1x256_d1_w32

/-- The channel's group as the call computes it. -/
theorem grp_at : ∀ ch : Fin 256, k0_pay12 io 64#32 k0_pay9 k0_pay10 k0_pay11 (ix2 0 ch) = BitVec.ofNat 32 (ch.val / 64) := by
  intro ch
  pointwise [k0_pay12, k0_pay9, k0_pay10, k0_pay11]
  revert ch
  decide +kernel

/-- The choice among four values by the channel's group. -/
def pick (ch : ℕ) (a b c d : EReal) : EReal :=
  Scalar.select (IntOp.cmpi CmpIPredicate.eq (BitVec.ofNat 32 (ch / 64)) 0#32) a
    (Scalar.select (IntOp.cmpi CmpIPredicate.eq (BitVec.ofNat 32 (ch / 64)) 1#32) b
      (Scalar.select (IntOp.cmpi CmpIPredicate.eq (BitVec.ofNat 32 (ch / 64)) 2#32) c d))

theorem pick0 (ch : ℕ) (a b c d : EReal) (h : ch / 64 = 0) : pick ch a b c d = a := by
  rw [pick, h]; rfl

theorem pick1 (ch : ℕ) (a b c d : EReal) (h : ch / 64 = 1) : pick ch a b c d = b := by
  rw [pick, h]; rfl

theorem pick2 (ch : ℕ) (a b c d : EReal) (h : ch / 64 = 2) : pick ch a b c d = c := by
  rw [pick, h]; rfl

theorem pick3 (ch : ℕ) (a b c d : EReal) (h : ch / 64 = 3) : pick ch a b c d = d := by
  rw [pick, h]; rfl

/-- The window of a channel. -/
def win (ch : ℕ) : EReal :=
  pick ch (Ideal.ofBits FTy.f32 1073741824#32) (Ideal.ofBits FTy.f32 1082130432#32) (Ideal.ofBits FTy.f32 1090519040#32)
    (Ideal.ofBits FTy.f32 1098907648#32)

/-- The first row of a tile as the call computes it. -/
theorem base : ∀ t : Fin grid0.N, Scalar.muli (BitVec.ofNat 32 (grid0.coords t 0).val) 640#32
    = BitVec.ofNat 32 (t.val * 640) := by decide +kernel

/-- A tile's counts. -/
theorem cnt_at (b R : ℕ) (r : Fin 640) (ch : Fin 256) (hR : R = b + r.val) :
    k0_pay13 (F := Ideal) (BitVec.ofNat 32 b) io 64#32 k0_pay9 k0_pay10 k0_pay11 (ix2 r ch) = PoolFwdRef.cnt (win ch.val) R := by
  pointwise [k0_pay13]
  rw [grp_at, show IntOp.addi (BitVec.ofNat 32 b) (BitVec.ofNat 32 r.val) = BitVec.ofNat 32 R from by
    rw [hR, BitVec.ofNat_add]; rfl]
  rfl

/-- A rotated row. -/
theorem rot (x : Vec Ideal S656x256 .f32) (i s : ℕ) (hs : s < 656) (h : i < 656) (hle : s ≤ i) (ch : Fin 256)
    (hi : (i + 656 - s) % 656 < 656) :
    x (ix2 ⟨(i + 656 - s) % 656, hi⟩ ch) = x (ix2 ⟨i - s, by omega⟩ ch) := by
  congr 2
  refine Fin.ext ?_
  show (i + 656 - s) % 656 = i - s
  rw [show i + 656 - s = (i - s) + 656 by omega, Nat.add_mod_right, Nat.mod_eq_of_lt (by omega)]

/-- The buffer's row `r`, nothing past its end. -/
def rows (x : Vec Ideal S656x256 .f32) (ch : Fin 256) (r : ℕ) : EReal :=
  if h : r < 656 then x (ix2 ⟨r, h⟩ ch) else 0

theorem rows_lt (x : Vec Ideal S656x256 .f32) (ch : Fin 256) (r : ℕ) (h : r < 656) :
    x (ix2 ⟨r, h⟩ ch) = rows x ch r := by
  rw [rows, dif_pos h]

/-- The sums over windows of 2, 4, 8 and 16 rows. -/
theorem sum2 (X : Vec Ideal S656x256 .f32) (ch : Fin 256) (r : ℕ) (h : r < 656) (h1 : 1 ≤ r) :
    k0_pay5 (F := Ideal) X (ix2 ⟨r, h⟩ ch) = ∑ k ∈ Finset.range 2, rows X ch (r - k) := by
  pointwise [k0_pay5]
  rw [rot X r 1 (by omega) h h1 ch, rows_lt X ch r (by omega), rows_lt X ch (r - 1) (by omega)]
  simp [Finset.sum_range_succ]

theorem sum4 (X : Vec Ideal S656x256 .f32) (ch : Fin 256) (r : ℕ) (h : r < 656) (h1 : 3 ≤ r) :
    k0_pay6 (F := Ideal) X (ix2 ⟨r, h⟩ ch) = ∑ k ∈ Finset.range 4, rows X ch (r - k) := by
  pointwise [k0_pay6]
  rw [rot (k0_pay5 (F := Ideal) X) r 2 (by omega) h (by omega) ch, sum2 X ch r h (by omega), sum2 X ch (r - 2) (by omega) (by omega)]
  simp [Finset.sum_range_succ, add_assoc, Nat.sub_sub]

theorem sum8 (X : Vec Ideal S656x256 .f32) (ch : Fin 256) (r : ℕ) (h : r < 656) (h1 : 7 ≤ r) :
    k0_pay7 (F := Ideal) X (ix2 ⟨r, h⟩ ch) = ∑ k ∈ Finset.range 8, rows X ch (r - k) := by
  pointwise [k0_pay7]
  rw [rot (k0_pay6 (F := Ideal) X) r 4 (by omega) h (by omega) ch, sum4 X ch r h (by omega), sum4 X ch (r - 4) (by omega) (by omega)]
  simp [Finset.sum_range_succ, add_assoc, Nat.sub_sub]

theorem sum16 (X : Vec Ideal S656x256 .f32) (ch : Fin 256) (r : ℕ) (h : r < 656) (h1 : 15 ≤ r) :
    k0_pay8 (F := Ideal) X (ix2 ⟨r, h⟩ ch) = ∑ k ∈ Finset.range 16, rows X ch (r - k) := by
  pointwise [k0_pay8]
  rw [rot (k0_pay7 (F := Ideal) X) r 8 (by omega) h (by omega) ch, sum8 X ch r h (by omega), sum8 X ch (r - 8) (by omega) (by omega)]
  simp [Finset.sum_range_succ, add_assoc, Nat.sub_sub]

/-- What a tile's row receives. -/
theorem out_at (D : Vec Ideal S640x256 .f32) (X : Vec Ideal S656x256 .f32) (b : ℕ) (r : Fin 640) (ch : Fin 256) :
    k0_pay1 (F := Ideal) D (k0_pay5 (F := Ideal) X) (k0_pay6 (F := Ideal) X)
        (k0_pay13 (F := Ideal) (BitVec.ofNat 32 b) io 64#32 k0_pay9 k0_pay10 k0_pay11) (k0_pay14 io 64#32 k0_pay9 k0_pay10 k0_pay11)
        (k0_pay15 (F := Ideal) (k0_pay7 (F := Ideal) X) (k0_pay8 (F := Ideal) X) io 64#32 k0_pay9 k0_pay10 k0_pay11)
        (k0_pay16 io 64#32 k0_pay9 k0_pay10 k0_pay11) (ix2 r ch)
      = Ideal.div (pick ch.val (∑ k ∈ Finset.range 2, rows X ch (16 + r.val - k)) (∑ k ∈ Finset.range 4, rows X ch (16 + r.val - k))
          (∑ k ∈ Finset.range 8, rows X ch (16 + r.val - k)) (∑ k ∈ Finset.range 16, rows X ch (16 + r.val - k)))
          (PoolFwdRef.cnt (win ch.val) (b + r.val)) - D (ix2 r ch) := by
  have hr := r.isLt
  rw [← sum2 X ch (16 + r.val) (by omega) (by omega), ← sum4 X ch (16 + r.val) (by omega) (by omega),
    ← sum8 X ch (16 + r.val) (by omega) (by omega), ← sum16 X ch (16 + r.val) (by omega) (by omega),
    ← cnt_at b (b + r.val) r ch rfl, pick, ← grp_at ch]
  generalize k0_pay5 (F := Ideal) X = a
  generalize k0_pay6 (F := Ideal) X = b
  generalize k0_pay7 (F := Ideal) X = c
  generalize k0_pay8 (F := Ideal) X = d
  generalize k0_pay13 (F := Ideal) _ _ _ _ _ _ = e
  pointwise [k0_pay1, k0_pay14, k0_pay15, k0_pay16]

/-- The 16 rows above the row tile and the tile, one above the other. -/
def buf (D : Vec Ideal S640x256 .f32) (H : Vec Ideal S16x256 .f32) : Vec Ideal S656x256 .f32 :=
  fun y => if h : 16 ≤ (y 0).val then D (ix2 ⟨(y 0).val - 16, by have := (y 0).isLt; simp at this; omega⟩ (y 1))
    else H (ix2 ⟨(y 0).val, by omega⟩ (y 1))

/-- The two stores leave the rows above and the tile. -/
theorem canon_buf (D : Vec Ideal S640x256 .f32) (H : Vec Ideal S16x256 .f32) :
    View.canon (Val := Elt Ideal) (e := .f32) [⟨Rect.unit (s := S656x256) ![16,0] ![640,256] inb_S656x256_S640x256_16_0, D⟩,
      ⟨Rect.unit (s := S656x256) ![0,0] ![16,256] inb_S656x256_S16x256_0_0, H⟩] = buf D H := by
  funext y
  have := (y 0).isLt
  simp at this
  by_cases h : 16 ≤ (y 0).val
  · refine (Cert.Stores.canon_hit (S := S656x256) ![16,0] ![640,256] inb_S656x256_S640x256_16_0 D _ y (ix2 (⟨(y 0).val - 16, by omega⟩ : Fin 640) (⟨(y 1).val, (y 1).isLt⟩ : Fin 256)) ?_).trans ?_
    · intro a; match a with | 0 => simp; omega | 1 => simp
    · rw [buf, dif_pos h]; rfl
  · refine (Cert.Stores.canon_miss (S := S656x256) ![16,0] ![640,256] inb_S656x256_S640x256_16_0 D _ y 0 (Or.inl ?_)).trans ?_
    · simp; omega
    refine (Cert.Stores.canon_hit (S := S656x256) ![0,0] ![16,256] inb_S656x256_S16x256_0_0 H _ y (ix2 (⟨(y 0).val, by omega⟩ : Fin 16) (⟨(y 1).val, (y 1).isLt⟩ : Fin 256)) ?_).trans ?_
    · intro a; match a with | 0 => simp | 1 => simp
    · rw [buf, dif_neg h]; rfl

/-- A load of all of them. -/
theorem load_buf {κ : Kind} {sp : Space} (v : View sig κ sp S656x256 .f32) (D : Vec Ideal S640x256 .f32) (H : Vec Ideal S16x256 .f32) (B : Rect S656x256) :
    v.readCov (Val := Elt Ideal) [⟨Rect.unit (s := S656x256) ![16,0] ![640,256] inb_S656x256_S640x256_16_0, D⟩,
      ⟨Rect.unit (s := S656x256) ![0,0] ![16,256] inb_S656x256_S16x256_0_0, H⟩] B.toLoadRect = View.ld (buf D H) B := by
  rw [View.readCov_eq_canon']
  erw [canon_buf]

/-- The blocks of the two arrays at a grid point: row tiles from the first to the last, the third column tile of the argument. -/
theorem idx : ∀ t : Fin cfg0.N, win0_0.index t = ![t.val, 2] ∧ win0_1.index t = ![t.val, 0] :=
  (by decide +kernel : ∀ t : Fin grid0.N, _)

/-- The projected columns of a device. -/
abbrev ct (c : Dev nD) : FVec Ideal S16640x768 .f32 := m ((c : Thread nD τ).loc main_arg0)

/-- The pooled columns, 16 rows of zeros in front. -/
abbrev src (c : Dev nD) (R : ℕ) (ch : Fin 256) : EReal := PoolFwdRef.src (ct m c) R ch

/-- A row of a tile. -/
theorem blk_at (c : Dev nD) (t : Fin cfg0.N) (x : Fin 640) (ch : Fin 256) :
    (iblk m c 0 t : Vec Ideal S640x256 .f32) (ix2 x ch) = src m c (t.val * 640 + x.val + 16) ch := by
  have ht : t.val < 26 := t.isLt
  have hx := x.isLt
  rw [src, PoolFwdRef.src, dif_pos ⟨by omega, by omega⟩]
  blk_point [iblk, V, ct, idx t]

/-- A tile as the call stores it. -/
abbrev tile (c : Dev nD) (t : Fin cfg0.N) : Vec Ideal S640x256 .f32 := k0_pay4 (F := Ideal) (iblk m c 0 t)

/-- The 16 rows above the tile and the tile are the rows from 16 before the tile's first on. -/
theorem buf_ext (c : Dev nD) (t : Fin cfg0.N) (H : Vec Ideal S16x256 .f32)
    (hH : ∀ (r : Fin 16) (ch : Fin 256), H (ix2 r ch) = src m c (t.val * 640 + r.val) ch)
    (y : S656x256.Idx) :
    buf (tile m c t) H y = src m c (t.val * 640 + (y 0).val) (y 1) := by
  have ht : t.val < 26 := t.isLt
  unfold buf
  split
  case isTrue h =>
    refine Eq.trans ?_ ((blk_at m c t ⟨(y 0).val - 16, by have := (y 0).isLt; simp at this; omega⟩ (y 1)).trans
      (congrArg (fun R => src m c R (y 1)) ?_))
    · pointwise [tile, k0_pay4]
    · simp; omega
  case isFalse h => exact hH _ _

/-- Above the first tile there is nothing. -/
theorem above (c : Dev nD) (t : Fin cfg0.N) (h1 : ¬ 1 ≤ t.val) (r : Fin 16) (ch : Fin 256) :
    k0_pay2 (F := Ideal) (ix2 r ch) = src m c (t.val * 640 + r.val) ch := by
  rw [src, PoolFwdRef.src, dif_neg (by omega)]
  pointwise [k0_pay2]

/-- The carried rows after the first point. -/
theorem scrA (c : Dev nD) (t : Fin cfg0.N) (h0 : t.val % 26 = 0) (h1 : ¬ 1 ≤ t.val) (y) :
    (outsAt0 m c t.val t.isLt).2 y = src m c (t.val * 640 + (y 0).val) (y 1) := by
  rw [outsAt0_A m c t h0 h1]
  frame_out
  refine (congrFun (canon_buf _ _) y).trans (buf_ext m c t _ (fun r ch => ?_) y)
  exact above m c t h1 r ch

/-- The 16 rows carried from the point before are those above the tile. -/
theorem carried (c : Dev nD) (t : Fin cfg0.N) (h1 : 1 ≤ t.val)
    (ih : ∀ y, (outsAt0 m c (t.val - 1) (by omega)).2 y = src m c ((t.val - 1) * 640 + (y 0).val) (y 1))
    (hw : (Memref.whole cc0_scratch0).IsWhole) (r : Fin 16) (ch : Fin 256) :
    k0_pay3 (F := Ideal) (View.ld (View.read (Elt Ideal) (View.whole cc0_scratch0) (hw.unread (outsAt0 m c (t.val - 1) (by omega)).2))
      (Rect.unit (s := S656x256) ![640,0] ![16,256] inb_S656x256_S16x256_640_0)) (ix2 r ch)
      = src m c (t.val * 640 + r.val) ch := by
  have ht : t.val < 26 := t.isLt
  pointwise [k0_pay3]
  refine (congrFun (read_unread_whole _ _ _) _).trans ((ih _).trans ?_)
  refine congrArg₂ (src m c) ?_ rfl
  simp
  omega

/-- The carried rows after a later point. -/
theorem scrB (c : Dev nD) (t : Fin cfg0.N) (h0 : ¬ t.val % 26 = 0) (h1 : 1 ≤ t.val)
    (ih : ∀ y, (outsAt0 m c (t.val - 1) (by omega)).2 y = src m c ((t.val - 1) * 640 + (y 0).val) (y 1)) (y) :
    (outsAt0 m c t.val t.isLt).2 y = src m c (t.val * 640 + (y 0).val) (y 1) := by
  rw [outsAt0_B m c t h0 h1]
  frame_out
  refine (congrFun (canon_buf _ _) y).trans (buf_ext m c t _ (fun r ch => ?_) y)
  exact carried m c t h1 ih _ r ch

/-- The carried rows at every grid point. -/
theorem scr (c : Dev nD) : ∀ (n : ℕ) (hn : n < cfg0.N) (y : S656x256.Idx),
    (outsAt0 m c n hn).2 y = src m c (n * 640 + (y 0).val) (y 1)
  | 0, hn, y => scrA m c ⟨0, hn⟩ rfl (by show ¬ 1 ≤ 0; omega) y
  | n + 1, hn, y => by
    have h26 : n + 1 < 26 := hn
    exact scrB m c ⟨n + 1, hn⟩ (by show ¬ (n + 1) % 26 = 0; omega) (by show 1 ≤ n + 1; omega)
      (fun y => scr c n (by omega) y) y

/-- The result of a device as the reference gives it. -/
abbrev REF (c : Dev nD) : FVec Ideal S16640x256 .bf16 := Cert.PoolFwdRefIdeal.Read.val_main_v119 (F := Ideal) (ct m c)

/-- The reference's result at an entry, the four groups together. -/
theorem ref_at (c : Dev nD) (r : Fin 16640) (ch : Fin 256) :
    REF m c (ix2 r ch) = Ideal.div (pick ch.val (∑ k ∈ Finset.range 2, src m c (r.val + 16 - k) ch) (∑ k ∈ Finset.range 4, src m c (r.val + 16 - k) ch)
          (∑ k ∈ Finset.range 8, src m c (r.val + 16 - k) ch) (∑ k ∈ Finset.range 16, src m c (r.val + 16 - k) ch))
          (PoolFwdRef.cnt (win ch.val) r.val) - src m c (r.val + 16) ch := by
  have hc := ch.isLt
  have hcase : ch.val / 64 = 0 ∨ ch.val / 64 = 1 ∨ ch.val / 64 = 2 ∨ ch.val / 64 = 3 := by omega
  rcases hcase with h | h | h | h
  · have e : ch = ⟨(⟨ch.val, by omega⟩ : Fin 64).val, by simp <;> omega⟩ := Fin.ext (by simp <;> omega)
    rw [pick0 _ _ _ _ _ h]
    simp only [src, win, pick0 _ _ _ _ _ h]
    refine Eq.trans (congrArg (fun z => REF m c (ix2 r z)) e) ?_
    refine (PoolFwdRef.r2 (ct m c) ⟨ch.val, by omega⟩ r).trans ((PoolFwdRef.g2 (ct m c) ⟨ch.val, by omega⟩ r).trans ?_)
    rw [← e]
  · have e : ch = ⟨64 + (⟨ch.val - 64, by omega⟩ : Fin 64).val, by simp <;> omega⟩ := Fin.ext (by simp <;> omega)
    rw [pick1 _ _ _ _ _ h]
    simp only [src, win, pick1 _ _ _ _ _ h]
    refine Eq.trans (congrArg (fun z => REF m c (ix2 r z)) e) ?_
    refine (PoolFwdRef.r4 (ct m c) ⟨ch.val - 64, by omega⟩ r).trans ((PoolFwdRef.g4 (ct m c) ⟨ch.val - 64, by omega⟩ r).trans ?_)
    rw [← e]
  · have e : ch = ⟨128 + (⟨ch.val - 128, by omega⟩ : Fin 64).val, by simp <;> omega⟩ := Fin.ext (by simp <;> omega)
    rw [pick2 _ _ _ _ _ h]
    simp only [src, win, pick2 _ _ _ _ _ h]
    refine Eq.trans (congrArg (fun z => REF m c (ix2 r z)) e) ?_
    refine (PoolFwdRef.r8 (ct m c) ⟨ch.val - 128, by omega⟩ r).trans ((PoolFwdRef.g8 (ct m c) ⟨ch.val - 128, by omega⟩ r).trans ?_)
    rw [← e]
  · have e : ch = ⟨192 + (⟨ch.val - 192, by omega⟩ : Fin 64).val, by simp <;> omega⟩ := Fin.ext (by simp <;> omega)
    rw [pick3 _ _ _ _ _ h]
    simp only [src, win, pick3 _ _ _ _ _ h]
    refine Eq.trans (congrArg (fun z => REF m c (ix2 r z)) e) ?_
    refine (PoolFwdRef.r16 (ct m c) ⟨ch.val - 192, by omega⟩ r).trans ((PoolFwdRef.g16 (ct m c) ⟨ch.val - 192, by omega⟩ r).trans ?_)
    rw [← e]

/-- What a grid point stores, given the rows it works on. -/
theorem out_core (c : Dev nD) (t : Fin cfg0.N) (X : Vec Ideal S656x256 .f32)
    (hX : ∀ y, X y = src m c (t.val * 640 + (y 0).val) (y 1)) (x : Fin 640) (ch : Fin 256)
    (r : Fin 16640) (hr : r.val = t.val * 640 + x.val) :
    k0_pay1 (F := Ideal) (iblk m c 0 t) (k0_pay5 (F := Ideal) X) (k0_pay6 (F := Ideal) X)
        (k0_pay13 (F := Ideal) (Scalar.muli (BitVec.ofNat 32 (grid0.coords t 0).val) 640#32) io 64#32 k0_pay9 k0_pay10 k0_pay11)
        (k0_pay14 io 64#32 k0_pay9 k0_pay10 k0_pay11)
        (k0_pay15 (F := Ideal) (k0_pay7 (F := Ideal) X) (k0_pay8 (F := Ideal) X) io 64#32 k0_pay9 k0_pay10 k0_pay11)
        (k0_pay16 io 64#32 k0_pay9 k0_pay10 k0_pay11) (ix2 x ch) = REF m c (ix2 r ch) := by
  have ht : t.val < 26 := t.isLt
  have hx := x.isLt
  have hrow (k : ℕ) (hk : k < 16) : rows X ch (16 + x.val - k) = src m c (r.val + 16 - k) ch := by
    rw [rows, dif_pos (by omega), hX]
    refine congrArg₂ (src m c) ?_ rfl
    rw [hr]
    simp
    omega
  have hsum (n : ℕ) (hn : n ≤ 16) : ∑ k ∈ Finset.range n, rows X ch (16 + x.val - k) = ∑ k ∈ Finset.range n, src m c (r.val + 16 - k) ch :=
    Finset.sum_congr rfl fun k hk => hrow k (by have := Finset.mem_range.mp hk; omega)
  have hD : (iblk m c 0 t : Vec Ideal S640x256 .f32) (ix2 x ch) = src m c (r.val + 16) ch := by
    rw [blk_at, hr]
  rw [ref_at, ← hsum 2 (by omega), ← hsum 4 (by omega), ← hsum 8 (by omega), ← hsum 16 (by omega), ← hD, base t, hr]
  exact out_at _ X _ x ch

/-- A load of the whole buffer. -/
theorem ld_all (X : Vec Ideal S656x256 .f32) :
    View.ld X (Rect.unit (s := S656x256) ![0,0] ![656,256] inb_S656x256_S656x256_0_0) = X := by
  funext y
  rw [View.ld_apply]
  congr 1
  funext a
  refine Fin.ext ?_
  rw [Rect.idx_unit_val]
  match a with
  | 0 => simp
  | 1 => simp

/-- What the first point leaves. -/
theorem outA (c : Dev nD) (t : Fin cfg0.N) (h0 : t.val % 26 = 0) (h1 : ¬ 1 ≤ t.val) (x : Fin 640) (ch : Fin 256)
    (r : Fin 16640) (hr : r.val = t.val * 640 + x.val) :
    (outsAt0 m c t.val t.isLt).1 (ix2 x ch) = REF m c (ix2 r ch) := by
  rw [outsAt0_A m c t h0 h1]
  frame_out
  simp only [load_buf]
  erw [ld_all]
  exact out_core m c t _ (buf_ext m c t _ (above m c t h1)) x ch r hr

/-- What a later point leaves. -/
theorem outB (c : Dev nD) (t : Fin cfg0.N) (h0 : ¬ t.val % 26 = 0) (h1 : 1 ≤ t.val) (x : Fin 640) (ch : Fin 256)
    (r : Fin 16640) (hr : r.val = t.val * 640 + x.val) :
    (outsAt0 m c t.val t.isLt).1 (ix2 x ch) = REF m c (ix2 r ch) := by
  rw [outsAt0_B m c t h0 h1]
  frame_out
  simp only [load_buf]
  erw [ld_all]
  exact out_core m c t _ (buf_ext m c t _ (carried m c t h1 (scr m c _ _) _)) x ch r hr

/-- The array after the run is the reference's. -/
theorem final (c : Dev nD) : (dats m 0 c).arrAt 1 (cfgs 0).N = REF m c := by
  refine (dats m 0 c).arrAt_eq_of_covers 1 _ (by decide +kernel) fun t hf y => ?_
  have ht : t.val < 26 := t.isLt
  blk_simp
  rw [after0_1]
  have e0 : ((win0_1.blk t).view.emb y 0).val = t.val * 640 + (y 0).val := by blk_simp [idx t]
  have e1 : (win0_1.blk t).view.emb y 1 = y 1 := Fin.ext (by blk_simp [idx t])
  have hi (i : S16640x256.Idx) : ix2 (i 0) (i 1) = i := by
    funext a; match a with | 0 => rfl | 1 => rfl
  have hy (i : S640x256.Idx) : i = ix2 (i 0) (i 1) := by
    funext a; match a with | 0 => rfl | 1 => rfl
  have e : ix2 ((win0_1.blk t).view.emb y 0) (y 1) = (win0_1.blk t).view.emb y := by
    rw [← e1]; exact hi _
  by_cases h1 : 1 ≤ t.val
  · exact (congrArg _ (hy y)).trans ((outB m c t (by omega) h1 (y 0) (y 1) _ e0).trans (congrArg _ e))
  · exact (congrArg _ (hy y)).trans ((outA m c t (by omega) h1 (y 0) (y 1) _ e0).trans (congrArg _ e))

end Cert.PoolFwdIdeal.Value

end
-- ==== Proof.PoolFwdClaims.lean ====
/- The five claims about the PoolFwd call: three frames, the idealisation, the equation. -/
module

public import proofs.«01_k».proof.Defs
public import proofs.«01_k».proof.Proof.PoolFwdValue
public import proofs.«01_k».proof.Proof.Gen.PoolFwd.Frame
public import proofs.«01_k».proof.Proof.Gen.PoolFwdIdeal.Frame
public import proofs.«01_k».proof.Proof.Gen.PoolFwdRefIdeal.Run
public import proofs.«01_k».proof.Proof.Gen.PoolFwdRefIdeal.Read
public import Idealize.ShloMosaic.Adequacy
public import Idealize.ShloMosaic.Init

@[expose] public section

set_option maxRecDepth 16384

noncomputable section

namespace Cert.Proof.PoolFwd

open Idealize.ShloMosaic Idealize.ShloMosaic.TcCoe Idealize.SL.Sem

/-- The call as printed ends with its arguments unchanged and its counters at zero. -/
theorem frame_p : Cert.quiescent_PoolFwd := fun m ρ _ => Cert.PoolFwd.Gen.frame m ρ

/-- So does the call over the reals. -/
theorem frame_pi : Cert.quiescent_PoolFwdIdeal := fun m ρ _ => Cert.PoolFwdIdeal.Gen.frame m ρ

/-- So does the reference, which has no counters. -/
theorem frame_ri : Cert.quiescent_PoolFwdRefIdeal := fun m ρ _ =>
  (θ_run Cert.PoolFwdRefIdeal.defs _ _).mono
    (fun r h => ⟨fun c => (h c).2, sem_eq_zero_of_no_sems (by decide) r.2⟩)
    (Cert.PoolFwdRefIdeal.Value.run (F := Ideal) m ρ)

/-- No operation was rewritten. -/
theorem preserves : Cert.preserves_PoolFwd_PoolFwdIdeal := trivial

/-- Over the reals the call's results are the reference's. -/
theorem algebraic : Cert.algebraic_PoolFwdIdeal_PoolFwdRefIdeal := by
  pair_intro
  · run_from Cert.PoolFwdIdeal.Value.run_blocks m g
  · refine (θ_run Cert.PoolFwdRefIdeal.defs _ _).mono (fun r h c => ?_) (Cert.PoolFwdRefIdeal.Value.run (F := Ideal) m' g')
    have h0 := hagree c
    refine ⟨?_, (h c).2⟩
    refine ((h c).1.trans (Cert.PoolFwdRefIdeal.Read.val_main_v119_eq ..)).trans ?_
    refine Eq.trans ?_ (Cert.PoolFwdIdeal.Value.final m c).symm
    congr 1

end Cert.Proof.PoolFwd

end
-- ==== Proof.ConvFwdRef.lean ====
/- The convolution branch's forward pass as the reference writes it: the gated columns, thirty-one shifted copies of
   them times the taps and summed, the layer normalisation of each row, and the product with its own logistic. -/
module

public import proofs.«01_k».proof.Proof.Gen.ConvFwdRefIdeal.Read
public import proofs.«01_k».proof.Proof.Sigmoid
public import Idealize.ShloMosaic.Lib.Pipeline.ValueKit

@[expose] public section

set_option maxRecDepth 16384

noncomputable section

namespace Cert.ConvFwdRef

open Cert.ConvFwdRefIdeal Cert.ConvFwdRefIdeal.Read Idealize.ShloMosaic

/-- The logistic function as the call writes it. -/
def sg (x : EReal) : EReal :=
  Ideal.ofBits .f32 1056964608#32 * Ideal.tanh (Ideal.ofBits .f32 1056964608#32 * x) + Ideal.ofBits .f32 1056964608#32

/-- The gated columns with 32 rows of zeros in front. -/
def src (C : FVec Ideal S16640x768 .f32) (R : ℕ) (ch : Fin 256) : EReal :=
  if h : 32 ≤ R ∧ R < 16672 then
    C (ix2 ⟨R - 32, by omega⟩ ⟨ch.val, by omega⟩) * sg (C (ix2 ⟨R - 32, by omega⟩ ⟨256 + ch.val, by omega⟩))
  else 0

/-- What tap `k` adds to row `r`. -/
def tap (C : FVec Ideal S16640x768 .f32) (W : FVec Ideal S31x256 .f32) (r : ℕ) (ch : Fin 256) (k : ℕ) : EReal :=
  if h : k < 31 then src C (r + 2 + k) ch * W (ix2 ⟨k, h⟩ ch) else 0

/-- A row of the convolution. -/
abbrev conv (C : FVec Ideal S16640x768 .f32) (W : FVec Ideal S31x256 .f32) (b : EReal) (r : ℕ) (ch : Fin 256) : EReal :=
  (∑ k ∈ Finset.range 31, tap C W r ch k) + b

/-- The mean of a row. -/
def mean (z : Fin 256 → EReal) : EReal := Ideal.div (∑ k, z k) (Ideal.ofBits .f32 0x43800000#32)

/-- A row's layer normalisation at one channel. -/
def norm (z : Fin 256 → EReal) (mu g b : EReal) (ch : Fin 256) : EReal :=
  (z ch - mu) * Ideal.rsqrt (Ideal.div (∑ k, (z k - mu) * (z k - mu)) (Ideal.ofBits .f32 0x43800000#32)
    + Ideal.ofBits .f32 0x358637BD#32) * g + b

/-- The branch's result at one channel. -/
def out (z : Fin 256 → EReal) (mu g b : EReal) (ch : Fin 256) : EReal := norm z mu g b ch * sg (norm z mu g b ch)

/-- The gate. -/
theorem gate (C : FVec Ideal S16640x768 .f32) (r : Fin 16640) (ch : Fin 256) :
    val_main_v8 (F := Ideal) C (ix2 r ch) = sg (C (ix2 r ⟨256 + ch.val, by omega⟩)) := by
  refine Eq.trans ?_ (Cert.Sigmoid.eq _).symm
  pointwise [val_main_v8, val_main_v6, val_main_v4, val_main_v3, val_main_v2, val_main_v0, val_main_v5, val_main_cst,
    val_main_v7, val_main_cst_0]

/-- The gated columns. -/
theorem gated (C : FVec Ideal S16640x768 .f32) (r : Fin 16640) (ch : Fin 256) :
    val_main_v9 (F := Ideal) C (ix2 r ch) = src C (r.val + 32) ch := by
  have e : val_main_v9 (F := Ideal) C (ix2 r ch) = C (ix2 r ⟨ch.val, by omega⟩) * val_main_v8 (F := Ideal) C (ix2 r ch) := by
    pointwise [val_main_v9, val_main_v1, val_main_v0]
  rw [e, gate, src, dif_pos ⟨by omega, by omega⟩]
  rfl

/-- With 30 rows of zeros in front. -/
theorem padded (C : FVec Ideal S16640x768 .f32) (r : Fin 16670) (ch : Fin 256) :
    val_main_v11 (F := Ideal) C (ix2 r ch) = src C (r.val + 2) ch := by
  pointwise [val_main_v11, val_main_v10, val_main_cst_1]
  by_cases h : r.val < 30
  · rw [dif_pos h, src, dif_neg (by omega)]
  · rw [dif_neg h, gated]
    exact congrArg (fun R => src C R _) (show r.val - 30 + 32 = r.val + 2 by omega)

/-- A tap as the reference selects it. -/
theorem tap_ref (C : FVec Ideal S16640x768 .f32) (W : FVec Ideal S31x256 .f32) (r : ℕ) (ch : Fin 256) (k : ℕ) (h : k < 31)
    (w : Fin 31) (hw : w.val = k) (R : ℕ) (hR : R = r + 2 + k) : src C R ch * W (ix2 w ch) = tap C W r ch k := by
  obtain rfl : w = ⟨k, h⟩ := Fin.ext hw
  rw [tap, dif_pos h, hR]

/-- The convolution. -/
theorem convolved (C : FVec Ideal S16640x768 .f32) (W : FVec Ideal S31x256 .f32) (B : FVec Ideal S256 .f32) (r : Fin 16640)
    (ch : Fin 256) : val_main_v230 (F := Ideal) C W B (ix2 r ch) = conv C W (B (ix1 ch)) r.val ch := by
  rw [conv]
  simp only [Finset.sum_range_succ, Finset.sum_range_zero, zero_add]
  pointwise [val_main_v230, val_main_v229, val_main_v228, val_main_v227, val_main_v226, val_main_v225, val_main_v224,
    val_main_v223, val_main_v222, val_main_v221, val_main_v220, val_main_v219, val_main_v218, val_main_v217,
    val_main_v216, val_main_v215, val_main_v214, val_main_v213, val_main_v212, val_main_v211, val_main_v210,
    val_main_v209, val_main_v208, val_main_v207, val_main_v206, val_main_v205, val_main_v204, val_main_v203,
    val_main_v202, val_main_v201, val_main_v200, val_main_v199, val_main_v198, val_main_v197, val_main_v196,
    val_main_v195, val_main_v194, val_main_v193, val_main_v192, val_main_v191, val_main_v190, val_main_v189,
    val_main_v188, val_main_v187, val_main_v186, val_main_v185, val_main_v184, val_main_v183, val_main_v182,
    val_main_v181, val_main_v180, val_main_v179, val_main_v178, val_main_v177, val_main_v176, val_main_v175,
    val_main_v174, val_main_v173, val_main_v172, val_main_v171, val_main_v170, val_main_v169, val_main_v168,
    val_main_v167, val_main_v166, val_main_v165, val_main_v164, val_main_v163, val_main_v162, val_main_v161,
    val_main_v160, val_main_v159, val_main_v158, val_main_v157, val_main_v156, val_main_v155, val_main_v154,
    val_main_v153, val_main_v152, val_main_v151, val_main_v150, val_main_v149, val_main_v148, val_main_v147,
    val_main_v146, val_main_v145, val_main_v144, val_main_v143, val_main_v142, val_main_v141, val_main_v140,
    val_main_v139, val_main_v138, val_main_v137, val_main_v136, val_main_v135, val_main_v134, val_main_v133,
    val_main_v132, val_main_v131, val_main_v130, val_main_v129, val_main_v128, val_main_v127, val_main_v126,
    val_main_v125, val_main_v124, val_main_v123, val_main_v122, val_main_v121, val_main_v120, val_main_v119,
    val_main_v118, val_main_v117, val_main_v116, val_main_v115, val_main_v114, val_main_v113, val_main_v112,
    val_main_v111, val_main_v110, val_main_v109, val_main_v108, val_main_v107, val_main_v106, val_main_v105,
    val_main_v104, val_main_v103, val_main_v102, val_main_v101, val_main_v100, val_main_v99, val_main_v98,
    val_main_v97, val_main_v96, val_main_v95, val_main_v94, val_main_v93, val_main_v92, val_main_v91, val_main_v90,
    val_main_v89, val_main_v88, val_main_v87, val_main_v86, val_main_v85, val_main_v84, val_main_v83, val_main_v82,
    val_main_v81, val_main_v80, val_main_v79, val_main_v78, val_main_v77, val_main_v76, val_main_v75, val_main_v74,
    val_main_v73, val_main_v72, val_main_v71, val_main_v70, val_main_v69, val_main_v68, val_main_v67, val_main_v66,
    val_main_v65, val_main_v64, val_main_v63, val_main_v62, val_main_v61, val_main_v60, val_main_v59, val_main_v58,
    val_main_v57, val_main_v56, val_main_v55, val_main_v54, val_main_v53, val_main_v52, val_main_v51, val_main_v50,
    val_main_v49, val_main_v48, val_main_v47, val_main_v46, val_main_v45, val_main_v44, val_main_v43, val_main_v42,
    val_main_v41, val_main_v40, val_main_v39, val_main_v38, val_main_v37, val_main_v36, val_main_v35, val_main_v34,
    val_main_v33, val_main_v32, val_main_v31, val_main_v30, val_main_v29, val_main_v28, val_main_v27, val_main_v26,
    val_main_v25, val_main_v24, val_main_v23, val_main_v22, val_main_v21, val_main_v20, val_main_v19, val_main_v18,
    val_main_v17, val_main_v16, val_main_v15, val_main_v14, val_main_v13, val_main_v12]
  simp only [padded]
  repeat' (with_reducible refine congrArg₂ (· + ·) ?_ ?_)
  all_goals first
    | exact tap_ref C W _ ch _ (by omega) _ rfl _ (by simp <;> omega)
    | rfl

/-- The layer normalisation. -/
theorem normed (C : FVec Ideal S16640x768 .f32) (W : FVec Ideal S31x256 .f32) (B G D : FVec Ideal S256 .f32) (r : Fin 16640)
    (ch : Fin 256) : val_main_v252 (F := Ideal) C W B G D (ix2 r ch)
      = norm (fun k => conv C W (B (ix1 k)) r.val k) (mean fun k => conv C W (B (ix1 k)) r.val k) (G (ix1 ch)) (D (ix1 ch)) ch := by
  have e : (fun k => conv C W (B (ix1 k)) r.val k) = fun k => val_main_v230 (F := Ideal) C W B (ix2 r k) :=
    funext fun k => (convolved C W B r k).symm
  rw [e]
  unfold norm mean
  pointwise [val_main_v252, val_main_v251, val_main_v250, val_main_v249, val_main_v248, val_main_v247, val_main_v246,
    val_main_v245, val_main_v244, val_main_v243, val_main_v242, val_main_cst_6, val_main_v241, val_main_v240,
    val_main_cst_5, val_main_v239, val_main_v238, val_main_cst_4, val_main_v237, val_main_v236, val_main_v235,
    val_main_v234, val_main_v233, val_main_cst_3, val_main_v232, val_main_v231, val_main_cst_2]

/-- The result. -/
theorem href (C : FVec Ideal S16640x768 .f32) (W : FVec Ideal S31x256 .f32) (B G D : FVec Ideal S256 .f32) (r : Fin 16640)
    (ch : Fin 256) : val_main_v254 (F := Ideal) C W B G D (ix2 r ch)
      = out (fun k => conv C W (B (ix1 k)) r.val k) (mean fun k => conv C W (B (ix1 k)) r.val k) (G (ix1 ch)) (D (ix1 ch)) ch := by
  rw [out, ← normed]
  unfold sg
  rw [Cert.Sigmoid.eq]
  pointwise [val_main_v254, val_main_v253, val_main_call0_v5, val_main_call0_v3, val_main_call0_v1, val_main_call0_v0,
    val_main_call0_v2, val_main_call0_cst, val_main_call0_v4, val_main_call0_cst_0]

end Cert.ConvFwdRef

end
-- ==== Proof.ConvFwdValue.lean ====
/- The convolution branch's forward pass: the array the call leaves is the reference's, entry by entry. -/
module

public import proofs.«01_k».proof.Proof.Gen.ConvFwdIdeal.Value
public import proofs.«01_k».proof.Proof.ConvFwdRef
public import proofs.«01_k».proof.Proof.Stores
public import Idealize.ShloMosaic.Lib.Pipeline.ValueKit
public import Idealize.ShloMosaic.Lib.Pipeline.ReadBack

@[expose] public section

set_option maxRecDepth 16384

noncomputable section

namespace Cert.ConvFwdIdeal.Value

open Cert.ConvFwdIdeal Cert.ConvFwdIdeal.Gen Idealize.ShloMosaic Idealize.ShloMosaic.TcCoe Idealize.SL.Sem
open Idealize.ShloMosaic.Pipeline (Dat)

variable (m : (ℓ : Loc nD τ sig) → Buf (Elt Ideal) ℓ)

/-- The 32 rows above the row tile and the tile, one above the other. -/
def buf (D : Vec Ideal S640x256 .f32) (H : Vec Ideal S32x256 .f32) : Vec Ideal S672x256 .f32 :=
  fun y => if h : 32 ≤ (y 0).val then D (ix2 ⟨(y 0).val - 32, by have := (y 0).isLt; simp at this; omega⟩ (y 1))
    else H (ix2 ⟨(y 0).val, by omega⟩ (y 1))

/-- The two stores leave the rows above and the tile. -/
theorem canon_buf (D : Vec Ideal S640x256 .f32) (H : Vec Ideal S32x256 .f32) :
    View.canon (Val := Elt Ideal) (e := .f32) [⟨Rect.unit (s := S672x256) ![32,0] ![640,256] inb_S672x256_S640x256_32_0, D⟩,
      ⟨Rect.unit (s := S672x256) ![0,0] ![32,256] inb_S672x256_S32x256_0_0, H⟩] = buf D H := by
  funext y
  have := (y 0).isLt
  simp at this
  by_cases h : 32 ≤ (y 0).val
  · refine (Cert.Stores.canon_hit (S := S672x256) ![32,0] ![640,256] inb_S672x256_S640x256_32_0 D _ y (ix2 (⟨(y 0).val - 32, by omega⟩ : Fin 640) (⟨(y 1).val, (y 1).isLt⟩ : Fin 256)) ?_).trans ?_
    · intro a; match a with | 0 => simp; omega | 1 => simp
    · rw [buf, dif_pos h]; rfl
  · refine (Cert.Stores.canon_miss (S := S672x256) ![32,0] ![640,256] inb_S672x256_S640x256_32_0 D _ y 0 (Or.inl ?_)).trans ?_
    · simp; omega
    refine (Cert.Stores.canon_hit (S := S672x256) ![0,0] ![32,256] inb_S672x256_S32x256_0_0 H _ y (ix2 (⟨(y 0).val, by omega⟩ : Fin 32) (⟨(y 1).val, (y 1).isLt⟩ : Fin 256)) ?_).trans ?_
    · intro a; match a with | 0 => simp | 1 => simp
    · rw [buf, dif_neg h]; rfl

/-- A load of them. -/
theorem load_buf {κ : Kind} {sp : Space} (v : View sig κ sp S672x256 .f32) (D : Vec Ideal S640x256 .f32) (H : Vec Ideal S32x256 .f32) (B : Rect S672x256) :
    v.readCov (Val := Elt Ideal) [⟨Rect.unit (s := S672x256) ![32,0] ![640,256] inb_S672x256_S640x256_32_0, D⟩,
      ⟨Rect.unit (s := S672x256) ![0,0] ![32,256] inb_S672x256_S32x256_0_0, H⟩] B.toLoadRect = View.ld (buf D H) B := by
  rw [View.readCov_eq_canon']
  erw [canon_buf]

/-- The eight shifted copies of the rows, the last written first. -/
abbrev slots (X : Vec Ideal S672x256 .f32) : List (View.Piece (Elt Ideal) S8x672x256 .f32) :=
  [⟨Rect.unit ![7,0,0] ![1,664,256] inb_S8x672x256_S1x664x256_7_0_0, k0_pay13 (F := Ideal) (View.ld X (Rect.unit ![7,0] ![664,256] inb_S672x256_S664x256_7_0))⟩,
   ⟨Rect.unit ![6,0,0] ![1,664,256] inb_S8x672x256_S1x664x256_6_0_0, k0_pay12 (F := Ideal) (View.ld X (Rect.unit ![6,0] ![664,256] inb_S672x256_S664x256_6_0))⟩,
   ⟨Rect.unit ![5,0,0] ![1,664,256] inb_S8x672x256_S1x664x256_5_0_0, k0_pay11 (F := Ideal) (View.ld X (Rect.unit ![5,0] ![664,256] inb_S672x256_S664x256_5_0))⟩,
   ⟨Rect.unit ![4,0,0] ![1,664,256] inb_S8x672x256_S1x664x256_4_0_0, k0_pay10 (F := Ideal) (View.ld X (Rect.unit ![4,0] ![664,256] inb_S672x256_S664x256_4_0))⟩,
   ⟨Rect.unit ![3,0,0] ![1,664,256] inb_S8x672x256_S1x664x256_3_0_0, k0_pay9 (F := Ideal) (View.ld X (Rect.unit ![3,0] ![664,256] inb_S672x256_S664x256_3_0))⟩,
   ⟨Rect.unit ![2,0,0] ![1,664,256] inb_S8x672x256_S1x664x256_2_0_0, k0_pay8 (F := Ideal) (View.ld X (Rect.unit ![2,0] ![664,256] inb_S672x256_S664x256_2_0))⟩,
   ⟨Rect.unit ![1,0,0] ![1,664,256] inb_S8x672x256_S1x664x256_1_0_0, k0_pay7 (F := Ideal) (View.ld X (Rect.unit ![1,0] ![664,256] inb_S672x256_S664x256_1_0))⟩,
   ⟨Rect.unit ![0,0,0] ![1,672,256] inb_S8x672x256_S1x672x256_0_0_0, k0_pay6 (F := Ideal) (View.ld X (Rect.unit ![0,0] ![672,256] inb_S672x256_S672x256_0_0))⟩]

/-- What the copies hold: copy `s` at row `r` is row `s + r`. -/
def slotAt (X : Vec Ideal S672x256 .f32) (y : S8x672x256.Idx) : EReal :=
  if h : (y 0).val + (y 1).val < 672 then X (ix2 ⟨(y 0).val + (y 1).val, h⟩ (y 2)) else 0

/-- A value of it where the row is inside. -/
theorem slotAt_eq (X : Vec Ideal S672x256 .f32) (y : S8x672x256.Idx) (r : Fin 672) (ch : Fin 256)
    (h : (y 0).val + (y 1).val = r.val) (h2 : (y 2).val = ch.val) : slotAt X y = X (ix2 r ch) := by
  have h' : (y 0).val + (y 1).val < 672 := h ▸ r.isLt
  rw [slotAt, dif_pos h']
  congr 1
  funext a
  match a with
  | 0 => exact Fin.ext h
  | 1 => exact Fin.ext h2

/-- A load of the rows from `s` on. -/
theorem ld_rows (X : Vec Ideal S672x256 .f32) (s n : ℕ)
    (inb : ∀ a, (![s, 0] : Fin 2 → ℕ) a + (![n, 256] : Fin 2 → ℕ) a ≤ S672x256.size a) (r : Fin n) (ch : Fin 256)
    (h : s + r.val < 672) :
    View.ld X (Rect.unit (s := S672x256) ![s, 0] ![n, 256] inb) (ix2 r ch) = X (ix2 ⟨s + r.val, h⟩ ch) := by
  rw [View.ld_apply]
  congr 1
  funext a
  refine Fin.ext ?_
  rw [Rect.idx_unit_val]
  match a with
  | 0 => simp
  | 1 => simp

/-- A copy's rows, one by one. -/
theorem copy_at (X : Vec Ideal S672x256 .f32) (s n : ℕ)
    (inb : ∀ a, (![s, 0, 0] : Fin 3 → ℕ) a + (![1, n, 256] : Fin 3 → ℕ) a ≤ S8x672x256.size a)
    (inb' : ∀ a, (![s, 0] : Fin 2 → ℕ) a + (![n, 256] : Fin 2 → ℕ) a ≤ S672x256.size a)
    (w : (⟨3, ![1, n, 256]⟩ : Shape).Idx → EReal)
    (hw : ∀ x, w x = View.ld X (Rect.unit (s := S672x256) ![s, 0] ![n, 256] inb') (ix2 (x 1) (x 2)))
    (x : (⟨3, ![1, n, 256]⟩ : Shape).Idx) :
    w x = slotAt X ((Rect.unit (s := S8x672x256) ![s, 0, 0] ![1, n, 256] inb).emb x) := by
  have h0 : (x 0).val < 1 := (x 0).isLt
  have h1 : (x 1).val < n := (x 1).isLt
  have hn : s + n ≤ 672 := inb' 0
  have hr : s + (x 1).val < 672 := by omega
  rw [hw]
  refine (ld_rows X s n inb' (x 1) (x 2) hr).trans (slotAt_eq X _ _ _ ?_ ?_).symm
  · rw [Cert.Stores.emb_val, Cert.Stores.emb_val]; simp
  · rw [Cert.Stores.emb_val]; simp

/-- Every copy holds its rows. -/
theorem slots_at (X : Vec Ideal S672x256 .f32) : ∀ p ∈ slots X, ∀ x, p.2 x = slotAt X (p.1.emb x) := by
  intro p hp x
  simp only [slots, List.mem_cons, List.not_mem_nil, or_false] at hp
  rcases hp with rfl | rfl | rfl | rfl | rfl | rfl | rfl | rfl
  · exact copy_at X 7 664 inb_S8x672x256_S1x664x256_7_0_0 inb_S672x256_S664x256_7_0 _ (fun x => by pointwise [k0_pay13]) x
  · exact copy_at X 6 664 inb_S8x672x256_S1x664x256_6_0_0 inb_S672x256_S664x256_6_0 _ (fun x => by pointwise [k0_pay12]) x
  · exact copy_at X 5 664 inb_S8x672x256_S1x664x256_5_0_0 inb_S672x256_S664x256_5_0 _ (fun x => by pointwise [k0_pay11]) x
  · exact copy_at X 4 664 inb_S8x672x256_S1x664x256_4_0_0 inb_S672x256_S664x256_4_0 _ (fun x => by pointwise [k0_pay10]) x
  · exact copy_at X 3 664 inb_S8x672x256_S1x664x256_3_0_0 inb_S672x256_S664x256_3_0 _ (fun x => by pointwise [k0_pay9]) x
  · exact copy_at X 2 664 inb_S8x672x256_S1x664x256_2_0_0 inb_S672x256_S664x256_2_0 _ (fun x => by pointwise [k0_pay8]) x
  · exact copy_at X 1 664 inb_S8x672x256_S1x664x256_1_0_0 inb_S672x256_S664x256_1_0 _ (fun x => by pointwise [k0_pay7]) x
  · exact copy_at X 0 672 inb_S8x672x256_S1x672x256_0_0_0 inb_S672x256_S672x256_0_0 _ (fun x => by pointwise [k0_pay6]) x

/-- A load at copy `s` from row `q` on reads the rows from `s + q` on. -/
theorem load_slots {κ : Kind} {sp : Space} (v : View sig κ sp S8x672x256 .f32) (X : Vec Ideal S672x256 .f32) (s q : ℕ) (hs : s < 8) (hq : q ≤ if s = 0 then 32 else 24)
    (inb : ∀ a, (![s, q, 0] : Fin 3 → ℕ) a + (![1, 640, 256] : Fin 3 → ℕ) a ≤ S8x672x256.size a) :
    v.readCov (Val := Elt Ideal) (slots X) (Rect.unit ![s, q, 0] ![1, 640, 256] inb).toLoadRect
      = fun y => X (ix2 ⟨s + q + (y 1).val, by
          have := (y 1).isLt; simp at this; split at hq <;> omega⟩ (y 2)) := by
  rw [View.readCov_eq_canon']
  funext y
  have hy := (y 1).isLt
  have h0 := (y 0).isLt
  have h2 := (y 2).isLt
  simp at hy h0 h2
  refine (View.canon_apply_of_pieces (slotAt X) (slots X) (slots_at X) _ ?_).trans (slotAt_eq X _ _ _ ?_ ?_)
  · have hm (n : ℕ) (inb' : ∀ a, (![s, 0, 0] : Fin 3 → ℕ) a + (![1, n, 256] : Fin 3 → ℕ) a ≤ S8x672x256.size a)
        (hn : q + 640 ≤ n) : (Rect.unit ![s, q, 0] ![1, 640, 256] inb).toLoadRect.idx y
          ∈ (Rect.unit (s := S8x672x256) ![s, 0, 0] ![1, n, 256] inb').set := by
      refine Rect.mem_set_unit.mpr fun a => ?_
      rw [Rect.idx_unit_val]
      match a with
      | 0 => simp
      | 1 => simp; omega
      | 2 => simp; omega
    interval_cases s
    · exact ⟨_, List.mem_of_getElem? (i := 7) rfl, hm 672 (by decide) (by simp at hq; omega)⟩
    · exact ⟨_, List.mem_of_getElem? (i := 6) rfl, hm 664 (by decide) (by simp at hq; omega)⟩
    · exact ⟨_, List.mem_of_getElem? (i := 5) rfl, hm 664 (by decide) (by simp at hq; omega)⟩
    · exact ⟨_, List.mem_of_getElem? (i := 4) rfl, hm 664 (by decide) (by simp at hq; omega)⟩
    · exact ⟨_, List.mem_of_getElem? (i := 3) rfl, hm 664 (by decide) (by simp at hq; omega)⟩
    · exact ⟨_, List.mem_of_getElem? (i := 2) rfl, hm 664 (by decide) (by simp at hq; omega)⟩
    · exact ⟨_, List.mem_of_getElem? (i := 1) rfl, hm 664 (by decide) (by simp at hq; omega)⟩
    · exact ⟨_, List.mem_of_getElem? (i := 0) rfl, hm 664 (by decide) (by simp at hq; omega)⟩
  · simp; omega
  · simp

/-- The blocks of the arrays at a grid point: row tiles from the first to the last. -/
theorem idx : ∀ t : Fin cfg0.N, win0_0.index t = ![t.val, 0] ∧ win0_1.index t = ![t.val, 1] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

/-- The projected columns of a device. -/
abbrev ct (c : Dev nD) : FVec Ideal S16640x768 .f32 := m ((c : Thread nD τ).loc main_arg0)

/-- The gated columns, 32 rows of zeros in front. -/
abbrev src (c : Dev nD) (R : ℕ) (ch : Fin 256) : EReal := ConvFwdRef.src (ct m c) R ch

/-- A tile of the gated columns as the call computes it. -/
abbrev tile (c : Dev nD) (t : Fin cfg0.N) : Vec Ideal S640x256 .f32 := k0_pay5 (F := Ideal) (iblk m c 0 t) (iblk m c 1 t)

/-- A row of a tile. -/
theorem tile_at (c : Dev nD) (t : Fin cfg0.N) (x : Fin 640) (ch : Fin 256) :
    tile m c t (ix2 x ch) = src m c (t.val * 640 + x.val + 32) ch := by
  have ht : t.val < 26 := t.isLt
  have hx := x.isLt
  rw [src, ConvFwdRef.src, dif_pos ⟨by omega, by omega⟩]
  have e (a g : Vec Ideal S640x256 .f32) : k0_pay5 (F := Ideal) a g (ix2 x ch) = a (ix2 x ch) * ConvFwdRef.sg (g (ix2 x ch)) := by
    unfold ConvFwdRef.sg
    pointwise [k0_pay5]
  refine (e _ _).trans (congrArg₂ (· * ·) ?_ (congrArg ConvFwdRef.sg ?_))
  · blk_point [iblk, V, ct, idx t]
  · blk_point [iblk, V, ct, idx t]

/-- The 32 rows above the tile and the tile are the rows from 32 before the tile's first on. -/
theorem buf_ext (c : Dev nD) (t : Fin cfg0.N) (H : Vec Ideal S32x256 .f32)
    (hH : ∀ (r : Fin 32) (ch : Fin 256), H (ix2 r ch) = src m c (t.val * 640 + r.val) ch)
    (y : S672x256.Idx) :
    buf (tile m c t) H y = src m c (t.val * 640 + (y 0).val) (y 1) := by
  have ht : t.val < 26 := t.isLt
  unfold buf
  split
  case isTrue h =>
    refine ((tile_at m c t ⟨(y 0).val - 32, by have := (y 0).isLt; simp at this; omega⟩ (y 1)).trans
      (congrArg (fun R => src m c R (y 1)) ?_))
    simp
    omega
  case isFalse h => exact hH _ _

/-- Above the first tile there is nothing. -/
theorem above (c : Dev nD) (t : Fin cfg0.N) (h1 : ¬ 1 ≤ t.val) (r : Fin 32) (ch : Fin 256) :
    k0_pay3 (F := Ideal) (ix2 r ch) = src m c (t.val * 640 + r.val) ch := by
  rw [src, ConvFwdRef.src, dif_neg (by omega)]
  pointwise [k0_pay3]

/-- The carried rows after the first point. -/
theorem scrA (c : Dev nD) (t : Fin cfg0.N) (h0 : t.val % 26 = 0) (h1 : ¬ 1 ≤ t.val) (y) :
    (outsAt0 m c t.val t.isLt).2 y = src m c (t.val * 640 + (y 0).val) (y 1) := by
  rw [outsAt0_A m c t h0 h1]
  frame_out
  refine (congrFun (canon_buf _ _) y).trans (buf_ext m c t _ (fun r ch => ?_) y)
  exact above m c t h1 r ch

/-- The 32 rows carried from the point before are those above the tile. -/
theorem carried (c : Dev nD) (t : Fin cfg0.N) (h1 : 1 ≤ t.val)
    (ih : ∀ y, (outsAt0 m c (t.val - 1) (by omega)).2 y = src m c ((t.val - 1) * 640 + (y 0).val) (y 1))
    (hw : (Memref.whole cc0_scratch0).IsWhole) (r : Fin 32) (ch : Fin 256) :
    k0_pay4 (F := Ideal) (View.ld (View.read (Elt Ideal) (View.whole cc0_scratch0) (hw.unread (outsAt0 m c (t.val - 1) (by omega)).2))
      (Rect.unit (s := S672x256) ![640,0] ![32,256] inb_S672x256_S32x256_640_0)) (ix2 r ch)
      = src m c (t.val * 640 + r.val) ch := by
  have ht : t.val < 26 := t.isLt
  pointwise [k0_pay4]
  refine (congrFun (read_unread_whole _ _ _) _).trans ((ih _).trans ?_)
  refine congrArg₂ (src m c) ?_ rfl
  simp
  omega

/-- The carried rows after a later point. -/
theorem scrB (c : Dev nD) (t : Fin cfg0.N) (h0 : ¬ t.val % 26 = 0) (h1 : 1 ≤ t.val)
    (ih : ∀ y, (outsAt0 m c (t.val - 1) (by omega)).2 y = src m c ((t.val - 1) * 640 + (y 0).val) (y 1)) (y) :
    (outsAt0 m c t.val t.isLt).2 y = src m c (t.val * 640 + (y 0).val) (y 1) := by
  rw [outsAt0_B m c t h0 h1]
  frame_out
  refine (congrFun (canon_buf _ _) y).trans (buf_ext m c t _ (fun r ch => ?_) y)
  exact carried m c t h1 ih _ r ch

/-- The carried rows at every grid point. -/
theorem scr (c : Dev nD) : ∀ (n : ℕ) (hn : n < cfg0.N) (y : S672x256.Idx),
    (outsAt0 m c n hn).2 y = src m c (n * 640 + (y 0).val) (y 1)
  | 0, hn, y => scrA m c ⟨0, hn⟩ rfl (by show ¬ 1 ≤ 0; omega) y
  | n + 1, hn, y => by
    have h26 : n + 1 < 26 := hn
    exact scrB m c ⟨n + 1, hn⟩ (by show ¬ (n + 1) % 26 = 0; omega) (by show 1 ≤ n + 1; omega)
      (fun y => scr c n (by omega) y) y

/-- The 640 rows from row `s + q` on. -/
abbrev rows (X : Vec Ideal S672x256 .f32) (s q : ℕ) (h : s + q ≤ 32) : Vec Ideal S1x640x256 .f32 :=
  fun y => X (ix2 ⟨s + q + (y 1).val, by have := (y 1).isLt; simp at this; omega⟩ (y 2))

/-- The sum before the last six taps. -/
abbrev acc (W : Vec Ideal S31x256 .f32) (b : Vec Ideal S1x256 .f32) (X : Vec Ideal S672x256 .f32) : FVec Ideal S640x256 .f32 :=
  k0_pay20 (F := Ideal) W (k0_pay18 (F := Ideal) W (k0_pay16 (F := Ideal) W (k0_pay14 (F := Ideal) W (k0_pay2 (F := Ideal) b)
      (rows X 2 0 (by decide)) (rows X 3 0 (by decide)) (rows X 4 0 (by decide)) (rows X 5 0 (by decide)) (rows X 6 0 (by decide)))
      (k0_pay15 (F := Ideal) W (rows X 7 0 (by decide))) (rows X 0 8 (by decide)) (rows X 1 8 (by decide)) (rows X 2 8 (by decide)) (rows X 3 8 (by decide)) (rows X 4 8 (by decide)) (rows X 5 8 (by decide)))
      (k0_pay17 (F := Ideal) W) (rows X 6 8 (by decide)) (rows X 7 8 (by decide)) (rows X 0 16 (by decide)) (rows X 1 16 (by decide)) (rows X 2 16 (by decide)) (rows X 3 16 (by decide)) (rows X 4 16 (by decide)))
      (k0_pay19 (F := Ideal) W) (rows X 5 16 (by decide)) (rows X 6 16 (by decide)) (rows X 7 16 (by decide)) (rows X 0 24 (by decide)) (rows X 1 24 (by decide)) (rows X 2 24 (by decide))

/-- What tap `k` adds to a tile's row. -/
def term (W : Vec Ideal S31x256 .f32) (X : Vec Ideal S672x256 .f32) (r : Fin 640) (ch : Fin 256) (k : ℕ) : EReal :=
  if h : k < 31 then W (ix2 ⟨k, h⟩ ch) * X (ix2 ⟨2 + k + r.val, by omega⟩ ch) else 0

/-- A tap written out. -/
theorem term_lit (W : Vec Ideal S31x256 .f32) (X : Vec Ideal S672x256 .f32) (r : Fin 640) (ch : Fin 256) (k : ℕ)
    (h : k < 31) (w : Fin 31) (hw : w.val = k) (i : Fin 672) (hi : i.val = 2 + k + r.val) :
    W (ix2 w ch) * X (ix2 i ch) = term W X r ch k := by
  obtain rfl : w = ⟨k, h⟩ := Fin.ext hw
  rw [term, dif_pos h]
  congr 3
  exact Fin.ext hi

/-- All 31 taps and the bias. -/
abbrev conv (W : Vec Ideal S31x256 .f32) (b : Vec Ideal S1x256 .f32) (X : Vec Ideal S672x256 .f32) : FVec Ideal S640x256 .f32 :=
  k0_pay22 (F := Ideal) W (acc W b X) (k0_pay21 (F := Ideal) W (rows X 3 24 (by decide))) (rows X 4 24 (by decide)) (rows X 5 24 (by decide)) (rows X 6 24 (by decide)) (rows X 7 24 (by decide)) (rows X 0 32 (by decide))

/-- They are one sum. -/
theorem conv_at (W : Vec Ideal S31x256 .f32) (b : Vec Ideal S1x256 .f32) (X : Vec Ideal S672x256 .f32) (r : Fin 640) (ch : Fin 256) :
    conv W b X (ix2 r ch) = b (ix2 0 ch) + ∑ k ∈ Finset.range 31, term W X r ch k := by
  simp only [Finset.sum_range_succ, Finset.sum_range_zero, zero_add, ← add_assoc]
  pointwise [conv, acc, rows, k0_pay22, k0_pay20, k0_pay18, k0_pay16, k0_pay14, k0_pay2, k0_pay15, k0_pay17, k0_pay19, k0_pay21]
  repeat' (with_reducible refine congrArg₂ (· + ·) ?_ ?_)
  all_goals first
    | exact term_lit W X r ch _ (by omega) _ rfl _ (by simp <;> omega)
    | rfl

/-- The mean of a row as the call computes it. -/
theorem mean_at (W : Vec Ideal S31x256 .f32) (b : Vec Ideal S1x256 .f32) (X : Vec Ideal S672x256 .f32) (r : Fin 640) :
    k0_pay25 (F := Ideal) W (acc W b X) (k0_pay21 (F := Ideal) W (rows X 3 24 (by decide))) (rows X 4 24 (by decide)) (rows X 5 24 (by decide)) (rows X 6 24 (by decide)) (rows X 7 24 (by decide)) (rows X 0 32 (by decide)) (ix2 r 0) = ConvFwdRef.mean fun k => conv W b X (ix2 r k) := by
  unfold ConvFwdRef.mean conv
  generalize acc W b X = a
  pointwise [k0_pay25]

/-- What follows the convolution. -/
theorem tail_at (a : FVec Ideal S640x256 .f32) (g b : Vec Ideal S1x256 .f32) (mu : FVec Ideal S640x1 .f32) (r : Fin 640) (ch : Fin 256) :
    k0_pay1 (F := Ideal) a (k0_pay23 (F := Ideal) g) (k0_pay24 (F := Ideal) b) mu (ix2 r ch)
      = ConvFwdRef.out (fun k => a (ix2 r k)) (mu (ix2 r 0)) (g (ix2 0 ch)) (b (ix2 0 ch)) ch := by
  unfold ConvFwdRef.out ConvFwdRef.sg ConvFwdRef.norm
  pointwise [k0_pay1, k0_pay23, k0_pay24]

/-- The tile's sum is the reference's. -/
theorem sum_term (C : FVec Ideal S16640x768 .f32) (W : Vec Ideal S31x256 .f32) (X : Vec Ideal S672x256 .f32) (n : ℕ)
    (hX : ∀ y, X y = ConvFwdRef.src C (n * 640 + (y 0).val) (y 1)) (r : Fin 640) (ch : Fin 256) :
    ∑ k ∈ Finset.range 31, term W X r ch k = ∑ k ∈ Finset.range 31, ConvFwdRef.tap C W (n * 640 + r.val) ch k := by
  refine Finset.sum_congr rfl fun k hk => ?_
  have hk' : k < 31 := Finset.mem_range.mp hk
  rw [term, dif_pos hk', hX, mul_comm, ConvFwdRef.tap, dif_pos hk']
  refine congrArg₂ (· * ·) ?_ rfl
  refine congrArg₂ (ConvFwdRef.src C) ?_ rfl
  simp
  omega

/-- The result of a device as the reference gives it. -/
abbrev REF (c : Dev nD) : FVec Ideal S16640x256 .bf16 :=
  Cert.ConvFwdRefIdeal.Read.val_main_v254 (F := Ideal) (ct m c) (m ((c : Thread nD τ).loc main_arg1)) (m ((c : Thread nD τ).loc main_arg2))
    (m ((c : Thread nD τ).loc main_arg3)) (m ((c : Thread nD τ).loc main_arg4))

/-- The three vectors at a channel. -/
theorem bias_at (c : Dev nD) (t : Fin cfg0.N) (ch : Fin 256) :
    (iblk m c 3 t : Vec Ideal S1x256 .f32) (ix2 0 ch) = (m ((c : Thread nD τ).loc main_arg2) : FVec Ideal S256 .f32) (ix1 ch) := by
  blk_point [iblk, V, idx t]

theorem gain_at (c : Dev nD) (t : Fin cfg0.N) (ch : Fin 256) :
    (iblk m c 4 t : Vec Ideal S1x256 .f32) (ix2 0 ch) = (m ((c : Thread nD τ).loc main_arg3) : FVec Ideal S256 .f32) (ix1 ch) := by
  blk_point [iblk, V, idx t]

theorem shift_at (c : Dev nD) (t : Fin cfg0.N) (ch : Fin 256) :
    (iblk m c 5 t : Vec Ideal S1x256 .f32) (ix2 0 ch) = (m ((c : Thread nD τ).loc main_arg4) : FVec Ideal S256 .f32) (ix1 ch) := by
  blk_point [iblk, V, idx t]

/-- The taps. -/
theorem taps (c : Dev nD) (t : Fin cfg0.N) : (iblk m c 2 t : Vec Ideal S31x256 .f32) = m ((c : Thread nD τ).loc main_arg1) := by
  funext j
  blk_point [iblk, V, idx t]

/-- What a grid point stores, given the rows it works on. -/
theorem out_core (c : Dev nD) (t : Fin cfg0.N) (X : Vec Ideal S672x256 .f32)
    (hX : ∀ y, X y = src m c (t.val * 640 + (y 0).val) (y 1)) (x : Fin 640) (ch : Fin 256)
    (r : Fin 16640) (hr : r.val = t.val * 640 + x.val)
    (W : Vec Ideal S31x256 .f32) (hW : W = iblk m c 2 t) (b : Vec Ideal S1x256 .f32) (hb : b = iblk m c 3 t) :
    k0_pay1 (F := Ideal) (conv W b X) (k0_pay23 (F := Ideal) (iblk m c 4 t)) (k0_pay24 (F := Ideal) (iblk m c 5 t))
        (k0_pay25 (F := Ideal) W (acc W b X) (k0_pay21 (F := Ideal) W (rows X 3 24 (by decide))) (rows X 4 24 (by decide)) (rows X 5 24 (by decide)) (rows X 6 24 (by decide)) (rows X 7 24 (by decide)) (rows X 0 32 (by decide))) (ix2 x ch) = REF m c (ix2 r ch) := by
  have hz (k : Fin 256) : conv W b X (ix2 x k)
      = ConvFwdRef.conv (ct m c) (m ((c : Thread nD τ).loc main_arg1)) ((m ((c : Thread nD τ).loc main_arg2) : FVec Ideal S256 .f32) (ix1 k)) r.val k := by
    rw [conv_at, sum_term (ct m c) W X t.val hX, hb, hW, bias_at, taps, add_comm, hr]
  rw [tail_at, mean_at, gain_at, shift_at]
  simp only [hz]
  exact (ConvFwdRef.href ..).symm

/-- What the first point leaves. -/
theorem outA (c : Dev nD) (t : Fin cfg0.N) (h0 : t.val % 26 = 0) (h1 : ¬ 1 ≤ t.val) (x : Fin 640) (ch : Fin 256)
    (r : Fin 16640) (hr : r.val = t.val * 640 + x.val) :
    (outsAt0 m c t.val t.isLt).1 (ix2 x ch) = REF m c (ix2 r ch) := by
  rw [outsAt0_A m c t h0 h1]
  frame_out
  simp only [load_buf]
  generalize hX : buf _ _ = X
  simp (config := {decide := true}) only [load_slots]
  subst hX
  exact out_core m c t _ (buf_ext m c t _ (above m c t h1)) x ch r hr _ rfl _ rfl

/-- What a later point leaves. -/
theorem outB (c : Dev nD) (t : Fin cfg0.N) (h0 : ¬ t.val % 26 = 0) (h1 : 1 ≤ t.val) (x : Fin 640) (ch : Fin 256)
    (r : Fin 16640) (hr : r.val = t.val * 640 + x.val) :
    (outsAt0 m c t.val t.isLt).1 (ix2 x ch) = REF m c (ix2 r ch) := by
  rw [outsAt0_B m c t h0 h1]
  frame_out
  simp only [load_buf]
  generalize hX : buf _ _ = X
  simp (config := {decide := true}) only [load_slots]
  subst hX
  exact out_core m c t _ (buf_ext m c t _ (carried m c t h1 (scr m c _ _) _)) x ch r hr _ rfl _ rfl

/-- The array after the run is the reference's. -/
theorem final (c : Dev nD) : (dats m 0 c).arrAt 6 (cfgs 0).N = REF m c := by
  refine (dats m 0 c).arrAt_eq_of_covers 6 _ (by decide +kernel) fun t hf y => ?_
  have ht : t.val < 26 := t.isLt
  blk_simp
  rw [after0_6]
  have e0 : ((win0_6.blk t).view.emb y 0).val = t.val * 640 + (y 0).val := by blk_simp [idx t]
  have e1 : (win0_6.blk t).view.emb y 1 = y 1 := Fin.ext (by blk_simp [idx t])
  have hi (i : S16640x256.Idx) : ix2 (i 0) (i 1) = i := by
    funext a; match a with | 0 => rfl | 1 => rfl
  have hy (i : S640x256.Idx) : i = ix2 (i 0) (i 1) := by
    funext a; match a with | 0 => rfl | 1 => rfl
  have e : ix2 ((win0_6.blk t).view.emb y 0) (y 1) = (win0_6.blk t).view.emb y := by
    rw [← e1]; exact hi _
  by_cases h1 : 1 ≤ t.val
  · exact (congrArg _ (hy y)).trans ((outB m c t (by omega) h1 (y 0) (y 1) _ e0).trans (congrArg _ e))
  · exact (congrArg _ (hy y)).trans ((outA m c t (by omega) h1 (y 0) (y 1) _ e0).trans (congrArg _ e))

end Cert.ConvFwdIdeal.Value

end
-- ==== Proof.ConvFwdClaims.lean ====
/- The five claims about the ConvFwd call: three frames, the idealisation, the equation. -/
module

public import proofs.«01_k».proof.Defs
public import proofs.«01_k».proof.Proof.ConvFwdValue
public import proofs.«01_k».proof.Proof.Gen.ConvFwd.Frame
public import proofs.«01_k».proof.Proof.Gen.ConvFwdIdeal.Frame
public import proofs.«01_k».proof.Proof.Gen.ConvFwdRefIdeal.Run
public import proofs.«01_k».proof.Proof.Gen.ConvFwdRefIdeal.Read
public import Idealize.ShloMosaic.Adequacy
public import Idealize.ShloMosaic.Init

@[expose] public section

set_option maxRecDepth 16384

noncomputable section

namespace Cert.Proof.ConvFwd

open Idealize.ShloMosaic Idealize.ShloMosaic.TcCoe Idealize.SL.Sem

/-- The call as printed ends with its arguments unchanged and its counters at zero. -/
theorem frame_p : Cert.quiescent_ConvFwd := fun m ρ _ => Cert.ConvFwd.Gen.frame m ρ

/-- So does the call over the reals. -/
theorem frame_pi : Cert.quiescent_ConvFwdIdeal := fun m ρ _ => Cert.ConvFwdIdeal.Gen.frame m ρ

/-- So does the reference, which has no counters. -/
theorem frame_ri : Cert.quiescent_ConvFwdRefIdeal := fun m ρ _ =>
  (θ_run Cert.ConvFwdRefIdeal.defs _ _).mono
    (fun r h => ⟨fun c => (h c).2, sem_eq_zero_of_no_sems (by decide) r.2⟩)
    (Cert.ConvFwdRefIdeal.Value.run (F := Ideal) m ρ)

/-- No operation was rewritten. -/
theorem preserves : Cert.preserves_ConvFwd_ConvFwdIdeal := trivial

/-- Over the reals the call's results are the reference's. -/
theorem algebraic : Cert.algebraic_ConvFwdIdeal_ConvFwdRefIdeal := by
  pair_intro
  · run_from Cert.ConvFwdIdeal.Value.run_blocks m g
  · refine (θ_run Cert.ConvFwdRefIdeal.defs _ _).mono (fun r h c => ?_) (Cert.ConvFwdRefIdeal.Value.run (F := Ideal) m' g')
    obtain ⟨h0, h1, h2, h3, h4⟩ := hagree c
    refine ⟨?_, (h c).2⟩
    refine ((h c).1.trans (Cert.ConvFwdRefIdeal.Read.val_main_v254_eq ..)).trans ?_
    refine Eq.trans ?_ (Cert.ConvFwdIdeal.Value.final m c).symm
    congr 1

end Cert.Proof.ConvFwd

end
-- ==== Proof.FfnRef.lean ====
/- The gated MLP between its products as the reference writes it: in each of the two halves three shifted copies of the
   columns times the taps and summed, with the bias; the tanh form of the Gaussian error linear unit of the first, times
   the second. -/
module

public import proofs.«01_k».proof.Proof.Gen.FfnRefIdeal.Read
public import Idealize.ShloMosaic.Lib.Pipeline.ValueKit

@[expose] public section

set_option maxRecDepth 16384

noncomputable section

namespace Cert.FfnRef

open Cert.FfnRefIdeal Cert.FfnRefIdeal.Read Idealize.ShloMosaic

/-- The columns with 8 rows of zeros in front. -/
def src (U : FVec Ideal S16640x3072 .bf16) (R : ℕ) (ch : Fin 3072) : EReal :=
  if h : 8 ≤ R ∧ R < 16648 then U (ix2 ⟨R - 8, by omega⟩ ch) else 0

/-- Three rows times the three taps, and the bias. -/
def taps (w0 w1 w2 b x0 x1 x2 : EReal) : EReal := b + w0 * x0 + w1 * x1 + w2 * x2

/-- A row of the convolution. -/
def conv (U : FVec Ideal S16640x3072 .bf16) (W : FVec Ideal S3x3072 .f32) (B : FVec Ideal S3072 .f32) (r : ℕ) (ch : Fin 3072) : EReal :=
  taps (W (ix2 0 ch)) (W (ix2 1 ch)) (W (ix2 2 ch)) (B (ix1 ch)) (src U (r + 6) ch) (src U (r + 7) ch) (src U (r + 8) ch)

/-- The unit as the call writes it. -/
def gelu (x : EReal) : EReal :=
  Ideal.ofBits .f32 0x3F000000#32 * x * (1 + Ideal.tanh (Ideal.ofBits .f32 0x3F4C422A#32
    * (x + Ideal.ofBits .f32 0x3D372713#32 * x * x * x)))

/-- With 2 rows of zeros in front, the first half. -/
theorem padded (U : FVec Ideal S16640x3072 .bf16) (r : Fin 16642) (ch : Fin 3072) :
    val_main_v2 (F := Ideal) U (ix2 r ch) = src U (r.val + 6) ch := by
  pointwise [val_main_v2, val_main_v1, val_main_v0, val_main_cst]
  by_cases h : r.val < 2
  · rw [dif_pos h, src, dif_neg (by omega)]
  · rw [dif_neg h, src, dif_pos ⟨by omega, by omega⟩]
    exact congrArg (fun R => U (ix2 R ch)) (Fin.ext (show r.val - 2 = r.val + 6 - 8 by omega))

/-- The second half is padded alike. -/
theorem padded' (U : FVec Ideal S16640x3072 .bf16) : val_main_v28 (F := Ideal) U = val_main_v2 (F := Ideal) U := rfl

/-- The convolution of the first half. -/
theorem gate (U : FVec Ideal S16640x3072 .bf16) (W : FVec Ideal S3x3072 .f32) (B : FVec Ideal S3072 .f32) (r : Fin 16640)
    (ch : Fin 3072) : val_main_v25 (F := Ideal) U W B (ix2 r ch) = conv U W B r.val ch := by
  have e : val_main_v25 (F := Ideal) U W B (ix2 r ch)
      = val_main_v2 (F := Ideal) U (ix2 ⟨r.val, by omega⟩ ch) * W (ix2 0 ch)
        + val_main_v2 (F := Ideal) U (ix2 ⟨1 + r.val, by omega⟩ ch) * W (ix2 1 ch)
        + val_main_v2 (F := Ideal) U (ix2 ⟨2 + r.val, by omega⟩ ch) * W (ix2 2 ch) + B (ix1 ch) := by
    unfold val_main_v25 val_main_v22 val_main_v21 val_main_v16 val_main_v15 val_main_v14 val_main_v9 val_main_v8 val_main_v3
    generalize val_main_v2 (F := Ideal) U = P
    pointwise [val_main_v24, val_main_v23, val_main_v20, val_main_v19, val_main_v18, val_main_v17, val_main_v13, val_main_v12,
      val_main_v11, val_main_v10, val_main_v7, val_main_v6, val_main_v5, val_main_v4]
  rw [e, padded, padded, padded, conv, taps, show 1 + r.val + 6 = r.val + 7 by omega, show 2 + r.val + 6 = r.val + 8 by omega,
    mul_comm (W (ix2 0 ch)), mul_comm (W (ix2 1 ch)), mul_comm (W (ix2 2 ch)), add_comm _ (B (ix1 ch)), ← add_assoc, ← add_assoc]

/-- The convolution of the second half is the same function. -/
theorem val (U : FVec Ideal S16640x3072 .bf16) (W : FVec Ideal S3x3072 .f32) (B : FVec Ideal S3072 .f32) :
    val_main_v51 (F := Ideal) U W B = val_main_v25 (F := Ideal) U W B := rfl

/-- The unit as the reference writes it. -/
theorem unit (x : EReal) :
    x * (Ideal.ofBits .f32 0x3F000000#32 * (1 + Ideal.tanh (Ideal.ofBits .f32 0x3F4C422A#32
      * (x + Ideal.ofBits .f32 0x3D372713#32 * (x * x * x))))) = gelu x := by
  rw [gelu, ← mul_assoc x, mul_comm x, mul_assoc (Ideal.ofBits .f32 0x3D372713#32) x x, mul_assoc (Ideal.ofBits .f32 0x3D372713#32)]

/-- The inner value. -/
theorem act (U V : FVec Ideal S16640x3072 .bf16) (W Z : FVec Ideal S3x3072 .f32) (B D : FVec Ideal S3072 .f32) (r : Fin 16640)
    (ch : Fin 3072) : val_main_v66 (F := Ideal) U V W Z B D (ix2 r ch) = gelu (conv U W B r.val ch) * conv V Z D r.val ch := by
  rw [← gate U W B, ← gate V Z D, ← val V Z D, ← unit]
  unfold val_main_v66 val_main_v65 val_main_v64 val_main_v63 val_main_v61 val_main_v59 val_main_v58 val_main_v56 val_main_v55 val_main_v53 val_main_v52
  generalize val_main_v25 (F := Ideal) U W B = P
  generalize val_main_v51 (F := Ideal) V Z D = Q
  pointwise [val_main_v62, val_main_cst_4, val_main_v60, val_main_cst_3, val_main_v57, val_main_cst_2, val_main_v54, val_main_cst_1]

/-- The gate's convolution, stored. -/
theorem gate_out (U : FVec Ideal S16640x3072 .bf16) (W : FVec Ideal S3x3072 .f32) (B : FVec Ideal S3072 .f32) (r : Fin 16640)
    (ch : Fin 3072) : val_main_v67 (F := Ideal) U W B (ix2 r ch) = conv U W B r.val ch := by
  rw [← gate]; rfl

/-- The other convolution, stored. -/
theorem val_out (U : FVec Ideal S16640x3072 .bf16) (W : FVec Ideal S3x3072 .f32) (B : FVec Ideal S3072 .f32) (r : Fin 16640)
    (ch : Fin 3072) : val_main_v68 (F := Ideal) U W B (ix2 r ch) = conv U W B r.val ch := by
  rw [← gate, ← val]; rfl

end Cert.FfnRef

end
-- ==== Proof.FfnLoop.lean ====
/- The loop over a tile's 20 strips of 32 rows in the gated MLP: each strip reads 40 rows of the two buffers, convolves and
   stores, so the strips together leave one function of the row. -/
module

public import proofs.«01_k».proof.Proof.Gen.FfnIdeal.Loops
public import proofs.«01_k».proof.Proof.FfnRef
public import proofs.«01_k».proof.Proof.Stores
public import Idealize.ShloMosaic.Lib.Pipeline.ValueKit
public import Idealize.ShloMosaic.Lib.Pipeline.ReadBack

@[expose] public section

set_option maxRecDepth 16384

noncomputable section

namespace Cert.FfnIdeal.Value

open Cert.FfnIdeal Cert.FfnIdeal.Gen Idealize.ShloMosaic Idealize.ShloMosaic.TcCoe Idealize.SL.Sem

/-- A row of the convolution of a buffer whose first eight rows are those above the tile. -/
def row (W : Vec Ideal S3x512 .f32) (b : FVec Ideal S1x512 .f32) (X : S648x512.Idx → EReal) (y : S640x512.Idx) : EReal :=
  FfnRef.taps (W (ix2 0 (y 1))) (W (ix2 1 (y 1))) (W (ix2 2 (y 1))) (b (ix2 0 (y 1)))
    (X (ix2 ⟨(y 0).val + 6, by have := (y 0).isLt; simp at this; omega⟩ (y 1)))
    (X (ix2 ⟨(y 0).val + 7, by have := (y 0).isLt; simp at this; omega⟩ (y 1)))
    (X (ix2 ⟨(y 0).val + 8, by have := (y 0).isLt; simp at this; omega⟩ (y 1)))

/-- The convolution of 40 rows, the last 32 kept. -/
theorem pay4_at (W : Vec Ideal S3x512 .f32) (b : FVec Ideal S1x512 .f32) (x : Vec Ideal S40x512 .f32) (r : Fin 32) (ch : Fin 512) :
    k0_pay4 (F := Ideal) W b x (ix2 r ch) = FfnRef.taps (W (ix2 0 ch)) (W (ix2 1 ch)) (W (ix2 2 ch)) (b (ix2 0 ch))
      (x (ix2 ⟨r.val + 6, by omega⟩ ch)) (x (ix2 ⟨r.val + 7, by omega⟩ ch)) (x (ix2 ⟨r.val + 8, by omega⟩ ch)) := by
  have e2 : (⟨r.val + 6, by omega⟩ : Fin 40) = ⟨(8 + r.val + 40 - 2) % 40, by omega⟩ := Fin.ext (by simp; omega)
  have e1 : (⟨r.val + 7, by omega⟩ : Fin 40) = ⟨(8 + r.val + 40 - 1) % 40, by omega⟩ := Fin.ext (by simp; omega)
  have e0 : (⟨r.val + 8, by omega⟩ : Fin 40) = ⟨8 + r.val, by omega⟩ := Fin.ext (by simp; omega)
  unfold FfnRef.taps
  rw [e2, e1, e0]
  pointwise [k0_pay4]

/-- The other half's is the same function. -/
theorem pay5_eq (W : Vec Ideal S3x512 .f32) (b : FVec Ideal S1x512 .f32) (x : Vec Ideal S40x512 .f32) :
    k0_pay5 (F := Ideal) W b x = k0_pay4 (F := Ideal) W b x := rfl

/-- The unit times the other half. -/
theorem pay1_at (W : Vec Ideal S3x512 .f32) (b : FVec Ideal S1x512 .f32) (x : Vec Ideal S40x512 .f32) (v : FVec Ideal S32x512 .f32)
    (r : Fin 32) (ch : Fin 512) :
    k0_pay1 (F := Ideal) (k0_pay4 (F := Ideal) W b x) v (k0_pay6 (F := Ideal) W b x) (ix2 r ch)
      = FfnRef.gelu (k0_pay4 (F := Ideal) W b x (ix2 r ch)) * v (ix2 r ch) := by
  have e : k0_pay6 (F := Ideal) W b x (ix2 r ch) = Ideal.tanh (Ideal.ofBits .f32 0x3F4C422A#32
    * (k0_pay4 (F := Ideal) W b x (ix2 r ch) + Ideal.ofBits .f32 0x3D372713#32 * k0_pay4 (F := Ideal) W b x (ix2 r ch)
      * k0_pay4 (F := Ideal) W b x (ix2 r ch) * k0_pay4 (F := Ideal) W b x (ix2 r ch))) := by
    pointwise [k0_pay6, k0_pay4]
  unfold FfnRef.gelu
  rw [← e]
  generalize k0_pay6 (F := Ideal) W b x = T
  generalize k0_pay4 (F := Ideal) W b x = P
  pointwise [k0_pay1]

/-- The strips lie in the tile. -/
theorem inside (k : Fin k0_t1_loop.trips) (a : Fin 2) : k0_off2 k a + (![32, 512] : Fin 2 → ℕ) a ≤ S640x512.size a := by
  have h20 : k0_t1_loop.trips = 20 := by decide
  have := k.isLt
  rw [k0_off2_eq]
  match a with
  | 0 => simp; omega
  | 1 => simp

/-- Where a strip's row lies in the tile. -/
theorem strip (k : Fin k0_t1_loop.trips) (inb) (x : S32x512.Idx) :
    ((Rect.unit (s := S640x512) (k0_off2 k) ![32, 512] inb).emb x 0).val = 32 * k.val + (x 0).val
      ∧ ((Rect.unit (s := S640x512) (k0_off2 k) ![32, 512] inb).emb x 1).val = (x 1).val := by
  rw [Cert.Stores.emb_val, Cert.Stores.emb_val]
  exact ⟨congrArg (· + (x 0).val) (congrFun (k0_off2_eq k) 0),
    (congrArg (· + (x 1).val) (congrFun (k0_off2_eq k) 1)).trans (Nat.zero_add _)⟩

/-- A strip's convolution is the row of the tile it lies at. -/
theorem strip_row {κ : Kind} {sp : Space} (v : View sig κ sp S648x512 .f32) (X : v.ty.Contents (Elt Ideal)) (W : Vec Ideal S3x512 .f32)
    (b : FVec Ideal S1x512 .f32) (k : Fin k0_t1_loop.trips) (inb inb') (x : S32x512.Idx) :
    k0_pay4 (F := Ideal) W b (v.readAt (Elt Ideal) (Rect.unit (s := S648x512) (k0_off1 k) S40x512.size inb).toLoadRect X) x
      = row W b (v.read (Elt Ideal) X) ((Rect.unit (s := S640x512) (k0_off2 k) ![32, 512] inb').emb x) := by
  have hy : x = ix2 (x 0) (x 1) := by funext a; match a with | 0 => rfl | 1 => rfl
  have hr (q : ℕ) (h : (x 0).val + q < 40) (h') :
      v.readAt (Elt Ideal) (Rect.unit (s := S648x512) (k0_off1 k) S40x512.size inb).toLoadRect X (ix2 ⟨(x 0).val + q, h⟩ (x 1))
        = v.read (Elt Ideal) X (ix2 ⟨((Rect.unit (s := S640x512) (k0_off2 k) ![32, 512] inb').emb x 0).val + q, h'⟩ (x 1)) := by
    rw [View.readAt_apply]
    congr 1
    funext a
    refine Fin.ext ?_
    rw [Rect.idx_unit_val]
    refine (congrArg (· + _) (congrFun (k0_off1_eq k) a)).trans ?_
    have hs := (strip k inb' x).1
    match a with
    | 0 =>
      show 32 * k.val + ((x 0).val + q) = ((Rect.unit (s := S640x512) (k0_off2 k) ![32, 512] inb').emb x 0).val + q
      omega
    | 1 => exact Nat.zero_add _
  have e1 : (Rect.unit (s := S640x512) (k0_off2 k) ![32, 512] inb').emb x 1 = x 1 := Fin.ext (strip k inb' x).2
  refine (congrArg _ hy).trans ((pay4_at W b _ (x 0) (x 1)).trans ?_)
  rw [row, e1, hr 6, hr 7, hr 8]

/-- A strip's inner values. -/
theorem strip_act {κ κ' : Kind} {sp sp' : Space} (v : View sig κ sp S648x512 .f32) (X : v.ty.Contents (Elt Ideal)) (w : View sig κ' sp' S648x512 .f32)
    (Y : w.ty.Contents (Elt Ideal)) (W V : Vec Ideal S3x512 .f32)
    (b d : FVec Ideal S1x512 .f32) (k : Fin k0_t1_loop.trips) (inb inb₁ inb') (x : S32x512.Idx) :
    k0_pay1 (F := Ideal) (k0_pay4 (F := Ideal) W b (v.readAt (Elt Ideal) (Rect.unit (s := S648x512) (k0_off1 k) S40x512.size inb).toLoadRect X))
        (k0_pay5 (F := Ideal) V d (w.readAt (Elt Ideal) (Rect.unit (s := S648x512) (k0_off1 k) S40x512.size inb₁).toLoadRect Y))
        (k0_pay6 (F := Ideal) W b (v.readAt (Elt Ideal) (Rect.unit (s := S648x512) (k0_off1 k) S40x512.size inb).toLoadRect X)) x
      = FfnRef.gelu (row W b (v.read (Elt Ideal) X) ((Rect.unit (s := S640x512) (k0_off2 k) ![32, 512] inb').emb x))
        * row V d (w.read (Elt Ideal) Y) ((Rect.unit (s := S640x512) (k0_off2 k) ![32, 512] inb').emb x) := by
  obtain ⟨r, ch, rfl⟩ : ∃ (r : Fin 32) (ch : Fin 512), x = ix2 r ch :=
    ⟨x 0, x 1, by funext a; match a with | 0 => rfl | 1 => rfl⟩
  rw [pay1_at, pay5_eq]
  exact congrArg₂ (fun a b => FfnRef.gelu a * b) (strip_row ..) (strip_row ..)

/-- What every strip before `n` stores. -/
theorem strips (𝒱 : Variants) (c : Dev nD) (bd : Option 𝒱.V) (i : grid0.Coords) (arg2 : Memref sig .tc .vmem S640x512 .bf16) (harg2 : arg2.IsWhole) (arg3 : Memref sig .tc .vmem S640x512 .bf16) (harg3 : arg3.IsWhole) (arg4 : Memref sig .tc .vmem S3x512 .f32) (harg4 : arg4.IsWhole) (arg5 : Memref sig .tc .vmem S3x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S640x512 .bf16) (harg8 : arg8.IsWhole) (arg9 : Memref sig .tc .vmem S640x512 .bf16) (harg9 : arg9.IsWhole) (arg10 : Memref sig .tc .vmem S640x512 .bf16) (harg10 : arg10.IsWhole) (arg11 : Memref sig .tc .vmem S648x512 .f32) (harg11 : arg11.IsWhole) (arg12 : Memref sig .tc .vmem S648x512 .f32) (harg12 : arg12.IsWhole) (v22 : Vec Ideal S3x512 .f32) (v23 : Vec Ideal S3x512 .f32) (v25 : FVec Ideal S1x512 .f32) (v27 : FVec Ideal S1x512 .f32) (X_arg11 : BufTy.Contents (Elt Ideal) arg11.view.ty) (X_arg12 : BufTy.Contents (Elt Ideal) arg12.view.ty) :
    ∀ n : ℕ, n ≤ k0_t1_loop.trips →
      (∀ p ∈ (pb_k0_t1 (F := Ideal) 𝒱 c bd i arg2 harg2 arg3 harg3 arg4 harg4 arg5 harg5 arg6 harg6 arg7 harg7 arg8 harg8 arg9 harg9 arg10 harg10 arg11 harg11 arg12 harg12 v22 v23 v25 v27 X_arg11 X_arg12 n).1, ∀ x, p.2 x = FfnRef.gelu (row v22 v25 (arg11.view.read (Elt Ideal) X_arg11) (p.1.emb x)) * row v23 v27 (arg12.view.read (Elt Ideal) X_arg12) (p.1.emb x))
      ∧ (∀ p ∈ (pb_k0_t1 (F := Ideal) 𝒱 c bd i arg2 harg2 arg3 harg3 arg4 harg4 arg5 harg5 arg6 harg6 arg7 harg7 arg8 harg8 arg9 harg9 arg10 harg10 arg11 harg11 arg12 harg12 v22 v23 v25 v27 X_arg11 X_arg12 n).2.1, ∀ x, p.2 x = row v22 v25 (arg11.view.read (Elt Ideal) X_arg11) (p.1.emb x))
      ∧ (∀ p ∈ (pb_k0_t1 (F := Ideal) 𝒱 c bd i arg2 harg2 arg3 harg3 arg4 harg4 arg5 harg5 arg6 harg6 arg7 harg7 arg8 harg8 arg9 harg9 arg10 harg10 arg11 harg11 arg12 harg12 v22 v23 v25 v27 X_arg11 X_arg12 n).2.2, ∀ x, p.2 x = row v23 v27 (arg12.view.read (Elt Ideal) X_arg12) (p.1.emb x))
  | 0, _ => by refine ⟨?_, ?_, ?_⟩ <;> intro p hp <;> exact absurd hp (List.not_mem_nil)
  | n + 1, hn => by
    obtain ⟨i1, i2, i3⟩ := strips 𝒱 c bd i arg2 harg2 arg3 harg3 arg4 harg4 arg5 harg5 arg6 harg6 arg7 harg7 arg8 harg8 arg9 harg9 arg10 harg10 arg11 harg11 arg12 harg12 v22 v23 v25 v27 X_arg11 X_arg12 n (by omega)
    have e := pb_k0_t1_succ (F := Ideal) 𝒱 c bd i arg2 harg2 arg3 harg3 arg4 harg4 arg5 harg5 arg6 harg6 arg7 harg7 arg8 harg8 arg9 harg9 arg10 harg10 arg11 harg11 arg12 harg12 v22 v23 v25 v27 X_arg11 X_arg12 ⟨n, hn⟩
    unfold tripL_k0_t1 trip_k0_t1 at e
    dsimp only at e
    unfold trip_k0_t1.sl.r trip_k0_t1.sl.r_1 trip_k0_t1.sl.r_2 at e
    rw [e]
    refine ⟨?_, ?_, ?_⟩
    · intro p hp
      rcases List.mem_append.mp hp with hp | hp
      · obtain rfl := List.mem_singleton.mp hp
        intro x
        exact strip_act _ _ _ _ _ _ _ _ _ _ _ (inside _) x
      · exact i1 p hp
    · intro p hp
      rcases List.mem_append.mp hp with hp | hp
      · obtain rfl := List.mem_singleton.mp hp
        intro x
        exact strip_row _ _ _ _ _ _ (inside _) x
      · exact i2 p hp
    · intro p hp
      rcases List.mem_append.mp hp with hp | hp
      · obtain rfl := List.mem_singleton.mp hp
        intro x
        exact strip_row _ _ _ _ _ _ (inside _) x
      · exact i3 p hp

/-- Every row before strip `n` is in one of them. -/
theorem covered (𝒱 : Variants) (c : Dev nD) (bd : Option 𝒱.V) (i : grid0.Coords) (arg2 : Memref sig .tc .vmem S640x512 .bf16) (harg2 : arg2.IsWhole) (arg3 : Memref sig .tc .vmem S640x512 .bf16) (harg3 : arg3.IsWhole) (arg4 : Memref sig .tc .vmem S3x512 .f32) (harg4 : arg4.IsWhole) (arg5 : Memref sig .tc .vmem S3x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S640x512 .bf16) (harg8 : arg8.IsWhole) (arg9 : Memref sig .tc .vmem S640x512 .bf16) (harg9 : arg9.IsWhole) (arg10 : Memref sig .tc .vmem S640x512 .bf16) (harg10 : arg10.IsWhole) (arg11 : Memref sig .tc .vmem S648x512 .f32) (harg11 : arg11.IsWhole) (arg12 : Memref sig .tc .vmem S648x512 .f32) (harg12 : arg12.IsWhole) (v22 : Vec Ideal S3x512 .f32) (v23 : Vec Ideal S3x512 .f32) (v25 : FVec Ideal S1x512 .f32) (v27 : FVec Ideal S1x512 .f32) (X_arg11 : BufTy.Contents (Elt Ideal) arg11.view.ty) (X_arg12 : BufTy.Contents (Elt Ideal) arg12.view.ty) :
    ∀ n : ℕ, n ≤ k0_t1_loop.trips → ∀ y : S640x512.Idx, (y 0).val < 32 * n →
      (∃ p ∈ (pb_k0_t1 (F := Ideal) 𝒱 c bd i arg2 harg2 arg3 harg3 arg4 harg4 arg5 harg5 arg6 harg6 arg7 harg7 arg8 harg8 arg9 harg9 arg10 harg10 arg11 harg11 arg12 harg12 v22 v23 v25 v27 X_arg11 X_arg12 n).1, y ∈ p.1.set) ∧ (∃ p ∈ (pb_k0_t1 (F := Ideal) 𝒱 c bd i arg2 harg2 arg3 harg3 arg4 harg4 arg5 harg5 arg6 harg6 arg7 harg7 arg8 harg8 arg9 harg9 arg10 harg10 arg11 harg11 arg12 harg12 v22 v23 v25 v27 X_arg11 X_arg12 n).2.1, y ∈ p.1.set) ∧ (∃ p ∈ (pb_k0_t1 (F := Ideal) 𝒱 c bd i arg2 harg2 arg3 harg3 arg4 harg4 arg5 harg5 arg6 harg6 arg7 harg7 arg8 harg8 arg9 harg9 arg10 harg10 arg11 harg11 arg12 harg12 v22 v23 v25 v27 X_arg11 X_arg12 n).2.2, y ∈ p.1.set)
  | 0, _, y, h => absurd h (by omega)
  | n + 1, hn, y, h => by
    have e := pb_k0_t1_succ (F := Ideal) 𝒱 c bd i arg2 harg2 arg3 harg3 arg4 harg4 arg5 harg5 arg6 harg6 arg7 harg7 arg8 harg8 arg9 harg9 arg10 harg10 arg11 harg11 arg12 harg12 v22 v23 v25 v27 X_arg11 X_arg12 ⟨n, hn⟩
    unfold tripL_k0_t1 trip_k0_t1 at e
    dsimp only at e
    rw [e]
    by_cases hl : (y 0).val < 32 * n
    · obtain ⟨⟨p, hp, j1⟩, ⟨q, hq, j2⟩, ⟨r, hr, j3⟩⟩ := covered 𝒱 c bd i arg2 harg2 arg3 harg3 arg4 harg4 arg5 harg5 arg6 harg6 arg7 harg7 arg8 harg8 arg9 harg9 arg10 harg10 arg11 harg11 arg12 harg12 v22 v23 v25 v27 X_arg11 X_arg12 n (by omega) y hl
      exact ⟨⟨p, List.mem_append_right _ hp, j1⟩, ⟨q, List.mem_append_right _ hq, j2⟩, ⟨r, List.mem_append_right _ hr, j3⟩⟩
    · have hm (inb) : y ∈ (Rect.unit (s := S640x512) (k0_off2 ⟨n, hn⟩) ![32, 512] inb).set := by
        refine Rect.mem_set_unit.mpr fun a => ?_
        rw [k0_off2_eq]
        match a with
        | 0 => simp; omega
        | 1 => have := (y 1).isLt; simpa using this
      exact ⟨⟨_, List.mem_append_left _ (List.mem_singleton_self _), hm (inside _)⟩, ⟨_, List.mem_append_left _ (List.mem_singleton_self _), hm (inside _)⟩,
        ⟨_, List.mem_append_left _ (List.mem_singleton_self _), hm (inside _)⟩⟩

/-- What the loop leaves in the inner value's tile. -/
theorem loop_act (𝒱 : Variants) (c : Dev nD) (bd : Option 𝒱.V) (i : grid0.Coords) (arg2 : Memref sig .tc .vmem S640x512 .bf16) (harg2 : arg2.IsWhole) (arg3 : Memref sig .tc .vmem S640x512 .bf16) (harg3 : arg3.IsWhole) (arg4 : Memref sig .tc .vmem S3x512 .f32) (harg4 : arg4.IsWhole) (arg5 : Memref sig .tc .vmem S3x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S640x512 .bf16) (harg8 : arg8.IsWhole) (arg9 : Memref sig .tc .vmem S640x512 .bf16) (harg9 : arg9.IsWhole) (arg10 : Memref sig .tc .vmem S640x512 .bf16) (harg10 : arg10.IsWhole) (arg11 : Memref sig .tc .vmem S648x512 .f32) (harg11 : arg11.IsWhole) (arg12 : Memref sig .tc .vmem S648x512 .f32) (harg12 : arg12.IsWhole) (v22 : Vec Ideal S3x512 .f32) (v23 : Vec Ideal S3x512 .f32) (v25 : FVec Ideal S1x512 .f32) (v27 : FVec Ideal S1x512 .f32) (X_arg11 : BufTy.Contents (Elt Ideal) arg11.view.ty) (X_arg12 : BufTy.Contents (Elt Ideal) arg12.view.ty) (P Q : S648x512.Idx → EReal) (hP : arg11.view.read (Elt Ideal) X_arg11 = P) (hQ : arg12.view.read (Elt Ideal) X_arg12 = Q)
    (y : S640x512.Idx) : View.canon (pb_k0_t1 (F := Ideal) 𝒱 c bd i arg2 harg2 arg3 harg3 arg4 harg4 arg5 harg5 arg6 harg6 arg7 harg7 arg8 harg8 arg9 harg9 arg10 harg10 arg11 harg11 arg12 harg12 v22 v23 v25 v27 X_arg11 X_arg12 (Scf.trips (0#32) (Scalar.addi 0#32 20#32) 1#32)).1 y = FfnRef.gelu (row v22 v25 P y) * row v23 v27 Q y := by
  have h20 : k0_t1_loop.trips = 20 := by decide
  subst hP hQ
  exact View.canon_apply_of_pieces (fun y => FfnRef.gelu (row v22 v25 (arg11.view.read (Elt Ideal) X_arg11) y) * row v23 v27 (arg12.view.read (Elt Ideal) X_arg12) y) _ (strips 𝒱 c bd i arg2 harg2 arg3 harg3 arg4 harg4 arg5 harg5 arg6 harg6 arg7 harg7 arg8 harg8 arg9 harg9 arg10 harg10 arg11 harg11 arg12 harg12 v22 v23 v25 v27 X_arg11 X_arg12 _ le_rfl).1 _
    (covered 𝒱 c bd i arg2 harg2 arg3 harg3 arg4 harg4 arg5 harg5 arg6 harg6 arg7 harg7 arg8 harg8 arg9 harg9 arg10 harg10 arg11 harg11 arg12 harg12 v22 v23 v25 v27 X_arg11 X_arg12 _ le_rfl y (by have := (y 0).isLt; simp at this; rw [h20]; omega)).1

/-- What it leaves in the gate's tile. -/
theorem loop_gate (𝒱 : Variants) (c : Dev nD) (bd : Option 𝒱.V) (i : grid0.Coords) (arg2 : Memref sig .tc .vmem S640x512 .bf16) (harg2 : arg2.IsWhole) (arg3 : Memref sig .tc .vmem S640x512 .bf16) (harg3 : arg3.IsWhole) (arg4 : Memref sig .tc .vmem S3x512 .f32) (harg4 : arg4.IsWhole) (arg5 : Memref sig .tc .vmem S3x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S640x512 .bf16) (harg8 : arg8.IsWhole) (arg9 : Memref sig .tc .vmem S640x512 .bf16) (harg9 : arg9.IsWhole) (arg10 : Memref sig .tc .vmem S640x512 .bf16) (harg10 : arg10.IsWhole) (arg11 : Memref sig .tc .vmem S648x512 .f32) (harg11 : arg11.IsWhole) (arg12 : Memref sig .tc .vmem S648x512 .f32) (harg12 : arg12.IsWhole) (v22 : Vec Ideal S3x512 .f32) (v23 : Vec Ideal S3x512 .f32) (v25 : FVec Ideal S1x512 .f32) (v27 : FVec Ideal S1x512 .f32) (X_arg11 : BufTy.Contents (Elt Ideal) arg11.view.ty) (X_arg12 : BufTy.Contents (Elt Ideal) arg12.view.ty) (P : S648x512.Idx → EReal) (hP : arg11.view.read (Elt Ideal) X_arg11 = P)
    (y : S640x512.Idx) : View.canon (pb_k0_t1 (F := Ideal) 𝒱 c bd i arg2 harg2 arg3 harg3 arg4 harg4 arg5 harg5 arg6 harg6 arg7 harg7 arg8 harg8 arg9 harg9 arg10 harg10 arg11 harg11 arg12 harg12 v22 v23 v25 v27 X_arg11 X_arg12 (Scf.trips (0#32) (Scalar.addi 0#32 20#32) 1#32)).2.1 y = row v22 v25 P y := by
  have h20 : k0_t1_loop.trips = 20 := by decide
  subst hP
  exact View.canon_apply_of_pieces (fun y => row v22 v25 (arg11.view.read (Elt Ideal) X_arg11) y) _ (strips 𝒱 c bd i arg2 harg2 arg3 harg3 arg4 harg4 arg5 harg5 arg6 harg6 arg7 harg7 arg8 harg8 arg9 harg9 arg10 harg10 arg11 harg11 arg12 harg12 v22 v23 v25 v27 X_arg11 X_arg12 _ le_rfl).2.1 _
    (covered 𝒱 c bd i arg2 harg2 arg3 harg3 arg4 harg4 arg5 harg5 arg6 harg6 arg7 harg7 arg8 harg8 arg9 harg9 arg10 harg10 arg11 harg11 arg12 harg12 v22 v23 v25 v27 X_arg11 X_arg12 _ le_rfl y (by have := (y 0).isLt; simp at this; rw [h20]; omega)).2.1

/-- What it leaves in the gated value's tile. -/
theorem loop_val (𝒱 : Variants) (c : Dev nD) (bd : Option 𝒱.V) (i : grid0.Coords) (arg2 : Memref sig .tc .vmem S640x512 .bf16) (harg2 : arg2.IsWhole) (arg3 : Memref sig .tc .vmem S640x512 .bf16) (harg3 : arg3.IsWhole) (arg4 : Memref sig .tc .vmem S3x512 .f32) (harg4 : arg4.IsWhole) (arg5 : Memref sig .tc .vmem S3x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S640x512 .bf16) (harg8 : arg8.IsWhole) (arg9 : Memref sig .tc .vmem S640x512 .bf16) (harg9 : arg9.IsWhole) (arg10 : Memref sig .tc .vmem S640x512 .bf16) (harg10 : arg10.IsWhole) (arg11 : Memref sig .tc .vmem S648x512 .f32) (harg11 : arg11.IsWhole) (arg12 : Memref sig .tc .vmem S648x512 .f32) (harg12 : arg12.IsWhole) (v22 : Vec Ideal S3x512 .f32) (v23 : Vec Ideal S3x512 .f32) (v25 : FVec Ideal S1x512 .f32) (v27 : FVec Ideal S1x512 .f32) (X_arg11 : BufTy.Contents (Elt Ideal) arg11.view.ty) (X_arg12 : BufTy.Contents (Elt Ideal) arg12.view.ty) (Q : S648x512.Idx → EReal) (hQ : arg12.view.read (Elt Ideal) X_arg12 = Q)
    (y : S640x512.Idx) : View.canon (pb_k0_t1 (F := Ideal) 𝒱 c bd i arg2 harg2 arg3 harg3 arg4 harg4 arg5 harg5 arg6 harg6 arg7 harg7 arg8 harg8 arg9 harg9 arg10 harg10 arg11 harg11 arg12 harg12 v22 v23 v25 v27 X_arg11 X_arg12 (Scf.trips (0#32) (Scalar.addi 0#32 20#32) 1#32)).2.2 y = row v23 v27 Q y := by
  have h20 : k0_t1_loop.trips = 20 := by decide
  subst hQ
  exact View.canon_apply_of_pieces (fun y => row v23 v27 (arg12.view.read (Elt Ideal) X_arg12) y) _ (strips 𝒱 c bd i arg2 harg2 arg3 harg3 arg4 harg4 arg5 harg5 arg6 harg6 arg7 harg7 arg8 harg8 arg9 harg9 arg10 harg10 arg11 harg11 arg12 harg12 v22 v23 v25 v27 X_arg11 X_arg12 _ le_rfl).2.2 _
    (covered 𝒱 c bd i arg2 harg2 arg3 harg3 arg4 harg4 arg5 harg5 arg6 harg6 arg7 harg7 arg8 harg8 arg9 harg9 arg10 harg10 arg11 harg11 arg12 harg12 v22 v23 v25 v27 X_arg11 X_arg12 _ le_rfl y (by have := (y 0).isLt; simp at this; rw [h20]; omega)).2.2

end Cert.FfnIdeal.Value

end
-- ==== Proof.FfnValue.lean ====
/- The gated MLP between its products: the three arrays the call leaves are the reference's, entry by entry. -/
module

public import proofs.«01_k».proof.Proof.Gen.FfnIdeal.Value
public import proofs.«01_k».proof.Proof.FfnLoop

@[expose] public section

set_option maxRecDepth 16384

noncomputable section

namespace Cert.FfnIdeal.Value

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ)

/-- The eight rows above the row tile and the tile, one above the other. -/
def buf (D : Vec Ideal S640x512 .f32) (H : Vec Ideal S8x512 .f32) : Vec Ideal S648x512 .f32 :=
  fun y => if h : 8 ≤ (y 0).val then D (ix2 ⟨(y 0).val - 8, by have := (y 0).isLt; simp at this; omega⟩ (y 1))
    else H (ix2 ⟨(y 0).val, by omega⟩ (y 1))

/-- The two stores leave the rows above and the tile. -/
theorem canon_buf (D : Vec Ideal S640x512 .f32) (H : Vec Ideal S8x512 .f32) :
    View.canon (Val := Elt Ideal) (e := .f32) [⟨Rect.unit (s := S648x512) ![8,0] ![640,512] inb_S648x512_S640x512_8_0, D⟩,
      ⟨Rect.unit (s := S648x512) ![0,0] ![8,512] inb_S648x512_S8x512_0_0, H⟩] = buf D H := by
  funext y
  have := (y 0).isLt
  simp at this
  by_cases h : 8 ≤ (y 0).val
  · refine (Cert.Stores.canon_hit (S := S648x512) ![8,0] ![640,512] inb_S648x512_S640x512_8_0 D _ y (ix2 (⟨(y 0).val - 8, by omega⟩ : Fin 640) (⟨(y 1).val, (y 1).isLt⟩ : Fin 512)) ?_).trans ?_
    · intro a; match a with | 0 => simp; omega | 1 => simp
    · rw [buf, dif_pos h]; rfl
  · refine (Cert.Stores.canon_miss (S := S648x512) ![8,0] ![640,512] inb_S648x512_S640x512_8_0 D _ y 0 (Or.inl ?_)).trans ?_
    · simp; omega
    refine (Cert.Stores.canon_hit (S := S648x512) ![0,0] ![8,512] inb_S648x512_S8x512_0_0 H _ y (ix2 (⟨(y 0).val, by omega⟩ : Fin 8) (⟨(y 1).val, (y 1).isLt⟩ : Fin 512)) ?_).trans ?_
    · intro a; match a with | 0 => simp | 1 => simp
    · rw [buf, dif_neg h]; rfl

/-- A buffer read after the two stores. -/
theorem read_buf {κ : Kind} {sp : Space} (v : View sig κ sp S648x512 .f32) (D : Vec Ideal S640x512 .f32) (H : Vec Ideal S8x512 .f32) :
    v.read (Elt Ideal) (v.writes (Elt Ideal) v.junk [⟨Rect.unit (s := S648x512) ![8,0] ![640,512] inb_S648x512_S640x512_8_0, D⟩,
      ⟨Rect.unit (s := S648x512) ![0,0] ![8,512] inb_S648x512_S8x512_0_0, H⟩]) = buf D H := by
  rw [View.read_writes_junk_eq_canon]
  exact canon_buf D H

/-- The blocks of the arrays at a grid point: in each of six tiles of 512 columns, 26 row tiles from the first to the last. -/
theorem idx : ∀ t : Fin cfg0.N, win0_0.index t = ![t.val % 26, t.val / 26] ∧ win0_1.index t = ![t.val % 26, t.val / 26]
    ∧ win0_2.index t = ![0, t.val / 26] ∧ win0_3.index t = ![0, t.val / 26] ∧ win0_4.index t = ![0, t.val / 26]
    ∧ win0_5.index t = ![0, t.val / 26] ∧ win0_6.index t = ![t.val % 26, t.val / 26]
    ∧ win0_7.index t = ![t.val % 26, t.val / 26] ∧ win0_8.index t = ![t.val % 26, t.val / 26] :=
  (by decide +kernel : ∀ t : Fin grid0.N, _)

/-- A column of a grid point's tile. -/
def col (n : ℕ) (hn : n < 156) (ch : Fin 512) : Fin 3072 := ⟨n / 26 * 512 + ch.val, by omega⟩

/-- The point before is one. -/
theorem before (t : Fin cfg0.N) : t.val - 1 < 156 := Nat.lt_of_le_of_lt (Nat.sub_le _ _) t.isLt

/-- The arrays of a device. -/
abbrev ug (c : Dev nD) : FVec Ideal S16640x3072 .bf16 := m ((c : Thread nD τ).loc main_arg0)
abbrev uv (c : Dev nD) : FVec Ideal S16640x3072 .bf16 := m ((c : Thread nD τ).loc main_arg1)
abbrev wg (c : Dev nD) : FVec Ideal S3x3072 .f32 := m ((c : Thread nD τ).loc main_arg2)
abbrev wv (c : Dev nD) : FVec Ideal S3x3072 .f32 := m ((c : Thread nD τ).loc main_arg3)
abbrev bg (c : Dev nD) : FVec Ideal S3072 .f32 := m ((c : Thread nD τ).loc main_arg4)
abbrev bv (c : Dev nD) : FVec Ideal S3072 .f32 := m ((c : Thread nD τ).loc main_arg5)

/-- A buffer holds the rows of `U` from eight before the point's first on. -/
def Holds (U : FVec Ideal S16640x3072 .bf16) (n : ℕ) (hn : n < 156) (X : S648x512.Idx → EReal) : Prop :=
  ∀ y : S648x512.Idx, X y = FfnRef.src U (n % 26 * 640 + (y 0).val) (col n hn (y 1))

/-- The eight rows above the tile and the tile make such a buffer. -/
theorem buf_holds (U : FVec Ideal S16640x3072 .bf16) (n : ℕ) (hn : n < 156) (D : Vec Ideal S640x512 .f32) (H : Vec Ideal S8x512 .f32)
    (hD : ∀ (x : Fin 640) (ch : Fin 512), D (ix2 x ch) = FfnRef.src U (n % 26 * 640 + x.val + 8) (col n hn ch))
    (hH : ∀ (r : Fin 8) (ch : Fin 512), H (ix2 r ch) = FfnRef.src U (n % 26 * 640 + r.val) (col n hn ch)) : Holds U n hn (buf D H) := by
  intro y
  unfold buf
  split
  case isTrue h =>
    refine (hD ⟨(y 0).val - 8, by have := (y 0).isLt; simp at this; omega⟩ (y 1)).trans
      (congrArg (fun R => FfnRef.src U R (col n hn (y 1))) ?_)
    simp
    omega
  case isFalse h => exact hH _ _

/-- A row convolved from such a buffer is the reference's. -/
theorem row_eq (U : FVec Ideal S16640x3072 .bf16) (W' : FVec Ideal S3x3072 .f32) (B : FVec Ideal S3072 .f32) (n : ℕ) (hn : n < 156)
    (X : S648x512.Idx → EReal) (hX : Holds U n hn X) (W : Vec Ideal S3x512 .f32) (b : FVec Ideal S1x512 .f32)
    (hW : ∀ (k : Fin 3) (ch : Fin 512), W (ix2 k ch) = W' (ix2 k (col n hn ch)))
    (hb : ∀ ch : Fin 512, b (ix2 0 ch) = B (ix1 (col n hn ch))) (x : Fin 640) (ch : Fin 512) :
    row W b X (ix2 x ch) = FfnRef.conv U W' B (n % 26 * 640 + x.val) (col n hn ch) := by
  rw [row, FfnRef.conv, hX, hX, hX]
  exact congr (congr (congr (congr (congr (congr (congrArg FfnRef.taps (hW 0 ch)) (hW 1 ch)) (hW 2 ch)) (hb ch)) rfl) rfl) rfl

/-- Above the first tile there is nothing. -/
theorem zeros (U : FVec Ideal S16640x3072 .bf16) (n : ℕ) (hn : n < 156) (h : n % 26 = 0) (r : Fin 8) (ch : Fin 512) :
    (0 : EReal) = FfnRef.src U (n % 26 * 640 + r.val) (col n hn ch) := by
  rw [FfnRef.src, dif_neg (by omega)]

/-- A row of the gate half's tile. -/
theorem tile0 (c : Dev nD) (t : Fin cfg0.N) (x : Fin 640) (ch : Fin 512) :
    k0_pay9 (F := Ideal) (iblk m c 0 t) (ix2 x ch) = FfnRef.src (ug m c) (t.val % 26 * 640 + x.val + 8) (col t.val t.isLt ch) := by
  have ht : t.val < 156 := t.isLt
  have hx := x.isLt
  rw [FfnRef.src, dif_pos ⟨by omega, by omega⟩]
  have e (a : Vec Ideal S640x512 .bf16) : k0_pay9 (F := Ideal) a (ix2 x ch) = a (ix2 x ch) := by pointwise [k0_pay9]
  refine (e _).trans ?_
  unfold col
  blk_point [iblk, V, ug, idx t]

/-- Above the gate half's first tile there is nothing. -/
theorem above0 (c : Dev nD) (t : Fin cfg0.N) (h : t.val % 26 = 0) (r : Fin 8) (ch : Fin 512) :
    k0_pay7 (F := Ideal) (ix2 r ch) = FfnRef.src (ug m c) (t.val % 26 * 640 + r.val) (col t.val t.isLt ch) := by
  refine Eq.trans ?_ (zeros _ _ _ h _ _)
  pointwise [k0_pay7]

/-- The gate half's eight rows carried from the point before are those above the tile. -/
theorem carried0 (c : Dev nD) (t : Fin cfg0.N) (h0 : ¬ t.val % 26 = 0)
    (ih : Holds (ug m c) (t.val - 1) (before t) (outsAt0 m c (t.val - 1) (by omega)).2.2.2.1)
    (hw : (Memref.whole cc0_scratch0).IsWhole) (r : Fin 8) (ch : Fin 512) :
    k0_pay8 (F := Ideal) (View.ld (View.read (Elt Ideal) (View.whole cc0_scratch0) (hw.unread (outsAt0 m c (t.val - 1) (by omega)).2.2.2.1))
      (Rect.unit (s := S648x512) ![640,0] ![8,512] inb_S648x512_S8x512_640_0)) (ix2 r ch)
      = FfnRef.src (ug m c) (t.val % 26 * 640 + r.val) (col t.val t.isLt ch) := by
  have ht : t.val < 156 := t.isLt
  pointwise [k0_pay8]
  refine (congrFun (read_unread_whole _ _ _) _).trans ((ih _).trans ?_)
  have e2 : (t.val - 1) / 26 = t.val / 26 := by omega
  refine congrArg₂ (FfnRef.src (ug m c)) ?_ (Fin.ext ?_)
  · simp
    omega
  · simp [col, e2]

/-- The gate half's rows after a column tile's first point. -/
theorem scrA0 (c : Dev nD) (t : Fin cfg0.N) (h0 : t.val % 26 = 0) :
    Holds (ug m c) t.val t.isLt (outsAt0 m c t.val t.isLt).2.2.2.1 := by
  intro y
  rw [outsAt0_A m c t h0 (by omega) h0 (by omega)]
  frame_out
  exact (congrFun (canon_buf _ _) y).trans (buf_holds _ _ _ _ _ (tile0 m c t) (above0 m c t h0) y)

/-- The gate half's rows after a later point. -/
theorem scrB0 (c : Dev nD) (t : Fin cfg0.N) (h0 : ¬ t.val % 26 = 0)
    (ih : Holds (ug m c) (t.val - 1) (before t) (outsAt0 m c (t.val - 1) (by omega)).2.2.2.1) :
    Holds (ug m c) t.val t.isLt (outsAt0 m c t.val t.isLt).2.2.2.1 := by
  intro y
  rw [outsAt0_B m c t h0 (by omega) h0 (by omega)]
  frame_out
  exact (congrFun (canon_buf _ _) y).trans (buf_holds _ _ _ _ _ (tile0 m c t) (carried0 m c t h0 ih _) y)

/-- The gate half's rows at every grid point. -/
theorem scr0 (c : Dev nD) : ∀ (n : ℕ) (hn : n < cfg0.N), Holds (ug m c) n hn (outsAt0 m c n hn).2.2.2.1
  | 0, hn => scrA0 m c ⟨0, hn⟩ rfl
  | n + 1, hn => by
    by_cases h : (n + 1) % 26 = 0
    · exact scrA0 m c ⟨n + 1, hn⟩ h
    · exact scrB0 m c ⟨n + 1, hn⟩ h (scr0 c n (by omega))

/-- The gate half's taps and bias. -/
theorem taps0 (c : Dev nD) (t : Fin cfg0.N) (k : Fin 3) (ch : Fin 512) :
    (iblk m c 2 t : Vec Ideal S3x512 .f32) (ix2 k ch) = (wg m c) (ix2 k (col t.val t.isLt ch)) := by
  unfold col
  blk_point [iblk, V, wg, idx t]

theorem bias0 (c : Dev nD) (t : Fin cfg0.N) (ch : Fin 512) :
    k0_pay13 (F := Ideal) (iblk m c 4 t) (ix2 0 ch) = (bg m c) (ix1 (col t.val t.isLt ch)) := by
  have e (a : Vec Ideal S1x512 .f32) : k0_pay13 (F := Ideal) a (ix2 0 ch) = a (ix2 0 ch) := by pointwise [k0_pay13]
  refine (e _).trans ?_
  unfold col
  blk_point [iblk, V, bg, idx t]

/-- A row of the value half's tile. -/
theorem tile1 (c : Dev nD) (t : Fin cfg0.N) (x : Fin 640) (ch : Fin 512) :
    k0_pay12 (F := Ideal) (iblk m c 1 t) (ix2 x ch) = FfnRef.src (uv m c) (t.val % 26 * 640 + x.val + 8) (col t.val t.isLt ch) := by
  have ht : t.val < 156 := t.isLt
  have hx := x.isLt
  rw [FfnRef.src, dif_pos ⟨by omega, by omega⟩]
  have e (a : Vec Ideal S640x512 .bf16) : k0_pay12 (F := Ideal) a (ix2 x ch) = a (ix2 x ch) := by pointwise [k0_pay12]
  refine (e _).trans ?_
  unfold col
  blk_point [iblk, V, uv, idx t]

/-- Above the value half's first tile there is nothing. -/
theorem above1 (c : Dev nD) (t : Fin cfg0.N) (h : t.val % 26 = 0) (r : Fin 8) (ch : Fin 512) :
    k0_pay10 (F := Ideal) (ix2 r ch) = FfnRef.src (uv m c) (t.val % 26 * 640 + r.val) (col t.val t.isLt ch) := by
  refine Eq.trans ?_ (zeros _ _ _ h _ _)
  pointwise [k0_pay10]

/-- The value half's eight rows carried from the point before are those above the tile. -/
theorem carried1 (c : Dev nD) (t : Fin cfg0.N) (h0 : ¬ t.val % 26 = 0)
    (ih : Holds (uv m c) (t.val - 1) (before t) (outsAt0 m c (t.val - 1) (by omega)).2.2.2.2)
    (hw : (Memref.whole cc0_scratch1).IsWhole) (r : Fin 8) (ch : Fin 512) :
    k0_pay11 (F := Ideal) (View.ld (View.read (Elt Ideal) (View.whole cc0_scratch1) (hw.unread (outsAt0 m c (t.val - 1) (by omega)).2.2.2.2))
      (Rect.unit (s := S648x512) ![640,0] ![8,512] inb_S648x512_S8x512_640_0)) (ix2 r ch)
      = FfnRef.src (uv m c) (t.val % 26 * 640 + r.val) (col t.val t.isLt ch) := by
  have ht : t.val < 156 := t.isLt
  pointwise [k0_pay11]
  refine (congrFun (read_unread_whole _ _ _) _).trans ((ih _).trans ?_)
  have e2 : (t.val - 1) / 26 = t.val / 26 := by omega
  refine congrArg₂ (FfnRef.src (uv m c)) ?_ (Fin.ext ?_)
  · simp
    omega
  · simp [col, e2]

/-- The value half's rows after a column tile's first point. -/
theorem scrA1 (c : Dev nD) (t : Fin cfg0.N) (h0 : t.val % 26 = 0) :
    Holds (uv m c) t.val t.isLt (outsAt0 m c t.val t.isLt).2.2.2.2 := by
  intro y
  rw [outsAt0_A m c t h0 (by omega) h0 (by omega)]
  frame_out
  exact (congrFun (canon_buf _ _) y).trans (buf_holds _ _ _ _ _ (tile1 m c t) (above1 m c t h0) y)

/-- The value half's rows after a later point. -/
theorem scrB1 (c : Dev nD) (t : Fin cfg0.N) (h0 : ¬ t.val % 26 = 0)
    (ih : Holds (uv m c) (t.val - 1) (before t) (outsAt0 m c (t.val - 1) (by omega)).2.2.2.2) :
    Holds (uv m c) t.val t.isLt (outsAt0 m c t.val t.isLt).2.2.2.2 := by
  intro y
  rw [outsAt0_B m c t h0 (by omega) h0 (by omega)]
  frame_out
  exact (congrFun (canon_buf _ _) y).trans (buf_holds _ _ _ _ _ (tile1 m c t) (carried1 m c t h0 ih _) y)

/-- The value half's rows at every grid point. -/
theorem scr1 (c : Dev nD) : ∀ (n : ℕ) (hn : n < cfg0.N), Holds (uv m c) n hn (outsAt0 m c n hn).2.2.2.2
  | 0, hn => scrA1 m c ⟨0, hn⟩ rfl
  | n + 1, hn => by
    by_cases h : (n + 1) % 26 = 0
    · exact scrA1 m c ⟨n + 1, hn⟩ h
    · exact scrB1 m c ⟨n + 1, hn⟩ h (scr1 c n (by omega))

/-- The value half's taps and bias. -/
theorem taps1 (c : Dev nD) (t : Fin cfg0.N) (k : Fin 3) (ch : Fin 512) :
    (iblk m c 3 t : Vec Ideal S3x512 .f32) (ix2 k ch) = (wv m c) (ix2 k (col t.val t.isLt ch)) := by
  unfold col
  blk_point [iblk, V, wv, idx t]

theorem bias1 (c : Dev nD) (t : Fin cfg0.N) (ch : Fin 512) :
    k0_pay14 (F := Ideal) (iblk m c 5 t) (ix2 0 ch) = (bv m c) (ix1 (col t.val t.isLt ch)) := by
  have e (a : Vec Ideal S1x512 .f32) : k0_pay14 (F := Ideal) a (ix2 0 ch) = a (ix2 0 ch) := by pointwise [k0_pay14]
  refine (e _).trans ?_
  unfold col
  blk_point [iblk, V, bv, idx t]

/-- The inner value a first point leaves. -/
theorem actA (c : Dev nD) (t : Fin cfg0.N) (h0 : t.val % 26 = 0) (x : Fin 640) (ch : Fin 512) :
    (outsAt0 m c t.val t.isLt).1 (ix2 x ch)
      = FfnRef.gelu (FfnRef.conv (ug m c) (wg m c) (bg m c) (t.val % 26 * 640 + x.val) (col t.val t.isLt ch))
        * FfnRef.conv (uv m c) (wv m c) (bv m c) (t.val % 26 * 640 + x.val) (col t.val t.isLt ch) := by
  rw [outsAt0_A m c t h0 (by omega) h0 (by omega)]
  frame_out
  exact (loop_act _ _ _ _ _ _ _ _ _ _ _ _ _ _ _ _ _ _ _ _ _ _ _ _ _ _ _ _ _ _ _ _ _ _ (read_buf _ _ _) (read_buf _ _ _) _).trans (congrArg₂ (fun a b => FfnRef.gelu a * b) (row_eq (ug m c) (wg m c) (bg m c) t.val t.isLt _ (buf_holds _ _ _ _ _ (tile0 m c t) (above0 m c t h0)) _ _ (taps0 m c t) (bias0 m c t) x ch)
    (row_eq (uv m c) (wv m c) (bv m c) t.val t.isLt _ (buf_holds _ _ _ _ _ (tile1 m c t) (above1 m c t h0)) _ _ (taps1 m c t) (bias1 m c t) x ch))

/-- The gate a first point leaves. -/
theorem gateA (c : Dev nD) (t : Fin cfg0.N) (h0 : t.val % 26 = 0) (x : Fin 640) (ch : Fin 512) :
    (outsAt0 m c t.val t.isLt).2.1 (ix2 x ch)
      = FfnRef.conv (ug m c) (wg m c) (bg m c) (t.val % 26 * 640 + x.val) (col t.val t.isLt ch) := by
  rw [outsAt0_A m c t h0 (by omega) h0 (by omega)]
  frame_out
  exact (loop_gate _ _ _ _ _ _ _ _ _ _ _ _ _ _ _ _ _ _ _ _ _ _ _ _ _ _ _ _ _ _ _ _ _ (read_buf _ _ _) _).trans (row_eq (ug m c) (wg m c) (bg m c) t.val t.isLt _ (buf_holds _ _ _ _ _ (tile0 m c t) (above0 m c t h0)) _ _ (taps0 m c t) (bias0 m c t) x ch)

/-- The gated value a first point leaves. -/
theorem valA (c : Dev nD) (t : Fin cfg0.N) (h0 : t.val % 26 = 0) (x : Fin 640) (ch : Fin 512) :
    (outsAt0 m c t.val t.isLt).2.2.1 (ix2 x ch)
      = FfnRef.conv (uv m c) (wv m c) (bv m c) (t.val % 26 * 640 + x.val) (col t.val t.isLt ch) := by
  rw [outsAt0_A m c t h0 (by omega) h0 (by omega)]
  frame_out
  exact (loop_val _ _ _ _ _ _ _ _ _ _ _ _ _ _ _ _ _ _ _ _ _ _ _ _ _ _ _ _ _ _ _ _ _ (read_buf _ _ _) _).trans (row_eq (uv m c) (wv m c) (bv m c) t.val t.isLt _ (buf_holds _ _ _ _ _ (tile1 m c t) (above1 m c t h0)) _ _ (taps1 m c t) (bias1 m c t) x ch)

/-- The inner value a later point leaves. -/
theorem actB (c : Dev nD) (t : Fin cfg0.N) (h0 : ¬ t.val % 26 = 0) (x : Fin 640) (ch : Fin 512) :
    (outsAt0 m c t.val t.isLt).1 (ix2 x ch)
      = FfnRef.gelu (FfnRef.conv (ug m c) (wg m c) (bg m c) (t.val % 26 * 640 + x.val) (col t.val t.isLt ch))
        * FfnRef.conv (uv m c) (wv m c) (bv m c) (t.val % 26 * 640 + x.val) (col t.val t.isLt ch) := by
  rw [outsAt0_B m c t h0 (by omega) h0 (by omega)]
  frame_out
  exact (loop_act _ _ _ _ _ _ _ _ _ _ _ _ _ _ _ _ _ _ _ _ _ _ _ _ _ _ _ _ _ _ _ _ _ _ (read_buf _ _ _) (read_buf _ _ _) _).trans (congrArg₂ (fun a b => FfnRef.gelu a * b) (row_eq (ug m c) (wg m c) (bg m c) t.val t.isLt _ (buf_holds _ _ _ _ _ (tile0 m c t) (carried0 m c t h0 (scr0 m c _ _) _)) _ _ (taps0 m c t) (bias0 m c t) x ch)
    (row_eq (uv m c) (wv m c) (bv m c) t.val t.isLt _ (buf_holds _ _ _ _ _ (tile1 m c t) (carried1 m c t h0 (scr1 m c _ _) _)) _ _ (taps1 m c t) (bias1 m c t) x ch))

/-- The gate a later point leaves. -/
theorem gateB (c : Dev nD) (t : Fin cfg0.N) (h0 : ¬ t.val % 26 = 0) (x : Fin 640) (ch : Fin 512) :
    (outsAt0 m c t.val t.isLt).2.1 (ix2 x ch)
      = FfnRef.conv (ug m c) (wg m c) (bg m c) (t.val % 26 * 640 + x.val) (col t.val t.isLt ch) := by
  rw [outsAt0_B m c t h0 (by omega) h0 (by omega)]
  frame_out
  exact (loop_gate _ _ _ _ _ _ _ _ _ _ _ _ _ _ _ _ _ _ _ _ _ _ _ _ _ _ _ _ _ _ _ _ _ (read_buf _ _ _) _).trans (row_eq (ug m c) (wg m c) (bg m c) t.val t.isLt _ (buf_holds _ _ _ _ _ (tile0 m c t) (carried0 m c t h0 (scr0 m c _ _) _)) _ _ (taps0 m c t) (bias0 m c t) x ch)

/-- The gated value a later point leaves. -/
theorem valB (c : Dev nD) (t : Fin cfg0.N) (h0 : ¬ t.val % 26 = 0) (x : Fin 640) (ch : Fin 512) :
    (outsAt0 m c t.val t.isLt).2.2.1 (ix2 x ch)
      = FfnRef.conv (uv m c) (wv m c) (bv m c) (t.val % 26 * 640 + x.val) (col t.val t.isLt ch) := by
  rw [outsAt0_B m c t h0 (by omega) h0 (by omega)]
  frame_out
  exact (loop_val _ _ _ _ _ _ _ _ _ _ _ _ _ _ _ _ _ _ _ _ _ _ _ _ _ _ _ _ _ _ _ _ _ (read_buf _ _ _) _).trans (row_eq (uv m c) (wv m c) (bv m c) t.val t.isLt _ (buf_holds _ _ _ _ _ (tile1 m c t) (carried1 m c t h0 (scr1 m c _ _) _)) _ _ (taps1 m c t) (bias1 m c t) x ch)

/-- The inner value a grid point leaves. -/
theorem actOut (c : Dev nD) (t : Fin cfg0.N) (x : Fin 640) (ch : Fin 512) :
    (outsAt0 m c t.val t.isLt).1 (ix2 x ch)
      = FfnRef.gelu (FfnRef.conv (ug m c) (wg m c) (bg m c) (t.val % 26 * 640 + x.val) (col t.val t.isLt ch))
        * FfnRef.conv (uv m c) (wv m c) (bv m c) (t.val % 26 * 640 + x.val) (col t.val t.isLt ch) := by
  by_cases h0 : t.val % 26 = 0
  · exact actA m c t h0 x ch
  · exact actB m c t h0 x ch

/-- The gate a grid point leaves. -/
theorem gateOut (c : Dev nD) (t : Fin cfg0.N) (x : Fin 640) (ch : Fin 512) :
    (outsAt0 m c t.val t.isLt).2.1 (ix2 x ch)
      = FfnRef.conv (ug m c) (wg m c) (bg m c) (t.val % 26 * 640 + x.val) (col t.val t.isLt ch) := by
  by_cases h0 : t.val % 26 = 0
  · exact gateA m c t h0 x ch
  · exact gateB m c t h0 x ch

/-- The gated value a grid point leaves. -/
theorem valOut (c : Dev nD) (t : Fin cfg0.N) (x : Fin 640) (ch : Fin 512) :
    (outsAt0 m c t.val t.isLt).2.2.1 (ix2 x ch)
      = FfnRef.conv (uv m c) (wv m c) (bv m c) (t.val % 26 * 640 + x.val) (col t.val t.isLt ch) := by
  by_cases h0 : t.val % 26 = 0
  · exact valA m c t h0 x ch
  · exact valB m c t h0 x ch

/-- The inner value after the run is the reference's. -/
theorem array6 (c : Dev nD) : (dats m 0 c).arrAt 6 (cfgs 0).N = Cert.FfnRefIdeal.Read.val_main_v66 (F := Ideal) (ug m c) (uv m c) (wg m c) (wv m c) (bg m c) (bv m c) := by
  refine (dats m 0 c).arrAt_eq_of_covers 6 _ (by decide +kernel) fun t hf y => ?_
  have ht : t.val < 156 := t.isLt
  blk_simp
  rw [after0_6]
  have e0 : ((win0_6.blk t).view.emb y 0).val = t.val % 26 * 640 + (y 0).val := by blk_simp [idx t]
  have e1 : (win0_6.blk t).view.emb y 1 = col t.val t.isLt (y 1) := Fin.ext (by unfold col; blk_simp [idx t])
  have hi (i : S16640x3072.Idx) : i = ix2 (i 0) (i 1) := by
    funext a; match a with | 0 => rfl | 1 => rfl
  have hy (i : S640x512.Idx) : i = ix2 (i 0) (i 1) := by
    funext a; match a with | 0 => rfl | 1 => rfl
  have e := FfnRef.act (ug m c) (uv m c) (wg m c) (wv m c) (bg m c) (bv m c) ((win0_6.blk t).view.emb y 0) ((win0_6.blk t).view.emb y 1)
  rw [e0, e1] at e
  refine (congrArg _ (hy y)).trans ((actOut m c t (y 0) (y 1)).trans (e.symm.trans (congrArg _ ?_)))
  rw [← e1]
  exact (hi _).symm

/-- The gate after the run is the reference's. -/
theorem array7 (c : Dev nD) : (dats m 0 c).arrAt 7 (cfgs 0).N = Cert.FfnRefIdeal.Read.val_main_v67 (F := Ideal) (ug m c) (wg m c) (bg m c) := by
  refine (dats m 0 c).arrAt_eq_of_covers 7 _ (by decide +kernel) fun t hf y => ?_
  have ht : t.val < 156 := t.isLt
  blk_simp
  rw [after0_7]
  have e0 : ((win0_7.blk t).view.emb y 0).val = t.val % 26 * 640 + (y 0).val := by blk_simp [idx t]
  have e1 : (win0_7.blk t).view.emb y 1 = col t.val t.isLt (y 1) := Fin.ext (by unfold col; blk_simp [idx t])
  have hi (i : S16640x3072.Idx) : i = ix2 (i 0) (i 1) := by
    funext a; match a with | 0 => rfl | 1 => rfl
  have hy (i : S640x512.Idx) : i = ix2 (i 0) (i 1) := by
    funext a; match a with | 0 => rfl | 1 => rfl
  have e := FfnRef.gate_out (ug m c) (wg m c) (bg m c) ((win0_7.blk t).view.emb y 0) ((win0_7.blk t).view.emb y 1)
  rw [e0, e1] at e
  refine (congrArg _ (hy y)).trans ((gateOut m c t (y 0) (y 1)).trans (e.symm.trans (congrArg _ ?_)))
  rw [← e1]
  exact (hi _).symm

/-- The gated value after the run is the reference's. -/
theorem array8 (c : Dev nD) : (dats m 0 c).arrAt 8 (cfgs 0).N = Cert.FfnRefIdeal.Read.val_main_v68 (F := Ideal) (uv m c) (wv m c) (bv m c) := by
  refine (dats m 0 c).arrAt_eq_of_covers 8 _ (by decide +kernel) fun t hf y => ?_
  have ht : t.val < 156 := t.isLt
  blk_simp
  rw [after0_8]
  have e0 : ((win0_8.blk t).view.emb y 0).val = t.val % 26 * 640 + (y 0).val := by blk_simp [idx t]
  have e1 : (win0_8.blk t).view.emb y 1 = col t.val t.isLt (y 1) := Fin.ext (by unfold col; blk_simp [idx t])
  have hi (i : S16640x3072.Idx) : i = ix2 (i 0) (i 1) := by
    funext a; match a with | 0 => rfl | 1 => rfl
  have hy (i : S640x512.Idx) : i = ix2 (i 0) (i 1) := by
    funext a; match a with | 0 => rfl | 1 => rfl
  have e := FfnRef.val_out (uv m c) (wv m c) (bv m c) ((win0_8.blk t).view.emb y 0) ((win0_8.blk t).view.emb y 1)
  rw [e0, e1] at e
  refine (congrArg _ (hy y)).trans ((valOut m c t (y 0) (y 1)).trans (e.symm.trans (congrArg _ ?_)))
  rw [← e1]
  exact (hi _).symm

end Cert.FfnIdeal.Value

end
-- ==== Proof.FfnClaims.lean ====
/- The five claims about the Ffn call: three frames, the idealisation, the equation. -/
module

public import proofs.«01_k».proof.Defs
public import proofs.«01_k».proof.Proof.FfnValue
public import proofs.«01_k».proof.Proof.Gen.Ffn.Frame
public import proofs.«01_k».proof.Proof.Gen.FfnIdeal.Frame
public import proofs.«01_k».proof.Proof.Gen.FfnRefIdeal.Run
public import proofs.«01_k».proof.Proof.Gen.FfnRefIdeal.Read
public import Idealize.ShloMosaic.Adequacy
public import Idealize.ShloMosaic.Init

@[expose] public section

set_option maxRecDepth 16384

noncomputable section

namespace Cert.Proof.Ffn

open Idealize.ShloMosaic Idealize.ShloMosaic.TcCoe Idealize.SL.Sem

/-- The call as printed ends with its arguments unchanged and its counters at zero. -/
theorem frame_p : Cert.quiescent_Ffn := fun m ρ _ => Cert.Ffn.Gen.frame m ρ

/-- So does the call over the reals. -/
theorem frame_pi : Cert.quiescent_FfnIdeal := fun m ρ _ => Cert.FfnIdeal.Gen.frame m ρ

/-- So does the reference, which has no counters. -/
theorem frame_ri : Cert.quiescent_FfnRefIdeal := fun m ρ _ =>
  (θ_run Cert.FfnRefIdeal.defs _ _).mono
    (fun r h => ⟨fun c => (h c).2.2.2, sem_eq_zero_of_no_sems (by decide) r.2⟩)
    (Cert.FfnRefIdeal.Value.run (F := Ideal) m ρ)

/-- No operation was rewritten. -/
theorem preserves : Cert.preserves_Ffn_FfnIdeal := trivial

/-- Over the reals the call's results are the reference's. -/
theorem algebraic : Cert.algebraic_FfnIdeal_FfnRefIdeal := by
  pair_intro
  · run_from Cert.FfnIdeal.Value.run_blocks m g
  · refine (θ_run Cert.FfnRefIdeal.defs _ _).mono (fun r h c => ?_) (Cert.FfnRefIdeal.Value.run (F := Ideal) m' g')
    obtain ⟨h0, h1, h2, h3, h4, h5⟩ := hagree c
    refine ⟨?_, ?_, ?_, (h c).2.2.2⟩
    · refine ((h c).1.trans (Cert.FfnRefIdeal.Read.val_main_v66_eq ..)).trans ?_
      refine Eq.trans ?_ (Cert.FfnIdeal.Value.array6 m c).symm
      congr 1
    · refine ((h c).2.1.trans (Cert.FfnRefIdeal.Read.val_main_v67_eq ..)).trans ?_
      refine Eq.trans ?_ (Cert.FfnIdeal.Value.array7 m c).symm
      congr 1
    · refine ((h c).2.2.1.trans (Cert.FfnRefIdeal.Read.val_main_v68_eq ..)).trans ?_
      refine Eq.trans ?_ (Cert.FfnIdeal.Value.array8 m c).symm
      congr 1

end Cert.Proof.Ffn

end
-- ==== Proof.lean ====
/- The claim of the proof directory: for each call of the step, that the call as printed, the call over the
   reals and the reference leave their arguments and counters as they must, that no operation was rewritten, and
   that over the reals the call's results are the reference's. Each call's five statements are proved in the
   module of its name; here they are put together. -/
module

public import proofs.«01_k».proof.Defs
public import proofs.«01_k».proof.Proof.Gen.ConvIn
public import proofs.«01_k».proof.Proof.Gen.ConvIn.Skeleton
public import proofs.«01_k».proof.Proof.Gen.ConvIn.Launch
public import proofs.«01_k».proof.Proof.Gen.ConvIn.Points
public import proofs.«01_k».proof.Proof.Gen.ConvIn.Frame
public import proofs.«01_k».proof.Proof.Gen.ConvInIdeal
public import proofs.«01_k».proof.Proof.Gen.ConvInIdeal.Skeleton
public import proofs.«01_k».proof.Proof.Gen.ConvInIdeal.Launch
public import proofs.«01_k».proof.Proof.Gen.ConvInIdeal.Points
public import proofs.«01_k».proof.Proof.Gen.ConvInIdeal.Frame
public import proofs.«01_k».proof.Proof.Gen.ConvInIdeal.Value
public import proofs.«01_k».proof.Proof.Gen.ConvInRefIdeal
public import proofs.«01_k».proof.Proof.Gen.ConvInRefIdeal.Run
public import proofs.«01_k».proof.Proof.Gen.ConvInRefIdeal.Read
public import proofs.«01_k».proof.Proof.Gen.UpWeight
public import proofs.«01_k».proof.Proof.Gen.UpWeight.Skeleton
public import proofs.«01_k».proof.Proof.Gen.UpWeight.Launch
public import proofs.«01_k».proof.Proof.Gen.UpWeight.Points
public import proofs.«01_k».proof.Proof.Gen.UpWeight.Frame
public import proofs.«01_k».proof.Proof.Gen.UpWeightIdeal
public import proofs.«01_k».proof.Proof.Gen.UpWeightIdeal.Skeleton
public import proofs.«01_k».proof.Proof.Gen.UpWeightIdeal.Launch
public import proofs.«01_k».proof.Proof.Gen.UpWeightIdeal.Points
public import proofs.«01_k».proof.Proof.Gen.UpWeightIdeal.Frame
public import proofs.«01_k».proof.Proof.Gen.UpWeightIdeal.Value
public import proofs.«01_k».proof.Proof.Gen.UpWeightRefIdeal
public import proofs.«01_k».proof.Proof.Gen.UpWeightRefIdeal.Run
public import proofs.«01_k».proof.Proof.Gen.UpWeightRefIdeal.Read
public import proofs.«01_k».proof.Proof.Gen.DownWeight
public import proofs.«01_k».proof.Proof.Gen.DownWeight.Skeleton
public import proofs.«01_k».proof.Proof.Gen.DownWeight.Launch
public import proofs.«01_k».proof.Proof.Gen.DownWeight.Points
public import proofs.«01_k».proof.Proof.Gen.DownWeight.Frame
public import proofs.«01_k».proof.Proof.Gen.DownWeightIdeal
public import proofs.«01_k».proof.Proof.Gen.DownWeightIdeal.Skeleton
public import proofs.«01_k».proof.Proof.Gen.DownWeightIdeal.Launch
public import proofs.«01_k».proof.Proof.Gen.DownWeightIdeal.Points
public import proofs.«01_k».proof.Proof.Gen.DownWeightIdeal.Frame
public import proofs.«01_k».proof.Proof.Gen.DownWeightIdeal.Value
public import proofs.«01_k».proof.Proof.Gen.DownWeightRefIdeal
public import proofs.«01_k».proof.Proof.Gen.DownWeightRefIdeal.Run
public import proofs.«01_k».proof.Proof.Gen.DownWeightRefIdeal.Read
public import proofs.«01_k».proof.Proof.Gen.DownInput
public import proofs.«01_k».proof.Proof.Gen.DownInput.Skeleton
public import proofs.«01_k».proof.Proof.Gen.DownInput.Launch
public import proofs.«01_k».proof.Proof.Gen.DownInput.Points
public import proofs.«01_k».proof.Proof.Gen.DownInput.Frame
public import proofs.«01_k».proof.Proof.Gen.DownInputIdeal
public import proofs.«01_k».proof.Proof.Gen.DownInputIdeal.Skeleton
public import proofs.«01_k».proof.Proof.Gen.DownInputIdeal.Launch
public import proofs.«01_k».proof.Proof.Gen.DownInputIdeal.Points
public import proofs.«01_k».proof.Proof.Gen.DownInputIdeal.Frame
public import proofs.«01_k».proof.Proof.Gen.DownInputIdeal.Value
public import proofs.«01_k».proof.Proof.Gen.DownInputRefIdeal
public import proofs.«01_k».proof.Proof.Gen.DownInputRefIdeal.Run
public import proofs.«01_k».proof.Proof.Gen.DownInputRefIdeal.Read
public import proofs.«01_k».proof.Proof.Gen.UpInput
public import proofs.«01_k».proof.Proof.Gen.UpInput.Skeleton
public import proofs.«01_k».proof.Proof.Gen.UpInput.Launch
public import proofs.«01_k».proof.Proof.Gen.UpInput.Points
public import proofs.«01_k».proof.Proof.Gen.UpInput.Frame
public import proofs.«01_k».proof.Proof.Gen.UpInputIdeal
public import proofs.«01_k».proof.Proof.Gen.UpInputIdeal.Skeleton
public import proofs.«01_k».proof.Proof.Gen.UpInputIdeal.Launch
public import proofs.«01_k».proof.Proof.Gen.UpInputIdeal.Points
public import proofs.«01_k».proof.Proof.Gen.UpInputIdeal.Frame
public import proofs.«01_k».proof.Proof.Gen.UpInputIdeal.Value
public import proofs.«01_k».proof.Proof.Gen.UpInputRefIdeal
public import proofs.«01_k».proof.Proof.Gen.UpInputRefIdeal.Run
public import proofs.«01_k».proof.Proof.Gen.UpInputRefIdeal.Read
public import proofs.«01_k».proof.Proof.Gen.UpInputSum
public import proofs.«01_k».proof.Proof.Gen.UpInputSum.Skeleton
public import proofs.«01_k».proof.Proof.Gen.UpInputSum.Launch
public import proofs.«01_k».proof.Proof.Gen.UpInputSum.Points
public import proofs.«01_k».proof.Proof.Gen.UpInputSum.Frame
public import proofs.«01_k».proof.Proof.Gen.UpInputSumIdeal
public import proofs.«01_k».proof.Proof.Gen.UpInputSumIdeal.Skeleton
public import proofs.«01_k».proof.Proof.Gen.UpInputSumIdeal.Launch
public import proofs.«01_k».proof.Proof.Gen.UpInputSumIdeal.Points
public import proofs.«01_k».proof.Proof.Gen.UpInputSumIdeal.Frame
public import proofs.«01_k».proof.Proof.Gen.UpInputSumIdeal.Value
public import proofs.«01_k».proof.Proof.Gen.UpInputSumRefIdeal
public import proofs.«01_k».proof.Proof.Gen.UpInputSumRefIdeal.Run
public import proofs.«01_k».proof.Proof.Gen.UpInputSumRefIdeal.Read
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.UpRefIdeal.Read
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.Gen.ProjInput
public import proofs.«01_k».proof.Proof.Gen.ProjInput.Skeleton
public import proofs.«01_k».proof.Proof.Gen.ProjInput.Launch
public import proofs.«01_k».proof.Proof.Gen.ProjInput.Points
public import proofs.«01_k».proof.Proof.Gen.ProjInput.Frame
public import proofs.«01_k».proof.Proof.Gen.ProjInputIdeal
public import proofs.«01_k».proof.Proof.Gen.ProjInputIdeal.Skeleton
public import proofs.«01_k».proof.Proof.Gen.ProjInputIdeal.Launch
public import proofs.«01_k».proof.Proof.Gen.ProjInputIdeal.Points
public import proofs.«01_k».proof.Proof.Gen.ProjInputIdeal.Frame
public import proofs.«01_k».proof.Proof.Gen.ProjInputIdeal.Value
public import proofs.«01_k».proof.Proof.Gen.ProjInputRefIdeal
public import proofs.«01_k».proof.Proof.Gen.ProjInputRefIdeal.Run
public import proofs.«01_k».proof.Proof.Gen.ProjInputRefIdeal.Read
public import proofs.«01_k».proof.Proof.Gen.ProjWeight
public import proofs.«01_k».proof.Proof.Gen.ProjWeight.Skeleton
public import proofs.«01_k».proof.Proof.Gen.ProjWeight.Launch
public import proofs.«01_k».proof.Proof.Gen.ProjWeight.Points
public import proofs.«01_k».proof.Proof.Gen.ProjWeight.Frame
public import proofs.«01_k».proof.Proof.Gen.ProjWeightIdeal
public import proofs.«01_k».proof.Proof.Gen.ProjWeightIdeal.Skeleton
public import proofs.«01_k».proof.Proof.Gen.ProjWeightIdeal.Launch
public import proofs.«01_k».proof.Proof.Gen.ProjWeightIdeal.Points
public import proofs.«01_k».proof.Proof.Gen.ProjWeightIdeal.Frame
public import proofs.«01_k».proof.Proof.Gen.ProjWeightIdeal.Value
public import proofs.«01_k».proof.Proof.Gen.ProjWeightRefIdeal
public import proofs.«01_k».proof.Proof.Gen.ProjWeightRefIdeal.Run
public import proofs.«01_k».proof.Proof.Gen.ProjWeightRefIdeal.Read
public import proofs.«01_k».proof.Proof.Gen.OutInput
public import proofs.«01_k».proof.Proof.Gen.OutInput.Skeleton
public import proofs.«01_k».proof.Proof.Gen.OutInput.Launch
public import proofs.«01_k».proof.Proof.Gen.OutInput.Points
public import proofs.«01_k».proof.Proof.Gen.OutInput.Frame
public import proofs.«01_k».proof.Proof.Gen.OutInputIdeal
public import proofs.«01_k».proof.Proof.Gen.OutInputIdeal.Skeleton
public import proofs.«01_k».proof.Proof.Gen.OutInputIdeal.Launch
public import proofs.«01_k».proof.Proof.Gen.OutInputIdeal.Points
public import proofs.«01_k».proof.Proof.Gen.OutInputIdeal.Frame
public import proofs.«01_k».proof.Proof.Gen.OutInputIdeal.Value
public import proofs.«01_k».proof.Proof.Gen.OutInputRefIdeal
public import proofs.«01_k».proof.Proof.Gen.OutInputRefIdeal.Run
public import proofs.«01_k».proof.Proof.Gen.OutInputRefIdeal.Read
public import proofs.«01_k».proof.Proof.Gen.OutWeight
public import proofs.«01_k».proof.Proof.Gen.OutWeight.Skeleton
public import proofs.«01_k».proof.Proof.Gen.OutWeight.Launch
public import proofs.«01_k».proof.Proof.Gen.OutWeight.Points
public import proofs.«01_k».proof.Proof.Gen.OutWeight.Frame
public import proofs.«01_k».proof.Proof.Gen.OutWeightIdeal
public import proofs.«01_k».proof.Proof.Gen.OutWeightIdeal.Skeleton
public import proofs.«01_k».proof.Proof.Gen.OutWeightIdeal.Launch
public import proofs.«01_k».proof.Proof.Gen.OutWeightIdeal.Points
public import proofs.«01_k».proof.Proof.Gen.OutWeightIdeal.Frame
public import proofs.«01_k».proof.Proof.Gen.OutWeightIdeal.Value
public import proofs.«01_k».proof.Proof.Gen.OutWeightRefIdeal
public import proofs.«01_k».proof.Proof.Gen.OutWeightRefIdeal.Run
public import proofs.«01_k».proof.Proof.Gen.OutWeightRefIdeal.Read
public import proofs.«01_k».proof.Proof.Gen.ProjConv
public import proofs.«01_k».proof.Proof.Gen.ProjConv.Skeleton
public import proofs.«01_k».proof.Proof.Gen.ProjConv.Launch
public import proofs.«01_k».proof.Proof.Gen.ProjConv.Points
public import proofs.«01_k».proof.Proof.Gen.ProjConv.Frame
public import proofs.«01_k».proof.Proof.Gen.ProjConvIdeal
public import proofs.«01_k».proof.Proof.Gen.ProjConvIdeal.Skeleton
public import proofs.«01_k».proof.Proof.Gen.ProjConvIdeal.Launch
public import proofs.«01_k».proof.Proof.Gen.ProjConvIdeal.Points
public import proofs.«01_k».proof.Proof.Gen.ProjConvIdeal.Frame
public import proofs.«01_k».proof.Proof.Gen.ProjConvIdeal.Value
public import proofs.«01_k».proof.Proof.Gen.ProjConvRefIdeal
public import proofs.«01_k».proof.Proof.Gen.ProjConvRefIdeal.Run
public import proofs.«01_k».proof.Proof.Gen.ProjConvRefIdeal.Read
public import proofs.«01_k».proof.Proof.Gen.ProjQkv
public import proofs.«01_k».proof.Proof.Gen.ProjQkv.Skeleton
public import proofs.«01_k».proof.Proof.Gen.ProjQkv.Launch
public import proofs.«01_k».proof.Proof.Gen.ProjQkv.Points
public import proofs.«01_k».proof.Proof.Gen.ProjQkv.Frame
public import proofs.«01_k».proof.Proof.Gen.ProjQkvIdeal
public import proofs.«01_k».proof.Proof.Gen.ProjQkvIdeal.Skeleton
public import proofs.«01_k».proof.Proof.Gen.ProjQkvIdeal.Launch
public import proofs.«01_k».proof.Proof.Gen.ProjQkvIdeal.Points
public import proofs.«01_k».proof.Proof.Gen.ProjQkvIdeal.Frame
public import proofs.«01_k».proof.Proof.Gen.ProjQkvIdeal.Value
public import proofs.«01_k».proof.Proof.Gen.ProjQkvRefIdeal
public import proofs.«01_k».proof.Proof.Gen.ProjQkvRefIdeal.Run
public import proofs.«01_k».proof.Proof.Gen.ProjQkvRefIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutRefIdeal.Read
public import proofs.«01_k».proof.Proof.Gen.ConvOutInput
public import proofs.«01_k».proof.Proof.Gen.ConvOutInput.Skeleton
public import proofs.«01_k».proof.Proof.Gen.ConvOutInput.Launch
public import proofs.«01_k».proof.Proof.Gen.ConvOutInput.Points
public import proofs.«01_k».proof.Proof.Gen.ConvOutInput.Frame
public import proofs.«01_k».proof.Proof.Gen.ConvOutInputIdeal
public import proofs.«01_k».proof.Proof.Gen.ConvOutInputIdeal.Skeleton
public import proofs.«01_k».proof.Proof.Gen.ConvOutInputIdeal.Launch
public import proofs.«01_k».proof.Proof.Gen.ConvOutInputIdeal.Points
public import proofs.«01_k».proof.Proof.Gen.ConvOutInputIdeal.Frame
public import proofs.«01_k».proof.Proof.Gen.ConvOutInputIdeal.Value
public import proofs.«01_k».proof.Proof.Gen.ConvOutInputRefIdeal
public import proofs.«01_k».proof.Proof.Gen.ConvOutInputRefIdeal.Run
public import proofs.«01_k».proof.Proof.Gen.ConvOutInputRefIdeal.Read
public import proofs.«01_k».proof.Proof.Gen.AttnOutInput
public import proofs.«01_k».proof.Proof.Gen.AttnOutInput.Skeleton
public import proofs.«01_k».proof.Proof.Gen.AttnOutInput.Launch
public import proofs.«01_k».proof.Proof.Gen.AttnOutInput.Points
public import proofs.«01_k».proof.Proof.Gen.AttnOutInput.Frame
public import proofs.«01_k».proof.Proof.Gen.AttnOutInputIdeal
public import proofs.«01_k».proof.Proof.Gen.AttnOutInputIdeal.Skeleton
public import proofs.«01_k».proof.Proof.Gen.AttnOutInputIdeal.Launch
public import proofs.«01_k».proof.Proof.Gen.AttnOutInputIdeal.Points
public import proofs.«01_k».proof.Proof.Gen.AttnOutInputIdeal.Frame
public import proofs.«01_k».proof.Proof.Gen.AttnOutInputIdeal.Value
public import proofs.«01_k».proof.Proof.Gen.AttnOutInputRefIdeal
public import proofs.«01_k».proof.Proof.Gen.AttnOutInputRefIdeal.Run
public import proofs.«01_k».proof.Proof.Gen.AttnOutInputRefIdeal.Read
public import proofs.«01_k».proof.Proof.Gen.ConvOutWeight
public import proofs.«01_k».proof.Proof.Gen.ConvOutWeight.Skeleton
public import proofs.«01_k».proof.Proof.Gen.ConvOutWeight.Launch
public import proofs.«01_k».proof.Proof.Gen.ConvOutWeight.Points
public import proofs.«01_k».proof.Proof.Gen.ConvOutWeight.Frame
public import proofs.«01_k».proof.Proof.Gen.ConvOutWeightIdeal
public import proofs.«01_k».proof.Proof.Gen.ConvOutWeightIdeal.Skeleton
public import proofs.«01_k».proof.Proof.Gen.ConvOutWeightIdeal.Launch
public import proofs.«01_k».proof.Proof.Gen.ConvOutWeightIdeal.Points
public import proofs.«01_k».proof.Proof.Gen.ConvOutWeightIdeal.Frame
public import proofs.«01_k».proof.Proof.Gen.ConvOutWeightIdeal.Value
public import proofs.«01_k».proof.Proof.Gen.ConvOutWeightRefIdeal
public import proofs.«01_k».proof.Proof.Gen.ConvOutWeightRefIdeal.Run
public import proofs.«01_k».proof.Proof.Gen.ConvOutWeightRefIdeal.Read
public import proofs.«01_k».proof.Proof.Gen.AttnOutWeight
public import proofs.«01_k».proof.Proof.Gen.AttnOutWeight.Skeleton
public import proofs.«01_k».proof.Proof.Gen.AttnOutWeight.Launch
public import proofs.«01_k».proof.Proof.Gen.AttnOutWeight.Points
public import proofs.«01_k».proof.Proof.Gen.AttnOutWeight.Frame
public import proofs.«01_k».proof.Proof.Gen.AttnOutWeightIdeal
public import proofs.«01_k».proof.Proof.Gen.AttnOutWeightIdeal.Skeleton
public import proofs.«01_k».proof.Proof.Gen.AttnOutWeightIdeal.Launch
public import proofs.«01_k».proof.Proof.Gen.AttnOutWeightIdeal.Points
public import proofs.«01_k».proof.Proof.Gen.AttnOutWeightIdeal.Frame
public import proofs.«01_k».proof.Proof.Gen.AttnOutWeightIdeal.Value
public import proofs.«01_k».proof.Proof.Gen.AttnOutWeightRefIdeal
public import proofs.«01_k».proof.Proof.Gen.AttnOutWeightRefIdeal.Run
public import proofs.«01_k».proof.Proof.Gen.AttnOutWeightRefIdeal.Read
public import proofs.«01_k».proof.Proof.Gen.RmsFwd
public import proofs.«01_k».proof.Proof.Gen.RmsFwd.Skeleton
public import proofs.«01_k».proof.Proof.Gen.RmsFwd.Launch
public import proofs.«01_k».proof.Proof.Gen.RmsFwd.Points
public import proofs.«01_k».proof.Proof.Gen.RmsFwd.Frame
public import proofs.«01_k».proof.Proof.Gen.RmsFwdIdeal
public import proofs.«01_k».proof.Proof.Gen.RmsFwdIdeal.Skeleton
public import proofs.«01_k».proof.Proof.Gen.RmsFwdIdeal.Launch
public import proofs.«01_k».proof.Proof.Gen.RmsFwdIdeal.Points
public import proofs.«01_k».proof.Proof.Gen.RmsFwdIdeal.Frame
public import proofs.«01_k».proof.Proof.Gen.RmsFwdIdeal.Value
public import proofs.«01_k».proof.Proof.Gen.RmsFwdRefIdeal
public import proofs.«01_k».proof.Proof.Gen.RmsFwdRefIdeal.Run
public import proofs.«01_k».proof.Proof.Gen.RmsFwdRefIdeal.Read
public import proofs.«01_k».proof.Proof.Gen.RmsBwd
public import proofs.«01_k».proof.Proof.Gen.RmsBwd.Skeleton
public import proofs.«01_k».proof.Proof.Gen.RmsBwd.Launch
public import proofs.«01_k».proof.Proof.Gen.RmsBwd.Points
public import proofs.«01_k».proof.Proof.Gen.RmsBwd.Frame
public import proofs.«01_k».proof.Proof.Gen.RmsBwdIdeal
public import proofs.«01_k».proof.Proof.Gen.RmsBwdIdeal.Skeleton
public import proofs.«01_k».proof.Proof.Gen.RmsBwdIdeal.Launch
public import proofs.«01_k».proof.Proof.Gen.RmsBwdIdeal.Points
public import proofs.«01_k».proof.Proof.Gen.RmsBwdIdeal.Frame
public import proofs.«01_k».proof.Proof.Gen.RmsBwdIdeal.Value
public import proofs.«01_k».proof.Proof.Gen.RmsBwdRefIdeal
public import proofs.«01_k».proof.Proof.Gen.RmsBwdRefIdeal.Run
public import proofs.«01_k».proof.Proof.Gen.RmsBwdRefIdeal.Read
public import proofs.«01_k».proof.Proof.Gen.LossHead
public import proofs.«01_k».proof.Proof.Gen.LossHead.Skeleton
public import proofs.«01_k».proof.Proof.Gen.LossHead.Launch
public import proofs.«01_k».proof.Proof.Gen.LossHead.Points
public import proofs.«01_k».proof.Proof.Gen.LossHead.Frame
public import proofs.«01_k».proof.Proof.Gen.LossHeadIdeal
public import proofs.«01_k».proof.Proof.Gen.LossHeadIdeal.Skeleton
public import proofs.«01_k».proof.Proof.Gen.LossHeadIdeal.Launch
public import proofs.«01_k».proof.Proof.Gen.LossHeadIdeal.Points
public import proofs.«01_k».proof.Proof.Gen.LossHeadIdeal.Frame
public import proofs.«01_k».proof.Proof.Gen.LossHeadIdeal.Value
public import proofs.«01_k».proof.Proof.Gen.LossHeadRefIdeal
public import proofs.«01_k».proof.Proof.Gen.LossHeadRefIdeal.Run
public import proofs.«01_k».proof.Proof.Gen.LossHeadRefIdeal.Read
public import proofs.«01_k».proof.Proof.Gen.UpdateShard
public import proofs.«01_k».proof.Proof.Gen.UpdateShard.Skeleton
public import proofs.«01_k».proof.Proof.Gen.UpdateShard.Launch
public import proofs.«01_k».proof.Proof.Gen.UpdateShard.Points
public import proofs.«01_k».proof.Proof.Gen.UpdateShard.Frame
public import proofs.«01_k».proof.Proof.Gen.UpdateShardIdeal
public import proofs.«01_k».proof.Proof.Gen.UpdateShardIdeal.Skeleton
public import proofs.«01_k».proof.Proof.Gen.UpdateShardIdeal.Launch
public import proofs.«01_k».proof.Proof.Gen.UpdateShardIdeal.Points
public import proofs.«01_k».proof.Proof.Gen.UpdateShardIdeal.Frame
public import proofs.«01_k».proof.Proof.Gen.UpdateShardIdeal.Value
public import proofs.«01_k».proof.Proof.Gen.UpdateShardRefIdeal
public import proofs.«01_k».proof.Proof.Gen.UpdateShardRefIdeal.Run
public import proofs.«01_k».proof.Proof.Gen.UpdateShardRefIdeal.Read
public import proofs.«01_k».proof.Proof.Gen.UpdateWhole
public import proofs.«01_k».proof.Proof.Gen.UpdateWhole.Skeleton
public import proofs.«01_k».proof.Proof.Gen.UpdateWhole.Launch
public import proofs.«01_k».proof.Proof.Gen.UpdateWhole.Points
public import proofs.«01_k».proof.Proof.Gen.UpdateWhole.Frame
public import proofs.«01_k».proof.Proof.Gen.UpdateWholeIdeal
public import proofs.«01_k».proof.Proof.Gen.UpdateWholeIdeal.Skeleton
public import proofs.«01_k».proof.Proof.Gen.UpdateWholeIdeal.Launch
public import proofs.«01_k».proof.Proof.Gen.UpdateWholeIdeal.Points
public import proofs.«01_k».proof.Proof.Gen.UpdateWholeIdeal.Frame
public import proofs.«01_k».proof.Proof.Gen.UpdateWholeIdeal.Value
public import proofs.«01_k».proof.Proof.Gen.UpdateWholeRefIdeal
public import proofs.«01_k».proof.Proof.Gen.UpdateWholeRefIdeal.Run
public import proofs.«01_k».proof.Proof.Gen.UpdateWholeRefIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Gen.MixRefIdeal.Read
public import proofs.«01_k».proof.Proof.Gen.PoolBwd
public import proofs.«01_k».proof.Proof.Gen.PoolBwd.Skeleton
public import proofs.«01_k».proof.Proof.Gen.PoolBwd.Launch
public import proofs.«01_k».proof.Proof.Gen.PoolBwd.Points
public import proofs.«01_k».proof.Proof.Gen.PoolBwd.Frame
public import proofs.«01_k».proof.Proof.Gen.PoolBwdIdeal
public import proofs.«01_k».proof.Proof.Gen.PoolBwdIdeal.Skeleton
public import proofs.«01_k».proof.Proof.Gen.PoolBwdIdeal.Launch
public import proofs.«01_k».proof.Proof.Gen.PoolBwdIdeal.Points
public import proofs.«01_k».proof.Proof.Gen.PoolBwdIdeal.Frame
public import proofs.«01_k».proof.Proof.Gen.PoolBwdIdeal.Value
public import proofs.«01_k».proof.Proof.Gen.PoolBwdRefIdeal
public import proofs.«01_k».proof.Proof.Gen.PoolBwdRefIdeal.Run
public import proofs.«01_k».proof.Proof.Gen.PoolBwdRefIdeal.Read
public import proofs.«01_k».proof.Proof.Gen.PoolFwd
public import proofs.«01_k».proof.Proof.Gen.PoolFwd.Skeleton
public import proofs.«01_k».proof.Proof.Gen.PoolFwd.Launch
public import proofs.«01_k».proof.Proof.Gen.PoolFwd.Points
public import proofs.«01_k».proof.Proof.Gen.PoolFwd.Frame
public import proofs.«01_k».proof.Proof.Gen.PoolFwdIdeal
public import proofs.«01_k».proof.Proof.Gen.PoolFwdIdeal.Skeleton
public import proofs.«01_k».proof.Proof.Gen.PoolFwdIdeal.Launch
public import proofs.«01_k».proof.Proof.Gen.PoolFwdIdeal.Points
public import proofs.«01_k».proof.Proof.Gen.PoolFwdIdeal.Frame
public import proofs.«01_k».proof.Proof.Gen.PoolFwdIdeal.Value
public import proofs.«01_k».proof.Proof.Gen.PoolFwdRefIdeal
public import proofs.«01_k».proof.Proof.Gen.PoolFwdRefIdeal.Run
public import proofs.«01_k».proof.Proof.Gen.PoolFwdRefIdeal.Read
public import proofs.«01_k».proof.Proof.Gen.ConvFwd
public import proofs.«01_k».proof.Proof.Gen.ConvFwd.Skeleton
public import proofs.«01_k».proof.Proof.Gen.ConvFwd.Launch
public import proofs.«01_k».proof.Proof.Gen.ConvFwd.Points
public import proofs.«01_k».proof.Proof.Gen.ConvFwd.Frame
public import proofs.«01_k».proof.Proof.Gen.ConvFwdIdeal
public import proofs.«01_k».proof.Proof.Gen.ConvFwdIdeal.Skeleton
public import proofs.«01_k».proof.Proof.Gen.ConvFwdIdeal.Launch
public import proofs.«01_k».proof.Proof.Gen.ConvFwdIdeal.Points
public import proofs.«01_k».proof.Proof.Gen.ConvFwdIdeal.Frame
public import proofs.«01_k».proof.Proof.Gen.ConvFwdIdeal.Value
public import proofs.«01_k».proof.Proof.Gen.ConvFwdRefIdeal
public import proofs.«01_k».proof.Proof.Gen.ConvFwdRefIdeal.Run
public import proofs.«01_k».proof.Proof.Gen.ConvFwdRefIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.ConvInClaims
public import proofs.«01_k».proof.Proof.UpWeightClaims
public import proofs.«01_k».proof.Proof.DownWeightClaims
public import proofs.«01_k».proof.Proof.DownInputClaims
public import proofs.«01_k».proof.Proof.UpInputClaims
public import proofs.«01_k».proof.Proof.UpInputSumClaims
public import proofs.«01_k».proof.Proof.UpClaims
public import proofs.«01_k».proof.Proof.DownClaims
public import proofs.«01_k».proof.Proof.ProjInputClaims
public import proofs.«01_k».proof.Proof.ProjWeightClaims
public import proofs.«01_k».proof.Proof.OutInputClaims
public import proofs.«01_k».proof.Proof.OutWeightClaims
public import proofs.«01_k».proof.Proof.ProjConvClaims
public import proofs.«01_k».proof.Proof.ProjQkvClaims
public import proofs.«01_k».proof.Proof.OutClaims
public import proofs.«01_k».proof.Proof.ConvOutInputClaims
public import proofs.«01_k».proof.Proof.AttnOutInputClaims
public import proofs.«01_k».proof.Proof.ConvOutWeightClaims
public import proofs.«01_k».proof.Proof.AttnOutWeightClaims
public import proofs.«01_k».proof.Proof.RmsFwdClaims
public import proofs.«01_k».proof.Proof.RmsBwdClaims
public import proofs.«01_k».proof.Proof.LossHeadClaims
public import proofs.«01_k».proof.Proof.UpdateShardClaims
public import proofs.«01_k».proof.Proof.UpdateWholeClaims
public import proofs.«01_k».proof.Proof.MergeClaims
public import proofs.«01_k».proof.Proof.MixClaims
public import proofs.«01_k».proof.Proof.PoolBwdClaims
public import proofs.«01_k».proof.Proof.PoolFwdClaims
public import proofs.«01_k».proof.Proof.ConvFwdClaims
public import proofs.«01_k».proof.Proof.FfnClaims

@[expose] public section

noncomputable section

namespace Cert.Proof

open Idealize.ShloMosaic Idealize.SL.Sem

theorem claim : Cert.Claim := ⟨
  Cert.ConvIn.Gen.facts,
  Cert.ConvInIdeal.Gen.facts,
  Cert.ConvInRefIdeal.Gen.facts,
  Cert.UpWeight.Gen.facts,
  Cert.UpWeightIdeal.Gen.facts,
  Cert.UpWeightRefIdeal.Gen.facts,
  Cert.DownWeight.Gen.facts,
  Cert.DownWeightIdeal.Gen.facts,
  Cert.DownWeightRefIdeal.Gen.facts,
  Cert.DownInput.Gen.facts,
  Cert.DownInputIdeal.Gen.facts,
  Cert.DownInputRefIdeal.Gen.facts,
  Cert.UpInput.Gen.facts,
  Cert.UpInputIdeal.Gen.facts,
  Cert.UpInputRefIdeal.Gen.facts,
  Cert.UpInputSum.Gen.facts,
  Cert.UpInputSumIdeal.Gen.facts,
  Cert.UpInputSumRefIdeal.Gen.facts,
  Cert.Up.Gen.facts,
  Cert.UpIdeal.Gen.facts,
  Cert.UpRefIdeal.Gen.facts,
  Cert.Down.Gen.facts,
  Cert.DownIdeal.Gen.facts,
  Cert.DownRefIdeal.Gen.facts,
  Cert.ProjInput.Gen.facts,
  Cert.ProjInputIdeal.Gen.facts,
  Cert.ProjInputRefIdeal.Gen.facts,
  Cert.ProjWeight.Gen.facts,
  Cert.ProjWeightIdeal.Gen.facts,
  Cert.ProjWeightRefIdeal.Gen.facts,
  Cert.OutInput.Gen.facts,
  Cert.OutInputIdeal.Gen.facts,
  Cert.OutInputRefIdeal.Gen.facts,
  Cert.OutWeight.Gen.facts,
  Cert.OutWeightIdeal.Gen.facts,
  Cert.OutWeightRefIdeal.Gen.facts,
  Cert.ProjConv.Gen.facts,
  Cert.ProjConvIdeal.Gen.facts,
  Cert.ProjConvRefIdeal.Gen.facts,
  Cert.ProjQkv.Gen.facts,
  Cert.ProjQkvIdeal.Gen.facts,
  Cert.ProjQkvRefIdeal.Gen.facts,
  Cert.Out.Gen.facts,
  Cert.OutIdeal.Gen.facts,
  Cert.OutRefIdeal.Gen.facts,
  Cert.ConvOutInput.Gen.facts,
  Cert.ConvOutInputIdeal.Gen.facts,
  Cert.ConvOutInputRefIdeal.Gen.facts,
  Cert.AttnOutInput.Gen.facts,
  Cert.AttnOutInputIdeal.Gen.facts,
  Cert.AttnOutInputRefIdeal.Gen.facts,
  Cert.ConvOutWeight.Gen.facts,
  Cert.ConvOutWeightIdeal.Gen.facts,
  Cert.ConvOutWeightRefIdeal.Gen.facts,
  Cert.AttnOutWeight.Gen.facts,
  Cert.AttnOutWeightIdeal.Gen.facts,
  Cert.AttnOutWeightRefIdeal.Gen.facts,
  Cert.RmsFwd.Gen.facts,
  Cert.RmsFwdIdeal.Gen.facts,
  Cert.RmsFwdRefIdeal.Gen.facts,
  Cert.RmsBwd.Gen.facts,
  Cert.RmsBwdIdeal.Gen.facts,
  Cert.RmsBwdRefIdeal.Gen.facts,
  Cert.LossHead.Gen.facts,
  Cert.LossHeadIdeal.Gen.facts,
  Cert.LossHeadRefIdeal.Gen.facts,
  Cert.UpdateShard.Gen.facts,
  Cert.UpdateShardIdeal.Gen.facts,
  Cert.UpdateShardRefIdeal.Gen.facts,
  Cert.UpdateWhole.Gen.facts,
  Cert.UpdateWholeIdeal.Gen.facts,
  Cert.UpdateWholeRefIdeal.Gen.facts,
  Cert.Merge.Gen.facts,
  Cert.MergeIdeal.Gen.facts,
  Cert.MergeRefIdeal.Gen.facts,
  Cert.Mix.Gen.facts,
  Cert.MixIdeal.Gen.facts,
  Cert.MixRefIdeal.Gen.facts,
  Cert.PoolBwd.Gen.facts,
  Cert.PoolBwdIdeal.Gen.facts,
  Cert.PoolBwdRefIdeal.Gen.facts,
  Cert.PoolFwd.Gen.facts,
  Cert.PoolFwdIdeal.Gen.facts,
  Cert.PoolFwdRefIdeal.Gen.facts,
  Cert.ConvFwd.Gen.facts,
  Cert.ConvFwdIdeal.Gen.facts,
  Cert.ConvFwdRefIdeal.Gen.facts,
  Cert.Ffn.Gen.facts,
  Cert.FfnIdeal.Gen.facts,
  Cert.FfnRefIdeal.Gen.facts,
  ConvIn.frame_p, ConvIn.frame_pi, ConvIn.frame_ri,
  UpWeight.frame_p, UpWeight.frame_pi, UpWeight.frame_ri,
  DownWeight.frame_p, DownWeight.frame_pi, DownWeight.frame_ri,
  DownInput.frame_p, DownInput.frame_pi, DownInput.frame_ri,
  UpInput.frame_p, UpInput.frame_pi, UpInput.frame_ri,
  UpInputSum.frame_p, UpInputSum.frame_pi, UpInputSum.frame_ri,
  Up.frame_p, Up.frame_pi, Up.frame_ri,
  Down.frame_p, Down.frame_pi, Down.frame_ri,
  ProjInput.frame_p, ProjInput.frame_pi, ProjInput.frame_ri,
  ProjWeight.frame_p, ProjWeight.frame_pi, ProjWeight.frame_ri,
  OutInput.frame_p, OutInput.frame_pi, OutInput.frame_ri,
  OutWeight.frame_p, OutWeight.frame_pi, OutWeight.frame_ri,
  ProjConv.frame_p, ProjConv.frame_pi, ProjConv.frame_ri,
  ProjQkv.frame_p, ProjQkv.frame_pi, ProjQkv.frame_ri,
  Out.frame_p, Out.frame_pi, Out.frame_ri,
  ConvOutInput.frame_p, ConvOutInput.frame_pi, ConvOutInput.frame_ri,
  AttnOutInput.frame_p, AttnOutInput.frame_pi, AttnOutInput.frame_ri,
  ConvOutWeight.frame_p, ConvOutWeight.frame_pi, ConvOutWeight.frame_ri,
  AttnOutWeight.frame_p, AttnOutWeight.frame_pi, AttnOutWeight.frame_ri,
  RmsFwd.frame_p, RmsFwd.frame_pi, RmsFwd.frame_ri,
  RmsBwd.frame_p, RmsBwd.frame_pi, RmsBwd.frame_ri,
  LossHead.frame_p, LossHead.frame_pi, LossHead.frame_ri,
  UpdateShard.frame_p, UpdateShard.frame_pi, UpdateShard.frame_ri,
  UpdateWhole.frame_p, UpdateWhole.frame_pi, UpdateWhole.frame_ri,
  Merge.frame_p, Merge.frame_pi, Merge.frame_ri,
  Mix.frame_p, Mix.frame_pi, Mix.frame_ri,
  PoolBwd.frame_p, PoolBwd.frame_pi, PoolBwd.frame_ri,
  PoolFwd.frame_p, PoolFwd.frame_pi, PoolFwd.frame_ri,
  ConvFwd.frame_p, ConvFwd.frame_pi, ConvFwd.frame_ri,
  Ffn.frame_p, Ffn.frame_pi, Ffn.frame_ri,
  ConvIn.preserves, ConvIn.algebraic,
  UpWeight.preserves, UpWeight.algebraic,
  DownWeight.preserves, DownWeight.algebraic,
  DownInput.preserves, DownInput.algebraic,
  UpInput.preserves, UpInput.algebraic,
  UpInputSum.preserves, UpInputSum.algebraic,
  Up.preserves, Up.algebraic,
  Down.preserves, Down.algebraic,
  ProjInput.preserves, ProjInput.algebraic,
  ProjWeight.preserves, ProjWeight.algebraic,
  OutInput.preserves, OutInput.algebraic,
  OutWeight.preserves, OutWeight.algebraic,
  ProjConv.preserves, ProjConv.algebraic,
  ProjQkv.preserves, ProjQkv.algebraic,
  Out.preserves, Out.algebraic,
  ConvOutInput.preserves, ConvOutInput.algebraic,
  AttnOutInput.preserves, AttnOutInput.algebraic,
  ConvOutWeight.preserves, ConvOutWeight.algebraic,
  AttnOutWeight.preserves, AttnOutWeight.algebraic,
  RmsFwd.preserves, RmsFwd.algebraic,
  RmsBwd.preserves, RmsBwd.algebraic,
  LossHead.preserves, LossHead.algebraic,
  UpdateShard.preserves, UpdateShard.algebraic,
  UpdateWhole.preserves, UpdateWhole.algebraic,
  Merge.preserves, Merge.algebraic,
  Mix.preserves, Mix.algebraic,
  PoolBwd.preserves, PoolBwd.algebraic,
  PoolFwd.preserves, PoolFwd.algebraic,
  ConvFwd.preserves, ConvFwd.algebraic,
  Ffn.preserves, Ffn.algebraic⟩

end Cert.Proof

end
